-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Dw (m : (ℓ : Loc Cert.Dw.nD Cert.Dw.τ Cert.Dw.sig) → Buf (Elt Bits) ℓ) : Prop :=
  True

def Pre_DwIdeal (m : (ℓ : Loc Cert.DwIdeal.nD Cert.DwIdeal.τ Cert.DwIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_Dx (m : (ℓ : Loc Cert.Dx.nD Cert.Dx.τ Cert.Dx.sig) → Buf (Elt Bits) ℓ) : Prop :=
  True

def Pre_DxIdeal (m : (ℓ : Loc Cert.DxIdeal.nD Cert.DxIdeal.τ Cert.DxIdeal.sig) → Buf (Elt Ideal) ℓ) : Prop :=
  True

def Pre_DxIdeal_finite_dx [hPre_finite_dx : Cert.Pre_finite_dx.Facts] (m : (ℓ : Loc Cert.DxIdeal.nD Cert.DxIdeal.τ Cert.DxIdeal.sig) → Buf (Elt Ideal) ℓ) : Prop :=
  ∀ c : Dev Cert.DxIdeal.nD,
    (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.2.1 = (fun _ => 1#1)
    ∧ (Cert.Pre_finite_dx.fn (F := Ideal) (m ((c.tc : Thread Cert.DxIdeal.nD Cert.DxIdeal.τ).loc Cert.DxIdeal.main_arg0)) (m ((c.tc : Thread Cert.DxIdeal.nD Cert.DxIdeal.τ).loc Cert.DxIdeal.main_arg1)) (m ((c.tc : Thread Cert.DxIdeal.nD Cert.DxIdeal.τ).loc Cert.DxIdeal.main_arg2)) (m ((c.tc : Thread Cert.DxIdeal.nD Cert.DxIdeal.τ).loc Cert.DxIdeal.main_arg3)) (m ((c.tc : Thread Cert.DxIdeal.nD Cert.DxIdeal.τ).loc Cert.DxIdeal.main_arg4)) (m ((c.tc : Thread Cert.DxIdeal.nD Cert.DxIdeal.τ).loc Cert.DxIdeal.main_arg5)) (m ((c.tc : Thread Cert.DxIdeal.nD Cert.DxIdeal.τ).loc Cert.DxIdeal.main_arg6))).2.2.2.2.2.2 = (fun _ => 1#1)

def Pre_DxRefIdeal (m : (ℓ : Loc Cert.DxRefIdeal.nD Cert.DxRefIdeal.τ Cert.DxRefIdeal.sig) → Buf (Elt Ideal) ℓ) : Prop :=
  True

def Pre_DxRefIdeal_finite_dx [hPre_finite_dx : Cert.Pre_finite_dx.Facts] (m : (ℓ : Loc Cert.DxRefIdeal.nD Cert.DxRefIdeal.τ Cert.DxRefIdeal.sig) → Buf (Elt Ideal) ℓ) : Prop :=
  ∀ c : Dev Cert.DxRefIdeal.nD,
    (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.2.1 = (fun _ => 1#1)
    ∧ (Cert.Pre_finite_dx.fn (F := Ideal) (m ((c.tc : Thread Cert.DxRefIdeal.nD Cert.DxRefIdeal.τ).loc Cert.DxRefIdeal.main_arg0)) (m ((c.tc : Thread Cert.DxRefIdeal.nD Cert.DxRefIdeal.τ).loc Cert.DxRefIdeal.main_arg1)) (m ((c.tc : Thread Cert.DxRefIdeal.nD Cert.DxRefIdeal.τ).loc Cert.DxRefIdeal.main_arg2)) (m ((c.tc : Thread Cert.DxRefIdeal.nD Cert.DxRefIdeal.τ).loc Cert.DxRefIdeal.main_arg3)) (m ((c.tc : Thread Cert.DxRefIdeal.nD Cert.DxRefIdeal.τ).loc Cert.DxRefIdeal.main_arg4)) (m ((c.tc : Thread Cert.DxRefIdeal.nD Cert.DxRefIdeal.τ).loc Cert.DxRefIdeal.main_arg5)) (m ((c.tc : Thread Cert.DxRefIdeal.nD Cert.DxRefIdeal.τ).loc Cert.DxRefIdeal.main_arg6))).2.2.2.2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInIdeal_finite_mix [hPre_finite_mix : Cert.Pre_finite_mix.Facts] (m : (ℓ : Loc Cert.MixInIdeal.nD Cert.MixInIdeal.τ Cert.MixInIdeal.sig) → Buf (Elt Ideal) ℓ) : Prop :=
  ∀ c : Dev Cert.MixInIdeal.nD,
    (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.2.2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.2.2.2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.2.2.2.2.1 = (fun _ => 1#1)
    ∧ (Cert.Pre_finite_mix.fn (F := Ideal) (m ((c.tc : Thread Cert.MixInIdeal.nD Cert.MixInIdeal.τ).loc Cert.MixInIdeal.main_arg0)) (m ((c.tc : Thread Cert.MixInIdeal.nD Cert.MixInIdeal.τ).loc Cert.MixInIdeal.main_arg1)) (m ((c.tc : Thread Cert.MixInIdeal.nD Cert.MixInIdeal.τ).loc Cert.MixInIdeal.main_arg2)) (m ((c.tc : Thread Cert.MixInIdeal.nD Cert.MixInIdeal.τ).loc Cert.MixInIdeal.main_arg3)) (m ((c.tc : Thread Cert.MixInIdeal.nD Cert.MixInIdeal.τ).loc Cert.MixInIdeal.main_arg4)) (m ((c.tc : Thread Cert.MixInIdeal.nD Cert.MixInIdeal.τ).loc Cert.MixInIdeal.main_arg5)) (m ((c.tc : Thread Cert.MixInIdeal.nD Cert.MixInIdeal.τ).loc Cert.MixInIdeal.main_arg6)) (m ((c.tc : Thread Cert.MixInIdeal.nD Cert.MixInIdeal.τ).loc Cert.MixInIdeal.main_arg7))).2.2.2.2.2.2.2 = (fun _ => 1#1)

def Pre_MixInRefIdeal (m : (ℓ : Loc Cert.MixInRefIdeal.nD Cert.MixInRefIdeal.τ Cert.MixInRefIdeal.sig) → Buf (Elt Ideal) ℓ) : Prop :=
  True

def Pre_MixInRefIdeal_finite_mix [hPre_finite_mix : Cert.Pre_finite_mix.Facts] (m : (ℓ : Loc Cert.MixInRefIdeal.nD Cert.MixInRefIdeal.τ Cert.MixInRefIdeal.sig) → Buf (Elt Ideal) ℓ) : Prop :=
  ∀ c : Dev Cert.MixInRefIdeal.nD,
    (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.2.2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.2.2.2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.2.2.2.2.1 = (fun _ => 1#1)
    ∧ (Cert.Pre_finite_mix.fn (F := Ideal) (m ((c.tc : Thread Cert.MixInRefIdeal.nD Cert.MixInRefIdeal.τ).loc Cert.MixInRefIdeal.main_arg0)) (m ((c.tc : Thread Cert.MixInRefIdeal.nD Cert.MixInRefIdeal.τ).loc Cert.MixInRefIdeal.main_arg1)) (m ((c.tc : Thread Cert.MixInRefIdeal.nD Cert.MixInRefIdeal.τ).loc Cert.MixInRefIdeal.main_arg2)) (m ((c.tc : Thread Cert.MixInRefIdeal.nD Cert.MixInRefIdeal.τ).loc Cert.MixInRefIdeal.main_arg3)) (m ((c.tc : Thread Cert.MixInRefIdeal.nD Cert.MixInRefIdeal.τ).loc Cert.MixInRefIdeal.main_arg4)) (m ((c.tc : Thread Cert.MixInRefIdeal.nD Cert.MixInRefIdeal.τ).loc Cert.MixInRefIdeal.main_arg5)) (m ((c.tc : Thread Cert.MixInRefIdeal.nD Cert.MixInRefIdeal.τ).loc Cert.MixInRefIdeal.main_arg6)) (m ((c.tc : Thread Cert.MixInRefIdeal.nD Cert.MixInRefIdeal.τ).loc Cert.MixInRefIdeal.main_arg7))).2.2.2.2.2.2.2 = (fun _ => 1#1)

def Pre_MixW (m : (ℓ : Loc Cert.MixW.nD Cert.MixW.τ Cert.MixW.sig) → Buf (Elt Bits) ℓ) : Prop :=
  True

def Pre_MixWIdeal (m : (ℓ : Loc Cert.MixWIdeal.nD Cert.MixWIdeal.τ Cert.MixWIdeal.sig) → Buf (Elt Ideal) ℓ) : Prop :=
  True

def Pre_MixWRefIdeal (m : (ℓ : Loc Cert.MixWRefIdeal.nD Cert.MixWRefIdeal.τ Cert.MixWRefIdeal.sig) → Buf (Elt Ideal) ℓ) : Prop :=
  True

def Pre_SqW (m : (ℓ : Loc Cert.SqW.nD Cert.SqW.τ Cert.SqW.sig) → Buf (Elt Bits) ℓ) : Prop :=
  True

def Pre_SqWIdeal (m : (ℓ : Loc Cert.SqWIdeal.nD Cert.SqWIdeal.τ Cert.SqWIdeal.sig) → Buf (Elt Ideal) ℓ) : Prop :=
  True

def Pre_SqWRefIdeal (m : (ℓ : Loc Cert.SqWRefIdeal.nD Cert.SqWRefIdeal.τ Cert.SqWRefIdeal.sig) → Buf (Elt Ideal) ℓ) : Prop :=
  True

def Pre_SqX (m : (ℓ : Loc Cert.SqX.nD Cert.SqX.τ Cert.SqX.sig) → Buf (Elt Bits) ℓ) : Prop :=
  True

def Pre_SqXIdeal (m : (ℓ : Loc Cert.SqXIdeal.nD Cert.SqXIdeal.τ Cert.SqXIdeal.sig) → Buf (Elt Ideal) ℓ) : Prop :=
  True

def Pre_SqXRefIdeal (m : (ℓ : Loc Cert.SqXRefIdeal.nD Cert.SqXRefIdeal.τ Cert.SqXRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxIdeal_finite_qdx [hPre_finite_qdx : Cert.Pre_finite_qdx.Facts] (m : (ℓ : Loc Cert.QueryDxIdeal.nD Cert.QueryDxIdeal.τ Cert.QueryDxIdeal.sig) → Buf (Elt Ideal) ℓ) : Prop :=
  ∀ c : Dev Cert.QueryDxIdeal.nD,
    (Cert.Pre_finite_qdx.fn (F := Ideal) (m ((c.tc : Thread Cert.QueryDxIdeal.nD Cert.QueryDxIdeal.τ).loc Cert.QueryDxIdeal.main_arg0)) (m ((c.tc : Thread Cert.QueryDxIdeal.nD Cert.QueryDxIdeal.τ).loc Cert.QueryDxIdeal.main_arg1)) (m ((c.tc : Thread Cert.QueryDxIdeal.nD Cert.QueryDxIdeal.τ).loc Cert.QueryDxIdeal.main_arg2)) (m ((c.tc : Thread Cert.QueryDxIdeal.nD Cert.QueryDxIdeal.τ).loc Cert.QueryDxIdeal.main_arg3)) (m ((c.tc : Thread Cert.QueryDxIdeal.nD Cert.QueryDxIdeal.τ).loc Cert.QueryDxIdeal.main_arg4))).1 = (fun _ => 1#1)
    ∧ (Cert.Pre_finite_qdx.fn (F := Ideal) (m ((c.tc : Thread Cert.QueryDxIdeal.nD Cert.QueryDxIdeal.τ).loc Cert.QueryDxIdeal.main_arg0)) (m ((c.tc : Thread Cert.QueryDxIdeal.nD Cert.QueryDxIdeal.τ).loc Cert.QueryDxIdeal.main_arg1)) (m ((c.tc : Thread Cert.QueryDxIdeal.nD Cert.QueryDxIdeal.τ).loc Cert.QueryDxIdeal.main_arg2)) (m ((c.tc : Thread Cert.QueryDxIdeal.nD Cert.QueryDxIdeal.τ).loc Cert.QueryDxIdeal.main_arg3)) (m ((c.tc : Thread Cert.QueryDxIdeal.nD Cert.QueryDxIdeal.τ).loc Cert.QueryDxIdeal.main_arg4))).2.1 = (fun _ => 1#1)
    ∧ (Cert.Pre_finite_qdx.fn (F := Ideal) (m ((c.tc : Thread Cert.QueryDxIdeal.nD Cert.QueryDxIdeal.τ).loc Cert.QueryDxIdeal.main_arg0)) (m ((c.tc : Thread Cert.QueryDxIdeal.nD Cert.QueryDxIdeal.τ).loc Cert.QueryDxIdeal.main_arg1)) (m ((c.tc : Thread Cert.QueryDxIdeal.nD Cert.QueryDxIdeal.τ).loc Cert.QueryDxIdeal.main_arg2)) (m ((c.tc : Thread Cert.QueryDxIdeal.nD Cert.QueryDxIdeal.τ).loc Cert.QueryDxIdeal.main_arg3)) (m ((c.tc : Thread Cert.QueryDxIdeal.nD Cert.QueryDxIdeal.τ).loc Cert.QueryDxIdeal.main_arg4))).2.2.1 = (fun _ => 1#1)
    ∧ (Cert.Pre_finite_qdx.fn (F := Ideal) (m ((c.tc : Thread Cert.QueryDxIdeal.nD Cert.QueryDxIdeal.τ).loc Cert.QueryDxIdeal.main_arg0)) (m ((c.tc : Thread Cert.QueryDxIdeal.nD Cert.QueryDxIdeal.τ).loc Cert.QueryDxIdeal.main_arg1)) (m ((c.tc : Thread Cert.QueryDxIdeal.nD Cert.QueryDxIdeal.τ).loc Cert.QueryDxIdeal.main_arg2)) (m ((c.tc : Thread Cert.QueryDxIdeal.nD Cert.QueryDxIdeal.τ).loc Cert.QueryDxIdeal.main_arg3)) (m ((c.tc : Thread Cert.QueryDxIdeal.nD Cert.QueryDxIdeal.τ).loc Cert.QueryDxIdeal.main_arg4))).2.2.2.1 = (fun _ => 1#1)
    ∧ (Cert.Pre_finite_qdx.fn (F := Ideal) (m ((c.tc : Thread Cert.QueryDxIdeal.nD Cert.QueryDxIdeal.τ).loc Cert.QueryDxIdeal.main_arg0)) (m ((c.tc : Thread Cert.QueryDxIdeal.nD Cert.QueryDxIdeal.τ).loc Cert.QueryDxIdeal.main_arg1)) (m ((c.tc : Thread Cert.QueryDxIdeal.nD Cert.QueryDxIdeal.τ).loc Cert.QueryDxIdeal.main_arg2)) (m ((c.tc : Thread Cert.QueryDxIdeal.nD Cert.QueryDxIdeal.τ).loc Cert.QueryDxIdeal.main_arg3)) (m ((c.tc : Thread Cert.QueryDxIdeal.nD Cert.QueryDxIdeal.τ).loc Cert.QueryDxIdeal.main_arg4))).2.2.2.2 = (fun _ => 1#1)

def Pre_QueryDxRefIdeal (m : (ℓ : Loc Cert.QueryDxRefIdeal.nD Cert.QueryDxRefIdeal.τ Cert.QueryDxRefIdeal.sig) → Buf (Elt Ideal) ℓ) : Prop :=
  True

def Pre_QueryDxRefIdeal_finite_qdx [hPre_finite_qdx : Cert.Pre_finite_qdx.Facts] (m : (ℓ : Loc Cert.QueryDxRefIdeal.nD Cert.QueryDxRefIdeal.τ Cert.QueryDxRefIdeal.sig) → Buf (Elt Ideal) ℓ) : Prop :=
  ∀ c : Dev Cert.QueryDxRefIdeal.nD,
    (Cert.Pre_finite_qdx.fn (F := Ideal) (m ((c.tc : Thread Cert.QueryDxRefIdeal.nD Cert.QueryDxRefIdeal.τ).loc Cert.QueryDxRefIdeal.main_arg0)) (m ((c.tc : Thread Cert.QueryDxRefIdeal.nD Cert.QueryDxRefIdeal.τ).loc Cert.QueryDxRefIdeal.main_arg1)) (m ((c.tc : Thread Cert.QueryDxRefIdeal.nD Cert.QueryDxRefIdeal.τ).loc Cert.QueryDxRefIdeal.main_arg2)) (m ((c.tc : Thread Cert.QueryDxRefIdeal.nD Cert.QueryDxRefIdeal.τ).loc Cert.QueryDxRefIdeal.main_arg3)) (m ((c.tc : Thread Cert.QueryDxRefIdeal.nD Cert.QueryDxRefIdeal.τ).loc Cert.QueryDxRefIdeal.main_arg4))).1 = (fun _ => 1#1)
    ∧ (Cert.Pre_finite_qdx.fn (F := Ideal) (m ((c.tc : Thread Cert.QueryDxRefIdeal.nD Cert.QueryDxRefIdeal.τ).loc Cert.QueryDxRefIdeal.main_arg0)) (m ((c.tc : Thread Cert.QueryDxRefIdeal.nD Cert.QueryDxRefIdeal.τ).loc Cert.QueryDxRefIdeal.main_arg1)) (m ((c.tc : Thread Cert.QueryDxRefIdeal.nD Cert.QueryDxRefIdeal.τ).loc Cert.QueryDxRefIdeal.main_arg2)) (m ((c.tc : Thread Cert.QueryDxRefIdeal.nD Cert.QueryDxRefIdeal.τ).loc Cert.QueryDxRefIdeal.main_arg3)) (m ((c.tc : Thread Cert.QueryDxRefIdeal.nD Cert.QueryDxRefIdeal.τ).loc Cert.QueryDxRefIdeal.main_arg4))).2.1 = (fun _ => 1#1)
    ∧ (Cert.Pre_finite_qdx.fn (F := Ideal) (m ((c.tc : Thread Cert.QueryDxRefIdeal.nD Cert.QueryDxRefIdeal.τ).loc Cert.QueryDxRefIdeal.main_arg0)) (m ((c.tc : Thread Cert.QueryDxRefIdeal.nD Cert.QueryDxRefIdeal.τ).loc Cert.QueryDxRefIdeal.main_arg1)) (m ((c.tc : Thread Cert.QueryDxRefIdeal.nD Cert.QueryDxRefIdeal.τ).loc Cert.QueryDxRefIdeal.main_arg2)) (m ((c.tc : Thread Cert.QueryDxRefIdeal.nD Cert.QueryDxRefIdeal.τ).loc Cert.QueryDxRefIdeal.main_arg3)) (m ((c.tc : Thread Cert.QueryDxRefIdeal.nD Cert.QueryDxRefIdeal.τ).loc Cert.QueryDxRefIdeal.main_arg4))).2.2.1 = (fun _ => 1#1)
    ∧ (Cert.Pre_finite_qdx.fn (F := Ideal) (m ((c.tc : Thread Cert.QueryDxRefIdeal.nD Cert.QueryDxRefIdeal.τ).loc Cert.QueryDxRefIdeal.main_arg0)) (m ((c.tc : Thread Cert.QueryDxRefIdeal.nD Cert.QueryDxRefIdeal.τ).loc Cert.QueryDxRefIdeal.main_arg1)) (m ((c.tc : Thread Cert.QueryDxRefIdeal.nD Cert.QueryDxRefIdeal.τ).loc Cert.QueryDxRefIdeal.main_arg2)) (m ((c.tc : Thread Cert.QueryDxRefIdeal.nD Cert.QueryDxRefIdeal.τ).loc Cert.QueryDxRefIdeal.main_arg3)) (m ((c.tc : Thread Cert.QueryDxRefIdeal.nD Cert.QueryDxRefIdeal.τ).loc Cert.QueryDxRefIdeal.main_arg4))).2.2.2.1 = (fun _ => 1#1)
    ∧ (Cert.Pre_finite_qdx.fn (F := Ideal) (m ((c.tc : Thread Cert.QueryDxRefIdeal.nD Cert.QueryDxRefIdeal.τ).loc Cert.QueryDxRefIdeal.main_arg0)) (m ((c.tc : Thread Cert.QueryDxRefIdeal.nD Cert.QueryDxRefIdeal.τ).loc Cert.QueryDxRefIdeal.main_arg1)) (m ((c.tc : Thread Cert.QueryDxRefIdeal.nD Cert.QueryDxRefIdeal.τ).loc Cert.QueryDxRefIdeal.main_arg2)) (m ((c.tc : Thread Cert.QueryDxRefIdeal.nD Cert.QueryDxRefIdeal.τ).loc Cert.QueryDxRefIdeal.main_arg3)) (m ((c.tc : Thread Cert.QueryDxRefIdeal.nD Cert.QueryDxRefIdeal.τ).loc Cert.QueryDxRefIdeal.main_arg4))).2.2.2.2 = (fun _ => 1#1)

def Pre_MergeW (m : (ℓ : Loc Cert.MergeW.nD Cert.MergeW.τ Cert.MergeW.sig) → Buf (Elt Bits) ℓ) : Prop :=
  True

def Pre_MergeWIdeal (m : (ℓ : Loc Cert.MergeWIdeal.nD Cert.MergeWIdeal.τ Cert.MergeWIdeal.sig) → Buf (Elt Ideal) ℓ) : Prop :=
  True

def Pre_MergeWRefIdeal (m : (ℓ : Loc Cert.MergeWRefIdeal.nD Cert.MergeWRefIdeal.τ Cert.MergeWRefIdeal.sig) → Buf (Elt Ideal) ℓ) : Prop :=
  True

def Pre_MergeF (m : (ℓ : Loc Cert.MergeF.nD Cert.MergeF.τ Cert.MergeF.sig) → Buf (Elt Bits) ℓ) : Prop :=
  True

def Pre_MergeFIdeal (m : (ℓ : Loc Cert.MergeFIdeal.nD Cert.MergeFIdeal.τ Cert.MergeFIdeal.sig) → Buf (Elt Ideal) ℓ) : Prop :=
  True

def Pre_MergeFRefIdeal (m : (ℓ : Loc Cert.MergeFRefIdeal.nD Cert.MergeFRefIdeal.τ Cert.MergeFRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadIdeal_finite_head [hPre_finite_head : Cert.Pre_finite_head.Facts] (m : (ℓ : Loc Cert.HeadIdeal.nD Cert.HeadIdeal.τ Cert.HeadIdeal.sig) → Buf (Elt Ideal) ℓ) : Prop :=
  ∀ c : Dev Cert.HeadIdeal.nD,
    (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))).1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))).2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))).2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))).2.2.2.1 = (fun _ => 1#1)
    ∧ (Cert.Pre_finite_head.fn (F := Ideal) (m ((c.tc : Thread Cert.HeadIdeal.nD Cert.HeadIdeal.τ).loc Cert.HeadIdeal.main_arg0)) (m ((c.tc : Thread Cert.HeadIdeal.nD Cert.HeadIdeal.τ).loc Cert.HeadIdeal.main_arg1)) (m ((c.tc : Thread Cert.HeadIdeal.nD Cert.HeadIdeal.τ).loc Cert.HeadIdeal.main_arg2)) (m ((c.tc : Thread Cert.HeadIdeal.nD Cert.HeadIdeal.τ).loc Cert.HeadIdeal.main_arg3)) (m ((c.tc : Thread Cert.HeadIdeal.nD Cert.HeadIdeal.τ).loc Cert.HeadIdeal.main_arg4))).2.2.2.2 = (fun _ => 1#1)

def Pre_HeadRefIdeal (m : (ℓ : Loc Cert.HeadRefIdeal.nD Cert.HeadRefIdeal.τ Cert.HeadRefIdeal.sig) → Buf (Elt Ideal) ℓ) : Prop :=
  True

def Pre_HeadRefIdeal_finite_head [hPre_finite_head : Cert.Pre_finite_head.Facts] (m : (ℓ : Loc Cert.HeadRefIdeal.nD Cert.HeadRefIdeal.τ Cert.HeadRefIdeal.sig) → Buf (Elt Ideal) ℓ) : Prop :=
  ∀ c : Dev Cert.HeadRefIdeal.nD,
    (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))).1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))).2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))).2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))).2.2.2.1 = (fun _ => 1#1)
    ∧ (Cert.Pre_finite_head.fn (F := Ideal) (m ((c.tc : Thread Cert.HeadRefIdeal.nD Cert.HeadRefIdeal.τ).loc Cert.HeadRefIdeal.main_arg0)) (m ((c.tc : Thread Cert.HeadRefIdeal.nD Cert.HeadRefIdeal.τ).loc Cert.HeadRefIdeal.main_arg1)) (m ((c.tc : Thread Cert.HeadRefIdeal.nD Cert.HeadRefIdeal.τ).loc Cert.HeadRefIdeal.main_arg2)) (m ((c.tc : Thread Cert.HeadRefIdeal.nD Cert.HeadRefIdeal.τ).loc Cert.HeadRefIdeal.main_arg3)) (m ((c.tc : Thread Cert.HeadRefIdeal.nD Cert.HeadRefIdeal.τ).loc Cert.HeadRefIdeal.main_arg4))).2.2.2.2 = (fun _ => 1#1)

def Pre_AttnF (m : (ℓ : Loc Cert.AttnF.nD Cert.AttnF.τ Cert.AttnF.sig) → Buf (Elt Bits) ℓ) : Prop :=
  True

def Pre_AttnFIdeal (m : (ℓ : Loc Cert.AttnFIdeal.nD Cert.AttnFIdeal.τ Cert.AttnFIdeal.sig) → Buf (Elt Ideal) ℓ) : Prop :=
  True

def Pre_AttnFRefIdeal (m : (ℓ : Loc Cert.AttnFRefIdeal.nD Cert.AttnFRefIdeal.τ Cert.AttnFRefIdeal.sig) → Buf (Elt Ideal) ℓ) : Prop :=
  True

def Pre_ParamF (m : (ℓ : Loc Cert.ParamF.nD Cert.ParamF.τ Cert.ParamF.sig) → Buf (Elt Bits) ℓ) : Prop :=
  True

def Pre_ParamFIdeal (m : (ℓ : Loc Cert.ParamFIdeal.nD Cert.ParamFIdeal.τ Cert.ParamFIdeal.sig) → Buf (Elt Ideal) ℓ) : Prop :=
  True

def Pre_ParamFRefIdeal (m : (ℓ : Loc Cert.ParamFRefIdeal.nD Cert.ParamFRefIdeal.τ Cert.ParamFRefIdeal.sig) → Buf (Elt Ideal) ℓ) : Prop :=
  True

def Pre_ParamB (m : (ℓ : Loc Cert.ParamB.nD Cert.ParamB.τ Cert.ParamB.sig) → Buf (Elt Bits) ℓ) : Prop :=
  True

def Pre_ParamBIdeal (m : (ℓ : Loc Cert.ParamBIdeal.nD Cert.ParamBIdeal.τ Cert.ParamBIdeal.sig) → Buf (Elt Ideal) ℓ) : Prop :=
  True

def Pre_ParamBRefIdeal (m : (ℓ : Loc Cert.ParamBRefIdeal.nD Cert.ParamBRefIdeal.τ Cert.ParamBRefIdeal.sig) → Buf (Elt Ideal) ℓ) : Prop :=
  True

def Pre_Skip (m : (ℓ : Loc Cert.Skip.nD Cert.Skip.τ Cert.Skip.sig) → Buf (Elt Bits) ℓ) : Prop :=
  True

def Pre_SkipIdeal (m : (ℓ : Loc Cert.SkipIdeal.nD Cert.SkipIdeal.τ Cert.SkipIdeal.sig) → Buf (Elt Ideal) ℓ) : Prop :=
  True

def Pre_SkipRefIdeal (m : (ℓ : Loc Cert.SkipRefIdeal.nD Cert.SkipRefIdeal.τ Cert.SkipRefIdeal.sig) → Buf (Elt Ideal) ℓ) : Prop :=
  True

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_AdamSq (m : (ℓ : Loc Cert.AdamSq.nD Cert.AdamSq.τ Cert.AdamSq.sig) → Buf (Elt Bits) ℓ) : Prop :=
  True

def Pre_AdamSqIdeal (m : (ℓ : Loc Cert.AdamSqIdeal.nD Cert.AdamSqIdeal.τ Cert.AdamSqIdeal.sig) → Buf (Elt Ideal) ℓ) : Prop :=
  True

def Pre_AdamSqRefIdeal (m : (ℓ : Loc Cert.AdamSqRefIdeal.nD Cert.AdamSqRefIdeal.τ Cert.AdamSqRefIdeal.sig) → Buf (Elt Ideal) ℓ) : Prop :=
  True

def Pre_AdamKv (m : (ℓ : Loc Cert.AdamKv.nD Cert.AdamKv.τ Cert.AdamKv.sig) → Buf (Elt Bits) ℓ) : Prop :=
  True

def Pre_AdamKvIdeal (m : (ℓ : Loc Cert.AdamKvIdeal.nD Cert.AdamKvIdeal.τ Cert.AdamKvIdeal.sig) → Buf (Elt Ideal) ℓ) : Prop :=
  True

def Pre_AdamKvRefIdeal (m : (ℓ : Loc Cert.AdamKvRefIdeal.nD Cert.AdamKvRefIdeal.τ Cert.AdamKvRefIdeal.sig) → Buf (Elt Ideal) ℓ) : Prop :=
  True

def Pre_AdamP (m : (ℓ : Loc Cert.AdamP.nD Cert.AdamP.τ Cert.AdamP.sig) → Buf (Elt Bits) ℓ) : Prop :=
  True

def Pre_AdamPIdeal (m : (ℓ : Loc Cert.AdamPIdeal.nD Cert.AdamPIdeal.τ Cert.AdamPIdeal.sig) → Buf (Elt Ideal) ℓ) : Prop :=
  True

def Pre_AdamPRefIdeal (m : (ℓ : Loc Cert.AdamPRefIdeal.nD Cert.AdamPRefIdeal.τ Cert.AdamPRefIdeal.sig) → Buf (Elt Ideal) ℓ) : Prop :=
  True

def Pre_AdamV (m : (ℓ : Loc Cert.AdamV.nD Cert.AdamV.τ Cert.AdamV.sig) → Buf (Elt Bits) ℓ) : Prop :=
  True

def Pre_AdamVIdeal (m : (ℓ : Loc Cert.AdamVIdeal.nD Cert.AdamVIdeal.τ Cert.AdamVIdeal.sig) → Buf (Elt Ideal) ℓ) : Prop :=
  True

def Pre_AdamVRefIdeal (m : (ℓ : Loc Cert.AdamVRefIdeal.nD Cert.AdamVRefIdeal.τ Cert.AdamVRefIdeal.sig) → Buf (Elt Ideal) ℓ) : Prop :=
  True

def Pre_AdamG (m : (ℓ : Loc Cert.AdamG.nD Cert.AdamG.τ Cert.AdamG.sig) → Buf (Elt Bits) ℓ) : Prop :=
  True

def Pre_AdamGIdeal (m : (ℓ : Loc Cert.AdamGIdeal.nD Cert.AdamGIdeal.τ Cert.AdamGIdeal.sig) → Buf (Elt Ideal) ℓ) : Prop :=
  True

def Pre_AdamGRefIdeal (m : (ℓ : Loc Cert.AdamGRefIdeal.nD Cert.AdamGRefIdeal.τ Cert.AdamGRefIdeal.sig) → Buf (Elt Ideal) ℓ) : Prop :=
  True

def Pre_MixDx (m : (ℓ : Loc Cert.MixDx.nD Cert.MixDx.τ Cert.MixDx.sig) → Buf (Elt Bits) ℓ) : Prop :=
  True

def Pre_MixDxIdeal (m : (ℓ : Loc Cert.MixDxIdeal.nD Cert.MixDxIdeal.τ Cert.MixDxIdeal.sig) → Buf (Elt Ideal) ℓ) : Prop :=
  True

def Pre_MixDxIdeal_finite_mixdx [hPre_finite_mixdx : Cert.Pre_finite_mixdx.Facts] (m : (ℓ : Loc Cert.MixDxIdeal.nD Cert.MixDxIdeal.τ Cert.MixDxIdeal.sig) → Buf (Elt Ideal) ℓ) : Prop :=
  ∀ c : Dev Cert.MixDxIdeal.nD,
    (Cert.Pre_finite_mixdx.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))).1 = (fun _ => 1#1)
    ∧ (Cert.Pre_finite_mixdx.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))).2.1 = (fun _ => 1#1)
    ∧ (Cert.Pre_finite_mixdx.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))).2.2.1 = (fun _ => 1#1)
    ∧ (Cert.Pre_finite_mixdx.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))).2.2.2.1 = (fun _ => 1#1)
    ∧ (Cert.Pre_finite_mixdx.fn (F := Ideal) (m ((c.tc : Thread Cert.MixDxIdeal.nD Cert.MixDxIdeal.τ).loc Cert.MixDxIdeal.main_arg0)) (m ((c.tc : Thread Cert.MixDxIdeal.nD Cert.MixDxIdeal.τ).loc Cert.MixDxIdeal.main_arg1)) (m ((c.tc : Thread Cert.MixDxIdeal.nD Cert.MixDxIdeal.τ).loc Cert.MixDxIdeal.main_arg2)) (m ((c.tc : Thread Cert.MixDxIdeal.nD Cert.MixDxIdeal.τ).loc Cert.MixDxIdeal.main_arg3)) (m ((c.tc : Thread Cert.MixDxIdeal.nD Cert.MixDxIdeal.τ).loc Cert.MixDxIdeal.main_arg4)) (m ((c.tc : Thread Cert.MixDxIdeal.nD Cert.MixDxIdeal.τ).loc Cert.MixDxIdeal.main_arg5)) (m ((c.tc : Thread Cert.MixDxIdeal.nD Cert.MixDxIdeal.τ).loc Cert.MixDxIdeal.main_arg6))).2.2.2.2 = (fun _ => 1#1)

def Pre_MixDxRefIdeal (m : (ℓ : Loc Cert.MixDxRefIdeal.nD Cert.MixDxRefIdeal.τ Cert.MixDxRefIdeal.sig) → Buf (Elt Ideal) ℓ) : Prop :=
  True

def Pre_MixDxRefIdeal_finite_mixdx [hPre_finite_mixdx : Cert.Pre_finite_mixdx.Facts] (m : (ℓ : Loc Cert.MixDxRefIdeal.nD Cert.MixDxRefIdeal.τ Cert.MixDxRefIdeal.sig) → Buf (Elt Ideal) ℓ) : Prop :=
  ∀ c : Dev Cert.MixDxRefIdeal.nD,
    (Cert.Pre_finite_mixdx.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))).1 = (fun _ => 1#1)
    ∧ (Cert.Pre_finite_mixdx.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))).2.1 = (fun _ => 1#1)
    ∧ (Cert.Pre_finite_mixdx.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))).2.2.1 = (fun _ => 1#1)
    ∧ (Cert.Pre_finite_mixdx.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))).2.2.2.1 = (fun _ => 1#1)
    ∧ (Cert.Pre_finite_mixdx.fn (F := Ideal) (m ((c.tc : Thread Cert.MixDxRefIdeal.nD Cert.MixDxRefIdeal.τ).loc Cert.MixDxRefIdeal.main_arg0)) (m ((c.tc : Thread Cert.MixDxRefIdeal.nD Cert.MixDxRefIdeal.τ).loc Cert.MixDxRefIdeal.main_arg1)) (m ((c.tc : Thread Cert.MixDxRefIdeal.nD Cert.MixDxRefIdeal.τ).loc Cert.MixDxRefIdeal.main_arg2)) (m ((c.tc : Thread Cert.MixDxRefIdeal.nD Cert.MixDxRefIdeal.τ).loc Cert.MixDxRefIdeal.main_arg3)) (m ((c.tc : Thread Cert.MixDxRefIdeal.nD Cert.MixDxRefIdeal.τ).loc Cert.MixDxRefIdeal.main_arg4)) (m ((c.tc : Thread Cert.MixDxRefIdeal.nD Cert.MixDxRefIdeal.τ).loc Cert.MixDxRefIdeal.main_arg5)) (m ((c.tc : Thread Cert.MixDxRefIdeal.nD Cert.MixDxRefIdeal.τ).loc Cert.MixDxRefIdeal.main_arg6))).2.2.2.2 = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_MemN (m : (ℓ : Loc Cert.MemN.nD Cert.MemN.τ Cert.MemN.sig) → Buf (Elt Bits) ℓ) : Prop :=
  True

def Pre_MemNIdeal (m : (ℓ : Loc Cert.MemNIdeal.nD Cert.MemNIdeal.τ Cert.MemNIdeal.sig) → Buf (Elt Ideal) ℓ) : Prop :=
  True

def Pre_MemNRefIdeal (m : (ℓ : Loc Cert.MemNRefIdeal.nD Cert.MemNRefIdeal.τ Cert.MemNRefIdeal.sig) → Buf (Elt Ideal) ℓ) : Prop :=
  True

def Pre_MemNB (m : (ℓ : Loc Cert.MemNB.nD Cert.MemNB.τ Cert.MemNB.sig) → Buf (Elt Bits) ℓ) : Prop :=
  True

def Pre_MemNBIdeal (m : (ℓ : Loc Cert.MemNBIdeal.nD Cert.MemNBIdeal.τ Cert.MemNBIdeal.sig) → Buf (Elt Ideal) ℓ) : Prop :=
  True

def Pre_MemNBIdeal_finite_memn [hPre_finite_memn : Cert.Pre_finite_memn.Facts] (m : (ℓ : Loc Cert.MemNBIdeal.nD Cert.MemNBIdeal.τ Cert.MemNBIdeal.sig) → Buf (Elt Ideal) ℓ) : Prop :=
  ∀ c : Dev Cert.MemNBIdeal.nD,
    (Cert.Pre_finite_memn.fn (F := Ideal) (m ((c.tc : Thread Cert.MemNBIdeal.nD Cert.MemNBIdeal.τ).loc Cert.MemNBIdeal.main_arg0)) (m ((c.tc : Thread Cert.MemNBIdeal.nD Cert.MemNBIdeal.τ).loc Cert.MemNBIdeal.main_arg1)) (m ((c.tc : Thread Cert.MemNBIdeal.nD Cert.MemNBIdeal.τ).loc Cert.MemNBIdeal.main_arg2))).1 = (fun _ => 1#1)
    ∧ (Cert.Pre_finite_memn.fn (F := Ideal) (m ((c.tc : Thread Cert.MemNBIdeal.nD Cert.MemNBIdeal.τ).loc Cert.MemNBIdeal.main_arg0)) (m ((c.tc : Thread Cert.MemNBIdeal.nD Cert.MemNBIdeal.τ).loc Cert.MemNBIdeal.main_arg1)) (m ((c.tc : Thread Cert.MemNBIdeal.nD Cert.MemNBIdeal.τ).loc Cert.MemNBIdeal.main_arg2))).2.1 = (fun _ => 1#1)
    ∧ (Cert.Pre_finite_memn.fn (F := Ideal) (m ((c.tc : Thread Cert.MemNBIdeal.nD Cert.MemNBIdeal.τ).loc Cert.MemNBIdeal.main_arg0)) (m ((c.tc : Thread Cert.MemNBIdeal.nD Cert.MemNBIdeal.τ).loc Cert.MemNBIdeal.main_arg1)) (m ((c.tc : Thread Cert.MemNBIdeal.nD Cert.MemNBIdeal.τ).loc Cert.MemNBIdeal.main_arg2))).2.2 = (fun _ => 1#1)

def Pre_MemNBRefIdeal (m : (ℓ : Loc Cert.MemNBRefIdeal.nD Cert.MemNBRefIdeal.τ Cert.MemNBRefIdeal.sig) → Buf (Elt Ideal) ℓ) : Prop :=
  True

def Pre_MemNBRefIdeal_finite_memn [hPre_finite_memn : Cert.Pre_finite_memn.Facts] (m : (ℓ : Loc Cert.MemNBRefIdeal.nD Cert.MemNBRefIdeal.τ Cert.MemNBRefIdeal.sig) → Buf (Elt Ideal) ℓ) : Prop :=
  ∀ c : Dev Cert.MemNBRefIdeal.nD,
    (Cert.Pre_finite_memn.fn (F := Ideal) (m ((c.tc : Thread Cert.MemNBRefIdeal.nD Cert.MemNBRefIdeal.τ).loc Cert.MemNBRefIdeal.main_arg0)) (m ((c.tc : Thread Cert.MemNBRefIdeal.nD Cert.MemNBRefIdeal.τ).loc Cert.MemNBRefIdeal.main_arg1)) (m ((c.tc : Thread Cert.MemNBRefIdeal.nD Cert.MemNBRefIdeal.τ).loc Cert.MemNBRefIdeal.main_arg2))).1 = (fun _ => 1#1)
    ∧ (Cert.Pre_finite_memn.fn (F := Ideal) (m ((c.tc : Thread Cert.MemNBRefIdeal.nD Cert.MemNBRefIdeal.τ).loc Cert.MemNBRefIdeal.main_arg0)) (m ((c.tc : Thread Cert.MemNBRefIdeal.nD Cert.MemNBRefIdeal.τ).loc Cert.MemNBRefIdeal.main_arg1)) (m ((c.tc : Thread Cert.MemNBRefIdeal.nD Cert.MemNBRefIdeal.τ).loc Cert.MemNBRefIdeal.main_arg2))).2.1 = (fun _ => 1#1)
    ∧ (Cert.Pre_finite_memn.fn (F := Ideal) (m ((c.tc : Thread Cert.MemNBRefIdeal.nD Cert.MemNBRefIdeal.τ).loc Cert.MemNBRefIdeal.main_arg0)) (m ((c.tc : Thread Cert.MemNBRefIdeal.nD Cert.MemNBRefIdeal.τ).loc Cert.MemNBRefIdeal.main_arg1)) (m ((c.tc : Thread Cert.MemNBRefIdeal.nD Cert.MemNBRefIdeal.τ).loc Cert.MemNBRefIdeal.main_arg2))).2.2 = (fun _ => 1#1)

def Pre_SmallSum (m : (ℓ : Loc Cert.SmallSum.nD Cert.SmallSum.τ Cert.SmallSum.sig) → Buf (Elt Bits) ℓ) : Prop :=
  True

def Pre_SmallSumIdeal (m : (ℓ : Loc Cert.SmallSumIdeal.nD Cert.SmallSumIdeal.τ Cert.SmallSumIdeal.sig) → Buf (Elt Ideal) ℓ) : Prop :=
  True

def Pre_SmallSumRefIdeal (m : (ℓ : Loc Cert.SmallSumRefIdeal.nD Cert.SmallSumRefIdeal.τ Cert.SmallSumRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Dw [hDw : Cert.Dw.Facts] : Prop :=
  ∀ (m : (ℓ : Loc Cert.Dw.nD Cert.Dw.τ Cert.Dw.sig) → Buf (Elt Bits) ℓ) (g : Dev Cert.Dw.nD → PrngReg), Pre_Dw m →
    θ_run (Cert.Dw.defs (F := Bits)) (onTc (τ := Cert.Dw.τ) (Cert.Dw.main (F := Bits))) ⟨m, fun _ => 0, g⟩ (fun r => (∀ c : Dev Cert.Dw.nD,
      r.2.mem ((c.tc : Thread Cert.Dw.nD Cert.Dw.τ).loc Cert.Dw.main_arg0) = m ((c.tc : Thread Cert.Dw.nD Cert.Dw.τ).loc Cert.Dw.main_arg0)
      ∧ r.2.mem ((c.tc : Thread Cert.Dw.nD Cert.Dw.τ).loc Cert.Dw.main_arg1) = m ((c.tc : Thread Cert.Dw.nD Cert.Dw.τ).loc Cert.Dw.main_arg1)
      ∧ r.2.mem ((c.tc : Thread Cert.Dw.nD Cert.Dw.τ).loc Cert.Dw.main_arg2) = m ((c.tc : Thread Cert.Dw.nD Cert.Dw.τ).loc Cert.Dw.main_arg2)
      ∧ r.2.mem ((c.tc : Thread Cert.Dw.nD Cert.Dw.τ).loc Cert.Dw.main_arg3) = m ((c.tc : Thread Cert.Dw.nD Cert.Dw.τ).loc Cert.Dw.main_arg3)
      ∧ r.2.mem ((c.tc : Thread Cert.Dw.nD Cert.Dw.τ).loc Cert.Dw.main_arg4) = m ((c.tc : Thread Cert.Dw.nD Cert.Dw.τ).loc Cert.Dw.main_arg4))
      ∧ r.2.sem = fun _ => 0)

def quiescent_DwIdeal [hDwIdeal : Cert.DwIdeal.Facts] : Prop :=
  ∀ (m : (ℓ : Loc Cert.DwIdeal.nD Cert.DwIdeal.τ Cert.DwIdeal.sig) → Buf (Elt Ideal) ℓ) (g : Dev Cert.DwIdeal.nD → PrngReg), Pre_DwIdeal m →
    θ_run (Cert.DwIdeal.defs (F := Ideal)) (onTc (τ := Cert.DwIdeal.τ) (Cert.DwIdeal.main (F := Ideal))) ⟨m, fun _ => 0, g⟩ (fun r => (∀ c : Dev Cert.DwIdeal.nD,
      r.2.mem ((c.tc : Thread Cert.DwIdeal.nD Cert.DwIdeal.τ).loc Cert.DwIdeal.main_arg0) = m ((c.tc : Thread Cert.DwIdeal.nD Cert.DwIdeal.τ).loc Cert.DwIdeal.main_arg0)
      ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
      ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
      ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
      ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1)
      ∧ r.2.mem ((c.tc : Thread Cert.DwRefIdeal.nD Cert.DwRefIdeal.τ).loc Cert.DwRefIdeal.main_arg2) = m ((c.tc : Thread Cert.DwRefIdeal.nD Cert.DwRefIdeal.τ).loc Cert.DwRefIdeal.main_arg2)
      ∧ r.2.mem ((c.tc : Thread Cert.DwRefIdeal.nD Cert.DwRefIdeal.τ).loc Cert.DwRefIdeal.main_arg3) = m ((c.tc : Thread Cert.DwRefIdeal.nD Cert.DwRefIdeal.τ).loc Cert.DwRefIdeal.main_arg3)
      ∧ r.2.mem ((c.tc : Thread Cert.DwRefIdeal.nD Cert.DwRefIdeal.τ).loc Cert.DwRefIdeal.main_arg4) = m ((c.tc : Thread Cert.DwRefIdeal.nD Cert.DwRefIdeal.τ).loc Cert.DwRefIdeal.main_arg4))
      ∧ r.2.sem = fun _ => 0)

def quiescent_Dx [hDx : Cert.Dx.Facts] : Prop :=
  ∀ (m : (ℓ : Loc Cert.Dx.nD Cert.Dx.τ Cert.Dx.sig) → Buf (Elt Bits) ℓ) (g : Dev Cert.Dx.nD → PrngReg), Pre_Dx m →
    θ_run (Cert.Dx.defs (F := Bits)) (onTc (τ := Cert.Dx.τ) (Cert.Dx.main (F := Bits))) ⟨m, fun _ => 0, g⟩ (fun r => (∀ c : Dev Cert.Dx.nD,
      r.2.mem ((c.tc : Thread Cert.Dx.nD Cert.Dx.τ).loc Cert.Dx.main_arg0) = m ((c.tc : Thread Cert.Dx.nD Cert.Dx.τ).loc Cert.Dx.main_arg0)
      ∧ r.2.mem ((c.tc : Thread Cert.Dx.nD Cert.Dx.τ).loc Cert.Dx.main_arg1) = m ((c.tc : Thread Cert.Dx.nD Cert.Dx.τ).loc Cert.Dx.main_arg1)
      ∧ r.2.mem ((c.tc : Thread Cert.Dx.nD Cert.Dx.τ).loc Cert.Dx.main_arg2) = m ((c.tc : Thread Cert.Dx.nD Cert.Dx.τ).loc Cert.Dx.main_arg2)
      ∧ r.2.mem ((c.tc : Thread Cert.Dx.nD Cert.Dx.τ).loc Cert.Dx.main_arg3) = m ((c.tc : Thread Cert.Dx.nD Cert.Dx.τ).loc Cert.Dx.main_arg3)
      ∧ r.2.mem ((c.tc : Thread Cert.Dx.nD Cert.Dx.τ).loc Cert.Dx.main_arg4) = m ((c.tc : Thread Cert.Dx.nD Cert.Dx.τ).loc Cert.Dx.main_arg4)
      ∧ r.2.mem ((c.tc : Thread Cert.Dx.nD Cert.Dx.τ).loc Cert.Dx.main_arg5) = m ((c.tc : Thread Cert.Dx.nD Cert.Dx.τ).loc Cert.Dx.main_arg5)
      ∧ r.2.mem ((c.tc : Thread Cert.Dx.nD Cert.Dx.τ).loc Cert.Dx.main_arg6) = m ((c.tc : Thread Cert.Dx.nD Cert.Dx.τ).loc Cert.Dx.main_arg6))
      ∧ r.2.sem = fun _ => 0)

def quiescent_DxIdeal [hDxIdeal : Cert.DxIdeal.Facts] : Prop :=
  ∀ (m : (ℓ : Loc Cert.DxIdeal.nD Cert.DxIdeal.τ Cert.DxIdeal.sig) → Buf (Elt Ideal) ℓ) (g : Dev Cert.DxIdeal.nD → PrngReg), Pre_DxIdeal m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxIdeal_pre_finite_dx [hDxIdeal : Cert.DxIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg), Pre_DxIdeal_finite_dx m →
    θ_run (Cert.DxIdeal.defs (F := Ideal)) (onTc (τ := Cert.DxIdeal.τ) (Cert.DxIdeal.main (F := Ideal))) ⟨m, fun _ => 0, g⟩ (fun r => (∀ c : Dev Cert.DxIdeal.nD,
      r.2.mem ((c.tc : Thread Cert.DxIdeal.nD Cert.DxIdeal.τ).loc Cert.DxIdeal.main_arg0) = m ((c.tc : Thread Cert.DxIdeal.nD Cert.DxIdeal.τ).loc Cert.DxIdeal.main_arg0)
      ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
      ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
      ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
      ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
      ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
      ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ r.2.sem = fun _ => 0)

def quiescent_DxRefIdeal [hDxRefIdeal : Cert.DxRefIdeal.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_DxRefIdeal_pre_finite_dx [hDxRefIdeal : Cert.DxRefIdeal.Facts] [hPre_finite_dx : Cert.Pre_finite_dx.Facts] : Prop :=
  ∀ (m : (ℓ : Loc Cert.DxRefIdeal.nD Cert.DxRefIdeal.τ Cert.DxRefIdeal.sig) → Buf (Elt Ideal) ℓ) (g : Dev Cert.DxRefIdeal.nD → PrngReg), Pre_DxRefIdeal_finite_dx m →
    θ_run (Cert.DxRefIdeal.defs (F := Ideal)) (onTc (τ := Cert.DxRefIdeal.τ) (Cert.DxRefIdeal.main (F := Ideal))) ⟨m, fun _ => 0, g⟩ (fun r => (∀ c : Dev Cert.DxRefIdeal.nD,
      r.2.mem ((c.tc : Thread Cert.DxRefIdeal.nD Cert.DxRefIdeal.τ).loc Cert.DxRefIdeal.main_arg0) = m ((c.tc : Thread Cert.DxRefIdeal.nD Cert.DxRefIdeal.τ).loc Cert.DxRefIdeal.main_arg0)
      ∧ r.2.mem ((c.tc : Thread Cert.DxRefIdeal.nD Cert.DxRefIdeal.τ).loc Cert.DxRefIdeal.main_arg1) = m ((c.tc : Thread Cert.DxRefIdeal.nD Cert.DxRefIdeal.τ).loc Cert.DxRefIdeal.main_arg1)
      ∧ r.2.mem ((c.tc : Thread Cert.DxRefIdeal.nD Cert.DxRefIdeal.τ).loc Cert.DxRefIdeal.main_arg2) = m ((c.tc : Thread Cert.DxRefIdeal.nD Cert.DxRefIdeal.τ).loc Cert.DxRefIdeal.main_arg2)
      ∧ r.2.mem ((c.tc : Thread Cert.DxRefIdeal.nD Cert.DxRefIdeal.τ).loc Cert.DxRefIdeal.main_arg3) = m ((c.tc : Thread Cert.DxRefIdeal.nD Cert.DxRefIdeal.τ).loc Cert.DxRefIdeal.main_arg3)
      ∧ r.2.mem ((c.tc : Thread Cert.DxRefIdeal.nD Cert.DxRefIdeal.τ).loc Cert.DxRefIdeal.main_arg4) = m ((c.tc : Thread Cert.DxRefIdeal.nD Cert.DxRefIdeal.τ).loc Cert.DxRefIdeal.main_arg4)
      ∧ r.2.mem ((c.tc : Thread Cert.DxRefIdeal.nD Cert.DxRefIdeal.τ).loc Cert.DxRefIdeal.main_arg5) = m ((c.tc : Thread Cert.DxRefIdeal.nD Cert.DxRefIdeal.τ).loc Cert.DxRefIdeal.main_arg5)
      ∧ r.2.mem ((c.tc : Thread Cert.DxRefIdeal.nD Cert.DxRefIdeal.τ).loc Cert.DxRefIdeal.main_arg6) = m ((c.tc : Thread Cert.DxRefIdeal.nD Cert.DxRefIdeal.τ).loc Cert.DxRefIdeal.main_arg6))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInIdeal_pre_finite_mix [hMixInIdeal : Cert.MixInIdeal.Facts] [hPre_finite_mix : Cert.Pre_finite_mix.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal_finite_mix m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ r.2.sem = fun _ => 0)

def quiescent_MixInRefIdeal [hMixInRefIdeal : Cert.MixInRefIdeal.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_MixInRefIdeal_pre_finite_mix [hMixInRefIdeal : Cert.MixInRefIdeal.Facts] [hPre_finite_mix : Cert.Pre_finite_mix.Facts] : Prop :=
  ∀ (m : (ℓ : Loc Cert.MixInRefIdeal.nD Cert.MixInRefIdeal.τ Cert.MixInRefIdeal.sig) → Buf (Elt Ideal) ℓ) (g : Dev Cert.MixInRefIdeal.nD → PrngReg), Pre_MixInRefIdeal_finite_mix m →
    θ_run (Cert.MixInRefIdeal.defs (F := Ideal)) (onTc (τ := Cert.MixInRefIdeal.τ) (Cert.MixInRefIdeal.main (F := Ideal))) ⟨m, fun _ => 0, g⟩ (fun r => (∀ c : Dev Cert.MixInRefIdeal.nD,
      r.2.mem ((c.tc : Thread Cert.MixInRefIdeal.nD Cert.MixInRefIdeal.τ).loc Cert.MixInRefIdeal.main_arg0) = m ((c.tc : Thread Cert.MixInRefIdeal.nD Cert.MixInRefIdeal.τ).loc Cert.MixInRefIdeal.main_arg0)
      ∧ r.2.mem ((c.tc : Thread Cert.MixInRefIdeal.nD Cert.MixInRefIdeal.τ).loc Cert.MixInRefIdeal.main_arg1) = m ((c.tc : Thread Cert.MixInRefIdeal.nD Cert.MixInRefIdeal.τ).loc Cert.MixInRefIdeal.main_arg1)
      ∧ r.2.mem ((c.tc : Thread Cert.MixInRefIdeal.nD Cert.MixInRefIdeal.τ).loc Cert.MixInRefIdeal.main_arg2) = m ((c.tc : Thread Cert.MixInRefIdeal.nD Cert.MixInRefIdeal.τ).loc Cert.MixInRefIdeal.main_arg2)
      ∧ r.2.mem ((c.tc : Thread Cert.MixInRefIdeal.nD Cert.MixInRefIdeal.τ).loc Cert.MixInRefIdeal.main_arg3) = m ((c.tc : Thread Cert.MixInRefIdeal.nD Cert.MixInRefIdeal.τ).loc Cert.MixInRefIdeal.main_arg3)
      ∧ r.2.mem ((c.tc : Thread Cert.MixInRefIdeal.nD Cert.MixInRefIdeal.τ).loc Cert.MixInRefIdeal.main_arg4) = m ((c.tc : Thread Cert.MixInRefIdeal.nD Cert.MixInRefIdeal.τ).loc Cert.MixInRefIdeal.main_arg4)
      ∧ r.2.mem ((c.tc : Thread Cert.MixInRefIdeal.nD Cert.MixInRefIdeal.τ).loc Cert.MixInRefIdeal.main_arg5) = m ((c.tc : Thread Cert.MixInRefIdeal.nD Cert.MixInRefIdeal.τ).loc Cert.MixInRefIdeal.main_arg5)
      ∧ r.2.mem ((c.tc : Thread Cert.MixInRefIdeal.nD Cert.MixInRefIdeal.τ).loc Cert.MixInRefIdeal.main_arg6) = m ((c.tc : Thread Cert.MixInRefIdeal.nD Cert.MixInRefIdeal.τ).loc Cert.MixInRefIdeal.main_arg6)
      ∧ r.2.mem ((c.tc : Thread Cert.MixInRefIdeal.nD Cert.MixInRefIdeal.τ).loc Cert.MixInRefIdeal.main_arg7) = m ((c.tc : Thread Cert.MixInRefIdeal.nD Cert.MixInRefIdeal.τ).loc Cert.MixInRefIdeal.main_arg7))
      ∧ r.2.sem = fun _ => 0)

def quiescent_MixW [hMixW : Cert.MixW.Facts] : Prop :=
  ∀ (m : (ℓ : Loc Cert.MixW.nD Cert.MixW.τ Cert.MixW.sig) → Buf (Elt Bits) ℓ) (g : Dev Cert.MixW.nD → PrngReg), Pre_MixW m →
    θ_run (Cert.MixW.defs (F := Bits)) (onTc (τ := Cert.MixW.τ) (Cert.MixW.main (F := Bits))) ⟨m, fun _ => 0, g⟩ (fun r => (∀ c : Dev Cert.MixW.nD,
      r.2.mem ((c.tc : Thread Cert.MixW.nD Cert.MixW.τ).loc Cert.MixW.main_arg0) = m ((c.tc : Thread Cert.MixW.nD Cert.MixW.τ).loc Cert.MixW.main_arg0)
      ∧ r.2.mem ((c.tc : Thread Cert.MixW.nD Cert.MixW.τ).loc Cert.MixW.main_arg1) = m ((c.tc : Thread Cert.MixW.nD Cert.MixW.τ).loc Cert.MixW.main_arg1)
      ∧ r.2.mem ((c.tc : Thread Cert.MixW.nD Cert.MixW.τ).loc Cert.MixW.main_arg2) = m ((c.tc : Thread Cert.MixW.nD Cert.MixW.τ).loc Cert.MixW.main_arg2)
      ∧ r.2.mem ((c.tc : Thread Cert.MixW.nD Cert.MixW.τ).loc Cert.MixW.main_arg3) = m ((c.tc : Thread Cert.MixW.nD Cert.MixW.τ).loc Cert.MixW.main_arg3)
      ∧ r.2.mem ((c.tc : Thread Cert.MixW.nD Cert.MixW.τ).loc Cert.MixW.main_arg4) = m ((c.tc : Thread Cert.MixW.nD Cert.MixW.τ).loc Cert.MixW.main_arg4))
      ∧ r.2.sem = fun _ => 0)

def quiescent_MixWIdeal [hMixWIdeal : Cert.MixWIdeal.Facts] : Prop :=
  ∀ (m : (ℓ : Loc Cert.MixWIdeal.nD Cert.MixWIdeal.τ Cert.MixWIdeal.sig) → Buf (Elt Ideal) ℓ) (g : Dev Cert.MixWIdeal.nD → PrngReg), Pre_MixWIdeal m →
    θ_run (Cert.MixWIdeal.defs (F := Ideal)) (onTc (τ := Cert.MixWIdeal.τ) (Cert.MixWIdeal.main (F := Ideal))) ⟨m, fun _ => 0, g⟩ (fun r => (∀ c : Dev Cert.MixWIdeal.nD,
      r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
      ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
      ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2)
      ∧ r.2.mem ((c.tc : Thread Cert.MixWIdeal.nD Cert.MixWIdeal.τ).loc Cert.MixWIdeal.main_arg3) = m ((c.tc : Thread Cert.MixWIdeal.nD Cert.MixWIdeal.τ).loc Cert.MixWIdeal.main_arg3)
      ∧ r.2.mem ((c.tc : Thread Cert.MixWIdeal.nD Cert.MixWIdeal.τ).loc Cert.MixWIdeal.main_arg4) = m ((c.tc : Thread Cert.MixWIdeal.nD Cert.MixWIdeal.τ).loc Cert.MixWIdeal.main_arg4))
      ∧ r.2.sem = fun _ => 0)

def quiescent_MixWRefIdeal [hMixWRefIdeal : Cert.MixWRefIdeal.Facts] : Prop :=
  ∀ (m : (ℓ : Loc Cert.MixWRefIdeal.nD Cert.MixWRefIdeal.τ Cert.MixWRefIdeal.sig) → Buf (Elt Ideal) ℓ) (g : Dev Cert.MixWRefIdeal.nD → PrngReg), Pre_MixWRefIdeal m →
    θ_run (Cert.MixWRefIdeal.defs (F := Ideal)) (onTc (τ := Cert.MixWRefIdeal.τ) (Cert.MixWRefIdeal.main (F := Ideal))) ⟨m, fun _ => 0, g⟩ (fun r => (∀ c : Dev Cert.MixWRefIdeal.nD,
      r.2.mem ((c.tc : Thread Cert.MixWRefIdeal.nD Cert.MixWRefIdeal.τ).loc Cert.MixWRefIdeal.main_arg0) = m ((c.tc : Thread Cert.MixWRefIdeal.nD Cert.MixWRefIdeal.τ).loc Cert.MixWRefIdeal.main_arg0)
      ∧ r.2.mem ((c.tc : Thread Cert.MixWRefIdeal.nD Cert.MixWRefIdeal.τ).loc Cert.MixWRefIdeal.main_arg1) = m ((c.tc : Thread Cert.MixWRefIdeal.nD Cert.MixWRefIdeal.τ).loc Cert.MixWRefIdeal.main_arg1)
      ∧ r.2.mem ((c.tc : Thread Cert.MixWRefIdeal.nD Cert.MixWRefIdeal.τ).loc Cert.MixWRefIdeal.main_arg2) = m ((c.tc : Thread Cert.MixWRefIdeal.nD Cert.MixWRefIdeal.τ).loc Cert.MixWRefIdeal.main_arg2)
      ∧ r.2.mem ((c.tc : Thread Cert.MixWRefIdeal.nD Cert.MixWRefIdeal.τ).loc Cert.MixWRefIdeal.main_arg3) = m ((c.tc : Thread Cert.MixWRefIdeal.nD Cert.MixWRefIdeal.τ).loc Cert.MixWRefIdeal.main_arg3)
      ∧ r.2.mem ((c.tc : Thread Cert.MixWRefIdeal.nD Cert.MixWRefIdeal.τ).loc Cert.MixWRefIdeal.main_arg4) = m ((c.tc : Thread Cert.MixWRefIdeal.nD Cert.MixWRefIdeal.τ).loc Cert.MixWRefIdeal.main_arg4))
      ∧ r.2.sem = fun _ => 0)

def quiescent_SqW [hSqW : Cert.SqW.Facts] : Prop :=
  ∀ (m : (ℓ : Loc Cert.SqW.nD Cert.SqW.τ Cert.SqW.sig) → Buf (Elt Bits) ℓ) (g : Dev Cert.SqW.nD → PrngReg), Pre_SqW m →
    θ_run (Cert.SqW.defs (F := Bits)) (onTc (τ := Cert.SqW.τ) (Cert.SqW.main (F := Bits))) ⟨m, fun _ => 0, g⟩ (fun r => (∀ c : Dev Cert.SqW.nD,
      r.2.mem ((c.tc : Thread Cert.SqW.nD Cert.SqW.τ).loc Cert.SqW.main_arg0) = m ((c.tc : Thread Cert.SqW.nD Cert.SqW.τ).loc Cert.SqW.main_arg0)
      ∧ r.2.mem ((c.tc : Thread Cert.SqW.nD Cert.SqW.τ).loc Cert.SqW.main_arg1) = m ((c.tc : Thread Cert.SqW.nD Cert.SqW.τ).loc Cert.SqW.main_arg1))
      ∧ r.2.sem = fun _ => 0)

def quiescent_SqWIdeal [hSqWIdeal : Cert.SqWIdeal.Facts] : Prop :=
  ∀ (m : (ℓ : Loc Cert.SqWIdeal.nD Cert.SqWIdeal.τ Cert.SqWIdeal.sig) → Buf (Elt Ideal) ℓ) (g : Dev Cert.SqWIdeal.nD → PrngReg), Pre_SqWIdeal m →
    θ_run (Cert.SqWIdeal.defs (F := Ideal)) (onTc (τ := Cert.SqWIdeal.τ) (Cert.SqWIdeal.main (F := Ideal))) ⟨m, fun _ => 0, g⟩ (fun r => (∀ c : Dev Cert.SqWIdeal.nD,
      r.2.mem ((c.tc : Thread Cert.SqWIdeal.nD Cert.SqWIdeal.τ).loc Cert.SqWIdeal.main_arg0) = m ((c.tc : Thread Cert.SqWIdeal.nD Cert.SqWIdeal.τ).loc Cert.SqWIdeal.main_arg0)
      ∧ r.2.mem ((c.tc : Thread Cert.SqWIdeal.nD Cert.SqWIdeal.τ).loc Cert.SqWIdeal.main_arg1) = m ((c.tc : Thread Cert.SqWIdeal.nD Cert.SqWIdeal.τ).loc Cert.SqWIdeal.main_arg1))
      ∧ r.2.sem = fun _ => 0)

def quiescent_SqWRefIdeal [hSqWRefIdeal : Cert.SqWRefIdeal.Facts] : Prop :=
  ∀ (m : (ℓ : Loc Cert.SqWRefIdeal.nD Cert.SqWRefIdeal.τ Cert.SqWRefIdeal.sig) → Buf (Elt Ideal) ℓ) (g : Dev Cert.SqWRefIdeal.nD → PrngReg), Pre_SqWRefIdeal m →
    θ_run (Cert.SqWRefIdeal.defs (F := Ideal)) (onTc (τ := Cert.SqWRefIdeal.τ) (Cert.SqWRefIdeal.main (F := Ideal))) ⟨m, fun _ => 0, g⟩ (fun r => (∀ c : Dev Cert.SqWRefIdeal.nD,
      r.2.mem ((c.tc : Thread Cert.SqWRefIdeal.nD Cert.SqWRefIdeal.τ).loc Cert.SqWRefIdeal.main_arg0) = m ((c.tc : Thread Cert.SqWRefIdeal.nD Cert.SqWRefIdeal.τ).loc Cert.SqWRefIdeal.main_arg0)
      ∧ r.2.mem ((c.tc : Thread Cert.SqWRefIdeal.nD Cert.SqWRefIdeal.τ).loc Cert.SqWRefIdeal.main_arg1) = m ((c.tc : Thread Cert.SqWRefIdeal.nD Cert.SqWRefIdeal.τ).loc Cert.SqWRefIdeal.main_arg1))
      ∧ r.2.sem = fun _ => 0)

def quiescent_SqX [hSqX : Cert.SqX.Facts] : Prop :=
  ∀ (m : (ℓ : Loc Cert.SqX.nD Cert.SqX.τ Cert.SqX.sig) → Buf (Elt Bits) ℓ) (g : Dev Cert.SqX.nD → PrngReg), Pre_SqX m →
    θ_run (Cert.SqX.defs (F := Bits)) (onTc (τ := Cert.SqX.τ) (Cert.SqX.main (F := Bits))) ⟨m, fun _ => 0, g⟩ (fun r => (∀ c : Dev Cert.SqX.nD,
      r.2.mem ((c.tc : Thread Cert.SqX.nD Cert.SqX.τ).loc Cert.SqX.main_arg0) = m ((c.tc : Thread Cert.SqX.nD Cert.SqX.τ).loc Cert.SqX.main_arg0)
      ∧ r.2.mem ((c.tc : Thread Cert.SqX.nD Cert.SqX.τ).loc Cert.SqX.main_arg1) = m ((c.tc : Thread Cert.SqX.nD Cert.SqX.τ).loc Cert.SqX.main_arg1))
      ∧ r.2.sem = fun _ => 0)

def quiescent_SqXIdeal [hSqXIdeal : Cert.SqXIdeal.Facts] : Prop :=
  ∀ (m : (ℓ : Loc Cert.SqXIdeal.nD Cert.SqXIdeal.τ Cert.SqXIdeal.sig) → Buf (Elt Ideal) ℓ) (g : Dev Cert.SqXIdeal.nD → PrngReg), Pre_SqXIdeal m →
    θ_run (Cert.SqXIdeal.defs (F := Ideal)) (onTc (τ := Cert.SqXIdeal.τ) (Cert.SqXIdeal.main (F := Ideal))) ⟨m, fun _ => 0, g⟩ (fun r => (∀ c : Dev Cert.SqXIdeal.nD,
      r.2.mem ((c.tc : Thread Cert.SqXIdeal.nD Cert.SqXIdeal.τ).loc Cert.SqXIdeal.main_arg0) = m ((c.tc : Thread Cert.SqXIdeal.nD Cert.SqXIdeal.τ).loc Cert.SqXIdeal.main_arg0)
      ∧ r.2.mem ((c.tc : Thread Cert.SqXIdeal.nD Cert.SqXIdeal.τ).loc Cert.SqXIdeal.main_arg1) = m ((c.tc : Thread Cert.SqXIdeal.nD Cert.SqXIdeal.τ).loc Cert.SqXIdeal.main_arg1))
      ∧ r.2.sem = fun _ => 0)

def quiescent_SqXRefIdeal [hSqXRefIdeal : Cert.SqXRefIdeal.Facts] : Prop :=
  ∀ (m : (ℓ : Loc Cert.SqXRefIdeal.nD Cert.SqXRefIdeal.τ Cert.SqXRefIdeal.sig) → Buf (Elt Ideal) ℓ) (g : Dev Cert.SqXRefIdeal.nD → PrngReg), Pre_SqXRefIdeal m →
    θ_run (Cert.SqXRefIdeal.defs (F := Ideal)) (onTc (τ := Cert.SqXRefIdeal.τ) (Cert.SqXRefIdeal.main (F := Ideal))) ⟨m, fun _ => 0, g⟩ (fun r => (∀ c : Dev Cert.SqXRefIdeal.nD,
      r.2.mem ((c.tc : Thread Cert.SqXRefIdeal.nD Cert.SqXRefIdeal.τ).loc Cert.SqXRefIdeal.main_arg0) = m ((c.tc : Thread Cert.SqXRefIdeal.nD Cert.SqXRefIdeal.τ).loc Cert.SqXRefIdeal.main_arg0)
      ∧ r.2.mem ((c.tc : Thread Cert.SqXRefIdeal.nD Cert.SqXRefIdeal.τ).loc Cert.SqXRefIdeal.main_arg1) = m ((c.tc : Thread Cert.SqXRefIdeal.nD Cert.SqXRefIdeal.τ).loc Cert.SqXRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2)
      ∧ r.2.mem ((c.tc : Thread Cert.Resid.nD Cert.Resid.τ).loc Cert.Resid.main_arg3) = m ((c.tc : Thread Cert.Resid.nD Cert.Resid.τ).loc Cert.Resid.main_arg3))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
      ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2)
      ∧ r.2.mem ((c.tc : Thread Cert.ResidRefIdeal.nD Cert.ResidRefIdeal.τ).loc Cert.ResidRefIdeal.main_arg3) = m ((c.tc : Thread Cert.ResidRefIdeal.nD Cert.ResidRefIdeal.τ).loc Cert.ResidRefIdeal.main_arg3))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1)
      ∧ r.2.mem ((c.tc : Thread Cert.QueryDx.nD Cert.QueryDx.τ).loc Cert.QueryDx.main_arg2) = m ((c.tc : Thread Cert.QueryDx.nD Cert.QueryDx.τ).loc Cert.QueryDx.main_arg2)
      ∧ r.2.mem ((c.tc : Thread Cert.QueryDx.nD Cert.QueryDx.τ).loc Cert.QueryDx.main_arg3) = m ((c.tc : Thread Cert.QueryDx.nD Cert.QueryDx.τ).loc Cert.QueryDx.main_arg3)
      ∧ r.2.mem ((c.tc : Thread Cert.QueryDx.nD Cert.QueryDx.τ).loc Cert.QueryDx.main_arg4) = m ((c.tc : Thread Cert.QueryDx.nD Cert.QueryDx.τ).loc Cert.QueryDx.main_arg4))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
      ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
      ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
      ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ r.2.sem = fun _ => 0)

def quiescent_QueryDxIdeal_pre_finite_qdx [hQueryDxIdeal : Cert.QueryDxIdeal.Facts] [hPre_finite_qdx : Cert.Pre_finite_qdx.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal_finite_qdx m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
      ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
      ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
      ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1)
      ∧ r.2.mem ((c.tc : Thread Cert.QueryDxRefIdeal.nD Cert.QueryDxRefIdeal.τ).loc Cert.QueryDxRefIdeal.main_arg2) = m ((c.tc : Thread Cert.QueryDxRefIdeal.nD Cert.QueryDxRefIdeal.τ).loc Cert.QueryDxRefIdeal.main_arg2)
      ∧ r.2.mem ((c.tc : Thread Cert.QueryDxRefIdeal.nD Cert.QueryDxRefIdeal.τ).loc Cert.QueryDxRefIdeal.main_arg3) = m ((c.tc : Thread Cert.QueryDxRefIdeal.nD Cert.QueryDxRefIdeal.τ).loc Cert.QueryDxRefIdeal.main_arg3)
      ∧ r.2.mem ((c.tc : Thread Cert.QueryDxRefIdeal.nD Cert.QueryDxRefIdeal.τ).loc Cert.QueryDxRefIdeal.main_arg4) = m ((c.tc : Thread Cert.QueryDxRefIdeal.nD Cert.QueryDxRefIdeal.τ).loc Cert.QueryDxRefIdeal.main_arg4))
      ∧ r.2.sem = fun _ => 0)

def quiescent_QueryDxRefIdeal_pre_finite_qdx [hQueryDxRefIdeal : Cert.QueryDxRefIdeal.Facts] [hPre_finite_qdx : Cert.Pre_finite_qdx.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal_finite_qdx m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1)
      ∧ r.2.mem ((c.tc : Thread Cert.QueryDxRefIdeal.nD Cert.QueryDxRefIdeal.τ).loc Cert.QueryDxRefIdeal.main_arg2) = m ((c.tc : Thread Cert.QueryDxRefIdeal.nD Cert.QueryDxRefIdeal.τ).loc Cert.QueryDxRefIdeal.main_arg2)
      ∧ r.2.mem ((c.tc : Thread Cert.QueryDxRefIdeal.nD Cert.QueryDxRefIdeal.τ).loc Cert.QueryDxRefIdeal.main_arg3) = m ((c.tc : Thread Cert.QueryDxRefIdeal.nD Cert.QueryDxRefIdeal.τ).loc Cert.QueryDxRefIdeal.main_arg3)
      ∧ r.2.mem ((c.tc : Thread Cert.QueryDxRefIdeal.nD Cert.QueryDxRefIdeal.τ).loc Cert.QueryDxRefIdeal.main_arg4) = m ((c.tc : Thread Cert.QueryDxRefIdeal.nD Cert.QueryDxRefIdeal.τ).loc Cert.QueryDxRefIdeal.main_arg4))
      ∧ r.2.sem = fun _ => 0)

def quiescent_MergeW [hMergeW : Cert.MergeW.Facts] : Prop :=
  ∀ (m : (ℓ : Loc Cert.MergeW.nD Cert.MergeW.τ Cert.MergeW.sig) → Buf (Elt Bits) ℓ) (g : Dev Cert.MergeW.nD → PrngReg), Pre_MergeW m →
    θ_run (Cert.MergeW.defs (F := Bits)) (onTc (τ := Cert.MergeW.τ) (Cert.MergeW.main (F := Bits))) ⟨m, fun _ => 0, g⟩ (fun r => (∀ c : Dev Cert.MergeW.nD,
      r.2.mem ((c.tc : Thread Cert.MergeW.nD Cert.MergeW.τ).loc Cert.MergeW.main_arg0) = m ((c.tc : Thread Cert.MergeW.nD Cert.MergeW.τ).loc Cert.MergeW.main_arg0)
      ∧ r.2.mem ((c.tc : Thread Cert.MergeW.nD Cert.MergeW.τ).loc Cert.MergeW.main_arg1) = m ((c.tc : Thread Cert.MergeW.nD Cert.MergeW.τ).loc Cert.MergeW.main_arg1)
      ∧ r.2.mem ((c.tc : Thread Cert.MergeW.nD Cert.MergeW.τ).loc Cert.MergeW.main_arg2) = m ((c.tc : Thread Cert.MergeW.nD Cert.MergeW.τ).loc Cert.MergeW.main_arg2)
      ∧ r.2.mem ((c.tc : Thread Cert.MergeW.nD Cert.MergeW.τ).loc Cert.MergeW.main_arg3) = m ((c.tc : Thread Cert.MergeW.nD Cert.MergeW.τ).loc Cert.MergeW.main_arg3)
      ∧ r.2.mem ((c.tc : Thread Cert.MergeW.nD Cert.MergeW.τ).loc Cert.MergeW.main_arg4) = m ((c.tc : Thread Cert.MergeW.nD Cert.MergeW.τ).loc Cert.MergeW.main_arg4))
      ∧ r.2.sem = fun _ => 0)

def quiescent_MergeWIdeal [hMergeWIdeal : Cert.MergeWIdeal.Facts] : Prop :=
  ∀ (m : (ℓ : Loc Cert.MergeWIdeal.nD Cert.MergeWIdeal.τ Cert.MergeWIdeal.sig) → Buf (Elt Ideal) ℓ) (g : Dev Cert.MergeWIdeal.nD → PrngReg), Pre_MergeWIdeal m →
    θ_run (Cert.MergeWIdeal.defs (F := Ideal)) (onTc (τ := Cert.MergeWIdeal.τ) (Cert.MergeWIdeal.main (F := Ideal))) ⟨m, fun _ => 0, g⟩ (fun r => (∀ c : Dev Cert.MergeWIdeal.nD,
      r.2.mem ((c.tc : Thread Cert.MergeWIdeal.nD Cert.MergeWIdeal.τ).loc Cert.MergeWIdeal.main_arg0) = m ((c.tc : Thread Cert.MergeWIdeal.nD Cert.MergeWIdeal.τ).loc Cert.MergeWIdeal.main_arg0)
      ∧ r.2.mem ((c.tc : Thread Cert.MergeWIdeal.nD Cert.MergeWIdeal.τ).loc Cert.MergeWIdeal.main_arg1) = m ((c.tc : Thread Cert.MergeWIdeal.nD Cert.MergeWIdeal.τ).loc Cert.MergeWIdeal.main_arg1)
      ∧ r.2.mem ((c.tc : Thread Cert.MergeWIdeal.nD Cert.MergeWIdeal.τ).loc Cert.MergeWIdeal.main_arg2) = m ((c.tc : Thread Cert.MergeWIdeal.nD Cert.MergeWIdeal.τ).loc Cert.MergeWIdeal.main_arg2)
      ∧ r.2.mem ((c.tc : Thread Cert.MergeWIdeal.nD Cert.MergeWIdeal.τ).loc Cert.MergeWIdeal.main_arg3) = m ((c.tc : Thread Cert.MergeWIdeal.nD Cert.MergeWIdeal.τ).loc Cert.MergeWIdeal.main_arg3)
      ∧ r.2.mem ((c.tc : Thread Cert.MergeWIdeal.nD Cert.MergeWIdeal.τ).loc Cert.MergeWIdeal.main_arg4) = m ((c.tc : Thread Cert.MergeWIdeal.nD Cert.MergeWIdeal.τ).loc Cert.MergeWIdeal.main_arg4))
      ∧ r.2.sem = fun _ => 0)

def quiescent_MergeWRefIdeal [hMergeWRefIdeal : Cert.MergeWRefIdeal.Facts] : Prop :=
  ∀ (m : (ℓ : Loc Cert.MergeWRefIdeal.nD Cert.MergeWRefIdeal.τ Cert.MergeWRefIdeal.sig) → Buf (Elt Ideal) ℓ) (g : Dev Cert.MergeWRefIdeal.nD → PrngReg), Pre_MergeWRefIdeal m →
    θ_run (Cert.MergeWRefIdeal.defs (F := Ideal)) (onTc (τ := Cert.MergeWRefIdeal.τ) (Cert.MergeWRefIdeal.main (F := Ideal))) ⟨m, fun _ => 0, g⟩ (fun r => (∀ c : Dev Cert.MergeWRefIdeal.nD,
      r.2.mem ((c.tc : Thread Cert.MergeWRefIdeal.nD Cert.MergeWRefIdeal.τ).loc Cert.MergeWRefIdeal.main_arg0) = m ((c.tc : Thread Cert.MergeWRefIdeal.nD Cert.MergeWRefIdeal.τ).loc Cert.MergeWRefIdeal.main_arg0)
      ∧ r.2.mem ((c.tc : Thread Cert.MergeWRefIdeal.nD Cert.MergeWRefIdeal.τ).loc Cert.MergeWRefIdeal.main_arg1) = m ((c.tc : Thread Cert.MergeWRefIdeal.nD Cert.MergeWRefIdeal.τ).loc Cert.MergeWRefIdeal.main_arg1)
      ∧ r.2.mem ((c.tc : Thread Cert.MergeWRefIdeal.nD Cert.MergeWRefIdeal.τ).loc Cert.MergeWRefIdeal.main_arg2) = m ((c.tc : Thread Cert.MergeWRefIdeal.nD Cert.MergeWRefIdeal.τ).loc Cert.MergeWRefIdeal.main_arg2)
      ∧ r.2.mem ((c.tc : Thread Cert.MergeWRefIdeal.nD Cert.MergeWRefIdeal.τ).loc Cert.MergeWRefIdeal.main_arg3) = m ((c.tc : Thread Cert.MergeWRefIdeal.nD Cert.MergeWRefIdeal.τ).loc Cert.MergeWRefIdeal.main_arg3)
      ∧ r.2.mem ((c.tc : Thread Cert.MergeWRefIdeal.nD Cert.MergeWRefIdeal.τ).loc Cert.MergeWRefIdeal.main_arg4) = m ((c.tc : Thread Cert.MergeWRefIdeal.nD Cert.MergeWRefIdeal.τ).loc Cert.MergeWRefIdeal.main_arg4))
      ∧ r.2.sem = fun _ => 0)

def quiescent_MergeF [hMergeF : Cert.MergeF.Facts] : Prop :=
  ∀ (m : (ℓ : Loc Cert.MergeF.nD Cert.MergeF.τ Cert.MergeF.sig) → Buf (Elt Bits) ℓ) (g : Dev Cert.MergeF.nD → PrngReg), Pre_MergeF m →
    θ_run (Cert.MergeF.defs (F := Bits)) (onTc (τ := Cert.MergeF.τ) (Cert.MergeF.main (F := Bits))) ⟨m, fun _ => 0, g⟩ (fun r => (∀ c : Dev Cert.MergeF.nD,
      r.2.mem ((c.tc : Thread Cert.MergeF.nD Cert.MergeF.τ).loc Cert.MergeF.main_arg0) = m ((c.tc : Thread Cert.MergeF.nD Cert.MergeF.τ).loc Cert.MergeF.main_arg0)
      ∧ r.2.mem ((c.tc : Thread Cert.MergeF.nD Cert.MergeF.τ).loc Cert.MergeF.main_arg1) = m ((c.tc : Thread Cert.MergeF.nD Cert.MergeF.τ).loc Cert.MergeF.main_arg1)
      ∧ r.2.mem ((c.tc : Thread Cert.MergeF.nD Cert.MergeF.τ).loc Cert.MergeF.main_arg2) = m ((c.tc : Thread Cert.MergeF.nD Cert.MergeF.τ).loc Cert.MergeF.main_arg2)
      ∧ r.2.mem ((c.tc : Thread Cert.MergeF.nD Cert.MergeF.τ).loc Cert.MergeF.main_arg3) = m ((c.tc : Thread Cert.MergeF.nD Cert.MergeF.τ).loc Cert.MergeF.main_arg3)
      ∧ r.2.mem ((c.tc : Thread Cert.MergeF.nD Cert.MergeF.τ).loc Cert.MergeF.main_arg4) = m ((c.tc : Thread Cert.MergeF.nD Cert.MergeF.τ).loc Cert.MergeF.main_arg4)
      ∧ r.2.mem ((c.tc : Thread Cert.MergeF.nD Cert.MergeF.τ).loc Cert.MergeF.main_arg5) = m ((c.tc : Thread Cert.MergeF.nD Cert.MergeF.τ).loc Cert.MergeF.main_arg5))
      ∧ r.2.sem = fun _ => 0)

def quiescent_MergeFIdeal [hMergeFIdeal : Cert.MergeFIdeal.Facts] : Prop :=
  ∀ (m : (ℓ : Loc Cert.MergeFIdeal.nD Cert.MergeFIdeal.τ Cert.MergeFIdeal.sig) → Buf (Elt Ideal) ℓ) (g : Dev Cert.MergeFIdeal.nD → PrngReg), Pre_MergeFIdeal m →
    θ_run (Cert.MergeFIdeal.defs (F := Ideal)) (onTc (τ := Cert.MergeFIdeal.τ) (Cert.MergeFIdeal.main (F := Ideal))) ⟨m, fun _ => 0, g⟩ (fun r => (∀ c : Dev Cert.MergeFIdeal.nD,
      r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
      ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
      ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
      ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
      ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
      ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5))
      ∧ r.2.sem = fun _ => 0)

def quiescent_MergeFRefIdeal [hMergeFRefIdeal : Cert.MergeFRefIdeal.Facts] : Prop :=
  ∀ (m : (ℓ : Loc Cert.MergeFRefIdeal.nD Cert.MergeFRefIdeal.τ Cert.MergeFRefIdeal.sig) → Buf (Elt Ideal) ℓ) (g : Dev Cert.MergeFRefIdeal.nD → PrngReg), Pre_MergeFRefIdeal m →
    θ_run (Cert.MergeFRefIdeal.defs (F := Ideal)) (onTc (τ := Cert.MergeFRefIdeal.τ) (Cert.MergeFRefIdeal.main (F := Ideal))) ⟨m, fun _ => 0, g⟩ (fun r => (∀ c : Dev Cert.MergeFRefIdeal.nD,
      r.2.mem ((c.tc : Thread Cert.MergeFRefIdeal.nD Cert.MergeFRefIdeal.τ).loc Cert.MergeFRefIdeal.main_arg0) = m ((c.tc : Thread Cert.MergeFRefIdeal.nD Cert.MergeFRefIdeal.τ).loc Cert.MergeFRefIdeal.main_arg0)
      ∧ r.2.mem ((c.tc : Thread Cert.MergeFRefIdeal.nD Cert.MergeFRefIdeal.τ).loc Cert.MergeFRefIdeal.main_arg1) = m ((c.tc : Thread Cert.MergeFRefIdeal.nD Cert.MergeFRefIdeal.τ).loc Cert.MergeFRefIdeal.main_arg1)
      ∧ r.2.mem ((c.tc : Thread Cert.MergeFRefIdeal.nD Cert.MergeFRefIdeal.τ).loc Cert.MergeFRefIdeal.main_arg2) = m ((c.tc : Thread Cert.MergeFRefIdeal.nD Cert.MergeFRefIdeal.τ).loc Cert.MergeFRefIdeal.main_arg2)
      ∧ r.2.mem ((c.tc : Thread Cert.MergeFRefIdeal.nD Cert.MergeFRefIdeal.τ).loc Cert.MergeFRefIdeal.main_arg3) = m ((c.tc : Thread Cert.MergeFRefIdeal.nD Cert.MergeFRefIdeal.τ).loc Cert.MergeFRefIdeal.main_arg3)
      ∧ r.2.mem ((c.tc : Thread Cert.MergeFRefIdeal.nD Cert.MergeFRefIdeal.τ).loc Cert.MergeFRefIdeal.main_arg4) = m ((c.tc : Thread Cert.MergeFRefIdeal.nD Cert.MergeFRefIdeal.τ).loc Cert.MergeFRefIdeal.main_arg4)
      ∧ r.2.mem ((c.tc : Thread Cert.MergeFRefIdeal.nD Cert.MergeFRefIdeal.τ).loc Cert.MergeFRefIdeal.main_arg5) = m ((c.tc : Thread Cert.MergeFRefIdeal.nD Cert.MergeFRefIdeal.τ).loc Cert.MergeFRefIdeal.main_arg5))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1)
      ∧ r.2.mem ((c.tc : Thread Cert.Head.nD Cert.Head.τ).loc Cert.Head.main_arg2) = m ((c.tc : Thread Cert.Head.nD Cert.Head.τ).loc Cert.Head.main_arg2)
      ∧ r.2.mem ((c.tc : Thread Cert.Head.nD Cert.Head.τ).loc Cert.Head.main_arg3) = m ((c.tc : Thread Cert.Head.nD Cert.Head.τ).loc Cert.Head.main_arg3)
      ∧ r.2.mem ((c.tc : Thread Cert.Head.nD Cert.Head.τ).loc Cert.Head.main_arg4) = m ((c.tc : Thread Cert.Head.nD Cert.Head.τ).loc Cert.Head.main_arg4))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadIdeal_pre_finite_head [hHeadIdeal : Cert.HeadIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal_finite_head m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
      ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
      ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
      ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_HeadRefIdeal_pre_finite_head [hHeadRefIdeal : Cert.HeadRefIdeal.Facts] [hPre_finite_head : Cert.Pre_finite_head.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal_finite_head m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1)
      ∧ r.2.mem ((c.tc : Thread Cert.HeadRefIdeal.nD Cert.HeadRefIdeal.τ).loc Cert.HeadRefIdeal.main_arg2) = m ((c.tc : Thread Cert.HeadRefIdeal.nD Cert.HeadRefIdeal.τ).loc Cert.HeadRefIdeal.main_arg2)
      ∧ r.2.mem ((c.tc : Thread Cert.HeadRefIdeal.nD Cert.HeadRefIdeal.τ).loc Cert.HeadRefIdeal.main_arg3) = m ((c.tc : Thread Cert.HeadRefIdeal.nD Cert.HeadRefIdeal.τ).loc Cert.HeadRefIdeal.main_arg3)
      ∧ r.2.mem ((c.tc : Thread Cert.HeadRefIdeal.nD Cert.HeadRefIdeal.τ).loc Cert.HeadRefIdeal.main_arg4) = m ((c.tc : Thread Cert.HeadRefIdeal.nD Cert.HeadRefIdeal.τ).loc Cert.HeadRefIdeal.main_arg4))
      ∧ r.2.sem = fun _ => 0)

def quiescent_AttnF [hAttnF : Cert.AttnF.Facts] : Prop :=
  ∀ (m : (ℓ : Loc Cert.AttnF.nD Cert.AttnF.τ Cert.AttnF.sig) → Buf (Elt Bits) ℓ) (g : Dev Cert.AttnF.nD → PrngReg), Pre_AttnF m →
    θ_run (Cert.AttnF.defs (F := Bits)) (onTc (τ := Cert.AttnF.τ) (Cert.AttnF.main (F := Bits))) ⟨m, fun _ => 0, g⟩ (fun r => (∀ c : Dev Cert.AttnF.nD,
      r.2.mem ((c.tc : Thread Cert.AttnF.nD Cert.AttnF.τ).loc Cert.AttnF.main_arg0) = m ((c.tc : Thread Cert.AttnF.nD Cert.AttnF.τ).loc Cert.AttnF.main_arg0)
      ∧ r.2.mem ((c.tc : Thread Cert.AttnF.nD Cert.AttnF.τ).loc Cert.AttnF.main_arg1) = m ((c.tc : Thread Cert.AttnF.nD Cert.AttnF.τ).loc Cert.AttnF.main_arg1))
      ∧ r.2.sem = fun _ => 0)

def quiescent_AttnFIdeal [hAttnFIdeal : Cert.AttnFIdeal.Facts] : Prop :=
  ∀ (m : (ℓ : Loc Cert.AttnFIdeal.nD Cert.AttnFIdeal.τ Cert.AttnFIdeal.sig) → Buf (Elt Ideal) ℓ) (g : Dev Cert.AttnFIdeal.nD → PrngReg), Pre_AttnFIdeal m →
    θ_run (Cert.AttnFIdeal.defs (F := Ideal)) (onTc (τ := Cert.AttnFIdeal.τ) (Cert.AttnFIdeal.main (F := Ideal))) ⟨m, fun _ => 0, g⟩ (fun r => (∀ c : Dev Cert.AttnFIdeal.nD,
      r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
      ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ r.2.sem = fun _ => 0)

def quiescent_AttnFRefIdeal [hAttnFRefIdeal : Cert.AttnFRefIdeal.Facts] : Prop :=
  ∀ (m : (ℓ : Loc Cert.AttnFRefIdeal.nD Cert.AttnFRefIdeal.τ Cert.AttnFRefIdeal.sig) → Buf (Elt Ideal) ℓ) (g : Dev Cert.AttnFRefIdeal.nD → PrngReg), Pre_AttnFRefIdeal m →
    θ_run (Cert.AttnFRefIdeal.defs (F := Ideal)) (onTc (τ := Cert.AttnFRefIdeal.τ) (Cert.AttnFRefIdeal.main (F := Ideal))) ⟨m, fun _ => 0, g⟩ (fun r => (∀ c : Dev Cert.AttnFRefIdeal.nD,
      r.2.mem ((c.tc : Thread Cert.AttnFRefIdeal.nD Cert.AttnFRefIdeal.τ).loc Cert.AttnFRefIdeal.main_arg0) = m ((c.tc : Thread Cert.AttnFRefIdeal.nD Cert.AttnFRefIdeal.τ).loc Cert.AttnFRefIdeal.main_arg0)
      ∧ r.2.mem ((c.tc : Thread Cert.AttnFRefIdeal.nD Cert.AttnFRefIdeal.τ).loc Cert.AttnFRefIdeal.main_arg1) = m ((c.tc : Thread Cert.AttnFRefIdeal.nD Cert.AttnFRefIdeal.τ).loc Cert.AttnFRefIdeal.main_arg1))
      ∧ r.2.sem = fun _ => 0)

def quiescent_ParamF [hParamF : Cert.ParamF.Facts] : Prop :=
  ∀ (m : (ℓ : Loc Cert.ParamF.nD Cert.ParamF.τ Cert.ParamF.sig) → Buf (Elt Bits) ℓ) (g : Dev Cert.ParamF.nD → PrngReg), Pre_ParamF m →
    θ_run (Cert.ParamF.defs (F := Bits)) (onTc (τ := Cert.ParamF.τ) (Cert.ParamF.main (F := Bits))) ⟨m, fun _ => 0, g⟩ (fun r => (∀ c : Dev Cert.ParamF.nD,
      r.2.mem ((c.tc : Thread Cert.ParamF.nD Cert.ParamF.τ).loc Cert.ParamF.main_arg0) = m ((c.tc : Thread Cert.ParamF.nD Cert.ParamF.τ).loc Cert.ParamF.main_arg0)
      ∧ r.2.mem ((c.tc : Thread Cert.ParamF.nD Cert.ParamF.τ).loc Cert.ParamF.main_arg1) = m ((c.tc : Thread Cert.ParamF.nD Cert.ParamF.τ).loc Cert.ParamF.main_arg1)
      ∧ r.2.mem ((c.tc : Thread Cert.ParamF.nD Cert.ParamF.τ).loc Cert.ParamF.main_arg2) = m ((c.tc : Thread Cert.ParamF.nD Cert.ParamF.τ).loc Cert.ParamF.main_arg2)
      ∧ r.2.mem ((c.tc : Thread Cert.ParamF.nD Cert.ParamF.τ).loc Cert.ParamF.main_arg3) = m ((c.tc : Thread Cert.ParamF.nD Cert.ParamF.τ).loc Cert.ParamF.main_arg3))
      ∧ r.2.sem = fun _ => 0)

def quiescent_ParamFIdeal [hParamFIdeal : Cert.ParamFIdeal.Facts] : Prop :=
  ∀ (m : (ℓ : Loc Cert.ParamFIdeal.nD Cert.ParamFIdeal.τ Cert.ParamFIdeal.sig) → Buf (Elt Ideal) ℓ) (g : Dev Cert.ParamFIdeal.nD → PrngReg), Pre_ParamFIdeal m →
    θ_run (Cert.ParamFIdeal.defs (F := Ideal)) (onTc (τ := Cert.ParamFIdeal.τ) (Cert.ParamFIdeal.main (F := Ideal))) ⟨m, fun _ => 0, g⟩ (fun r => (∀ c : Dev Cert.ParamFIdeal.nD,
      r.2.mem ((c.tc : Thread Cert.ParamFIdeal.nD Cert.ParamFIdeal.τ).loc Cert.ParamFIdeal.main_arg0) = m ((c.tc : Thread Cert.ParamFIdeal.nD Cert.ParamFIdeal.τ).loc Cert.ParamFIdeal.main_arg0)
      ∧ r.2.mem ((c.tc : Thread Cert.ParamFIdeal.nD Cert.ParamFIdeal.τ).loc Cert.ParamFIdeal.main_arg1) = m ((c.tc : Thread Cert.ParamFIdeal.nD Cert.ParamFIdeal.τ).loc Cert.ParamFIdeal.main_arg1)
      ∧ r.2.mem ((c.tc : Thread Cert.ParamFIdeal.nD Cert.ParamFIdeal.τ).loc Cert.ParamFIdeal.main_arg2) = m ((c.tc : Thread Cert.ParamFIdeal.nD Cert.ParamFIdeal.τ).loc Cert.ParamFIdeal.main_arg2)
      ∧ r.2.mem ((c.tc : Thread Cert.ParamFIdeal.nD Cert.ParamFIdeal.τ).loc Cert.ParamFIdeal.main_arg3) = m ((c.tc : Thread Cert.ParamFIdeal.nD Cert.ParamFIdeal.τ).loc Cert.ParamFIdeal.main_arg3))
      ∧ r.2.sem = fun _ => 0)

def quiescent_ParamFRefIdeal [hParamFRefIdeal : Cert.ParamFRefIdeal.Facts] : Prop :=
  ∀ (m : (ℓ : Loc Cert.ParamFRefIdeal.nD Cert.ParamFRefIdeal.τ Cert.ParamFRefIdeal.sig) → Buf (Elt Ideal) ℓ) (g : Dev Cert.ParamFRefIdeal.nD → PrngReg), Pre_ParamFRefIdeal m →
    θ_run (Cert.ParamFRefIdeal.defs (F := Ideal)) (onTc (τ := Cert.ParamFRefIdeal.τ) (Cert.ParamFRefIdeal.main (F := Ideal))) ⟨m, fun _ => 0, g⟩ (fun r => (∀ c : Dev Cert.ParamFRefIdeal.nD,
      r.2.mem ((c.tc : Thread Cert.ParamFRefIdeal.nD Cert.ParamFRefIdeal.τ).loc Cert.ParamFRefIdeal.main_arg0) = m ((c.tc : Thread Cert.ParamFRefIdeal.nD Cert.ParamFRefIdeal.τ).loc Cert.ParamFRefIdeal.main_arg0)
      ∧ r.2.mem ((c.tc : Thread Cert.ParamFRefIdeal.nD Cert.ParamFRefIdeal.τ).loc Cert.ParamFRefIdeal.main_arg1) = m ((c.tc : Thread Cert.ParamFRefIdeal.nD Cert.ParamFRefIdeal.τ).loc Cert.ParamFRefIdeal.main_arg1)
      ∧ r.2.mem ((c.tc : Thread Cert.ParamFRefIdeal.nD Cert.ParamFRefIdeal.τ).loc Cert.ParamFRefIdeal.main_arg2) = m ((c.tc : Thread Cert.ParamFRefIdeal.nD Cert.ParamFRefIdeal.τ).loc Cert.ParamFRefIdeal.main_arg2)
      ∧ r.2.mem ((c.tc : Thread Cert.ParamFRefIdeal.nD Cert.ParamFRefIdeal.τ).loc Cert.ParamFRefIdeal.main_arg3) = m ((c.tc : Thread Cert.ParamFRefIdeal.nD Cert.ParamFRefIdeal.τ).loc Cert.ParamFRefIdeal.main_arg3))
      ∧ r.2.sem = fun _ => 0)

def quiescent_ParamB [hParamB : Cert.ParamB.Facts] : Prop :=
  ∀ (m : (ℓ : Loc Cert.ParamB.nD Cert.ParamB.τ Cert.ParamB.sig) → Buf (Elt Bits) ℓ) (g : Dev Cert.ParamB.nD → PrngReg), Pre_ParamB m →
    θ_run (Cert.ParamB.defs (F := Bits)) (onTc (τ := Cert.ParamB.τ) (Cert.ParamB.main (F := Bits))) ⟨m, fun _ => 0, g⟩ (fun r => (∀ c : Dev Cert.ParamB.nD,
      r.2.mem ((c.tc : Thread Cert.ParamB.nD Cert.ParamB.τ).loc Cert.ParamB.main_arg0) = m ((c.tc : Thread Cert.ParamB.nD Cert.ParamB.τ).loc Cert.ParamB.main_arg0)
      ∧ r.2.mem ((c.tc : Thread Cert.ParamB.nD Cert.ParamB.τ).loc Cert.ParamB.main_arg1) = m ((c.tc : Thread Cert.ParamB.nD Cert.ParamB.τ).loc Cert.ParamB.main_arg1)
      ∧ r.2.mem ((c.tc : Thread Cert.ParamB.nD Cert.ParamB.τ).loc Cert.ParamB.main_arg2) = m ((c.tc : Thread Cert.ParamB.nD Cert.ParamB.τ).loc Cert.ParamB.main_arg2)
      ∧ r.2.mem ((c.tc : Thread Cert.ParamB.nD Cert.ParamB.τ).loc Cert.ParamB.main_arg3) = m ((c.tc : Thread Cert.ParamB.nD Cert.ParamB.τ).loc Cert.ParamB.main_arg3))
      ∧ r.2.sem = fun _ => 0)

def quiescent_ParamBIdeal [hParamBIdeal : Cert.ParamBIdeal.Facts] : Prop :=
  ∀ (m : (ℓ : Loc Cert.ParamBIdeal.nD Cert.ParamBIdeal.τ Cert.ParamBIdeal.sig) → Buf (Elt Ideal) ℓ) (g : Dev Cert.ParamBIdeal.nD → PrngReg), Pre_ParamBIdeal m →
    θ_run (Cert.ParamBIdeal.defs (F := Ideal)) (onTc (τ := Cert.ParamBIdeal.τ) (Cert.ParamBIdeal.main (F := Ideal))) ⟨m, fun _ => 0, g⟩ (fun r => (∀ c : Dev Cert.ParamBIdeal.nD,
      r.2.mem ((c.tc : Thread Cert.ParamBIdeal.nD Cert.ParamBIdeal.τ).loc Cert.ParamBIdeal.main_arg0) = m ((c.tc : Thread Cert.ParamBIdeal.nD Cert.ParamBIdeal.τ).loc Cert.ParamBIdeal.main_arg0)
      ∧ r.2.mem ((c.tc : Thread Cert.ParamBIdeal.nD Cert.ParamBIdeal.τ).loc Cert.ParamBIdeal.main_arg1) = m ((c.tc : Thread Cert.ParamBIdeal.nD Cert.ParamBIdeal.τ).loc Cert.ParamBIdeal.main_arg1)
      ∧ r.2.mem ((c.tc : Thread Cert.ParamBIdeal.nD Cert.ParamBIdeal.τ).loc Cert.ParamBIdeal.main_arg2) = m ((c.tc : Thread Cert.ParamBIdeal.nD Cert.ParamBIdeal.τ).loc Cert.ParamBIdeal.main_arg2)
      ∧ r.2.mem ((c.tc : Thread Cert.ParamBIdeal.nD Cert.ParamBIdeal.τ).loc Cert.ParamBIdeal.main_arg3) = m ((c.tc : Thread Cert.ParamBIdeal.nD Cert.ParamBIdeal.τ).loc Cert.ParamBIdeal.main_arg3))
      ∧ r.2.sem = fun _ => 0)

def quiescent_ParamBRefIdeal [hParamBRefIdeal : Cert.ParamBRefIdeal.Facts] : Prop :=
  ∀ (m : (ℓ : Loc Cert.ParamBRefIdeal.nD Cert.ParamBRefIdeal.τ Cert.ParamBRefIdeal.sig) → Buf (Elt Ideal) ℓ) (g : Dev Cert.ParamBRefIdeal.nD → PrngReg), Pre_ParamBRefIdeal m →
    θ_run (Cert.ParamBRefIdeal.defs (F := Ideal)) (onTc (τ := Cert.ParamBRefIdeal.τ) (Cert.ParamBRefIdeal.main (F := Ideal))) ⟨m, fun _ => 0, g⟩ (fun r => (∀ c : Dev Cert.ParamBRefIdeal.nD,
      r.2.mem ((c.tc : Thread Cert.ParamBRefIdeal.nD Cert.ParamBRefIdeal.τ).loc Cert.ParamBRefIdeal.main_arg0) = m ((c.tc : Thread Cert.ParamBRefIdeal.nD Cert.ParamBRefIdeal.τ).loc Cert.ParamBRefIdeal.main_arg0)
      ∧ r.2.mem ((c.tc : Thread Cert.ParamBRefIdeal.nD Cert.ParamBRefIdeal.τ).loc Cert.ParamBRefIdeal.main_arg1) = m ((c.tc : Thread Cert.ParamBRefIdeal.nD Cert.ParamBRefIdeal.τ).loc Cert.ParamBRefIdeal.main_arg1)
      ∧ r.2.mem ((c.tc : Thread Cert.ParamBRefIdeal.nD Cert.ParamBRefIdeal.τ).loc Cert.ParamBRefIdeal.main_arg2) = m ((c.tc : Thread Cert.ParamBRefIdeal.nD Cert.ParamBRefIdeal.τ).loc Cert.ParamBRefIdeal.main_arg2)
      ∧ r.2.mem ((c.tc : Thread Cert.ParamBRefIdeal.nD Cert.ParamBRefIdeal.τ).loc Cert.ParamBRefIdeal.main_arg3) = m ((c.tc : Thread Cert.ParamBRefIdeal.nD Cert.ParamBRefIdeal.τ).loc Cert.ParamBRefIdeal.main_arg3))
      ∧ r.2.sem = fun _ => 0)

def quiescent_Skip [hSkip : Cert.Skip.Facts] : Prop :=
  ∀ (m : (ℓ : Loc Cert.Skip.nD Cert.Skip.τ Cert.Skip.sig) → Buf (Elt Bits) ℓ) (g : Dev Cert.Skip.nD → PrngReg), Pre_Skip m →
    θ_run (Cert.Skip.defs (F := Bits)) (onTc (τ := Cert.Skip.τ) (Cert.Skip.main (F := Bits))) ⟨m, fun _ => 0, g⟩ (fun r => (∀ c : Dev Cert.Skip.nD,
      r.2.mem ((c.tc : Thread Cert.Skip.nD Cert.Skip.τ).loc Cert.Skip.main_arg0) = m ((c.tc : Thread Cert.Skip.nD Cert.Skip.τ).loc Cert.Skip.main_arg0)
      ∧ r.2.mem ((c.tc : Thread Cert.Skip.nD Cert.Skip.τ).loc Cert.Skip.main_arg1) = m ((c.tc : Thread Cert.Skip.nD Cert.Skip.τ).loc Cert.Skip.main_arg1)
      ∧ r.2.mem ((c.tc : Thread Cert.Skip.nD Cert.Skip.τ).loc Cert.Skip.main_arg2) = m ((c.tc : Thread Cert.Skip.nD Cert.Skip.τ).loc Cert.Skip.main_arg2)
      ∧ r.2.mem ((c.tc : Thread Cert.Skip.nD Cert.Skip.τ).loc Cert.Skip.main_arg3) = m ((c.tc : Thread Cert.Skip.nD Cert.Skip.τ).loc Cert.Skip.main_arg3)
      ∧ r.2.mem ((c.tc : Thread Cert.Skip.nD Cert.Skip.τ).loc Cert.Skip.main_arg4) = m ((c.tc : Thread Cert.Skip.nD Cert.Skip.τ).loc Cert.Skip.main_arg4))
      ∧ r.2.sem = fun _ => 0)

def quiescent_SkipIdeal [hSkipIdeal : Cert.SkipIdeal.Facts] : Prop :=
  ∀ (m : (ℓ : Loc Cert.SkipIdeal.nD Cert.SkipIdeal.τ Cert.SkipIdeal.sig) → Buf (Elt Ideal) ℓ) (g : Dev Cert.SkipIdeal.nD → PrngReg), Pre_SkipIdeal m →
    θ_run (Cert.SkipIdeal.defs (F := Ideal)) (onTc (τ := Cert.SkipIdeal.τ) (Cert.SkipIdeal.main (F := Ideal))) ⟨m, fun _ => 0, g⟩ (fun r => (∀ c : Dev Cert.SkipIdeal.nD,
      r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
      ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
      ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
      ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3)
      ∧ r.2.mem ((c.tc : Thread Cert.SkipIdeal.nD Cert.SkipIdeal.τ).loc Cert.SkipIdeal.main_arg4) = m ((c.tc : Thread Cert.SkipIdeal.nD Cert.SkipIdeal.τ).loc Cert.SkipIdeal.main_arg4))
      ∧ r.2.sem = fun _ => 0)

def quiescent_SkipRefIdeal [hSkipRefIdeal : Cert.SkipRefIdeal.Facts] : Prop :=
  ∀ (m : (ℓ : Loc Cert.SkipRefIdeal.nD Cert.SkipRefIdeal.τ Cert.SkipRefIdeal.sig) → Buf (Elt Ideal) ℓ) (g : Dev Cert.SkipRefIdeal.nD → PrngReg), Pre_SkipRefIdeal m →
    θ_run (Cert.SkipRefIdeal.defs (F := Ideal)) (onTc (τ := Cert.SkipRefIdeal.τ) (Cert.SkipRefIdeal.main (F := Ideal))) ⟨m, fun _ => 0, g⟩ (fun r => (∀ c : Dev Cert.SkipRefIdeal.nD,
      r.2.mem ((c.tc : Thread Cert.SkipRefIdeal.nD Cert.SkipRefIdeal.τ).loc Cert.SkipRefIdeal.main_arg0) = m ((c.tc : Thread Cert.SkipRefIdeal.nD Cert.SkipRefIdeal.τ).loc Cert.SkipRefIdeal.main_arg0)
      ∧ r.2.mem ((c.tc : Thread Cert.SkipRefIdeal.nD Cert.SkipRefIdeal.τ).loc Cert.SkipRefIdeal.main_arg1) = m ((c.tc : Thread Cert.SkipRefIdeal.nD Cert.SkipRefIdeal.τ).loc Cert.SkipRefIdeal.main_arg1)
      ∧ r.2.mem ((c.tc : Thread Cert.SkipRefIdeal.nD Cert.SkipRefIdeal.τ).loc Cert.SkipRefIdeal.main_arg2) = m ((c.tc : Thread Cert.SkipRefIdeal.nD Cert.SkipRefIdeal.τ).loc Cert.SkipRefIdeal.main_arg2)
      ∧ r.2.mem ((c.tc : Thread Cert.SkipRefIdeal.nD Cert.SkipRefIdeal.τ).loc Cert.SkipRefIdeal.main_arg3) = m ((c.tc : Thread Cert.SkipRefIdeal.nD Cert.SkipRefIdeal.τ).loc Cert.SkipRefIdeal.main_arg3)
      ∧ r.2.mem ((c.tc : Thread Cert.SkipRefIdeal.nD Cert.SkipRefIdeal.τ).loc Cert.SkipRefIdeal.main_arg4) = m ((c.tc : Thread Cert.SkipRefIdeal.nD Cert.SkipRefIdeal.τ).loc Cert.SkipRefIdeal.main_arg4))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_AdamSq [hAdamSq : Cert.AdamSq.Facts] : Prop :=
  ∀ (m : (ℓ : Loc Cert.AdamSq.nD Cert.AdamSq.τ Cert.AdamSq.sig) → Buf (Elt Bits) ℓ) (g : Dev Cert.AdamSq.nD → PrngReg), Pre_AdamSq m →
    θ_run (Cert.AdamSq.defs (F := Bits)) (onTc (τ := Cert.AdamSq.τ) (Cert.AdamSq.main (F := Bits))) ⟨m, fun _ => 0, g⟩ (fun r => (∀ c : Dev Cert.AdamSq.nD,
      r.2.mem ((c.tc : Thread Cert.AdamSq.nD Cert.AdamSq.τ).loc Cert.AdamSq.main_arg0) = m ((c.tc : Thread Cert.AdamSq.nD Cert.AdamSq.τ).loc Cert.AdamSq.main_arg0)
      ∧ r.2.mem ((c.tc : Thread Cert.AdamSq.nD Cert.AdamSq.τ).loc Cert.AdamSq.main_arg1) = m ((c.tc : Thread Cert.AdamSq.nD Cert.AdamSq.τ).loc Cert.AdamSq.main_arg1)
      ∧ r.2.mem ((c.tc : Thread Cert.AdamSq.nD Cert.AdamSq.τ).loc Cert.AdamSq.main_arg2) = m ((c.tc : Thread Cert.AdamSq.nD Cert.AdamSq.τ).loc Cert.AdamSq.main_arg2)
      ∧ r.2.mem ((c.tc : Thread Cert.AdamSq.nD Cert.AdamSq.τ).loc Cert.AdamSq.main_arg3) = m ((c.tc : Thread Cert.AdamSq.nD Cert.AdamSq.τ).loc Cert.AdamSq.main_arg3))
      ∧ r.2.sem = fun _ => 0)

def quiescent_AdamSqIdeal [hAdamSqIdeal : Cert.AdamSqIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg), Pre_AdamSqIdeal m →
    θ_run (Cert.AdamSqIdeal.defs (F := Ideal)) (onTc (τ := Cert.AdamSqIdeal.τ) (Cert.AdamSqIdeal.main (F := Ideal))) ⟨m, fun _ => 0, g⟩ (fun r => (∀ c : Dev Cert.AdamSqIdeal.nD,
      r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
      ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
      ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
      ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ r.2.sem = fun _ => 0)

def quiescent_AdamSqRefIdeal [hAdamSqRefIdeal : Cert.AdamSqRefIdeal.Facts] : Prop :=
  ∀ (m : (ℓ : Loc Cert.AdamSqRefIdeal.nD Cert.AdamSqRefIdeal.τ Cert.AdamSqRefIdeal.sig) → Buf (Elt Ideal) ℓ) (g : Dev Cert.AdamSqRefIdeal.nD → PrngReg), Pre_AdamSqRefIdeal m →
    θ_run (Cert.AdamSqRefIdeal.defs (F := Ideal)) (onTc (τ := Cert.AdamSqRefIdeal.τ) (Cert.AdamSqRefIdeal.main (F := Ideal))) ⟨m, fun _ => 0, g⟩ (fun r => (∀ c : Dev Cert.AdamSqRefIdeal.nD,
      r.2.mem ((c.tc : Thread Cert.AdamSqRefIdeal.nD Cert.AdamSqRefIdeal.τ).loc Cert.AdamSqRefIdeal.main_arg0) = m ((c.tc : Thread Cert.AdamSqRefIdeal.nD Cert.AdamSqRefIdeal.τ).loc Cert.AdamSqRefIdeal.main_arg0)
      ∧ r.2.mem ((c.tc : Thread Cert.AdamSqRefIdeal.nD Cert.AdamSqRefIdeal.τ).loc Cert.AdamSqRefIdeal.main_arg1) = m ((c.tc : Thread Cert.AdamSqRefIdeal.nD Cert.AdamSqRefIdeal.τ).loc Cert.AdamSqRefIdeal.main_arg1)
      ∧ r.2.mem ((c.tc : Thread Cert.AdamSqRefIdeal.nD Cert.AdamSqRefIdeal.τ).loc Cert.AdamSqRefIdeal.main_arg2) = m ((c.tc : Thread Cert.AdamSqRefIdeal.nD Cert.AdamSqRefIdeal.τ).loc Cert.AdamSqRefIdeal.main_arg2)
      ∧ r.2.mem ((c.tc : Thread Cert.AdamSqRefIdeal.nD Cert.AdamSqRefIdeal.τ).loc Cert.AdamSqRefIdeal.main_arg3) = m ((c.tc : Thread Cert.AdamSqRefIdeal.nD Cert.AdamSqRefIdeal.τ).loc Cert.AdamSqRefIdeal.main_arg3))
      ∧ r.2.sem = fun _ => 0)

def quiescent_AdamKv [hAdamKv : Cert.AdamKv.Facts] : Prop :=
  ∀ (m : (ℓ : Loc Cert.AdamKv.nD Cert.AdamKv.τ Cert.AdamKv.sig) → Buf (Elt Bits) ℓ) (g : Dev Cert.AdamKv.nD → PrngReg), Pre_AdamKv m →
    θ_run (Cert.AdamKv.defs (F := Bits)) (onTc (τ := Cert.AdamKv.τ) (Cert.AdamKv.main (F := Bits))) ⟨m, fun _ => 0, g⟩ (fun r => (∀ c : Dev Cert.AdamKv.nD,
      r.2.mem ((c.tc : Thread Cert.AdamKv.nD Cert.AdamKv.τ).loc Cert.AdamKv.main_arg0) = m ((c.tc : Thread Cert.AdamKv.nD Cert.AdamKv.τ).loc Cert.AdamKv.main_arg0)
      ∧ r.2.mem ((c.tc : Thread Cert.AdamKv.nD Cert.AdamKv.τ).loc Cert.AdamKv.main_arg1) = m ((c.tc : Thread Cert.AdamKv.nD Cert.AdamKv.τ).loc Cert.AdamKv.main_arg1)
      ∧ r.2.mem ((c.tc : Thread Cert.AdamKv.nD Cert.AdamKv.τ).loc Cert.AdamKv.main_arg2) = m ((c.tc : Thread Cert.AdamKv.nD Cert.AdamKv.τ).loc Cert.AdamKv.main_arg2)
      ∧ r.2.mem ((c.tc : Thread Cert.AdamKv.nD Cert.AdamKv.τ).loc Cert.AdamKv.main_arg3) = m ((c.tc : Thread Cert.AdamKv.nD Cert.AdamKv.τ).loc Cert.AdamKv.main_arg3))
      ∧ r.2.sem = fun _ => 0)

def quiescent_AdamKvIdeal [hAdamKvIdeal : Cert.AdamKvIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg), Pre_AdamKvIdeal m →
    θ_run (Cert.AdamKvIdeal.defs (F := Ideal)) (onTc (τ := Cert.AdamKvIdeal.τ) (Cert.AdamKvIdeal.main (F := Ideal))) ⟨m, fun _ => 0, g⟩ (fun r => (∀ c : Dev Cert.AdamKvIdeal.nD,
      r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
      ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
      ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
      ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ r.2.sem = fun _ => 0)

def quiescent_AdamKvRefIdeal [hAdamKvRefIdeal : Cert.AdamKvRefIdeal.Facts] : Prop :=
  ∀ (m : (ℓ : Loc Cert.AdamKvRefIdeal.nD Cert.AdamKvRefIdeal.τ Cert.AdamKvRefIdeal.sig) → Buf (Elt Ideal) ℓ) (g : Dev Cert.AdamKvRefIdeal.nD → PrngReg), Pre_AdamKvRefIdeal m →
    θ_run (Cert.AdamKvRefIdeal.defs (F := Ideal)) (onTc (τ := Cert.AdamKvRefIdeal.τ) (Cert.AdamKvRefIdeal.main (F := Ideal))) ⟨m, fun _ => 0, g⟩ (fun r => (∀ c : Dev Cert.AdamKvRefIdeal.nD,
      r.2.mem ((c.tc : Thread Cert.AdamKvRefIdeal.nD Cert.AdamKvRefIdeal.τ).loc Cert.AdamKvRefIdeal.main_arg0) = m ((c.tc : Thread Cert.AdamKvRefIdeal.nD Cert.AdamKvRefIdeal.τ).loc Cert.AdamKvRefIdeal.main_arg0)
      ∧ r.2.mem ((c.tc : Thread Cert.AdamKvRefIdeal.nD Cert.AdamKvRefIdeal.τ).loc Cert.AdamKvRefIdeal.main_arg1) = m ((c.tc : Thread Cert.AdamKvRefIdeal.nD Cert.AdamKvRefIdeal.τ).loc Cert.AdamKvRefIdeal.main_arg1)
      ∧ r.2.mem ((c.tc : Thread Cert.AdamKvRefIdeal.nD Cert.AdamKvRefIdeal.τ).loc Cert.AdamKvRefIdeal.main_arg2) = m ((c.tc : Thread Cert.AdamKvRefIdeal.nD Cert.AdamKvRefIdeal.τ).loc Cert.AdamKvRefIdeal.main_arg2)
      ∧ r.2.mem ((c.tc : Thread Cert.AdamKvRefIdeal.nD Cert.AdamKvRefIdeal.τ).loc Cert.AdamKvRefIdeal.main_arg3) = m ((c.tc : Thread Cert.AdamKvRefIdeal.nD Cert.AdamKvRefIdeal.τ).loc Cert.AdamKvRefIdeal.main_arg3))
      ∧ r.2.sem = fun _ => 0)

def quiescent_AdamP [hAdamP : Cert.AdamP.Facts] : Prop :=
  ∀ (m : (ℓ : Loc Cert.AdamP.nD Cert.AdamP.τ Cert.AdamP.sig) → Buf (Elt Bits) ℓ) (g : Dev Cert.AdamP.nD → PrngReg), Pre_AdamP m →
    θ_run (Cert.AdamP.defs (F := Bits)) (onTc (τ := Cert.AdamP.τ) (Cert.AdamP.main (F := Bits))) ⟨m, fun _ => 0, g⟩ (fun r => (∀ c : Dev Cert.AdamP.nD,
      r.2.mem ((c.tc : Thread Cert.AdamP.nD Cert.AdamP.τ).loc Cert.AdamP.main_arg0) = m ((c.tc : Thread Cert.AdamP.nD Cert.AdamP.τ).loc Cert.AdamP.main_arg0)
      ∧ r.2.mem ((c.tc : Thread Cert.AdamP.nD Cert.AdamP.τ).loc Cert.AdamP.main_arg1) = m ((c.tc : Thread Cert.AdamP.nD Cert.AdamP.τ).loc Cert.AdamP.main_arg1)
      ∧ r.2.mem ((c.tc : Thread Cert.AdamP.nD Cert.AdamP.τ).loc Cert.AdamP.main_arg2) = m ((c.tc : Thread Cert.AdamP.nD Cert.AdamP.τ).loc Cert.AdamP.main_arg2)
      ∧ r.2.mem ((c.tc : Thread Cert.AdamP.nD Cert.AdamP.τ).loc Cert.AdamP.main_arg3) = m ((c.tc : Thread Cert.AdamP.nD Cert.AdamP.τ).loc Cert.AdamP.main_arg3))
      ∧ r.2.sem = fun _ => 0)

def quiescent_AdamPIdeal [hAdamPIdeal : Cert.AdamPIdeal.Facts] : Prop :=
  ∀ (m : (ℓ : Loc Cert.AdamPIdeal.nD Cert.AdamPIdeal.τ Cert.AdamPIdeal.sig) → Buf (Elt Ideal) ℓ) (g : Dev Cert.AdamPIdeal.nD → PrngReg), Pre_AdamPIdeal m →
    θ_run (Cert.AdamPIdeal.defs (F := Ideal)) (onTc (τ := Cert.AdamPIdeal.τ) (Cert.AdamPIdeal.main (F := Ideal))) ⟨m, fun _ => 0, g⟩ (fun r => (∀ c : Dev Cert.AdamPIdeal.nD,
      r.2.mem ((c.tc : Thread Cert.AdamPIdeal.nD Cert.AdamPIdeal.τ).loc Cert.AdamPIdeal.main_arg0) = m ((c.tc : Thread Cert.AdamPIdeal.nD Cert.AdamPIdeal.τ).loc Cert.AdamPIdeal.main_arg0)
      ∧ r.2.mem ((c.tc : Thread Cert.AdamPIdeal.nD Cert.AdamPIdeal.τ).loc Cert.AdamPIdeal.main_arg1) = m ((c.tc : Thread Cert.AdamPIdeal.nD Cert.AdamPIdeal.τ).loc Cert.AdamPIdeal.main_arg1)
      ∧ r.2.mem ((c.tc : Thread Cert.AdamPIdeal.nD Cert.AdamPIdeal.τ).loc Cert.AdamPIdeal.main_arg2) = m ((c.tc : Thread Cert.AdamPIdeal.nD Cert.AdamPIdeal.τ).loc Cert.AdamPIdeal.main_arg2)
      ∧ r.2.mem ((c.tc : Thread Cert.AdamPIdeal.nD Cert.AdamPIdeal.τ).loc Cert.AdamPIdeal.main_arg3) = m ((c.tc : Thread Cert.AdamPIdeal.nD Cert.AdamPIdeal.τ).loc Cert.AdamPIdeal.main_arg3))
      ∧ r.2.sem = fun _ => 0)

def quiescent_AdamPRefIdeal [hAdamPRefIdeal : Cert.AdamPRefIdeal.Facts] : Prop :=
  ∀ (m : (ℓ : Loc Cert.AdamPRefIdeal.nD Cert.AdamPRefIdeal.τ Cert.AdamPRefIdeal.sig) → Buf (Elt Ideal) ℓ) (g : Dev Cert.AdamPRefIdeal.nD → PrngReg), Pre_AdamPRefIdeal m →
    θ_run (Cert.AdamPRefIdeal.defs (F := Ideal)) (onTc (τ := Cert.AdamPRefIdeal.τ) (Cert.AdamPRefIdeal.main (F := Ideal))) ⟨m, fun _ => 0, g⟩ (fun r => (∀ c : Dev Cert.AdamPRefIdeal.nD,
      r.2.mem ((c.tc : Thread Cert.AdamPRefIdeal.nD Cert.AdamPRefIdeal.τ).loc Cert.AdamPRefIdeal.main_arg0) = m ((c.tc : Thread Cert.AdamPRefIdeal.nD Cert.AdamPRefIdeal.τ).loc Cert.AdamPRefIdeal.main_arg0)
      ∧ r.2.mem ((c.tc : Thread Cert.AdamPRefIdeal.nD Cert.AdamPRefIdeal.τ).loc Cert.AdamPRefIdeal.main_arg1) = m ((c.tc : Thread Cert.AdamPRefIdeal.nD Cert.AdamPRefIdeal.τ).loc Cert.AdamPRefIdeal.main_arg1)
      ∧ r.2.mem ((c.tc : Thread Cert.AdamPRefIdeal.nD Cert.AdamPRefIdeal.τ).loc Cert.AdamPRefIdeal.main_arg2) = m ((c.tc : Thread Cert.AdamPRefIdeal.nD Cert.AdamPRefIdeal.τ).loc Cert.AdamPRefIdeal.main_arg2)
      ∧ r.2.mem ((c.tc : Thread Cert.AdamPRefIdeal.nD Cert.AdamPRefIdeal.τ).loc Cert.AdamPRefIdeal.main_arg3) = m ((c.tc : Thread Cert.AdamPRefIdeal.nD Cert.AdamPRefIdeal.τ).loc Cert.AdamPRefIdeal.main_arg3))
      ∧ r.2.sem = fun _ => 0)

def quiescent_AdamV [hAdamV : Cert.AdamV.Facts] : Prop :=
  ∀ (m : (ℓ : Loc Cert.AdamV.nD Cert.AdamV.τ Cert.AdamV.sig) → Buf (Elt Bits) ℓ) (g : Dev Cert.AdamV.nD → PrngReg), Pre_AdamV m →
    θ_run (Cert.AdamV.defs (F := Bits)) (onTc (τ := Cert.AdamV.τ) (Cert.AdamV.main (F := Bits))) ⟨m, fun _ => 0, g⟩ (fun r => (∀ c : Dev Cert.AdamV.nD,
      r.2.mem ((c.tc : Thread Cert.AdamV.nD Cert.AdamV.τ).loc Cert.AdamV.main_arg0) = m ((c.tc : Thread Cert.AdamV.nD Cert.AdamV.τ).loc Cert.AdamV.main_arg0)
      ∧ r.2.mem ((c.tc : Thread Cert.AdamV.nD Cert.AdamV.τ).loc Cert.AdamV.main_arg1) = m ((c.tc : Thread Cert.AdamV.nD Cert.AdamV.τ).loc Cert.AdamV.main_arg1)
      ∧ r.2.mem ((c.tc : Thread Cert.AdamV.nD Cert.AdamV.τ).loc Cert.AdamV.main_arg2) = m ((c.tc : Thread Cert.AdamV.nD Cert.AdamV.τ).loc Cert.AdamV.main_arg2)
      ∧ r.2.mem ((c.tc : Thread Cert.AdamV.nD Cert.AdamV.τ).loc Cert.AdamV.main_arg3) = m ((c.tc : Thread Cert.AdamV.nD Cert.AdamV.τ).loc Cert.AdamV.main_arg3))
      ∧ r.2.sem = fun _ => 0)

def quiescent_AdamVIdeal [hAdamVIdeal : Cert.AdamVIdeal.Facts] : Prop :=
  ∀ (m : (ℓ : Loc Cert.AdamVIdeal.nD Cert.AdamVIdeal.τ Cert.AdamVIdeal.sig) → Buf (Elt Ideal) ℓ) (g : Dev Cert.AdamVIdeal.nD → PrngReg), Pre_AdamVIdeal m →
    θ_run (Cert.AdamVIdeal.defs (F := Ideal)) (onTc (τ := Cert.AdamVIdeal.τ) (Cert.AdamVIdeal.main (F := Ideal))) ⟨m, fun _ => 0, g⟩ (fun r => (∀ c : Dev Cert.AdamVIdeal.nD,
      r.2.mem ((c.tc : Thread Cert.AdamVIdeal.nD Cert.AdamVIdeal.τ).loc Cert.AdamVIdeal.main_arg0) = m ((c.tc : Thread Cert.AdamVIdeal.nD Cert.AdamVIdeal.τ).loc Cert.AdamVIdeal.main_arg0)
      ∧ r.2.mem ((c.tc : Thread Cert.AdamVIdeal.nD Cert.AdamVIdeal.τ).loc Cert.AdamVIdeal.main_arg1) = m ((c.tc : Thread Cert.AdamVIdeal.nD Cert.AdamVIdeal.τ).loc Cert.AdamVIdeal.main_arg1)
      ∧ r.2.mem ((c.tc : Thread Cert.AdamVIdeal.nD Cert.AdamVIdeal.τ).loc Cert.AdamVIdeal.main_arg2) = m ((c.tc : Thread Cert.AdamVIdeal.nD Cert.AdamVIdeal.τ).loc Cert.AdamVIdeal.main_arg2)
      ∧ r.2.mem ((c.tc : Thread Cert.AdamVIdeal.nD Cert.AdamVIdeal.τ).loc Cert.AdamVIdeal.main_arg3) = m ((c.tc : Thread Cert.AdamVIdeal.nD Cert.AdamVIdeal.τ).loc Cert.AdamVIdeal.main_arg3))
      ∧ r.2.sem = fun _ => 0)

def quiescent_AdamVRefIdeal [hAdamVRefIdeal : Cert.AdamVRefIdeal.Facts] : Prop :=
  ∀ (m : (ℓ : Loc Cert.AdamVRefIdeal.nD Cert.AdamVRefIdeal.τ Cert.AdamVRefIdeal.sig) → Buf (Elt Ideal) ℓ) (g : Dev Cert.AdamVRefIdeal.nD → PrngReg), Pre_AdamVRefIdeal m →
    θ_run (Cert.AdamVRefIdeal.defs (F := Ideal)) (onTc (τ := Cert.AdamVRefIdeal.τ) (Cert.AdamVRefIdeal.main (F := Ideal))) ⟨m, fun _ => 0, g⟩ (fun r => (∀ c : Dev Cert.AdamVRefIdeal.nD,
      r.2.mem ((c.tc : Thread Cert.AdamVRefIdeal.nD Cert.AdamVRefIdeal.τ).loc Cert.AdamVRefIdeal.main_arg0) = m ((c.tc : Thread Cert.AdamVRefIdeal.nD Cert.AdamVRefIdeal.τ).loc Cert.AdamVRefIdeal.main_arg0)
      ∧ r.2.mem ((c.tc : Thread Cert.AdamVRefIdeal.nD Cert.AdamVRefIdeal.τ).loc Cert.AdamVRefIdeal.main_arg1) = m ((c.tc : Thread Cert.AdamVRefIdeal.nD Cert.AdamVRefIdeal.τ).loc Cert.AdamVRefIdeal.main_arg1)
      ∧ r.2.mem ((c.tc : Thread Cert.AdamVRefIdeal.nD Cert.AdamVRefIdeal.τ).loc Cert.AdamVRefIdeal.main_arg2) = m ((c.tc : Thread Cert.AdamVRefIdeal.nD Cert.AdamVRefIdeal.τ).loc Cert.AdamVRefIdeal.main_arg2)
      ∧ r.2.mem ((c.tc : Thread Cert.AdamVRefIdeal.nD Cert.AdamVRefIdeal.τ).loc Cert.AdamVRefIdeal.main_arg3) = m ((c.tc : Thread Cert.AdamVRefIdeal.nD Cert.AdamVRefIdeal.τ).loc Cert.AdamVRefIdeal.main_arg3))
      ∧ r.2.sem = fun _ => 0)

def quiescent_AdamG [hAdamG : Cert.AdamG.Facts] : Prop :=
  ∀ (m : (ℓ : Loc Cert.AdamG.nD Cert.AdamG.τ Cert.AdamG.sig) → Buf (Elt Bits) ℓ) (g : Dev Cert.AdamG.nD → PrngReg), Pre_AdamG m →
    θ_run (Cert.AdamG.defs (F := Bits)) (onTc (τ := Cert.AdamG.τ) (Cert.AdamG.main (F := Bits))) ⟨m, fun _ => 0, g⟩ (fun r => (∀ c : Dev Cert.AdamG.nD,
      r.2.mem ((c.tc : Thread Cert.AdamG.nD Cert.AdamG.τ).loc Cert.AdamG.main_arg0) = m ((c.tc : Thread Cert.AdamG.nD Cert.AdamG.τ).loc Cert.AdamG.main_arg0)
      ∧ r.2.mem ((c.tc : Thread Cert.AdamG.nD Cert.AdamG.τ).loc Cert.AdamG.main_arg1) = m ((c.tc : Thread Cert.AdamG.nD Cert.AdamG.τ).loc Cert.AdamG.main_arg1)
      ∧ r.2.mem ((c.tc : Thread Cert.AdamG.nD Cert.AdamG.τ).loc Cert.AdamG.main_arg2) = m ((c.tc : Thread Cert.AdamG.nD Cert.AdamG.τ).loc Cert.AdamG.main_arg2)
      ∧ r.2.mem ((c.tc : Thread Cert.AdamG.nD Cert.AdamG.τ).loc Cert.AdamG.main_arg3) = m ((c.tc : Thread Cert.AdamG.nD Cert.AdamG.τ).loc Cert.AdamG.main_arg3))
      ∧ r.2.sem = fun _ => 0)

def quiescent_AdamGIdeal [hAdamGIdeal : Cert.AdamGIdeal.Facts] : Prop :=
  ∀ (m : (ℓ : Loc Cert.AdamGIdeal.nD Cert.AdamGIdeal.τ Cert.AdamGIdeal.sig) → Buf (Elt Ideal) ℓ) (g : Dev Cert.AdamGIdeal.nD → PrngReg), Pre_AdamGIdeal m →
    θ_run (Cert.AdamGIdeal.defs (F := Ideal)) (onTc (τ := Cert.AdamGIdeal.τ) (Cert.AdamGIdeal.main (F := Ideal))) ⟨m, fun _ => 0, g⟩ (fun r => (∀ c : Dev Cert.AdamGIdeal.nD,
      r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
      ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
      ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
      ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ r.2.sem = fun _ => 0)

def quiescent_AdamGRefIdeal [hAdamGRefIdeal : Cert.AdamGRefIdeal.Facts] : Prop :=
  ∀ (m : (ℓ : Loc Cert.AdamGRefIdeal.nD Cert.AdamGRefIdeal.τ Cert.AdamGRefIdeal.sig) → Buf (Elt Ideal) ℓ) (g : Dev Cert.AdamGRefIdeal.nD → PrngReg), Pre_AdamGRefIdeal m →
    θ_run (Cert.AdamGRefIdeal.defs (F := Ideal)) (onTc (τ := Cert.AdamGRefIdeal.τ) (Cert.AdamGRefIdeal.main (F := Ideal))) ⟨m, fun _ => 0, g⟩ (fun r => (∀ c : Dev Cert.AdamGRefIdeal.nD,
      r.2.mem ((c.tc : Thread Cert.AdamGRefIdeal.nD Cert.AdamGRefIdeal.τ).loc Cert.AdamGRefIdeal.main_arg0) = m ((c.tc : Thread Cert.AdamGRefIdeal.nD Cert.AdamGRefIdeal.τ).loc Cert.AdamGRefIdeal.main_arg0)
      ∧ r.2.mem ((c.tc : Thread Cert.AdamGRefIdeal.nD Cert.AdamGRefIdeal.τ).loc Cert.AdamGRefIdeal.main_arg1) = m ((c.tc : Thread Cert.AdamGRefIdeal.nD Cert.AdamGRefIdeal.τ).loc Cert.AdamGRefIdeal.main_arg1)
      ∧ r.2.mem ((c.tc : Thread Cert.AdamGRefIdeal.nD Cert.AdamGRefIdeal.τ).loc Cert.AdamGRefIdeal.main_arg2) = m ((c.tc : Thread Cert.AdamGRefIdeal.nD Cert.AdamGRefIdeal.τ).loc Cert.AdamGRefIdeal.main_arg2)
      ∧ r.2.mem ((c.tc : Thread Cert.AdamGRefIdeal.nD Cert.AdamGRefIdeal.τ).loc Cert.AdamGRefIdeal.main_arg3) = m ((c.tc : Thread Cert.AdamGRefIdeal.nD Cert.AdamGRefIdeal.τ).loc Cert.AdamGRefIdeal.main_arg3))
      ∧ r.2.sem = fun _ => 0)

def quiescent_MixDx [hMixDx : Cert.MixDx.Facts] : Prop :=
  ∀ (m : (ℓ : Loc Cert.MixDx.nD Cert.MixDx.τ Cert.MixDx.sig) → Buf (Elt Bits) ℓ) (g : Dev Cert.MixDx.nD → PrngReg), Pre_MixDx m →
    θ_run (Cert.MixDx.defs (F := Bits)) (onTc (τ := Cert.MixDx.τ) (Cert.MixDx.main (F := Bits))) ⟨m, fun _ => 0, g⟩ (fun r => (∀ c : Dev Cert.MixDx.nD,
      r.2.mem ((c.tc : Thread Cert.MixDx.nD Cert.MixDx.τ).loc Cert.MixDx.main_arg0) = m ((c.tc : Thread Cert.MixDx.nD Cert.MixDx.τ).loc Cert.MixDx.main_arg0)
      ∧ r.2.mem ((c.tc : Thread Cert.MixDx.nD Cert.MixDx.τ).loc Cert.MixDx.main_arg1) = m ((c.tc : Thread Cert.MixDx.nD Cert.MixDx.τ).loc Cert.MixDx.main_arg1)
      ∧ r.2.mem ((c.tc : Thread Cert.MixDx.nD Cert.MixDx.τ).loc Cert.MixDx.main_arg2) = m ((c.tc : Thread Cert.MixDx.nD Cert.MixDx.τ).loc Cert.MixDx.main_arg2)
      ∧ r.2.mem ((c.tc : Thread Cert.MixDx.nD Cert.MixDx.τ).loc Cert.MixDx.main_arg3) = m ((c.tc : Thread Cert.MixDx.nD Cert.MixDx.τ).loc Cert.MixDx.main_arg3)
      ∧ r.2.mem ((c.tc : Thread Cert.MixDx.nD Cert.MixDx.τ).loc Cert.MixDx.main_arg4) = m ((c.tc : Thread Cert.MixDx.nD Cert.MixDx.τ).loc Cert.MixDx.main_arg4)
      ∧ r.2.mem ((c.tc : Thread Cert.MixDx.nD Cert.MixDx.τ).loc Cert.MixDx.main_arg5) = m ((c.tc : Thread Cert.MixDx.nD Cert.MixDx.τ).loc Cert.MixDx.main_arg5)
      ∧ r.2.mem ((c.tc : Thread Cert.MixDx.nD Cert.MixDx.τ).loc Cert.MixDx.main_arg6) = m ((c.tc : Thread Cert.MixDx.nD Cert.MixDx.τ).loc Cert.MixDx.main_arg6))
      ∧ r.2.sem = fun _ => 0)

def quiescent_MixDxIdeal [hMixDxIdeal : Cert.MixDxIdeal.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ r.2.sem = fun _ => 0)

def quiescent_MixDxIdeal_pre_finite_mixdx [hMixDxIdeal : Cert.MixDxIdeal.Facts] [hPre_finite_mixdx : Cert.Pre_finite_mixdx.Facts] : Prop :=
  ∀ (m : (ℓ : Loc Cert.MixDxIdeal.nD Cert.MixDxIdeal.τ Cert.MixDxIdeal.sig) → Buf (Elt Ideal) ℓ) (g : Dev Cert.MixDxIdeal.nD → PrngReg), Pre_MixDxIdeal_finite_mixdx m →
    θ_run (Cert.MixDxIdeal.defs (F := Ideal)) (onTc (τ := Cert.MixDxIdeal.τ) (Cert.MixDxIdeal.main (F := Ideal))) ⟨m, fun _ => 0, g⟩ (fun r => (∀ c : Dev Cert.MixDxIdeal.nD,
      r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
      ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
      ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
      ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
      ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
      ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
      ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ r.2.sem = fun _ => 0)

def quiescent_MixDxRefIdeal [hMixDxRefIdeal : Cert.MixDxRefIdeal.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5)
      ∧ r.2.mem ((c.tc : Thread Cert.MixDxRefIdeal.nD Cert.MixDxRefIdeal.τ).loc Cert.MixDxRefIdeal.main_arg6) = m ((c.tc : Thread Cert.MixDxRefIdeal.nD Cert.MixDxRefIdeal.τ).loc Cert.MixDxRefIdeal.main_arg6))
      ∧ r.2.sem = fun _ => 0)

def quiescent_MixDxRefIdeal_pre_finite_mixdx [hMixDxRefIdeal : Cert.MixDxRefIdeal.Facts] [hPre_finite_mixdx : Cert.Pre_finite_mixdx.Facts] : Prop :=
  ∀ (m : (ℓ : Loc Cert.MixDxRefIdeal.nD Cert.MixDxRefIdeal.τ Cert.MixDxRefIdeal.sig) → Buf (Elt Ideal) ℓ) (g : Dev Cert.MixDxRefIdeal.nD → PrngReg), Pre_MixDxRefIdeal_finite_mixdx m →
    θ_run (Cert.MixDxRefIdeal.defs (F := Ideal)) (onTc (τ := Cert.MixDxRefIdeal.τ) (Cert.MixDxRefIdeal.main (F := Ideal))) ⟨m, fun _ => 0, g⟩ (fun r => (∀ c : Dev Cert.MixDxRefIdeal.nD,
      r.2.mem ((c.tc : Thread Cert.MixDxRefIdeal.nD Cert.MixDxRefIdeal.τ).loc Cert.MixDxRefIdeal.main_arg0) = m ((c.tc : Thread Cert.MixDxRefIdeal.nD Cert.MixDxRefIdeal.τ).loc Cert.MixDxRefIdeal.main_arg0)
      ∧ r.2.mem ((c.tc : Thread Cert.MixDxRefIdeal.nD Cert.MixDxRefIdeal.τ).loc Cert.MixDxRefIdeal.main_arg1) = m ((c.tc : Thread Cert.MixDxRefIdeal.nD Cert.MixDxRefIdeal.τ).loc Cert.MixDxRefIdeal.main_arg1)
      ∧ r.2.mem ((c.tc : Thread Cert.MixDxRefIdeal.nD Cert.MixDxRefIdeal.τ).loc Cert.MixDxRefIdeal.main_arg2) = m ((c.tc : Thread Cert.MixDxRefIdeal.nD Cert.MixDxRefIdeal.τ).loc Cert.MixDxRefIdeal.main_arg2)
      ∧ r.2.mem ((c.tc : Thread Cert.MixDxRefIdeal.nD Cert.MixDxRefIdeal.τ).loc Cert.MixDxRefIdeal.main_arg3) = m ((c.tc : Thread Cert.MixDxRefIdeal.nD Cert.MixDxRefIdeal.τ).loc Cert.MixDxRefIdeal.main_arg3)
      ∧ r.2.mem ((c.tc : Thread Cert.MixDxRefIdeal.nD Cert.MixDxRefIdeal.τ).loc Cert.MixDxRefIdeal.main_arg4) = m ((c.tc : Thread Cert.MixDxRefIdeal.nD Cert.MixDxRefIdeal.τ).loc Cert.MixDxRefIdeal.main_arg4)
      ∧ r.2.mem ((c.tc : Thread Cert.MixDxRefIdeal.nD Cert.MixDxRefIdeal.τ).loc Cert.MixDxRefIdeal.main_arg5) = m ((c.tc : Thread Cert.MixDxRefIdeal.nD Cert.MixDxRefIdeal.τ).loc Cert.MixDxRefIdeal.main_arg5)
      ∧ r.2.mem ((c.tc : Thread Cert.MixDxRefIdeal.nD Cert.MixDxRefIdeal.τ).loc Cert.MixDxRefIdeal.main_arg6) = m ((c.tc : Thread Cert.MixDxRefIdeal.nD Cert.MixDxRefIdeal.τ).loc Cert.MixDxRefIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_MemN [hMemN : Cert.MemN.Facts] : Prop :=
  ∀ (m : (ℓ : Loc Cert.MemN.nD Cert.MemN.τ Cert.MemN.sig) → Buf (Elt Bits) ℓ) (g : Dev Cert.MemN.nD → PrngReg), Pre_MemN m →
    θ_run (Cert.MemN.defs (F := Bits)) (onTc (τ := Cert.MemN.τ) (Cert.MemN.main (F := Bits))) ⟨m, fun _ => 0, g⟩ (fun r => (∀ c : Dev Cert.MemN.nD,
      r.2.mem ((c.tc : Thread Cert.MemN.nD Cert.MemN.τ).loc Cert.MemN.main_arg0) = m ((c.tc : Thread Cert.MemN.nD Cert.MemN.τ).loc Cert.MemN.main_arg0)
      ∧ r.2.mem ((c.tc : Thread Cert.MemN.nD Cert.MemN.τ).loc Cert.MemN.main_arg1) = m ((c.tc : Thread Cert.MemN.nD Cert.MemN.τ).loc Cert.MemN.main_arg1))
      ∧ r.2.sem = fun _ => 0)

def quiescent_MemNIdeal [hMemNIdeal : Cert.MemNIdeal.Facts] : Prop :=
  ∀ (m : (ℓ : Loc Cert.MemNIdeal.nD Cert.MemNIdeal.τ Cert.MemNIdeal.sig) → Buf (Elt Ideal) ℓ) (g : Dev Cert.MemNIdeal.nD → PrngReg), Pre_MemNIdeal m →
    θ_run (Cert.MemNIdeal.defs (F := Ideal)) (onTc (τ := Cert.MemNIdeal.τ) (Cert.MemNIdeal.main (F := Ideal))) ⟨m, fun _ => 0, g⟩ (fun r => (∀ c : Dev Cert.MemNIdeal.nD,
      r.2.mem ((c.tc : Thread Cert.MemNIdeal.nD Cert.MemNIdeal.τ).loc Cert.MemNIdeal.main_arg0) = m ((c.tc : Thread Cert.MemNIdeal.nD Cert.MemNIdeal.τ).loc Cert.MemNIdeal.main_arg0)
      ∧ r.2.mem ((c.tc : Thread Cert.MemNIdeal.nD Cert.MemNIdeal.τ).loc Cert.MemNIdeal.main_arg1) = m ((c.tc : Thread Cert.MemNIdeal.nD Cert.MemNIdeal.τ).loc Cert.MemNIdeal.main_arg1))
      ∧ r.2.sem = fun _ => 0)

def quiescent_MemNRefIdeal [hMemNRefIdeal : Cert.MemNRefIdeal.Facts] : Prop :=
  ∀ (m : (ℓ : Loc Cert.MemNRefIdeal.nD Cert.MemNRefIdeal.τ Cert.MemNRefIdeal.sig) → Buf (Elt Ideal) ℓ) (g : Dev Cert.MemNRefIdeal.nD → PrngReg), Pre_MemNRefIdeal m →
    θ_run (Cert.MemNRefIdeal.defs (F := Ideal)) (onTc (τ := Cert.MemNRefIdeal.τ) (Cert.MemNRefIdeal.main (F := Ideal))) ⟨m, fun _ => 0, g⟩ (fun r => (∀ c : Dev Cert.MemNRefIdeal.nD,
      r.2.mem ((c.tc : Thread Cert.MemNRefIdeal.nD Cert.MemNRefIdeal.τ).loc Cert.MemNRefIdeal.main_arg0) = m ((c.tc : Thread Cert.MemNRefIdeal.nD Cert.MemNRefIdeal.τ).loc Cert.MemNRefIdeal.main_arg0)
      ∧ r.2.mem ((c.tc : Thread Cert.MemNRefIdeal.nD Cert.MemNRefIdeal.τ).loc Cert.MemNRefIdeal.main_arg1) = m ((c.tc : Thread Cert.MemNRefIdeal.nD Cert.MemNRefIdeal.τ).loc Cert.MemNRefIdeal.main_arg1))
      ∧ r.2.sem = fun _ => 0)

def quiescent_MemNB [hMemNB : Cert.MemNB.Facts] : Prop :=
  ∀ (m : (ℓ : Loc Cert.MemNB.nD Cert.MemNB.τ Cert.MemNB.sig) → Buf (Elt Bits) ℓ) (g : Dev Cert.MemNB.nD → PrngReg), Pre_MemNB m →
    θ_run (Cert.MemNB.defs (F := Bits)) (onTc (τ := Cert.MemNB.τ) (Cert.MemNB.main (F := Bits))) ⟨m, fun _ => 0, g⟩ (fun r => (∀ c : Dev Cert.MemNB.nD,
      r.2.mem ((c.tc : Thread Cert.MemNB.nD Cert.MemNB.τ).loc Cert.MemNB.main_arg0) = m ((c.tc : Thread Cert.MemNB.nD Cert.MemNB.τ).loc Cert.MemNB.main_arg0)
      ∧ r.2.mem ((c.tc : Thread Cert.MemNB.nD Cert.MemNB.τ).loc Cert.MemNB.main_arg1) = m ((c.tc : Thread Cert.MemNB.nD Cert.MemNB.τ).loc Cert.MemNB.main_arg1)
      ∧ r.2.mem ((c.tc : Thread Cert.MemNB.nD Cert.MemNB.τ).loc Cert.MemNB.main_arg2) = m ((c.tc : Thread Cert.MemNB.nD Cert.MemNB.τ).loc Cert.MemNB.main_arg2))
      ∧ r.2.sem = fun _ => 0)

def quiescent_MemNBIdeal [hMemNBIdeal : Cert.MemNBIdeal.Facts] : Prop :=
  ∀ (m : (ℓ : Loc Cert.MemNBIdeal.nD Cert.MemNBIdeal.τ Cert.MemNBIdeal.sig) → Buf (Elt Ideal) ℓ) (g : Dev Cert.MemNBIdeal.nD → PrngReg), Pre_MemNBIdeal m →
    θ_run (Cert.MemNBIdeal.defs (F := Ideal)) (onTc (τ := Cert.MemNBIdeal.τ) (Cert.MemNBIdeal.main (F := Ideal))) ⟨m, fun _ => 0, g⟩ (fun r => (∀ c : Dev Cert.MemNBIdeal.nD,
      r.2.mem ((c.tc : Thread Cert.MemNBIdeal.nD Cert.MemNBIdeal.τ).loc Cert.MemNBIdeal.main_arg0) = m ((c.tc : Thread Cert.MemNBIdeal.nD Cert.MemNBIdeal.τ).loc Cert.MemNBIdeal.main_arg0)
      ∧ r.2.mem ((c.tc : Thread Cert.MemNBIdeal.nD Cert.MemNBIdeal.τ).loc Cert.MemNBIdeal.main_arg1) = m ((c.tc : Thread Cert.MemNBIdeal.nD Cert.MemNBIdeal.τ).loc Cert.MemNBIdeal.main_arg1)
      ∧ r.2.mem ((c.tc : Thread Cert.MemNBIdeal.nD Cert.MemNBIdeal.τ).loc Cert.MemNBIdeal.main_arg2) = m ((c.tc : Thread Cert.MemNBIdeal.nD Cert.MemNBIdeal.τ).loc Cert.MemNBIdeal.main_arg2))
      ∧ r.2.sem = fun _ => 0)

def quiescent_MemNBIdeal_pre_finite_memn [hMemNBIdeal : Cert.MemNBIdeal.Facts] [hPre_finite_memn : Cert.Pre_finite_memn.Facts] : Prop :=
  ∀ (m : (ℓ : Loc Cert.MemNBIdeal.nD Cert.MemNBIdeal.τ Cert.MemNBIdeal.sig) → Buf (Elt Ideal) ℓ) (g : Dev Cert.MemNBIdeal.nD → PrngReg), Pre_MemNBIdeal_finite_memn m →
    θ_run (Cert.MemNBIdeal.defs (F := Ideal)) (onTc (τ := Cert.MemNBIdeal.τ) (Cert.MemNBIdeal.main (F := Ideal))) ⟨m, fun _ => 0, g⟩ (fun r => (∀ c : Dev Cert.MemNBIdeal.nD,
      r.2.mem ((c.tc : Thread Cert.MemNBIdeal.nD Cert.MemNBIdeal.τ).loc Cert.MemNBIdeal.main_arg0) = m ((c.tc : Thread Cert.MemNBIdeal.nD Cert.MemNBIdeal.τ).loc Cert.MemNBIdeal.main_arg0)
      ∧ r.2.mem ((c.tc : Thread Cert.MemNBIdeal.nD Cert.MemNBIdeal.τ).loc Cert.MemNBIdeal.main_arg1) = m ((c.tc : Thread Cert.MemNBIdeal.nD Cert.MemNBIdeal.τ).loc Cert.MemNBIdeal.main_arg1)
      ∧ r.2.mem ((c.tc : Thread Cert.MemNBIdeal.nD Cert.MemNBIdeal.τ).loc Cert.MemNBIdeal.main_arg2) = m ((c.tc : Thread Cert.MemNBIdeal.nD Cert.MemNBIdeal.τ).loc Cert.MemNBIdeal.main_arg2))
      ∧ r.2.sem = fun _ => 0)

def quiescent_MemNBRefIdeal [hMemNBRefIdeal : Cert.MemNBRefIdeal.Facts] : Prop :=
  ∀ (m : (ℓ : Loc Cert.MemNBRefIdeal.nD Cert.MemNBRefIdeal.τ Cert.MemNBRefIdeal.sig) → Buf (Elt Ideal) ℓ) (g : Dev Cert.MemNBRefIdeal.nD → PrngReg), Pre_MemNBRefIdeal m →
    θ_run (Cert.MemNBRefIdeal.defs (F := Ideal)) (onTc (τ := Cert.MemNBRefIdeal.τ) (Cert.MemNBRefIdeal.main (F := Ideal))) ⟨m, fun _ => 0, g⟩ (fun r => (∀ c : Dev Cert.MemNBRefIdeal.nD,
      r.2.mem ((c.tc : Thread Cert.MemNBRefIdeal.nD Cert.MemNBRefIdeal.τ).loc Cert.MemNBRefIdeal.main_arg0) = m ((c.tc : Thread Cert.MemNBRefIdeal.nD Cert.MemNBRefIdeal.τ).loc Cert.MemNBRefIdeal.main_arg0)
      ∧ r.2.mem ((c.tc : Thread Cert.MemNBRefIdeal.nD Cert.MemNBRefIdeal.τ).loc Cert.MemNBRefIdeal.main_arg1) = m ((c.tc : Thread Cert.MemNBRefIdeal.nD Cert.MemNBRefIdeal.τ).loc Cert.MemNBRefIdeal.main_arg1)
      ∧ r.2.mem ((c.tc : Thread Cert.MemNBRefIdeal.nD Cert.MemNBRefIdeal.τ).loc Cert.MemNBRefIdeal.main_arg2) = m ((c.tc : Thread Cert.MemNBRefIdeal.nD Cert.MemNBRefIdeal.τ).loc Cert.MemNBRefIdeal.main_arg2))
      ∧ r.2.sem = fun _ => 0)

def quiescent_MemNBRefIdeal_pre_finite_memn [hMemNBRefIdeal : Cert.MemNBRefIdeal.Facts] [hPre_finite_memn : Cert.Pre_finite_memn.Facts] : Prop :=
  ∀ (m : (ℓ : Loc Cert.MemNBRefIdeal.nD Cert.MemNBRefIdeal.τ Cert.MemNBRefIdeal.sig) → Buf (Elt Ideal) ℓ) (g : Dev Cert.MemNBRefIdeal.nD → PrngReg), Pre_MemNBRefIdeal_finite_memn m →
    θ_run (Cert.MemNBRefIdeal.defs (F := Ideal)) (onTc (τ := Cert.MemNBRefIdeal.τ) (Cert.MemNBRefIdeal.main (F := Ideal))) ⟨m, fun _ => 0, g⟩ (fun r => (∀ c : Dev Cert.MemNBRefIdeal.nD,
      r.2.mem ((c.tc : Thread Cert.MemNBRefIdeal.nD Cert.MemNBRefIdeal.τ).loc Cert.MemNBRefIdeal.main_arg0) = m ((c.tc : Thread Cert.MemNBRefIdeal.nD Cert.MemNBRefIdeal.τ).loc Cert.MemNBRefIdeal.main_arg0)
      ∧ r.2.mem ((c.tc : Thread Cert.MemNBRefIdeal.nD Cert.MemNBRefIdeal.τ).loc Cert.MemNBRefIdeal.main_arg1) = m ((c.tc : Thread Cert.MemNBRefIdeal.nD Cert.MemNBRefIdeal.τ).loc Cert.MemNBRefIdeal.main_arg1)
      ∧ r.2.mem ((c.tc : Thread Cert.MemNBRefIdeal.nD Cert.MemNBRefIdeal.τ).loc Cert.MemNBRefIdeal.main_arg2) = m ((c.tc : Thread Cert.MemNBRefIdeal.nD Cert.MemNBRefIdeal.τ).loc Cert.MemNBRefIdeal.main_arg2))
      ∧ r.2.sem = fun _ => 0)

def quiescent_SmallSum [hSmallSum : Cert.SmallSum.Facts] : Prop :=
  ∀ (m : (ℓ : Loc Cert.SmallSum.nD Cert.SmallSum.τ Cert.SmallSum.sig) → Buf (Elt Bits) ℓ) (g : Dev Cert.SmallSum.nD → PrngReg), Pre_SmallSum m →
    θ_run (Cert.SmallSum.defs (F := Bits)) (onTc (τ := Cert.SmallSum.τ) (Cert.SmallSum.main (F := Bits))) ⟨m, fun _ => 0, g⟩ (fun r => (∀ c : Dev Cert.SmallSum.nD,
      r.2.mem ((c.tc : Thread Cert.SmallSum.nD Cert.SmallSum.τ).loc Cert.SmallSum.main_arg0) = m ((c.tc : Thread Cert.SmallSum.nD Cert.SmallSum.τ).loc Cert.SmallSum.main_arg0))
      ∧ r.2.sem = fun _ => 0)

def quiescent_SmallSumIdeal [hSmallSumIdeal : Cert.SmallSumIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg), Pre_SmallSumIdeal m →
    θ_run (Cert.SmallSumIdeal.defs (F := Ideal)) (onTc (τ := Cert.SmallSumIdeal.τ) (Cert.SmallSumIdeal.main (F := Ideal))) ⟨m, fun _ => 0, g⟩ (fun r => (∀ c : Dev Cert.SmallSumIdeal.nD,
      r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ r.2.sem = fun _ => 0)

def quiescent_SmallSumRefIdeal [hSmallSumRefIdeal : Cert.SmallSumRefIdeal.Facts] : Prop :=
  ∀ (m : (ℓ : Loc Cert.SmallSumRefIdeal.nD Cert.SmallSumRefIdeal.τ Cert.SmallSumRefIdeal.sig) → Buf (Elt Ideal) ℓ) (g : Dev Cert.SmallSumRefIdeal.nD → PrngReg), Pre_SmallSumRefIdeal m →
    θ_run (Cert.SmallSumRefIdeal.defs (F := Ideal)) (onTc (τ := Cert.SmallSumRefIdeal.τ) (Cert.SmallSumRefIdeal.main (F := Ideal))) ⟨m, fun _ => 0, g⟩ (fun r => (∀ c : Dev Cert.SmallSumRefIdeal.nD,
      r.2.mem ((c.tc : Thread Cert.SmallSumRefIdeal.nD Cert.SmallSumRefIdeal.τ).loc Cert.SmallSumRefIdeal.main_arg0) = m ((c.tc : Thread Cert.SmallSumRefIdeal.nD Cert.SmallSumRefIdeal.τ).loc Cert.SmallSumRefIdeal.main_arg0))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_2)) (v2 : (c : Dev Cert.KernelIdeal.nD) → Buf (Elt Ideal) ((c.tc : Thread Cert.KernelIdeal.nD Cert.KernelIdeal.τ).loc Cert.KernelIdeal.main_v2_0)) (v3 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_2) = v1 c
          ∧ r.2.mem ((c.tc : Thread Cert.KernelIdeal.nD Cert.KernelIdeal.τ).loc Cert.KernelIdeal.main_v2_0) = v2 c
          ∧ r.2.mem ((c.tc : Thread Cert.KernelIdeal.nD Cert.KernelIdeal.τ).loc Cert.KernelIdeal.main_v2_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v36) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Dw_DwIdeal : Prop :=
  True

def algebraic_DwIdeal_DwRefIdeal [hDwIdeal : Cert.DwIdeal.Facts] [hDwRefIdeal : Cert.DwRefIdeal.Facts] : Prop :=
  ∀ (m : (ℓ : Loc Cert.DwIdeal.nD Cert.DwIdeal.τ Cert.DwIdeal.sig) → Buf (Elt Ideal) ℓ) (g : Dev Cert.DwIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwIdeal m →
    (∀ c : Dev Cert.DwIdeal.nD,
      m' ((c.tc : Thread Cert.DwRefIdeal.nD Cert.DwRefIdeal.τ).loc Cert.DwRefIdeal.main_arg0) = m ((c.tc : Thread Cert.DwIdeal.nD Cert.DwIdeal.τ).loc Cert.DwIdeal.main_arg0)
      ∧ m' ((c.tc : Thread Cert.DwRefIdeal.nD Cert.DwRefIdeal.τ).loc Cert.DwRefIdeal.main_arg1) = m ((c.tc : Thread Cert.DwIdeal.nD Cert.DwIdeal.τ).loc Cert.DwIdeal.main_arg1)
      ∧ m' ((c.tc : Thread Cert.DwRefIdeal.nD Cert.DwRefIdeal.τ).loc Cert.DwRefIdeal.main_arg2) = m ((c.tc : Thread Cert.DwIdeal.nD Cert.DwIdeal.τ).loc Cert.DwIdeal.main_arg2)
      ∧ m' ((c.tc : Thread Cert.DwRefIdeal.nD Cert.DwRefIdeal.τ).loc Cert.DwRefIdeal.main_arg3) = m ((c.tc : Thread Cert.DwIdeal.nD Cert.DwIdeal.τ).loc Cert.DwIdeal.main_arg3)
      ∧ m' ((c.tc : Thread Cert.DwRefIdeal.nD Cert.DwRefIdeal.τ).loc Cert.DwRefIdeal.main_arg4) = m ((c.tc : Thread Cert.DwIdeal.nD Cert.DwIdeal.τ).loc Cert.DwIdeal.main_arg4)) →
    ∃ (v0 : (c : Dev Cert.DwIdeal.nD) → Buf (Elt Ideal) ((c.tc : Thread Cert.DwIdeal.nD Cert.DwIdeal.τ).loc Cert.DwIdeal.main_v0_0)) (v1 : (c : Dev Cert.DwIdeal.nD) → Buf (Elt Ideal) ((c.tc : Thread Cert.DwIdeal.nD Cert.DwIdeal.τ).loc Cert.DwIdeal.main_v0_1)) (v2 : (c : Dev Cert.DwIdeal.nD) → Buf (Elt Ideal) ((c.tc : Thread Cert.DwIdeal.nD Cert.DwIdeal.τ).loc Cert.DwIdeal.main_v0_2)),
      θ_run (Cert.DwIdeal.defs (F := Ideal)) (onTc (τ := Cert.DwIdeal.τ) (Cert.DwIdeal.main (F := Ideal))) ⟨m, fun _ => 0, g⟩ (fun r => ∀ c : Dev Cert.DwIdeal.nD,
          r.2.mem ((c.tc : Thread Cert.DwIdeal.nD Cert.DwIdeal.τ).loc Cert.DwIdeal.main_v0_0) = v0 c
          ∧ r.2.mem ((c.tc : Thread Cert.DwIdeal.nD Cert.DwIdeal.τ).loc Cert.DwIdeal.main_v0_1) = v1 c
          ∧ r.2.mem ((c.tc : Thread Cert.DwIdeal.nD Cert.DwIdeal.τ).loc Cert.DwIdeal.main_v0_2) = v2 c
          ∧ r.2.mem ((c.tc : Thread Cert.DwIdeal.nD Cert.DwIdeal.τ).loc Cert.DwIdeal.main_arg0) = m ((c.tc : Thread Cert.DwIdeal.nD Cert.DwIdeal.τ).loc Cert.DwIdeal.main_arg0)
          ∧ r.2.mem ((c.tc : Thread Cert.DwIdeal.nD Cert.DwIdeal.τ).loc Cert.DwIdeal.main_arg1) = m ((c.tc : Thread Cert.DwIdeal.nD Cert.DwIdeal.τ).loc Cert.DwIdeal.main_arg1)
          ∧ r.2.mem ((c.tc : Thread Cert.DwIdeal.nD Cert.DwIdeal.τ).loc Cert.DwIdeal.main_arg2) = m ((c.tc : Thread Cert.DwIdeal.nD Cert.DwIdeal.τ).loc Cert.DwIdeal.main_arg2)
          ∧ r.2.mem ((c.tc : Thread Cert.DwIdeal.nD Cert.DwIdeal.τ).loc Cert.DwIdeal.main_arg3) = m ((c.tc : Thread Cert.DwIdeal.nD Cert.DwIdeal.τ).loc Cert.DwIdeal.main_arg3)
          ∧ r.2.mem ((c.tc : Thread Cert.DwIdeal.nD Cert.DwIdeal.τ).loc Cert.DwIdeal.main_arg4) = m ((c.tc : Thread Cert.DwIdeal.nD Cert.DwIdeal.τ).loc Cert.DwIdeal.main_arg4))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v15) = v0 c
          ∧ r.2.mem ((c.tc : Thread Cert.DwRefIdeal.nD Cert.DwRefIdeal.τ).loc Cert.DwRefIdeal.main_v16) = v1 c
          ∧ r.2.mem ((c.tc : Thread Cert.DwRefIdeal.nD Cert.DwRefIdeal.τ).loc Cert.DwRefIdeal.main_v17) = v2 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1)
          ∧ r.2.mem ((c.tc : Thread Cert.DwRefIdeal.nD Cert.DwRefIdeal.τ).loc Cert.DwRefIdeal.main_arg2) = m' ((c.tc : Thread Cert.DwRefIdeal.nD Cert.DwRefIdeal.τ).loc Cert.DwRefIdeal.main_arg2)
          ∧ r.2.mem ((c.tc : Thread Cert.DwRefIdeal.nD Cert.DwRefIdeal.τ).loc Cert.DwRefIdeal.main_arg3) = m' ((c.tc : Thread Cert.DwRefIdeal.nD Cert.DwRefIdeal.τ).loc Cert.DwRefIdeal.main_arg3)
          ∧ r.2.mem ((c.tc : Thread Cert.DwRefIdeal.nD Cert.DwRefIdeal.τ).loc Cert.DwRefIdeal.main_arg4) = m' ((c.tc : Thread Cert.DwRefIdeal.nD Cert.DwRefIdeal.τ).loc Cert.DwRefIdeal.main_arg4))

def preserves_Dx_DxIdeal : Prop :=
  True

def algebraic_DxIdeal_DxRefIdeal_pre_finite_dx [hDxIdeal : Cert.DxIdeal.Facts] [hDxRefIdeal : Cert.DxRefIdeal.Facts] [hPre_finite_dx : Cert.Pre_finite_dx.Facts] : Prop :=
  ∀ (m : (ℓ : Loc Cert.DxIdeal.nD Cert.DxIdeal.τ Cert.DxIdeal.sig) → Buf (Elt Ideal) ℓ) (g : Dev Cert.DxIdeal.nD → PrngReg)
    (m' : (ℓ : Loc Cert.DxRefIdeal.nD Cert.DxRefIdeal.τ Cert.DxRefIdeal.sig) → Buf (Elt Ideal) ℓ) (g' : Dev Cert.DxRefIdeal.nD → PrngReg), Pre_DxIdeal_finite_dx m →
    (∀ c : Dev Cert.DxIdeal.nD,
      m' ((c.tc : Thread Cert.DxRefIdeal.nD Cert.DxRefIdeal.τ).loc Cert.DxRefIdeal.main_arg0) = m ((c.tc : Thread Cert.DxIdeal.nD Cert.DxIdeal.τ).loc Cert.DxIdeal.main_arg0)
      ∧ m' ((c.tc : Thread Cert.DxRefIdeal.nD Cert.DxRefIdeal.τ).loc Cert.DxRefIdeal.main_arg1) = m ((c.tc : Thread Cert.DxIdeal.nD Cert.DxIdeal.τ).loc Cert.DxIdeal.main_arg1)
      ∧ m' ((c.tc : Thread Cert.DxRefIdeal.nD Cert.DxRefIdeal.τ).loc Cert.DxRefIdeal.main_arg2) = m ((c.tc : Thread Cert.DxIdeal.nD Cert.DxIdeal.τ).loc Cert.DxIdeal.main_arg2)
      ∧ m' ((c.tc : Thread Cert.DxRefIdeal.nD Cert.DxRefIdeal.τ).loc Cert.DxRefIdeal.main_arg3) = m ((c.tc : Thread Cert.DxIdeal.nD Cert.DxIdeal.τ).loc Cert.DxIdeal.main_arg3)
      ∧ m' ((c.tc : Thread Cert.DxRefIdeal.nD Cert.DxRefIdeal.τ).loc Cert.DxRefIdeal.main_arg4) = m ((c.tc : Thread Cert.DxIdeal.nD Cert.DxIdeal.τ).loc Cert.DxIdeal.main_arg4)
      ∧ m' ((c.tc : Thread Cert.DxRefIdeal.nD Cert.DxRefIdeal.τ).loc Cert.DxRefIdeal.main_arg5) = m ((c.tc : Thread Cert.DxIdeal.nD Cert.DxIdeal.τ).loc Cert.DxIdeal.main_arg5)
      ∧ m' ((c.tc : Thread Cert.DxRefIdeal.nD Cert.DxRefIdeal.τ).loc Cert.DxRefIdeal.main_arg6) = m ((c.tc : Thread Cert.DxIdeal.nD Cert.DxIdeal.τ).loc Cert.DxIdeal.main_arg6)) →
    ∃ (v0 : (c : Dev Cert.DxIdeal.nD) → Buf (Elt Ideal) ((c.tc : Thread Cert.DxIdeal.nD Cert.DxIdeal.τ).loc Cert.DxIdeal.main_v0_0)) (v1 : (c : Dev Cert.DxIdeal.nD) → Buf (Elt Ideal) ((c.tc : Thread Cert.DxIdeal.nD Cert.DxIdeal.τ).loc Cert.DxIdeal.main_v0_1)) (v2 : (c : Dev Cert.DxIdeal.nD) → Buf (Elt Ideal) ((c.tc : Thread Cert.DxIdeal.nD Cert.DxIdeal.τ).loc Cert.DxIdeal.main_v0_2)),
      θ_run (Cert.DxIdeal.defs (F := Ideal)) (onTc (τ := Cert.DxIdeal.τ) (Cert.DxIdeal.main (F := Ideal))) ⟨m, fun _ => 0, g⟩ (fun r => ∀ c : Dev Cert.DxIdeal.nD,
          r.2.mem ((c.tc : Thread Cert.DxIdeal.nD Cert.DxIdeal.τ).loc Cert.DxIdeal.main_v0_0) = v0 c
          ∧ r.2.mem ((c.tc : Thread Cert.DxIdeal.nD Cert.DxIdeal.τ).loc Cert.DxIdeal.main_v0_1) = v1 c
          ∧ r.2.mem ((c.tc : Thread Cert.DxIdeal.nD Cert.DxIdeal.τ).loc Cert.DxIdeal.main_v0_2) = v2 c
          ∧ r.2.mem ((c.tc : Thread Cert.DxIdeal.nD Cert.DxIdeal.τ).loc Cert.DxIdeal.main_arg0) = m ((c.tc : Thread Cert.DxIdeal.nD Cert.DxIdeal.τ).loc Cert.DxIdeal.main_arg0)
          ∧ r.2.mem ((c.tc : Thread Cert.DxIdeal.nD Cert.DxIdeal.τ).loc Cert.DxIdeal.main_arg1) = m ((c.tc : Thread Cert.DxIdeal.nD Cert.DxIdeal.τ).loc Cert.DxIdeal.main_arg1)
          ∧ r.2.mem ((c.tc : Thread Cert.DxIdeal.nD Cert.DxIdeal.τ).loc Cert.DxIdeal.main_arg2) = m ((c.tc : Thread Cert.DxIdeal.nD Cert.DxIdeal.τ).loc Cert.DxIdeal.main_arg2)
          ∧ r.2.mem ((c.tc : Thread Cert.DxIdeal.nD Cert.DxIdeal.τ).loc Cert.DxIdeal.main_arg3) = m ((c.tc : Thread Cert.DxIdeal.nD Cert.DxIdeal.τ).loc Cert.DxIdeal.main_arg3)
          ∧ r.2.mem ((c.tc : Thread Cert.DxIdeal.nD Cert.DxIdeal.τ).loc Cert.DxIdeal.main_arg4) = m ((c.tc : Thread Cert.DxIdeal.nD Cert.DxIdeal.τ).loc Cert.DxIdeal.main_arg4)
          ∧ r.2.mem ((c.tc : Thread Cert.DxIdeal.nD Cert.DxIdeal.τ).loc Cert.DxIdeal.main_arg5) = m ((c.tc : Thread Cert.DxIdeal.nD Cert.DxIdeal.τ).loc Cert.DxIdeal.main_arg5)
          ∧ r.2.mem ((c.tc : Thread Cert.DxIdeal.nD Cert.DxIdeal.τ).loc Cert.DxIdeal.main_arg6) = m ((c.tc : Thread Cert.DxIdeal.nD Cert.DxIdeal.τ).loc Cert.DxIdeal.main_arg6))
      ∧ θ_run (Cert.DxRefIdeal.defs (F := Ideal)) (onTc (τ := Cert.DxRefIdeal.τ) (Cert.DxRefIdeal.main (F := Ideal))) ⟨m', fun _ => 0, g'⟩ (fun r => ∀ c : Dev Cert.DxRefIdeal.nD,
          r.2.mem ((c.tc : Thread Cert.DxRefIdeal.nD Cert.DxRefIdeal.τ).loc Cert.DxRefIdeal.main_v45) = v0 c
          ∧ r.2.mem ((c.tc : Thread Cert.DxRefIdeal.nD Cert.DxRefIdeal.τ).loc Cert.DxRefIdeal.main_v46) = v1 c
          ∧ r.2.mem ((c.tc : Thread Cert.DxRefIdeal.nD Cert.DxRefIdeal.τ).loc Cert.DxRefIdeal.main_v28) = v2 c
          ∧ r.2.mem ((c.tc : Thread Cert.DxRefIdeal.nD Cert.DxRefIdeal.τ).loc Cert.DxRefIdeal.main_arg0) = m' ((c.tc : Thread Cert.DxRefIdeal.nD Cert.DxRefIdeal.τ).loc Cert.DxRefIdeal.main_arg0)
          ∧ r.2.mem ((c.tc : Thread Cert.DxRefIdeal.nD Cert.DxRefIdeal.τ).loc Cert.DxRefIdeal.main_arg1) = m' ((c.tc : Thread Cert.DxRefIdeal.nD Cert.DxRefIdeal.τ).loc Cert.DxRefIdeal.main_arg1)
          ∧ r.2.mem ((c.tc : Thread Cert.DxRefIdeal.nD Cert.DxRefIdeal.τ).loc Cert.DxRefIdeal.main_arg2) = m' ((c.tc : Thread Cert.DxRefIdeal.nD Cert.DxRefIdeal.τ).loc Cert.DxRefIdeal.main_arg2)
          ∧ r.2.mem ((c.tc : Thread Cert.DxRefIdeal.nD Cert.DxRefIdeal.τ).loc Cert.DxRefIdeal.main_arg3) = m' ((c.tc : Thread Cert.DxRefIdeal.nD Cert.DxRefIdeal.τ).loc Cert.DxRefIdeal.main_arg3)
          ∧ r.2.mem ((c.tc : Thread Cert.DxRefIdeal.nD Cert.DxRefIdeal.τ).loc Cert.DxRefIdeal.main_arg4) = m' ((c.tc : Thread Cert.DxRefIdeal.nD Cert.DxRefIdeal.τ).loc Cert.DxRefIdeal.main_arg4)
          ∧ r.2.mem ((c.tc : Thread Cert.DxRefIdeal.nD Cert.DxRefIdeal.τ).loc Cert.DxRefIdeal.main_arg5) = m' ((c.tc : Thread Cert.DxRefIdeal.nD Cert.DxRefIdeal.τ).loc Cert.DxRefIdeal.main_arg5)
          ∧ r.2.mem ((c.tc : Thread Cert.DxRefIdeal.nD Cert.DxRefIdeal.τ).loc Cert.DxRefIdeal.main_arg6) = m' ((c.tc : Thread Cert.DxRefIdeal.nD Cert.DxRefIdeal.τ).loc Cert.DxRefIdeal.main_arg6))

def preserves_Attn_AttnIdeal : Prop :=
  True

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v71) = v0 c
          ∧ r.2.mem ((c.tc : Thread Cert.AttnRefIdeal.nD Cert.AttnRefIdeal.τ).loc Cert.AttnRefIdeal.main_v70) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v3_0)) (v1 : (c : Dev Cert.MergeIdeal.nD) → Buf (Elt Ideal) ((c.tc : Thread Cert.MergeIdeal.nD Cert.MergeIdeal.τ).loc Cert.MergeIdeal.main_v3_1)) (v2 : (c : Dev Cert.MergeIdeal.nD) → Buf (Elt Ideal) ((c.tc : Thread Cert.MergeIdeal.nD Cert.MergeIdeal.τ).loc Cert.MergeIdeal.main_v3_2)) (v3 : (c : Dev Cert.MergeIdeal.nD) → Buf (Elt Ideal) ((c.tc : Thread Cert.MergeIdeal.nD Cert.MergeIdeal.τ).loc Cert.MergeIdeal.main_v3_3)) (v4 : (c : Dev Cert.MergeIdeal.nD) → Buf (Elt Ideal) ((c.tc : Thread Cert.MergeIdeal.nD Cert.MergeIdeal.τ).loc Cert.MergeIdeal.main_v3_4)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3_0) = v0 c
          ∧ r.2.mem ((c.tc : Thread Cert.MergeIdeal.nD Cert.MergeIdeal.τ).loc Cert.MergeIdeal.main_v3_1) = v1 c
          ∧ r.2.mem ((c.tc : Thread Cert.MergeIdeal.nD Cert.MergeIdeal.τ).loc Cert.MergeIdeal.main_v3_2) = v2 c
          ∧ r.2.mem ((c.tc : Thread Cert.MergeIdeal.nD Cert.MergeIdeal.τ).loc Cert.MergeIdeal.main_v3_3) = v3 c
          ∧ r.2.mem ((c.tc : Thread Cert.MergeIdeal.nD Cert.MergeIdeal.τ).loc Cert.MergeIdeal.main_v3_4) = v4 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v51) = v0 c
          ∧ r.2.mem ((c.tc : Thread Cert.MergeRefIdeal.nD Cert.MergeRefIdeal.τ).loc Cert.MergeRefIdeal.main_v52) = v1 c
          ∧ r.2.mem ((c.tc : Thread Cert.MergeRefIdeal.nD Cert.MergeRefIdeal.τ).loc Cert.MergeRefIdeal.main_v53) = v2 c
          ∧ r.2.mem ((c.tc : Thread Cert.MergeRefIdeal.nD Cert.MergeRefIdeal.τ).loc Cert.MergeRefIdeal.main_v54) = v3 c
          ∧ r.2.mem ((c.tc : Thread Cert.MergeRefIdeal.nD Cert.MergeRefIdeal.τ).loc Cert.MergeRefIdeal.main_v55) = v4 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_MixIn_MixInIdeal : Prop :=
  True

def algebraic_MixInIdeal_MixInRefIdeal_pre_finite_mix [hMixInIdeal : Cert.MixInIdeal.Facts] [hMixInRefIdeal : Cert.MixInRefIdeal.Facts] [hPre_finite_mix : Cert.Pre_finite_mix.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInRefIdeal.nD Cert.MixInRefIdeal.τ Cert.MixInRefIdeal.sig) → Buf (Elt Ideal) ℓ) (g' : Dev Cert.MixInRefIdeal.nD → PrngReg), Pre_MixInIdeal_finite_mix m →
    (∀ c : Dev Cert.MixInIdeal.nD,
      m' ((c.tc : Thread Cert.MixInRefIdeal.nD Cert.MixInRefIdeal.τ).loc Cert.MixInRefIdeal.main_arg0) = m ((c.tc : Thread Cert.MixInIdeal.nD Cert.MixInIdeal.τ).loc Cert.MixInIdeal.main_arg0)
      ∧ m' ((c.tc : Thread Cert.MixInRefIdeal.nD Cert.MixInRefIdeal.τ).loc Cert.MixInRefIdeal.main_arg1) = m ((c.tc : Thread Cert.MixInIdeal.nD Cert.MixInIdeal.τ).loc Cert.MixInIdeal.main_arg1)
      ∧ m' ((c.tc : Thread Cert.MixInRefIdeal.nD Cert.MixInRefIdeal.τ).loc Cert.MixInRefIdeal.main_arg2) = m ((c.tc : Thread Cert.MixInIdeal.nD Cert.MixInIdeal.τ).loc Cert.MixInIdeal.main_arg2)
      ∧ m' ((c.tc : Thread Cert.MixInRefIdeal.nD Cert.MixInRefIdeal.τ).loc Cert.MixInRefIdeal.main_arg3) = m ((c.tc : Thread Cert.MixInIdeal.nD Cert.MixInIdeal.τ).loc Cert.MixInIdeal.main_arg3)
      ∧ m' ((c.tc : Thread Cert.MixInRefIdeal.nD Cert.MixInRefIdeal.τ).loc Cert.MixInRefIdeal.main_arg4) = m ((c.tc : Thread Cert.MixInIdeal.nD Cert.MixInIdeal.τ).loc Cert.MixInIdeal.main_arg4)
      ∧ m' ((c.tc : Thread Cert.MixInRefIdeal.nD Cert.MixInRefIdeal.τ).loc Cert.MixInRefIdeal.main_arg5) = m ((c.tc : Thread Cert.MixInIdeal.nD Cert.MixInIdeal.τ).loc Cert.MixInIdeal.main_arg5)
      ∧ m' ((c.tc : Thread Cert.MixInRefIdeal.nD Cert.MixInRefIdeal.τ).loc Cert.MixInRefIdeal.main_arg6) = m ((c.tc : Thread Cert.MixInIdeal.nD Cert.MixInIdeal.τ).loc Cert.MixInIdeal.main_arg6)
      ∧ m' ((c.tc : Thread Cert.MixInRefIdeal.nD Cert.MixInRefIdeal.τ).loc Cert.MixInRefIdeal.main_arg7) = m ((c.tc : Thread Cert.MixInIdeal.nD Cert.MixInIdeal.τ).loc Cert.MixInIdeal.main_arg7)) →
    ∃ (v0 : (c : Dev Cert.MixInIdeal.nD) → Buf (Elt Ideal) ((c.tc : Thread Cert.MixInIdeal.nD Cert.MixInIdeal.τ).loc Cert.MixInIdeal.main_v0_0)) (v1 : (c : Dev Cert.MixInIdeal.nD) → Buf (Elt Ideal) ((c.tc : Thread Cert.MixInIdeal.nD Cert.MixInIdeal.τ).loc Cert.MixInIdeal.main_v0_1)) (v2 : (c : Dev Cert.MixInIdeal.nD) → Buf (Elt Ideal) ((c.tc : Thread Cert.MixInIdeal.nD Cert.MixInIdeal.τ).loc Cert.MixInIdeal.main_v0_2)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v0_0) = v0 c
          ∧ r.2.mem ((c.tc : Thread Cert.MixInIdeal.nD Cert.MixInIdeal.τ).loc Cert.MixInIdeal.main_v0_1) = v1 c
          ∧ r.2.mem ((c.tc : Thread Cert.MixInIdeal.nD Cert.MixInIdeal.τ).loc Cert.MixInIdeal.main_v0_2) = v2 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7))
      ∧ θ_run (Cert.MixInRefIdeal.defs (F := Ideal)) (onTc (τ := Cert.MixInRefIdeal.τ) (Cert.MixInRefIdeal.main (F := Ideal))) ⟨m', fun _ => 0, g'⟩ (fun r => ∀ c : Dev Cert.MixInRefIdeal.nD,
          r.2.mem ((c.tc : Thread Cert.MixInRefIdeal.nD Cert.MixInRefIdeal.τ).loc Cert.MixInRefIdeal.main_v43) = v0 c
          ∧ r.2.mem ((c.tc : Thread Cert.MixInRefIdeal.nD Cert.MixInRefIdeal.τ).loc Cert.MixInRefIdeal.main_v44) = v1 c
          ∧ r.2.mem ((c.tc : Thread Cert.MixInRefIdeal.nD Cert.MixInRefIdeal.τ).loc Cert.MixInRefIdeal.main_v26) = v2 c
          ∧ r.2.mem ((c.tc : Thread Cert.MixInRefIdeal.nD Cert.MixInRefIdeal.τ).loc Cert.MixInRefIdeal.main_arg0) = m' ((c.tc : Thread Cert.MixInRefIdeal.nD Cert.MixInRefIdeal.τ).loc Cert.MixInRefIdeal.main_arg0)
          ∧ r.2.mem ((c.tc : Thread Cert.MixInRefIdeal.nD Cert.MixInRefIdeal.τ).loc Cert.MixInRefIdeal.main_arg1) = m' ((c.tc : Thread Cert.MixInRefIdeal.nD Cert.MixInRefIdeal.τ).loc Cert.MixInRefIdeal.main_arg1)
          ∧ r.2.mem ((c.tc : Thread Cert.MixInRefIdeal.nD Cert.MixInRefIdeal.τ).loc Cert.MixInRefIdeal.main_arg2) = m' ((c.tc : Thread Cert.MixInRefIdeal.nD Cert.MixInRefIdeal.τ).loc Cert.MixInRefIdeal.main_arg2)
          ∧ r.2.mem ((c.tc : Thread Cert.MixInRefIdeal.nD Cert.MixInRefIdeal.τ).loc Cert.MixInRefIdeal.main_arg3) = m' ((c.tc : Thread Cert.MixInRefIdeal.nD Cert.MixInRefIdeal.τ).loc Cert.MixInRefIdeal.main_arg3)
          ∧ r.2.mem ((c.tc : Thread Cert.MixInRefIdeal.nD Cert.MixInRefIdeal.τ).loc Cert.MixInRefIdeal.main_arg4) = m' ((c.tc : Thread Cert.MixInRefIdeal.nD Cert.MixInRefIdeal.τ).loc Cert.MixInRefIdeal.main_arg4)
          ∧ r.2.mem ((c.tc : Thread Cert.MixInRefIdeal.nD Cert.MixInRefIdeal.τ).loc Cert.MixInRefIdeal.main_arg5) = m' ((c.tc : Thread Cert.MixInRefIdeal.nD Cert.MixInRefIdeal.τ).loc Cert.MixInRefIdeal.main_arg5)
          ∧ r.2.mem ((c.tc : Thread Cert.MixInRefIdeal.nD Cert.MixInRefIdeal.τ).loc Cert.MixInRefIdeal.main_arg6) = m' ((c.tc : Thread Cert.MixInRefIdeal.nD Cert.MixInRefIdeal.τ).loc Cert.MixInRefIdeal.main_arg6)
          ∧ r.2.mem ((c.tc : Thread Cert.MixInRefIdeal.nD Cert.MixInRefIdeal.τ).loc Cert.MixInRefIdeal.main_arg7) = m' ((c.tc : Thread Cert.MixInRefIdeal.nD Cert.MixInRefIdeal.τ).loc Cert.MixInRefIdeal.main_arg7))

def preserves_MixW_MixWIdeal : Prop :=
  True

def algebraic_MixWIdeal_MixWRefIdeal [hMixWIdeal : Cert.MixWIdeal.Facts] [hMixWRefIdeal : Cert.MixWRefIdeal.Facts] : Prop :=
  ∀ (m : (ℓ : Loc Cert.MixWIdeal.nD Cert.MixWIdeal.τ Cert.MixWIdeal.sig) → Buf (Elt Ideal) ℓ) (g : Dev Cert.MixWIdeal.nD → PrngReg)
    (m' : (ℓ : Loc Cert.MixWRefIdeal.nD Cert.MixWRefIdeal.τ Cert.MixWRefIdeal.sig) → Buf (Elt Ideal) ℓ) (g' : Dev Cert.MixWRefIdeal.nD → PrngReg), Pre_MixWIdeal m →
    (∀ c : Dev Cert.MixWIdeal.nD,
      m' ((c.tc : Thread Cert.MixWRefIdeal.nD Cert.MixWRefIdeal.τ).loc Cert.MixWRefIdeal.main_arg0) = m ((c.tc : Thread Cert.MixWIdeal.nD Cert.MixWIdeal.τ).loc Cert.MixWIdeal.main_arg0)
      ∧ m' ((c.tc : Thread Cert.MixWRefIdeal.nD Cert.MixWRefIdeal.τ).loc Cert.MixWRefIdeal.main_arg1) = m ((c.tc : Thread Cert.MixWIdeal.nD Cert.MixWIdeal.τ).loc Cert.MixWIdeal.main_arg1)
      ∧ m' ((c.tc : Thread Cert.MixWRefIdeal.nD Cert.MixWRefIdeal.τ).loc Cert.MixWRefIdeal.main_arg2) = m ((c.tc : Thread Cert.MixWIdeal.nD Cert.MixWIdeal.τ).loc Cert.MixWIdeal.main_arg2)
      ∧ m' ((c.tc : Thread Cert.MixWRefIdeal.nD Cert.MixWRefIdeal.τ).loc Cert.MixWRefIdeal.main_arg3) = m ((c.tc : Thread Cert.MixWIdeal.nD Cert.MixWIdeal.τ).loc Cert.MixWIdeal.main_arg3)
      ∧ m' ((c.tc : Thread Cert.MixWRefIdeal.nD Cert.MixWRefIdeal.τ).loc Cert.MixWRefIdeal.main_arg4) = m ((c.tc : Thread Cert.MixWIdeal.nD Cert.MixWIdeal.τ).loc Cert.MixWIdeal.main_arg4)) →
    ∃ (v0 : (c : Dev Cert.MixWIdeal.nD) → Buf (Elt Ideal) ((c.tc : Thread Cert.MixWIdeal.nD Cert.MixWIdeal.τ).loc Cert.MixWIdeal.main_v0)),
      θ_run (Cert.MixWIdeal.defs (F := Ideal)) (onTc (τ := Cert.MixWIdeal.τ) (Cert.MixWIdeal.main (F := Ideal))) ⟨m, fun _ => 0, g⟩ (fun r => ∀ c : Dev Cert.MixWIdeal.nD,
          r.2.mem ((c.tc : Thread Cert.MixWIdeal.nD Cert.MixWIdeal.τ).loc Cert.MixWIdeal.main_v0) = v0 c
          ∧ r.2.mem ((c.tc : Thread Cert.MixWIdeal.nD Cert.MixWIdeal.τ).loc Cert.MixWIdeal.main_arg0) = m ((c.tc : Thread Cert.MixWIdeal.nD Cert.MixWIdeal.τ).loc Cert.MixWIdeal.main_arg0)
          ∧ r.2.mem ((c.tc : Thread Cert.MixWIdeal.nD Cert.MixWIdeal.τ).loc Cert.MixWIdeal.main_arg1) = m ((c.tc : Thread Cert.MixWIdeal.nD Cert.MixWIdeal.τ).loc Cert.MixWIdeal.main_arg1)
          ∧ r.2.mem ((c.tc : Thread Cert.MixWIdeal.nD Cert.MixWIdeal.τ).loc Cert.MixWIdeal.main_arg2) = m ((c.tc : Thread Cert.MixWIdeal.nD Cert.MixWIdeal.τ).loc Cert.MixWIdeal.main_arg2)
          ∧ r.2.mem ((c.tc : Thread Cert.MixWIdeal.nD Cert.MixWIdeal.τ).loc Cert.MixWIdeal.main_arg3) = m ((c.tc : Thread Cert.MixWIdeal.nD Cert.MixWIdeal.τ).loc Cert.MixWIdeal.main_arg3)
          ∧ r.2.mem ((c.tc : Thread Cert.MixWIdeal.nD Cert.MixWIdeal.τ).loc Cert.MixWIdeal.main_arg4) = m ((c.tc : Thread Cert.MixWIdeal.nD Cert.MixWIdeal.τ).loc Cert.MixWIdeal.main_arg4))
      ∧ θ_run (Cert.MixWRefIdeal.defs (F := Ideal)) (onTc (τ := Cert.MixWRefIdeal.τ) (Cert.MixWRefIdeal.main (F := Ideal))) ⟨m', fun _ => 0, g'⟩ (fun r => ∀ c : Dev Cert.MixWRefIdeal.nD,
          r.2.mem ((c.tc : Thread Cert.MixWRefIdeal.nD Cert.MixWRefIdeal.τ).loc Cert.MixWRefIdeal.main_v9) = v0 c
          ∧ r.2.mem ((c.tc : Thread Cert.MixWRefIdeal.nD Cert.MixWRefIdeal.τ).loc Cert.MixWRefIdeal.main_arg0) = m' ((c.tc : Thread Cert.MixWRefIdeal.nD Cert.MixWRefIdeal.τ).loc Cert.MixWRefIdeal.main_arg0)
          ∧ r.2.mem ((c.tc : Thread Cert.MixWRefIdeal.nD Cert.MixWRefIdeal.τ).loc Cert.MixWRefIdeal.main_arg1) = m' ((c.tc : Thread Cert.MixWRefIdeal.nD Cert.MixWRefIdeal.τ).loc Cert.MixWRefIdeal.main_arg1)
          ∧ r.2.mem ((c.tc : Thread Cert.MixWRefIdeal.nD Cert.MixWRefIdeal.τ).loc Cert.MixWRefIdeal.main_arg2) = m' ((c.tc : Thread Cert.MixWRefIdeal.nD Cert.MixWRefIdeal.τ).loc Cert.MixWRefIdeal.main_arg2)
          ∧ r.2.mem ((c.tc : Thread Cert.MixWRefIdeal.nD Cert.MixWRefIdeal.τ).loc Cert.MixWRefIdeal.main_arg3) = m' ((c.tc : Thread Cert.MixWRefIdeal.nD Cert.MixWRefIdeal.τ).loc Cert.MixWRefIdeal.main_arg3)
          ∧ r.2.mem ((c.tc : Thread Cert.MixWRefIdeal.nD Cert.MixWRefIdeal.τ).loc Cert.MixWRefIdeal.main_arg4) = m' ((c.tc : Thread Cert.MixWRefIdeal.nD Cert.MixWRefIdeal.τ).loc Cert.MixWRefIdeal.main_arg4))

def preserves_SqW_SqWIdeal : Prop :=
  True

def algebraic_SqWIdeal_SqWRefIdeal [hSqWIdeal : Cert.SqWIdeal.Facts] [hSqWRefIdeal : Cert.SqWRefIdeal.Facts] : Prop :=
  ∀ (m : (ℓ : Loc Cert.SqWIdeal.nD Cert.SqWIdeal.τ Cert.SqWIdeal.sig) → Buf (Elt Ideal) ℓ) (g : Dev Cert.SqWIdeal.nD → PrngReg)
    (m' : (ℓ : Loc Cert.SqWRefIdeal.nD Cert.SqWRefIdeal.τ Cert.SqWRefIdeal.sig) → Buf (Elt Ideal) ℓ) (g' : Dev Cert.SqWRefIdeal.nD → PrngReg), Pre_SqWIdeal m →
    (∀ c : Dev Cert.SqWIdeal.nD,
      m' ((c.tc : Thread Cert.SqWRefIdeal.nD Cert.SqWRefIdeal.τ).loc Cert.SqWRefIdeal.main_arg0) = m ((c.tc : Thread Cert.SqWIdeal.nD Cert.SqWIdeal.τ).loc Cert.SqWIdeal.main_arg0)
      ∧ m' ((c.tc : Thread Cert.SqWRefIdeal.nD Cert.SqWRefIdeal.τ).loc Cert.SqWRefIdeal.main_arg1) = m ((c.tc : Thread Cert.SqWIdeal.nD Cert.SqWIdeal.τ).loc Cert.SqWIdeal.main_arg1)) →
    ∃ (v0 : (c : Dev Cert.SqWIdeal.nD) → Buf (Elt Ideal) ((c.tc : Thread Cert.SqWIdeal.nD Cert.SqWIdeal.τ).loc Cert.SqWIdeal.main_v0)),
      θ_run (Cert.SqWIdeal.defs (F := Ideal)) (onTc (τ := Cert.SqWIdeal.τ) (Cert.SqWIdeal.main (F := Ideal))) ⟨m, fun _ => 0, g⟩ (fun r => ∀ c : Dev Cert.SqWIdeal.nD,
          r.2.mem ((c.tc : Thread Cert.SqWIdeal.nD Cert.SqWIdeal.τ).loc Cert.SqWIdeal.main_v0) = v0 c
          ∧ r.2.mem ((c.tc : Thread Cert.SqWIdeal.nD Cert.SqWIdeal.τ).loc Cert.SqWIdeal.main_arg0) = m ((c.tc : Thread Cert.SqWIdeal.nD Cert.SqWIdeal.τ).loc Cert.SqWIdeal.main_arg0)
          ∧ r.2.mem ((c.tc : Thread Cert.SqWIdeal.nD Cert.SqWIdeal.τ).loc Cert.SqWIdeal.main_arg1) = m ((c.tc : Thread Cert.SqWIdeal.nD Cert.SqWIdeal.τ).loc Cert.SqWIdeal.main_arg1))
      ∧ θ_run (Cert.SqWRefIdeal.defs (F := Ideal)) (onTc (τ := Cert.SqWRefIdeal.τ) (Cert.SqWRefIdeal.main (F := Ideal))) ⟨m', fun _ => 0, g'⟩ (fun r => ∀ c : Dev Cert.SqWRefIdeal.nD,
          r.2.mem ((c.tc : Thread Cert.SqWRefIdeal.nD Cert.SqWRefIdeal.τ).loc Cert.SqWRefIdeal.main_v4) = v0 c
          ∧ r.2.mem ((c.tc : Thread Cert.SqWRefIdeal.nD Cert.SqWRefIdeal.τ).loc Cert.SqWRefIdeal.main_arg0) = m' ((c.tc : Thread Cert.SqWRefIdeal.nD Cert.SqWRefIdeal.τ).loc Cert.SqWRefIdeal.main_arg0)
          ∧ r.2.mem ((c.tc : Thread Cert.SqWRefIdeal.nD Cert.SqWRefIdeal.τ).loc Cert.SqWRefIdeal.main_arg1) = m' ((c.tc : Thread Cert.SqWRefIdeal.nD Cert.SqWRefIdeal.τ).loc Cert.SqWRefIdeal.main_arg1))

def preserves_SqX_SqXIdeal : Prop :=
  True

def algebraic_SqXIdeal_SqXRefIdeal [hSqXIdeal : Cert.SqXIdeal.Facts] [hSqXRefIdeal : Cert.SqXRefIdeal.Facts] : Prop :=
  ∀ (m : (ℓ : Loc Cert.SqXIdeal.nD Cert.SqXIdeal.τ Cert.SqXIdeal.sig) → Buf (Elt Ideal) ℓ) (g : Dev Cert.SqXIdeal.nD → PrngReg)
    (m' : (ℓ : Loc Cert.SqXRefIdeal.nD Cert.SqXRefIdeal.τ Cert.SqXRefIdeal.sig) → Buf (Elt Ideal) ℓ) (g' : Dev Cert.SqXRefIdeal.nD → PrngReg), Pre_SqXIdeal m →
    (∀ c : Dev Cert.SqXIdeal.nD,
      m' ((c.tc : Thread Cert.SqXRefIdeal.nD Cert.SqXRefIdeal.τ).loc Cert.SqXRefIdeal.main_arg0) = m ((c.tc : Thread Cert.SqXIdeal.nD Cert.SqXIdeal.τ).loc Cert.SqXIdeal.main_arg0)
      ∧ m' ((c.tc : Thread Cert.SqXRefIdeal.nD Cert.SqXRefIdeal.τ).loc Cert.SqXRefIdeal.main_arg1) = m ((c.tc : Thread Cert.SqXIdeal.nD Cert.SqXIdeal.τ).loc Cert.SqXIdeal.main_arg1)) →
    ∃ (v0 : (c : Dev Cert.SqXIdeal.nD) → Buf (Elt Ideal) ((c.tc : Thread Cert.SqXIdeal.nD Cert.SqXIdeal.τ).loc Cert.SqXIdeal.main_v0)),
      θ_run (Cert.SqXIdeal.defs (F := Ideal)) (onTc (τ := Cert.SqXIdeal.τ) (Cert.SqXIdeal.main (F := Ideal))) ⟨m, fun _ => 0, g⟩ (fun r => ∀ c : Dev Cert.SqXIdeal.nD,
          r.2.mem ((c.tc : Thread Cert.SqXIdeal.nD Cert.SqXIdeal.τ).loc Cert.SqXIdeal.main_v0) = v0 c
          ∧ r.2.mem ((c.tc : Thread Cert.SqXIdeal.nD Cert.SqXIdeal.τ).loc Cert.SqXIdeal.main_arg0) = m ((c.tc : Thread Cert.SqXIdeal.nD Cert.SqXIdeal.τ).loc Cert.SqXIdeal.main_arg0)
          ∧ r.2.mem ((c.tc : Thread Cert.SqXIdeal.nD Cert.SqXIdeal.τ).loc Cert.SqXIdeal.main_arg1) = m ((c.tc : Thread Cert.SqXIdeal.nD Cert.SqXIdeal.τ).loc Cert.SqXIdeal.main_arg1))
      ∧ θ_run (Cert.SqXRefIdeal.defs (F := Ideal)) (onTc (τ := Cert.SqXRefIdeal.τ) (Cert.SqXRefIdeal.main (F := Ideal))) ⟨m', fun _ => 0, g'⟩ (fun r => ∀ c : Dev Cert.SqXRefIdeal.nD,
          r.2.mem ((c.tc : Thread Cert.SqXRefIdeal.nD Cert.SqXRefIdeal.τ).loc Cert.SqXRefIdeal.main_v3) = v0 c
          ∧ r.2.mem ((c.tc : Thread Cert.SqXRefIdeal.nD Cert.SqXRefIdeal.τ).loc Cert.SqXRefIdeal.main_arg0) = m' ((c.tc : Thread Cert.SqXRefIdeal.nD Cert.SqXRefIdeal.τ).loc Cert.SqXRefIdeal.main_arg0)
          ∧ r.2.mem ((c.tc : Thread Cert.SqXRefIdeal.nD Cert.SqXRefIdeal.τ).loc Cert.SqXRefIdeal.main_arg1) = m' ((c.tc : Thread Cert.SqXRefIdeal.nD Cert.SqXRefIdeal.τ).loc Cert.SqXRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0_0)) (v1 : (c : Dev Cert.DownIdeal.nD) → Buf (Elt Ideal) ((c.tc : Thread Cert.DownIdeal.nD Cert.DownIdeal.τ).loc Cert.DownIdeal.main_v0_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0_0) = v0 c
          ∧ r.2.mem ((c.tc : Thread Cert.DownIdeal.nD Cert.DownIdeal.τ).loc Cert.DownIdeal.main_v0_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_v18) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0_0)) (v1 : (c : Dev Cert.ProjIdeal.nD) → Buf (Elt Ideal) ((c.tc : Thread Cert.ProjIdeal.nD Cert.ProjIdeal.τ).loc Cert.ProjIdeal.main_v0_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0_0) = v0 c
          ∧ r.2.mem ((c.tc : Thread Cert.ProjIdeal.nD Cert.ProjIdeal.τ).loc Cert.ProjIdeal.main_v0_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_v5) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)
      ∧ m' ((c.tc : Thread Cert.ResidRefIdeal.nD Cert.ResidRefIdeal.τ).loc Cert.ResidRefIdeal.main_arg3) = m ((c.tc : Thread Cert.ResidIdeal.nD Cert.ResidIdeal.τ).loc Cert.ResidIdeal.main_arg3)) →
    ∃ (v0 : (c : Dev Cert.ResidIdeal.nD) → Buf (Elt Ideal) ((c.tc : Thread Cert.ResidIdeal.nD Cert.ResidIdeal.τ).loc Cert.ResidIdeal.main_v0_0)) (v1 : (c : Dev Cert.ResidIdeal.nD) → Buf (Elt Ideal) ((c.tc : Thread Cert.ResidIdeal.nD Cert.ResidIdeal.τ).loc Cert.ResidIdeal.main_v0_1)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0_0) = v0 c
          ∧ r.2.mem ((c.tc : Thread Cert.ResidIdeal.nD Cert.ResidIdeal.τ).loc Cert.ResidIdeal.main_v0_1) = v1 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2)
          ∧ r.2.mem ((c.tc : Thread Cert.ResidIdeal.nD Cert.ResidIdeal.τ).loc Cert.ResidIdeal.main_arg3) = m ((c.tc : Thread Cert.ResidIdeal.nD Cert.ResidIdeal.τ).loc Cert.ResidIdeal.main_arg3))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v3) = v0 c
          ∧ r.2.mem ((c.tc : Thread Cert.ResidRefIdeal.nD Cert.ResidRefIdeal.τ).loc Cert.ResidRefIdeal.main_v16) = v1 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2)
          ∧ r.2.mem ((c.tc : Thread Cert.ResidRefIdeal.nD Cert.ResidRefIdeal.τ).loc Cert.ResidRefIdeal.main_arg3) = m' ((c.tc : Thread Cert.ResidRefIdeal.nD Cert.ResidRefIdeal.τ).loc Cert.ResidRefIdeal.main_arg3))

def preserves_QueryDx_QueryDxIdeal : Prop :=
  True

def algebraic_QueryDxIdeal_QueryDxRefIdeal_pre_finite_qdx [hQueryDxIdeal : Cert.QueryDxIdeal.Facts] [hQueryDxRefIdeal : Cert.QueryDxRefIdeal.Facts] [hPre_finite_qdx : Cert.Pre_finite_qdx.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal_finite_qdx m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)
      ∧ m' ((c.tc : Thread Cert.QueryDxRefIdeal.nD Cert.QueryDxRefIdeal.τ).loc Cert.QueryDxRefIdeal.main_arg2) = m ((c.tc : Thread Cert.QueryDxIdeal.nD Cert.QueryDxIdeal.τ).loc Cert.QueryDxIdeal.main_arg2)
      ∧ m' ((c.tc : Thread Cert.QueryDxRefIdeal.nD Cert.QueryDxRefIdeal.τ).loc Cert.QueryDxRefIdeal.main_arg3) = m ((c.tc : Thread Cert.QueryDxIdeal.nD Cert.QueryDxIdeal.τ).loc Cert.QueryDxIdeal.main_arg3)
      ∧ m' ((c.tc : Thread Cert.QueryDxRefIdeal.nD Cert.QueryDxRefIdeal.τ).loc Cert.QueryDxRefIdeal.main_arg4) = m ((c.tc : Thread Cert.QueryDxIdeal.nD Cert.QueryDxIdeal.τ).loc Cert.QueryDxIdeal.main_arg4)) →
    ∃ (v0 : (c : Dev Cert.QueryDxIdeal.nD) → Buf (Elt Ideal) ((c.tc : Thread Cert.QueryDxIdeal.nD Cert.QueryDxIdeal.τ).loc Cert.QueryDxIdeal.main_v0_0)) (v1 : (c : Dev Cert.QueryDxIdeal.nD) → Buf (Elt Ideal) ((c.tc : Thread Cert.QueryDxIdeal.nD Cert.QueryDxIdeal.τ).loc Cert.QueryDxIdeal.main_v0_1)) (v2 : (c : Dev Cert.QueryDxIdeal.nD) → Buf (Elt Ideal) ((c.tc : Thread Cert.QueryDxIdeal.nD Cert.QueryDxIdeal.τ).loc Cert.QueryDxIdeal.main_v0_2)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v0_0) = v0 c
          ∧ r.2.mem ((c.tc : Thread Cert.QueryDxIdeal.nD Cert.QueryDxIdeal.τ).loc Cert.QueryDxIdeal.main_v0_1) = v1 c
          ∧ r.2.mem ((c.tc : Thread Cert.QueryDxIdeal.nD Cert.QueryDxIdeal.τ).loc Cert.QueryDxIdeal.main_v0_2) = v2 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
          ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
          ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
          ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v38) = v0 c
          ∧ r.2.mem ((c.tc : Thread Cert.QueryDxRefIdeal.nD Cert.QueryDxRefIdeal.τ).loc Cert.QueryDxRefIdeal.main_v39) = v1 c
          ∧ r.2.mem ((c.tc : Thread Cert.QueryDxRefIdeal.nD Cert.QueryDxRefIdeal.τ).loc Cert.QueryDxRefIdeal.main_v21) = v2 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1)
          ∧ r.2.mem ((c.tc : Thread Cert.QueryDxRefIdeal.nD Cert.QueryDxRefIdeal.τ).loc Cert.QueryDxRefIdeal.main_arg2) = m' ((c.tc : Thread Cert.QueryDxRefIdeal.nD Cert.QueryDxRefIdeal.τ).loc Cert.QueryDxRefIdeal.main_arg2)
          ∧ r.2.mem ((c.tc : Thread Cert.QueryDxRefIdeal.nD Cert.QueryDxRefIdeal.τ).loc Cert.QueryDxRefIdeal.main_arg3) = m' ((c.tc : Thread Cert.QueryDxRefIdeal.nD Cert.QueryDxRefIdeal.τ).loc Cert.QueryDxRefIdeal.main_arg3)
          ∧ r.2.mem ((c.tc : Thread Cert.QueryDxRefIdeal.nD Cert.QueryDxRefIdeal.τ).loc Cert.QueryDxRefIdeal.main_arg4) = m' ((c.tc : Thread Cert.QueryDxRefIdeal.nD Cert.QueryDxRefIdeal.τ).loc Cert.QueryDxRefIdeal.main_arg4))

def preserves_MergeW_MergeWIdeal : Prop :=
  True

def algebraic_MergeWIdeal_MergeWRefIdeal [hMergeWIdeal : Cert.MergeWIdeal.Facts] [hMergeWRefIdeal : Cert.MergeWRefIdeal.Facts] : Prop :=
  ∀ (m : (ℓ : Loc Cert.MergeWIdeal.nD Cert.MergeWIdeal.τ Cert.MergeWIdeal.sig) → Buf (Elt Ideal) ℓ) (g : Dev Cert.MergeWIdeal.nD → PrngReg)
    (m' : (ℓ : Loc Cert.MergeWRefIdeal.nD Cert.MergeWRefIdeal.τ Cert.MergeWRefIdeal.sig) → Buf (Elt Ideal) ℓ) (g' : Dev Cert.MergeWRefIdeal.nD → PrngReg), Pre_MergeWIdeal m →
    (∀ c : Dev Cert.MergeWIdeal.nD,
      m' ((c.tc : Thread Cert.MergeWRefIdeal.nD Cert.MergeWRefIdeal.τ).loc Cert.MergeWRefIdeal.main_arg0) = m ((c.tc : Thread Cert.MergeWIdeal.nD Cert.MergeWIdeal.τ).loc Cert.MergeWIdeal.main_arg0)
      ∧ m' ((c.tc : Thread Cert.MergeWRefIdeal.nD Cert.MergeWRefIdeal.τ).loc Cert.MergeWRefIdeal.main_arg1) = m ((c.tc : Thread Cert.MergeWIdeal.nD Cert.MergeWIdeal.τ).loc Cert.MergeWIdeal.main_arg1)
      ∧ m' ((c.tc : Thread Cert.MergeWRefIdeal.nD Cert.MergeWRefIdeal.τ).loc Cert.MergeWRefIdeal.main_arg2) = m ((c.tc : Thread Cert.MergeWIdeal.nD Cert.MergeWIdeal.τ).loc Cert.MergeWIdeal.main_arg2)
      ∧ m' ((c.tc : Thread Cert.MergeWRefIdeal.nD Cert.MergeWRefIdeal.τ).loc Cert.MergeWRefIdeal.main_arg3) = m ((c.tc : Thread Cert.MergeWIdeal.nD Cert.MergeWIdeal.τ).loc Cert.MergeWIdeal.main_arg3)
      ∧ m' ((c.tc : Thread Cert.MergeWRefIdeal.nD Cert.MergeWRefIdeal.τ).loc Cert.MergeWRefIdeal.main_arg4) = m ((c.tc : Thread Cert.MergeWIdeal.nD Cert.MergeWIdeal.τ).loc Cert.MergeWIdeal.main_arg4)) →
    ∃ (v0 : (c : Dev Cert.MergeWIdeal.nD) → Buf (Elt Ideal) ((c.tc : Thread Cert.MergeWIdeal.nD Cert.MergeWIdeal.τ).loc Cert.MergeWIdeal.main_v0)),
      θ_run (Cert.MergeWIdeal.defs (F := Ideal)) (onTc (τ := Cert.MergeWIdeal.τ) (Cert.MergeWIdeal.main (F := Ideal))) ⟨m, fun _ => 0, g⟩ (fun r => ∀ c : Dev Cert.MergeWIdeal.nD,
          r.2.mem ((c.tc : Thread Cert.MergeWIdeal.nD Cert.MergeWIdeal.τ).loc Cert.MergeWIdeal.main_v0) = v0 c
          ∧ r.2.mem ((c.tc : Thread Cert.MergeWIdeal.nD Cert.MergeWIdeal.τ).loc Cert.MergeWIdeal.main_arg0) = m ((c.tc : Thread Cert.MergeWIdeal.nD Cert.MergeWIdeal.τ).loc Cert.MergeWIdeal.main_arg0)
          ∧ r.2.mem ((c.tc : Thread Cert.MergeWIdeal.nD Cert.MergeWIdeal.τ).loc Cert.MergeWIdeal.main_arg1) = m ((c.tc : Thread Cert.MergeWIdeal.nD Cert.MergeWIdeal.τ).loc Cert.MergeWIdeal.main_arg1)
          ∧ r.2.mem ((c.tc : Thread Cert.MergeWIdeal.nD Cert.MergeWIdeal.τ).loc Cert.MergeWIdeal.main_arg2) = m ((c.tc : Thread Cert.MergeWIdeal.nD Cert.MergeWIdeal.τ).loc Cert.MergeWIdeal.main_arg2)
          ∧ r.2.mem ((c.tc : Thread Cert.MergeWIdeal.nD Cert.MergeWIdeal.τ).loc Cert.MergeWIdeal.main_arg3) = m ((c.tc : Thread Cert.MergeWIdeal.nD Cert.MergeWIdeal.τ).loc Cert.MergeWIdeal.main_arg3)
          ∧ r.2.mem ((c.tc : Thread Cert.MergeWIdeal.nD Cert.MergeWIdeal.τ).loc Cert.MergeWIdeal.main_arg4) = m ((c.tc : Thread Cert.MergeWIdeal.nD Cert.MergeWIdeal.τ).loc Cert.MergeWIdeal.main_arg4))
      ∧ θ_run (Cert.MergeWRefIdeal.defs (F := Ideal)) (onTc (τ := Cert.MergeWRefIdeal.τ) (Cert.MergeWRefIdeal.main (F := Ideal))) ⟨m', fun _ => 0, g'⟩ (fun r => ∀ c : Dev Cert.MergeWRefIdeal.nD,
          r.2.mem ((c.tc : Thread Cert.MergeWRefIdeal.nD Cert.MergeWRefIdeal.τ).loc Cert.MergeWRefIdeal.main_v14) = v0 c
          ∧ r.2.mem ((c.tc : Thread Cert.MergeWRefIdeal.nD Cert.MergeWRefIdeal.τ).loc Cert.MergeWRefIdeal.main_arg0) = m' ((c.tc : Thread Cert.MergeWRefIdeal.nD Cert.MergeWRefIdeal.τ).loc Cert.MergeWRefIdeal.main_arg0)
          ∧ r.2.mem ((c.tc : Thread Cert.MergeWRefIdeal.nD Cert.MergeWRefIdeal.τ).loc Cert.MergeWRefIdeal.main_arg1) = m' ((c.tc : Thread Cert.MergeWRefIdeal.nD Cert.MergeWRefIdeal.τ).loc Cert.MergeWRefIdeal.main_arg1)
          ∧ r.2.mem ((c.tc : Thread Cert.MergeWRefIdeal.nD Cert.MergeWRefIdeal.τ).loc Cert.MergeWRefIdeal.main_arg2) = m' ((c.tc : Thread Cert.MergeWRefIdeal.nD Cert.MergeWRefIdeal.τ).loc Cert.MergeWRefIdeal.main_arg2)
          ∧ r.2.mem ((c.tc : Thread Cert.MergeWRefIdeal.nD Cert.MergeWRefIdeal.τ).loc Cert.MergeWRefIdeal.main_arg3) = m' ((c.tc : Thread Cert.MergeWRefIdeal.nD Cert.MergeWRefIdeal.τ).loc Cert.MergeWRefIdeal.main_arg3)
          ∧ r.2.mem ((c.tc : Thread Cert.MergeWRefIdeal.nD Cert.MergeWRefIdeal.τ).loc Cert.MergeWRefIdeal.main_arg4) = m' ((c.tc : Thread Cert.MergeWRefIdeal.nD Cert.MergeWRefIdeal.τ).loc Cert.MergeWRefIdeal.main_arg4))

def preserves_MergeF_MergeFIdeal : Prop :=
  True

def algebraic_MergeFIdeal_MergeFRefIdeal [hMergeFIdeal : Cert.MergeFIdeal.Facts] [hMergeFRefIdeal : Cert.MergeFRefIdeal.Facts] : Prop :=
  ∀ (m : (ℓ : Loc Cert.MergeFIdeal.nD Cert.MergeFIdeal.τ Cert.MergeFIdeal.sig) → Buf (Elt Ideal) ℓ) (g : Dev Cert.MergeFIdeal.nD → PrngReg)
    (m' : (ℓ : Loc Cert.MergeFRefIdeal.nD Cert.MergeFRefIdeal.τ Cert.MergeFRefIdeal.sig) → Buf (Elt Ideal) ℓ) (g' : Dev Cert.MergeFRefIdeal.nD → PrngReg), Pre_MergeFIdeal m →
    (∀ c : Dev Cert.MergeFIdeal.nD,
      m' ((c.tc : Thread Cert.MergeFRefIdeal.nD Cert.MergeFRefIdeal.τ).loc Cert.MergeFRefIdeal.main_arg0) = m ((c.tc : Thread Cert.MergeFIdeal.nD Cert.MergeFIdeal.τ).loc Cert.MergeFIdeal.main_arg0)
      ∧ m' ((c.tc : Thread Cert.MergeFRefIdeal.nD Cert.MergeFRefIdeal.τ).loc Cert.MergeFRefIdeal.main_arg1) = m ((c.tc : Thread Cert.MergeFIdeal.nD Cert.MergeFIdeal.τ).loc Cert.MergeFIdeal.main_arg1)
      ∧ m' ((c.tc : Thread Cert.MergeFRefIdeal.nD Cert.MergeFRefIdeal.τ).loc Cert.MergeFRefIdeal.main_arg2) = m ((c.tc : Thread Cert.MergeFIdeal.nD Cert.MergeFIdeal.τ).loc Cert.MergeFIdeal.main_arg2)
      ∧ m' ((c.tc : Thread Cert.MergeFRefIdeal.nD Cert.MergeFRefIdeal.τ).loc Cert.MergeFRefIdeal.main_arg3) = m ((c.tc : Thread Cert.MergeFIdeal.nD Cert.MergeFIdeal.τ).loc Cert.MergeFIdeal.main_arg3)
      ∧ m' ((c.tc : Thread Cert.MergeFRefIdeal.nD Cert.MergeFRefIdeal.τ).loc Cert.MergeFRefIdeal.main_arg4) = m ((c.tc : Thread Cert.MergeFIdeal.nD Cert.MergeFIdeal.τ).loc Cert.MergeFIdeal.main_arg4)
      ∧ m' ((c.tc : Thread Cert.MergeFRefIdeal.nD Cert.MergeFRefIdeal.τ).loc Cert.MergeFRefIdeal.main_arg5) = m ((c.tc : Thread Cert.MergeFIdeal.nD Cert.MergeFIdeal.τ).loc Cert.MergeFIdeal.main_arg5)) →
    ∃ (v0 : (c : Dev Cert.MergeFIdeal.nD) → Buf (Elt Ideal) ((c.tc : Thread Cert.MergeFIdeal.nD Cert.MergeFIdeal.τ).loc Cert.MergeFIdeal.main_v3)),
      θ_run (Cert.MergeFIdeal.defs (F := Ideal)) (onTc (τ := Cert.MergeFIdeal.τ) (Cert.MergeFIdeal.main (F := Ideal))) ⟨m, fun _ => 0, g⟩ (fun r => ∀ c : Dev Cert.MergeFIdeal.nD,
          r.2.mem ((c.tc : Thread Cert.MergeFIdeal.nD Cert.MergeFIdeal.τ).loc Cert.MergeFIdeal.main_v3) = v0 c
          ∧ r.2.mem ((c.tc : Thread Cert.MergeFIdeal.nD Cert.MergeFIdeal.τ).loc Cert.MergeFIdeal.main_arg0) = m ((c.tc : Thread Cert.MergeFIdeal.nD Cert.MergeFIdeal.τ).loc Cert.MergeFIdeal.main_arg0)
          ∧ r.2.mem ((c.tc : Thread Cert.MergeFIdeal.nD Cert.MergeFIdeal.τ).loc Cert.MergeFIdeal.main_arg1) = m ((c.tc : Thread Cert.MergeFIdeal.nD Cert.MergeFIdeal.τ).loc Cert.MergeFIdeal.main_arg1)
          ∧ r.2.mem ((c.tc : Thread Cert.MergeFIdeal.nD Cert.MergeFIdeal.τ).loc Cert.MergeFIdeal.main_arg2) = m ((c.tc : Thread Cert.MergeFIdeal.nD Cert.MergeFIdeal.τ).loc Cert.MergeFIdeal.main_arg2)
          ∧ r.2.mem ((c.tc : Thread Cert.MergeFIdeal.nD Cert.MergeFIdeal.τ).loc Cert.MergeFIdeal.main_arg3) = m ((c.tc : Thread Cert.MergeFIdeal.nD Cert.MergeFIdeal.τ).loc Cert.MergeFIdeal.main_arg3)
          ∧ r.2.mem ((c.tc : Thread Cert.MergeFIdeal.nD Cert.MergeFIdeal.τ).loc Cert.MergeFIdeal.main_arg4) = m ((c.tc : Thread Cert.MergeFIdeal.nD Cert.MergeFIdeal.τ).loc Cert.MergeFIdeal.main_arg4)
          ∧ r.2.mem ((c.tc : Thread Cert.MergeFIdeal.nD Cert.MergeFIdeal.τ).loc Cert.MergeFIdeal.main_arg5) = m ((c.tc : Thread Cert.MergeFIdeal.nD Cert.MergeFIdeal.τ).loc Cert.MergeFIdeal.main_arg5))
      ∧ θ_run (Cert.MergeFRefIdeal.defs (F := Ideal)) (onTc (τ := Cert.MergeFRefIdeal.τ) (Cert.MergeFRefIdeal.main (F := Ideal))) ⟨m', fun _ => 0, g'⟩ (fun r => ∀ c : Dev Cert.MergeFRefIdeal.nD,
          r.2.mem ((c.tc : Thread Cert.MergeFRefIdeal.nD Cert.MergeFRefIdeal.τ).loc Cert.MergeFRefIdeal.main_v32) = v0 c
          ∧ r.2.mem ((c.tc : Thread Cert.MergeFRefIdeal.nD Cert.MergeFRefIdeal.τ).loc Cert.MergeFRefIdeal.main_arg0) = m' ((c.tc : Thread Cert.MergeFRefIdeal.nD Cert.MergeFRefIdeal.τ).loc Cert.MergeFRefIdeal.main_arg0)
          ∧ r.2.mem ((c.tc : Thread Cert.MergeFRefIdeal.nD Cert.MergeFRefIdeal.τ).loc Cert.MergeFRefIdeal.main_arg1) = m' ((c.tc : Thread Cert.MergeFRefIdeal.nD Cert.MergeFRefIdeal.τ).loc Cert.MergeFRefIdeal.main_arg1)
          ∧ r.2.mem ((c.tc : Thread Cert.MergeFRefIdeal.nD Cert.MergeFRefIdeal.τ).loc Cert.MergeFRefIdeal.main_arg2) = m' ((c.tc : Thread Cert.MergeFRefIdeal.nD Cert.MergeFRefIdeal.τ).loc Cert.MergeFRefIdeal.main_arg2)
          ∧ r.2.mem ((c.tc : Thread Cert.MergeFRefIdeal.nD Cert.MergeFRefIdeal.τ).loc Cert.MergeFRefIdeal.main_arg3) = m' ((c.tc : Thread Cert.MergeFRefIdeal.nD Cert.MergeFRefIdeal.τ).loc Cert.MergeFRefIdeal.main_arg3)
          ∧ r.2.mem ((c.tc : Thread Cert.MergeFRefIdeal.nD Cert.MergeFRefIdeal.τ).loc Cert.MergeFRefIdeal.main_arg4) = m' ((c.tc : Thread Cert.MergeFRefIdeal.nD Cert.MergeFRefIdeal.τ).loc Cert.MergeFRefIdeal.main_arg4)
          ∧ r.2.mem ((c.tc : Thread Cert.MergeFRefIdeal.nD Cert.MergeFRefIdeal.τ).loc Cert.MergeFRefIdeal.main_arg5) = m' ((c.tc : Thread Cert.MergeFRefIdeal.nD Cert.MergeFRefIdeal.τ).loc Cert.MergeFRefIdeal.main_arg5))

def preserves_Head_HeadIdeal : Prop :=
  True

def algebraic_HeadIdeal_HeadRefIdeal_pre_finite_head [hHeadIdeal : Cert.HeadIdeal.Facts] [hHeadRefIdeal : Cert.HeadRefIdeal.Facts] [hPre_finite_head : Cert.Pre_finite_head.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal_finite_head m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)
      ∧ m' ((c.tc : Thread Cert.HeadRefIdeal.nD Cert.HeadRefIdeal.τ).loc Cert.HeadRefIdeal.main_arg2) = m ((c.tc : Thread Cert.HeadIdeal.nD Cert.HeadIdeal.τ).loc Cert.HeadIdeal.main_arg2)
      ∧ m' ((c.tc : Thread Cert.HeadRefIdeal.nD Cert.HeadRefIdeal.τ).loc Cert.HeadRefIdeal.main_arg3) = m ((c.tc : Thread Cert.HeadIdeal.nD Cert.HeadIdeal.τ).loc Cert.HeadIdeal.main_arg3)
      ∧ m' ((c.tc : Thread Cert.HeadRefIdeal.nD Cert.HeadRefIdeal.τ).loc Cert.HeadRefIdeal.main_arg4) = m ((c.tc : Thread Cert.HeadIdeal.nD Cert.HeadIdeal.τ).loc Cert.HeadIdeal.main_arg4)) →
    ∃ (v0 : (c : Dev Cert.HeadIdeal.nD) → Buf (Elt Ideal) ((c.tc : Thread Cert.HeadIdeal.nD Cert.HeadIdeal.τ).loc Cert.HeadIdeal.main_v0_0)) (v1 : (c : Dev Cert.HeadIdeal.nD) → Buf (Elt Ideal) ((c.tc : Thread Cert.HeadIdeal.nD Cert.HeadIdeal.τ).loc Cert.HeadIdeal.main_v0_1)) (v2 : (c : Dev Cert.HeadIdeal.nD) → Buf (Elt Ideal) ((c.tc : Thread Cert.HeadIdeal.nD Cert.HeadIdeal.τ).loc Cert.HeadIdeal.main_v0_2)) (v3 : (c : Dev Cert.HeadIdeal.nD) → Buf (Elt Ideal) ((c.tc : Thread Cert.HeadIdeal.nD Cert.HeadIdeal.τ).loc Cert.HeadIdeal.main_v0_3)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0_0) = v0 c
          ∧ r.2.mem ((c.tc : Thread Cert.HeadIdeal.nD Cert.HeadIdeal.τ).loc Cert.HeadIdeal.main_v0_1) = v1 c
          ∧ r.2.mem ((c.tc : Thread Cert.HeadIdeal.nD Cert.HeadIdeal.τ).loc Cert.HeadIdeal.main_v0_2) = v2 c
          ∧ r.2.mem ((c.tc : Thread Cert.HeadIdeal.nD Cert.HeadIdeal.τ).loc Cert.HeadIdeal.main_v0_3) = v3 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1)
          ∧ r.2.mem ((c.tc : Thread Cert.HeadIdeal.nD Cert.HeadIdeal.τ).loc Cert.HeadIdeal.main_arg2) = m ((c.tc : Thread Cert.HeadIdeal.nD Cert.HeadIdeal.τ).loc Cert.HeadIdeal.main_arg2)
          ∧ r.2.mem ((c.tc : Thread Cert.HeadIdeal.nD Cert.HeadIdeal.τ).loc Cert.HeadIdeal.main_arg3) = m ((c.tc : Thread Cert.HeadIdeal.nD Cert.HeadIdeal.τ).loc Cert.HeadIdeal.main_arg3)
          ∧ r.2.mem ((c.tc : Thread Cert.HeadIdeal.nD Cert.HeadIdeal.τ).loc Cert.HeadIdeal.main_arg4) = m ((c.tc : Thread Cert.HeadIdeal.nD Cert.HeadIdeal.τ).loc Cert.HeadIdeal.main_arg4))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v55) = v0 c
          ∧ r.2.mem ((c.tc : Thread Cert.HeadRefIdeal.nD Cert.HeadRefIdeal.τ).loc Cert.HeadRefIdeal.main_v54) = v1 c
          ∧ r.2.mem ((c.tc : Thread Cert.HeadRefIdeal.nD Cert.HeadRefIdeal.τ).loc Cert.HeadRefIdeal.main_v56) = v2 c
          ∧ r.2.mem ((c.tc : Thread Cert.HeadRefIdeal.nD Cert.HeadRefIdeal.τ).loc Cert.HeadRefIdeal.main_v38) = v3 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1)
          ∧ r.2.mem ((c.tc : Thread Cert.HeadRefIdeal.nD Cert.HeadRefIdeal.τ).loc Cert.HeadRefIdeal.main_arg2) = m' ((c.tc : Thread Cert.HeadRefIdeal.nD Cert.HeadRefIdeal.τ).loc Cert.HeadRefIdeal.main_arg2)
          ∧ r.2.mem ((c.tc : Thread Cert.HeadRefIdeal.nD Cert.HeadRefIdeal.τ).loc Cert.HeadRefIdeal.main_arg3) = m' ((c.tc : Thread Cert.HeadRefIdeal.nD Cert.HeadRefIdeal.τ).loc Cert.HeadRefIdeal.main_arg3)
          ∧ r.2.mem ((c.tc : Thread Cert.HeadRefIdeal.nD Cert.HeadRefIdeal.τ).loc Cert.HeadRefIdeal.main_arg4) = m' ((c.tc : Thread Cert.HeadRefIdeal.nD Cert.HeadRefIdeal.τ).loc Cert.HeadRefIdeal.main_arg4))

def preserves_AttnF_AttnFIdeal : Prop :=
  True

def algebraic_AttnFIdeal_AttnFRefIdeal [hAttnFIdeal : Cert.AttnFIdeal.Facts] [hAttnFRefIdeal : Cert.AttnFRefIdeal.Facts] : Prop :=
  ∀ (m : (ℓ : Loc Cert.AttnFIdeal.nD Cert.AttnFIdeal.τ Cert.AttnFIdeal.sig) → Buf (Elt Ideal) ℓ) (g : Dev Cert.AttnFIdeal.nD → PrngReg)
    (m' : (ℓ : Loc Cert.AttnFRefIdeal.nD Cert.AttnFRefIdeal.τ Cert.AttnFRefIdeal.sig) → Buf (Elt Ideal) ℓ) (g' : Dev Cert.AttnFRefIdeal.nD → PrngReg), Pre_AttnFIdeal m →
    (∀ c : Dev Cert.AttnFIdeal.nD,
      m' ((c.tc : Thread Cert.AttnFRefIdeal.nD Cert.AttnFRefIdeal.τ).loc Cert.AttnFRefIdeal.main_arg0) = m ((c.tc : Thread Cert.AttnFIdeal.nD Cert.AttnFIdeal.τ).loc Cert.AttnFIdeal.main_arg0)
      ∧ m' ((c.tc : Thread Cert.AttnFRefIdeal.nD Cert.AttnFRefIdeal.τ).loc Cert.AttnFRefIdeal.main_arg1) = m ((c.tc : Thread Cert.AttnFIdeal.nD Cert.AttnFIdeal.τ).loc Cert.AttnFIdeal.main_arg1)) →
    ∃ (v0 : (c : Dev Cert.AttnFIdeal.nD) → Buf (Elt Ideal) ((c.tc : Thread Cert.AttnFIdeal.nD Cert.AttnFIdeal.τ).loc Cert.AttnFIdeal.main_v0)),
      θ_run (Cert.AttnFIdeal.defs (F := Ideal)) (onTc (τ := Cert.AttnFIdeal.τ) (Cert.AttnFIdeal.main (F := Ideal))) ⟨m, fun _ => 0, g⟩ (fun r => ∀ c : Dev Cert.AttnFIdeal.nD,
          r.2.mem ((c.tc : Thread Cert.AttnFIdeal.nD Cert.AttnFIdeal.τ).loc Cert.AttnFIdeal.main_v0) = v0 c
          ∧ r.2.mem ((c.tc : Thread Cert.AttnFIdeal.nD Cert.AttnFIdeal.τ).loc Cert.AttnFIdeal.main_arg0) = m ((c.tc : Thread Cert.AttnFIdeal.nD Cert.AttnFIdeal.τ).loc Cert.AttnFIdeal.main_arg0)
          ∧ r.2.mem ((c.tc : Thread Cert.AttnFIdeal.nD Cert.AttnFIdeal.τ).loc Cert.AttnFIdeal.main_arg1) = m ((c.tc : Thread Cert.AttnFIdeal.nD Cert.AttnFIdeal.τ).loc Cert.AttnFIdeal.main_arg1))
      ∧ θ_run (Cert.AttnFRefIdeal.defs (F := Ideal)) (onTc (τ := Cert.AttnFRefIdeal.τ) (Cert.AttnFRefIdeal.main (F := Ideal))) ⟨m', fun _ => 0, g'⟩ (fun r => ∀ c : Dev Cert.AttnFRefIdeal.nD,
          r.2.mem ((c.tc : Thread Cert.AttnFRefIdeal.nD Cert.AttnFRefIdeal.τ).loc Cert.AttnFRefIdeal.main_v24) = v0 c
          ∧ r.2.mem ((c.tc : Thread Cert.AttnFRefIdeal.nD Cert.AttnFRefIdeal.τ).loc Cert.AttnFRefIdeal.main_arg0) = m' ((c.tc : Thread Cert.AttnFRefIdeal.nD Cert.AttnFRefIdeal.τ).loc Cert.AttnFRefIdeal.main_arg0)
          ∧ r.2.mem ((c.tc : Thread Cert.AttnFRefIdeal.nD Cert.AttnFRefIdeal.τ).loc Cert.AttnFRefIdeal.main_arg1) = m' ((c.tc : Thread Cert.AttnFRefIdeal.nD Cert.AttnFRefIdeal.τ).loc Cert.AttnFRefIdeal.main_arg1))

def preserves_ParamF_ParamFIdeal : Prop :=
  True

def algebraic_ParamFIdeal_ParamFRefIdeal [hParamFIdeal : Cert.ParamFIdeal.Facts] [hParamFRefIdeal : Cert.ParamFRefIdeal.Facts] : Prop :=
  ∀ (m : (ℓ : Loc Cert.ParamFIdeal.nD Cert.ParamFIdeal.τ Cert.ParamFIdeal.sig) → Buf (Elt Ideal) ℓ) (g : Dev Cert.ParamFIdeal.nD → PrngReg)
    (m' : (ℓ : Loc Cert.ParamFRefIdeal.nD Cert.ParamFRefIdeal.τ Cert.ParamFRefIdeal.sig) → Buf (Elt Ideal) ℓ) (g' : Dev Cert.ParamFRefIdeal.nD → PrngReg), Pre_ParamFIdeal m →
    (∀ c : Dev Cert.ParamFIdeal.nD,
      m' ((c.tc : Thread Cert.ParamFRefIdeal.nD Cert.ParamFRefIdeal.τ).loc Cert.ParamFRefIdeal.main_arg0) = m ((c.tc : Thread Cert.ParamFIdeal.nD Cert.ParamFIdeal.τ).loc Cert.ParamFIdeal.main_arg0)
      ∧ m' ((c.tc : Thread Cert.ParamFRefIdeal.nD Cert.ParamFRefIdeal.τ).loc Cert.ParamFRefIdeal.main_arg1) = m ((c.tc : Thread Cert.ParamFIdeal.nD Cert.ParamFIdeal.τ).loc Cert.ParamFIdeal.main_arg1)
      ∧ m' ((c.tc : Thread Cert.ParamFRefIdeal.nD Cert.ParamFRefIdeal.τ).loc Cert.ParamFRefIdeal.main_arg2) = m ((c.tc : Thread Cert.ParamFIdeal.nD Cert.ParamFIdeal.τ).loc Cert.ParamFIdeal.main_arg2)
      ∧ m' ((c.tc : Thread Cert.ParamFRefIdeal.nD Cert.ParamFRefIdeal.τ).loc Cert.ParamFRefIdeal.main_arg3) = m ((c.tc : Thread Cert.ParamFIdeal.nD Cert.ParamFIdeal.τ).loc Cert.ParamFIdeal.main_arg3)) →
    ∃ (v0 : (c : Dev Cert.ParamFIdeal.nD) → Buf (Elt Ideal) ((c.tc : Thread Cert.ParamFIdeal.nD Cert.ParamFIdeal.τ).loc Cert.ParamFIdeal.main_v0_0)) (v1 : (c : Dev Cert.ParamFIdeal.nD) → Buf (Elt Ideal) ((c.tc : Thread Cert.ParamFIdeal.nD Cert.ParamFIdeal.τ).loc Cert.ParamFIdeal.main_v0_1)) (v2 : (c : Dev Cert.ParamFIdeal.nD) → Buf (Elt Ideal) ((c.tc : Thread Cert.ParamFIdeal.nD Cert.ParamFIdeal.τ).loc Cert.ParamFIdeal.main_v0_2)) (v3 : (c : Dev Cert.ParamFIdeal.nD) → Buf (Elt Ideal) ((c.tc : Thread Cert.ParamFIdeal.nD Cert.ParamFIdeal.τ).loc Cert.ParamFIdeal.main_v0_3)),
      θ_run (Cert.ParamFIdeal.defs (F := Ideal)) (onTc (τ := Cert.ParamFIdeal.τ) (Cert.ParamFIdeal.main (F := Ideal))) ⟨m, fun _ => 0, g⟩ (fun r => ∀ c : Dev Cert.ParamFIdeal.nD,
          r.2.mem ((c.tc : Thread Cert.ParamFIdeal.nD Cert.ParamFIdeal.τ).loc Cert.ParamFIdeal.main_v0_0) = v0 c
          ∧ r.2.mem ((c.tc : Thread Cert.ParamFIdeal.nD Cert.ParamFIdeal.τ).loc Cert.ParamFIdeal.main_v0_1) = v1 c
          ∧ r.2.mem ((c.tc : Thread Cert.ParamFIdeal.nD Cert.ParamFIdeal.τ).loc Cert.ParamFIdeal.main_v0_2) = v2 c
          ∧ r.2.mem ((c.tc : Thread Cert.ParamFIdeal.nD Cert.ParamFIdeal.τ).loc Cert.ParamFIdeal.main_v0_3) = v3 c
          ∧ r.2.mem ((c.tc : Thread Cert.ParamFIdeal.nD Cert.ParamFIdeal.τ).loc Cert.ParamFIdeal.main_arg0) = m ((c.tc : Thread Cert.ParamFIdeal.nD Cert.ParamFIdeal.τ).loc Cert.ParamFIdeal.main_arg0)
          ∧ r.2.mem ((c.tc : Thread Cert.ParamFIdeal.nD Cert.ParamFIdeal.τ).loc Cert.ParamFIdeal.main_arg1) = m ((c.tc : Thread Cert.ParamFIdeal.nD Cert.ParamFIdeal.τ).loc Cert.ParamFIdeal.main_arg1)
          ∧ r.2.mem ((c.tc : Thread Cert.ParamFIdeal.nD Cert.ParamFIdeal.τ).loc Cert.ParamFIdeal.main_arg2) = m ((c.tc : Thread Cert.ParamFIdeal.nD Cert.ParamFIdeal.τ).loc Cert.ParamFIdeal.main_arg2)
          ∧ r.2.mem ((c.tc : Thread Cert.ParamFIdeal.nD Cert.ParamFIdeal.τ).loc Cert.ParamFIdeal.main_arg3) = m ((c.tc : Thread Cert.ParamFIdeal.nD Cert.ParamFIdeal.τ).loc Cert.ParamFIdeal.main_arg3))
      ∧ θ_run (Cert.ParamFRefIdeal.defs (F := Ideal)) (onTc (τ := Cert.ParamFRefIdeal.τ) (Cert.ParamFRefIdeal.main (F := Ideal))) ⟨m', fun _ => 0, g'⟩ (fun r => ∀ c : Dev Cert.ParamFRefIdeal.nD,
          r.2.mem ((c.tc : Thread Cert.ParamFRefIdeal.nD Cert.ParamFRefIdeal.τ).loc Cert.ParamFRefIdeal.main_v31) = v0 c
          ∧ r.2.mem ((c.tc : Thread Cert.ParamFRefIdeal.nD Cert.ParamFRefIdeal.τ).loc Cert.ParamFRefIdeal.main_v27) = v1 c
          ∧ r.2.mem ((c.tc : Thread Cert.ParamFRefIdeal.nD Cert.ParamFRefIdeal.τ).loc Cert.ParamFRefIdeal.main_v14) = v2 c
          ∧ r.2.mem ((c.tc : Thread Cert.ParamFRefIdeal.nD Cert.ParamFRefIdeal.τ).loc Cert.ParamFRefIdeal.main_v12) = v3 c
          ∧ r.2.mem ((c.tc : Thread Cert.ParamFRefIdeal.nD Cert.ParamFRefIdeal.τ).loc Cert.ParamFRefIdeal.main_arg0) = m' ((c.tc : Thread Cert.ParamFRefIdeal.nD Cert.ParamFRefIdeal.τ).loc Cert.ParamFRefIdeal.main_arg0)
          ∧ r.2.mem ((c.tc : Thread Cert.ParamFRefIdeal.nD Cert.ParamFRefIdeal.τ).loc Cert.ParamFRefIdeal.main_arg1) = m' ((c.tc : Thread Cert.ParamFRefIdeal.nD Cert.ParamFRefIdeal.τ).loc Cert.ParamFRefIdeal.main_arg1)
          ∧ r.2.mem ((c.tc : Thread Cert.ParamFRefIdeal.nD Cert.ParamFRefIdeal.τ).loc Cert.ParamFRefIdeal.main_arg2) = m' ((c.tc : Thread Cert.ParamFRefIdeal.nD Cert.ParamFRefIdeal.τ).loc Cert.ParamFRefIdeal.main_arg2)
          ∧ r.2.mem ((c.tc : Thread Cert.ParamFRefIdeal.nD Cert.ParamFRefIdeal.τ).loc Cert.ParamFRefIdeal.main_arg3) = m' ((c.tc : Thread Cert.ParamFRefIdeal.nD Cert.ParamFRefIdeal.τ).loc Cert.ParamFRefIdeal.main_arg3))

def preserves_ParamB_ParamBIdeal : Prop :=
  True

def algebraic_ParamBIdeal_ParamBRefIdeal [hParamBIdeal : Cert.ParamBIdeal.Facts] [hParamBRefIdeal : Cert.ParamBRefIdeal.Facts] : Prop :=
  ∀ (m : (ℓ : Loc Cert.ParamBIdeal.nD Cert.ParamBIdeal.τ Cert.ParamBIdeal.sig) → Buf (Elt Ideal) ℓ) (g : Dev Cert.ParamBIdeal.nD → PrngReg)
    (m' : (ℓ : Loc Cert.ParamBRefIdeal.nD Cert.ParamBRefIdeal.τ Cert.ParamBRefIdeal.sig) → Buf (Elt Ideal) ℓ) (g' : Dev Cert.ParamBRefIdeal.nD → PrngReg), Pre_ParamBIdeal m →
    (∀ c : Dev Cert.ParamBIdeal.nD,
      m' ((c.tc : Thread Cert.ParamBRefIdeal.nD Cert.ParamBRefIdeal.τ).loc Cert.ParamBRefIdeal.main_arg0) = m ((c.tc : Thread Cert.ParamBIdeal.nD Cert.ParamBIdeal.τ).loc Cert.ParamBIdeal.main_arg0)
      ∧ m' ((c.tc : Thread Cert.ParamBRefIdeal.nD Cert.ParamBRefIdeal.τ).loc Cert.ParamBRefIdeal.main_arg1) = m ((c.tc : Thread Cert.ParamBIdeal.nD Cert.ParamBIdeal.τ).loc Cert.ParamBIdeal.main_arg1)
      ∧ m' ((c.tc : Thread Cert.ParamBRefIdeal.nD Cert.ParamBRefIdeal.τ).loc Cert.ParamBRefIdeal.main_arg2) = m ((c.tc : Thread Cert.ParamBIdeal.nD Cert.ParamBIdeal.τ).loc Cert.ParamBIdeal.main_arg2)
      ∧ m' ((c.tc : Thread Cert.ParamBRefIdeal.nD Cert.ParamBRefIdeal.τ).loc Cert.ParamBRefIdeal.main_arg3) = m ((c.tc : Thread Cert.ParamBIdeal.nD Cert.ParamBIdeal.τ).loc Cert.ParamBIdeal.main_arg3)) →
    ∃ (v0 : (c : Dev Cert.ParamBIdeal.nD) → Buf (Elt Ideal) ((c.tc : Thread Cert.ParamBIdeal.nD Cert.ParamBIdeal.τ).loc Cert.ParamBIdeal.main_v0_0)) (v1 : (c : Dev Cert.ParamBIdeal.nD) → Buf (Elt Ideal) ((c.tc : Thread Cert.ParamBIdeal.nD Cert.ParamBIdeal.τ).loc Cert.ParamBIdeal.main_v0_1)) (v2 : (c : Dev Cert.ParamBIdeal.nD) → Buf (Elt Ideal) ((c.tc : Thread Cert.ParamBIdeal.nD Cert.ParamBIdeal.τ).loc Cert.ParamBIdeal.main_v0_2)) (v3 : (c : Dev Cert.ParamBIdeal.nD) → Buf (Elt Ideal) ((c.tc : Thread Cert.ParamBIdeal.nD Cert.ParamBIdeal.τ).loc Cert.ParamBIdeal.main_v0_3)),
      θ_run (Cert.ParamBIdeal.defs (F := Ideal)) (onTc (τ := Cert.ParamBIdeal.τ) (Cert.ParamBIdeal.main (F := Ideal))) ⟨m, fun _ => 0, g⟩ (fun r => ∀ c : Dev Cert.ParamBIdeal.nD,
          r.2.mem ((c.tc : Thread Cert.ParamBIdeal.nD Cert.ParamBIdeal.τ).loc Cert.ParamBIdeal.main_v0_0) = v0 c
          ∧ r.2.mem ((c.tc : Thread Cert.ParamBIdeal.nD Cert.ParamBIdeal.τ).loc Cert.ParamBIdeal.main_v0_1) = v1 c
          ∧ r.2.mem ((c.tc : Thread Cert.ParamBIdeal.nD Cert.ParamBIdeal.τ).loc Cert.ParamBIdeal.main_v0_2) = v2 c
          ∧ r.2.mem ((c.tc : Thread Cert.ParamBIdeal.nD Cert.ParamBIdeal.τ).loc Cert.ParamBIdeal.main_v0_3) = v3 c
          ∧ r.2.mem ((c.tc : Thread Cert.ParamBIdeal.nD Cert.ParamBIdeal.τ).loc Cert.ParamBIdeal.main_arg0) = m ((c.tc : Thread Cert.ParamBIdeal.nD Cert.ParamBIdeal.τ).loc Cert.ParamBIdeal.main_arg0)
          ∧ r.2.mem ((c.tc : Thread Cert.ParamBIdeal.nD Cert.ParamBIdeal.τ).loc Cert.ParamBIdeal.main_arg1) = m ((c.tc : Thread Cert.ParamBIdeal.nD Cert.ParamBIdeal.τ).loc Cert.ParamBIdeal.main_arg1)
          ∧ r.2.mem ((c.tc : Thread Cert.ParamBIdeal.nD Cert.ParamBIdeal.τ).loc Cert.ParamBIdeal.main_arg2) = m ((c.tc : Thread Cert.ParamBIdeal.nD Cert.ParamBIdeal.τ).loc Cert.ParamBIdeal.main_arg2)
          ∧ r.2.mem ((c.tc : Thread Cert.ParamBIdeal.nD Cert.ParamBIdeal.τ).loc Cert.ParamBIdeal.main_arg3) = m ((c.tc : Thread Cert.ParamBIdeal.nD Cert.ParamBIdeal.τ).loc Cert.ParamBIdeal.main_arg3))
      ∧ θ_run (Cert.ParamBRefIdeal.defs (F := Ideal)) (onTc (τ := Cert.ParamBRefIdeal.τ) (Cert.ParamBRefIdeal.main (F := Ideal))) ⟨m', fun _ => 0, g'⟩ (fun r => ∀ c : Dev Cert.ParamBRefIdeal.nD,
          r.2.mem ((c.tc : Thread Cert.ParamBRefIdeal.nD Cert.ParamBRefIdeal.τ).loc Cert.ParamBRefIdeal.main_v31) = v0 c
          ∧ r.2.mem ((c.tc : Thread Cert.ParamBRefIdeal.nD Cert.ParamBRefIdeal.τ).loc Cert.ParamBRefIdeal.main_v27) = v1 c
          ∧ r.2.mem ((c.tc : Thread Cert.ParamBRefIdeal.nD Cert.ParamBRefIdeal.τ).loc Cert.ParamBRefIdeal.main_v14) = v2 c
          ∧ r.2.mem ((c.tc : Thread Cert.ParamBRefIdeal.nD Cert.ParamBRefIdeal.τ).loc Cert.ParamBRefIdeal.main_v12) = v3 c
          ∧ r.2.mem ((c.tc : Thread Cert.ParamBRefIdeal.nD Cert.ParamBRefIdeal.τ).loc Cert.ParamBRefIdeal.main_arg0) = m' ((c.tc : Thread Cert.ParamBRefIdeal.nD Cert.ParamBRefIdeal.τ).loc Cert.ParamBRefIdeal.main_arg0)
          ∧ r.2.mem ((c.tc : Thread Cert.ParamBRefIdeal.nD Cert.ParamBRefIdeal.τ).loc Cert.ParamBRefIdeal.main_arg1) = m' ((c.tc : Thread Cert.ParamBRefIdeal.nD Cert.ParamBRefIdeal.τ).loc Cert.ParamBRefIdeal.main_arg1)
          ∧ r.2.mem ((c.tc : Thread Cert.ParamBRefIdeal.nD Cert.ParamBRefIdeal.τ).loc Cert.ParamBRefIdeal.main_arg2) = m' ((c.tc : Thread Cert.ParamBRefIdeal.nD Cert.ParamBRefIdeal.τ).loc Cert.ParamBRefIdeal.main_arg2)
          ∧ r.2.mem ((c.tc : Thread Cert.ParamBRefIdeal.nD Cert.ParamBRefIdeal.τ).loc Cert.ParamBRefIdeal.main_arg3) = m' ((c.tc : Thread Cert.ParamBRefIdeal.nD Cert.ParamBRefIdeal.τ).loc Cert.ParamBRefIdeal.main_arg3))

def preserves_Skip_SkipIdeal : Prop :=
  True

def algebraic_SkipIdeal_SkipRefIdeal [hSkipIdeal : Cert.SkipIdeal.Facts] [hSkipRefIdeal : Cert.SkipRefIdeal.Facts] : Prop :=
  ∀ (m : (ℓ : Loc Cert.SkipIdeal.nD Cert.SkipIdeal.τ Cert.SkipIdeal.sig) → Buf (Elt Ideal) ℓ) (g : Dev Cert.SkipIdeal.nD → PrngReg)
    (m' : (ℓ : Loc Cert.SkipRefIdeal.nD Cert.SkipRefIdeal.τ Cert.SkipRefIdeal.sig) → Buf (Elt Ideal) ℓ) (g' : Dev Cert.SkipRefIdeal.nD → PrngReg), Pre_SkipIdeal m →
    (∀ c : Dev Cert.SkipIdeal.nD,
      m' ((c.tc : Thread Cert.SkipRefIdeal.nD Cert.SkipRefIdeal.τ).loc Cert.SkipRefIdeal.main_arg0) = m ((c.tc : Thread Cert.SkipIdeal.nD Cert.SkipIdeal.τ).loc Cert.SkipIdeal.main_arg0)
      ∧ m' ((c.tc : Thread Cert.SkipRefIdeal.nD Cert.SkipRefIdeal.τ).loc Cert.SkipRefIdeal.main_arg1) = m ((c.tc : Thread Cert.SkipIdeal.nD Cert.SkipIdeal.τ).loc Cert.SkipIdeal.main_arg1)
      ∧ m' ((c.tc : Thread Cert.SkipRefIdeal.nD Cert.SkipRefIdeal.τ).loc Cert.SkipRefIdeal.main_arg2) = m ((c.tc : Thread Cert.SkipIdeal.nD Cert.SkipIdeal.τ).loc Cert.SkipIdeal.main_arg2)
      ∧ m' ((c.tc : Thread Cert.SkipRefIdeal.nD Cert.SkipRefIdeal.τ).loc Cert.SkipRefIdeal.main_arg3) = m ((c.tc : Thread Cert.SkipIdeal.nD Cert.SkipIdeal.τ).loc Cert.SkipIdeal.main_arg3)
      ∧ m' ((c.tc : Thread Cert.SkipRefIdeal.nD Cert.SkipRefIdeal.τ).loc Cert.SkipRefIdeal.main_arg4) = m ((c.tc : Thread Cert.SkipIdeal.nD Cert.SkipIdeal.τ).loc Cert.SkipIdeal.main_arg4)) →
    ∃ (v0 : (c : Dev Cert.SkipIdeal.nD) → Buf (Elt Ideal) ((c.tc : Thread Cert.SkipIdeal.nD Cert.SkipIdeal.τ).loc Cert.SkipIdeal.main_v0_0)) (v1 : (c : Dev Cert.SkipIdeal.nD) → Buf (Elt Ideal) ((c.tc : Thread Cert.SkipIdeal.nD Cert.SkipIdeal.τ).loc Cert.SkipIdeal.main_v0_1)),
      θ_run (Cert.SkipIdeal.defs (F := Ideal)) (onTc (τ := Cert.SkipIdeal.τ) (Cert.SkipIdeal.main (F := Ideal))) ⟨m, fun _ => 0, g⟩ (fun r => ∀ c : Dev Cert.SkipIdeal.nD,
          r.2.mem ((c.tc : Thread Cert.SkipIdeal.nD Cert.SkipIdeal.τ).loc Cert.SkipIdeal.main_v0_0) = v0 c
          ∧ r.2.mem ((c.tc : Thread Cert.SkipIdeal.nD Cert.SkipIdeal.τ).loc Cert.SkipIdeal.main_v0_1) = v1 c
          ∧ r.2.mem ((c.tc : Thread Cert.SkipIdeal.nD Cert.SkipIdeal.τ).loc Cert.SkipIdeal.main_arg0) = m ((c.tc : Thread Cert.SkipIdeal.nD Cert.SkipIdeal.τ).loc Cert.SkipIdeal.main_arg0)
          ∧ r.2.mem ((c.tc : Thread Cert.SkipIdeal.nD Cert.SkipIdeal.τ).loc Cert.SkipIdeal.main_arg1) = m ((c.tc : Thread Cert.SkipIdeal.nD Cert.SkipIdeal.τ).loc Cert.SkipIdeal.main_arg1)
          ∧ r.2.mem ((c.tc : Thread Cert.SkipIdeal.nD Cert.SkipIdeal.τ).loc Cert.SkipIdeal.main_arg2) = m ((c.tc : Thread Cert.SkipIdeal.nD Cert.SkipIdeal.τ).loc Cert.SkipIdeal.main_arg2)
          ∧ r.2.mem ((c.tc : Thread Cert.SkipIdeal.nD Cert.SkipIdeal.τ).loc Cert.SkipIdeal.main_arg3) = m ((c.tc : Thread Cert.SkipIdeal.nD Cert.SkipIdeal.τ).loc Cert.SkipIdeal.main_arg3)
          ∧ r.2.mem ((c.tc : Thread Cert.SkipIdeal.nD Cert.SkipIdeal.τ).loc Cert.SkipIdeal.main_arg4) = m ((c.tc : Thread Cert.SkipIdeal.nD Cert.SkipIdeal.τ).loc Cert.SkipIdeal.main_arg4))
      ∧ θ_run (Cert.SkipRefIdeal.defs (F := Ideal)) (onTc (τ := Cert.SkipRefIdeal.τ) (Cert.SkipRefIdeal.main (F := Ideal))) ⟨m', fun _ => 0, g'⟩ (fun r => ∀ c : Dev Cert.SkipRefIdeal.nD,
          r.2.mem ((c.tc : Thread Cert.SkipRefIdeal.nD Cert.SkipRefIdeal.τ).loc Cert.SkipRefIdeal.main_v10) = v0 c
          ∧ r.2.mem ((c.tc : Thread Cert.SkipRefIdeal.nD Cert.SkipRefIdeal.τ).loc Cert.SkipRefIdeal.main_v6) = v1 c
          ∧ r.2.mem ((c.tc : Thread Cert.SkipRefIdeal.nD Cert.SkipRefIdeal.τ).loc Cert.SkipRefIdeal.main_arg0) = m' ((c.tc : Thread Cert.SkipRefIdeal.nD Cert.SkipRefIdeal.τ).loc Cert.SkipRefIdeal.main_arg0)
          ∧ r.2.mem ((c.tc : Thread Cert.SkipRefIdeal.nD Cert.SkipRefIdeal.τ).loc Cert.SkipRefIdeal.main_arg1) = m' ((c.tc : Thread Cert.SkipRefIdeal.nD Cert.SkipRefIdeal.τ).loc Cert.SkipRefIdeal.main_arg1)
          ∧ r.2.mem ((c.tc : Thread Cert.SkipRefIdeal.nD Cert.SkipRefIdeal.τ).loc Cert.SkipRefIdeal.main_arg2) = m' ((c.tc : Thread Cert.SkipRefIdeal.nD Cert.SkipRefIdeal.τ).loc Cert.SkipRefIdeal.main_arg2)
          ∧ r.2.mem ((c.tc : Thread Cert.SkipRefIdeal.nD Cert.SkipRefIdeal.τ).loc Cert.SkipRefIdeal.main_arg3) = m' ((c.tc : Thread Cert.SkipRefIdeal.nD Cert.SkipRefIdeal.τ).loc Cert.SkipRefIdeal.main_arg3)
          ∧ r.2.mem ((c.tc : Thread Cert.SkipRefIdeal.nD Cert.SkipRefIdeal.τ).loc Cert.SkipRefIdeal.main_arg4) = m' ((c.tc : Thread Cert.SkipRefIdeal.nD Cert.SkipRefIdeal.τ).loc Cert.SkipRefIdeal.main_arg4))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v0_0)) (v1 : (c : Dev Cert.AdamIdeal.nD) → Buf (Elt Ideal) ((c.tc : Thread Cert.AdamIdeal.nD Cert.AdamIdeal.τ).loc Cert.AdamIdeal.main_v0_1)) (v2 : (c : Dev Cert.AdamIdeal.nD) → Buf (Elt Ideal) ((c.tc : Thread Cert.AdamIdeal.nD Cert.AdamIdeal.τ).loc Cert.AdamIdeal.main_v0_2)) (v3 : (c : Dev Cert.AdamIdeal.nD) → Buf (Elt Ideal) ((c.tc : Thread Cert.AdamIdeal.nD Cert.AdamIdeal.τ).loc Cert.AdamIdeal.main_v0_3)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v0_0) = v0 c
          ∧ r.2.mem ((c.tc : Thread Cert.AdamIdeal.nD Cert.AdamIdeal.τ).loc Cert.AdamIdeal.main_v0_1) = v1 c
          ∧ r.2.mem ((c.tc : Thread Cert.AdamIdeal.nD Cert.AdamIdeal.τ).loc Cert.AdamIdeal.main_v0_2) = v2 c
          ∧ r.2.mem ((c.tc : Thread Cert.AdamIdeal.nD Cert.AdamIdeal.τ).loc Cert.AdamIdeal.main_v0_3) = v3 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_arg1) = v0 c
          ∧ r.2.mem ((c.tc : Thread Cert.AdamRefIdeal.nD Cert.AdamRefIdeal.τ).loc Cert.AdamRefIdeal.main_v23) = v1 c
          ∧ r.2.mem ((c.tc : Thread Cert.AdamRefIdeal.nD Cert.AdamRefIdeal.τ).loc Cert.AdamRefIdeal.main_v4) = v2 c
          ∧ r.2.mem ((c.tc : Thread Cert.AdamRefIdeal.nD Cert.AdamRefIdeal.τ).loc Cert.AdamRefIdeal.main_v10) = v3 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_AdamSq_AdamSqIdeal : Prop :=
  True

def algebraic_AdamSqIdeal_AdamSqRefIdeal [hAdamSqIdeal : Cert.AdamSqIdeal.Facts] [hAdamSqRefIdeal : Cert.AdamSqRefIdeal.Facts] : Prop :=
  ∀ (m : (ℓ : Loc Cert.AdamSqIdeal.nD Cert.AdamSqIdeal.τ Cert.AdamSqIdeal.sig) → Buf (Elt Ideal) ℓ) (g : Dev Cert.AdamSqIdeal.nD → PrngReg)
    (m' : (ℓ : Loc Cert.AdamSqRefIdeal.nD Cert.AdamSqRefIdeal.τ Cert.AdamSqRefIdeal.sig) → Buf (Elt Ideal) ℓ) (g' : Dev Cert.AdamSqRefIdeal.nD → PrngReg), Pre_AdamSqIdeal m →
    (∀ c : Dev Cert.AdamSqIdeal.nD,
      m' ((c.tc : Thread Cert.AdamSqRefIdeal.nD Cert.AdamSqRefIdeal.τ).loc Cert.AdamSqRefIdeal.main_arg0) = m ((c.tc : Thread Cert.AdamSqIdeal.nD Cert.AdamSqIdeal.τ).loc Cert.AdamSqIdeal.main_arg0)
      ∧ m' ((c.tc : Thread Cert.AdamSqRefIdeal.nD Cert.AdamSqRefIdeal.τ).loc Cert.AdamSqRefIdeal.main_arg1) = m ((c.tc : Thread Cert.AdamSqIdeal.nD Cert.AdamSqIdeal.τ).loc Cert.AdamSqIdeal.main_arg1)
      ∧ m' ((c.tc : Thread Cert.AdamSqRefIdeal.nD Cert.AdamSqRefIdeal.τ).loc Cert.AdamSqRefIdeal.main_arg2) = m ((c.tc : Thread Cert.AdamSqIdeal.nD Cert.AdamSqIdeal.τ).loc Cert.AdamSqIdeal.main_arg2)
      ∧ m' ((c.tc : Thread Cert.AdamSqRefIdeal.nD Cert.AdamSqRefIdeal.τ).loc Cert.AdamSqRefIdeal.main_arg3) = m ((c.tc : Thread Cert.AdamSqIdeal.nD Cert.AdamSqIdeal.τ).loc Cert.AdamSqIdeal.main_arg3)) →
    ∃ (v0 : (c : Dev Cert.AdamSqIdeal.nD) → Buf (Elt Ideal) ((c.tc : Thread Cert.AdamSqIdeal.nD Cert.AdamSqIdeal.τ).loc Cert.AdamSqIdeal.main_v0_0)) (v1 : (c : Dev Cert.AdamSqIdeal.nD) → Buf (Elt Ideal) ((c.tc : Thread Cert.AdamSqIdeal.nD Cert.AdamSqIdeal.τ).loc Cert.AdamSqIdeal.main_v0_1)) (v2 : (c : Dev Cert.AdamSqIdeal.nD) → Buf (Elt Ideal) ((c.tc : Thread Cert.AdamSqIdeal.nD Cert.AdamSqIdeal.τ).loc Cert.AdamSqIdeal.main_v0_2)) (v3 : (c : Dev Cert.AdamSqIdeal.nD) → Buf (Elt Ideal) ((c.tc : Thread Cert.AdamSqIdeal.nD Cert.AdamSqIdeal.τ).loc Cert.AdamSqIdeal.main_v0_3)),
      θ_run (Cert.AdamSqIdeal.defs (F := Ideal)) (onTc (τ := Cert.AdamSqIdeal.τ) (Cert.AdamSqIdeal.main (F := Ideal))) ⟨m, fun _ => 0, g⟩ (fun r => ∀ c : Dev Cert.AdamSqIdeal.nD,
          r.2.mem ((c.tc : Thread Cert.AdamSqIdeal.nD Cert.AdamSqIdeal.τ).loc Cert.AdamSqIdeal.main_v0_0) = v0 c
          ∧ r.2.mem ((c.tc : Thread Cert.AdamSqIdeal.nD Cert.AdamSqIdeal.τ).loc Cert.AdamSqIdeal.main_v0_1) = v1 c
          ∧ r.2.mem ((c.tc : Thread Cert.AdamSqIdeal.nD Cert.AdamSqIdeal.τ).loc Cert.AdamSqIdeal.main_v0_2) = v2 c
          ∧ r.2.mem ((c.tc : Thread Cert.AdamSqIdeal.nD Cert.AdamSqIdeal.τ).loc Cert.AdamSqIdeal.main_v0_3) = v3 c
          ∧ r.2.mem ((c.tc : Thread Cert.AdamSqIdeal.nD Cert.AdamSqIdeal.τ).loc Cert.AdamSqIdeal.main_arg0) = m ((c.tc : Thread Cert.AdamSqIdeal.nD Cert.AdamSqIdeal.τ).loc Cert.AdamSqIdeal.main_arg0)
          ∧ r.2.mem ((c.tc : Thread Cert.AdamSqIdeal.nD Cert.AdamSqIdeal.τ).loc Cert.AdamSqIdeal.main_arg1) = m ((c.tc : Thread Cert.AdamSqIdeal.nD Cert.AdamSqIdeal.τ).loc Cert.AdamSqIdeal.main_arg1)
          ∧ r.2.mem ((c.tc : Thread Cert.AdamSqIdeal.nD Cert.AdamSqIdeal.τ).loc Cert.AdamSqIdeal.main_arg2) = m ((c.tc : Thread Cert.AdamSqIdeal.nD Cert.AdamSqIdeal.τ).loc Cert.AdamSqIdeal.main_arg2)
          ∧ r.2.mem ((c.tc : Thread Cert.AdamSqIdeal.nD Cert.AdamSqIdeal.τ).loc Cert.AdamSqIdeal.main_arg3) = m ((c.tc : Thread Cert.AdamSqIdeal.nD Cert.AdamSqIdeal.τ).loc Cert.AdamSqIdeal.main_arg3))
      ∧ θ_run (Cert.AdamSqRefIdeal.defs (F := Ideal)) (onTc (τ := Cert.AdamSqRefIdeal.τ) (Cert.AdamSqRefIdeal.main (F := Ideal))) ⟨m', fun _ => 0, g'⟩ (fun r => ∀ c : Dev Cert.AdamSqRefIdeal.nD,
          r.2.mem ((c.tc : Thread Cert.AdamSqRefIdeal.nD Cert.AdamSqRefIdeal.τ).loc Cert.AdamSqRefIdeal.main_arg1) = v0 c
          ∧ r.2.mem ((c.tc : Thread Cert.AdamSqRefIdeal.nD Cert.AdamSqRefIdeal.τ).loc Cert.AdamSqRefIdeal.main_v23) = v1 c
          ∧ r.2.mem ((c.tc : Thread Cert.AdamSqRefIdeal.nD Cert.AdamSqRefIdeal.τ).loc Cert.AdamSqRefIdeal.main_v4) = v2 c
          ∧ r.2.mem ((c.tc : Thread Cert.AdamSqRefIdeal.nD Cert.AdamSqRefIdeal.τ).loc Cert.AdamSqRefIdeal.main_v10) = v3 c
          ∧ r.2.mem ((c.tc : Thread Cert.AdamSqRefIdeal.nD Cert.AdamSqRefIdeal.τ).loc Cert.AdamSqRefIdeal.main_arg0) = m' ((c.tc : Thread Cert.AdamSqRefIdeal.nD Cert.AdamSqRefIdeal.τ).loc Cert.AdamSqRefIdeal.main_arg0)
          ∧ r.2.mem ((c.tc : Thread Cert.AdamSqRefIdeal.nD Cert.AdamSqRefIdeal.τ).loc Cert.AdamSqRefIdeal.main_arg1) = m' ((c.tc : Thread Cert.AdamSqRefIdeal.nD Cert.AdamSqRefIdeal.τ).loc Cert.AdamSqRefIdeal.main_arg1)
          ∧ r.2.mem ((c.tc : Thread Cert.AdamSqRefIdeal.nD Cert.AdamSqRefIdeal.τ).loc Cert.AdamSqRefIdeal.main_arg2) = m' ((c.tc : Thread Cert.AdamSqRefIdeal.nD Cert.AdamSqRefIdeal.τ).loc Cert.AdamSqRefIdeal.main_arg2)
          ∧ r.2.mem ((c.tc : Thread Cert.AdamSqRefIdeal.nD Cert.AdamSqRefIdeal.τ).loc Cert.AdamSqRefIdeal.main_arg3) = m' ((c.tc : Thread Cert.AdamSqRefIdeal.nD Cert.AdamSqRefIdeal.τ).loc Cert.AdamSqRefIdeal.main_arg3))

def preserves_AdamKv_AdamKvIdeal : Prop :=
  True

def algebraic_AdamKvIdeal_AdamKvRefIdeal [hAdamKvIdeal : Cert.AdamKvIdeal.Facts] [hAdamKvRefIdeal : Cert.AdamKvRefIdeal.Facts] : Prop :=
  ∀ (m : (ℓ : Loc Cert.AdamKvIdeal.nD Cert.AdamKvIdeal.τ Cert.AdamKvIdeal.sig) → Buf (Elt Ideal) ℓ) (g : Dev Cert.AdamKvIdeal.nD → PrngReg)
    (m' : (ℓ : Loc Cert.AdamKvRefIdeal.nD Cert.AdamKvRefIdeal.τ Cert.AdamKvRefIdeal.sig) → Buf (Elt Ideal) ℓ) (g' : Dev Cert.AdamKvRefIdeal.nD → PrngReg), Pre_AdamKvIdeal m →
    (∀ c : Dev Cert.AdamKvIdeal.nD,
      m' ((c.tc : Thread Cert.AdamKvRefIdeal.nD Cert.AdamKvRefIdeal.τ).loc Cert.AdamKvRefIdeal.main_arg0) = m ((c.tc : Thread Cert.AdamKvIdeal.nD Cert.AdamKvIdeal.τ).loc Cert.AdamKvIdeal.main_arg0)
      ∧ m' ((c.tc : Thread Cert.AdamKvRefIdeal.nD Cert.AdamKvRefIdeal.τ).loc Cert.AdamKvRefIdeal.main_arg1) = m ((c.tc : Thread Cert.AdamKvIdeal.nD Cert.AdamKvIdeal.τ).loc Cert.AdamKvIdeal.main_arg1)
      ∧ m' ((c.tc : Thread Cert.AdamKvRefIdeal.nD Cert.AdamKvRefIdeal.τ).loc Cert.AdamKvRefIdeal.main_arg2) = m ((c.tc : Thread Cert.AdamKvIdeal.nD Cert.AdamKvIdeal.τ).loc Cert.AdamKvIdeal.main_arg2)
      ∧ m' ((c.tc : Thread Cert.AdamKvRefIdeal.nD Cert.AdamKvRefIdeal.τ).loc Cert.AdamKvRefIdeal.main_arg3) = m ((c.tc : Thread Cert.AdamKvIdeal.nD Cert.AdamKvIdeal.τ).loc Cert.AdamKvIdeal.main_arg3)) →
    ∃ (v0 : (c : Dev Cert.AdamKvIdeal.nD) → Buf (Elt Ideal) ((c.tc : Thread Cert.AdamKvIdeal.nD Cert.AdamKvIdeal.τ).loc Cert.AdamKvIdeal.main_v0_0)) (v1 : (c : Dev Cert.AdamKvIdeal.nD) → Buf (Elt Ideal) ((c.tc : Thread Cert.AdamKvIdeal.nD Cert.AdamKvIdeal.τ).loc Cert.AdamKvIdeal.main_v0_1)) (v2 : (c : Dev Cert.AdamKvIdeal.nD) → Buf (Elt Ideal) ((c.tc : Thread Cert.AdamKvIdeal.nD Cert.AdamKvIdeal.τ).loc Cert.AdamKvIdeal.main_v0_2)) (v3 : (c : Dev Cert.AdamKvIdeal.nD) → Buf (Elt Ideal) ((c.tc : Thread Cert.AdamKvIdeal.nD Cert.AdamKvIdeal.τ).loc Cert.AdamKvIdeal.main_v0_3)),
      θ_run (Cert.AdamKvIdeal.defs (F := Ideal)) (onTc (τ := Cert.AdamKvIdeal.τ) (Cert.AdamKvIdeal.main (F := Ideal))) ⟨m, fun _ => 0, g⟩ (fun r => ∀ c : Dev Cert.AdamKvIdeal.nD,
          r.2.mem ((c.tc : Thread Cert.AdamKvIdeal.nD Cert.AdamKvIdeal.τ).loc Cert.AdamKvIdeal.main_v0_0) = v0 c
          ∧ r.2.mem ((c.tc : Thread Cert.AdamKvIdeal.nD Cert.AdamKvIdeal.τ).loc Cert.AdamKvIdeal.main_v0_1) = v1 c
          ∧ r.2.mem ((c.tc : Thread Cert.AdamKvIdeal.nD Cert.AdamKvIdeal.τ).loc Cert.AdamKvIdeal.main_v0_2) = v2 c
          ∧ r.2.mem ((c.tc : Thread Cert.AdamKvIdeal.nD Cert.AdamKvIdeal.τ).loc Cert.AdamKvIdeal.main_v0_3) = v3 c
          ∧ r.2.mem ((c.tc : Thread Cert.AdamKvIdeal.nD Cert.AdamKvIdeal.τ).loc Cert.AdamKvIdeal.main_arg0) = m ((c.tc : Thread Cert.AdamKvIdeal.nD Cert.AdamKvIdeal.τ).loc Cert.AdamKvIdeal.main_arg0)
          ∧ r.2.mem ((c.tc : Thread Cert.AdamKvIdeal.nD Cert.AdamKvIdeal.τ).loc Cert.AdamKvIdeal.main_arg1) = m ((c.tc : Thread Cert.AdamKvIdeal.nD Cert.AdamKvIdeal.τ).loc Cert.AdamKvIdeal.main_arg1)
          ∧ r.2.mem ((c.tc : Thread Cert.AdamKvIdeal.nD Cert.AdamKvIdeal.τ).loc Cert.AdamKvIdeal.main_arg2) = m ((c.tc : Thread Cert.AdamKvIdeal.nD Cert.AdamKvIdeal.τ).loc Cert.AdamKvIdeal.main_arg2)
          ∧ r.2.mem ((c.tc : Thread Cert.AdamKvIdeal.nD Cert.AdamKvIdeal.τ).loc Cert.AdamKvIdeal.main_arg3) = m ((c.tc : Thread Cert.AdamKvIdeal.nD Cert.AdamKvIdeal.τ).loc Cert.AdamKvIdeal.main_arg3))
      ∧ θ_run (Cert.AdamKvRefIdeal.defs (F := Ideal)) (onTc (τ := Cert.AdamKvRefIdeal.τ) (Cert.AdamKvRefIdeal.main (F := Ideal))) ⟨m', fun _ => 0, g'⟩ (fun r => ∀ c : Dev Cert.AdamKvRefIdeal.nD,
          r.2.mem ((c.tc : Thread Cert.AdamKvRefIdeal.nD Cert.AdamKvRefIdeal.τ).loc Cert.AdamKvRefIdeal.main_arg1) = v0 c
          ∧ r.2.mem ((c.tc : Thread Cert.AdamKvRefIdeal.nD Cert.AdamKvRefIdeal.τ).loc Cert.AdamKvRefIdeal.main_v23) = v1 c
          ∧ r.2.mem ((c.tc : Thread Cert.AdamKvRefIdeal.nD Cert.AdamKvRefIdeal.τ).loc Cert.AdamKvRefIdeal.main_v4) = v2 c
          ∧ r.2.mem ((c.tc : Thread Cert.AdamKvRefIdeal.nD Cert.AdamKvRefIdeal.τ).loc Cert.AdamKvRefIdeal.main_v10) = v3 c
          ∧ r.2.mem ((c.tc : Thread Cert.AdamKvRefIdeal.nD Cert.AdamKvRefIdeal.τ).loc Cert.AdamKvRefIdeal.main_arg0) = m' ((c.tc : Thread Cert.AdamKvRefIdeal.nD Cert.AdamKvRefIdeal.τ).loc Cert.AdamKvRefIdeal.main_arg0)
          ∧ r.2.mem ((c.tc : Thread Cert.AdamKvRefIdeal.nD Cert.AdamKvRefIdeal.τ).loc Cert.AdamKvRefIdeal.main_arg1) = m' ((c.tc : Thread Cert.AdamKvRefIdeal.nD Cert.AdamKvRefIdeal.τ).loc Cert.AdamKvRefIdeal.main_arg1)
          ∧ r.2.mem ((c.tc : Thread Cert.AdamKvRefIdeal.nD Cert.AdamKvRefIdeal.τ).loc Cert.AdamKvRefIdeal.main_arg2) = m' ((c.tc : Thread Cert.AdamKvRefIdeal.nD Cert.AdamKvRefIdeal.τ).loc Cert.AdamKvRefIdeal.main_arg2)
          ∧ r.2.mem ((c.tc : Thread Cert.AdamKvRefIdeal.nD Cert.AdamKvRefIdeal.τ).loc Cert.AdamKvRefIdeal.main_arg3) = m' ((c.tc : Thread Cert.AdamKvRefIdeal.nD Cert.AdamKvRefIdeal.τ).loc Cert.AdamKvRefIdeal.main_arg3))

def preserves_AdamP_AdamPIdeal : Prop :=
  True

def algebraic_AdamPIdeal_AdamPRefIdeal [hAdamPIdeal : Cert.AdamPIdeal.Facts] [hAdamPRefIdeal : Cert.AdamPRefIdeal.Facts] : Prop :=
  ∀ (m : (ℓ : Loc Cert.AdamPIdeal.nD Cert.AdamPIdeal.τ Cert.AdamPIdeal.sig) → Buf (Elt Ideal) ℓ) (g : Dev Cert.AdamPIdeal.nD → PrngReg)
    (m' : (ℓ : Loc Cert.AdamPRefIdeal.nD Cert.AdamPRefIdeal.τ Cert.AdamPRefIdeal.sig) → Buf (Elt Ideal) ℓ) (g' : Dev Cert.AdamPRefIdeal.nD → PrngReg), Pre_AdamPIdeal m →
    (∀ c : Dev Cert.AdamPIdeal.nD,
      m' ((c.tc : Thread Cert.AdamPRefIdeal.nD Cert.AdamPRefIdeal.τ).loc Cert.AdamPRefIdeal.main_arg0) = m ((c.tc : Thread Cert.AdamPIdeal.nD Cert.AdamPIdeal.τ).loc Cert.AdamPIdeal.main_arg0)
      ∧ m' ((c.tc : Thread Cert.AdamPRefIdeal.nD Cert.AdamPRefIdeal.τ).loc Cert.AdamPRefIdeal.main_arg1) = m ((c.tc : Thread Cert.AdamPIdeal.nD Cert.AdamPIdeal.τ).loc Cert.AdamPIdeal.main_arg1)
      ∧ m' ((c.tc : Thread Cert.AdamPRefIdeal.nD Cert.AdamPRefIdeal.τ).loc Cert.AdamPRefIdeal.main_arg2) = m ((c.tc : Thread Cert.AdamPIdeal.nD Cert.AdamPIdeal.τ).loc Cert.AdamPIdeal.main_arg2)
      ∧ m' ((c.tc : Thread Cert.AdamPRefIdeal.nD Cert.AdamPRefIdeal.τ).loc Cert.AdamPRefIdeal.main_arg3) = m ((c.tc : Thread Cert.AdamPIdeal.nD Cert.AdamPIdeal.τ).loc Cert.AdamPIdeal.main_arg3)) →
    ∃ (v0 : (c : Dev Cert.AdamPIdeal.nD) → Buf (Elt Ideal) ((c.tc : Thread Cert.AdamPIdeal.nD Cert.AdamPIdeal.τ).loc Cert.AdamPIdeal.main_v0_0)) (v1 : (c : Dev Cert.AdamPIdeal.nD) → Buf (Elt Ideal) ((c.tc : Thread Cert.AdamPIdeal.nD Cert.AdamPIdeal.τ).loc Cert.AdamPIdeal.main_v0_1)) (v2 : (c : Dev Cert.AdamPIdeal.nD) → Buf (Elt Ideal) ((c.tc : Thread Cert.AdamPIdeal.nD Cert.AdamPIdeal.τ).loc Cert.AdamPIdeal.main_v0_2)) (v3 : (c : Dev Cert.AdamPIdeal.nD) → Buf (Elt Ideal) ((c.tc : Thread Cert.AdamPIdeal.nD Cert.AdamPIdeal.τ).loc Cert.AdamPIdeal.main_v0_3)),
      θ_run (Cert.AdamPIdeal.defs (F := Ideal)) (onTc (τ := Cert.AdamPIdeal.τ) (Cert.AdamPIdeal.main (F := Ideal))) ⟨m, fun _ => 0, g⟩ (fun r => ∀ c : Dev Cert.AdamPIdeal.nD,
          r.2.mem ((c.tc : Thread Cert.AdamPIdeal.nD Cert.AdamPIdeal.τ).loc Cert.AdamPIdeal.main_v0_0) = v0 c
          ∧ r.2.mem ((c.tc : Thread Cert.AdamPIdeal.nD Cert.AdamPIdeal.τ).loc Cert.AdamPIdeal.main_v0_1) = v1 c
          ∧ r.2.mem ((c.tc : Thread Cert.AdamPIdeal.nD Cert.AdamPIdeal.τ).loc Cert.AdamPIdeal.main_v0_2) = v2 c
          ∧ r.2.mem ((c.tc : Thread Cert.AdamPIdeal.nD Cert.AdamPIdeal.τ).loc Cert.AdamPIdeal.main_v0_3) = v3 c
          ∧ r.2.mem ((c.tc : Thread Cert.AdamPIdeal.nD Cert.AdamPIdeal.τ).loc Cert.AdamPIdeal.main_arg0) = m ((c.tc : Thread Cert.AdamPIdeal.nD Cert.AdamPIdeal.τ).loc Cert.AdamPIdeal.main_arg0)
          ∧ r.2.mem ((c.tc : Thread Cert.AdamPIdeal.nD Cert.AdamPIdeal.τ).loc Cert.AdamPIdeal.main_arg1) = m ((c.tc : Thread Cert.AdamPIdeal.nD Cert.AdamPIdeal.τ).loc Cert.AdamPIdeal.main_arg1)
          ∧ r.2.mem ((c.tc : Thread Cert.AdamPIdeal.nD Cert.AdamPIdeal.τ).loc Cert.AdamPIdeal.main_arg2) = m ((c.tc : Thread Cert.AdamPIdeal.nD Cert.AdamPIdeal.τ).loc Cert.AdamPIdeal.main_arg2)
          ∧ r.2.mem ((c.tc : Thread Cert.AdamPIdeal.nD Cert.AdamPIdeal.τ).loc Cert.AdamPIdeal.main_arg3) = m ((c.tc : Thread Cert.AdamPIdeal.nD Cert.AdamPIdeal.τ).loc Cert.AdamPIdeal.main_arg3))
      ∧ θ_run (Cert.AdamPRefIdeal.defs (F := Ideal)) (onTc (τ := Cert.AdamPRefIdeal.τ) (Cert.AdamPRefIdeal.main (F := Ideal))) ⟨m', fun _ => 0, g'⟩ (fun r => ∀ c : Dev Cert.AdamPRefIdeal.nD,
          r.2.mem ((c.tc : Thread Cert.AdamPRefIdeal.nD Cert.AdamPRefIdeal.τ).loc Cert.AdamPRefIdeal.main_v0) = v0 c
          ∧ r.2.mem ((c.tc : Thread Cert.AdamPRefIdeal.nD Cert.AdamPRefIdeal.τ).loc Cert.AdamPRefIdeal.main_v24) = v1 c
          ∧ r.2.mem ((c.tc : Thread Cert.AdamPRefIdeal.nD Cert.AdamPRefIdeal.τ).loc Cert.AdamPRefIdeal.main_v5) = v2 c
          ∧ r.2.mem ((c.tc : Thread Cert.AdamPRefIdeal.nD Cert.AdamPRefIdeal.τ).loc Cert.AdamPRefIdeal.main_v11) = v3 c
          ∧ r.2.mem ((c.tc : Thread Cert.AdamPRefIdeal.nD Cert.AdamPRefIdeal.τ).loc Cert.AdamPRefIdeal.main_arg0) = m' ((c.tc : Thread Cert.AdamPRefIdeal.nD Cert.AdamPRefIdeal.τ).loc Cert.AdamPRefIdeal.main_arg0)
          ∧ r.2.mem ((c.tc : Thread Cert.AdamPRefIdeal.nD Cert.AdamPRefIdeal.τ).loc Cert.AdamPRefIdeal.main_arg1) = m' ((c.tc : Thread Cert.AdamPRefIdeal.nD Cert.AdamPRefIdeal.τ).loc Cert.AdamPRefIdeal.main_arg1)
          ∧ r.2.mem ((c.tc : Thread Cert.AdamPRefIdeal.nD Cert.AdamPRefIdeal.τ).loc Cert.AdamPRefIdeal.main_arg2) = m' ((c.tc : Thread Cert.AdamPRefIdeal.nD Cert.AdamPRefIdeal.τ).loc Cert.AdamPRefIdeal.main_arg2)
          ∧ r.2.mem ((c.tc : Thread Cert.AdamPRefIdeal.nD Cert.AdamPRefIdeal.τ).loc Cert.AdamPRefIdeal.main_arg3) = m' ((c.tc : Thread Cert.AdamPRefIdeal.nD Cert.AdamPRefIdeal.τ).loc Cert.AdamPRefIdeal.main_arg3))

def preserves_AdamV_AdamVIdeal : Prop :=
  True

def algebraic_AdamVIdeal_AdamVRefIdeal [hAdamVIdeal : Cert.AdamVIdeal.Facts] [hAdamVRefIdeal : Cert.AdamVRefIdeal.Facts] : Prop :=
  ∀ (m : (ℓ : Loc Cert.AdamVIdeal.nD Cert.AdamVIdeal.τ Cert.AdamVIdeal.sig) → Buf (Elt Ideal) ℓ) (g : Dev Cert.AdamVIdeal.nD → PrngReg)
    (m' : (ℓ : Loc Cert.AdamVRefIdeal.nD Cert.AdamVRefIdeal.τ Cert.AdamVRefIdeal.sig) → Buf (Elt Ideal) ℓ) (g' : Dev Cert.AdamVRefIdeal.nD → PrngReg), Pre_AdamVIdeal m →
    (∀ c : Dev Cert.AdamVIdeal.nD,
      m' ((c.tc : Thread Cert.AdamVRefIdeal.nD Cert.AdamVRefIdeal.τ).loc Cert.AdamVRefIdeal.main_arg0) = m ((c.tc : Thread Cert.AdamVIdeal.nD Cert.AdamVIdeal.τ).loc Cert.AdamVIdeal.main_arg0)
      ∧ m' ((c.tc : Thread Cert.AdamVRefIdeal.nD Cert.AdamVRefIdeal.τ).loc Cert.AdamVRefIdeal.main_arg1) = m ((c.tc : Thread Cert.AdamVIdeal.nD Cert.AdamVIdeal.τ).loc Cert.AdamVIdeal.main_arg1)
      ∧ m' ((c.tc : Thread Cert.AdamVRefIdeal.nD Cert.AdamVRefIdeal.τ).loc Cert.AdamVRefIdeal.main_arg2) = m ((c.tc : Thread Cert.AdamVIdeal.nD Cert.AdamVIdeal.τ).loc Cert.AdamVIdeal.main_arg2)
      ∧ m' ((c.tc : Thread Cert.AdamVRefIdeal.nD Cert.AdamVRefIdeal.τ).loc Cert.AdamVRefIdeal.main_arg3) = m ((c.tc : Thread Cert.AdamVIdeal.nD Cert.AdamVIdeal.τ).loc Cert.AdamVIdeal.main_arg3)) →
    ∃ (v0 : (c : Dev Cert.AdamVIdeal.nD) → Buf (Elt Ideal) ((c.tc : Thread Cert.AdamVIdeal.nD Cert.AdamVIdeal.τ).loc Cert.AdamVIdeal.main_v0_0)) (v1 : (c : Dev Cert.AdamVIdeal.nD) → Buf (Elt Ideal) ((c.tc : Thread Cert.AdamVIdeal.nD Cert.AdamVIdeal.τ).loc Cert.AdamVIdeal.main_v0_1)) (v2 : (c : Dev Cert.AdamVIdeal.nD) → Buf (Elt Ideal) ((c.tc : Thread Cert.AdamVIdeal.nD Cert.AdamVIdeal.τ).loc Cert.AdamVIdeal.main_v0_2)) (v3 : (c : Dev Cert.AdamVIdeal.nD) → Buf (Elt Ideal) ((c.tc : Thread Cert.AdamVIdeal.nD Cert.AdamVIdeal.τ).loc Cert.AdamVIdeal.main_v0_3)),
      θ_run (Cert.AdamVIdeal.defs (F := Ideal)) (onTc (τ := Cert.AdamVIdeal.τ) (Cert.AdamVIdeal.main (F := Ideal))) ⟨m, fun _ => 0, g⟩ (fun r => ∀ c : Dev Cert.AdamVIdeal.nD,
          r.2.mem ((c.tc : Thread Cert.AdamVIdeal.nD Cert.AdamVIdeal.τ).loc Cert.AdamVIdeal.main_v0_0) = v0 c
          ∧ r.2.mem ((c.tc : Thread Cert.AdamVIdeal.nD Cert.AdamVIdeal.τ).loc Cert.AdamVIdeal.main_v0_1) = v1 c
          ∧ r.2.mem ((c.tc : Thread Cert.AdamVIdeal.nD Cert.AdamVIdeal.τ).loc Cert.AdamVIdeal.main_v0_2) = v2 c
          ∧ r.2.mem ((c.tc : Thread Cert.AdamVIdeal.nD Cert.AdamVIdeal.τ).loc Cert.AdamVIdeal.main_v0_3) = v3 c
          ∧ r.2.mem ((c.tc : Thread Cert.AdamVIdeal.nD Cert.AdamVIdeal.τ).loc Cert.AdamVIdeal.main_arg0) = m ((c.tc : Thread Cert.AdamVIdeal.nD Cert.AdamVIdeal.τ).loc Cert.AdamVIdeal.main_arg0)
          ∧ r.2.mem ((c.tc : Thread Cert.AdamVIdeal.nD Cert.AdamVIdeal.τ).loc Cert.AdamVIdeal.main_arg1) = m ((c.tc : Thread Cert.AdamVIdeal.nD Cert.AdamVIdeal.τ).loc Cert.AdamVIdeal.main_arg1)
          ∧ r.2.mem ((c.tc : Thread Cert.AdamVIdeal.nD Cert.AdamVIdeal.τ).loc Cert.AdamVIdeal.main_arg2) = m ((c.tc : Thread Cert.AdamVIdeal.nD Cert.AdamVIdeal.τ).loc Cert.AdamVIdeal.main_arg2)
          ∧ r.2.mem ((c.tc : Thread Cert.AdamVIdeal.nD Cert.AdamVIdeal.τ).loc Cert.AdamVIdeal.main_arg3) = m ((c.tc : Thread Cert.AdamVIdeal.nD Cert.AdamVIdeal.τ).loc Cert.AdamVIdeal.main_arg3))
      ∧ θ_run (Cert.AdamVRefIdeal.defs (F := Ideal)) (onTc (τ := Cert.AdamVRefIdeal.τ) (Cert.AdamVRefIdeal.main (F := Ideal))) ⟨m', fun _ => 0, g'⟩ (fun r => ∀ c : Dev Cert.AdamVRefIdeal.nD,
          r.2.mem ((c.tc : Thread Cert.AdamVRefIdeal.nD Cert.AdamVRefIdeal.τ).loc Cert.AdamVRefIdeal.main_v0) = v0 c
          ∧ r.2.mem ((c.tc : Thread Cert.AdamVRefIdeal.nD Cert.AdamVRefIdeal.τ).loc Cert.AdamVRefIdeal.main_v24) = v1 c
          ∧ r.2.mem ((c.tc : Thread Cert.AdamVRefIdeal.nD Cert.AdamVRefIdeal.τ).loc Cert.AdamVRefIdeal.main_v5) = v2 c
          ∧ r.2.mem ((c.tc : Thread Cert.AdamVRefIdeal.nD Cert.AdamVRefIdeal.τ).loc Cert.AdamVRefIdeal.main_v11) = v3 c
          ∧ r.2.mem ((c.tc : Thread Cert.AdamVRefIdeal.nD Cert.AdamVRefIdeal.τ).loc Cert.AdamVRefIdeal.main_arg0) = m' ((c.tc : Thread Cert.AdamVRefIdeal.nD Cert.AdamVRefIdeal.τ).loc Cert.AdamVRefIdeal.main_arg0)
          ∧ r.2.mem ((c.tc : Thread Cert.AdamVRefIdeal.nD Cert.AdamVRefIdeal.τ).loc Cert.AdamVRefIdeal.main_arg1) = m' ((c.tc : Thread Cert.AdamVRefIdeal.nD Cert.AdamVRefIdeal.τ).loc Cert.AdamVRefIdeal.main_arg1)
          ∧ r.2.mem ((c.tc : Thread Cert.AdamVRefIdeal.nD Cert.AdamVRefIdeal.τ).loc Cert.AdamVRefIdeal.main_arg2) = m' ((c.tc : Thread Cert.AdamVRefIdeal.nD Cert.AdamVRefIdeal.τ).loc Cert.AdamVRefIdeal.main_arg2)
          ∧ r.2.mem ((c.tc : Thread Cert.AdamVRefIdeal.nD Cert.AdamVRefIdeal.τ).loc Cert.AdamVRefIdeal.main_arg3) = m' ((c.tc : Thread Cert.AdamVRefIdeal.nD Cert.AdamVRefIdeal.τ).loc Cert.AdamVRefIdeal.main_arg3))

def preserves_AdamG_AdamGIdeal : Prop :=
  True

def algebraic_AdamGIdeal_AdamGRefIdeal [hAdamGIdeal : Cert.AdamGIdeal.Facts] [hAdamGRefIdeal : Cert.AdamGRefIdeal.Facts] : Prop :=
  ∀ (m : (ℓ : Loc Cert.AdamGIdeal.nD Cert.AdamGIdeal.τ Cert.AdamGIdeal.sig) → Buf (Elt Ideal) ℓ) (g : Dev Cert.AdamGIdeal.nD → PrngReg)
    (m' : (ℓ : Loc Cert.AdamGRefIdeal.nD Cert.AdamGRefIdeal.τ Cert.AdamGRefIdeal.sig) → Buf (Elt Ideal) ℓ) (g' : Dev Cert.AdamGRefIdeal.nD → PrngReg), Pre_AdamGIdeal m →
    (∀ c : Dev Cert.AdamGIdeal.nD,
      m' ((c.tc : Thread Cert.AdamGRefIdeal.nD Cert.AdamGRefIdeal.τ).loc Cert.AdamGRefIdeal.main_arg0) = m ((c.tc : Thread Cert.AdamGIdeal.nD Cert.AdamGIdeal.τ).loc Cert.AdamGIdeal.main_arg0)
      ∧ m' ((c.tc : Thread Cert.AdamGRefIdeal.nD Cert.AdamGRefIdeal.τ).loc Cert.AdamGRefIdeal.main_arg1) = m ((c.tc : Thread Cert.AdamGIdeal.nD Cert.AdamGIdeal.τ).loc Cert.AdamGIdeal.main_arg1)
      ∧ m' ((c.tc : Thread Cert.AdamGRefIdeal.nD Cert.AdamGRefIdeal.τ).loc Cert.AdamGRefIdeal.main_arg2) = m ((c.tc : Thread Cert.AdamGIdeal.nD Cert.AdamGIdeal.τ).loc Cert.AdamGIdeal.main_arg2)
      ∧ m' ((c.tc : Thread Cert.AdamGRefIdeal.nD Cert.AdamGRefIdeal.τ).loc Cert.AdamGRefIdeal.main_arg3) = m ((c.tc : Thread Cert.AdamGIdeal.nD Cert.AdamGIdeal.τ).loc Cert.AdamGIdeal.main_arg3)) →
    ∃ (v0 : (c : Dev Cert.AdamGIdeal.nD) → Buf (Elt Ideal) ((c.tc : Thread Cert.AdamGIdeal.nD Cert.AdamGIdeal.τ).loc Cert.AdamGIdeal.main_v0_0)) (v1 : (c : Dev Cert.AdamGIdeal.nD) → Buf (Elt Ideal) ((c.tc : Thread Cert.AdamGIdeal.nD Cert.AdamGIdeal.τ).loc Cert.AdamGIdeal.main_v0_1)) (v2 : (c : Dev Cert.AdamGIdeal.nD) → Buf (Elt Ideal) ((c.tc : Thread Cert.AdamGIdeal.nD Cert.AdamGIdeal.τ).loc Cert.AdamGIdeal.main_v0_2)) (v3 : (c : Dev Cert.AdamGIdeal.nD) → Buf (Elt Ideal) ((c.tc : Thread Cert.AdamGIdeal.nD Cert.AdamGIdeal.τ).loc Cert.AdamGIdeal.main_v0_3)),
      θ_run (Cert.AdamGIdeal.defs (F := Ideal)) (onTc (τ := Cert.AdamGIdeal.τ) (Cert.AdamGIdeal.main (F := Ideal))) ⟨m, fun _ => 0, g⟩ (fun r => ∀ c : Dev Cert.AdamGIdeal.nD,
          r.2.mem ((c.tc : Thread Cert.AdamGIdeal.nD Cert.AdamGIdeal.τ).loc Cert.AdamGIdeal.main_v0_0) = v0 c
          ∧ r.2.mem ((c.tc : Thread Cert.AdamGIdeal.nD Cert.AdamGIdeal.τ).loc Cert.AdamGIdeal.main_v0_1) = v1 c
          ∧ r.2.mem ((c.tc : Thread Cert.AdamGIdeal.nD Cert.AdamGIdeal.τ).loc Cert.AdamGIdeal.main_v0_2) = v2 c
          ∧ r.2.mem ((c.tc : Thread Cert.AdamGIdeal.nD Cert.AdamGIdeal.τ).loc Cert.AdamGIdeal.main_v0_3) = v3 c
          ∧ r.2.mem ((c.tc : Thread Cert.AdamGIdeal.nD Cert.AdamGIdeal.τ).loc Cert.AdamGIdeal.main_arg0) = m ((c.tc : Thread Cert.AdamGIdeal.nD Cert.AdamGIdeal.τ).loc Cert.AdamGIdeal.main_arg0)
          ∧ r.2.mem ((c.tc : Thread Cert.AdamGIdeal.nD Cert.AdamGIdeal.τ).loc Cert.AdamGIdeal.main_arg1) = m ((c.tc : Thread Cert.AdamGIdeal.nD Cert.AdamGIdeal.τ).loc Cert.AdamGIdeal.main_arg1)
          ∧ r.2.mem ((c.tc : Thread Cert.AdamGIdeal.nD Cert.AdamGIdeal.τ).loc Cert.AdamGIdeal.main_arg2) = m ((c.tc : Thread Cert.AdamGIdeal.nD Cert.AdamGIdeal.τ).loc Cert.AdamGIdeal.main_arg2)
          ∧ r.2.mem ((c.tc : Thread Cert.AdamGIdeal.nD Cert.AdamGIdeal.τ).loc Cert.AdamGIdeal.main_arg3) = m ((c.tc : Thread Cert.AdamGIdeal.nD Cert.AdamGIdeal.τ).loc Cert.AdamGIdeal.main_arg3))
      ∧ θ_run (Cert.AdamGRefIdeal.defs (F := Ideal)) (onTc (τ := Cert.AdamGRefIdeal.τ) (Cert.AdamGRefIdeal.main (F := Ideal))) ⟨m', fun _ => 0, g'⟩ (fun r => ∀ c : Dev Cert.AdamGRefIdeal.nD,
          r.2.mem ((c.tc : Thread Cert.AdamGRefIdeal.nD Cert.AdamGRefIdeal.τ).loc Cert.AdamGRefIdeal.main_v0) = v0 c
          ∧ r.2.mem ((c.tc : Thread Cert.AdamGRefIdeal.nD Cert.AdamGRefIdeal.τ).loc Cert.AdamGRefIdeal.main_v24) = v1 c
          ∧ r.2.mem ((c.tc : Thread Cert.AdamGRefIdeal.nD Cert.AdamGRefIdeal.τ).loc Cert.AdamGRefIdeal.main_v5) = v2 c
          ∧ r.2.mem ((c.tc : Thread Cert.AdamGRefIdeal.nD Cert.AdamGRefIdeal.τ).loc Cert.AdamGRefIdeal.main_v11) = v3 c
          ∧ r.2.mem ((c.tc : Thread Cert.AdamGRefIdeal.nD Cert.AdamGRefIdeal.τ).loc Cert.AdamGRefIdeal.main_arg0) = m' ((c.tc : Thread Cert.AdamGRefIdeal.nD Cert.AdamGRefIdeal.τ).loc Cert.AdamGRefIdeal.main_arg0)
          ∧ r.2.mem ((c.tc : Thread Cert.AdamGRefIdeal.nD Cert.AdamGRefIdeal.τ).loc Cert.AdamGRefIdeal.main_arg1) = m' ((c.tc : Thread Cert.AdamGRefIdeal.nD Cert.AdamGRefIdeal.τ).loc Cert.AdamGRefIdeal.main_arg1)
          ∧ r.2.mem ((c.tc : Thread Cert.AdamGRefIdeal.nD Cert.AdamGRefIdeal.τ).loc Cert.AdamGRefIdeal.main_arg2) = m' ((c.tc : Thread Cert.AdamGRefIdeal.nD Cert.AdamGRefIdeal.τ).loc Cert.AdamGRefIdeal.main_arg2)
          ∧ r.2.mem ((c.tc : Thread Cert.AdamGRefIdeal.nD Cert.AdamGRefIdeal.τ).loc Cert.AdamGRefIdeal.main_arg3) = m' ((c.tc : Thread Cert.AdamGRefIdeal.nD Cert.AdamGRefIdeal.τ).loc Cert.AdamGRefIdeal.main_arg3))

def preserves_MixDx_MixDxIdeal : Prop :=
  IdealRules.named_const.Statement Cert.MixDxIdeal.κ "gelu_k" .f32 0x3D372713#32 ((8943 / 200000 : ℝ) : EReal)
  ∧ IdealRules.named_const.Statement Cert.MixDxIdeal.κ "gelu_3k" .f32 0x3E095D4F#32 ((26829 / 200000 : ℝ) : EReal)

def algebraic_MixDxIdeal_MixDxRefIdeal_pre_finite_mixdx [hMixDxIdeal : Cert.MixDxIdeal.Facts] [hMixDxRefIdeal : Cert.MixDxRefIdeal.Facts] [hPre_finite_mixdx : Cert.Pre_finite_mixdx.Facts] : Prop :=
  ∀ (m : (ℓ : Loc Cert.MixDxIdeal.nD Cert.MixDxIdeal.τ Cert.MixDxIdeal.sig) → Buf (Elt Ideal) ℓ) (g : Dev Cert.MixDxIdeal.nD → PrngReg)
    (m' : (ℓ : Loc Cert.MixDxRefIdeal.nD Cert.MixDxRefIdeal.τ Cert.MixDxRefIdeal.sig) → Buf (Elt Ideal) ℓ) (g' : Dev Cert.MixDxRefIdeal.nD → PrngReg), Pre_MixDxIdeal_finite_mixdx m →
    (∀ c : Dev Cert.MixDxIdeal.nD,
      m' ((c.tc : Thread Cert.MixDxRefIdeal.nD Cert.MixDxRefIdeal.τ).loc Cert.MixDxRefIdeal.main_arg0) = m ((c.tc : Thread Cert.MixDxIdeal.nD Cert.MixDxIdeal.τ).loc Cert.MixDxIdeal.main_arg0)
      ∧ m' ((c.tc : Thread Cert.MixDxRefIdeal.nD Cert.MixDxRefIdeal.τ).loc Cert.MixDxRefIdeal.main_arg1) = m ((c.tc : Thread Cert.MixDxIdeal.nD Cert.MixDxIdeal.τ).loc Cert.MixDxIdeal.main_arg1)
      ∧ m' ((c.tc : Thread Cert.MixDxRefIdeal.nD Cert.MixDxRefIdeal.τ).loc Cert.MixDxRefIdeal.main_arg2) = m ((c.tc : Thread Cert.MixDxIdeal.nD Cert.MixDxIdeal.τ).loc Cert.MixDxIdeal.main_arg2)
      ∧ m' ((c.tc : Thread Cert.MixDxRefIdeal.nD Cert.MixDxRefIdeal.τ).loc Cert.MixDxRefIdeal.main_arg3) = m ((c.tc : Thread Cert.MixDxIdeal.nD Cert.MixDxIdeal.τ).loc Cert.MixDxIdeal.main_arg3)
      ∧ m' ((c.tc : Thread Cert.MixDxRefIdeal.nD Cert.MixDxRefIdeal.τ).loc Cert.MixDxRefIdeal.main_arg4) = m ((c.tc : Thread Cert.MixDxIdeal.nD Cert.MixDxIdeal.τ).loc Cert.MixDxIdeal.main_arg4)
      ∧ m' ((c.tc : Thread Cert.MixDxRefIdeal.nD Cert.MixDxRefIdeal.τ).loc Cert.MixDxRefIdeal.main_arg5) = m ((c.tc : Thread Cert.MixDxIdeal.nD Cert.MixDxIdeal.τ).loc Cert.MixDxIdeal.main_arg5)
      ∧ m' ((c.tc : Thread Cert.MixDxRefIdeal.nD Cert.MixDxRefIdeal.τ).loc Cert.MixDxRefIdeal.main_arg6) = m ((c.tc : Thread Cert.MixDxIdeal.nD Cert.MixDxIdeal.τ).loc Cert.MixDxIdeal.main_arg6)) →
    ∃ (v0 : (c : Dev Cert.MixDxIdeal.nD) → Buf (Elt Ideal) ((c.tc : Thread Cert.MixDxIdeal.nD Cert.MixDxIdeal.τ).loc Cert.MixDxIdeal.main_v3_0)) (v1 : (c : Dev Cert.MixDxIdeal.nD) → Buf (Elt Ideal) ((c.tc : Thread Cert.MixDxIdeal.nD Cert.MixDxIdeal.τ).loc Cert.MixDxIdeal.main_v3_1)) (v2 : (c : Dev Cert.MixDxIdeal.nD) → Buf (Elt Ideal) ((c.tc : Thread Cert.MixDxIdeal.nD Cert.MixDxIdeal.τ).loc Cert.MixDxIdeal.main_v3_2)),
      θ_run (Cert.MixDxIdeal.defs (F := Ideal)) (onTc (τ := Cert.MixDxIdeal.τ) (Cert.MixDxIdeal.main (F := Ideal))) ⟨m, fun _ => 0, g⟩ (fun r => ∀ c : Dev Cert.MixDxIdeal.nD,
          r.2.mem ((c.tc : Thread Cert.MixDxIdeal.nD Cert.MixDxIdeal.τ).loc Cert.MixDxIdeal.main_v3_0) = v0 c
          ∧ r.2.mem ((c.tc : Thread Cert.MixDxIdeal.nD Cert.MixDxIdeal.τ).loc Cert.MixDxIdeal.main_v3_1) = v1 c
          ∧ r.2.mem ((c.tc : Thread Cert.MixDxIdeal.nD Cert.MixDxIdeal.τ).loc Cert.MixDxIdeal.main_v3_2) = v2 c
          ∧ r.2.mem ((c.tc : Thread Cert.MixDxIdeal.nD Cert.MixDxIdeal.τ).loc Cert.MixDxIdeal.main_arg0) = m ((c.tc : Thread Cert.MixDxIdeal.nD Cert.MixDxIdeal.τ).loc Cert.MixDxIdeal.main_arg0)
          ∧ r.2.mem ((c.tc : Thread Cert.MixDxIdeal.nD Cert.MixDxIdeal.τ).loc Cert.MixDxIdeal.main_arg1) = m ((c.tc : Thread Cert.MixDxIdeal.nD Cert.MixDxIdeal.τ).loc Cert.MixDxIdeal.main_arg1)
          ∧ r.2.mem ((c.tc : Thread Cert.MixDxIdeal.nD Cert.MixDxIdeal.τ).loc Cert.MixDxIdeal.main_arg2) = m ((c.tc : Thread Cert.MixDxIdeal.nD Cert.MixDxIdeal.τ).loc Cert.MixDxIdeal.main_arg2)
          ∧ r.2.mem ((c.tc : Thread Cert.MixDxIdeal.nD Cert.MixDxIdeal.τ).loc Cert.MixDxIdeal.main_arg3) = m ((c.tc : Thread Cert.MixDxIdeal.nD Cert.MixDxIdeal.τ).loc Cert.MixDxIdeal.main_arg3)
          ∧ r.2.mem ((c.tc : Thread Cert.MixDxIdeal.nD Cert.MixDxIdeal.τ).loc Cert.MixDxIdeal.main_arg4) = m ((c.tc : Thread Cert.MixDxIdeal.nD Cert.MixDxIdeal.τ).loc Cert.MixDxIdeal.main_arg4)
          ∧ r.2.mem ((c.tc : Thread Cert.MixDxIdeal.nD Cert.MixDxIdeal.τ).loc Cert.MixDxIdeal.main_arg5) = m ((c.tc : Thread Cert.MixDxIdeal.nD Cert.MixDxIdeal.τ).loc Cert.MixDxIdeal.main_arg5)
          ∧ r.2.mem ((c.tc : Thread Cert.MixDxIdeal.nD Cert.MixDxIdeal.τ).loc Cert.MixDxIdeal.main_arg6) = m ((c.tc : Thread Cert.MixDxIdeal.nD Cert.MixDxIdeal.τ).loc Cert.MixDxIdeal.main_arg6))
      ∧ θ_run (Cert.MixDxRefIdeal.defs (F := Ideal)) (onTc (τ := Cert.MixDxRefIdeal.τ) (Cert.MixDxRefIdeal.main (F := Ideal))) ⟨m', fun _ => 0, g'⟩ (fun r => ∀ c : Dev Cert.MixDxRefIdeal.nD,
          r.2.mem ((c.tc : Thread Cert.MixDxRefIdeal.nD Cert.MixDxRefIdeal.τ).loc Cert.MixDxRefIdeal.main_v51) = v0 c
          ∧ r.2.mem ((c.tc : Thread Cert.MixDxRefIdeal.nD Cert.MixDxRefIdeal.τ).loc Cert.MixDxRefIdeal.main_v50) = v1 c
          ∧ r.2.mem ((c.tc : Thread Cert.MixDxRefIdeal.nD Cert.MixDxRefIdeal.τ).loc Cert.MixDxRefIdeal.main_v52) = v2 c
          ∧ r.2.mem ((c.tc : Thread Cert.MixDxRefIdeal.nD Cert.MixDxRefIdeal.τ).loc Cert.MixDxRefIdeal.main_arg0) = m' ((c.tc : Thread Cert.MixDxRefIdeal.nD Cert.MixDxRefIdeal.τ).loc Cert.MixDxRefIdeal.main_arg0)
          ∧ r.2.mem ((c.tc : Thread Cert.MixDxRefIdeal.nD Cert.MixDxRefIdeal.τ).loc Cert.MixDxRefIdeal.main_arg1) = m' ((c.tc : Thread Cert.MixDxRefIdeal.nD Cert.MixDxRefIdeal.τ).loc Cert.MixDxRefIdeal.main_arg1)
          ∧ r.2.mem ((c.tc : Thread Cert.MixDxRefIdeal.nD Cert.MixDxRefIdeal.τ).loc Cert.MixDxRefIdeal.main_arg2) = m' ((c.tc : Thread Cert.MixDxRefIdeal.nD Cert.MixDxRefIdeal.τ).loc Cert.MixDxRefIdeal.main_arg2)
          ∧ r.2.mem ((c.tc : Thread Cert.MixDxRefIdeal.nD Cert.MixDxRefIdeal.τ).loc Cert.MixDxRefIdeal.main_arg3) = m' ((c.tc : Thread Cert.MixDxRefIdeal.nD Cert.MixDxRefIdeal.τ).loc Cert.MixDxRefIdeal.main_arg3)
          ∧ r.2.mem ((c.tc : Thread Cert.MixDxRefIdeal.nD Cert.MixDxRefIdeal.τ).loc Cert.MixDxRefIdeal.main_arg4) = m' ((c.tc : Thread Cert.MixDxRefIdeal.nD Cert.MixDxRefIdeal.τ).loc Cert.MixDxRefIdeal.main_arg4)
          ∧ r.2.mem ((c.tc : Thread Cert.MixDxRefIdeal.nD Cert.MixDxRefIdeal.τ).loc Cert.MixDxRefIdeal.main_arg5) = m' ((c.tc : Thread Cert.MixDxRefIdeal.nD Cert.MixDxRefIdeal.τ).loc Cert.MixDxRefIdeal.main_arg5)
          ∧ r.2.mem ((c.tc : Thread Cert.MixDxRefIdeal.nD Cert.MixDxRefIdeal.τ).loc Cert.MixDxRefIdeal.main_arg6) = m' ((c.tc : Thread Cert.MixDxRefIdeal.nD Cert.MixDxRefIdeal.τ).loc Cert.MixDxRefIdeal.main_arg6))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v0_0)) (v1 : (c : Dev Cert.CombineIdeal.nD) → Buf (Elt Ideal) ((c.tc : Thread Cert.CombineIdeal.nD Cert.CombineIdeal.τ).loc Cert.CombineIdeal.main_v0_1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v0_0) = v0 c
          ∧ r.2.mem ((c.tc : Thread Cert.CombineIdeal.nD Cert.CombineIdeal.τ).loc Cert.CombineIdeal.main_v0_1) = v1 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v4) = v0 c
          ∧ r.2.mem ((c.tc : Thread Cert.CombineRefIdeal.nD Cert.CombineRefIdeal.τ).loc Cert.CombineRefIdeal.main_v18) = v1 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v1)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v1) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v5) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v1)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v1) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v4) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_MemN_MemNIdeal : Prop :=
  True

def algebraic_MemNIdeal_MemNRefIdeal [hMemNIdeal : Cert.MemNIdeal.Facts] [hMemNRefIdeal : Cert.MemNRefIdeal.Facts] : Prop :=
  ∀ (m : (ℓ : Loc Cert.MemNIdeal.nD Cert.MemNIdeal.τ Cert.MemNIdeal.sig) → Buf (Elt Ideal) ℓ) (g : Dev Cert.MemNIdeal.nD → PrngReg)
    (m' : (ℓ : Loc Cert.MemNRefIdeal.nD Cert.MemNRefIdeal.τ Cert.MemNRefIdeal.sig) → Buf (Elt Ideal) ℓ) (g' : Dev Cert.MemNRefIdeal.nD → PrngReg), Pre_MemNIdeal m →
    (∀ c : Dev Cert.MemNIdeal.nD,
      m' ((c.tc : Thread Cert.MemNRefIdeal.nD Cert.MemNRefIdeal.τ).loc Cert.MemNRefIdeal.main_arg0) = m ((c.tc : Thread Cert.MemNIdeal.nD Cert.MemNIdeal.τ).loc Cert.MemNIdeal.main_arg0)
      ∧ m' ((c.tc : Thread Cert.MemNRefIdeal.nD Cert.MemNRefIdeal.τ).loc Cert.MemNRefIdeal.main_arg1) = m ((c.tc : Thread Cert.MemNIdeal.nD Cert.MemNIdeal.τ).loc Cert.MemNIdeal.main_arg1)) →
    ∃ (v0 : (c : Dev Cert.MemNIdeal.nD) → Buf (Elt Ideal) ((c.tc : Thread Cert.MemNIdeal.nD Cert.MemNIdeal.τ).loc Cert.MemNIdeal.main_v0)),
      θ_run (Cert.MemNIdeal.defs (F := Ideal)) (onTc (τ := Cert.MemNIdeal.τ) (Cert.MemNIdeal.main (F := Ideal))) ⟨m, fun _ => 0, g⟩ (fun r => ∀ c : Dev Cert.MemNIdeal.nD,
          r.2.mem ((c.tc : Thread Cert.MemNIdeal.nD Cert.MemNIdeal.τ).loc Cert.MemNIdeal.main_v0) = v0 c
          ∧ r.2.mem ((c.tc : Thread Cert.MemNIdeal.nD Cert.MemNIdeal.τ).loc Cert.MemNIdeal.main_arg0) = m ((c.tc : Thread Cert.MemNIdeal.nD Cert.MemNIdeal.τ).loc Cert.MemNIdeal.main_arg0)
          ∧ r.2.mem ((c.tc : Thread Cert.MemNIdeal.nD Cert.MemNIdeal.τ).loc Cert.MemNIdeal.main_arg1) = m ((c.tc : Thread Cert.MemNIdeal.nD Cert.MemNIdeal.τ).loc Cert.MemNIdeal.main_arg1))
      ∧ θ_run (Cert.MemNRefIdeal.defs (F := Ideal)) (onTc (τ := Cert.MemNRefIdeal.τ) (Cert.MemNRefIdeal.main (F := Ideal))) ⟨m', fun _ => 0, g'⟩ (fun r => ∀ c : Dev Cert.MemNRefIdeal.nD,
          r.2.mem ((c.tc : Thread Cert.MemNRefIdeal.nD Cert.MemNRefIdeal.τ).loc Cert.MemNRefIdeal.main_v12) = v0 c
          ∧ r.2.mem ((c.tc : Thread Cert.MemNRefIdeal.nD Cert.MemNRefIdeal.τ).loc Cert.MemNRefIdeal.main_arg0) = m' ((c.tc : Thread Cert.MemNRefIdeal.nD Cert.MemNRefIdeal.τ).loc Cert.MemNRefIdeal.main_arg0)
          ∧ r.2.mem ((c.tc : Thread Cert.MemNRefIdeal.nD Cert.MemNRefIdeal.τ).loc Cert.MemNRefIdeal.main_arg1) = m' ((c.tc : Thread Cert.MemNRefIdeal.nD Cert.MemNRefIdeal.τ).loc Cert.MemNRefIdeal.main_arg1))

def preserves_MemNB_MemNBIdeal : Prop :=
  True

def algebraic_MemNBIdeal_MemNBRefIdeal_pre_finite_memn [hMemNBIdeal : Cert.MemNBIdeal.Facts] [hMemNBRefIdeal : Cert.MemNBRefIdeal.Facts] [hPre_finite_memn : Cert.Pre_finite_memn.Facts] : Prop :=
  ∀ (m : (ℓ : Loc Cert.MemNBIdeal.nD Cert.MemNBIdeal.τ Cert.MemNBIdeal.sig) → Buf (Elt Ideal) ℓ) (g : Dev Cert.MemNBIdeal.nD → PrngReg)
    (m' : (ℓ : Loc Cert.MemNBRefIdeal.nD Cert.MemNBRefIdeal.τ Cert.MemNBRefIdeal.sig) → Buf (Elt Ideal) ℓ) (g' : Dev Cert.MemNBRefIdeal.nD → PrngReg), Pre_MemNBIdeal_finite_memn m →
    (∀ c : Dev Cert.MemNBIdeal.nD,
      m' ((c.tc : Thread Cert.MemNBRefIdeal.nD Cert.MemNBRefIdeal.τ).loc Cert.MemNBRefIdeal.main_arg0) = m ((c.tc : Thread Cert.MemNBIdeal.nD Cert.MemNBIdeal.τ).loc Cert.MemNBIdeal.main_arg0)
      ∧ m' ((c.tc : Thread Cert.MemNBRefIdeal.nD Cert.MemNBRefIdeal.τ).loc Cert.MemNBRefIdeal.main_arg1) = m ((c.tc : Thread Cert.MemNBIdeal.nD Cert.MemNBIdeal.τ).loc Cert.MemNBIdeal.main_arg1)
      ∧ m' ((c.tc : Thread Cert.MemNBRefIdeal.nD Cert.MemNBRefIdeal.τ).loc Cert.MemNBRefIdeal.main_arg2) = m ((c.tc : Thread Cert.MemNBIdeal.nD Cert.MemNBIdeal.τ).loc Cert.MemNBIdeal.main_arg2)) →
    ∃ (v0 : (c : Dev Cert.MemNBIdeal.nD) → Buf (Elt Ideal) ((c.tc : Thread Cert.MemNBIdeal.nD Cert.MemNBIdeal.τ).loc Cert.MemNBIdeal.main_v0_0)) (v1 : (c : Dev Cert.MemNBIdeal.nD) → Buf (Elt Ideal) ((c.tc : Thread Cert.MemNBIdeal.nD Cert.MemNBIdeal.τ).loc Cert.MemNBIdeal.main_v0_1)) (v2 : (c : Dev Cert.MemNBIdeal.nD) → Buf (Elt Ideal) ((c.tc : Thread Cert.MemNBIdeal.nD Cert.MemNBIdeal.τ).loc Cert.MemNBIdeal.main_v0_2)),
      θ_run (Cert.MemNBIdeal.defs (F := Ideal)) (onTc (τ := Cert.MemNBIdeal.τ) (Cert.MemNBIdeal.main (F := Ideal))) ⟨m, fun _ => 0, g⟩ (fun r => ∀ c : Dev Cert.MemNBIdeal.nD,
          r.2.mem ((c.tc : Thread Cert.MemNBIdeal.nD Cert.MemNBIdeal.τ).loc Cert.MemNBIdeal.main_v0_0) = v0 c
          ∧ r.2.mem ((c.tc : Thread Cert.MemNBIdeal.nD Cert.MemNBIdeal.τ).loc Cert.MemNBIdeal.main_v0_1) = v1 c
          ∧ r.2.mem ((c.tc : Thread Cert.MemNBIdeal.nD Cert.MemNBIdeal.τ).loc Cert.MemNBIdeal.main_v0_2) = v2 c
          ∧ r.2.mem ((c.tc : Thread Cert.MemNBIdeal.nD Cert.MemNBIdeal.τ).loc Cert.MemNBIdeal.main_arg0) = m ((c.tc : Thread Cert.MemNBIdeal.nD Cert.MemNBIdeal.τ).loc Cert.MemNBIdeal.main_arg0)
          ∧ r.2.mem ((c.tc : Thread Cert.MemNBIdeal.nD Cert.MemNBIdeal.τ).loc Cert.MemNBIdeal.main_arg1) = m ((c.tc : Thread Cert.MemNBIdeal.nD Cert.MemNBIdeal.τ).loc Cert.MemNBIdeal.main_arg1)
          ∧ r.2.mem ((c.tc : Thread Cert.MemNBIdeal.nD Cert.MemNBIdeal.τ).loc Cert.MemNBIdeal.main_arg2) = m ((c.tc : Thread Cert.MemNBIdeal.nD Cert.MemNBIdeal.τ).loc Cert.MemNBIdeal.main_arg2))
      ∧ θ_run (Cert.MemNBRefIdeal.defs (F := Ideal)) (onTc (τ := Cert.MemNBRefIdeal.τ) (Cert.MemNBRefIdeal.main (F := Ideal))) ⟨m', fun _ => 0, g'⟩ (fun r => ∀ c : Dev Cert.MemNBRefIdeal.nD,
          r.2.mem ((c.tc : Thread Cert.MemNBRefIdeal.nD Cert.MemNBRefIdeal.τ).loc Cert.MemNBRefIdeal.main_v33) = v0 c
          ∧ r.2.mem ((c.tc : Thread Cert.MemNBRefIdeal.nD Cert.MemNBRefIdeal.τ).loc Cert.MemNBRefIdeal.main_v34) = v1 c
          ∧ r.2.mem ((c.tc : Thread Cert.MemNBRefIdeal.nD Cert.MemNBRefIdeal.τ).loc Cert.MemNBRefIdeal.main_v17) = v2 c
          ∧ r.2.mem ((c.tc : Thread Cert.MemNBRefIdeal.nD Cert.MemNBRefIdeal.τ).loc Cert.MemNBRefIdeal.main_arg0) = m' ((c.tc : Thread Cert.MemNBRefIdeal.nD Cert.MemNBRefIdeal.τ).loc Cert.MemNBRefIdeal.main_arg0)
          ∧ r.2.mem ((c.tc : Thread Cert.MemNBRefIdeal.nD Cert.MemNBRefIdeal.τ).loc Cert.MemNBRefIdeal.main_arg1) = m' ((c.tc : Thread Cert.MemNBRefIdeal.nD Cert.MemNBRefIdeal.τ).loc Cert.MemNBRefIdeal.main_arg1)
          ∧ r.2.mem ((c.tc : Thread Cert.MemNBRefIdeal.nD Cert.MemNBRefIdeal.τ).loc Cert.MemNBRefIdeal.main_arg2) = m' ((c.tc : Thread Cert.MemNBRefIdeal.nD Cert.MemNBRefIdeal.τ).loc Cert.MemNBRefIdeal.main_arg2))

def preserves_SmallSum_SmallSumIdeal : Prop :=
  True

def algebraic_SmallSumIdeal_SmallSumRefIdeal [hSmallSumIdeal : Cert.SmallSumIdeal.Facts] [hSmallSumRefIdeal : Cert.SmallSumRefIdeal.Facts] : Prop :=
  ∀ (m : (ℓ : Loc Cert.SmallSumIdeal.nD Cert.SmallSumIdeal.τ Cert.SmallSumIdeal.sig) → Buf (Elt Ideal) ℓ) (g : Dev Cert.SmallSumIdeal.nD → PrngReg)
    (m' : (ℓ : Loc Cert.SmallSumRefIdeal.nD Cert.SmallSumRefIdeal.τ Cert.SmallSumRefIdeal.sig) → Buf (Elt Ideal) ℓ) (g' : Dev Cert.SmallSumRefIdeal.nD → PrngReg), Pre_SmallSumIdeal m →
    (∀ c : Dev Cert.SmallSumIdeal.nD,
      m' ((c.tc : Thread Cert.SmallSumRefIdeal.nD Cert.SmallSumRefIdeal.τ).loc Cert.SmallSumRefIdeal.main_arg0) = m ((c.tc : Thread Cert.SmallSumIdeal.nD Cert.SmallSumIdeal.τ).loc Cert.SmallSumIdeal.main_arg0)) →
    ∃ (v0 : (c : Dev Cert.SmallSumIdeal.nD) → Buf (Elt Ideal) ((c.tc : Thread Cert.SmallSumIdeal.nD Cert.SmallSumIdeal.τ).loc Cert.SmallSumIdeal.main_v0)),
      θ_run (Cert.SmallSumIdeal.defs (F := Ideal)) (onTc (τ := Cert.SmallSumIdeal.τ) (Cert.SmallSumIdeal.main (F := Ideal))) ⟨m, fun _ => 0, g⟩ (fun r => ∀ c : Dev Cert.SmallSumIdeal.nD,
          r.2.mem ((c.tc : Thread Cert.SmallSumIdeal.nD Cert.SmallSumIdeal.τ).loc Cert.SmallSumIdeal.main_v0) = v0 c
          ∧ r.2.mem ((c.tc : Thread Cert.SmallSumIdeal.nD Cert.SmallSumIdeal.τ).loc Cert.SmallSumIdeal.main_arg0) = m ((c.tc : Thread Cert.SmallSumIdeal.nD Cert.SmallSumIdeal.τ).loc Cert.SmallSumIdeal.main_arg0))
      ∧ θ_run (Cert.SmallSumRefIdeal.defs (F := Ideal)) (onTc (τ := Cert.SmallSumRefIdeal.τ) (Cert.SmallSumRefIdeal.main (F := Ideal))) ⟨m', fun _ => 0, g'⟩ (fun r => ∀ c : Dev Cert.SmallSumRefIdeal.nD,
          r.2.mem ((c.tc : Thread Cert.SmallSumRefIdeal.nD Cert.SmallSumRefIdeal.τ).loc Cert.SmallSumRefIdeal.main_v0) = v0 c
          ∧ r.2.mem ((c.tc : Thread Cert.SmallSumRefIdeal.nD Cert.SmallSumRefIdeal.τ).loc Cert.SmallSumRefIdeal.main_arg0) = m' ((c.tc : Thread Cert.SmallSumRefIdeal.nD Cert.SmallSumRefIdeal.τ).loc Cert.SmallSumRefIdeal.main_arg0))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v0_0)) (v1 : (c : Dev Cert.PrepIdeal.nD) → Buf (Elt Ideal) ((c.tc : Thread Cert.PrepIdeal.nD Cert.PrepIdeal.τ).loc Cert.PrepIdeal.main_v0_1)) (v2 : (c : Dev Cert.PrepIdeal.nD) → Buf (Elt Ideal) ((c.tc : Thread Cert.PrepIdeal.nD Cert.PrepIdeal.τ).loc Cert.PrepIdeal.main_v0_2)) (v3 : (c : Dev Cert.PrepIdeal.nD) → Buf (Elt Ideal) ((c.tc : Thread Cert.PrepIdeal.nD Cert.PrepIdeal.τ).loc Cert.PrepIdeal.main_v0_3)) (v4 : (c : Dev Cert.PrepIdeal.nD) → Buf (Elt Ideal) ((c.tc : Thread Cert.PrepIdeal.nD Cert.PrepIdeal.τ).loc Cert.PrepIdeal.main_v0_4)) (v5 : (c : Dev Cert.PrepIdeal.nD) → Buf (Elt Ideal) ((c.tc : Thread Cert.PrepIdeal.nD Cert.PrepIdeal.τ).loc Cert.PrepIdeal.main_v0_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v0_0) = v0 c
          ∧ r.2.mem ((c.tc : Thread Cert.PrepIdeal.nD Cert.PrepIdeal.τ).loc Cert.PrepIdeal.main_v0_1) = v1 c
          ∧ r.2.mem ((c.tc : Thread Cert.PrepIdeal.nD Cert.PrepIdeal.τ).loc Cert.PrepIdeal.main_v0_2) = v2 c
          ∧ r.2.mem ((c.tc : Thread Cert.PrepIdeal.nD Cert.PrepIdeal.τ).loc Cert.PrepIdeal.main_v0_3) = v3 c
          ∧ r.2.mem ((c.tc : Thread Cert.PrepIdeal.nD Cert.PrepIdeal.τ).loc Cert.PrepIdeal.main_v0_4) = v4 c
          ∧ r.2.mem ((c.tc : Thread Cert.PrepIdeal.nD Cert.PrepIdeal.τ).loc Cert.PrepIdeal.main_v0_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v5) = v0 c
          ∧ r.2.mem ((c.tc : Thread Cert.PrepRefIdeal.nD Cert.PrepRefIdeal.τ).loc Cert.PrepRefIdeal.main_v7) = v1 c
          ∧ r.2.mem ((c.tc : Thread Cert.PrepRefIdeal.nD Cert.PrepRefIdeal.τ).loc Cert.PrepRefIdeal.main_v47) = v2 c
          ∧ r.2.mem ((c.tc : Thread Cert.PrepRefIdeal.nD Cert.PrepRefIdeal.τ).loc Cert.PrepRefIdeal.main_v61) = v3 c
          ∧ r.2.mem ((c.tc : Thread Cert.PrepRefIdeal.nD Cert.PrepRefIdeal.τ).loc Cert.PrepRefIdeal.main_v60) = v4 c
          ∧ r.2.mem ((c.tc : Thread Cert.PrepRefIdeal.nD Cert.PrepRefIdeal.τ).loc Cert.PrepRefIdeal.main_v62) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def Claim : Prop :=
  ∃ (hKernel : Cert.Kernel.Facts) (hKernelIdeal : Cert.KernelIdeal.Facts) (hReferenceIdeal : Cert.ReferenceIdeal.Facts) (hDw : Cert.Dw.Facts) (hDwIdeal : Cert.DwIdeal.Facts) (hDwRefIdeal : Cert.DwRefIdeal.Facts) (hDx : Cert.Dx.Facts) (hDxIdeal : Cert.DxIdeal.Facts) (hDxRefIdeal : Cert.DxRefIdeal.Facts) (hAttn : Cert.Attn.Facts) (hAttnIdeal : Cert.AttnIdeal.Facts) (hAttnRefIdeal : Cert.AttnRefIdeal.Facts) (hMerge : Cert.Merge.Facts) (hMergeIdeal : Cert.MergeIdeal.Facts) (hMergeRefIdeal : Cert.MergeRefIdeal.Facts) (hMixIn : Cert.MixIn.Facts) (hMixInIdeal : Cert.MixInIdeal.Facts) (hMixInRefIdeal : Cert.MixInRefIdeal.Facts) (hMixW : Cert.MixW.Facts) (hMixWIdeal : Cert.MixWIdeal.Facts) (hMixWRefIdeal : Cert.MixWRefIdeal.Facts) (hSqW : Cert.SqW.Facts) (hSqWIdeal : Cert.SqWIdeal.Facts) (hSqWRefIdeal : Cert.SqWRefIdeal.Facts) (hSqX : Cert.SqX.Facts) (hSqXIdeal : Cert.SqXIdeal.Facts) (hSqXRefIdeal : Cert.SqXRefIdeal.Facts) (hQuery : Cert.Query.Facts) (hQueryIdeal : Cert.QueryIdeal.Facts) (hQueryRefIdeal : Cert.QueryRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hResid : Cert.Resid.Facts) (hResidIdeal : Cert.ResidIdeal.Facts) (hResidRefIdeal : Cert.ResidRefIdeal.Facts) (hQueryDx : Cert.QueryDx.Facts) (hQueryDxIdeal : Cert.QueryDxIdeal.Facts) (hQueryDxRefIdeal : Cert.QueryDxRefIdeal.Facts) (hMergeW : Cert.MergeW.Facts) (hMergeWIdeal : Cert.MergeWIdeal.Facts) (hMergeWRefIdeal : Cert.MergeWRefIdeal.Facts) (hMergeF : Cert.MergeF.Facts) (hMergeFIdeal : Cert.MergeFIdeal.Facts) (hMergeFRefIdeal : Cert.MergeFRefIdeal.Facts) (hHead : Cert.Head.Facts) (hHeadIdeal : Cert.HeadIdeal.Facts) (hHeadRefIdeal : Cert.HeadRefIdeal.Facts) (hAttnF : Cert.AttnF.Facts) (hAttnFIdeal : Cert.AttnFIdeal.Facts) (hAttnFRefIdeal : Cert.AttnFRefIdeal.Facts) (hParamF : Cert.ParamF.Facts) (hParamFIdeal : Cert.ParamFIdeal.Facts) (hParamFRefIdeal : Cert.ParamFRefIdeal.Facts) (hParamB : Cert.ParamB.Facts) (hParamBIdeal : Cert.ParamBIdeal.Facts) (hParamBRefIdeal : Cert.ParamBRefIdeal.Facts) (hSkip : Cert.Skip.Facts) (hSkipIdeal : Cert.SkipIdeal.Facts) (hSkipRefIdeal : Cert.SkipRefIdeal.Facts) (hAdam : Cert.Adam.Facts) (hAdamIdeal : Cert.AdamIdeal.Facts) (hAdamRefIdeal : Cert.AdamRefIdeal.Facts) (hAdamSq : Cert.AdamSq.Facts) (hAdamSqIdeal : Cert.AdamSqIdeal.Facts) (hAdamSqRefIdeal : Cert.AdamSqRefIdeal.Facts) (hAdamKv : Cert.AdamKv.Facts) (hAdamKvIdeal : Cert.AdamKvIdeal.Facts) (hAdamKvRefIdeal : Cert.AdamKvRefIdeal.Facts) (hAdamP : Cert.AdamP.Facts) (hAdamPIdeal : Cert.AdamPIdeal.Facts) (hAdamPRefIdeal : Cert.AdamPRefIdeal.Facts) (hAdamV : Cert.AdamV.Facts) (hAdamVIdeal : Cert.AdamVIdeal.Facts) (hAdamVRefIdeal : Cert.AdamVRefIdeal.Facts) (hAdamG : Cert.AdamG.Facts) (hAdamGIdeal : Cert.AdamGIdeal.Facts) (hAdamGRefIdeal : Cert.AdamGRefIdeal.Facts) (hMixDx : Cert.MixDx.Facts) (hMixDxIdeal : Cert.MixDxIdeal.Facts) (hMixDxRefIdeal : Cert.MixDxRefIdeal.Facts) (hCombine : Cert.Combine.Facts) (hCombineIdeal : Cert.CombineIdeal.Facts) (hCombineRefIdeal : Cert.CombineRefIdeal.Facts) (hKv : Cert.Kv.Facts) (hKvIdeal : Cert.KvIdeal.Facts) (hKvRefIdeal : Cert.KvRefIdeal.Facts) (hKvDw : Cert.KvDw.Facts) (hKvDwIdeal : Cert.KvDwIdeal.Facts) (hKvDwRefIdeal : Cert.KvDwRefIdeal.Facts) (hKvDx : Cert.KvDx.Facts) (hKvDxIdeal : Cert.KvDxIdeal.Facts) (hKvDxRefIdeal : Cert.KvDxRefIdeal.Facts) (hMemN : Cert.MemN.Facts) (hMemNIdeal : Cert.MemNIdeal.Facts) (hMemNRefIdeal : Cert.MemNRefIdeal.Facts) (hMemNB : Cert.MemNB.Facts) (hMemNBIdeal : Cert.MemNBIdeal.Facts) (hMemNBRefIdeal : Cert.MemNBRefIdeal.Facts) (hSmallSum : Cert.SmallSum.Facts) (hSmallSumIdeal : Cert.SmallSumIdeal.Facts) (hSmallSumRefIdeal : Cert.SmallSumRefIdeal.Facts) (hPrep : Cert.Prep.Facts) (hPrepIdeal : Cert.PrepIdeal.Facts) (hPrepRefIdeal : Cert.PrepRefIdeal.Facts) (hPre_finite : Cert.Pre_finite.Facts) (hPre_finite_dx : Cert.Pre_finite_dx.Facts) (hPre_finite_attn : Cert.Pre_finite_attn.Facts) (hPre_finite_mix : Cert.Pre_finite_mix.Facts) (hPre_finite_qdx : Cert.Pre_finite_qdx.Facts) (hPre_finite_head : Cert.Pre_finite_head.Facts) (hPre_finite_mixdx : Cert.Pre_finite_mixdx.Facts) (hPre_finite_memn : Cert.Pre_finite_memn.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dw (hDw := hDw)
    ∧ quiescent_DwIdeal (hDwIdeal := hDwIdeal)
    ∧ quiescent_DwRefIdeal (hDwRefIdeal := hDwRefIdeal)
    ∧ quiescent_Dx (hDx := hDx)
    ∧ quiescent_DxIdeal (hDxIdeal := hDxIdeal)
    ∧ quiescent_DxIdeal_pre_finite_dx (hDxIdeal := hDxIdeal) (hPre_finite_dx := hPre_finite_dx)
    ∧ quiescent_DxRefIdeal (hDxRefIdeal := hDxRefIdeal)
    ∧ quiescent_DxRefIdeal_pre_finite_dx (hDxRefIdeal := hDxRefIdeal) (hPre_finite_dx := hPre_finite_dx)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Merge (hMerge := hMerge)
    ∧ quiescent_MergeIdeal (hMergeIdeal := hMergeIdeal)
    ∧ quiescent_MergeRefIdeal (hMergeRefIdeal := hMergeRefIdeal)
    ∧ quiescent_MixIn (hMixIn := hMixIn)
    ∧ quiescent_MixInIdeal (hMixInIdeal := hMixInIdeal)
    ∧ quiescent_MixInIdeal_pre_finite_mix (hMixInIdeal := hMixInIdeal) (hPre_finite_mix := hPre_finite_mix)
    ∧ quiescent_MixInRefIdeal (hMixInRefIdeal := hMixInRefIdeal)
    ∧ quiescent_MixInRefIdeal_pre_finite_mix (hMixInRefIdeal := hMixInRefIdeal) (hPre_finite_mix := hPre_finite_mix)
    ∧ quiescent_MixW (hMixW := hMixW)
    ∧ quiescent_MixWIdeal (hMixWIdeal := hMixWIdeal)
    ∧ quiescent_MixWRefIdeal (hMixWRefIdeal := hMixWRefIdeal)
    ∧ quiescent_SqW (hSqW := hSqW)
    ∧ quiescent_SqWIdeal (hSqWIdeal := hSqWIdeal)
    ∧ quiescent_SqWRefIdeal (hSqWRefIdeal := hSqWRefIdeal)
    ∧ quiescent_SqX (hSqX := hSqX)
    ∧ quiescent_SqXIdeal (hSqXIdeal := hSqXIdeal)
    ∧ quiescent_SqXRefIdeal (hSqXRefIdeal := hSqXRefIdeal)
    ∧ quiescent_Query (hQuery := hQuery)
    ∧ quiescent_QueryIdeal (hQueryIdeal := hQueryIdeal)
    ∧ quiescent_QueryRefIdeal (hQueryRefIdeal := hQueryRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_Resid (hResid := hResid)
    ∧ quiescent_ResidIdeal (hResidIdeal := hResidIdeal)
    ∧ quiescent_ResidRefIdeal (hResidRefIdeal := hResidRefIdeal)
    ∧ quiescent_QueryDx (hQueryDx := hQueryDx)
    ∧ quiescent_QueryDxIdeal (hQueryDxIdeal := hQueryDxIdeal)
    ∧ quiescent_QueryDxIdeal_pre_finite_qdx (hQueryDxIdeal := hQueryDxIdeal) (hPre_finite_qdx := hPre_finite_qdx)
    ∧ quiescent_QueryDxRefIdeal (hQueryDxRefIdeal := hQueryDxRefIdeal)
    ∧ quiescent_QueryDxRefIdeal_pre_finite_qdx (hQueryDxRefIdeal := hQueryDxRefIdeal) (hPre_finite_qdx := hPre_finite_qdx)
    ∧ quiescent_MergeW (hMergeW := hMergeW)
    ∧ quiescent_MergeWIdeal (hMergeWIdeal := hMergeWIdeal)
    ∧ quiescent_MergeWRefIdeal (hMergeWRefIdeal := hMergeWRefIdeal)
    ∧ quiescent_MergeF (hMergeF := hMergeF)
    ∧ quiescent_MergeFIdeal (hMergeFIdeal := hMergeFIdeal)
    ∧ quiescent_MergeFRefIdeal (hMergeFRefIdeal := hMergeFRefIdeal)
    ∧ quiescent_Head (hHead := hHead)
    ∧ quiescent_HeadIdeal (hHeadIdeal := hHeadIdeal)
    ∧ quiescent_HeadIdeal_pre_finite_head (hHeadIdeal := hHeadIdeal) (hPre_finite_head := hPre_finite_head)
    ∧ quiescent_HeadRefIdeal (hHeadRefIdeal := hHeadRefIdeal)
    ∧ quiescent_HeadRefIdeal_pre_finite_head (hHeadRefIdeal := hHeadRefIdeal) (hPre_finite_head := hPre_finite_head)
    ∧ quiescent_AttnF (hAttnF := hAttnF)
    ∧ quiescent_AttnFIdeal (hAttnFIdeal := hAttnFIdeal)
    ∧ quiescent_AttnFRefIdeal (hAttnFRefIdeal := hAttnFRefIdeal)
    ∧ quiescent_ParamF (hParamF := hParamF)
    ∧ quiescent_ParamFIdeal (hParamFIdeal := hParamFIdeal)
    ∧ quiescent_ParamFRefIdeal (hParamFRefIdeal := hParamFRefIdeal)
    ∧ quiescent_ParamB (hParamB := hParamB)
    ∧ quiescent_ParamBIdeal (hParamBIdeal := hParamBIdeal)
    ∧ quiescent_ParamBRefIdeal (hParamBRefIdeal := hParamBRefIdeal)
    ∧ quiescent_Skip (hSkip := hSkip)
    ∧ quiescent_SkipIdeal (hSkipIdeal := hSkipIdeal)
    ∧ quiescent_SkipRefIdeal (hSkipRefIdeal := hSkipRefIdeal)
    ∧ quiescent_Adam (hAdam := hAdam)
    ∧ quiescent_AdamIdeal (hAdamIdeal := hAdamIdeal)
    ∧ quiescent_AdamRefIdeal (hAdamRefIdeal := hAdamRefIdeal)
    ∧ quiescent_AdamSq (hAdamSq := hAdamSq)
    ∧ quiescent_AdamSqIdeal (hAdamSqIdeal := hAdamSqIdeal)
    ∧ quiescent_AdamSqRefIdeal (hAdamSqRefIdeal := hAdamSqRefIdeal)
    ∧ quiescent_AdamKv (hAdamKv := hAdamKv)
    ∧ quiescent_AdamKvIdeal (hAdamKvIdeal := hAdamKvIdeal)
    ∧ quiescent_AdamKvRefIdeal (hAdamKvRefIdeal := hAdamKvRefIdeal)
    ∧ quiescent_AdamP (hAdamP := hAdamP)
    ∧ quiescent_AdamPIdeal (hAdamPIdeal := hAdamPIdeal)
    ∧ quiescent_AdamPRefIdeal (hAdamPRefIdeal := hAdamPRefIdeal)
    ∧ quiescent_AdamV (hAdamV := hAdamV)
    ∧ quiescent_AdamVIdeal (hAdamVIdeal := hAdamVIdeal)
    ∧ quiescent_AdamVRefIdeal (hAdamVRefIdeal := hAdamVRefIdeal)
    ∧ quiescent_AdamG (hAdamG := hAdamG)
    ∧ quiescent_AdamGIdeal (hAdamGIdeal := hAdamGIdeal)
    ∧ quiescent_AdamGRefIdeal (hAdamGRefIdeal := hAdamGRefIdeal)
    ∧ quiescent_MixDx (hMixDx := hMixDx)
    ∧ quiescent_MixDxIdeal (hMixDxIdeal := hMixDxIdeal)
    ∧ quiescent_MixDxIdeal_pre_finite_mixdx (hMixDxIdeal := hMixDxIdeal) (hPre_finite_mixdx := hPre_finite_mixdx)
    ∧ quiescent_MixDxRefIdeal (hMixDxRefIdeal := hMixDxRefIdeal)
    ∧ quiescent_MixDxRefIdeal_pre_finite_mixdx (hMixDxRefIdeal := hMixDxRefIdeal) (hPre_finite_mixdx := hPre_finite_mixdx)
    ∧ quiescent_Combine (hCombine := hCombine)
    ∧ quiescent_CombineIdeal (hCombineIdeal := hCombineIdeal)
    ∧ quiescent_CombineRefIdeal (hCombineRefIdeal := hCombineRefIdeal)
    ∧ quiescent_Kv (hKv := hKv)
    ∧ quiescent_KvIdeal (hKvIdeal := hKvIdeal)
    ∧ quiescent_KvRefIdeal (hKvRefIdeal := hKvRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_MemN (hMemN := hMemN)
    ∧ quiescent_MemNIdeal (hMemNIdeal := hMemNIdeal)
    ∧ quiescent_MemNRefIdeal (hMemNRefIdeal := hMemNRefIdeal)
    ∧ quiescent_MemNB (hMemNB := hMemNB)
    ∧ quiescent_MemNBIdeal (hMemNBIdeal := hMemNBIdeal)
    ∧ quiescent_MemNBIdeal_pre_finite_memn (hMemNBIdeal := hMemNBIdeal) (hPre_finite_memn := hPre_finite_memn)
    ∧ quiescent_MemNBRefIdeal (hMemNBRefIdeal := hMemNBRefIdeal)
    ∧ quiescent_MemNBRefIdeal_pre_finite_memn (hMemNBRefIdeal := hMemNBRefIdeal) (hPre_finite_memn := hPre_finite_memn)
    ∧ quiescent_SmallSum (hSmallSum := hSmallSum)
    ∧ quiescent_SmallSumIdeal (hSmallSumIdeal := hSmallSumIdeal)
    ∧ quiescent_SmallSumRefIdeal (hSmallSumRefIdeal := hSmallSumRefIdeal)
    ∧ quiescent_Prep (hPrep := hPrep)
    ∧ quiescent_PrepIdeal (hPrepIdeal := hPrepIdeal)
    ∧ quiescent_PrepRefIdeal (hPrepRefIdeal := hPrepRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dw_DwIdeal
    ∧ algebraic_DwIdeal_DwRefIdeal (hDwIdeal := hDwIdeal) (hDwRefIdeal := hDwRefIdeal)
    ∧ preserves_Dx_DxIdeal
    ∧ algebraic_DxIdeal_DxRefIdeal_pre_finite_dx (hDxIdeal := hDxIdeal) (hDxRefIdeal := hDxRefIdeal) (hPre_finite_dx := hPre_finite_dx)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Merge_MergeIdeal
    ∧ algebraic_MergeIdeal_MergeRefIdeal (hMergeIdeal := hMergeIdeal) (hMergeRefIdeal := hMergeRefIdeal)
    ∧ preserves_MixIn_MixInIdeal
    ∧ algebraic_MixInIdeal_MixInRefIdeal_pre_finite_mix (hMixInIdeal := hMixInIdeal) (hMixInRefIdeal := hMixInRefIdeal) (hPre_finite_mix := hPre_finite_mix)
    ∧ preserves_MixW_MixWIdeal
    ∧ algebraic_MixWIdeal_MixWRefIdeal (hMixWIdeal := hMixWIdeal) (hMixWRefIdeal := hMixWRefIdeal)
    ∧ preserves_SqW_SqWIdeal
    ∧ algebraic_SqWIdeal_SqWRefIdeal (hSqWIdeal := hSqWIdeal) (hSqWRefIdeal := hSqWRefIdeal)
    ∧ preserves_SqX_SqXIdeal
    ∧ algebraic_SqXIdeal_SqXRefIdeal (hSqXIdeal := hSqXIdeal) (hSqXRefIdeal := hSqXRefIdeal)
    ∧ preserves_Query_QueryIdeal
    ∧ algebraic_QueryIdeal_QueryRefIdeal (hQueryIdeal := hQueryIdeal) (hQueryRefIdeal := hQueryRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_Resid_ResidIdeal
    ∧ algebraic_ResidIdeal_ResidRefIdeal (hResidIdeal := hResidIdeal) (hResidRefIdeal := hResidRefIdeal)
    ∧ preserves_QueryDx_QueryDxIdeal
    ∧ algebraic_QueryDxIdeal_QueryDxRefIdeal_pre_finite_qdx (hQueryDxIdeal := hQueryDxIdeal) (hQueryDxRefIdeal := hQueryDxRefIdeal) (hPre_finite_qdx := hPre_finite_qdx)
    ∧ preserves_MergeW_MergeWIdeal
    ∧ algebraic_MergeWIdeal_MergeWRefIdeal (hMergeWIdeal := hMergeWIdeal) (hMergeWRefIdeal := hMergeWRefIdeal)
    ∧ preserves_MergeF_MergeFIdeal
    ∧ algebraic_MergeFIdeal_MergeFRefIdeal (hMergeFIdeal := hMergeFIdeal) (hMergeFRefIdeal := hMergeFRefIdeal)
    ∧ preserves_Head_HeadIdeal
    ∧ algebraic_HeadIdeal_HeadRefIdeal_pre_finite_head (hHeadIdeal := hHeadIdeal) (hHeadRefIdeal := hHeadRefIdeal) (hPre_finite_head := hPre_finite_head)
    ∧ preserves_AttnF_AttnFIdeal
    ∧ algebraic_AttnFIdeal_AttnFRefIdeal (hAttnFIdeal := hAttnFIdeal) (hAttnFRefIdeal := hAttnFRefIdeal)
    ∧ preserves_ParamF_ParamFIdeal
    ∧ algebraic_ParamFIdeal_ParamFRefIdeal (hParamFIdeal := hParamFIdeal) (hParamFRefIdeal := hParamFRefIdeal)
    ∧ preserves_ParamB_ParamBIdeal
    ∧ algebraic_ParamBIdeal_ParamBRefIdeal (hParamBIdeal := hParamBIdeal) (hParamBRefIdeal := hParamBRefIdeal)
    ∧ preserves_Skip_SkipIdeal
    ∧ algebraic_SkipIdeal_SkipRefIdeal (hSkipIdeal := hSkipIdeal) (hSkipRefIdeal := hSkipRefIdeal)
    ∧ preserves_Adam_AdamIdeal
    ∧ algebraic_AdamIdeal_AdamRefIdeal (hAdamIdeal := hAdamIdeal) (hAdamRefIdeal := hAdamRefIdeal)
    ∧ preserves_AdamSq_AdamSqIdeal
    ∧ algebraic_AdamSqIdeal_AdamSqRefIdeal (hAdamSqIdeal := hAdamSqIdeal) (hAdamSqRefIdeal := hAdamSqRefIdeal)
    ∧ preserves_AdamKv_AdamKvIdeal
    ∧ algebraic_AdamKvIdeal_AdamKvRefIdeal (hAdamKvIdeal := hAdamKvIdeal) (hAdamKvRefIdeal := hAdamKvRefIdeal)
    ∧ preserves_AdamP_AdamPIdeal
    ∧ algebraic_AdamPIdeal_AdamPRefIdeal (hAdamPIdeal := hAdamPIdeal) (hAdamPRefIdeal := hAdamPRefIdeal)
    ∧ preserves_AdamV_AdamVIdeal
    ∧ algebraic_AdamVIdeal_AdamVRefIdeal (hAdamVIdeal := hAdamVIdeal) (hAdamVRefIdeal := hAdamVRefIdeal)
    ∧ preserves_AdamG_AdamGIdeal
    ∧ algebraic_AdamGIdeal_AdamGRefIdeal (hAdamGIdeal := hAdamGIdeal) (hAdamGRefIdeal := hAdamGRefIdeal)
    ∧ preserves_MixDx_MixDxIdeal
    ∧ algebraic_MixDxIdeal_MixDxRefIdeal_pre_finite_mixdx (hMixDxIdeal := hMixDxIdeal) (hMixDxRefIdeal := hMixDxRefIdeal) (hPre_finite_mixdx := hPre_finite_mixdx)
    ∧ preserves_Combine_CombineIdeal
    ∧ algebraic_CombineIdeal_CombineRefIdeal (hCombineIdeal := hCombineIdeal) (hCombineRefIdeal := hCombineRefIdeal)
    ∧ preserves_Kv_KvIdeal
    ∧ algebraic_KvIdeal_KvRefIdeal (hKvIdeal := hKvIdeal) (hKvRefIdeal := hKvRefIdeal)
    ∧ preserves_KvDw_KvDwIdeal
    ∧ algebraic_KvDwIdeal_KvDwRefIdeal (hKvDwIdeal := hKvDwIdeal) (hKvDwRefIdeal := hKvDwRefIdeal)
    ∧ preserves_KvDx_KvDxIdeal
    ∧ algebraic_KvDxIdeal_KvDxRefIdeal (hKvDxIdeal := hKvDxIdeal) (hKvDxRefIdeal := hKvDxRefIdeal)
    ∧ preserves_MemN_MemNIdeal
    ∧ algebraic_MemNIdeal_MemNRefIdeal (hMemNIdeal := hMemNIdeal) (hMemNRefIdeal := hMemNRefIdeal)
    ∧ preserves_MemNB_MemNBIdeal
    ∧ algebraic_MemNBIdeal_MemNBRefIdeal_pre_finite_memn (hMemNBIdeal := hMemNBIdeal) (hMemNBRefIdeal := hMemNBRefIdeal) (hPre_finite_memn := hPre_finite_memn)
    ∧ preserves_SmallSum_SmallSumIdeal
    ∧ algebraic_SmallSumIdeal_SmallSumRefIdeal (hSmallSumIdeal := hSmallSumIdeal) (hSmallSumRefIdeal := hSmallSumRefIdeal)
    ∧ preserves_Prep_PrepIdeal
    ∧ algebraic_PrepIdeal_PrepRefIdeal (hPrepIdeal := hPrepIdeal) (hPrepRefIdeal := hPrepRefIdeal)
-- ==== Pre_finite.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S2816x1024 .bf16) (main_arg3 : FVec F S2816x1024 .bf16) (main_arg4 : FVec F S2816x1024 .bf16) (main_arg5 : FVec F S4096x1024 .bf16) : IVec S4096x1024 1 × IVec S1x1024 1 × IVec S2816x1024 1 × IVec S2816x1024 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  let main_v15 : FVec F S4096x1024 .bf16 := Host.absf main_arg5
  let main_cst_4 : FVec F S_ .bf16 := constant S_ .bf16 0x7F80#16
  let main_v16 : FVec F S4096x1024 .bf16 := broadcastInDim S4096x1024 ![] bcast_S_S4096x1024 main_cst_4
  let main_v17 : IVec S4096x1024 1 := cmpf .olt main_v15 main_v16
  (main_v2, main_v5, main_v8, main_v11, main_v14, main_v17)
-- ==== Pre_finite_attn.lean ====
abbrev S4096x1024 : Shape := ⟨2, ![4096, 1024]⟩
abbrev S256x2048 : Shape := ⟨2, ![256, 2048]⟩
abbrev S256x1024 : Shape := ⟨2, ![256, 1024]⟩
abbrev S_ : Shape := ⟨0, ![]⟩

class Facts : Prop where
  slices_S256x2048_S256x1024_0_0 : S256x2048.Slices ![0, 0] S256x1024
  bcast_S_S4096x1024 : S_.BroadcastsInDim S4096x1024 (![] : Fin 0 → Fin S4096x1024.rank)
  bcast_S_S256x1024 : S_.BroadcastsInDim S256x1024 (![] : Fin 0 → Fin S256x1024.rank)

variable [Facts]

def fn {F : FTy → Type} [FloatOps F] (main_arg0 : FVec F S4096x1024 .bf16) (main_arg1 : FVec F S256x2048 .bf16) (main_arg2 : FVec F S4096x1024 .bf16) : IVec S4096x1024 1 × IVec S256x1024 1 :=
  let main_v0 : FVec F S256x1024 .bf16 := (extractStridedSlice S256x1024 ![0, 0] · slices_S256x2048_S256x1024_0_0) main_arg1
  let main_v1 : FVec F S4096x1024 .bf16 := Host.absf main_arg0
  let main_cst : FVec F S_ .bf16 := constant S_ .bf16 0x7F80#16
  let main_v2 : FVec F S4096x1024 .bf16 := broadcastInDim S4096x1024 ![] bcast_S_S4096x1024 main_cst
  let main_v3 : IVec S4096x1024 1 := cmpf .olt main_v1 main_v2
  let main_v4 : FVec F S256x1024 .bf16 := Host.absf main_v0
  let main_cst_0 : FVec F S_ .bf16 := constant S_ .bf16 0x7F80#16
  let main_v5 : FVec F S256x1024 .bf16 := broadcastInDim S256x1024 ![] bcast_S_S256x1024 main_cst_0
  let main_v6 : IVec S256x1024 1 := cmpf .olt main_v4 main_v5
  (main_v3, main_v6)
-- ==== Pre_finite_dx.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn_part1 {F : FTy → Type} [FloatOps F] (main_arg6 : FVec F S4096x1024 .f32) (main_v2 : IVec S4096x2816 1) (main_v5 : IVec S4096x2816 1) (main_v8 : IVec S2816x1024 1) (main_v11 : IVec S2816x1024 1) (main_v14 : IVec S4096x1024 1) (main_v17 : IVec S1x1024 1) : IVec S4096x2816 1 × IVec S4096x2816 1 × IVec S2816x1024 1 × IVec S2816x1024 1 × IVec S4096x1024 1 × IVec S1x1024 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x2816 .bf16) (main_arg1 : FVec F S4096x2816 .bf16) (main_arg2 : FVec F S2816x1024 .bf16) (main_arg3 : FVec F S2816x1024 .bf16) (main_arg4 : FVec F S4096x1024 .f32) (main_arg5 : FVec F S1x1024 .f32) (main_arg6 : FVec F S4096x1024 .f32) : IVec S4096x2816 1 × IVec S4096x2816 1 × IVec S2816x1024 1 × IVec S2816x1024 1 × IVec S4096x1024 1 × IVec S1x1024 1 × IVec S4096x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S4096x2816 .bf16 := Host.absf main_arg1
  let main_cst_0 : FVec F S_ .bf16 := constant S_ .bf16 0x7F80#16
  let main_v4 : FVec F S4096x2816 .bf16 := broadcastInDim S4096x2816 ![] bcast_S_S4096x2816 main_cst_0
  let main_v5 : IVec S4096x2816 1 := cmpf .olt main_v3 main_v4
  let main_v6 : FVec F S2816x1024 .bf16 := Host.absf main_arg2
  let main_cst_1 : FVec F S_ .bf16 := constant S_ .bf16 0x7F80#16
  let main_v7 : FVec F S2816x1024 .bf16 := broadcastInDim S2816x1024 ![] bcast_S_S2816x1024 main_cst_1
  let main_v8 : IVec S2816x1024 1 := cmpf .olt main_v6 main_v7
  let main_v9 : FVec F S2816x1024 .bf16 := Host.absf main_arg3
  let main_cst_2 : FVec F S_ .bf16 := constant S_ .bf16 0x7F80#16
  let main_v10 : FVec F S2816x1024 .bf16 := broadcastInDim S2816x1024 ![] bcast_S_S2816x1024 main_cst_2
  let main_v11 : IVec S2816x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1x1024 .f32 := Host.absf main_arg5
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg6 main_v2 main_v5 main_v8 main_v11 main_v14 main_v17
-- ==== Pre_finite_head.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩

class Facts : Prop where
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)
  bcast_S_S1x1024 : S_.BroadcastsInDim S1x1024 (![] : Fin 0 → Fin S1x1024.rank)

variable [Facts]

def fn {F : FTy → Type} [FloatOps F] (main_arg0 : FVec F S4096x2816 .bf16) (main_arg1 : FVec F S2816x1024 .bf16) (main_arg2 : FVec F S4096x1024 .f32) (main_arg3 : FVec F S1x1024 .f32) (main_arg4 : FVec F S4096x1024 .f32) : IVec S4096x2816 1 × IVec S2816x1024 1 × IVec S4096x1024 1 × IVec S1x1024 1 × IVec S4096x1024 1 :=
  let main_v0 : FVec F S4096x2816 .bf16 := Host.absf main_arg0
  let main_cst : FVec F S_ .bf16 := constant S_ .bf16 0x7F80#16
  let main_v1 : FVec F S4096x2816 .bf16 := broadcastInDim S4096x2816 ![] bcast_S_S4096x2816 main_cst
  let main_v2 : IVec S4096x2816 1 := cmpf .olt main_v0 main_v1
  let main_v3 : FVec F S2816x1024 .bf16 := Host.absf main_arg1
  let main_cst_0 : FVec F S_ .bf16 := constant S_ .bf16 0x7F80#16
  let main_v4 : FVec F S2816x1024 .bf16 := broadcastInDim S2816x1024 ![] bcast_S_S2816x1024 main_cst_0
  let main_v5 : IVec S2816x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Pre_finite_memn.lean ====
abbrev S256x1024 : Shape := ⟨2, ![256, 1024]⟩
abbrev S1x1024 : Shape := ⟨2, ![1, 1024]⟩
abbrev S_ : Shape := ⟨0, ![]⟩

class Facts : Prop where
  bcast_S_S256x1024 : S_.BroadcastsInDim S256x1024 (![] : Fin 0 → Fin S256x1024.rank)
  bcast_S_S1x1024 : S_.BroadcastsInDim S1x1024 (![] : Fin 0 → Fin S1x1024.rank)

variable [Facts]

def fn {F : FTy → Type} [FloatOps F] (main_arg0 : FVec F S256x1024 .f32) (main_arg1 : FVec F S1x1024 .f32) (main_arg2 : FVec F S256x1024 .f32) : IVec S256x1024 1 × IVec S1x1024 1 × IVec S256x1024 1 :=
  let main_v0 : FVec F S256x1024 .f32 := Host.absf main_arg0
  let main_cst : FVec F S_ .f32 := constant S_ .f32 0x7F800000#32
  let main_v1 : FVec F S256x1024 .f32 := broadcastInDim S256x1024 ![] bcast_S_S256x1024 main_cst
  let main_v2 : IVec S256x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S256x1024 .f32 := Host.absf main_arg2
  let main_cst_1 : FVec F S_ .f32 := constant S_ .f32 0x7F800000#32
  let main_v7 : FVec F S256x1024 .f32 := broadcastInDim S256x1024 ![] bcast_S_S256x1024 main_cst_1
  let main_v8 : IVec S256x1024 1 := cmpf .olt main_v6 main_v7
  (main_v2, main_v5, main_v8)
-- ==== Pre_finite_mix.lean ====
abbrev S4096x512 : Shape := ⟨2, ![4096, 512]⟩
abbrev S4096x256 : Shape := ⟨2, ![4096, 256]⟩
abbrev S4096x1024 : Shape := ⟨2, ![4096, 1024]⟩
abbrev S2816x1024 : Shape := ⟨2, ![2816, 1024]⟩
abbrev S1x1024 : Shape := ⟨2, ![1, 1024]⟩
abbrev S_ : Shape := ⟨0, ![]⟩

class Facts : Prop where
  bcast_S_S4096x512 : S_.BroadcastsInDim S4096x512 (![] : Fin 0 → Fin S4096x512.rank)
  bcast_S_S4096x256 : S_.BroadcastsInDim S4096x256 (![] : Fin 0 → Fin S4096x256.rank)
  bcast_S_S4096x1024 : S_.BroadcastsInDim S4096x1024 (![] : Fin 0 → Fin S4096x1024.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part1 {F : FTy → Type} [FloatOps F] (main_arg6 : FVec F S1x1024 .f32) (main_arg7 : FVec F S4096x1024 .f32) (main_v2 : IVec S4096x512 1) (main_v5 : IVec S4096x256 1) (main_v8 : IVec S4096x1024 1) (main_v11 : IVec S4096x1024 1) (main_v14 : IVec S2816x1024 1) (main_v17 : IVec S4096x1024 1) : IVec S4096x512 1 × IVec S4096x256 1 × IVec S4096x1024 1 × IVec S4096x1024 1 × IVec S2816x1024 1 × IVec S4096x1024 1 × IVec S1x1024 1 × IVec S4096x1024 1 :=
  let main_v18 : FVec F S1x1024 .f32 := Host.absf main_arg6
  let main_cst_5 : FVec F S_ .f32 := constant S_ .f32 0x7F800000#32
  let main_v19 : FVec F S1x1024 .f32 := broadcastInDim S1x1024 ![] bcast_S_S1x1024 main_cst_5
  let main_v20 : IVec S1x1024 1 := cmpf .olt main_v18 main_v19
  let main_v21 : FVec F S4096x1024 .f32 := Host.absf main_arg7
  let main_cst_6 : FVec F S_ .f32 := constant S_ .f32 0x7F800000#32
  let main_v22 : FVec F S4096x1024 .f32 := broadcastInDim S4096x1024 ![] bcast_S_S4096x1024 main_cst_6
  let main_v23 : IVec S4096x1024 1 := cmpf .olt main_v21 main_v22
  (main_v2, main_v5, main_v8, main_v11, main_v14, main_v17, main_v20, main_v23)

def fn {F : FTy → Type} [FloatOps F] (main_arg0 : FVec F S4096x512 .bf16) (main_arg1 : FVec F S4096x256 .bf16) (main_arg2 : FVec F S4096x1024 .bf16) (main_arg3 : FVec F S4096x1024 .bf16) (main_arg4 : FVec F S2816x1024 .bf16) (main_arg5 : FVec F S4096x1024 .f32) (main_arg6 : FVec F S1x1024 .f32) (main_arg7 : FVec F S4096x1024 .f32) : IVec S4096x512 1 × IVec S4096x256 1 × IVec S4096x1024 1 × IVec S4096x1024 1 × IVec S2816x1024 1 × IVec S4096x1024 1 × IVec S1x1024 1 × IVec S4096x1024 1 :=
  let main_v0 : FVec F S4096x512 .bf16 := Host.absf main_arg0
  let main_cst : FVec F S_ .bf16 := constant S_ .bf16 0x7F80#16
  let main_v1 : FVec F S4096x512 .bf16 := broadcastInDim S4096x512 ![] bcast_S_S4096x512 main_cst
  let main_v2 : IVec S4096x512 1 := cmpf .olt main_v0 main_v1
  let main_v3 : FVec F S4096x256 .bf16 := Host.absf main_arg1
  let main_cst_0 : FVec F S_ .bf16 := constant S_ .bf16 0x7F80#16
  let main_v4 : FVec F S4096x256 .bf16 := broadcastInDim S4096x256 ![] bcast_S_S4096x256 main_cst_0
  let main_v5 : IVec S4096x256 1 := cmpf .olt main_v3 main_v4
  let main_v6 : FVec F S4096x1024 .bf16 := Host.absf main_arg2
  let main_cst_1 : FVec F S_ .bf16 := constant S_ .bf16 0x7F80#16
  let main_v7 : FVec F S4096x1024 .bf16 := broadcastInDim S4096x1024 ![] bcast_S_S4096x1024 main_cst_1
  let main_v8 : IVec S4096x1024 1 := cmpf .olt main_v6 main_v7
  let main_v9 : FVec F S4096x1024 .bf16 := Host.absf main_arg3
  let main_cst_2 : FVec F S_ .bf16 := constant S_ .bf16 0x7F80#16
  let main_v10 : FVec F S4096x1024 .bf16 := broadcastInDim S4096x1024 ![] bcast_S_S4096x1024 main_cst_2
  let main_v11 : IVec S4096x1024 1 := cmpf .olt main_v9 main_v10
  let main_v12 : FVec F S2816x1024 .bf16 := Host.absf main_arg4
  let main_cst_3 : FVec F S_ .bf16 := constant S_ .bf16 0x7F80#16
  let main_v13 : FVec F S2816x1024 .bf16 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  fn_part1 (F := F) main_arg6 main_arg7 main_v2 main_v5 main_v8 main_v11 main_v14 main_v17
-- ==== Pre_finite_mixdx.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S_ : Shape := ⟨0, ![]⟩

class Facts : Prop where
  bcast_S_S4096x1024 : S_.BroadcastsInDim S4096x1024 (![] : Fin 0 → Fin S4096x1024.rank)
  bcast_S_S256x1024 : S_.BroadcastsInDim S256x1024 (![] : Fin 0 → Fin S256x1024.rank)
  bcast_S_S4096x256 : S_.BroadcastsInDim S4096x256 (![] : Fin 0 → Fin S4096x256.rank)

variable [Facts]

def fn {F : FTy → Type} [FloatOps F] (main_arg0 : FVec F S4096x1024 .bf16) (main_arg1 : FVec F S4096x1024 .bf16) (main_arg2 : FVec F S4096x1024 .bf16) (main_arg3 : FVec F S512x1024 .bf16) (main_arg4 : FVec F S256x1024 .bf16) (main_arg5 : FVec F S256x1024 .bf16) (main_arg6 : FVec F S4096x256 .f32) : IVec S4096x1024 1 × IVec S4096x1024 1 × IVec S256x1024 1 × IVec S256x1024 1 × IVec S4096x256 1 :=
  let main_v0 : FVec F S4096x1024 .bf16 := Host.absf main_arg1
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S4096x1024 .bf16 := Host.absf main_arg2
  let main_cst_0 : FVec F S_ .bf16 := constant S_ .bf16 0x7F80#16
  let main_v4 : FVec F S4096x1024 .bf16 := broadcastInDim S4096x1024 ![] bcast_S_S4096x1024 main_cst_0
  let main_v5 : IVec S4096x1024 1 := cmpf .olt main_v3 main_v4
  let main_v6 : FVec F S256x1024 .bf16 := Host.absf main_arg4
  let main_cst_1 : FVec F S_ .bf16 := constant S_ .bf16 0x7F80#16
  let main_v7 : FVec F S256x1024 .bf16 := broadcastInDim S256x1024 ![] bcast_S_S256x1024 main_cst_1
  let main_v8 : IVec S256x1024 1 := cmpf .olt main_v6 main_v7
  let main_v9 : FVec F S256x1024 .bf16 := Host.absf main_arg5
  let main_cst_2 : FVec F S_ .bf16 := constant S_ .bf16 0x7F80#16
  let main_v10 : FVec F S256x1024 .bf16 := broadcastInDim S256x1024 ![] bcast_S_S256x1024 main_cst_2
  let main_v11 : IVec S256x1024 1 := cmpf .olt main_v9 main_v10
  let main_v12 : FVec F S4096x256 .f32 := Host.absf main_arg6
  let main_cst_3 : FVec F S_ .f32 := constant S_ .f32 0x7F800000#32
  let main_v13 : FVec F S4096x256 .f32 := broadcastInDim S4096x256 ![] bcast_S_S4096x256 main_cst_3
  let main_v14 : IVec S4096x256 1 := cmpf .olt main_v12 main_v13
  (main_v2, main_v5, main_v8, main_v11, main_v14)
-- ==== Pre_finite_qdx.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1x1024 : S_.BroadcastsInDim S1x1024 (![] : Fin 0 → Fin S1x1024.rank)

variable [Facts]

def fn {F : FTy → Type} [FloatOps F] (main_arg0 : FVec F S4096x1024 .bf16) (main_arg1 : FVec F S1024x1024 .bf16) (main_arg2 : FVec F S4096x1024 .f32) (main_arg3 : FVec F S1x1024 .f32) (main_arg4 : FVec F S4096x1024 .f32) : IVec S4096x1024 1 × IVec S1024x1024 1 × IVec S4096x1024 1 × IVec S1x1024 1 × IVec S4096x1024 1 :=
  let main_v0 : FVec F S4096x1024 .bf16 := Host.absf main_arg0
  let main_cst : FVec F S_ .bf16 := constant S_ .bf16 0x7F80#16
  let main_v1 : FVec F S4096x1024 .bf16 := broadcastInDim S4096x1024 ![] bcast_S_S4096x1024 main_cst
  let main_v2 : IVec S4096x1024 1 := cmpf .olt main_v0 main_v1
  let main_v3 : FVec F S1024x1024 .bf16 := Host.absf main_arg1
  let main_cst_0 : FVec F S_ .bf16 := constant S_ .bf16 0x7F80#16
  let main_v4 : FVec F S1024x1024 .bf16 := broadcastInDim S1024x1024 ![] bcast_S_S1024x1024 main_cst_0
  let main_v5 : IVec S1024x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  (main_v2, main_v5, main_v8, main_v11, main_v14)
-- ==== Kernel.lean ====
abbrev S4096x1024 : Shape := ⟨2, ![4096, 1024]⟩
abbrev S1x1024 : Shape := ⟨2, ![1, 1024]⟩
abbrev S2816x1024 : Shape := ⟨2, ![2816, 1024]⟩
abbrev S512x1024 : Shape := ⟨2, ![512, 1024]⟩
abbrev S512 : Shape := ⟨1, ![512]⟩
abbrev S512x1 : Shape := ⟨2, ![512, 1]⟩
abbrev S4096x2816 : Shape := ⟨2, ![4096, 2816]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 12
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .bf16⟩
  | .hbm, ⟨6, _⟩ => ⟨S4096x1024, .bf16⟩
  | .hbm, ⟨7, _⟩ => ⟨S4096x2816, .bf16⟩
  | .hbm, ⟨8, _⟩ => ⟨S4096x2816, .bf16⟩
  | .hbm, ⟨9, _⟩ => ⟨S4096x2816, .bf16⟩
  | .hbm, ⟨10, _⟩ => ⟨S4096x2816, .bf16⟩
  | .hbm, ⟨11, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S2816x1024, .bf16⟩
  | .local _ .vmem, ⟨8, _⟩ => ⟨S2816x1024, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | .local _ .vmem, ⟨13, _⟩ => ⟨S512x2816, .bf16⟩
  | .local _ .vmem, ⟨14, _⟩ => ⟨S512x2816, .bf16⟩
  | .local _ .vmem, ⟨15, _⟩ => ⟨S512x1024, .bf16⟩
  | .local _ .vmem, ⟨16, _⟩ => ⟨S512x1024, .bf16⟩
  | .local _ .vmem, ⟨17, _⟩ => ⟨S2816x1024, .bf16⟩
  | .local _ .vmem, ⟨18, _⟩ => ⟨S512x2816, .bf16⟩
  | .local _ .vmem, ⟨19, _⟩ => ⟨S512x2816, .bf16⟩
  | .local _ .vmem, ⟨20, _⟩ => ⟨S512x2816, .bf16⟩
  | .local _ .vmem, ⟨21, _⟩ => ⟨S512x2816, .bf16⟩
  | .local _ .vmem, ⟨22, _⟩ => ⟨S512x2816, .bf16⟩
  | .local _ .vmem, ⟨23, _⟩ => ⟨S512x2816, .bf16⟩
  | .local _ .vmem, ⟨24, _⟩ => ⟨S512x2816, .bf16⟩
  | .local _ .vmem, ⟨25, _⟩ => ⟨S512x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2_0 : Ref sig .tc := ⟨.hbm, 10, rfl⟩
abbrev main_v2_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2816x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S2816x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x2816 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2816x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2816 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S512x2816 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S512x2816 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S512x2816 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]
-- ==== ReferenceIdeal.lean ====
abbrev S4096x1024 : Shape := ⟨2, ![4096, 1024]⟩
abbrev S1x1024 : Shape := ⟨2, ![1, 1024]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S4096x1024, .bf16⟩
  | .hbm, ⟨6, _⟩ => ⟨S2816x1024, .f32⟩
  | .hbm, ⟨7, _⟩ => ⟨S2816x1024, .f32⟩
  | .hbm, ⟨8, _⟩ => ⟨S2816x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x2816, .f32⟩
  | .hbm, ⟨26, _⟩ => ⟨S4096x2816, .f32⟩
  | .hbm, ⟨27, _⟩ => ⟨S1024x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S_, .f32⟩
  | .hbm, ⟨60, _⟩ => ⟨S4096x2816, .f32⟩
  | .hbm, ⟨61, _⟩ => ⟨S4096x2816, .f32⟩
  | .hbm, ⟨62, _⟩ => ⟨S_, .f32⟩
  | .hbm, ⟨63, _⟩ => ⟨S4096x2816, .f32⟩
  | .hbm, ⟨64, _⟩ => ⟨S4096x2816, .f32⟩
  | .hbm, ⟨65, _⟩ => ⟨S4096x2816, .f32⟩
  | .hbm, ⟨66, _⟩ => ⟨S4096x2816, .f32⟩
  | .hbm, ⟨67, _⟩ => ⟨S4096x1024, .bf16⟩
  | .hbm, ⟨68, _⟩ => ⟨S4096x2816, .bf16⟩
  | .hbm, ⟨69, _⟩ => ⟨S4096x2816, .bf16⟩
  | .hbm, ⟨70, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v20_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v20_1 : Ref sig .tc := ⟨.hbm, 40, rfl⟩
abbrev main_v20_0 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_v30 : Ref sig .tc := ⟨.hbm, 56, rfl⟩
abbrev main_call2_v0 : Ref sig .tc := ⟨.hbm, 57, rfl⟩
abbrev main_call2_v1 : Ref sig .tc := ⟨.hbm, 58, rfl⟩
abbrev main_call2_cst : Ref sig .tc := ⟨.hbm, 59, rfl⟩
abbrev main_call2_v2 : Ref sig .tc := ⟨.hbm, 60, rfl⟩
abbrev main_call2_v3 : Ref sig .tc := ⟨.hbm, 61, rfl⟩
abbrev main_call2_cst_0 : Ref sig .tc := ⟨.hbm, 62, rfl⟩
abbrev main_call2_v4 : Ref sig .tc := ⟨.hbm, 63, rfl⟩
abbrev main_call2_v5 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩

abbrev nD : Nat := 1
abbrev τ : Topo := Topo.v7x

variable {F : FTy → Type} [FloatOps F]
-- ==== Dw.lean ====
abbrev S4096x1024 : Shape := ⟨2, ![4096, 1024]⟩
abbrev S4096x2816 : Shape := ⟨2, ![4096, 2816]⟩
abbrev S2816x1024 : Shape := ⟨2, ![2816, 1024]⟩
abbrev S512x1024 : Shape := ⟨2, ![512, 1024]⟩
abbrev S512x1408 : Shape := ⟨2, ![512, 1408]⟩
abbrev S1408x1024 : Shape := ⟨2, ![1408, 1024]⟩
abbrev S3x1408x1024 : Shape := ⟨3, ![3, 1408, 1024]⟩
abbrev S1x1408x1024 : Shape := ⟨3, ![1, 1408, 1024]⟩

abbrev nBuf : Space → Nat
  | .hbm => 8
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x1024, .bf16⟩
  | .hbm, ⟨5, _⟩ => ⟨S2816x1024, .bf16⟩
  | .hbm, ⟨6, _⟩ => ⟨S2816x1024, .bf16⟩
  | .hbm, ⟨7, _⟩ => ⟨S2816x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1024, .bf16⟩
  | .local _ .vmem, ⟨9, _⟩ => ⟨S512x1024, .bf16⟩
  | .local _ .vmem, ⟨10, _⟩ => ⟨S1408x1024, .bf16⟩
  | .local _ .vmem, ⟨11, _⟩ => ⟨S1408x1024, .bf16⟩
  | .local _ .vmem, ⟨12, _⟩ => ⟨S1408x1024, .bf16⟩
  | .local _ .vmem, ⟨13, _⟩ => ⟨S1408x1024, .bf16⟩
  | .local _ .vmem, ⟨14, _⟩ => ⟨S1408x1024, .bf16⟩
  | .local _ .vmem, ⟨15, _⟩ => ⟨S1408x1024, .bf16⟩
  | .local _ .vmem, ⟨16, _⟩ => ⟨S3x1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v29 : BitVec 1 := Scalar.cmpi .eq arg1 c7_i32
  let v30 : BitVec 32 := Scalar.extui v29
  let c0_i32_28 : BitVec 32 := 0#32
  let v31 : BitVec 1 := Scalar.cmpi .ne v30 c0_i32_28
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1408x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1408x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1408x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== DwRefIdeal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x2816, .bf16⟩
  | .hbm, ⟨4, _⟩ => ⟨S4096x1024, .bf16⟩
  | .hbm, ⟨5, _⟩ => ⟨S4096x1024, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x2816, .f32⟩
  | .hbm, ⟨14, _⟩ => ⟨S2816x1024, .f32⟩
  | .hbm, ⟨15, _⟩ => ⟨S2816x1024, .f32⟩
  | .hbm, ⟨16, _⟩ => ⟨S1024x2816, .f32⟩
  | .hbm, ⟨17, _⟩ => ⟨S2816x1024, .f32⟩
  | .hbm, ⟨18, _⟩ => ⟨S2816x1024, .f32⟩
  | .hbm, ⟨19, _⟩ => ⟨S1024x2816, .f32⟩
  | .hbm, ⟨20, _⟩ => ⟨S2816x1024, .f32⟩
  | .hbm, ⟨21, _⟩ => ⟨S2816x1024, .bf16⟩
  | .hbm, ⟨22, _⟩ => ⟨S2816x1024, .bf16⟩
  | .hbm, ⟨23, _⟩ => ⟨S2816x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Dx.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== DxRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S1024 : Shape := ⟨1, ![1024]⟩

abbrev nBuf : Space → Nat
  | .hbm => 62
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S2816x1024, .bf16⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S4096x2816, .f32⟩
  | .hbm, ⟨8, _⟩ => ⟨S4096x2816, .f32⟩
  | .hbm, ⟨9, _⟩ => ⟨S2816x1024, .f32⟩
  | .hbm, ⟨10, _⟩ => ⟨S2816x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S1024x2816, .f32⟩
  | .hbm, ⟨31, _⟩ => ⟨S4096x2816, .f32⟩
  | .hbm, ⟨32, _⟩ => ⟨S1024x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩

abbrev nD : Nat := 1
abbrev τ : Topo := Topo.v7x

variable {F : FTy → Type} [FloatOps F]
-- ==== Attn.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .f32⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== AttnRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 91
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x1024, .f32⟩
  | .hbm, ⟨6, _⟩ => ⟨S256x1024, .f32⟩
  | .hbm, ⟨7, _⟩ => ⟨S256x1024, .f32⟩
  | .hbm, ⟨8, _⟩ => ⟨S4096x4x256, .f32⟩
  | .hbm, ⟨9, _⟩ => ⟨S256x4x256, .f32⟩
  | .hbm, ⟨10, _⟩ => ⟨S256x4x256, .f32⟩
  | .hbm, ⟨11, _⟩ => ⟨S4x4096x256, .f32⟩
  | .hbm, ⟨12, _⟩ => ⟨S_, .f32⟩
  | .hbm, ⟨13, _⟩ => ⟨S4x4096x256, .f32⟩
  | .hbm, ⟨14, _⟩ => ⟨S4x4096x256, .f32⟩
  | .hbm, ⟨15, _⟩ => ⟨S_, .f32⟩
  | .hbm, ⟨16, _⟩ => ⟨S4x4096, .f32⟩
  | .hbm, ⟨17, _⟩ => ⟨S4x4096x1, .f32⟩
  | .hbm, ⟨18, _⟩ => ⟨S4x4096x256, .f32⟩
  | .hbm, ⟨19, _⟩ => ⟨S4x4096x256, .i1⟩
  | .hbm, ⟨20, _⟩ => ⟨S4x4096x256, .f32⟩
  | .hbm, ⟨21, _⟩ => ⟨S_, .f32⟩
  | .hbm, ⟨22, _⟩ => ⟨S4x4096, .f32⟩
  | .hbm, ⟨23, _⟩ => ⟨S_, .f32⟩
  | .hbm, ⟨24, _⟩ => ⟨S4x4096, .f32⟩
  | .hbm, ⟨25, _⟩ => ⟨S4x4096, .f32⟩
  | .hbm, ⟨26, _⟩ => ⟨S_, .f32⟩
  | .hbm, ⟨27, _⟩ => ⟨S4x4096, .f32⟩
  | .hbm, ⟨28, _⟩ => ⟨S4x4096, .i1⟩
  | .hbm, ⟨29, _⟩ => ⟨S_, .f32⟩
  | .hbm, ⟨30, _⟩ => ⟨S4x4096, .f32⟩
  | .hbm, ⟨31, _⟩ => ⟨S4x4096, .i1⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S4x4096x1, .f32⟩
  | .hbm, ⟨41, _⟩ => ⟨S4x4096x256, .f32⟩
  | .hbm, ⟨42, _⟩ => ⟨S4x4096x256, .f32⟩
  | .hbm, ⟨43, _⟩ => ⟨S4x4096x256, .f32⟩
  | .hbm, ⟨44, _⟩ => ⟨S_, .f32⟩
  | .hbm, ⟨45, _⟩ => ⟨S4x4096, .f32⟩
  | .hbm, ⟨46, _⟩ => ⟨S4x4096x1, .f32⟩
  | .hbm, ⟨47, _⟩ => ⟨S4x4096x256, .f32⟩
  | .hbm, ⟨48, _⟩ => ⟨S4x4096x256, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x256x4096, .f32⟩
  | .hbm, ⟨54, _⟩ => ⟨S4096x4x256, .f32⟩
  | .hbm, ⟨55, _⟩ => ⟨S4096x1024, .f32⟩
  | .hbm, ⟨56, _⟩ => ⟨S4096x4x256, .f32⟩
  | .hbm, ⟨57, _⟩ => ⟨S4x256x4096, .f32⟩
  | .hbm, ⟨58, _⟩ => ⟨S4x4096x256, .f32⟩
  | .hbm, ⟨59, _⟩ => ⟨S4x256x256, .f32⟩
  | .hbm, ⟨60, _⟩ => ⟨S256x4x256, .f32⟩
  | .hbm, ⟨61, _⟩ => ⟨S4x4096x256, .f32⟩
  | .hbm, ⟨62, _⟩ => ⟨S4x4096x256, .f32⟩
  | .hbm, ⟨63, _⟩ => ⟨S4x4096x256, .f32⟩
  | .hbm, ⟨64, _⟩ => ⟨S_, .f32⟩
  | .hbm, ⟨65, _⟩ => ⟨S4x4096, .f32⟩
  | .hbm, ⟨66, _⟩ => ⟨S4x4096x1, .f32⟩
  | .hbm, ⟨67, _⟩ => ⟨S4x4096x1, .f32⟩
  | .hbm, ⟨68, _⟩ => ⟨S4x4096x256, .f32⟩
  | .hbm, ⟨69, _⟩ => ⟨S4x4096x256, .f32⟩
  | .hbm, ⟨70, _⟩ => ⟨S_, .f32⟩
  | .hbm, ⟨71, _⟩ => ⟨S4x4096, .f32⟩
  | .hbm, ⟨72, _⟩ => ⟨S4x4096x256, .f32⟩
  | .hbm, ⟨73, _⟩ => ⟨S4x4096x256, .f32⟩
  | .hbm, ⟨74, _⟩ => ⟨S4x4096x256, .f32⟩
  | .hbm, ⟨75, _⟩ => ⟨S_, .f32⟩
  | .hbm, ⟨76, _⟩ => ⟨S4x4096x256, .f32⟩
  | .hbm, ⟨77, _⟩ => ⟨S4x4096x256, .f32⟩
  | .hbm, ⟨78, _⟩ => ⟨S4x256x256, .f32⟩
  | .hbm, ⟨79, _⟩ => ⟨S256x4x256, .f32⟩
  | .hbm, ⟨80, _⟩ => ⟨S4x4096x256, .f32⟩
  | .hbm, ⟨81, _⟩ => ⟨S4096x4x256, .f32⟩
  | .hbm, ⟨82, _⟩ => ⟨S256x1024, .f32⟩
  | .hbm, ⟨83, _⟩ => ⟨S256x1024, .f32⟩
  | .hbm, ⟨84, _⟩ => ⟨S4096x1024, .f32⟩
  | .hbm, ⟨85, _⟩ => ⟨S_, .f32⟩
  | .hbm, ⟨86, _⟩ => ⟨S256x2048, .f32⟩
  | .hbm, ⟨87, _⟩ => ⟨S_, .f32⟩
  | .hbm, ⟨88, _⟩ => ⟨S256x2048, .f32⟩
  | .hbm, ⟨89, _⟩ => ⟨S256x2048, .f32⟩
  | .hbm, ⟨90, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_8 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_9 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_cst_13 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩

abbrev nD : Nat := 1
abbrev τ : Topo := Topo.v7x

variable {F : FTy → Type} [FloatOps F]
-- ==== Merge.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S1024x1024 : Shape := ⟨2, ![1024, 1024]⟩
abbrev S1024x4x256 : Shape := ⟨3, ![1024, 4, 256]⟩
abbrev S4x1024x256 : Shape := ⟨3, ![4, 1024, 256]⟩
abbrev S512x512 : Shape := ⟨2, ![512, 512]⟩
abbrev S512x256 : Shape := ⟨2, ![512, 256]⟩
abbrev S512x2816 : Shape := ⟨2, ![512, 2816]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 15
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .bf16⟩
  | .hbm, ⟨3, _⟩ => ⟨S256x1024, .bf16⟩
  | .hbm, ⟨4, _⟩ => ⟨S256x1024, .bf16⟩
  | .hbm, ⟨5, _⟩ => ⟨S4096x2816, .f32⟩
  | .hbm, ⟨6, _⟩ => ⟨S4096x1024, .bf16⟩
  | .hbm, ⟨7, _⟩ => ⟨S1024x1024, .bf16⟩
  | .hbm, ⟨8, _⟩ => ⟨S1024x4x256, .bf16⟩
  | .hbm, ⟨9, _⟩ => ⟨S4x1024x256, .bf16⟩
  | .hbm, ⟨10, _⟩ => ⟨S4096x1024, .bf16⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S4x1024x256, .bf16⟩
  | .local _ .vmem, ⟨5, _⟩ => ⟨S512x2816, .f32⟩
  | .local _ .vmem, ⟨6, _⟩ => ⟨S512x2816, .f32⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeRefIdeal.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S_ : Shape := ⟨0, ![]⟩

abbrev nBuf : Space → Nat
  | .hbm => 72
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .bf16⟩
  | .hbm, ⟨3, _⟩ => ⟨S256x1024, .bf16⟩
  | .hbm, ⟨4, _⟩ => ⟨S256x1024, .bf16⟩
  | .hbm, ⟨5, _⟩ => ⟨S4096x2816, .f32⟩
  | .hbm, ⟨6, _⟩ => ⟨S4096x1024, .bf16⟩
  | .hbm, ⟨7, _⟩ => ⟨S4096x512, .f32⟩
  | .hbm, ⟨8, _⟩ => ⟨S4096x256, .f32⟩
  | .hbm, ⟨9, _⟩ => ⟨S512x1024, .f32⟩
  | .hbm, ⟨10, _⟩ => ⟨S256x1024, .f32⟩
  | .hbm, ⟨11, _⟩ => ⟨S256x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .bf16⟩
  | .hbm, ⟨68, _⟩ => ⟨S4096x1024, .bf16⟩
  | .hbm, ⟨69, _⟩ => ⟨S4096x1024, .bf16⟩
  | .hbm, ⟨70, _⟩ => ⟨S4096x1024, .bf16⟩
  | .hbm, ⟨71, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩

abbrev nD : Nat := 1
abbrev τ : Topo := Topo.v7x

variable {F : FTy → Type} [FloatOps F]
-- ==== MixIn.lean ====
abbrev S4096x512 : Shape := ⟨2, ![4096, 512]⟩
abbrev S4096x256 : Shape := ⟨2, ![4096, 256]⟩
abbrev S4096x1024 : Shape := ⟨2, ![4096, 1024]⟩
abbrev S2816x1024 : Shape := ⟨2, ![2816, 1024]⟩
abbrev S1x1024 : Shape := ⟨2, ![1, 1024]⟩
abbrev S512x512 : Shape := ⟨2, ![512, 512]⟩
abbrev S512x256 : Shape := ⟨2, ![512, 256]⟩
abbrev S512x1024 : Shape := ⟨2, ![512, 1024]⟩
abbrev S256x1024 : Shape := ⟨2, ![256, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x1024, .f32⟩
  | .hbm, ⟨9, _⟩ => ⟨S4096x1024, .bf16⟩
  | .hbm, ⟨10, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== MixInRefIdeal.lean ====
abbrev S4096x512 : Shape := ⟨2, ![4096, 512]⟩
abbrev S4096x256 : Shape := ⟨2, ![4096, 256]⟩
abbrev S4096x1024 : Shape := ⟨2, ![4096, 1024]⟩
abbrev S2816x1024 : Shape := ⟨2, ![2816, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024x2816 : Shape := ⟨2, ![1024, 2816]⟩
abbrev S4096x2816 : Shape := ⟨2, ![4096, 2816]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S2816x1024, .bf16⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S4096x512, .f32⟩
  | .hbm, ⟨9, _⟩ => ⟨S4096x256, .f32⟩
  | .hbm, ⟨10, _⟩ => ⟨S4096x1024, .f32⟩
  | .hbm, ⟨11, _⟩ => ⟨S4096x1024, .f32⟩
  | .hbm, ⟨12, _⟩ => ⟨S2816x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S1024x2816, .f32⟩
  | .hbm, ⟨33, _⟩ => ⟨S4096x2816, .f32⟩
  | .hbm, ⟨34, _⟩ => ⟨S4096x2816, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1, .f32⟩
  | .hbm, ⟨50, _⟩ => ⟨S_, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S4096, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩

abbrev nD : Nat := 1
abbrev τ : Topo := Topo.v7x

variable {F : FTy → Type} [FloatOps F]
-- ==== MixW.lean ====
abbrev S4096x512 : Shape := ⟨2, ![4096, 512]⟩
abbrev S4096x256 : Shape := ⟨2, ![4096, 256]⟩
abbrev S4096x1024 : Shape := ⟨2, ![4096, 1024]⟩
abbrev S2816x1024 : Shape := ⟨2, ![2816, 1024]⟩
abbrev S1024x512 : Shape := ⟨2, ![1024, 512]⟩
abbrev S1024x256 : Shape := ⟨2, ![1024, 256]⟩
abbrev S1024x1024 : Shape := ⟨2, ![1024, 1024]⟩
abbrev S512x1024 : Shape := ⟨2, ![512, 1024]⟩
abbrev S256x1024 : Shape := ⟨2, ![256, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S2816x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S2816x1024, .bf16⟩
  | .local _ .vmem, ⟨11, _⟩ => ⟨S2816x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v32 : BitVec 1 := Scalar.cmpi .eq arg0 c3_i32
  let v33 : BitVec 32 := Scalar.extui v32
  let c0_i32_26 : BitVec 32 := 0#32
  let v34 : BitVec 1 := Scalar.cmpi .ne v33 c0_i32_26
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MixWRefIdeal.lean ====
abbrev S4096x512 : Shape := ⟨2, ![4096, 512]⟩
abbrev S4096x256 : Shape := ⟨2, ![4096, 256]⟩
abbrev S4096x1024 : Shape := ⟨2, ![4096, 1024]⟩
abbrev S4096x2816 : Shape := ⟨2, ![4096, 2816]⟩
abbrev S2816x1024 : Shape := ⟨2, ![2816, 1024]⟩
abbrev S1024x2816 : Shape := ⟨2, ![1024, 2816]⟩

abbrev nBuf : Space → Nat
  | .hbm => 15
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x512, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S2816x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== SqW.lean ====
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== SqWRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== SqX.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SqXRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Query.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== QueryRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Proj.lean ====
abbrev S4096x1024 : Shape := ⟨2, ![4096, 1024]⟩
abbrev S2816x1024 : Shape := ⟨2, ![2816, 1024]⟩
abbrev S4096x2816 : Shape := ⟨2, ![4096, 2816]⟩
abbrev S4096x256 : Shape := ⟨2, ![4096, 256]⟩
abbrev S512x1024 : Shape := ⟨2, ![512, 1024]⟩
abbrev S512x2816 : Shape := ⟨2, ![512, 2816]⟩
abbrev S512x256 : Shape := ⟨2, ![512, 256]⟩
abbrev S1408x1024 : Shape := ⟨2, ![1408, 1024]⟩
abbrev S512x1408 : Shape := ⟨2, ![512, 1408]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .hbm, ⟨3, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | .local _ .vmem, ⟨5, _⟩ => ⟨S512x256, .bf16⟩
  | .local _ .vmem, ⟨6, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ProjRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | .hbm, ⟨6, _⟩ => ⟨S4096x256, .f32⟩
  | .hbm, ⟨7, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Resid.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ResidRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== QueryDx.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== QueryDxRefIdeal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MergeW.lean ====
abbrev S4096x512 : Shape := ⟨2, ![4096, 512]⟩
abbrev S4096x256 : Shape := ⟨2, ![4096, 256]⟩
abbrev S4096x1024 : Shape := ⟨2, ![4096, 1024]⟩
abbrev S4x1024x256 : Shape := ⟨3, ![4, 1024, 256]⟩
abbrev S1024x512 : Shape := ⟨2, ![1024, 512]⟩
abbrev S1024x256 : Shape := ⟨2, ![1024, 256]⟩
abbrev S1024x1024 : Shape := ⟨2, ![1024, 1024]⟩
abbrev S1x512x256 : Shape := ⟨3, ![1, 512, 256]⟩
abbrev S512x256 : Shape := ⟨2, ![512, 256]⟩
abbrev S1x256x256 : Shape := ⟨3, ![1, 256, 256]⟩
abbrev S256x256 : Shape := ⟨2, ![256, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4x1024x256, .bf16⟩
  | .local _ .vmem, ⟨0, _⟩ => ⟨S1024x512, .bf16⟩
  | .local _ .vmem, ⟨1, _⟩ => ⟨S1024x512, .bf16⟩
  | .local _ .vmem, ⟨2, _⟩ => ⟨S1024x256, .bf16⟩
  | .local _ .vmem, ⟨3, _⟩ => ⟨S1024x256, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S4x1024x256, .bf16⟩
  | .local _ .vmem, ⟨11, _⟩ => ⟨S4x1024x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v101 : BitVec 1 := Scalar.cmpi .eq arg0 c3_i32
  let v102 : BitVec 32 := Scalar.extui v101
  let c0_i32_105 : BitVec 32 := 0#32
  let v103 : BitVec 1 := Scalar.cmpi .ne v102 c0_i32_105
  v103

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MergeWRefIdeal.lean ====
abbrev S4096x512 : Shape := ⟨2, ![4096, 512]⟩
abbrev S4096x256 : Shape := ⟨2, ![4096, 256]⟩
abbrev S4096x1024 : Shape := ⟨2, ![4096, 1024]⟩
abbrev S1024x256 : Shape := ⟨2, ![1024, 256]⟩
abbrev S256x1024 : Shape := ⟨2, ![256, 1024]⟩
abbrev S1024x512 : Shape := ⟨2, ![1024, 512]⟩
abbrev S512x1024 : Shape := ⟨2, ![512, 1024]⟩
abbrev S1024x1024 : Shape := ⟨2, ![1024, 1024]⟩
abbrev S1024x4x256 : Shape := ⟨3, ![1024, 4, 256]⟩
abbrev S4x1024x256 : Shape := ⟨3, ![4, 1024, 256]⟩

abbrev nBuf : Space → Nat
  | .hbm => 20
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x512, .f32⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S1024x256, .f32⟩
  | .hbm, ⟨11, _⟩ => ⟨S256x1024, .f32⟩
  | .hbm, ⟨12, _⟩ => ⟨S1024x256, .f32⟩
  | .hbm, ⟨13, _⟩ => ⟨S256x1024, .f32⟩
  | .hbm, ⟨14, _⟩ => ⟨S1024x512, .f32⟩
  | .hbm, ⟨15, _⟩ => ⟨S512x1024, .f32⟩
  | .hbm, ⟨16, _⟩ => ⟨S1024x1024, .f32⟩
  | .hbm, ⟨17, _⟩ => ⟨S1024x4x256, .f32⟩
  | .hbm, ⟨18, _⟩ => ⟨S4x1024x256, .f32⟩
  | .hbm, ⟨19, _⟩ => ⟨S4x1024x256, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MergeF.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S1024x1024 : Shape := ⟨2, ![1024, 1024]⟩
abbrev S1024x4x256 : Shape := ⟨3, ![1024, 4, 256]⟩
abbrev S4x1024x256 : Shape := ⟨3, ![4, 1024, 256]⟩
abbrev S4096x1024 : Shape := ⟨2, ![4096, 1024]⟩
abbrev S512x512 : Shape := ⟨2, ![512, 512]⟩
abbrev S512x256 : Shape := ⟨2, ![512, 256]⟩
abbrev S512x2816 : Shape := ⟨2, ![512, 2816]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 10
  | .vmem => 9
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .bf16⟩
  | .hbm, ⟨3, _⟩ => ⟨S256x1024, .bf16⟩
  | .hbm, ⟨4, _⟩ => ⟨S256x1024, .bf16⟩
  | .hbm, ⟨5, _⟩ => ⟨S4096x2816, .f32⟩
  | .hbm, ⟨6, _⟩ => ⟨S1024x1024, .bf16⟩
  | .hbm, ⟨7, _⟩ => ⟨S1024x4x256, .bf16⟩
  | .hbm, ⟨8, _⟩ => ⟨S4x1024x256, .bf16⟩
  | .hbm, ⟨9, _⟩ => ⟨S4096x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S4x1024x256, .bf16⟩
  | .local _ .vmem, ⟨5, _⟩ => ⟨S512x2816, .f32⟩
  | .local _ .vmem, ⟨6, _⟩ => ⟨S512x2816, .f32⟩
  | .local _ .vmem, ⟨7, _⟩ => ⟨S512x1024, .bf16⟩
  | .local _ .vmem, ⟨8, _⟩ => ⟨S512x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MergeFRefIdeal.lean ====
abbrev S4096x512 : Shape := ⟨2, ![4096, 512]⟩
abbrev S4096x256 : Shape := ⟨2, ![4096, 256]⟩
abbrev S512x1024 : Shape := ⟨2, ![512, 1024]⟩
abbrev S256x1024 : Shape := ⟨2, ![256, 1024]⟩
abbrev S4096x2816 : Shape := ⟨2, ![4096, 2816]⟩
abbrev S4096x1024 : Shape := ⟨2, ![4096, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x256, .bf16⟩
  | .hbm, ⟨2, _⟩ => ⟨S512x1024, .bf16⟩
  | .hbm, ⟨3, _⟩ => ⟨S256x1024, .bf16⟩
  | .hbm, ⟨4, _⟩ => ⟨S256x1024, .bf16⟩
  | .hbm, ⟨5, _⟩ => ⟨S4096x2816, .f32⟩
  | .hbm, ⟨6, _⟩ => ⟨S4096x512, .f32⟩
  | .hbm, ⟨7, _⟩ => ⟨S4096x256, .f32⟩
  | .hbm, ⟨8, _⟩ => ⟨S512x1024, .f32⟩
  | .hbm, ⟨9, _⟩ => ⟨S256x1024, .f32⟩
  | .hbm, ⟨10, _⟩ => ⟨S256x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_cst_2 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== Head.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩
abbrev S1 : Shape := ⟨1, ![1]⟩
abbrev S1x1 : Shape := ⟨2, ![1, 1]⟩

abbrev nBuf : Space → Nat
  | .hbm => 9
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1x128, .f32⟩
  | .hbm, ⟨6, _⟩ => ⟨S4096x1024, .f32⟩
  | .hbm, ⟨7, _⟩ => ⟨S4096x1024, .bf16⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== HeadRefIdeal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S_, .f32⟩
  | .hbm, ⟨39, _⟩ => ⟨S4096, .f32⟩
  | .hbm, ⟨40, _⟩ => ⟨S4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S1x128, .f32⟩
  | .hbm, ⟨78, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_v29 : Ref sig .tc := ⟨.hbm, 44, rfl⟩
abbrev main_cst_9 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_cst_11 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_12 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== AttnF.lean ====
abbrev S4096x1024 : Shape := ⟨2, ![4096, 1024]⟩
abbrev S256x2048 : Shape := ⟨2, ![256, 2048]⟩
abbrev S1024x1024 : Shape := ⟨2, ![1024, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AttnFRefIdeal.lean ====
abbrev S4096x1024 : Shape := ⟨2, ![4096, 1024]⟩
abbrev S256x2048 : Shape := ⟨2, ![256, 2048]⟩
abbrev S256x1024 : Shape := ⟨2, ![256, 1024]⟩
abbrev S4096x4x256 : Shape := ⟨3, ![4096, 4, 256]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S256x1024, .f32⟩
  | .hbm, ⟨5, _⟩ => ⟨S256x1024, .f32⟩
  | .hbm, ⟨6, _⟩ => ⟨S4096x4x256, .f32⟩
  | .hbm, ⟨7, _⟩ => ⟨S256x4x256, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== ParamF.lean ====
abbrev S4096x2048 : Shape := ⟨2, ![4096, 2048]⟩
abbrev S4096x256 : Shape := ⟨2, ![4096, 256]⟩
abbrev S1x1024 : Shape := ⟨2, ![1, 1024]⟩
abbrev S256x2048 : Shape := ⟨2, ![256, 2048]⟩
abbrev S1024x2048 : Shape := ⟨2, ![1024, 2048]⟩
abbrev S16x2048 : Shape := ⟨2, ![16, 2048]⟩
abbrev S1024x256 : Shape := ⟨2, ![1024, 256]⟩
abbrev S1024x1024 : Shape := ⟨2, ![1024, 1024]⟩
abbrev S16x1024 : Shape := ⟨2, ![16, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x256, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S256x2048, .f32⟩
  | .hbm, ⟨7, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S256x2048, .f32⟩
  | .local _ .vmem, ⟨13, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ParamFRefIdeal.lean ====
abbrev S4096x2048 : Shape := ⟨2, ![4096, 2048]⟩
abbrev S4096x256 : Shape := ⟨2, ![4096, 256]⟩
abbrev S_ : Shape := ⟨0, ![]⟩
abbrev S1x2048 : Shape := ⟨2, ![1, 2048]⟩
abbrev S4095x2048 : Shape := ⟨2, ![4095, 2048]⟩
abbrev S4096x1024 : Shape := ⟨2, ![4096, 1024]⟩
abbrev S256x2048 : Shape := ⟨2, ![256, 2048]⟩
abbrev S2048x256 : Shape := ⟨2, ![2048, 256]⟩
abbrev S1024 : Shape := ⟨1, ![1024]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x256, .bf16⟩
  | .hbm, ⟨3, _⟩ => ⟨S4096x256, .bf16⟩
  | .hbm, ⟨4, _⟩ => ⟨S_, .bf16⟩
  | .hbm, ⟨5, _⟩ => ⟨S1x2048, .bf16⟩
  | .hbm, ⟨6, _⟩ => ⟨S4095x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x256, .f32⟩
  | .hbm, ⟨11, _⟩ => ⟨S4096x2048, .f32⟩
  | .hbm, ⟨12, _⟩ => ⟨S4096x256, .f32⟩
  | .hbm, ⟨13, _⟩ => ⟨S4096x1024, .f32⟩
  | .hbm, ⟨14, _⟩ => ⟨S4096x1024, .f32⟩
  | .hbm, ⟨15, _⟩ => ⟨S256x2048, .f32⟩
  | .hbm, ⟨16, _⟩ => ⟨S2048x256, .f32⟩
  | .hbm, ⟨17, _⟩ => ⟨S256x2048, .f32⟩
  | .hbm, ⟨18, _⟩ => ⟨S2048x256, .f32⟩
  | .hbm, ⟨19, _⟩ => ⟨S256x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== ParamB.lean ====
abbrev S4096x2048 : Shape := ⟨2, ![4096, 2048]⟩
abbrev S4096x256 : Shape := ⟨2, ![4096, 256]⟩
abbrev S1x1024 : Shape := ⟨2, ![1, 1024]⟩
abbrev S256x2048 : Shape := ⟨2, ![256, 2048]⟩
abbrev S1024x2048 : Shape := ⟨2, ![1024, 2048]⟩
abbrev S16x2048 : Shape := ⟨2, ![16, 2048]⟩
abbrev S1024x256 : Shape := ⟨2, ![1024, 256]⟩
abbrev S1024x1024 : Shape := ⟨2, ![1024, 1024]⟩
abbrev S16x1024 : Shape := ⟨2, ![16, 1024]⟩
abbrev S1024 : Shape := ⟨1, ![1024]⟩

abbrev nBuf : Space → Nat
  | .hbm => 8
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x256, .bf16⟩
  | .hbm, ⟨3, _⟩ => ⟨S4096x256, .bf16⟩
  | .hbm, ⟨4, _⟩ => ⟨S1x1024, .f32⟩
  | .hbm, ⟨5, _⟩ => ⟨S1x1024, .f32⟩
  | .hbm, ⟨6, _⟩ => ⟨S256x2048, .f32⟩
  | .hbm, ⟨7, _⟩ => ⟨S256x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S16x2048, .bf16⟩
  | .local _ .vmem, ⟨5, _⟩ => ⟨S16x2048, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x256, .bf16⟩
  | .local _ .vmem, ⟨10, _⟩ => ⟨S1x1024, .f32⟩
  | .local _ .vmem, ⟨11, _⟩ => ⟨S1x1024, .f32⟩
  | .local _ .vmem, ⟨12, _⟩ => ⟨S256x2048, .f32⟩
  | .local _ .vmem, ⟨13, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ParamBRefIdeal.lean ====
abbrev S4096x2048 : Shape := ⟨2, ![4096, 2048]⟩
abbrev S4096x256 : Shape := ⟨2, ![4096, 256]⟩
abbrev S4095x2048 : Shape := ⟨2, ![4095, 2048]⟩
abbrev S_ : Shape := ⟨0, ![]⟩
abbrev S1x2048 : Shape := ⟨2, ![1, 2048]⟩
abbrev S4096x1024 : Shape := ⟨2, ![4096, 1024]⟩
abbrev S256x2048 : Shape := ⟨2, ![256, 2048]⟩
abbrev S2048x256 : Shape := ⟨2, ![2048, 256]⟩
abbrev S1024 : Shape := ⟨1, ![1024]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x256, .bf16⟩
  | .hbm, ⟨3, _⟩ => ⟨S4096x256, .bf16⟩
  | .hbm, ⟨4, _⟩ => ⟨S4095x2048, .bf16⟩
  | .hbm, ⟨5, _⟩ => ⟨S_, .bf16⟩
  | .hbm, ⟨6, _⟩ => ⟨S1x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x256, .f32⟩
  | .hbm, ⟨11, _⟩ => ⟨S4096x2048, .f32⟩
  | .hbm, ⟨12, _⟩ => ⟨S4096x256, .f32⟩
  | .hbm, ⟨13, _⟩ => ⟨S4096x1024, .f32⟩
  | .hbm, ⟨14, _⟩ => ⟨S4096x1024, .f32⟩
  | .hbm, ⟨15, _⟩ => ⟨S256x2048, .f32⟩
  | .hbm, ⟨16, _⟩ => ⟨S2048x256, .f32⟩
  | .hbm, ⟨17, _⟩ => ⟨S256x2048, .f32⟩
  | .hbm, ⟨18, _⟩ => ⟨S2048x256, .f32⟩
  | .hbm, ⟨19, _⟩ => ⟨S256x2048, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S1x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Skip.lean ====
abbrev S4096x2816 : Shape := ⟨2, ![4096, 2816]⟩
abbrev S4096x256 : Shape := ⟨2, ![4096, 256]⟩
abbrev S1x256 : Shape := ⟨2, ![1, 256]⟩
abbrev S512x256 : Shape := ⟨2, ![512, 256]⟩
abbrev S256 : Shape := ⟨1, ![256]⟩

abbrev nBuf : Space → Nat
  | .hbm => 7
  | .vmem => 12
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S1x256, .f32⟩
  | .hbm, ⟨5, _⟩ => ⟨S4096x256, .bf16⟩
  | .hbm, ⟨6, _⟩ => ⟨S1x256, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S512x256, .bf16⟩
  | .local _ .vmem, ⟨10, _⟩ => ⟨S512x256, .bf16⟩
  | .local _ .vmem, ⟨11, _⟩ => ⟨S1x256, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== SkipRefIdeal.lean ====
abbrev S4096x2816 : Shape := ⟨2, ![4096, 2816]⟩
abbrev S4096x256 : Shape := ⟨2, ![4096, 256]⟩
abbrev S1x256 : Shape := ⟨2, ![1, 256]⟩
abbrev S_ : Shape := ⟨0, ![]⟩
abbrev S256 : Shape := ⟨1, ![256]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S1x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S_, .f32⟩
  | .hbm, ⟨11, _⟩ => ⟨S256, .f32⟩
  | .hbm, ⟨12, _⟩ => ⟨S1x256, .f32⟩
  | .hbm, ⟨13, _⟩ => ⟨S4096x256, .f32⟩
  | .hbm, ⟨14, _⟩ => ⟨S4096x256, .f32⟩
  | .hbm, ⟨15, _⟩ => ⟨S4096x256, .f32⟩
  | .hbm, ⟨16, _⟩ => ⟨S4096x256, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]
-- ==== Adam.lean ====
abbrev S704x1024 : Shape := ⟨2, ![704, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S704x1024, .f32⟩
  | .hbm, ⟨6, _⟩ => ⟨S704x1024, .f32⟩
  | .hbm, ⟨7, _⟩ => ⟨S704x1024, .f32⟩
  | .local _ .vmem, ⟨0, _⟩ => ⟨S352x1024, .f32⟩
  | .local _ .vmem, ⟨1, _⟩ => ⟨S352x1024, .f32⟩
  | .local _ .vmem, ⟨2, _⟩ => ⟨S352x1024, .f32⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | _, _ => ⟨S704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamRefIdeal.lean ====
abbrev S704x1024 : Shape := ⟨2, ![704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S704x1024, .f32⟩
  | .hbm, ⟨1, _⟩ => ⟨S704x1024, .f32⟩
  | .hbm, ⟨2, _⟩ => ⟨S704x1024, .f32⟩
  | .hbm, ⟨3, _⟩ => ⟨S704x1024, .f32⟩
  | .hbm, ⟨4, _⟩ => ⟨S_, .f32⟩
  | .hbm, ⟨5, _⟩ => ⟨S704x1024, .f32⟩
  | .hbm, ⟨6, _⟩ => ⟨S704x1024, .f32⟩
  | .hbm, ⟨7, _⟩ => ⟨S_, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S_, .f32⟩
  | .hbm, ⟨12, _⟩ => ⟨S704x1024, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S_, .f32⟩
  | .hbm, ⟨23, _⟩ => ⟨S704x1024, .f32⟩
  | .hbm, ⟨24, _⟩ => ⟨S704x1024, .f32⟩
  | .hbm, ⟨25, _⟩ => ⟨S704x1024, .f32⟩
  | .hbm, ⟨26, _⟩ => ⟨S_, .f32⟩
  | .hbm, ⟨27, _⟩ => ⟨S704x1024, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | _, _ => ⟨S704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSq.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSqRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamKv.lean ====
abbrev S1024x512 : Shape := ⟨2, ![1024, 512]⟩
abbrev S256x512 : Shape := ⟨2, ![256, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamKvRefIdeal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamP.lean ====
abbrev S512x256 : Shape := ⟨2, ![512, 256]⟩
abbrev S1024x256 : Shape := ⟨2, ![1024, 256]⟩
abbrev S256x256 : Shape := ⟨2, ![256, 256]⟩

abbrev nBuf : Space → Nat
  | .hbm => 8
  | .vmem => 16
  | .smem => 0
  | _ => 0

abbrev bufTy : (tb : Table) → Fin (tcTables nBuf tb) → BufTy
  | .hbm, ⟨0, _⟩ => ⟨S512x256, .f32⟩
  | .hbm, ⟨1, _⟩ => ⟨S1024x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S512x256, .f32⟩
  | .hbm, ⟨6, _⟩ => ⟨S512x256, .f32⟩
  | .hbm, ⟨7, _⟩ => ⟨S512x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamPRefIdeal.lean ====
abbrev S512x256 : Shape := ⟨2, ![512, 256]⟩
abbrev S1024x256 : Shape := ⟨2, ![1024, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S512x256, .f32⟩
  | .hbm, ⟨1, _⟩ => ⟨S1024x256, .f32⟩
  | .hbm, ⟨2, _⟩ => ⟨S512x256, .f32⟩
  | .hbm, ⟨3, _⟩ => ⟨S512x256, .f32⟩
  | .hbm, ⟨4, _⟩ => ⟨S512x256, .f32⟩
  | .hbm, ⟨5, _⟩ => ⟨S_, .f32⟩
  | .hbm, ⟨6, _⟩ => ⟨S512x256, .f32⟩
  | .hbm, ⟨7, _⟩ => ⟨S512x256, .f32⟩
  | .hbm, ⟨8, _⟩ => ⟨S_, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S_, .f32⟩
  | .hbm, ⟨13, _⟩ => ⟨S512x256, .f32⟩
  | .hbm, ⟨14, _⟩ => ⟨S512x256, .f32⟩
  | .hbm, ⟨15, _⟩ => ⟨S512x256, .f32⟩
  | .hbm, ⟨16, _⟩ => ⟨S_, .f32⟩
  | .hbm, ⟨17, _⟩ => ⟨S512x256, .f32⟩
  | .hbm, ⟨18, _⟩ => ⟨S512x256, .f32⟩
  | .hbm, ⟨19, _⟩ => ⟨S512x256, .f32⟩
  | .hbm, ⟨20, _⟩ => ⟨S_, .f32⟩
  | .hbm, ⟨21, _⟩ => ⟨S512x256, .f32⟩
  | .hbm, ⟨22, _⟩ => ⟨S512x256, .f32⟩
  | .hbm, ⟨23, _⟩ => ⟨S_, .f32⟩
  | .hbm, ⟨24, _⟩ => ⟨S512x256, .f32⟩
  | .hbm, ⟨25, _⟩ => ⟨S512x256, .f32⟩
  | .hbm, ⟨26, _⟩ => ⟨S512x256, .f32⟩
  | .hbm, ⟨27, _⟩ => ⟨S_, .f32⟩
  | .hbm, ⟨28, _⟩ => ⟨S512x256, .f32⟩
  | .hbm, ⟨29, _⟩ => ⟨S512x256, .f32⟩
  | .hbm, ⟨30, _⟩ => ⟨S512x256, .f32⟩
  | .hbm, ⟨31, _⟩ => ⟨S_, .f32⟩
  | .hbm, ⟨32, _⟩ => ⟨S512x256, .f32⟩
  | .hbm, ⟨33, _⟩ => ⟨S512x256, .f32⟩
  | .hbm, ⟨34, _⟩ => ⟨S512x256, .f32⟩
  | .hbm, ⟨35, _⟩ => ⟨S_, .f32⟩
  | .hbm, ⟨36, _⟩ => ⟨S512x256, .f32⟩
  | .hbm, ⟨37, _⟩ => ⟨S512x256, .f32⟩
  | _, _ => ⟨S512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamV.lean ====
abbrev S256x256 : Shape := ⟨2, ![256, 256]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamVRefIdeal.lean ====
abbrev S256x256 : Shape := ⟨2, ![256, 256]⟩
abbrev S1024x256 : Shape := ⟨2, ![1024, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamG.lean ====
abbrev S256x256 : Shape := ⟨2, ![256, 256]⟩
abbrev S1024x256 : Shape := ⟨2, ![1024, 256]⟩

abbrev nBuf : Space → Nat
  | .hbm => 8
  | .vmem => 8
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256x256, .f32⟩
  | .hbm, ⟨6, _⟩ => ⟨S256x256, .f32⟩
  | .hbm, ⟨7, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let v0 : BitVec 32 := Scalar.addi c3_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamGRefIdeal.lean ====
abbrev S256x256 : Shape := ⟨2, ![256, 256]⟩
abbrev S1024x256 : Shape := ⟨2, ![1024, 256]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S1024x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S_, .f32⟩
  | .hbm, ⟨6, _⟩ => ⟨S256x256, .f32⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S_, .f32⟩
  | .hbm, ⟨13, _⟩ => ⟨S256x256, .f32⟩
  | .hbm, ⟨14, _⟩ => ⟨S256x256, .f32⟩
  | .hbm, ⟨15, _⟩ => ⟨S256x256, .f32⟩
  | .hbm, ⟨16, _⟩ => ⟨S_, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S_, .f32⟩
  | .hbm, ⟨21, _⟩ => ⟨S256x256, .f32⟩
  | .hbm, ⟨22, _⟩ => ⟨S256x256, .f32⟩
  | .hbm, ⟨23, _⟩ => ⟨S_, .f32⟩
  | .hbm, ⟨24, _⟩ => ⟨S256x256, .f32⟩
  | .hbm, ⟨25, _⟩ => ⟨S256x256, .f32⟩
  | .hbm, ⟨26, _⟩ => ⟨S256x256, .f32⟩
  | .hbm, ⟨27, _⟩ => ⟨S_, .f32⟩
  | .hbm, ⟨28, _⟩ => ⟨S256x256, .f32⟩
  | .hbm, ⟨29, _⟩ => ⟨S256x256, .f32⟩
  | .hbm, ⟨30, _⟩ => ⟨S256x256, .f32⟩
  | .hbm, ⟨31, _⟩ => ⟨S_, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S_, .f32⟩
  | .hbm, ⟨36, _⟩ => ⟨S256x256, .f32⟩
  | .hbm, ⟨37, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== MixDx.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S1024x1024 : Shape := ⟨2, ![1024, 1024]⟩
abbrev S1024x4x256 : Shape := ⟨3, ![1024, 4, 256]⟩
abbrev S4x1024x256 : Shape := ⟨3, ![4, 1024, 256]⟩
abbrev S4096x512 : Shape := ⟨2, ![4096, 512]⟩
abbrev S512x256 : Shape := ⟨2, ![512, 256]⟩
abbrev S512x512 : Shape := ⟨2, ![512, 512]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S512x1024, .bf16⟩
  | .hbm, ⟨4, _⟩ => ⟨S256x1024, .bf16⟩
  | .hbm, ⟨5, _⟩ => ⟨S256x1024, .bf16⟩
  | .hbm, ⟨6, _⟩ => ⟨S4096x256, .f32⟩
  | .hbm, ⟨7, _⟩ => ⟨S1024x1024, .bf16⟩
  | .hbm, ⟨8, _⟩ => ⟨S1024x4x256, .bf16⟩
  | .hbm, ⟨9, _⟩ => ⟨S4x1024x256, .bf16⟩
  | .hbm, ⟨10, _⟩ => ⟨S4096x512, .bf16⟩
  | .hbm, ⟨11, _⟩ => ⟨S4096x256, .f32⟩
  | .hbm, ⟨12, _⟩ => ⟨S4096x256, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S4x1024x256, .bf16⟩
  | .local _ .vmem, ⟨7, _⟩ => ⟨S512x256, .f32⟩
  | .local _ .vmem, ⟨8, _⟩ => ⟨S512x256, .f32⟩
  | .local _ .vmem, ⟨9, _⟩ => ⟨S512x512, .bf16⟩
  | .local _ .vmem, ⟨10, _⟩ => ⟨S512x512, .bf16⟩
  | .local _ .vmem, ⟨11, _⟩ => ⟨S512x256, .f32⟩
  | .local _ .vmem, ⟨12, _⟩ => ⟨S512x256, .f32⟩
  | .local _ .vmem, ⟨13, _⟩ => ⟨S512x256, .bf16⟩
  | .local _ .vmem, ⟨14, _⟩ => ⟨S512x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixDxIdeal.lean ====
variable {F : FTy → Type} [FloatOps F] [Named F]
def κ : String → Option EReal := fun
  | "gelu_3k" => some ((26829 / 200000 : ℝ) : EReal)
  | "gelu_k" => some ((8943 / 200000 : ℝ) : EReal)
  | _ => none
-- ==== MixDxRefIdeal.lean ====
abbrev S4096x1024 : Shape := ⟨2, ![4096, 1024]⟩
abbrev S512x1024 : Shape := ⟨2, ![512, 1024]⟩
abbrev S256x1024 : Shape := ⟨2, ![256, 1024]⟩
abbrev S4096x256 : Shape := ⟨2, ![4096, 256]⟩
abbrev S_ : Shape := ⟨0, ![]⟩
abbrev S4096x512 : Shape := ⟨2, ![4096, 512]⟩

abbrev nBuf : Space → Nat
  | .hbm => 73
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S512x1024, .bf16⟩
  | .hbm, ⟨4, _⟩ => ⟨S256x1024, .bf16⟩
  | .hbm, ⟨5, _⟩ => ⟨S256x1024, .bf16⟩
  | .hbm, ⟨6, _⟩ => ⟨S4096x256, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S_, .f32⟩
  | .hbm, ⟨14, _⟩ => ⟨S4096x512, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S4096x256, .f32⟩
  | .hbm, ⟨20, _⟩ => ⟨S4096x256, .f32⟩
  | .hbm, ⟨21, _⟩ => ⟨S_, .f32⟩
  | .hbm, ⟨22, _⟩ => ⟨S4096x256, .f32⟩
  | .hbm, ⟨23, _⟩ => ⟨S4096x256, .f32⟩
  | .hbm, ⟨24, _⟩ => ⟨S_, .f32⟩
  | .hbm, ⟨25, _⟩ => ⟨S4096x256, .f32⟩
  | .hbm, ⟨26, _⟩ => ⟨S4096x256, .f32⟩
  | .hbm, ⟨27, _⟩ => ⟨S_, .f32⟩
  | .hbm, ⟨28, _⟩ => ⟨S4096x256, .f32⟩
  | .hbm, ⟨29, _⟩ => ⟨S4096x256, .f32⟩
  | .hbm, ⟨30, _⟩ => ⟨S4096x256, .f32⟩
  | .hbm, ⟨31, _⟩ => ⟨S_, .f32⟩
  | .hbm, ⟨32, _⟩ => ⟨S4096x256, .f32⟩
  | .hbm, ⟨33, _⟩ => ⟨S4096x256, .f32⟩
  | .hbm, ⟨34, _⟩ => ⟨S4096x256, .f32⟩
  | .hbm, ⟨35, _⟩ => ⟨S_, .f32⟩
  | .hbm, ⟨36, _⟩ => ⟨S4096x256, .f32⟩
  | .hbm, ⟨37, _⟩ => ⟨S4096x256, .f32⟩
  | .hbm, ⟨38, _⟩ => ⟨S_, .f32⟩
  | .hbm, ⟨39, _⟩ => ⟨S4096x256, .f32⟩
  | .hbm, ⟨40, _⟩ => ⟨S4096x256, .f32⟩
  | .hbm, ⟨41, _⟩ => ⟨S4096x256, .f32⟩
  | .hbm, ⟨42, _⟩ => ⟨S_, .f32⟩
  | .hbm, ⟨43, _⟩ => ⟨S4096x256, .f32⟩
  | .hbm, ⟨44, _⟩ => ⟨S4096x256, .f32⟩
  | .hbm, ⟨45, _⟩ => ⟨S4096x256, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x256, .f32⟩
  | .hbm, ⟨50, _⟩ => ⟨S4096x256, .f32⟩
  | .hbm, ⟨51, _⟩ => ⟨S4096x256, .f32⟩
  | .hbm, ⟨52, _⟩ => ⟨S4096x512, .f32⟩
  | .hbm, ⟨53, _⟩ => ⟨S4096x256, .f32⟩
  | .hbm, ⟨54, _⟩ => ⟨S4096x256, .f32⟩
  | .hbm, ⟨55, _⟩ => ⟨S4096x256, .f32⟩
  | .hbm, ⟨56, _⟩ => ⟨S_, .f32⟩
  | .hbm, ⟨57, _⟩ => ⟨S4096x256, .f32⟩
  | .hbm, ⟨58, _⟩ => ⟨S4096x256, .f32⟩
  | .hbm, ⟨59, _⟩ => ⟨S_, .f32⟩
  | .hbm, ⟨60, _⟩ => ⟨S4096x256, .f32⟩
  | .hbm, ⟨61, _⟩ => ⟨S4096x256, .f32⟩
  | .hbm, ⟨62, _⟩ => ⟨S_, .f32⟩
  | .hbm, ⟨63, _⟩ => ⟨S4096x256, .f32⟩
  | .hbm, ⟨64, _⟩ => ⟨S4096x256, .f32⟩
  | .hbm, ⟨65, _⟩ => ⟨S4096x256, .f32⟩
  | .hbm, ⟨66, _⟩ => ⟨S4096x256, .f32⟩
  | .hbm, ⟨67, _⟩ => ⟨S_, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S4096x512, .bf16⟩
  | .hbm, ⟨72, _⟩ => ⟨S4096x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩

abbrev nD : Nat := 1
abbrev τ : Topo := Topo.v7x

variable {F : FTy → Type} [FloatOps F]
-- ==== Combine.lean ====
abbrev S4096x2816 : Shape := ⟨2, ![4096, 2816]⟩
abbrev S4096x256 : Shape := ⟨2, ![4096, 256]⟩
abbrev S1x256 : Shape := ⟨2, ![1, 256]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S4096x256, .f32⟩
  | .hbm, ⟨5, _⟩ => ⟨S4096x256, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S1x256, .f32⟩
  | .local _ .vmem, ⟨7, _⟩ => ⟨S512x256, .f32⟩
  | .local _ .vmem, ⟨8, _⟩ => ⟨S512x256, .f32⟩
  | .local _ .vmem, ⟨9, _⟩ => ⟨S512x256, .bf16⟩
  | .local _ .vmem, ⟨10, _⟩ => ⟨S512x256, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CombineRefIdeal.lean ====
abbrev S4096x2816 : Shape := ⟨2, ![4096, 2816]⟩
abbrev S4096x256 : Shape := ⟨2, ![4096, 256]⟩
abbrev S1x256 : Shape := ⟨2, ![1, 256]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x256, .f32⟩
  | .hbm, ⟨2, _⟩ => ⟨S4096x256, .f32⟩
  | .hbm, ⟨3, _⟩ => ⟨S1x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S_, .f32⟩
  | .hbm, ⟨12, _⟩ => ⟨S4096x256, .f32⟩
  | .hbm, ⟨13, _⟩ => ⟨S4096x256, .f32⟩
  | .hbm, ⟨14, _⟩ => ⟨S4096x256, .f32⟩
  | .hbm, ⟨15, _⟩ => ⟨S_, .f32⟩
  | .hbm, ⟨16, _⟩ => ⟨S4096x256, .f32⟩
  | .hbm, ⟨17, _⟩ => ⟨S4096x256, .f32⟩
  | .hbm, ⟨18, _⟩ => ⟨S4096x256, .f32⟩
  | .hbm, ⟨19, _⟩ => ⟨S_, .f32⟩
  | .hbm, ⟨20, _⟩ => ⟨S4096x256, .f32⟩
  | .hbm, ⟨21, _⟩ => ⟨S4096x256, .f32⟩
  | .hbm, ⟨22, _⟩ => ⟨S_, .f32⟩
  | .hbm, ⟨23, _⟩ => ⟨S4096x256, .f32⟩
  | .hbm, ⟨24, _⟩ => ⟨S4096x256, .f32⟩
  | .hbm, ⟨25, _⟩ => ⟨S4096x256, .f32⟩
  | .hbm, ⟨26, _⟩ => ⟨S4096x256, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kv.lean ====
abbrev S256x1024 : Shape := ⟨2, ![256, 1024]⟩
abbrev S4x1024x512 : Shape := ⟨3, ![4, 1024, 512]⟩
abbrev S4x1x1024x512 : Shape := ⟨4, ![4, 1, 1024, 512]⟩
abbrev S256x2048 : Shape := ⟨2, ![256, 2048]⟩
abbrev S1x1x1024x512 : Shape := ⟨4, ![1, 1, 1024, 512]⟩
abbrev S256x512 : Shape := ⟨2, ![256, 512]⟩
abbrev S1024x512 : Shape := ⟨2, ![1024, 512]⟩

abbrev nBuf : Space → Nat
  | .hbm => 4
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S4x1x1024x512, .bf16⟩
  | .hbm, ⟨3, _⟩ => ⟨S256x2048, .bf16⟩
  | .local _ .vmem, ⟨0, _⟩ => ⟨S256x1024, .bf16⟩
  | .local _ .vmem, ⟨1, _⟩ => ⟨S1x1x1024x512, .bf16⟩
  | .local _ .vmem, ⟨2, _⟩ => ⟨S1x1x1024x512, .bf16⟩
  | .local _ .vmem, ⟨3, _⟩ => ⟨S256x512, .bf16⟩
  | .local _ .vmem, ⟨4, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvRefIdeal.lean ====
abbrev S256x1024 : Shape := ⟨2, ![256, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S4x1024x512, .bf16⟩
  | .hbm, ⟨2, _⟩ => ⟨S256x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== KvDw.lean ====
abbrev S256x1024 : Shape := ⟨2, ![256, 1024]⟩
abbrev S256x2048 : Shape := ⟨2, ![256, 2048]⟩
abbrev S4x1024x512 : Shape := ⟨3, ![4, 1024, 512]⟩
abbrev S256x512 : Shape := ⟨2, ![256, 512]⟩
abbrev S1x1024x512 : Shape := ⟨3, ![1, 1024, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S4x1024x512, .bf16⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S1x1024x512, .bf16⟩
  | .local _ .vmem, ⟨4, _⟩ => ⟨S1x1024x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KvDwRefIdeal.lean ====
abbrev S256x1024 : Shape := ⟨2, ![256, 1024]⟩
abbrev S256x2048 : Shape := ⟨2, ![256, 2048]⟩
abbrev S2048x1024 : Shape := ⟨2, ![2048, 1024]⟩
abbrev S1024x2048 : Shape := ⟨2, ![1024, 2048]⟩
abbrev S1024x4x512 : Shape := ⟨3, ![1024, 4, 512]⟩
abbrev S4x1024x512 : Shape := ⟨3, ![4, 1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S256x1024, .f32⟩
  | .hbm, ⟨3, _⟩ => ⟨S256x2048, .f32⟩
  | .hbm, ⟨4, _⟩ => ⟨S2048x1024, .f32⟩
  | .hbm, ⟨5, _⟩ => ⟨S1024x2048, .f32⟩
  | .hbm, ⟨6, _⟩ => ⟨S1024x4x512, .f32⟩
  | .hbm, ⟨7, _⟩ => ⟨S4x1024x512, .f32⟩
  | .hbm, ⟨8, _⟩ => ⟨S4x1024x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== KvDx.lean ====
abbrev S256x2048 : Shape := ⟨2, ![256, 2048]⟩
abbrev S4x1024x512 : Shape := ⟨3, ![4, 1024, 512]⟩
abbrev S4x1x1024x512 : Shape := ⟨4, ![4, 1, 1024, 512]⟩
abbrev S256x1024 : Shape := ⟨2, ![256, 1024]⟩
abbrev S256x512 : Shape := ⟨2, ![256, 512]⟩
abbrev S1x1x1024x512 : Shape := ⟨4, ![1, 1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S4x1x1024x512, .bf16⟩
  | .hbm, ⟨3, _⟩ => ⟨S256x1024, .f32⟩
  | .local _ .vmem, ⟨0, _⟩ => ⟨S256x512, .bf16⟩
  | .local _ .vmem, ⟨1, _⟩ => ⟨S256x512, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S256x1024, .f32⟩
  | .local _ .vmem, ⟨5, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KvDxRefIdeal.lean ====
abbrev S256x2048 : Shape := ⟨2, ![256, 2048]⟩
abbrev S4x1024x512 : Shape := ⟨3, ![4, 1024, 512]⟩
abbrev S1024x4x512 : Shape := ⟨3, ![1024, 4, 512]⟩
abbrev S1024x2048 : Shape := ⟨2, ![1024, 2048]⟩
abbrev S256x1024 : Shape := ⟨2, ![256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S4x1024x512, .bf16⟩
  | .hbm, ⟨2, _⟩ => ⟨S256x2048, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MemN.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== MemNRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 18
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemNB.lean ====
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S256x1024, .bf16⟩
  | .hbm, ⟨5, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== MemNBRefIdeal.lean ====
abbrev S256x1024 : Shape := ⟨2, ![256, 1024]⟩
abbrev S1x1024 : Shape := ⟨2, ![1, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 46
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S256x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S256, .f32⟩
  | .hbm, ⟨31, _⟩ => ⟨S256x1, .f32⟩
  | .hbm, ⟨32, _⟩ => ⟨S256x1024, .f32⟩
  | .hbm, ⟨33, _⟩ => ⟨S256x1024, .f32⟩
  | .hbm, ⟨34, _⟩ => ⟨S256x1, .f32⟩
  | .hbm, ⟨35, _⟩ => ⟨S_, .f32⟩
  | .hbm, ⟨36, _⟩ => ⟨S256x1, .f32⟩
  | .hbm, ⟨37, _⟩ => ⟨S256x1, .f32⟩
  | .hbm, ⟨38, _⟩ => ⟨S_, .f32⟩
  | .hbm, ⟨39, _⟩ => ⟨S256, .f32⟩
  | .hbm, ⟨40, _⟩ => ⟨S256x1024, .f32⟩
  | .hbm, ⟨41, _⟩ => ⟨S256x1024, .f32⟩
  | .hbm, ⟨42, _⟩ => ⟨S256x1024, .f32⟩
  | .hbm, ⟨43, _⟩ => ⟨S256x1024, .f32⟩
  | .hbm, ⟨44, _⟩ => ⟨S256x1024, .f32⟩
  | .hbm, ⟨45, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== SmallSum.lean ====
abbrev S8x1664x128 : Shape := ⟨3, ![8, 1664, 128]⟩
abbrev S1664x128 : Shape := ⟨2, ![1664, 128]⟩
abbrev S1x1664x128 : Shape := ⟨3, ![1, 1664, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1664x128, .f32⟩
  | .hbm, ⟨1, _⟩ => ⟨S1664x128, .f32⟩
  | .local _ .vmem, ⟨0, _⟩ => ⟨S8x1664x128, .f32⟩
  | .local _ .vmem, ⟨1, _⟩ => ⟨S1664x128, .f32⟩
  | _, _ => ⟨S8x1664x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x1664x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1664x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SmallSumRefIdeal.lean ====
abbrev S8x1664x128 : Shape := ⟨3, ![8, 1664, 128]⟩
abbrev S_ : Shape := ⟨0, ![]⟩
abbrev S1664x128 : Shape := ⟨2, ![1664, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1664x128, .f32⟩
  | .hbm, ⟨1, _⟩ => ⟨S_, .f32⟩
  | .hbm, ⟨2, _⟩ => ⟨S1664x128, .f32⟩
  | _, _ => ⟨S8x1664x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Prep.lean ====
abbrev S512x64 : Shape := ⟨2, ![512, 64]⟩
abbrev S2x256x2048 : Shape := ⟨3, ![2, 256, 2048]⟩
abbrev S2x2048x256 : Shape := ⟨3, ![2, 2048, 256]⟩
abbrev S256x1024 : Shape := ⟨2, ![256, 1024]⟩
abbrev S64x1024 : Shape := ⟨2, ![64, 1024]⟩
abbrev S256x64 : Shape := ⟨2, ![256, 64]⟩
abbrev S1x256x1024 : Shape := ⟨3, ![1, 256, 1024]⟩
abbrev S1024x256 : Shape := ⟨2, ![1024, 256]⟩
abbrev S1x1024x256 : Shape := ⟨3, ![1, 1024, 256]⟩

abbrev nBuf : Space → Nat
  | .hbm => 13
  | .vmem => 13
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S2x256x2048, .bf16⟩
  | .hbm, ⟨10, _⟩ => ⟨S2x2048x256, .bf16⟩
  | .hbm, ⟨11, _⟩ => ⟨S2x256x2048, .bf16⟩
  | .hbm, ⟨12, _⟩ => ⟨S2x2048x256, .bf16⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S512x64, .f32⟩
  | .local _ .vmem, ⟨9, _⟩ => ⟨S2x256x2048, .bf16⟩
  | .local _ .vmem, ⟨10, _⟩ => ⟨S2x2048x256, .bf16⟩
  | .local _ .vmem, ⟨11, _⟩ => ⟨S2x256x2048, .bf16⟩
  | .local _ .vmem, ⟨12, _⟩ => ⟨S2x2048x256, .bf16⟩
  | _, _ => ⟨S512x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x2048x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x2048x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== PrepRefIdeal.lean ====
abbrev S512x64 : Shape := ⟨2, ![512, 64]⟩
abbrev S_ : Shape := ⟨0, ![]⟩
abbrev S16x16 : Shape := ⟨2, ![16, 16]⟩
abbrev S16x16x16 : Shape := ⟨3, ![16, 16, 16]⟩
abbrev S256x16 : Shape := ⟨2, ![256, 16]⟩
abbrev S256x16x64 : Shape := ⟨3, ![256, 16, 64]⟩
abbrev S256x1024 : Shape := ⟨2, ![256, 1024]⟩
abbrev S2x256x64 : Shape := ⟨3, ![2, 256, 64]⟩
abbrev S1x2x1x256x1x64 : Shape := ⟨6, ![1, 2, 1, 256, 1, 64]⟩
abbrev S1x2x1x256x16x64 : Shape := ⟨6, ![1, 2, 1, 256, 16, 64]⟩
abbrev S2x256x1024 : Shape := ⟨3, ![2, 256, 1024]⟩
abbrev S2x256x2048 : Shape := ⟨3, ![2, 256, 2048]⟩
abbrev S2x2048x256 : Shape := ⟨3, ![2, 2048, 256]⟩

abbrev nBuf : Space → Nat
  | .hbm => 88
  | .vmem => 0
  | .smem => 0
  | _ => 0

abbrev bufTy : (tb : Table) → Fin (tcTables nBuf tb) → BufTy
  | .hbm, ⟨0, _⟩ => ⟨S512x64, .f32⟩
  | .hbm, ⟨1, _⟩ => ⟨S512x64, .f32⟩
  | .hbm, ⟨2, _⟩ => ⟨S512x64, .f32⟩
  | .hbm, ⟨3, _⟩ => ⟨S512x64, .f32⟩
  | .hbm, ⟨4, _⟩ => ⟨S512x64, .f32⟩
  | .hbm, ⟨5, _⟩ => ⟨S512x64, .f32⟩
  | .hbm, ⟨6, _⟩ => ⟨S512x64, .f32⟩
  | .hbm, ⟨7, _⟩ => ⟨S512x64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S512x64, .f32⟩
  | .hbm, ⟨13, _⟩ => ⟨S512x64, .f32⟩
  | .hbm, ⟨14, _⟩ => ⟨S512x64, .f32⟩
  | .hbm, ⟨15, _⟩ => ⟨S512x64, .f32⟩
  | .hbm, ⟨16, _⟩ => ⟨S512x64, .f32⟩
  | .hbm, ⟨17, _⟩ => ⟨S512x64, .f32⟩
  | .hbm, ⟨18, _⟩ => ⟨S_, .f32⟩
  | .hbm, ⟨19, _⟩ => ⟨S512x64, .f32⟩
  | .hbm, ⟨20, _⟩ => ⟨S512x64, .f32⟩
  | .hbm, ⟨21, _⟩ => ⟨S512x64, .f32⟩
  | .hbm, ⟨22, _⟩ => ⟨S512x64, .f32⟩
  | .hbm, ⟨23, _⟩ => ⟨S512x64, .f32⟩
  | .hbm, ⟨24, _⟩ => ⟨S512x64, .f32⟩
  | .hbm, ⟨25, _⟩ => ⟨S512x64, .f32⟩
  | .hbm, ⟨26, _⟩ => ⟨S512x64, .f32⟩
  | .hbm, ⟨27, _⟩ => ⟨S512x64, .f32⟩
  | .hbm, ⟨28, _⟩ => ⟨S512x64, .f32⟩
  | .hbm, ⟨29, _⟩ => ⟨S512x64, .f32⟩
  | .hbm, ⟨30, _⟩ => ⟨S512x64, .f32⟩
  | .hbm, ⟨31, _⟩ => ⟨S512x64, .f32⟩
  | .hbm, ⟨32, _⟩ => ⟨S512x64, .f32⟩
  | .hbm, ⟨33, _⟩ => ⟨S512x64, .f32⟩
  | .hbm, ⟨34, _⟩ => ⟨S512x64, .f32⟩
  | .hbm, ⟨35, _⟩ => ⟨S16x16, .i32⟩
  | .hbm, ⟨36, _⟩ => ⟨S16x16, .i32⟩
  | .hbm, ⟨37, _⟩ => ⟨S_, .i32⟩
  | .hbm, ⟨38, _⟩ => ⟨S16x16, .i32⟩
  | .hbm, ⟨39, _⟩ => ⟨S16x16, .i32⟩
  | .hbm, ⟨40, _⟩ => ⟨S16x16, .i1⟩
  | .hbm, ⟨41, _⟩ => ⟨S16x16x16, .i1⟩
  | .hbm, ⟨42, _⟩ => ⟨S256x16, .i1⟩
  | .hbm, ⟨43, _⟩ => ⟨S256x16x64, .i1⟩
  | .hbm, ⟨44, _⟩ => ⟨S256x1024, .i1⟩
  | .hbm, ⟨45, _⟩ => ⟨S2x256x64, .f32⟩
  | .hbm, ⟨46, _⟩ => ⟨S1x2x1x256x1x64, .f32⟩
  | .hbm, ⟨47, _⟩ => ⟨S1x2x1x256x16x64, .f32⟩
  | .hbm, ⟨48, _⟩ => ⟨S2x256x1024, .f32⟩
  | .hbm, ⟨49, _⟩ => ⟨S_, .f32⟩
  | .hbm, ⟨50, _⟩ => ⟨S_, .f32⟩
  | .hbm, ⟨51, _⟩ => ⟨S2x256x1024, .i1⟩
  | .hbm, ⟨52, _⟩ => ⟨S2x256x1024, .f32⟩
  | .hbm, ⟨53, _⟩ => ⟨S2x256x1024, .f32⟩
  | .hbm, ⟨54, _⟩ => ⟨S2x256x64, .f32⟩
  | .hbm, ⟨55, _⟩ => ⟨S1x2x1x256x1x64, .f32⟩
  | .hbm, ⟨56, _⟩ => ⟨S1x2x1x256x16x64, .f32⟩
  | .hbm, ⟨57, _⟩ => ⟨S2x256x1024, .f32⟩
  | .hbm, ⟨58, _⟩ => ⟨S_, .f32⟩
  | .hbm, ⟨59, _⟩ => ⟨S_, .f32⟩
  | .hbm, ⟨60, _⟩ => ⟨S2x256x1024, .i1⟩
  | .hbm, ⟨61, _⟩ => ⟨S2x256x1024, .f32⟩
  | .hbm, ⟨62, _⟩ => ⟨S2x256x1024, .f32⟩
  | .hbm, ⟨63, _⟩ => ⟨S2x256x2048, .f32⟩
  | .hbm, ⟨64, _⟩ => ⟨S2x256x2048, .bf16⟩
  | .hbm, ⟨65, _⟩ => ⟨S512x64, .f32⟩
  | .hbm, ⟨66, _⟩ => ⟨S2x256x64, .f32⟩
  | .hbm, ⟨67, _⟩ => ⟨S1x2x1x256x1x64, .f32⟩
  | .hbm, ⟨68, _⟩ => ⟨S1x2x1x256x16x64, .f32⟩
  | .hbm, ⟨69, _⟩ => ⟨S2x256x1024, .f32⟩
  | .hbm, ⟨70, _⟩ => ⟨S_, .f32⟩
  | .hbm, ⟨71, _⟩ => ⟨S_, .f32⟩
  | .hbm, ⟨72, _⟩ => ⟨S2x256x1024, .i1⟩
  | .hbm, ⟨73, _⟩ => ⟨S2x256x1024, .f32⟩
  | .hbm, ⟨74, _⟩ => ⟨S2x256x1024, .f32⟩
  | .hbm, ⟨75, _⟩ => ⟨S2x256x64, .f32⟩
  | .hbm, ⟨76, _⟩ => ⟨S1x2x1x256x1x64, .f32⟩
  | .hbm, ⟨77, _⟩ => ⟨S1x2x1x256x16x64, .f32⟩
  | .hbm, ⟨78, _⟩ => ⟨S2x256x1024, .f32⟩
  | .hbm, ⟨79, _⟩ => ⟨S_, .f32⟩
  | .hbm, ⟨80, _⟩ => ⟨S_, .f32⟩
  | .hbm, ⟨81, _⟩ => ⟨S2x256x1024, .i1⟩
  | .hbm, ⟨82, _⟩ => ⟨S2x256x1024, .f32⟩
  | .hbm, ⟨83, _⟩ => ⟨S2x256x1024, .f32⟩
  | .hbm, ⟨84, _⟩ => ⟨S2x256x2048, .f32⟩
  | .hbm, ⟨85, _⟩ => ⟨S2x256x2048, .bf16⟩
  | .hbm, ⟨86, _⟩ => ⟨S2x2048x256, .bf16⟩
  | .hbm, ⟨87, _⟩ => ⟨S2x2048x256, .bf16⟩
  | _, _ => ⟨S512x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_c : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_0 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_cst_1 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_2 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_3 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.Reals.lean ====
/-
  Facts about the extended reals and the few constants that the programs name: which values are real numbers, and
  the sums a real factor may be moved across.
-/
module

public import Idealize.ShloMosaic.Lib.IdealHost
public import Idealize.ShloMosaic.Lib.Pointwise

@[expose] public section

noncomputable section

namespace Cert.Reals

open Idealize.ShloMosaic

theorem ofBits_half : Ideal.ofBits .f32 0x3F000000#32 = ((1 / 2 : ℝ) : EReal) := by
  simp [Ideal.ofBits, Ideal.ieee, -EReal.coe_mul]; norm_num

/-- An extended real that is a real number. -/
def IsReal (x : EReal) : Prop := ∃ r : ℝ, x = (r : EReal)

theorem IsReal.coe (r : ℝ) : IsReal (r : EReal) := ⟨r, rfl⟩

theorem IsReal.add {x y : EReal} : IsReal x → IsReal y → IsReal (x + y) := by
  rintro ⟨a, rfl⟩ ⟨b, rfl⟩; exact ⟨a + b, (EReal.coe_add a b).symm⟩

theorem IsReal.mul {x y : EReal} : IsReal x → IsReal y → IsReal (x * y) := by
  rintro ⟨a, rfl⟩ ⟨b, rfl⟩; exact ⟨a * b, (EReal.coe_mul a b).symm⟩

theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- The cast of a sum of real numbers. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A value whose magnitude is below infinity is a real number. -/
theorem isReal_of_abs_lt {x : EReal} (h : max x (-x) < ⊤) : IsReal x := by
  induction x using EReal.rec with
  | bot => simp at h
  | coe r => exact ⟨r, rfl⟩
  | top => simp at h

/-- The logistic function of a real number. -/
theorem logistic_real (g : ℝ) : Ideal.div 1 (1 + Ideal.exp (-(g : EReal))) = (((1 + Real.exp (-g))⁻¹ : ℝ) : EReal) :=
  Ideal.logistic_coe g

/-- A real number over a nonzero real number. -/
theorem div_real (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

/-- The reciprocal square root of a positive real number. -/
theorem rsqrt_real (a : ℝ) (ha : 0 < a) : Ideal.rsqrt (a : EReal) = (((Real.sqrt a)⁻¹ : ℝ) : EReal) := by
  rw [Ideal.rsqrt_coe, if_neg ha.not_gt, if_neg ha.ne']

theorem ofBits_neg_half : Ideal.ofBits .f32 0xBF000000#32 = ((-(1 / 2) : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

/-- The small number that keeps a norm's divisor from zero is a positive real. -/
theorem ofBits_eps : ∃ e : ℝ, 0 < e ∧ Ideal.ofBits .f32 0x358637BD#32 = (e : EReal) := by
  refine ⟨_, ?_, by simp [Ideal.ofBits, Ideal.ieee, -EReal.coe_mul]; rfl⟩
  positivity

/-- A nonnegative real factor moves across a finite sum of extended reals. -/
theorem mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

end Cert.Reals

end
-- ==== Proof.Finite.lean ====
/-
  The precondition of two of the claims: an array whose magnitudes are all below infinity holds real numbers.
-/
module

public import proofs.«01_k».proof.Proof.Reals
public import Idealize.ShloMosaic.Lib.Pointwise

@[expose] public section

noncomputable section

namespace Cert.Reals

open Idealize.ShloMosaic

/-- The two patterns of the predicates' bound denote infinity. -/
theorem ofBits_inf_f32 : Ideal.ofBits .f32 0x7F800000#32 = ⊤ := by simp [Ideal.ofBits, Ideal.ieee]
theorem ofBits_inf_bf16 : Ideal.ofBits .bf16 0x7F80#16 = ⊤ := by simp [Ideal.ofBits, Ideal.ieee]

/-- One array's part of the predicate, read as a statement about its entries. -/
theorem real_of_finite {S : Shape} {φ : FTy} (x b : FVec Ideal S φ) (hb : ∀ i, b i = (⊤ : EReal))
    (h : cmpf .olt (Host.absf x) b = fun _ => 1#1) (i : S.Idx) : IsReal (x i) := by
  refine isReal_of_abs_lt ?_
  have hi : Ideal.cmp .olt (max (x i) (-(x i))) (b i) = 1#1 := congrFun h i
  rw [hb i] at hi
  by_contra hlt
  simp [Ideal.cmp, hlt] at hi

end Cert.Reals

end
-- ==== Proof.ActRef.lean ====
/-
  The gated unit of a half-step as reference.py computes it: the norm, the two products into the hidden width, the
  unit's output, and the gradient of the gate and of the up branch.
-/
module

public import proofs.«01_k».proof.Proof.Gen.ReferenceIdeal.Run
public import proofs.«01_k».proof.Proof.Reals

@[expose] public section

set_option maxRecDepth 16384

noncomputable section

namespace Cert.Act

open Cert.ReferenceIdeal Cert.ReferenceIdeal.Gen Idealize.ShloMosaic Idealize.ShloMosaic.TcCoe Idealize.SL.Sem

/-- The norm of the rows, scaled by the gain. -/
def norm (H : FVec Ideal S4096x1024 .f32) (g : FVec Ideal S1x1024 .f32) : FVec Ideal S4096x1024 .f32 :=
  mulf (mulf H (broadcastInDim S4096x1024 ![0, 1] bcast_S4096x1_S4096x1024_0_1 (Host.rsqrt (addf (Host.divf
    (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)

/-- A product into the hidden width. -/
def hidden (X : FVec Ideal S4096x1024 .f32) (W : FVec Ideal S2816x1024 .bf16) : FVec Ideal S4096x2816 .f32 :=
  Host.dotGeneral dot_S4096x1024_S1024x2816_S4096x2816_1_0_0_1_n_n none X
    (transpose S1024x2816 [1, 0] (extf .f32 W bitsLt_bf16_f32) transposes_S2816x1024_S1024x2816_1_0)

/-- The constant one, and the logistic function of an array. -/
def one : FVec Ideal S4096x2816 .f32 := broadcastInDim S4096x2816 ![] bcast_S_S4096x2816 (constant S_ .f32 0x3F800000#32)
def logistic (Z : FVec Ideal S4096x2816 .f32) : FVec Ideal S4096x2816 .f32 :=
  Host.divf one (addf one (Host.exp (Host.negf Z)))

/-- The gradient that arrives at the unit's output: half the step's gradient times the down weight. -/
def back (D : FVec Ideal S4096x1024 .bf16) (W : FVec Ideal S2816x1024 .bf16) : FVec Ideal S4096x2816 .f32 :=
  Host.dotGeneral dot_S4096x1024_S2816x1024_S4096x2816_1_1_0_0_n_n none
    (mulf (broadcastInDim S4096x1024 ![] bcast_S_S4096x1024 (constant S_ .f32 0x3F000000#32)) (extf .f32 D bitsLt_bf16_f32))
    (extf .f32 W bitsLt_bf16_f32)

/-- The four results of the reference over its arguments. -/
def refU (H : FVec Ideal S4096x1024 .f32) (g : FVec Ideal S1x1024 .f32) : FVec Ideal S4096x1024 .bf16 :=
  truncf .bf16 (norm H g) bitsLt_bf16_f32
def refA (H : FVec Ideal S4096x1024 .f32) (g : FVec Ideal S1x1024 .f32) (Wg Wu : FVec Ideal S2816x1024 .bf16) : FVec Ideal S4096x2816 .bf16 :=
  truncf .bf16 (mulf (mulf (hidden (norm H g) Wg) (logistic (hidden (norm H g) Wg))) (hidden (norm H g) Wu)) bitsLt_bf16_f32
def refDg (H : FVec Ideal S4096x1024 .f32) (g : FVec Ideal S1x1024 .f32) (Wg Wu Wd : FVec Ideal S2816x1024 .bf16)
    (D : FVec Ideal S4096x1024 .bf16) : FVec Ideal S4096x2816 .bf16 :=
  truncf .bf16 (addf (mulf (mulf (back D Wd) (hidden (norm H g) Wu)) (logistic (hidden (norm H g) Wg)))
    (mulf (mulf (hidden (norm H g) Wg) (mulf (back D Wd) (hidden (norm H g) Wu)))
      (mulf (logistic (hidden (norm H g) Wg)) (subf one (logistic (hidden (norm H g) Wg)))))) bitsLt_bf16_f32
def refDup (H : FVec Ideal S4096x1024 .f32) (g : FVec Ideal S1x1024 .f32) (Wg Wd : FVec Ideal S2816x1024 .bf16)
    (D : FVec Ideal S4096x1024 .bf16) : FVec Ideal S4096x2816 .bf16 :=
  truncf .bf16 (mulf (mulf (hidden (norm H g) Wg) (logistic (hidden (norm H g) Wg))) (back D Wd)) bitsLt_bf16_f32

section At
variable (H X : FVec Ideal S4096x1024 .f32) (g : FVec Ideal S1x1024 .f32) (W : FVec Ideal S2816x1024 .bf16)
  (D : FVec Ideal S4096x1024 .bf16) (Z : FVec Ideal S4096x2816 .f32) (a : Fin 4096) (b : Fin 2816) (k : Fin 1024)

theorem norm_at : norm H g (ix2 a k) = H (ix2 a k) * Ideal.rsqrt (Ideal.div (∑ j : Fin 1024, H (ix2 a j) * H (ix2 a j))
    (Ideal.ofBits .f32 0x44800000#32) + Ideal.ofBits .f32 0x358637BD#32) * g (ix2 0 k) := by
  pointwise [norm]

theorem hidden_at : hidden X W (ix2 a b) = ∑ j : Fin 1024, X (ix2 a j) * W (ix2 b j) := by
  pointwise [hidden]

theorem logistic_at : logistic Z (ix2 a b) = Ideal.div 1 (1 + Ideal.exp (-(Z (ix2 a b)))) := by
  pointwise [logistic, one, Ideal.ofBits_one_f32]

theorem back_at : back D W (ix2 a b) = ((1 / 2 : ℝ) : EReal) * ∑ j : Fin 1024, D (ix2 a j) * W (ix2 b j) := by
  rw [Reals.mul_sum _ _ (by norm_num)]
  pointwise [back, Reals.ofBits_half]
  exact Finset.sum_congr rfl fun j _ => mul_assoc _ _ _
end At

end Cert.Act

end
-- ==== Proof.ActArrays.lean ====
/-
  What each of the three kernels of the gated unit leaves in its result arrays, over the arrays it reads: the norm's
  rows; the unit's output with the two factors of its gradient; and the gradients of the gate and of the up branch.
-/
module

public import proofs.«01_k».proof.Proof.Gen.KernelIdeal.Frame
public import proofs.«01_k».proof.Proof.ActRef
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Act

open Cert.KernelIdeal Cert.KernelIdeal.Gen Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The logistic function as the kernel spells it. -/
def sg (x : EReal) : EReal := Ideal.div 1 (1 + Ideal.exp (0 - x))

/-- A row of the one array against a row of the other. -/
def rows (U : FVec Ideal S4096x1024 .bf16) (W : FVec Ideal S2816x1024 .bf16) (i : S4096x2816.Idx) : EReal :=
  ∑ k : Fin 1024, U (ix2 (i 0) k) * W (ix2 (i 1) k)

/-- The unit's output, and the factors of its gradient for the gate and for the up branch. -/
def unit (U : FVec Ideal S4096x1024 .bf16) (Wg Wu : FVec Ideal S2816x1024 .bf16) : FVec Ideal S4096x2816 .bf16 :=
  fun i => rows U Wg i * sg (rows U Wg i) * rows U Wu i
def factorUp (U : FVec Ideal S4096x1024 .bf16) (Wg : FVec Ideal S2816x1024 .bf16) : FVec Ideal S4096x2816 .bf16 :=
  fun i => ((1 / 2 : ℝ) : EReal) * (rows U Wg i * sg (rows U Wg i))
def factorGate (U : FVec Ideal S4096x1024 .bf16) (Wg Wu : FVec Ideal S2816x1024 .bf16) : FVec Ideal S4096x2816 .bf16 :=
  fun i => ((1 / 2 : ℝ) : EReal) * sg (rows U Wg i) * (1 + rows U Wg i * (1 - sg (rows U Wg i))) * rows U Wu i

/-- The gradient of one branch: the gradient at the unit's output times the branch's factor. -/
def branch (D : FVec Ideal S4096x1024 .bf16) (W : FVec Ideal S2816x1024 .bf16) (P : FVec Ideal S4096x2816 .bf16) : FVec Ideal S4096x2816 .bf16 :=
  fun i => rows D W i * P i

theorem idx0 : ∀ t : Fin cfg0.N, win0_0.index t = ![t.val, 0] ∧ win0_1.index t = ![0, 0] ∧ win0_2.index t = ![t.val, 0] :=
  (by decide +kernel : ∀ t : Fin grid0.N, _)
theorem idx1 : ∀ t : Fin cfg1.N, win1_0.index t = ![t.val, 0] ∧ win1_1.index t = ![0, 0] ∧ win1_2.index t = ![0, 0]
    ∧ win1_3.index t = ![t.val, 0] ∧ win1_4.index t = ![t.val, 0] ∧ win1_5.index t = ![t.val, 0] :=
  (by decide +kernel : ∀ t : Fin grid1.N, _)
theorem idx2 : ∀ t : Fin cfg2.N, win2_0.index t = ![t.val, 0] ∧ win2_1.index t = ![0, 0] ∧ win2_2.index t = ![t.val, 0]
    ∧ win2_3.index t = ![t.val, 0] ∧ win2_4.index t = ![t.val, 0] ∧ win2_5.index t = ![t.val, 0] :=
  (by decide +kernel : ∀ t : Fin grid2.N, _)

/-! ## The norm -/

theorem point0 (c : Dev nD) (t : Fin cfg0.N) (y : S512x1024.Idx) :
    k0_pay1 (F := Ideal) (iblk0 V c 0 t) (iblk0 V c 1 t) y
      = refU (V c main_arg0) (V c main_arg1) (((View.whole main_v0).slice (win0_2.rect t)).emb y) := by
  pointwise [k0_pay1, refU, norm]
  blk_point [iblk0, idx0 t]

theorem final_u (c : Dev nD) : (dat0 V c).arrAt 2 cfg0.N = refU (V c main_arg0) (V c main_arg1) := by
  refine (dat0 V c).arrAt_eq_of_covers 2 _ (by decide +kernel) fun t hf y => ?_
  blk_simp
  rw [after0_2]
  frame_out
  exact point0 V c t y

/-! ## The unit's output and its two factors -/

/-- The unit's output. -/
theorem final_unit (c : Dev nD) : (dat1 V c).arrAt 5 cfg1.N = unit (V c main_v0) (V c main_arg2) (V c main_arg3) := by
  refine (dat1 V c).arrAt_eq_of_covers 5 _ (by decide +kernel) fun t hf y => ?_
  blk_simp
  rw [after1_5]
  unfold out1_5
  canon_tiles x h
  all_goals (open_payloads; pointwise [unit, rows, sg, Ideal.ofBits_one_f32, Reals.ofBits_half]; blk_point [iblk1, idx1 t])

/-- The up branch's factor. -/
theorem final_factorUp (c : Dev nD) : (dat1 V c).arrAt 4 cfg1.N = factorUp (V c main_v0) (V c main_arg2) := by
  refine (dat1 V c).arrAt_eq_of_covers 4 _ (by decide +kernel) fun t hf y => ?_
  blk_simp
  rw [after1_4]
  unfold out1_4
  canon_tiles x h
  all_goals (open_payloads; pointwise [factorUp, rows, sg, Ideal.ofBits_one_f32, Reals.ofBits_half]; blk_point [iblk1, idx1 t])

/-- The gate's factor. -/
theorem final_factorGate (c : Dev nD) : (dat1 V c).arrAt 3 cfg1.N = factorGate (V c main_v0) (V c main_arg2) (V c main_arg3) := by
  refine (dat1 V c).arrAt_eq_of_covers 3 _ (by decide +kernel) fun t hf y => ?_
  blk_simp
  rw [after1_3]
  unfold out1_3
  canon_tiles x h
  all_goals (open_payloads; pointwise [factorGate, rows, sg, Ideal.ofBits_one_f32, Reals.ofBits_half]; blk_point [iblk1, idx1 t])

/-! ## The two gradients -/

/-- The gate's gradient. -/
theorem final_dg (c : Dev nD) : (dat2 V c).arrAt 4 cfg2.N = branch (V c main_arg5) (V c main_arg4) (V c main_v1_0) := by
  refine (dat2 V c).arrAt_eq_of_covers 4 _ (by decide +kernel) fun t hf y => ?_
  blk_simp
  rw [after2_4]
  unfold out2_4
  canon_tiles x h
  all_goals (open_payloads; pointwise [branch, rows]; blk_point [iblk2, idx2 t])

/-- The up branch's gradient. -/
theorem final_dup (c : Dev nD) : (dat2 V c).arrAt 5 cfg2.N = branch (V c main_arg5) (V c main_arg4) (V c main_v1_1) := by
  refine (dat2 V c).arrAt_eq_of_covers 5 _ (by decide +kernel) fun t hf y => ?_
  blk_simp
  rw [after2_5]
  unfold out2_5
  canon_tiles x h
  all_goals (open_payloads; pointwise [branch, rows]; blk_point [iblk2, idx2 t])

end Cert.Act

end
-- ==== Proof.ActEq.lean ====
/-
  The gated unit: the kernel's factors are the derivative that reference.py's vjp spells out, wherever the arguments
  are finite.
-/
module

public import proofs.«01_k».proof.Proof.ActArrays

@[expose] public section

set_option maxRecDepth 16384

noncomputable section

namespace Cert.Act

open Cert.KernelIdeal Idealize.ShloMosaic Cert.Reals

variable (H : FVec Ideal S4096x1024 .f32) (g : FVec Ideal S1x1024 .f32) (Wg Wu Wd : FVec Ideal S2816x1024 .bf16)
  (D : FVec Ideal S4096x1024 .bf16)

theorem rows_refU (W : FVec Ideal S2816x1024 .bf16) (a : Fin 4096) (b : Fin 2816) :
    rows (refU H g) W (ix2 a b) = hidden (norm H g) W (ix2 a b) := by
  rw [hidden_at]; rfl

theorem sg_eq (x : EReal) : sg x = Ideal.div 1 (1 + Ideal.exp (-x)) := by rw [sg, zero_sub]

theorem unit_eq : unit (refU H g) Wg Wu = refA H g Wg Wu := by
  funext i
  idx_vars i
  show rows _ _ _ * sg (rows _ _ _) * rows _ _ _ = hidden _ _ _ * logistic _ _ * hidden _ _ _
  rw [rows_refU, rows_refU, logistic_at, sg_eq]

theorem dup_eq : branch D Wd (factorUp (refU H g) Wg) = refDup H g Wg Wd D := by
  funext i
  idx_vars i
  show rows _ _ _ * (_ * (rows _ _ _ * sg (rows _ _ _))) = hidden _ _ _ * logistic _ _ * back _ _ _
  rw [rows_refU, logistic_at, sg_eq, back_at]
  show (∑ j : Fin 1024, D (ix2 i0 j) * Wd (ix2 i1 j)) * _ = _
  rw [← mul_assoc, mul_comm, mul_comm (∑ j : Fin 1024, D (ix2 i0 j) * Wd (ix2 i1 j))]

/-- The norm of finite rows is finite. -/
theorem norm_real (hH : ∀ i, IsReal (H i)) (hg : ∀ i, IsReal (g i)) (a : Fin 4096) (k : Fin 1024) : IsReal (norm H g (ix2 a k)) := by
  rw [norm_at]
  refine ((hH _).mul ?_).mul (hg _)
  choose h hh using hH
  obtain ⟨e, he, hee⟩ := ofBits_eps
  have hs : (∑ j : Fin 1024, H (ix2 a j) * H (ix2 a j)) = ((∑ j : Fin 1024, h (ix2 a j) * h (ix2 a j) : ℝ) : EReal) := by
    rw [coe_sum]
    exact Finset.sum_congr rfl fun j _ => by rw [hh, EReal.coe_mul]
  have hn : 0 ≤ ∑ j : Fin 1024, h (ix2 a j) * h (ix2 a j) := Finset.sum_nonneg fun j _ => mul_self_nonneg _
  rw [hs, hee, ofBits_1024, div_real _ _ (by norm_num), ← EReal.coe_add, rsqrt_real _ (by positivity)]
  exact IsReal.coe _

/-- The gate's gradient: the derivative of the gate's function, gathered in one factor. -/
theorem dg_eq (hH : ∀ i, IsReal (H i)) (hg : ∀ i, IsReal (g i)) (h1 : ∀ i, IsReal (Wg i)) (h2 : ∀ i, IsReal (Wu i))
    (h3 : ∀ i, IsReal (Wd i)) (hD : ∀ i, IsReal (D i)) :
    branch D Wd (factorGate (refU H g) Wg Wu) = refDg H g Wg Wu Wd D := by
  funext i
  idx_vars i
  show rows _ _ _ * (_ * sg (rows _ _ _) * (1 + rows _ _ _ * (1 - sg (rows _ _ _))) * rows _ _ _)
    = back _ _ _ * hidden _ _ _ * logistic _ _ + hidden _ _ _ * (back _ _ _ * hidden _ _ _) * (logistic _ _ * (one _ - logistic _ _))
  rw [rows_refU, rows_refU, logistic_at, sg_eq, back_at, show one (ix2 i0 i1) = 1 from Ideal.ofBits_one_f32]
  obtain ⟨z, hz⟩ : IsReal (hidden (norm H g) Wg (ix2 i0 i1)) := by
    rw [hidden_at]; exact .sum _ fun j => (norm_real H g hH hg _ _).mul (h1 _)
  obtain ⟨u, hu⟩ : IsReal (hidden (norm H g) Wu (ix2 i0 i1)) := by
    rw [hidden_at]; exact .sum _ fun j => (norm_real H g hH hg _ _).mul (h2 _)
  obtain ⟨d, hd⟩ : IsReal (∑ j : Fin 1024, D (ix2 i0 j) * Wd (ix2 i1 j)) := .sum _ fun j => (hD _).mul (h3 _)
  rw [show rows D Wd (ix2 i0 i1) = ∑ j : Fin 1024, D (ix2 i0 j) * Wd (ix2 i1 j) from rfl, hz, hu, hd, logistic_real]
  generalize (1 + Real.exp (-z))⁻¹ = s
  rw [← EReal.coe_one]
  norm_cast
  ring

end Cert.Act

end
-- ==== Proof.ActRun.lean ====
/-
  The run of the three kernels of the gated unit, one after the other: every array ends at what the last region leaves,
  and so each result at its value over the arguments.
-/
module

public import proofs.«01_k».proof.Proof.ActArrays

@[expose] public section

set_option maxRecDepth 16384

noncomputable section

namespace Cert.Act

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

-- the launch theorem's implicit arguments are found by unifying its conclusion with this one
set_option backward.isDefEq.respectTransparency.types false in
/-- Every array ends at the contents of the last region's exit. -/
theorem run_exit : θ_run defs (onTc (τ := τ) (main (F := Ideal))) ⟨m, fun _ => 0, ρ⟩ (fun r => ∀ c : Dev nD,
      ∀ b ∈ Pipeline.ucRefs τ sig, r.2.mem (((c : Thread nD τ)).1, b) = W3 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => h)

/-! ## The contents at the exit, result by result -/

/-- No region after the first writes the norm's rows. -/
theorem exit_u (c : Dev nD) : W3 m ρ c (Proc.devRef .tc main_v0) = refU (m ((c : Thread nD τ).loc main_arg0)) (m ((c : Thread nD τ).loc main_arg1)) :=
  (W3_of m ρ c main_v0 (by decide +kernel)).trans ((W2_of m ρ c main_v0 (by decide +kernel)).trans
    ((W1_arr m ρ c 2).trans (final_u (V0 m ρ) c)))

theorem entry_u (c : Dev nD) : V1 m ρ c main_v0 = refU (m ((c : Thread nD τ).loc main_arg0)) (m ((c : Thread nD τ).loc main_arg1)) :=
  (W1_arr m ρ c 2).trans (final_u (V0 m ρ) c)

theorem exit_unit (c : Dev nD) : W3 m ρ c (Proc.devRef .tc main_v1_2)
    = unit (refU (m ((c : Thread nD τ).loc main_arg0)) (m ((c : Thread nD τ).loc main_arg1)))
      (m ((c : Thread nD τ).loc main_arg2)) (m ((c : Thread nD τ).loc main_arg3)) := by
  refine (W3_of m ρ c main_v1_2 (by decide +kernel)).trans ((W2_arr m ρ c 5).trans ((final_unit (V1 m ρ) c).trans ?_))
  rw [entry_u m ρ c, show V1 m ρ c main_arg2 = _ from W1_args m ρ c main_arg2 (by decide),
    show V1 m ρ c main_arg3 = _ from W1_args m ρ c main_arg3 (by decide)]

theorem exit_dg (c : Dev nD) : W3 m ρ c (Proc.devRef .tc main_v2_0)
    = branch (m ((c : Thread nD τ).loc main_arg5)) (m ((c : Thread nD τ).loc main_arg4))
      (factorGate (refU (m ((c : Thread nD τ).loc main_arg0)) (m ((c : Thread nD τ).loc main_arg1)))
        (m ((c : Thread nD τ).loc main_arg2)) (m ((c : Thread nD τ).loc main_arg3))) := by
  refine (W3_arr m ρ c 4).trans ((final_dg (V2 m ρ) c).trans ?_)
  rw [show V2 m ρ c main_arg5 = _ from W2_args m ρ c main_arg5 (by decide),
    show V2 m ρ c main_arg4 = _ from W2_args m ρ c main_arg4 (by decide),
    show V2 m ρ c main_v1_0 = _ from (W2_arr m ρ c 3).trans (final_factorGate (V1 m ρ) c), entry_u m ρ c,
    show V1 m ρ c main_arg2 = _ from W1_args m ρ c main_arg2 (by decide),
    show V1 m ρ c main_arg3 = _ from W1_args m ρ c main_arg3 (by decide)]

theorem exit_dup (c : Dev nD) : W3 m ρ c (Proc.devRef .tc main_v2_1)
    = branch (m ((c : Thread nD τ).loc main_arg5)) (m ((c : Thread nD τ).loc main_arg4))
      (factorUp (refU (m ((c : Thread nD τ).loc main_arg0)) (m ((c : Thread nD τ).loc main_arg1)))
        (m ((c : Thread nD τ).loc main_arg2))) := by
  refine (W3_arr m ρ c 5).trans ((final_dup (V2 m ρ) c).trans ?_)
  rw [show V2 m ρ c main_arg5 = _ from W2_args m ρ c main_arg5 (by decide),
    show V2 m ρ c main_arg4 = _ from W2_args m ρ c main_arg4 (by decide),
    show V2 m ρ c main_v1_1 = _ from (W2_arr m ρ c 4).trans (final_factorUp (V1 m ρ) c), entry_u m ρ c,
    show V1 m ρ c main_arg2 = _ from W1_args m ρ c main_arg2 (by decide)]

end Cert.Act

end
-- ==== Proof.ActClaim.lean ====
/-
  The gated unit of a half-step: kernel and reference end with the same four arrays, from finite arguments.
-/
module

public import proofs.«01_k».proof.Defs
public import proofs.«01_k».proof.Proof.Finite
public import proofs.«01_k».proof.Proof.ActEq
public import proofs.«01_k».proof.Proof.ActRun
public import proofs.«01_k».proof.Proof.Gen.Pre_finite

@[expose] public section

noncomputable section

namespace Cert.Act

open Idealize.ShloMosaic Idealize.ShloMosaic.TcCoe Idealize.SL.Sem Cert.Reals

/-- The kernels' run, each result at the reference's term. -/
theorem run_kernel (m : (ℓ : Loc KernelIdeal.nD KernelIdeal.τ KernelIdeal.sig) → Buf (Elt Ideal) ℓ) (ρ : Dev KernelIdeal.nD → PrngReg)
    (hpre : Cert.Pre_KernelIdeal_finite m) :
    θ_run (KernelIdeal.defs (F := Ideal)) (onTc (τ := KernelIdeal.τ) (KernelIdeal.main (F := Ideal))) ⟨m, fun _ => 0, ρ⟩ (fun r => ∀ c : Dev KernelIdeal.nD,
      r.2.mem ((c : Thread KernelIdeal.nD KernelIdeal.τ).loc KernelIdeal.main_v0) = refU (m ((c : Thread KernelIdeal.nD KernelIdeal.τ).loc KernelIdeal.main_arg0)) (m ((c : Thread KernelIdeal.nD KernelIdeal.τ).loc KernelIdeal.main_arg1))
      ∧ r.2.mem ((c : Thread KernelIdeal.nD KernelIdeal.τ).loc KernelIdeal.main_v1_2) = refA (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3))
      ∧ r.2.mem ((c : Thread KernelIdeal.nD KernelIdeal.τ).loc KernelIdeal.main_v2_0) = refDg (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg3)) (m ((c : Thread KernelIdeal.nD KernelIdeal.τ).loc KernelIdeal.main_arg4)) (m ((c : Thread KernelIdeal.nD KernelIdeal.τ).loc KernelIdeal.main_arg5))
      ∧ r.2.mem ((c : Thread KernelIdeal.nD KernelIdeal.τ).loc KernelIdeal.main_v2_1) = refDup (m ((c : Thread KernelIdeal.nD KernelIdeal.τ).loc KernelIdeal.main_arg0)) (m ((c : Thread KernelIdeal.nD KernelIdeal.τ).loc KernelIdeal.main_arg1)) (m ((c : Thread KernelIdeal.nD KernelIdeal.τ).loc KernelIdeal.main_arg2)) (m ((c : Thread KernelIdeal.nD KernelIdeal.τ).loc KernelIdeal.main_arg4)) (m ((c : Thread KernelIdeal.nD KernelIdeal.τ).loc KernelIdeal.main_arg5))
      ∧ ∀ b ∈ KernelIdeal.Gen.argRefs, r.2.mem ((c : Thread KernelIdeal.nD KernelIdeal.τ).loc b) = m ((c : Thread KernelIdeal.nD KernelIdeal.τ).loc b)) := by
  refine (θ_run _ _ _).mono (fun r h c => ?_) (run_exit m ρ)
  obtain ⟨p0, p1, p2, p3, p4, p5⟩ := hpre c
  refine ⟨(h c _ (KernelIdeal.Gen.mem_uc KernelIdeal.main_v0 (by decide))).trans (exit_u m ρ c),
    (h c _ (KernelIdeal.Gen.mem_uc KernelIdeal.main_v1_2 (by decide))).trans ((exit_unit m ρ c).trans (unit_eq _ _ _ _)),
    (h c _ (KernelIdeal.Gen.mem_uc KernelIdeal.main_v2_0 (by decide))).trans ((exit_dg m ρ c).trans
      (dg_eq _ _ _ _ _ _ ?_ ?_ ?_ ?_ ?_ ?_)),
    (h c _ (KernelIdeal.Gen.mem_uc KernelIdeal.main_v2_1 (by decide))).trans ((exit_dup m ρ c).trans (dup_eq _ _ _ _ _)),
    fun b hb => (h c _ (KernelIdeal.Gen.mem_uc b ?_)).trans (KernelIdeal.Gen.W3_args m ρ c b hb)⟩
  · exact real_of_finite _ _ (fun _ => ofBits_inf_f32) p0
  · exact real_of_finite _ _ (fun _ => ofBits_inf_f32) p1
  · exact real_of_finite _ _ (fun _ => ofBits_inf_bf16) p2
  · exact real_of_finite _ _ (fun _ => ofBits_inf_bf16) p3
  · exact real_of_finite _ _ (fun _ => ofBits_inf_bf16) p4
  · exact real_of_finite _ _ (fun _ => ofBits_inf_bf16) p5
  · exact (ListAll.forall_mem_of_all_decide (by decide +kernel) : ∀ b ∈ KernelIdeal.Gen.argRefs, ¬ (Proc.devRef .tc b : DevRef KernelIdeal.τ KernelIdeal.sig).isScoped) b hb

/-- The value claim. -/
theorem algebraic : Cert.algebraic_KernelIdeal_ReferenceIdeal_pre_finite := fun m ρ m' ρ' hpre hag =>
  ⟨_, _, _, _,
    (θ_run _ _ _).mono (fun _ h c => ⟨(h c).1, (h c).2.1, (h c).2.2.1, (h c).2.2.2.1,
      (h c).2.2.2.2 _ (by decide), (h c).2.2.2.2 _ (by decide), (h c).2.2.2.2 _ (by decide),
      (h c).2.2.2.2 _ (by decide), (h c).2.2.2.2 _ (by decide), (h c).2.2.2.2 _ (by decide)⟩) (run_kernel m ρ hpre),
    (θ_run _ _ _).mono (fun _ h c => by
      obtain ⟨a0, a1, a2, a3, a4, a5⟩ := hag c
      refine ⟨(h c).1.trans ?_, (h c).2.1.trans ?_, (h c).2.2.1.trans ?_, (h c).2.2.2.1.trans ?_, (h c).2.2.2.2⟩
      · rw [a0, a1]; rfl
      · rw [a0, a1, a2, a3]; rfl
      · unfold ReferenceIdeal.Value.res_main_v35; rw [a0, a1, a2, a3, a4, a5]; rfl
      · rw [a0, a1, a2, a4, a5]; rfl) (ReferenceIdeal.Value.run m' ρ')⟩

end Cert.Act

end
-- ==== Proof.Cover.lean ====
/-
  Reading back a list of stores: the stores that cover an index decide its value.
-/
module

public import Idealize.ShloMosaic.Lib.Pipeline.ValueKit
public import Idealize.ShloMosaic.Lib.Pipeline.ReadBack

@[expose] public section

namespace Cert

open Idealize.ShloMosaic

/-- Stores that cover an index decide what is read there, whatever was stored before them. -/
theorem canon_append_eq {Val : EltTy → Type} [∀ e, Nonempty (Val e)] {s : Shape} {e : EltTy} :
    ∀ (L L' : List (View.Piece Val s e)) (y : s.Idx), (∃ p ∈ L, y ∈ p.1.set) → View.canon (L ++ L') y = View.canon L y
  | [], _, _, h => absurd h (by simp)
  | p :: L, L', y, h => by
    by_cases hy : y ∈ p.1.set
    · obtain ⟨x, rfl⟩ := p.1.exists_idx_of_mem hy
      exact (View.canon_cons_emb p.1 p.2 (L ++ L') x).trans (View.canon_cons_emb p.1 p.2 L x).symm
    · refine (View.canon_cons_of_not_mem p (L ++ L') hy).trans (Eq.trans (canon_append_eq L L' y ?_) (View.canon_cons_of_not_mem p L hy).symm)
      obtain ⟨q, hq, hqy⟩ := h
      rcases List.mem_cons.mp hq with rfl | hq
      · exact absurd hqy hy
      · exact ⟨q, hq, hqy⟩

/-- A box of a matrix, read at an index: the matrix at the box's corner plus the index. -/
theorem box_at {n0 n1 s0 s1 o0 o1 : ℕ} {e : EltTy} (X : Vec Ideal ⟨2, ![n0, n1]⟩ e) (inb : ∀ a, (![o0, o1] : Fin 2 → ℕ) a + (![s0, s1] : Fin 2 → ℕ) a ≤ (⟨2, ![n0, n1]⟩ : Shape).size a)
    (r : Fin s0) (x : Fin s1) (i : Fin n0) (j : Fin n1) (hi : i.val = o0 + r.val) (hj : j.val = o1 + x.val) :
    View.ld (Val := Elt Ideal) X (Rect.unit (s := ⟨2, ![n0, n1]⟩) ![o0, o1] ![s0, s1] inb) (ix2 r x) = X (ix2 i j) := by
  refine congrArg X (funext fun a => Fin.ext ?_)
  refine (ValueKit.rect_emb_unit_val _ _ inb (ix2 r x) a).trans ?_
  match a with
  | 0 => exact hi.symm
  | 1 => exact hj.symm

end Cert

end
-- ==== Proof.DwPoint.lean ====
/-
  The weight gradients of the gated unit, kernel side, point by point. The grid is (block of hidden columns, block of
  rows); the scratch of three planes is zeroed at the first row block of a column block, every point adds its three
  partial products, and the last row block writes the three planes out. Here: what the scratch holds after each of the
  three kinds of point, and what the last point of a run writes.
-/
module

public import proofs.«01_k».proof.Proof.Gen.DwIdeal.Value
public import proofs.«01_k».proof.Proof.Gen.DwRefIdeal
public import proofs.«01_k».proof.Proof.Reals
public import proofs.«01_k».proof.Proof.Cover
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DwGrad

open Cert.DwIdeal Cert.DwIdeal.Gen Idealize.ShloMosaic Idealize.ShloMosaic.TcCoe Idealize.SL.Sem
open Idealize.ShloMosaic.Pipeline (Dat)

variable (m : (ℓ : Loc nD τ sig) → Buf (Elt Ideal) ℓ)

/-- One point's three partial products, plane by plane. -/
def part (x0 : Vec Ideal S512x1024 .bf16) (x1 x2 x3 : Vec Ideal S512x1408 .bf16) (x4 : Vec Ideal S512x1024 .bf16) (y : S3x1408x1024.Idx) : EReal :=
  if (y 0).val = 0 then ∑ k : Fin 512, x1 (ix2 k (y 1)) * x0 (ix2 k (y 2))
  else if (y 0).val = 1 then ∑ k : Fin 512, x2 (ix2 k (y 1)) * x0 (ix2 k (y 2))
  else ∑ k : Fin 512, x3 (ix2 k (y 1)) * x4 (ix2 k (y 2))

variable (x0 x4 : Vec Ideal S512x1024 .bf16) (x1 x2 x3 : Vec Ideal S512x1408 .bf16) (a : Fin 1408) (b : Fin 1024) in
/-- The first plane's product: the gate's gradient against the rows. -/
theorem part_0 : part x0 x1 x2 x3 x4 (ix3 0 a b) = ∑ k : Fin 512, x1 (ix2 k a) * x0 (ix2 k b) := if_pos rfl

variable (x0 x4 : Vec Ideal S512x1024 .bf16) (x1 x2 x3 : Vec Ideal S512x1408 .bf16) (a : Fin 1408) (b : Fin 1024) in
/-- The second plane's product: the up branch's gradient against the rows. -/
theorem part_1 : part x0 x1 x2 x3 x4 (ix3 1 a b) = ∑ k : Fin 512, x2 (ix2 k a) * x0 (ix2 k b) :=
  (if_neg (show ¬((1 : Fin 3) : ℕ) = 0 by decide)).trans (if_pos rfl)

variable (x0 x4 : Vec Ideal S512x1024 .bf16) (x1 x2 x3 : Vec Ideal S512x1408 .bf16) (a : Fin 1408) (b : Fin 1024) in
/-- The third plane's product: the unit's output against the gradient that arrives. -/
theorem part_2 : part x0 x1 x2 x3 x4 (ix3 2 a b) = ∑ k : Fin 512, x3 (ix2 k a) * x4 (ix2 k b) :=
  (if_neg (show ¬((2 : Fin 3) : ℕ) = 0 by decide)).trans (if_neg (show ¬((2 : Fin 3) : ℕ) = 1 by decide))

/-- What a point adds to the scratch, at its own input blocks. -/
abbrev partAt (c : Dev nD) (t : Fin cfg0.N) (y : S3x1408x1024.Idx) : EReal :=
  part (iblk m c 0 t) (iblk m c 1 t) (iblk m c 2 t) (iblk m c 3 t) (iblk m c 4 t) y

/-- The first point of a run leaves its partial products in the scratch. -/
theorem scA (c : Dev nD) (t : Fin cfg0.N) (h0 : t.val % 8 = 0) (h1 : ¬t.val % 8 = 7) (y : S3x1408x1024.Idx) :
   (outsAt0 m c t.val t.isLt).2.2.2 y = part (iblk m c 0 t) (iblk m c 1 t) (iblk m c 2 t) (iblk m c 3 t) (iblk m c 4 t) y := by
  rw [outsAt0_A m c t h0 h1]
  frame_out
  simp (disch := decide) only [↓ View.readCov_skip, ↓ View.readCov_cons_toLoadRect, ↓ View.readCov_fill]
  refine (canon_append_eq (Val := Elt Ideal) (s := S3x1408x1024) (e := .f32) [⟨_, _⟩, ⟨_, _⟩, ⟨_, _⟩] [_] y (View.cover_of_tiledL (s := S3x1408x1024) _ S1x1408x1024.size (by sl_kernel_rfl) y)).trans ?_
  canon_tiles x h
  all_goals unfold part
  · rw [if_neg (by omega), if_neg (by omega)]; open_payloads; pointwise
    exact (show (_ : EReal) = _ from Finset.sum_congr rfl fun k _ => congrArg₂ (· * ·) (by blk_ext) (by blk_ext))
  · rw [if_neg (by omega), if_pos (by omega)]; open_payloads; pointwise
    exact (show (_ : EReal) = _ from Finset.sum_congr rfl fun k _ => congrArg₂ (· * ·) (by blk_ext) (by blk_ext))
  · rw [if_pos (by omega)]; open_payloads; pointwise
    exact (show (_ : EReal) = _ from Finset.sum_congr rfl fun k _ => congrArg₂ (· * ·) (by blk_ext) (by blk_ext))

/-- A point inside a run adds its partial products to the scratch. -/
theorem scB (c : Dev nD) (t : Fin cfg0.N) (h0 : ¬t.val % 8 = 0) (h1 : ¬t.val % 8 = 7) (y : S3x1408x1024.Idx) :
   (outsAt0 m c t.val t.isLt).2.2.2 y = (outsAt0 m c (t.val - 1) (Nat.lt_of_le_of_lt (Nat.sub_le _ _) t.isLt)).2.2.2 y
      + part (iblk m c 0 t) (iblk m c 1 t) (iblk m c 2 t) (iblk m c 3 t) (iblk m c 4 t) y := by
  rw [outsAt0_B m c t h0 h1]
  frame_out
  generalize (outsAt0 m c (t.val - 1) _).2.2.2 = X
  simp only [read_unread_whole]
  canon_tiles x h
  all_goals unfold part
  · rw [if_neg (by omega), if_neg (by omega)]; open_payloads; pointwise; exact (show (_ : EReal) = _ from congrArg₂ (· + ·) (by blk_ext) (Finset.sum_congr rfl fun k _ => congrArg₂ (· * ·) (by blk_ext) (by blk_ext)))
  · rw [if_neg (by omega), if_pos (by omega)]; open_payloads; pointwise; exact (show (_ : EReal) = _ from congrArg₂ (· + ·) (by blk_ext) (Finset.sum_congr rfl fun k _ => congrArg₂ (· * ·) (by blk_ext) (by blk_ext)))
  · rw [if_pos (by omega)]; open_payloads; pointwise; exact (show (_ : EReal) = _ from congrArg₂ (· + ·) (by blk_ext) (Finset.sum_congr rfl fun k _ => congrArg₂ (· * ·) (by blk_ext) (by blk_ext)))

/-- So does the last point of a run. -/
theorem scC (c : Dev nD) (t : Fin cfg0.N) (h0 : ¬t.val % 8 = 0) (h1 : t.val % 8 = 7) (y : S3x1408x1024.Idx) :
   (outsAt0 m c t.val t.isLt).2.2.2 y = (outsAt0 m c (t.val - 1) (Nat.lt_of_le_of_lt (Nat.sub_le _ _) t.isLt)).2.2.2 y
      + part (iblk m c 0 t) (iblk m c 1 t) (iblk m c 2 t) (iblk m c 3 t) (iblk m c 4 t) y := by
  rw [outsAt0_C m c t h0 h1]
  frame_out
  generalize (outsAt0 m c (t.val - 1) _).2.2.2 = X
  simp only [read_unread_whole]
  canon_tiles x h
  all_goals unfold part
  · rw [if_neg (by omega), if_neg (by omega)]; open_payloads; pointwise; exact (show (_ : EReal) = _ from congrArg₂ (· + ·) (by blk_ext) (Finset.sum_congr rfl fun k _ => congrArg₂ (· * ·) (by blk_ext) (by blk_ext)))
  · rw [if_neg (by omega), if_pos (by omega)]; open_payloads; pointwise; exact (show (_ : EReal) = _ from congrArg₂ (· + ·) (by blk_ext) (Finset.sum_congr rfl fun k _ => congrArg₂ (· * ·) (by blk_ext) (by blk_ext)))
  · rw [if_pos (by omega)]; open_payloads; pointwise; exact (show (_ : EReal) = _ from congrArg₂ (· + ·) (by blk_ext) (Finset.sum_congr rfl fun k _ => congrArg₂ (· * ·) (by blk_ext) (by blk_ext)))

/-- The last point of a run writes plane 0 of the scratch to output 0. -/
theorem out_0 (c : Dev nD) (t : Fin cfg0.N) (h0 : ¬t.val % 8 = 0) (h1 : t.val % 8 = 7) (a : Fin 1408) (b : Fin 1024) :
    (outsAt0 m c t.val t.isLt).1 (ix2 a b) = (outsAt0 m c t.val t.isLt).2.2.2 (ix3 0 a b) := by
  rw [scC m c t h0 h1, outsAt0_C m c t h0 h1]
  frame_out
  generalize (outsAt0 m c (t.val - 1) _).2.2.2 = X
  simp (disch := decide) only [↓ View.readCov_skip, ↓ View.readCov_cons_toLoadRect, read_unread_whole]
  rw [part_0]
  open_payloads; pointwise
/-- The last point of a run writes plane 1 of the scratch to output 1. -/
theorem out_1 (c : Dev nD) (t : Fin cfg0.N) (h0 : ¬t.val % 8 = 0) (h1 : t.val % 8 = 7) (a : Fin 1408) (b : Fin 1024) :
    (outsAt0 m c t.val t.isLt).2.1 (ix2 a b) = (outsAt0 m c t.val t.isLt).2.2.2 (ix3 1 a b) := by
  rw [scC m c t h0 h1, outsAt0_C m c t h0 h1]
  frame_out
  generalize (outsAt0 m c (t.val - 1) _).2.2.2 = X
  simp (disch := decide) only [↓ View.readCov_skip, ↓ View.readCov_cons_toLoadRect, read_unread_whole]
  rw [part_1]
  open_payloads; pointwise
/-- The last point of a run writes plane 2 of the scratch to output 2, halved. -/
theorem out_2 (c : Dev nD) (t : Fin cfg0.N) (h0 : ¬t.val % 8 = 0) (h1 : t.val % 8 = 7) (a : Fin 1408) (b : Fin 1024) :
    (outsAt0 m c t.val t.isLt).2.2.1 (ix2 a b) = ((1 / 2 : ℝ) : EReal) * (outsAt0 m c t.val t.isLt).2.2.2 (ix3 2 a b) := by
  rw [scC m c t h0 h1, outsAt0_C m c t h0 h1]
  frame_out
  generalize (outsAt0 m c (t.val - 1) _).2.2.2 = X
  simp (disch := decide) only [↓ View.readCov_skip, ↓ View.readCov_cons_toLoadRect, read_unread_whole]
  rw [part_2]
  open_payloads; pointwise; rw [Reals.ofBits_half]

end Cert.DwGrad

end
-- ==== Proof.DwRef.lean ====
/-
  The weight gradients of the gated unit, reference side: reference.py's backward pass of the three products, read at
  an index.
-/
module

public import proofs.«01_k».proof.Proof.Gen.DwRefIdeal.Run
public import proofs.«01_k».proof.Proof.Reals

@[expose] public section

set_option maxRecDepth 16384

noncomputable section

namespace Cert.DwGrad

open Cert.DwRefIdeal Cert.DwRefIdeal.Gen Idealize.ShloMosaic Idealize.ShloMosaic.TcCoe Idealize.SL.Sem Idealize.ShloMosaic.StableHlo

/-- The reference's gradient of a weight `w` whose product is `u @ w.T`: the rows' gradient `g`, transposed, times `u`. -/
def refW (G : FVec Ideal S4096x2816 .bf16) (U : FVec Ideal S4096x1024 .bf16) : FVec Ideal S2816x1024 .bf16 :=
  truncf .bf16 (transpose S2816x1024 [1, 0] (transpose S1024x2816 [1, 0]
    (Host.dotGeneral dot_S4096x2816_S4096x1024_S2816x1024_0_0_1_1_n_n none (extf .f32 G bitsLt_bf16_f32) (extf .f32 U bitsLt_bf16_f32))
    transposes_S2816x1024_S1024x2816_1_0) transposes_S1024x2816_S2816x1024_1_0) bitsLt_bf16_f32

/-- The reference's gradient of the weight of `0.5 * (a @ w)`. -/
def refD (A : FVec Ideal S4096x2816 .bf16) (D : FVec Ideal S4096x1024 .bf16) : FVec Ideal S2816x1024 .bf16 :=
  truncf .bf16 (transpose S2816x1024 [1, 0]
    (Host.dotGeneral dot_S4096x1024_S4096x2816_S1024x2816_0_0_1_1_n_n none
      (mulf (broadcastInDim S4096x1024 ![] bcast_S_S4096x1024 (constant S_ .f32 0x3F000000#32)) (extf .f32 D bitsLt_bf16_f32))
      (extf .f32 A bitsLt_bf16_f32))
    transposes_S1024x2816_S2816x1024_1_0) bitsLt_bf16_f32

theorem refW_at (G : FVec Ideal S4096x2816 .bf16) (U : FVec Ideal S4096x1024 .bf16) (a : Fin 2816) (b : Fin 1024) :
    refW G U (ix2 a b) = ∑ k : Fin 4096, G (ix2 k a) * U (ix2 k b) := by
  pointwise [refW]

theorem refD_at (A : FVec Ideal S4096x2816 .bf16) (D : FVec Ideal S4096x1024 .bf16) (a : Fin 2816) (b : Fin 1024) :
    refD A D (ix2 a b) = ((1 / 2 : ℝ) : EReal) * ∑ k : Fin 4096, A (ix2 k a) * D (ix2 k b) := by
  rw [Reals.mul_sum _ _ (by norm_num)]
  pointwise [refD]
  simp only [Reals.ofBits_half]
  exact Finset.sum_congr rfl fun k _ => by rw [mul_assoc, mul_comm (D _)]

end Cert.DwGrad

end
-- ==== Proof.DwValue.lean ====
/-
  The weight gradients of the gated unit: the three arrays that the kernel leaves are the three products of
  reference.py's backward pass, each contracted over all the rows at once.
-/
module

public import proofs.«01_k».proof.Proof.DwPoint
public import proofs.«01_k».proof.Proof.DwRef

@[expose] public section

set_option maxRecDepth 16384

noncomputable section

namespace Cert.DwGrad

open Cert.DwIdeal Cert.DwIdeal.Gen Idealize.ShloMosaic Idealize.ShloMosaic.TcCoe Idealize.SL.Sem
open Idealize.ShloMosaic.Pipeline (Dat)

variable (m : (ℓ : Loc nD τ sig) → Buf (Elt Ideal) ℓ)

/-- The blocks that a point reads and writes: rows `t % 8`, hidden columns `t / 8`. -/
theorem idx : ∀ t : Fin cfg0.N, win0_0.index t = ![t.val % 8, 0] ∧ win0_1.index t = ![t.val % 8, t.val / 8]
    ∧ win0_2.index t = ![t.val % 8, t.val / 8] ∧ win0_3.index t = ![t.val % 8, t.val / 8] ∧ win0_4.index t = ![t.val % 8, 0]
    ∧ win0_5.index t = ![t.val / 8, 0] ∧ win0_6.index t = ![t.val / 8, 0] ∧ win0_7.index t = ![t.val / 8, 0] :=
  (by decide +kernel : ∀ t : Fin grid0.N, _)

/-- At the end of a run the scratch holds the sum of the run's eight contributions. -/
theorem scratch_sum (c : Dev nD) (t : Fin cfg0.N) (h : t.val % 8 = 8 - 1) (y : S3x1408x1024.Idx) :
    (outsAt0 m c t.val t.isLt).2.2.2 y = ∑ s : Fin 8, partAt m c ⟨8 * (t.val / 8) + s.val, Pipeline.run_point_lt_of_flush t h s⟩ y := by
  rw [Pipeline.eq_sum_fin_of_reset_step_apply_of_flush (fun n h => (outsAt0 m c n h).2.2.2) 8 (fun _ => (0 : EReal)) (partAt m c)
    (fun t h y => by rw [scA m c t h (by omega) y, zero_add])
    (fun t h y => by by_cases h1 : t.val % 8 = 7; exacts [scC m c t h h1 y, scB m c t h h1 y]) t h y, zero_add]

/-- Output 5 ends as the reference's gate weight's gradient. -/
theorem final_gate (c : Dev nD) : (dats m 0 c).arrAt 5 (cfgs 0).N
    = refW (m ((c : Thread nD τ).loc main_arg1)) (m ((c : Thread nD τ).loc main_arg0)) := by
  refine (dats m 0 c).arrAt_eq_of_covers 5 _ (by decide +kernel) fun t hf y => ?_
  have h7 := (flush0_5 t).mp hf
  have ht : t.val < 16 := lt_of_lt_of_eq t.isLt N_0
  blk_simp
  rw [after0_5]
  idx_vars y
  have e : (((View.whole main_v0_0).slice (win0_5.rect t)).emb (ix2 y0 y1)) = ix2 ⟨t.val / 8 * 1408 + y0.val, by omega⟩ y1 := by
    blk_ext [idx t]
  rw [out_0 m c t (by omega) h7, scratch_sum m c t h7, e, refW_at]
  simp only [partAt, part_0]
  refine Fin.sum_mul_add_congr fun s k hl => ?_
  blk_point [iblk, V, idx ⟨_, Pipeline.run_point_lt_of_flush t h7 s⟩]

/-- Output 6 ends as the reference's up weight's gradient. -/
theorem final_up (c : Dev nD) : (dats m 0 c).arrAt 6 (cfgs 0).N
    = refW (m ((c : Thread nD τ).loc main_arg2)) (m ((c : Thread nD τ).loc main_arg0)) := by
  refine (dats m 0 c).arrAt_eq_of_covers 6 _ (by decide +kernel) fun t hf y => ?_
  have h7 := (flush0_6 t).mp hf
  have ht : t.val < 16 := lt_of_lt_of_eq t.isLt N_0
  blk_simp
  rw [after0_6]
  idx_vars y
  have e : (((View.whole main_v0_1).slice (win0_6.rect t)).emb (ix2 y0 y1)) = ix2 ⟨t.val / 8 * 1408 + y0.val, by omega⟩ y1 := by
    blk_ext [idx t]
  rw [out_1 m c t (by omega) h7, scratch_sum m c t h7, e, refW_at]
  simp only [partAt, part_1]
  refine Fin.sum_mul_add_congr fun s k hl => ?_
  blk_point [iblk, V, idx ⟨_, Pipeline.run_point_lt_of_flush t h7 s⟩]

/-- Output 7 ends as the reference's down weight's gradient. -/
theorem final_down (c : Dev nD) : (dats m 0 c).arrAt 7 (cfgs 0).N
    = refD (m ((c : Thread nD τ).loc main_arg3)) (m ((c : Thread nD τ).loc main_arg4)) := by
  refine (dats m 0 c).arrAt_eq_of_covers 7 _ (by decide +kernel) fun t hf y => ?_
  have h7 := (flush0_7 t).mp hf
  have ht : t.val < 16 := lt_of_lt_of_eq t.isLt N_0
  blk_simp
  rw [after0_7]
  idx_vars y
  have e : (((View.whole main_v0_2).slice (win0_7.rect t)).emb (ix2 y0 y1)) = ix2 ⟨t.val / 8 * 1408 + y0.val, by omega⟩ y1 := by
    blk_ext [idx t]
  rw [out_2 m c t (by omega) h7, scratch_sum m c t h7, e, refD_at]
  simp only [partAt, part_2]
  refine congrArg _ (show (_ : EReal) = _ from ?_)
  refine Fin.sum_mul_add_congr fun s k hl => ?_
  blk_point [iblk, V, idx ⟨_, Pipeline.run_point_lt_of_flush t h7 s⟩]

end Cert.DwGrad

end
-- ==== Proof.DwClaim.lean ====
/-
  The weight gradients of the gated unit: kernel and reference end with the same three arrays.
-/
module

public import proofs.«01_k».proof.Defs
public import proofs.«01_k».proof.Proof.DwValue
public import proofs.«01_k».proof.Proof.Gen.DwRefIdeal.Run

@[expose] public section

noncomputable section

namespace Cert.DwGrad

open Idealize.ShloMosaic Idealize.ShloMosaic.TcCoe Idealize.SL.Sem

/-- The value claim: both programs end with `refW` and `refD` of their arguments. -/
theorem algebraic : Cert.algebraic_DwIdeal_DwRefIdeal := fun m ρ m' ρ' _ hag =>
  ⟨fun c => refW (m ((c : Thread DwIdeal.nD DwIdeal.τ).loc DwIdeal.main_arg1)) (m ((c : Thread DwIdeal.nD DwIdeal.τ).loc DwIdeal.main_arg0)),
    fun c => refW (m ((c : Thread DwIdeal.nD DwIdeal.τ).loc DwIdeal.main_arg2)) (m ((c : Thread DwIdeal.nD DwIdeal.τ).loc DwIdeal.main_arg0)),
    fun c => refD (m ((c : Thread DwIdeal.nD DwIdeal.τ).loc DwIdeal.main_arg3)) (m ((c : Thread DwIdeal.nD DwIdeal.τ).loc DwIdeal.main_arg4)),
    (θ_run _ _ _).mono (fun _ h c => ⟨(h c).1.trans (final_gate m c), (h c).2.1.trans (final_up m c),
      (h c).2.2.1.trans (final_down m c), (h c).2.2.2⟩) (DwIdeal.Value.run_blocks m ρ),
    (θ_run _ _ _).mono (fun _ h c => ⟨(h c).1.trans (by rw [(hag c).2.1, (hag c).1]; rfl),
      (h c).2.1.trans (by rw [(hag c).2.2.1, (hag c).1]; rfl),
      (h c).2.2.1.trans (by rw [(hag c).2.2.2.1, (hag c).2.2.2.2]; rfl), (h c).2.2.2⟩) (DwRefIdeal.Value.run m' ρ')⟩

end Cert.DwGrad

end
-- ==== Proof.DxRef.lean ====
/-
  The input gradient of the gated unit as reference.py computes it: the gradient at the norm's output from the two
  branches, the norm's own gradient, and the gain's gradient.
-/
module

public import proofs.«01_k».proof.Proof.Gen.DxRefIdeal.Run
public import proofs.«01_k».proof.Proof.Reals

@[expose] public section

set_option maxRecDepth 16384

noncomputable section

namespace Cert.Dx

open Cert.DxRefIdeal Cert.DxRefIdeal.Gen Idealize.ShloMosaic Idealize.ShloMosaic.TcCoe Idealize.SL.Sem

/-- A gradient of the hidden width times its weight, back at the model width. -/
def backward (G : FVec Ideal S4096x2816 .bf16) (W : FVec Ideal S2816x1024 .bf16) : FVec Ideal S4096x1024 .f32 :=
  Host.dotGeneral dot_S4096x2816_S1024x2816_S4096x1024_1_1_0_0_n_n none (extf .f32 G bitsLt_bf16_f32)
    (transpose S1024x2816 [1, 0] (extf .f32 W bitsLt_bf16_f32) transposes_S2816x1024_S1024x2816_1_0)

/-- The gradient at the norm's output. -/
def refDu (Dg Dup : FVec Ideal S4096x2816 .bf16) (Wg Wu : FVec Ideal S2816x1024 .bf16) : FVec Ideal S4096x1024 .f32 :=
  addf (backward Dup Wu) (backward Dg Wg)

/-- A constant for every row. -/
def rowConst (b : BitVec 32) : FVec Ideal S4096x1 .f32 := broadcastInDim S4096x1 ![] bcast_S_S4096x1 (constant S_ .f32 b)

/-- The mean square of each row with the norm's guard added, and its inverse root. -/
def square (H : FVec Ideal S4096x1024 .f32) : FVec Ideal S4096x1 .f32 :=
  addf (Host.divf (broadcastInDim S4096x1 ![0] bcast_S4096_S4096x1_0 (Host.reduceAdd (mulf H H) (constant S_ .f32 0x00000000#32) reducesTo_S4096x1024_S4096_d1 h_S_))
    (rowConst 0x44800000#32)) (rowConst 0x358637BD#32)
def spread (x : FVec Ideal S4096x1 .f32) : FVec Ideal S4096x1024 .f32 := broadcastInDim S4096x1024 ![0, 1] bcast_S4096x1_S4096x1024_0_1 x

/-- The gradient at the normed rows: the gradient at the norm's output times the gain. -/
def refDn (U : FVec Ideal S4096x1024 .f32) (g : FVec Ideal S1x1024 .f32) : FVec Ideal S4096x1024 .f32 :=
  mulf U (broadcastInDim S4096x1024 ![0, 1] bcast_S1x1024_S4096x1024_0_1 g)

/-- The gradient of each row's mean square, over the width. -/
def refDs (H U : FVec Ideal S4096x1024 .f32) (g : FVec Ideal S1x1024 .f32) : FVec Ideal S4096x1 .f32 :=
  Host.divf (mulf (shapeCast _ (Host.reduceAdd (mulf H (refDn U g)) (constant S_ .f32 0x00000000#32) reducesTo_S4096x1024_S4096_d1 h_S_) shapeCasts_S4096_S4096x1)
    (mulf (rowConst 0xBF000000#32) (Host.divf (Host.rsqrt (square H)) (square H)))) (rowConst 0x44800000#32)
def spreadDs (H U : FVec Ideal S4096x1024 .f32) (g : FVec Ideal S1x1024 .f32) : FVec Ideal S4096x1024 .f32 :=
  broadcastInDim S4096x1024 ![0] bcast_S4096_S4096x1024_0 (Host.reduceAdd (refDs H U g) (constant S_ .f32 0x00000000#32) reducesTo_S4096x1_S4096_d1 h_S_)

/-- The gradient at the half-step's input, over the gradient `U` at the norm's output. -/
def refX (H U D : FVec Ideal S4096x1024 .f32) (g : FVec Ideal S1x1024 .f32) : FVec Ideal S4096x1024 .f32 :=
  addf (addf (addf D (mulf (refDn U g) (spread (Host.rsqrt (square H))))) (mulf H (spreadDs H U g))) (mulf (spreadDs H U g) H)

/-- The gain's gradient. -/
def refGain (H U : FVec Ideal S4096x1024 .f32) : FVec Ideal S1x1024 .f32 :=
  shapeCast _ (Host.reduceAdd (mulf (mulf H (spread (Host.rsqrt (square H)))) U) (constant S_ .f32 0x00000000#32) reducesTo_S4096x1024_S1024_d0 h_S_) shapeCasts_S1024_S1x1024

section At
variable (Dg Dup : FVec Ideal S4096x2816 .bf16) (Wg Wu : FVec Ideal S2816x1024 .bf16) (H U D : FVec Ideal S4096x1024 .f32) (g : FVec Ideal S1x1024 .f32)
  (a : Fin 4096) (b : Fin 1024)

theorem refDu_at : refDu Dg Dup Wg Wu (ix2 a b) = (∑ j : Fin 2816, Dup (ix2 a j) * Wu (ix2 j b)) + ∑ j : Fin 2816, Dg (ix2 a j) * Wg (ix2 j b) := by
  pointwise [refDu, backward]

theorem square_at : square H (ix2 a 0) = Ideal.div (∑ j : Fin 1024, H (ix2 a j) * H (ix2 a j)) (Ideal.ofBits .f32 0x44800000#32) + Ideal.ofBits .f32 0x358637BD#32 := by
  pointwise [square, rowConst]

theorem refDn_at : refDn U g (ix2 a b) = U (ix2 a b) * g (ix2 0 b) := by
  pointwise [refDn]

theorem spreadDs_at : spreadDs H U g (ix2 a b) = Ideal.div ((∑ j : Fin 1024, H (ix2 a j) * (U (ix2 a j) * g (ix2 0 j)))
    * (Ideal.ofBits .f32 0xBF000000#32 * Ideal.div (Ideal.rsqrt (square H (ix2 a 0))) (square H (ix2 a 0)))) (Ideal.ofBits .f32 0x44800000#32) := by
  rw [square_at]
  pointwise [spreadDs, refDs, refDn, rowConst, square]
  exact (show (_ : EReal) = _ from Fin.sum_univ_one _)

theorem refX_at : refX H U D g (ix2 a b) = D (ix2 a b) + U (ix2 a b) * g (ix2 0 b) * Ideal.rsqrt (square H (ix2 a 0))
    + H (ix2 a b) * spreadDs H U g (ix2 a b) + spreadDs H U g (ix2 a b) * H (ix2 a b) := by
  rw [square_at]
  generalize hs : spreadDs H U g = s
  pointwise [refX, refDn, spread, square, rowConst, hs]

theorem refGain_at : refGain H U (ix2 0 b) = ∑ j : Fin 4096, H (ix2 j b) * Ideal.rsqrt (square H (ix2 j 0)) * U (ix2 j b) := by
  simp only [square_at]
  pointwise [refGain, spread, square, rowConst]
end At

/-- The run's terms are these. -/
theorem run_x (m : (ℓ : Loc nD τ sig) → Buf (Elt Ideal) ℓ) (c : Dev nD) : Value.res_main_v45 m c
    = refX (m ((c.tc : Thread nD τ).loc main_arg4)) (refDu (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg6)) (m ((c.tc : Thread nD τ).loc main_arg5)) := by
  unfold Value.res_main_v45; rfl
theorem run_xh (m : (ℓ : Loc nD τ sig) → Buf (Elt Ideal) ℓ) (c : Dev nD) : Value.res_main_v46 m c
    = truncf .bf16 (refX (m ((c.tc : Thread nD τ).loc main_arg4)) (refDu (m ((c.tc : Thread nD τ).loc main_arg0)) (m ((c.tc : Thread nD τ).loc main_arg1)) (m ((c.tc : Thread nD τ).loc main_arg2)) (m ((c.tc : Thread nD τ).loc main_arg3)))
      (m ((c.tc : Thread nD τ).loc main_arg6)) (m ((c.tc : Thread nD τ).loc main_arg5))) bitsLt_bf16_f32 := by
  unfold Value.res_main_v46; rfl

end Cert.Dx

end
-- ==== Proof.DxArrays.lean ====
/-
  The input gradient of the gated unit, kernel side: what the two gradient arrays hold, block by block, and the gain's
  gradient, which the sixteen points accumulate.
-/
module

public import proofs.«01_k».proof.Proof.Gen.DxIdeal.Value
public import proofs.«01_k».proof.Proof.DxRef
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Dx

open Cert.DxIdeal Cert.DxIdeal.Gen Idealize.ShloMosaic Idealize.ShloMosaic.TcCoe Idealize.SL.Sem
open Idealize.ShloMosaic.Pipeline (Dat)

variable (m : (ℓ : Loc nD τ sig) → Buf (Elt Ideal) ℓ)

/-- The gradient at the norm's output, as the kernel adds its two products. -/
def du (Dg Dup : FVec Ideal S4096x2816 .bf16) (Wg Wu : FVec Ideal S2816x1024 .bf16) (a : Fin 4096) (b : Fin 1024) : EReal :=
  (∑ j : Fin 2816, Dg (ix2 a j) * Wg (ix2 j b)) + ∑ j : Fin 2816, Dup (ix2 a j) * Wu (ix2 j b)

/-- The inverse root of a row's mean square. -/
def inv (H : FVec Ideal S4096x1024 .f32) (a : Fin 4096) : EReal :=
  Ideal.rsqrt (Ideal.div (∑ j : Fin 1024, H (ix2 a j) * H (ix2 a j)) (Ideal.ofBits .f32 0x44800000#32) + Ideal.ofBits .f32 0x358637BD#32)

/-- The gradient at the half-step's input, as the kernel spells it. -/
def outX (Dg Dup : FVec Ideal S4096x2816 .bf16) (Wg Wu : FVec Ideal S2816x1024 .bf16) (H D : FVec Ideal S4096x1024 .f32) (g : FVec Ideal S1x1024 .f32) :
    S4096x1024.Idx → EReal := fun i =>
  D (ix2 (i 0) (i 1)) + inv H (i 0) * (du Dg Dup Wg Wu (i 0) (i 1) * g (ix2 0 (i 1)) - H (ix2 (i 0) (i 1)) * inv H (i 0)
    * Ideal.div (∑ j : Fin 1024, du Dg Dup Wg Wu (i 0) j * g (ix2 0 j) * (H (ix2 (i 0) j) * inv H (i 0))) (Ideal.ofBits .f32 0x44800000#32))

/-- One point's addition to the gain's gradient, at its blocks. -/
def partGain (x0 x1 : Vec Ideal S256x2816 .bf16) (x2 x3 : Vec Ideal S2816x1024 .bf16) (x4 : Vec Ideal S256x1024 .f32) (y : S1x1024.Idx) : EReal :=
  ∑ k : Fin 256, ((∑ j : Fin 2816, x0 (ix2 k j) * x2 (ix2 j (y 1))) + ∑ j : Fin 2816, x1 (ix2 k j) * x3 (ix2 j (y 1)))
    * (x4 (ix2 k (y 1)) * Ideal.rsqrt (Ideal.div (∑ j : Fin 1024, x4 (ix2 k j) * x4 (ix2 k j)) (Ideal.ofBits .f32 0x44800000#32) + Ideal.ofBits .f32 0x358637BD#32))

theorem idx : ∀ t : Fin cfg0.N, win0_0.index t = ![t.val, 0] ∧ win0_1.index t = ![t.val, 0] ∧ win0_2.index t = ![0, 0] ∧ win0_3.index t = ![0, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![0, 0] :=
  (by decide +kernel : ∀ t : Fin grid0.N, _)

abbrev A (c : Dev nD) : S4096x1024.Idx → EReal :=
  outX (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg6)) (m ((c : Thread nD τ).loc main_arg5))

theorem point7 (c : Dev nD) (t : Fin cfg0.N) (y : S256x1024.Idx) :
    k0_pay6 (F := Ideal) (iblk m c 0 t) (iblk m c 2 t) (iblk m c 1 t) (iblk m c 3 t) (iblk m c 4 t) (iblk m c 5 t) (iblk m c 6 t) y
      = A m c (((View.whole main_v0_0).slice (win0_7.rect t)).emb y) := by
  open_payloads
  pointwise [A, outX, du, inv]
  blk_point [iblk, V, idx t]

/-- What the point leaves for the two gradient arrays, in both cases. -/
theorem at7 (c : Dev nD) (t : Fin cfg0.N) : (outsAt0 m c t.val t.isLt).1
    = k0_pay6 (F := Ideal) (iblk m c 0 t) (iblk m c 2 t) (iblk m c 1 t) (iblk m c 3 t) (iblk m c 4 t) (iblk m c 5 t) (iblk m c 6 t) := by
  by_cases h0 : t.val % 16 = 0
  · rw [outsAt0_A m c t h0]; frame_out
  · rw [outsAt0_B m c t h0]; frame_out
theorem at8 (c : Dev nD) (t : Fin cfg0.N) : (outsAt0 m c t.val t.isLt).2.1
    = k0_pay7 (F := Ideal) (iblk m c 0 t) (iblk m c 2 t) (iblk m c 1 t) (iblk m c 3 t) (iblk m c 4 t) (iblk m c 5 t) (iblk m c 6 t) := by
  by_cases h0 : t.val % 16 = 0
  · rw [outsAt0_A m c t h0]; frame_out
  · rw [outsAt0_B m c t h0]; frame_out

theorem final_x (c : Dev nD) : (dats m 0 c).arrAt 7 (cfgs 0).N = A m c := by
  refine (dats m 0 c).arrAt_eq_of_covers 7 _ (by decide +kernel) fun t hf y => ?_
  blk_simp
  rw [after0_7, at7]
  exact point7 m c t y

theorem final_xh (c : Dev nD) : (dats m 0 c).arrAt 8 (cfgs 0).N = A m c := by
  refine (dats m 0 c).arrAt_eq_of_covers 8 _ (by decide +kernel) fun t hf y => ?_
  blk_simp
  rw [after0_8, at8]
  exact point7 m c t y

/-! ## The gain's gradient -/

abbrev gainAt (c : Dev nD) (t : Fin cfg0.N) (y : S1x1024.Idx) : EReal :=
  partGain (iblk m c 0 t) (iblk m c 1 t) (iblk m c 2 t) (iblk m c 3 t) (iblk m c 4 t) y

theorem gainA (c : Dev nD) (t : Fin cfg0.N) (h0 : t.val % 16 = 0) (y : S1x1024.Idx) : (outsAt0 m c t.val t.isLt).2.2 y = gainAt m c t y := by
  rw [outsAt0_A m c t h0]
  frame_out
  open_payloads
  pointwise [gainAt, partGain]

theorem gainB (c : Dev nD) (t : Fin cfg0.N) (h0 : ¬t.val % 16 = 0) (y : S1x1024.Idx) :
    (outsAt0 m c t.val t.isLt).2.2 y = (outsAt0 m c (t.val - 1) (Nat.lt_of_le_of_lt (Nat.sub_le _ _) t.isLt)).2.2 y + gainAt m c t y := by
  rw [outsAt0_B m c t h0]
  frame_out
  generalize (outsAt0 m c (t.val - 1) _).2.2 = X
  open_payloads
  pointwise [gainAt, partGain]

/-- The gain's gradient, over all the rows. -/
def outGain (Dg Dup : FVec Ideal S4096x2816 .bf16) (Wg Wu : FVec Ideal S2816x1024 .bf16) (H : FVec Ideal S4096x1024 .f32) :
    S1x1024.Idx → EReal := fun i => ∑ a : Fin 4096, du Dg Dup Wg Wu a (i 1) * (H (ix2 a (i 1)) * inv H a)

/-- At the last point the window holds the sum of the sixteen points' additions. -/
theorem gain_sum (c : Dev nD) (t : Fin cfg0.N) (h : t.val % 16 = 16 - 1) (y : S1x1024.Idx) :
    (outsAt0 m c t.val t.isLt).2.2 y = ∑ s : Fin 16, gainAt m c ⟨16 * (t.val / 16) + s.val, Pipeline.run_point_lt_of_flush t h s⟩ y := by
  rw [Pipeline.eq_sum_fin_of_reset_step_apply_of_flush (fun n h => (outsAt0 m c n h).2.2) 16 (fun _ => (0 : EReal)) (gainAt m c)
    (fun t h y => by rw [gainA m c t h y, zero_add]) (fun t h y => gainB m c t h y) t h y, zero_add]

theorem final_gain (c : Dev nD) : (dats m 0 c).arrAt 9 (cfgs 0).N
    = outGain (m ((c : Thread nD τ).loc main_arg0)) (m ((c : Thread nD τ).loc main_arg1)) (m ((c : Thread nD τ).loc main_arg2)) (m ((c : Thread nD τ).loc main_arg3))
      (m ((c : Thread nD τ).loc main_arg4)) := by
  refine (dats m 0 c).arrAt_eq_of_covers 9 _ (by decide +kernel) fun t hf y => ?_
  have h7 := (flush0_9 t).mp hf
  have ht : t.val < 16 := lt_of_lt_of_eq t.isLt N_0
  blk_simp
  rw [after0_9]
  idx_vars y
  have e : (((View.whole main_v0_2).slice (win0_9.rect t)).emb (ix2 y0 y1)) = ix2 y0 y1 := by blk_ext [idx t]
  rw [gain_sum m c t h7, e]
  simp only [gainAt, partGain, outGain, du, inv]
  refine Fin.sum_mul_add_congr fun s k hl => ?_
  blk_point [iblk, V, idx ⟨_, Pipeline.run_point_lt_of_flush t h7 s⟩]

end Cert.Dx

end
-- ==== Proof.DxClaim.lean ====
/-
  The input gradient of the gated unit: the gain's gradient summed over all the rows, the kernel's one factor against
  the reference's derivative of the inverse root, and the claim.
-/
module

public import proofs.«01_k».proof.Defs
public import proofs.«01_k».proof.Proof.Finite
public import proofs.«01_k».proof.Proof.DxArrays
public import proofs.«01_k».proof.Proof.Gen.Pre_finite_dx

@[expose] public section

set_option maxRecDepth 16384

noncomputable section

namespace Cert.Dx

open Cert.DxIdeal Cert.DxIdeal.Gen Idealize.ShloMosaic Idealize.ShloMosaic.TcCoe Idealize.SL.Sem Cert.Reals
open Idealize.ShloMosaic.Pipeline (Dat)

section Eq
variable (Dg Dup : FVec Ideal S4096x2816 .bf16) (Wg Wu : FVec Ideal S2816x1024 .bf16) (H D : FVec Ideal S4096x1024 .f32) (g : FVec Ideal S1x1024 .f32)

theorem du_eq (a : Fin 4096) (b : Fin 1024) : du Dg Dup Wg Wu a b = refDu Dg Dup Wg Wu (ix2 a b) := by
  rw [refDu_at, du, add_comm]

theorem gain_eq : outGain Dg Dup Wg Wu H = refGain H (refDu Dg Dup Wg Wu) := by
  funext i
  idx_vars i
  rw [show (ix2 i0 i1 : S1x1024.Idx) = ix2 0 i1 by rw [Subsingleton.elim i0 0], refGain_at]
  exact Finset.sum_congr rfl fun a _ => by rw [square_at, ← du_eq, mul_comm]; rfl

theorem x_eq (h0 : ∀ i, IsReal (Dg i)) (h1 : ∀ i, IsReal (Dup i)) (h2 : ∀ i, IsReal (Wg i)) (h3 : ∀ i, IsReal (Wu i))
    (h4 : ∀ i, IsReal (H i)) (h5 : ∀ i, IsReal (g i)) :
    outX Dg Dup Wg Wu H D g = refX H (refDu Dg Dup Wg Wu) D g := by
  funext i
  idx_vars i
  rw [refX_at, spreadDs_at, square_at]
  have hu : ∀ j, IsReal (refDu Dg Dup Wg Wu (ix2 i0 j)) := fun j => by
    rw [refDu_at]; exact (IsReal.sum _ fun k => (h1 _).mul (h3 _)).add (IsReal.sum _ fun k => (h0 _).mul (h2 _))
  show D (ix2 i0 i1) + inv H i0 * (du Dg Dup Wg Wu i0 i1 * g (ix2 0 i1) - H (ix2 i0 i1) * inv H i0 * Ideal.div (∑ j : Fin 1024, du Dg Dup Wg Wu i0 j * g (ix2 0 j) * (H (ix2 i0 j) * inv H i0)) _) = _
  simp only [du_eq, inv]
  choose u hu using hu
  choose h hh using h4
  choose γ hγ using h5
  obtain ⟨e, he, hee⟩ := ofBits_eps
  have hs : (∑ j : Fin 1024, H (ix2 i0 j) * H (ix2 i0 j)) = ((∑ j : Fin 1024, h (ix2 i0 j) * h (ix2 i0 j) : ℝ) : EReal) := by
    rw [coe_sum]; exact Finset.sum_congr rfl fun j _ => by rw [hh, EReal.coe_mul]
  have hn : 0 ≤ ∑ j : Fin 1024, h (ix2 i0 j) * h (ix2 i0 j) := Finset.sum_nonneg fun j _ => mul_self_nonneg _
  rw [hs, hee, ofBits_1024, div_real _ _ (by norm_num), ← EReal.coe_add]
  have hq : 0 < (∑ j : Fin 1024, h (ix2 i0 j) * h (ix2 i0 j)) / 1024 + e := by positivity
  generalize (∑ j : Fin 1024, h (ix2 i0 j) * h (ix2 i0 j)) / 1024 + e = q at hq ⊢
  rw [rsqrt_real _ hq]
  have hr : (Real.sqrt q)⁻¹ * (Real.sqrt q)⁻¹ = q⁻¹ := by rw [← mul_inv, Real.mul_self_sqrt hq.le]
  generalize (Real.sqrt q)⁻¹ = r at hr ⊢
  have s1 : (∑ j : Fin 1024, refDu Dg Dup Wg Wu (ix2 i0 j) * g (ix2 0 j) * (H (ix2 i0 j) * (r : EReal)))
      = ((r * ∑ j : Fin 1024, h (ix2 i0 j) * (u j * γ (ix2 0 j)) : ℝ) : EReal) := by
    rw [Finset.mul_sum, coe_sum]
    refine Finset.sum_congr rfl fun j _ => ?_
    rw [hu, hγ, hh]; norm_cast; ring
  have s2 : (∑ j : Fin 1024, H (ix2 i0 j) * (refDu Dg Dup Wg Wu (ix2 i0 j) * g (ix2 0 j)))
      = ((∑ j : Fin 1024, h (ix2 i0 j) * (u j * γ (ix2 0 j)) : ℝ) : EReal) := by
    rw [coe_sum]
    refine Finset.sum_congr rfl fun j _ => ?_
    rw [hu, hγ, hh]; norm_cast
  obtain ⟨w, hw, hww⟩ : ∃ w : ℝ, w = -(1 / 2) ∧ Ideal.ofBits .f32 0xBF000000#32 = (w : EReal) := ⟨-(1 / 2), rfl, ofBits_neg_half⟩
  rw [s1, s2, hww, div_real _ _ hq.ne', div_real _ _ (by norm_num), ← EReal.coe_mul, ← EReal.coe_mul,
    div_real _ _ (by norm_num), hu, hγ, hh]
  generalize (∑ j : Fin 1024, h (ix2 i0 j) * (u j * γ (ix2 0 j))) = S
  rw [add_assoc (D _ + _), add_assoc (D _)]
  refine congrArg (D (ix2 i0 i1) + ·) ?_
  norm_cast
  have hrq : r / q = r * (r * r) := by rw [hr, div_eq_mul_inv]
  rw [hrq, hw]
  ring
end Eq

/-- The value claim. -/
theorem algebraic : Cert.algebraic_DxIdeal_DxRefIdeal_pre_finite_dx := fun m ρ m' ρ' hpre hag =>
  ⟨_, _, _,
    (θ_run _ _ _).mono (fun _ h c => by
      obtain ⟨p0, p1, p2, p3, p4, p5, -⟩ := hpre c
      have e := x_eq _ _ _ _ _ (m ((c : Thread DxIdeal.nD DxIdeal.τ).loc DxIdeal.main_arg6)) _
        (real_of_finite _ _ (fun _ => ofBits_inf_bf16) p0) (real_of_finite _ _ (fun _ => ofBits_inf_bf16) p1)
        (real_of_finite _ _ (fun _ => ofBits_inf_bf16) p2) (real_of_finite _ _ (fun _ => ofBits_inf_bf16) p3)
        (real_of_finite _ _ (fun _ => ofBits_inf_f32) p4) (real_of_finite _ _ (fun _ => ofBits_inf_f32) p5)
      exact ⟨(h c).1.trans ((final_x m c).trans e), (h c).2.1.trans ((final_xh m c).trans e),
        (h c).2.2.1.trans ((final_gain m c).trans (gain_eq _ _ _ _ _)), (h c).2.2.2⟩) (DxIdeal.Value.run_blocks m ρ),
    (θ_run _ _ _).mono (fun _ h c => by
      obtain ⟨a0, a1, a2, a3, a4, a5, a6⟩ := hag c
      refine ⟨(h c).1.trans ?_, (h c).2.1.trans ?_, (h c).2.2.1.trans ?_, (h c).2.2.2⟩
      · rw [run_x, a0, a1, a2, a3, a4, a5, a6]
      · rw [run_xh, a0, a1, a2, a3, a4, a5, a6]; rfl
      · rw [a0, a1, a2, a3, a4]; rfl) (DxRefIdeal.Value.run m' ρ')⟩

end Cert.Dx

end
-- ==== Proof.AttnMath.lean ====
/-
  The softmax's gradient on one row, with real scores: the reference differentiates the quotient of the exponentials
  and their sum, the kernel multiplies the probabilities by the gradient below its weighted mean. What arrives may be
  any extended real: only the exponentials, the sum and its reciprocal need be real.
-/
module

public import proofs.«01_k».proof.Proof.Reals

@[expose] public section

noncomputable section

namespace Cert.Attn

open Idealize.ShloMosaic Cert.Reals

/-- The largest of a row of scores, at least the mask's value. -/
def top (s : Fin 256 → EReal) : EReal := Finset.univ.fold (max : EReal → EReal → EReal) (Ideal.ofBits .f32 0xFF800000#32) s
/-- A row's exponentials, its softmax, and the softmax's gradient at `dp`, scaled. -/
def expRow (s : Fin 256 → EReal) (k : Fin 256) : EReal := Ideal.exp (s k - top s)
def probRow (s : Fin 256 → EReal) (k : Fin 256) : EReal := Ideal.div (expRow s k) (∑ j : Fin 256, expRow s j)
def gradRow (s dp : Fin 256 → EReal) (k : Fin 256) : EReal :=
  probRow s k * (dp k - ∑ j : Fin 256, dp j * probRow s j) * Ideal.ofBits .f32 0x3D800000#32

theorem ofBits_mask : Ideal.ofBits .f32 0xFF800000#32 = ⊥ := by simp [Ideal.ofBits, Ideal.ieee]
theorem ofBits_sixteen : Ideal.ofBits .f32 0x41800000#32 = ((16 : ℝ) : EReal) := by
  simp [Ideal.ofBits, Ideal.ieee, -EReal.coe_mul]; norm_num
theorem ofBits_sixteenth : Ideal.ofBits .f32 0x3D800000#32 = ((1 / 16 : ℝ) : EReal) := by
  simp [Ideal.ofBits, Ideal.ieee, -EReal.coe_mul]; norm_num

/-- Any value over a nonzero real is a product by the reciprocal. -/
theorem div_coe (x : EReal) (b : ℝ) (hb : b ≠ 0) : Ideal.div x (b : EReal) = x * ((b⁻¹ : ℝ) : EReal) := by
  rw [Ideal.div, if_neg (by exact_mod_cast hb), EReal.coe_inv]

theorem div_sixteen (x : EReal) : Ideal.div x (Ideal.ofBits .f32 0x41800000#32) = x * Ideal.ofBits .f32 0x3D800000#32 := by
  rw [ofBits_sixteen, ofBits_sixteenth, div_coe x 16 (by norm_num)]; norm_num

/-- The largest of a row of real scores is real. -/
theorem top_real (s : Fin 256 → EReal) (h : ∀ k, IsReal (s k)) : IsReal (top s) := by
  have key : ∀ S : Finset (Fin 256), S.fold (max : EReal → EReal → EReal) ⊥ s = ⊥ ∧ S = ∅ ∨ IsReal (S.fold (max : EReal → EReal → EReal) ⊥ s) := by
    intro S
    classical
    induction S using Finset.induction_on with
    | empty => exact .inl ⟨by simp, rfl⟩
    | insert a S ha ih =>
      right
      rw [Finset.fold_insert ha]
      obtain ⟨x, hx⟩ := h a
      rcases ih with ⟨e, -⟩ | ⟨y, hy⟩
      · rw [e, hx]; exact ⟨x, by simp⟩
      · rw [hy, hx]; exact ⟨max x y, (EReal.coe_strictMono.monotone.map_max (a := x) (b := y)).symm⟩
  unfold top
  rw [ofBits_mask]
  rcases key Finset.univ with ⟨-, e⟩ | h
  · exact absurd (Finset.mem_univ (0 : Fin 256)) (by rw [e]; simp)
  · exact h

/-- The exponentials of real scores are positive reals, and so is their sum. -/
theorem expRow_real (s : Fin 256 → EReal) (h : ∀ k, IsReal (s k)) :
    ∃ e : Fin 256 → ℝ, (∀ k, 0 < e k) ∧ ∀ k, expRow s k = (e k : EReal) := by
  obtain ⟨M, hM⟩ := top_real s h
  choose r hr using h
  exact ⟨fun k => Real.exp (r k - M), fun k => Real.exp_pos _, fun k => by rw [expRow, hM, hr, ← EReal.coe_sub]; rfl⟩

/-- The reference's gradient of a row of scores is the kernel's. -/
theorem grad_eq (s dp : Fin 256 → EReal) (h : ∀ k, IsReal (s k)) (k : Fin 256) :
    Ideal.div ((Ideal.div (dp k) (∑ j : Fin 256, expRow s j) + ∑ x : Fin 1, -∑ x : Fin 256,
        dp x * Ideal.div 1 ((∑ j : Fin 256, expRow s j) * (∑ j : Fin 256, expRow s j)) * expRow s x) * expRow s k)
      (Ideal.ofBits .f32 0x41800000#32) = gradRow s dp k := by
  obtain ⟨e, he, hes⟩ := expRow_real s h
  rw [div_sixteen, gradRow]
  refine congrArg (· * _) ?_
  unfold probRow
  simp only [hes, ← coe_sum]
  have hz : 0 < ∑ j : Fin 256, e j := Finset.sum_pos (fun j _ => he j) ⟨0, Finset.mem_univ _⟩
  generalize (∑ j : Fin 256, e j) = z at hz
  have hr : (0 : ℝ) ≤ z⁻¹ := (inv_pos.mpr hz).le
  have one : Ideal.div 1 ((z : EReal) * (z : EReal)) = ((z⁻¹ : ℝ) : EReal) * ((z⁻¹ : ℝ) : EReal) := by
    rw [← EReal.coe_mul, div_coe _ _ (mul_pos hz hz).ne', one_mul, mul_inv, EReal.coe_mul]
  simp only [one, div_coe _ z hz.ne']
  generalize z⁻¹ = r at hr
  have hs : (∑ x : Fin 256, dp x * ((r : EReal) * (r : EReal)) * (e x : EReal)) = (r : EReal) * ∑ x : Fin 256, dp x * ((e x : EReal) * (r : EReal)) := by
    rw [mul_sum _ r hr]
    refine Finset.sum_congr rfl fun x _ => ?_
    ac_rfl
  rw [hs, Fin.sum_univ_one, ← mul_neg, mul_comm (dp k), ← EReal.left_distrib_of_nonneg_of_ne_top (EReal.coe_nonneg.mpr hr) (EReal.coe_ne_top r),
    ← sub_eq_add_neg]
  ac_rfl

end Cert.Attn

end
-- ==== Proof.AttnHead.lean ====
/-
  The gradient of the memory cross-attention, kernel side, one head on one block of rows: the softmax of the scaled
  scores, the gradient of the scores, and the three products, entry by entry.
-/
module

public import proofs.«01_k».proof.Proof.Gen.AttnIdeal.Value
public import proofs.«01_k».proof.Proof.AttnMath
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Attn

open Cert.AttnIdeal Cert.AttnIdeal.Gen Idealize.ShloMosaic Idealize.ShloMosaic.TcCoe Idealize.SL.Sem

/-- A block's largest entries by row. -/
theorem multiMax {n0 n1 : Nat} (S : FVec Ideal ⟨2, ![n0, n1]⟩ .f32) (b : BitVec 32)
    (h : (⟨2, ![n0, n1]⟩ : Shape).Reduces [1] ⟨1, ![n0]⟩) (h1) (h2) (a : Fin n0) :
    multiReduction (F := Ideal) .maximumf [1] ⟨1, ![n0]⟩ S b h h1 h2 (ix1 a)
      = Finset.univ.fold (max : EReal → EReal → EReal) (Ideal.ofBits .f32 b) fun k : Fin n1 => S (ix2 a k) := by
  pointwise

variable (q d : Vec Ideal S512x256 .bf16) (k v : Vec Ideal S256x256 .bf16) (X : Vec Ideal S256x256 .f32) (r : Fin 512) (a b : Fin 256)

/-- The scaled scores of a row of the block, and the gradient of its probabilities. -/
def scoreB (r : Fin 512) (j : Fin 256) : EReal := (∑ x : Fin 256, q (ix2 r x) * k (ix2 j x)) * Ideal.ofBits .f32 0x3D800000#32
def dprobB (r : Fin 512) (j : Fin 256) : EReal := ∑ x : Fin 256, d (ix2 r x) * v (ix2 j x)

/-- The scores as a block. -/
def scoreV : FVec Ideal S512x256 .f32 :=
  mulf (matmul (φ₁ := .bf16) (φ₂ := .bf16) dot_S512x256_S256x256_S512x256_1_1_0_0_n_n none q k (constant S512x256 .f32 0x00000000#32)) (broadcast S512x256 (Scalar.ofBits .f32 0x3D800000#32))
theorem scoreV_at : scoreV q k (ix2 r a) = scoreB q k r a := by
  pointwise [scoreV, scoreB]

/-- A column of 512 entries spread over 256 columns. -/
def spread (x : FVec Ideal S512 .f32) : FVec Ideal S512x256 .f32 :=
  broadcastTo S512x256 (shapeCast S512x1 x shapeCasts_S512_S512x1) broadcasts_S512x1_S512x256
theorem spread_at (x : FVec Ideal S512 .f32) : spread x (ix2 r a) = x (ix1 r) := by
  pointwise [spread]

/-- The exponentials of a block of scores. -/
def expV (S : FVec Ideal S512x256 .f32) : FVec Ideal S512x256 .f32 :=
  exp (subf S (spread (multiReduction .maximumf [1] S512 S 0xFF800000#32 reduces_S512x256_S512 (.inl rfl) rfl)))
theorem expV_at (S : FVec Ideal S512x256 .f32) : expV S (ix2 r a) = expRow (fun j => S (ix2 r j)) a := by
  have e := (spread_at r a _).trans (multiMax S 0xFF800000#32 reduces_S512x256_S512 (.inl rfl) rfl r)
  exact congrArg (fun w : EReal => Ideal.exp (S (ix2 r a) - w)) e

/-- The softmax of a block of scores. -/
def probV (S : FVec Ideal S512x256 .f32) : FVec Ideal S512x256 .f32 :=
  divf (expV S) (spread (multiReduction .add [1] S512 (expV S) 0x00000000#32 reduces_S512x256_S512 (.inl rfl) rfl))
theorem probV_at (S : FVec Ideal S512x256 .f32) : probV S (ix2 r a) = probRow (fun j => S (ix2 r j)) a := by
  unfold probRow
  simp only [← expV_at]
  generalize he : expV S = e
  pointwise [probV, spread, he]

/-- The kernel's softmax, and its gradient of the scores. -/
theorem prob_at : k0_pay7 (F := Ideal) q k (ix2 r a) = probRow (scoreB q k r) a :=
  ((congrFun (show k0_pay7 (F := Ideal) q k = probV (scoreV q k) from rfl) _).trans (probV_at r a _)).trans
    (congrArg (fun f => probRow f a) (funext fun j => scoreV_at q k r j))
theorem grad_at : k0_pay9 (F := Ideal) q k v d (ix2 r a) = gradRow (scoreB q k r) (dprobB d v r) a := by
  unfold gradRow
  simp only [← prob_at]
  unfold k0_pay9
  generalize he : k0_pay7 (F := Ideal) q k = e
  pointwise [he, dprobB]

/-- The three products of a head: to the values, to the queries, to the keys. -/
theorem toVals_at : k0_pay8 (F := Ideal) q k d X (ix2 a b) = X (ix2 a b) + ∑ r : Fin 512, probRow (scoreB q k r) a * d (ix2 r b) := by
  simp only [← prob_at]
  unfold k0_pay8
  generalize he : k0_pay7 (F := Ideal) q k = e
  pointwise [he]
theorem toRows_at : k0_pay11 (F := Ideal) k (k0_pay10 q k v d) (ix2 r a)
    = ∑ j : Fin 256, gradRow (scoreB q k r) (dprobB d v r) j * k (ix2 j a) := by
  simp only [← grad_at]
  unfold k0_pay11 k0_pay10
  generalize he : k0_pay9 (F := Ideal) q k v d = e
  pointwise [he]
theorem toKeys_at : k0_pay12 (F := Ideal) q (k0_pay9 q k v d) X (ix2 a b)
    = X (ix2 a b) + ∑ r : Fin 512, gradRow (scoreB q k r) (dprobB d v r) a * q (ix2 r b) := by
  simp only [← grad_at]
  unfold k0_pay12
  generalize he : k0_pay9 (F := Ideal) q k v d = e
  pointwise [he]

end Cert.Attn

end
-- ==== Proof.AttnArrays.lean ====
/-
  The gradient of the memory cross-attention, kernel side: what the two gradient arrays hold. Each of the eight points
  takes 512 rows through the four heads, writes the queries' gradient of those rows, and adds to the gradient of the
  keys and values, which the first point zeroes.
-/
module

public import proofs.«01_k».proof.Proof.AttnHead
public import proofs.«01_k».proof.Proof.Cover

@[expose] public section

set_option maxRecDepth 16384

noncomputable section

namespace Cert.Attn

open Cert.AttnIdeal Cert.AttnIdeal.Gen Idealize.ShloMosaic Idealize.ShloMosaic.TcCoe Idealize.SL.Sem
open Idealize.ShloMosaic.Pipeline (Dat)

/-- A row's scaled scores against a head's keys, and its gradient of the probabilities against the head's values. -/
def scoreRow (q : Fin 1024 → EReal) (K : S256x2048.Idx → EReal) (h : Fin 4) (j : Fin 256) : EReal :=
  (∑ x : Fin 256, q ⟨h * 256 + x, by omega⟩ * K (ix2 j ⟨h * 256 + x, by omega⟩)) * Ideal.ofBits .f32 0x3D800000#32
def dprobRow (d : Fin 1024 → EReal) (K : S256x2048.Idx → EReal) (h : Fin 4) (j : Fin 256) : EReal :=
  ∑ x : Fin 256, d ⟨h * 256 + x, by omega⟩ * K (ix2 j ⟨1024 + (h * 256 + x), by omega⟩)

/-- A row's entry of the queries' gradient, and what the row adds to the keys' and values' gradient. -/
def rowQ (q d : Fin 1024 → EReal) (K : S256x2048.Idx → EReal) (b : Fin 1024) : EReal :=
  ∑ j : Fin 256, gradRow (scoreRow q K ⟨b / 256, by omega⟩) (dprobRow d K ⟨b / 256, by omega⟩) j * K (ix2 j ⟨b, by omega⟩)
def rowKv (q d : Fin 1024 → EReal) (K : S256x2048.Idx → EReal) (a : Fin 256) (b : Fin 2048) : EReal :=
  if h : b.val < 1024 then gradRow (scoreRow q K ⟨b / 256, by omega⟩) (dprobRow d K ⟨b / 256, by omega⟩) a * q ⟨b, h⟩
  else probRow (scoreRow q K ⟨(b - 1024) / 256, by omega⟩) a * d ⟨b - 1024, by omega⟩

/-- A rectangle read from an array, at an entry. -/
theorem ld_at {n0 n1 s0 s1 o0 o1 : ℕ} {e : EltTy} (X : Vec Ideal ⟨2, ![n0, n1]⟩ e) (inb) (r : Fin s0) (x : Fin s1) (i : Fin n0) (j : Fin n1)
    (hi : i.val = o0 + r.val) (hj : j.val = o1 + x.val) :
    View.ld (Val := Elt Ideal) X (Rect.unit (s := ⟨2, ![n0, n1]⟩) ![o0, o1] ![s0, s1] inb) (ix2 r x) = X (ix2 i j) := by
  refine congrArg X (funext fun a => Fin.ext ?_)
  refine (ValueKit.rect_emb_unit_val _ _ inb (ix2 r x) a).trans ?_
  match a with
  | 0 => exact hi.symm
  | 1 => exact hj.symm

section Tiles
variable (Qb Db : Vec Ideal S512x1024 .bf16) (K : Vec Ideal S256x2048 .bf16) (h : Fin 4)
  (q d : Vec Ideal S512x256 .bf16) (k v X : Vec Ideal S256x256 .bf16)
  (hq : ∀ (r : Fin 512) (x : Fin 256), q (ix2 r x) = Qb (ix2 r ⟨h * 256 + x, by omega⟩))
  (hd : ∀ (r : Fin 512) (x : Fin 256), d (ix2 r x) = Db (ix2 r ⟨h * 256 + x, by omega⟩))
  (hk : ∀ j x : Fin 256, k (ix2 j x) = K (ix2 j ⟨h * 256 + x, by omega⟩))
  (hv : ∀ j x : Fin 256, v (ix2 j x) = K (ix2 j ⟨1024 + (h * 256 + x), by omega⟩))

include hq hk in
theorem scoreB_tile (r : Fin 512) : scoreB q k r = scoreRow (fun x => Qb (ix2 r x)) K h := by
  funext j; simp only [scoreB, scoreRow, hq, hk]
include hd hv in
theorem dprobB_tile (r : Fin 512) : dprobB d v r = dprobRow (fun x => Db (ix2 r x)) K h := by
  funext j; simp only [dprobB, dprobRow, hd, hv]

include hq hd hk hv in
/-- A head's columns of the queries' gradient. -/
theorem tileQ (x : S512x256.Idx) (y : S512x1024.Idx) (h0 : (y 0).val = (x 0).val) (h1 : (y 1).val = h * 256 + (x 1).val) :
    k0_pay11 (F := Ideal) k (k0_pay10 q k v d) x = rowQ (fun x => Qb (ix2 (y 0) x)) (fun x => Db (ix2 (y 0) x)) K (y 1) := by
  idx_vars x; idx_vars y
  obtain rfl : y0 = x0 := Fin.ext h0
  change y1.val = h.val * 256 + x1.val at h1
  have e : (⟨y1.val / 256, by omega⟩ : Fin 4) = h := Fin.ext (by show y1.val / 256 = h.val; omega)
  rw [toRows_at, scoreB_tile Qb K h q k hq hk, dprobB_tile Db K h d v hd hv]
  show _ = rowQ _ _ K y1
  unfold rowQ
  rw [e]
  refine Finset.sum_congr rfl fun j _ => congrArg₂ (· * ·) rfl ((hk j x1).trans (congrArg (fun z => K (ix2 j z)) (Fin.ext h1.symm)))

variable (X : Vec Ideal S256x256 .f32) (F : Vec Ideal S256x2048 .f32)

include hq hd hk hv in
/-- A head's columns of the keys' gradient. -/
theorem tileK (x : S256x256.Idx) (y : S256x2048.Idx) (h0 : (y 0).val = (x 0).val) (h1 : (y 1).val = h * 256 + (x 1).val) (hX : X x = F y) :
    k0_pay12 (F := Ideal) q (k0_pay9 q k v d) X x
      = F y + ∑ r : Fin 512, rowKv (fun x => Qb (ix2 r x)) (fun x => Db (ix2 r x)) K (y 0) (y 1) := by
  idx_vars x; idx_vars y
  obtain rfl : y0 = x0 := Fin.ext h0
  change y1.val = h.val * 256 + x1.val at h1
  have e : (⟨y1.val / 256, by omega⟩ : Fin 4) = h := Fin.ext (by show y1.val / 256 = h.val; omega)
  rw [toKeys_at, hX]
  refine congrArg (_ + ·) (Finset.sum_congr rfl fun r _ => ?_)
  rw [scoreB_tile Qb K h q k hq hk, dprobB_tile Db K h d v hd hv]
  show _ = rowKv _ _ K y0 y1
  unfold rowKv
  have hl : y1.val < 1024 := by omega
  rw [dif_pos hl, e, hq]
  have e1 : (⟨h * 256 + x1, by omega⟩ : Fin 1024) = ⟨y1, hl⟩ := Fin.ext h1.symm
  rw [e1]

include hq hd hk in
/-- A head's columns of the values' gradient. -/
theorem tileV (x : S256x256.Idx) (y : S256x2048.Idx) (h0 : (y 0).val = (x 0).val) (h1 : (y 1).val = 1024 + (h * 256 + (x 1).val)) (hX : X x = F y) :
    k0_pay8 (F := Ideal) q k d X x
      = F y + ∑ r : Fin 512, rowKv (fun x => Qb (ix2 r x)) (fun x => Db (ix2 r x)) K (y 0) (y 1) := by
  idx_vars x; idx_vars y
  obtain rfl : y0 = x0 := Fin.ext h0
  change y1.val = 1024 + (h.val * 256 + x1.val) at h1
  have e : (⟨(y1.val - 1024) / 256, by omega⟩ : Fin 4) = h := Fin.ext (by show (y1.val - 1024) / 256 = h.val; omega)
  rw [toVals_at, hX]
  refine congrArg (_ + ·) (Finset.sum_congr rfl fun r _ => ?_)
  rw [scoreB_tile Qb K h q k hq hk]
  show _ = rowKv _ _ K y0 y1
  unfold rowKv
  rw [dif_neg (show ¬ y1.val < 1024 by omega), e, hd]
  have e1 : (⟨h * 256 + x1, by omega⟩ : Fin 1024) = ⟨y1 - 1024, by omega⟩ := Fin.ext (by show h.val * 256 + x1.val = y1.val - 1024; omega)
  rw [e1]
end Tiles

/-! The same with the tiles read from the point's blocks: head `h` at column `o` of the rows and keys, `o'` of the values. -/
section Reads
variable (Qb Db : Vec Ideal S512x1024 .bf16) (K : Vec Ideal S256x2048 .bf16) (F : Vec Ideal S256x2048 .f32) (h : Fin 4) (o o' : ℕ)

abbrev cols (X : Vec Ideal S512x1024 .bf16) (o : ℕ) (i : ∀ a : Fin S512x1024.rank, ![0, o] a + ![512, 256] a ≤ S512x1024.size a) : Vec Ideal S512x256 .bf16 :=
  View.ld (Val := Elt Ideal) X (Rect.unit (s := S512x1024) ![0, o] ![512, 256] i)
abbrev keyCols (o : ℕ) (i : ∀ a : Fin S256x2048.rank, ![0, o] a + ![256, 256] a ≤ S256x2048.size a) : Vec Ideal S256x256 .bf16 := View.ld (Val := Elt Ideal) K (Rect.unit (s := S256x2048) ![0, o] ![256, 256] i)
abbrev sumCols (o : ℕ) (i : ∀ a : Fin S256x2048.rank, ![0, o] a + ![256, 256] a ≤ S256x2048.size a) : Vec Ideal S256x256 .f32 := View.ld (Val := Elt Ideal) F (Rect.unit (s := S256x2048) ![0, o] ![256, 256] i)

theorem cols_at (e : o = h * 256) (i) (X : Vec Ideal S512x1024 .bf16) (r : Fin 512) (x : Fin 256) : cols X o i (ix2 r x) = X (ix2 r ⟨h * 256 + x, by omega⟩) :=
  ld_at _ _ r x _ _ (Nat.zero_add _).symm (by show h.val * 256 + x.val = o + x.val; omega)
theorem keys_at (e : o = h * 256) (j) (r x : Fin 256) : keyCols K o j (ix2 r x) = K (ix2 r ⟨h * 256 + x, by omega⟩) :=
  ld_at _ _ r x _ _ (Nat.zero_add _).symm (by show h.val * 256 + x.val = o + x.val; omega)
theorem vals_at (e' : o' = 1024 + h * 256) (j') (r x : Fin 256) : keyCols K o' j' (ix2 r x) = K (ix2 r ⟨1024 + (h * 256 + x), by omega⟩) :=
  ld_at _ _ r x _ _ (Nat.zero_add _).symm (by rw [e']; exact (Nat.add_assoc _ _ _).symm)
theorem sum_at (j) (x : S256x256.Idx) (y : S256x2048.Idx) (h0 : (y 0).val = (x 0).val) (h1 : (y 1).val = o + (x 1).val) : sumCols F o j x = F y := by
  idx_vars x; idx_vars y
  exact ld_at _ _ x0 x1 _ _ (h0.trans (Nat.zero_add _).symm) h1

variable (e : o = h * 256) (e' : o' = 1024 + h * 256) (i j j')

include e e' in
theorem readQ (x : S512x256.Idx) (y : S512x1024.Idx) (h0 : (y 0).val = (x 0).val) (h1 : (y 1).val = o + (x 1).val) :
    k0_pay11 (F := Ideal) (keyCols K o j) (k0_pay10 (cols Qb o i) (keyCols K o j) (keyCols K o' j') (cols Db o i)) x
      = rowQ (fun x => Qb (ix2 (y 0) x)) (fun x => Db (ix2 (y 0) x)) K (y 1) :=
  tileQ Qb Db K h _ _ _ _ (cols_at h o e i Qb) (cols_at h o e i Db) (keys_at K h o e j) (vals_at K h o' e' j') x y h0 (h1.trans (by rw [e]))
include e e' in
theorem readK (x : S256x256.Idx) (y : S256x2048.Idx) (h0 : (y 0).val = (x 0).val) (h1 : (y 1).val = o + (x 1).val) :
    k0_pay12 (F := Ideal) (cols Qb o i) (k0_pay9 (cols Qb o i) (keyCols K o j) (keyCols K o' j') (cols Db o i)) (sumCols F o j) x
      = F y + ∑ r : Fin 512, rowKv (fun x => Qb (ix2 r x)) (fun x => Db (ix2 r x)) K (y 0) (y 1) :=
  tileK Qb Db K h _ _ _ _ (cols_at h o e i Qb) (cols_at h o e i Db) (keys_at K h o e j) (vals_at K h o' e' j') _ F x y h0 (h1.trans (by rw [e]))
    (sum_at F o j x y h0 h1)
include e e' in
theorem readV (x : S256x256.Idx) (y : S256x2048.Idx) (h0 : (y 0).val = (x 0).val) (h1 : (y 1).val = o' + (x 1).val) :
    k0_pay8 (F := Ideal) (cols Qb o i) (keyCols K o j) (cols Db o i) (sumCols F o' j') x
      = F y + ∑ r : Fin 512, rowKv (fun x => Qb (ix2 r x)) (fun x => Db (ix2 r x)) K (y 0) (y 1) :=
  tileV Qb Db K h _ _ _ (cols_at h o e i Qb) (cols_at h o e i Db) (keys_at K h o e j) _ F x y h0 (h1.trans (by rw [e']; exact Nat.add_assoc _ _ _))
    (sum_at F o' j' x y h0 h1)
end Reads

variable (m : (ℓ : Loc nD τ sig) → Buf (Elt Ideal) ℓ)

theorem idx : ∀ t : Fin cfg0.N, win0_0.index t = ![t.val, 0] ∧ win0_1.index t = ![0, 0] ∧ win0_2.index t = ![t.val, 0]
    ∧ win0_3.index t = ![t.val, 0] ∧ win0_4.index t = ![0, 0] :=
  (by decide +kernel : ∀ t : Fin grid0.N, _)

/-- The queries' gradient of a point's block. -/
theorem at3 (c : Dev nD) (t : Fin cfg0.N) (y : S512x1024.Idx) : (outsAt0 m c t.val t.isLt).1 y
    = rowQ (fun x => iblk m c 0 t (ix2 (y 0) x)) (fun x => iblk m c 2 t (ix2 (y 0) x)) (iblk m c 1 t) (y 1) := by
  by_cases h0 : t.val % 8 = 0
  · rw [outsAt0_A m c t h0]
    frame_out
    canon_tiles x h
    · exact readQ _ _ _ 3 768 1792 rfl rfl _ _ _ x y h0 h1
    · exact readQ _ _ _ 2 512 1536 rfl rfl _ _ _ x y h0 h1
    · exact readQ _ _ _ 1 256 1280 rfl rfl _ _ _ x y h0 h1
    · exact readQ _ _ _ 0 0 1024 rfl rfl _ _ _ x y h0 (h1.trans (Nat.zero_add _).symm)
  · rw [outsAt0_B m c t h0]
    frame_out
    canon_tiles x h
    · exact readQ _ _ _ 3 768 1792 rfl rfl _ _ _ x y h0 h1
    · exact readQ _ _ _ 2 512 1536 rfl rfl _ _ _ x y h0 h1
    · exact readQ _ _ _ 1 256 1280 rfl rfl _ _ _ x y h0 h1
    · exact readQ _ _ _ 0 0 1024 rfl rfl _ _ _ x y h0 (h1.trans (Nat.zero_add _).symm)

/-- What a point adds to the keys' and values' gradient. -/
abbrev addKv (c : Dev nD) (t : Fin cfg0.N) (y : S256x2048.Idx) : EReal :=
  ∑ r : Fin 512, rowKv (fun x => iblk m c 0 t (ix2 r x)) (fun x => iblk m c 2 t (ix2 r x)) (iblk m c 1 t) (y 0) (y 1)

theorem kvB (c : Dev nD) (t : Fin cfg0.N) (h0 : ¬t.val % 8 = 0) (y : S256x2048.Idx) : (outsAt0 m c t.val t.isLt).2 y
    = (outsAt0 m c (t.val - 1) (Nat.lt_of_le_of_lt (Nat.sub_le _ _) t.isLt)).2 y + addKv m c t y := by
  rw [outsAt0_B m c t h0]
  frame_out
  generalize (outsAt0 m c (t.val - 1) _).2 = X
  canon_tiles x h
  · exact readK _ _ _ X 3 768 1792 rfl rfl _ _ _ x y h0 h1
  · exact readV _ _ _ X 3 768 1792 rfl rfl _ _ _ x y h0 h1
  · exact readK _ _ _ X 2 512 1536 rfl rfl _ _ _ x y h0 h1
  · exact readV _ _ _ X 2 512 1536 rfl rfl _ _ _ x y h0 h1
  · exact readK _ _ _ X 1 256 1280 rfl rfl _ _ _ x y h0 h1
  · exact readV _ _ _ X 1 256 1280 rfl rfl _ _ _ x y h0 h1
  · exact readK _ _ _ X 0 0 1024 rfl rfl _ _ _ x y h0 (h1.trans (Nat.zero_add _).symm)
  · exact readV _ _ _ X 0 0 1024 rfl rfl _ _ _ x y h0 h1

theorem kvA (c : Dev nD) (t : Fin cfg0.N) (h0 : t.val % 8 = 0) (y : S256x2048.Idx) : (outsAt0 m c t.val t.isLt).2 y = addKv m c t y := by
  rw [outsAt0_A m c t h0]
  frame_out
  simp (disch := decide) only [↓ View.readCov_skip, ↓ View.readCov_cons_toLoadRect, ↓ View.readCov_fill]
  refine (canon_append_eq (Val := Elt Ideal) (s := S256x2048) (e := .f32) [⟨_, _⟩, ⟨_, _⟩, ⟨_, _⟩, ⟨_, _⟩, ⟨_, _⟩, ⟨_, _⟩, ⟨_, _⟩, ⟨_, _⟩] [_] y
    (View.cover_of_tiledL (s := S256x2048) _ S256x256.size (by sl_kernel_rfl) y)).trans ?_
  have z : addKv m c t y = k0_pay6 (F := Ideal) y + addKv m c t y :=
    (zero_add (addKv m c t y)).symm.trans (congrArg (· + _) (show k0_pay6 (F := Ideal) y = (0 : EReal) by unfold k0_pay6; pointwise).symm)
  rw [z]
  canon_tiles x h
  · exact readK _ _ _ _ 3 768 1792 rfl rfl _ _ _ x y h0 h1
  · exact readV _ _ _ _ 3 768 1792 rfl rfl _ _ _ x y h0 h1
  · exact readK _ _ _ _ 2 512 1536 rfl rfl _ _ _ x y h0 h1
  · exact readV _ _ _ _ 2 512 1536 rfl rfl _ _ _ x y h0 h1
  · exact readK _ _ _ _ 1 256 1280 rfl rfl _ _ _ x y h0 h1
  · exact readV _ _ _ _ 1 256 1280 rfl rfl _ _ _ x y h0 h1
  · exact readK _ _ _ _ 0 0 1024 rfl rfl _ _ _ x y h0 (h1.trans (Nat.zero_add _).symm)
  · exact readV _ _ _ _ 0 0 1024 rfl rfl _ _ _ x y h0 h1

/-- At the last point the window holds the sum of the eight points' additions. -/
theorem kv_sum (c : Dev nD) (t : Fin cfg0.N) (h : t.val % 8 = 8 - 1) (y : S256x2048.Idx) :
    (outsAt0 m c t.val t.isLt).2 y = ∑ s : Fin 8, addKv m c ⟨8 * (t.val / 8) + s.val, Pipeline.run_point_lt_of_flush t h s⟩ y := by
  rw [Pipeline.eq_sum_fin_of_reset_step_apply_of_flush (fun n h => (outsAt0 m c n h).2) 8 (fun _ => (0 : EReal)) (addKv m c)
    (fun t h y => by rw [kvA m c t h y, zero_add]) (fun t h y => kvB m c t h y) t h y, zero_add]

/-- The queries' gradient, and the keys' and values' gradient. -/
def outQ (Q D : FVec Ideal S4096x1024 .bf16) (K : FVec Ideal S256x2048 .bf16) : S4096x1024.Idx → EReal := fun i =>
  rowQ (fun x => Q (ix2 (i 0) x)) (fun x => D (ix2 (i 0) x)) K (i 1)
def outKv (Q D : FVec Ideal S4096x1024 .bf16) (K : FVec Ideal S256x2048 .bf16) : S256x2048.Idx → EReal := fun i =>
  ∑ l : Fin 4096, rowKv (fun x => Q (ix2 l x)) (fun x => D (ix2 l x)) K (i 0) (i 1)

/-- The blocks of a point. -/
theorem blk_q (c : Dev nD) (t : Fin cfg0.N) (r : Fin 512) (x : Fin 1024) (l : Fin 4096) (hl : l.val = t.val * 512 + r.val) :
    iblk m c 0 t (ix2 r x) = m ((c : Thread nD τ).loc main_arg0) (ix2 l x) := by
  blk_point [iblk, V, idx t]
theorem blk_d (c : Dev nD) (t : Fin cfg0.N) (r : Fin 512) (x : Fin 1024) (l : Fin 4096) (hl : l.val = t.val * 512 + r.val) :
    iblk m c 2 t (ix2 r x) = m ((c : Thread nD τ).loc main_arg2) (ix2 l x) := by
  blk_point [iblk, V, idx t]
theorem blk_kv (c : Dev nD) (t : Fin cfg0.N) : iblk m c 1 t = m ((c : Thread nD τ).loc main_arg1) := by
  funext y
  idx_vars y
  blk_point [iblk, V, idx t]

theorem final_q (c : Dev nD) : (dats m 0 c).arrAt 3 (cfgs 0).N
    = outQ (m ((c : Thread nD τ).loc main_arg0)) (m ((c : Thread nD τ).loc main_arg2)) (m ((c : Thread nD τ).loc main_arg1)) := by
  refine (dats m 0 c).arrAt_eq_of_covers 3 _ (by decide +kernel) fun t hf y => ?_
  have ht : t.val < 8 := lt_of_lt_of_eq t.isLt N_0
  blk_simp
  rw [after0_3, at3]
  idx_vars y
  have e : (((View.whole main_v0_0).slice (win0_3.rect t)).emb (ix2 y0 y1)) = ix2 ⟨t.val * 512 + y0.val, by omega⟩ y1 := by
    blk_ext [idx t]
  rw [e, blk_kv]
  show rowQ (fun x => iblk m c 0 t (ix2 y0 x)) (fun x => iblk m c 2 t (ix2 y0 x)) _ y1 = rowQ _ _ _ y1
  simp only [blk_q m c t y0 _ ⟨t.val * 512 + y0.val, by omega⟩ rfl, blk_d m c t y0 _ ⟨t.val * 512 + y0.val, by omega⟩ rfl]
  rfl

theorem final_kv (c : Dev nD) : (dats m 0 c).arrAt 4 (cfgs 0).N
    = outKv (m ((c : Thread nD τ).loc main_arg0)) (m ((c : Thread nD τ).loc main_arg2)) (m ((c : Thread nD τ).loc main_arg1)) := by
  refine (dats m 0 c).arrAt_eq_of_covers 4 _ (by decide +kernel) fun t hf y => ?_
  have h7 := (flush0_4 t).mp hf
  have ht : t.val < 8 := lt_of_lt_of_eq t.isLt N_0
  blk_simp
  rw [after0_4]
  idx_vars y
  have e : (((View.whole main_v0_1).slice (win0_4.rect t)).emb (ix2 y0 y1)) = ix2 y0 y1 := by blk_ext [idx t]
  rw [kv_sum m c t h7, e]
  simp only [addKv, outKv, blk_kv]
  refine Fin.sum_mul_add_congr fun s k hl => ?_
  have hs : s.val < 8 := s.isLt
  have e : s.val * 512 + k.val = (8 * (t.val / 8) + s.val) * 512 + k.val := by omega
  simp only [blk_q m c ⟨_, Pipeline.run_point_lt_of_flush t h7 s⟩ k _ ⟨s.val * 512 + k.val, hl⟩ e,
    blk_d m c ⟨_, Pipeline.run_point_lt_of_flush t h7 s⟩ k _ ⟨s.val * 512 + k.val, hl⟩ e]

end Cert.Attn

end
-- ==== Proof.AttnRef.lean ====
/-
  The gradient of the memory cross-attention as reference.py computes it: scores and softmax per head, the softmax's
  own gradient, and the products back to the queries, the keys and the values.
-/
module

public import proofs.«01_k».proof.Proof.Gen.AttnRefIdeal.Run
public import proofs.«01_k».proof.Proof.Reals

@[expose] public section

set_option maxRecDepth 16384

noncomputable section

namespace Cert.Attn

open Cert.AttnRefIdeal Cert.AttnRefIdeal.Gen Idealize.ShloMosaic Idealize.ShloMosaic.TcCoe Idealize.SL.Sem

variable (Q D : FVec Ideal S4096x1024 .bf16) (K : FVec Ideal S256x2048 .bf16)

/-- The rows, the keys and the values by head. -/
def headRows (X : FVec Ideal S4096x1024 .bf16) : FVec Ideal S4096x4x256 .f32 :=
  shapeCast _ (extf .f32 X bitsLt_bf16_f32) shapeCasts_S4096x1024_S4096x4x256
def headKeys (K : FVec Ideal S256x2048 .bf16) : FVec Ideal S256x4x256 .f32 :=
  shapeCast _ (extractStridedSlice S256x1024 ![0, 0] (extf .f32 K bitsLt_bf16_f32) slices_S256x2048_S256x1024_0_0) shapeCasts_S256x1024_S256x4x256
def headVals (K : FVec Ideal S256x2048 .bf16) : FVec Ideal S256x4x256 .f32 :=
  shapeCast _ (extractStridedSlice S256x1024 ![0, 1024] (extf .f32 K bitsLt_bf16_f32) slices_S256x2048_S256x1024_0_1024) shapeCasts_S256x1024_S256x4x256

/-- The scores, over the root of the head's width. -/
def sixteen : FVec Ideal S4x4096x256 .f32 := broadcastInDim S4x4096x256 ![] bcast_S_S4x4096x256 (constant S_ .f32 0x41800000#32)
def scores : FVec Ideal S4x4096x256 .f32 :=
  Host.divf (Host.dotGeneral dot_S4096x4x256_S256x4x256_S4x4096x256_2_2_0_0_1_1 none (headRows Q) (headKeys K)) sixteen

/-- Each row's largest score, the scores' exponentials below it, and their sum. -/
def rowMax (S : FVec Ideal S4x4096x256 .f32) : FVec Ideal S4x4096 .f32 :=
  maximumf (broadcastInDim S4x4096 ![] bcast_S_S4x4096 (constant S_ .f32 0xFF800000#32))
    (Host.reduce FloatOps.maximumf S (constant S_ .f32 0xFF800000#32) reducesTo_S4x4096x256_S4x4096_d2 h_S_)
def column (x : FVec Ideal S4x4096 .f32) : FVec Ideal S4x4096x1 .f32 := broadcastInDim S4x4096x1 ![0, 1] bcast_S4x4096_S4x4096x1_0_1 x
def spreadRows (x : FVec Ideal S4x4096x1 .f32) : FVec Ideal S4x4096x256 .f32 := broadcastInDim S4x4096x256 ![0, 1, 2] bcast_S4x4096x1_S4x4096x256_0_1_2 x
def expo (S : FVec Ideal S4x4096x256 .f32) : FVec Ideal S4x4096x256 .f32 := Host.exp (subf S (spreadRows (column (rowMax S))))
def total (S : FVec Ideal S4x4096x256 .f32) : FVec Ideal S4x4096x1 .f32 :=
  column (Host.reduceAdd (expo S) (constant S_ .f32 0x00000000#32) reducesTo_S4x4096x256_S4x4096_d2 h_S_)
def probs (S : FVec Ideal S4x4096x256 .f32) : FVec Ideal S4x4096x256 .f32 := Host.divf (expo S) (spreadRows (total S))

/-- The gradient that arrives, with the rows last. -/
def outGrad (D : FVec Ideal S4096x1024 .bf16) : FVec Ideal S4x256x4096 .f32 :=
  transpose S4x256x4096 [1, 2, 0] (headRows D) transposes_S4096x4x256_S4x256x4096_1_2_0

/-- The gradient of the probabilities, and of the scores. -/
def probGrad : FVec Ideal S4x4096x256 .f32 :=
  Host.dotGeneral dot_S4x256x4096_S256x4x256_S4x4096x256_1_2_2_0_0_1 none (outGrad D) (headVals K)
def inverse (S P : FVec Ideal S4x4096x256 .f32) : FVec Ideal S4x4096 .f32 :=
  Host.reduceAdd (Host.negf (shapeCast _ (Host.reduceAdd (mulf (mulf P (spreadRows (Host.divf
    (broadcastInDim S4x4096x1 ![] bcast_S_S4x4096x1 (constant S_ .f32 0x3F800000#32)) (mulf (total S) (total S))))) (expo S))
    (constant S_ .f32 0x00000000#32) reducesTo_S4x4096x256_S4x4096_d2 h_S_) shapeCasts_S4x4096_S4x4096x1))
    (constant S_ .f32 0x00000000#32) reducesTo_S4x4096x1_S4x4096_d2 h_S_
def scoreGrad (S P : FVec Ideal S4x4096x256 .f32) : FVec Ideal S4x4096x256 .f32 :=
  Host.divf (mulf (addf (Host.divf P (spreadRows (total S)))
    (broadcastInDim S4x4096x256 ![0, 1] bcast_S4x4096_S4x4096x256_0_1 (inverse S P))) (expo S)) sixteen

/-- The two results of the reference. -/
def keyGrad (G : FVec Ideal S4x4096x256 .f32) : FVec Ideal S256x1024 .f32 :=
  shapeCast _ (transpose S256x4x256 [1, 0, 2] (Host.dotGeneral dot_S4x4096x256_S4096x4x256_S4x256x256_1_0_2_2_0_1 none G (headRows Q))
    transposes_S4x256x256_S256x4x256_1_0_2) shapeCasts_S256x4x256_S256x1024
def valGrad (P : FVec Ideal S4x4096x256 .f32) : FVec Ideal S256x1024 .f32 :=
  shapeCast _ (transpose S256x4x256 [2, 0, 1] (Host.dotGeneral dot_S4x256x4096_S4x4096x256_S4x256x256_2_1_1_2_0_0 none (outGrad D) P)
    transposes_S4x256x256_S256x4x256_2_0_1) shapeCasts_S256x4x256_S256x1024
def refKv : FVec Ideal S256x2048 .f32 :=
  addf (pad S256x2048 ![0, 1024] ![0, 0] ![0, 0] (valGrad D (probs (scores Q K))) (constant S_ .f32 0x00000000#32) pads_S256x1024_S256x2048_000_102400 h_S_)
    (pad S256x2048 ![0, 0] ![0, 1024] ![0, 0] (keyGrad Q (scoreGrad (scores Q K) (probGrad D K))) (constant S_ .f32 0x00000000#32) pads_S256x1024_S256x2048_000_010240 h_S_)
def refQ : FVec Ideal S4096x1024 .bf16 :=
  truncf .bf16 (shapeCast _ (transpose S4096x4x256 [1, 0, 2] (Host.dotGeneral dot_S4x4096x256_S256x4x256_S4x4096x256_2_0_1_2_0_1 none
    (scoreGrad (scores Q K) (probGrad D K)) (headKeys K)) transposes_S4x4096x256_S4096x4x256_1_0_2) shapeCasts_S4096x4x256_S4096x1024) bitsLt_bf16_f32

/-- The run's terms are these. -/
theorem run_kv (m : (ℓ : Loc nD τ sig) → Buf (Elt Ideal) ℓ) (c : Dev nD) : Value.res_main_v70 m c
    = refKv (m ((c.tc : Thread nD τ).loc main_arg0)) (m ((c.tc : Thread nD τ).loc main_arg2)) (m ((c.tc : Thread nD τ).loc main_arg1)) := by
  unfold Value.res_main_v70; rfl
theorem run_q (m : (ℓ : Loc nD τ sig) → Buf (Elt Ideal) ℓ) (c : Dev nD) : Value.res_main_v71 m c
    = refQ (m ((c.tc : Thread nD τ).loc main_arg0)) (m ((c.tc : Thread nD τ).loc main_arg2)) (m ((c.tc : Thread nD τ).loc main_arg1)) := by
  unfold Value.res_main_v71; rfl

/-- A largest entry of a row, taken over the row's entries. -/
theorem hostMax {n0 n1 n2 : Nat} {u : Shape} (S : FVec Ideal ⟨3, ![n0, n1, n2]⟩ .f32) (c : FVec Ideal u .f32)
    (h : (⟨3, ![n0, n1, n2]⟩ : Shape).ReducesTo [2] ⟨2, ![n0, n1]⟩) (hu : 0 < u.numel) (a : Fin n0) (b : Fin n1) :
    Host.reduce FloatOps.maximumf S c h hu (ix2 a b)
      = Finset.univ.fold (max : EReal → EReal → EReal) (c (Shape.Idx.first hu)) fun k : Fin n2 => S (ix3 a b k) := by
  rw [Host.reduce_eq_fold]
  exact Shape.ReducesTo.fold_fiber_r3_a2 h (ix2 a b) (max : EReal → EReal → EReal) _ S

/-- The larger of two arrays, and an array of one constant, at a point. -/
theorem largerAt {s : Shape} (x y : FVec Ideal s .f32) (i : s.Idx) : maximumf x y i = (max (x i) (y i) : EReal) := rfl
theorem filledAt {s t : Shape} (d : Fin s.rank → Fin t.rank) (h : s.BroadcastsInDim t d) (b : BitVec 32) (i : t.Idx) :
    broadcastInDim t d h (constant (F := Ideal) s .f32 b) i = Ideal.ofBits .f32 b := rfl

section At
variable (S P G : FVec Ideal S4x4096x256 .f32) (h : Fin 4) (l : Fin 4096) (k j : Fin 256) (a : Fin 256) (b : Fin 1024)

theorem scores_at : scores Q K (ix3 h l k)
    = Ideal.div (∑ x : Fin 256, Q (ix2 l ⟨h * 256 + x, by omega⟩) * K (ix2 k ⟨h * 256 + x, by omega⟩)) (Ideal.ofBits .f32 0x41800000#32) := by
  pointwise [scores, headRows, headKeys, sixteen]
theorem rowMax_at : rowMax S (ix2 h l) = max (Ideal.ofBits .f32 0xFF800000#32)
    (Finset.univ.fold (max : EReal → EReal → EReal) (Ideal.ofBits .f32 0xFF800000#32) fun k : Fin 256 => S (ix3 h l k)) := by
  unfold rowMax
  rw [largerAt, hostMax, filledAt]; rfl
theorem expo_at : expo S (ix3 h l k) = Ideal.exp (S (ix3 h l k) - rowMax S (ix2 h l)) := by
  generalize he : rowMax S = e
  pointwise [expo, spreadRows, column, he]
theorem total_at : total S (ix3 h l 0) = ∑ k : Fin 256, expo S (ix3 h l k) := by
  generalize he : expo S = e
  pointwise [total, column, he]
theorem probs_at : probs S (ix3 h l k) = Ideal.div (expo S (ix3 h l k)) (total S (ix3 h l 0)) := by
  pointwise [probs, spreadRows]
theorem probGrad_at : probGrad D K (ix3 h l k)
    = ∑ x : Fin 256, D (ix2 l ⟨h * 256 + x, by omega⟩) * K (ix2 k ⟨1024 + (h * 256 + x), by omega⟩) := by
  pointwise [probGrad, outGrad, headRows, headVals]
theorem scoreGrad_at : scoreGrad S P (ix3 h l k)
    = Ideal.div ((Ideal.div (P (ix3 h l k)) (total S (ix3 h l 0)) + ∑ x : Fin 1, -∑ x : Fin 256,
        P (ix3 h l x) * Ideal.div 1 (total S (ix3 h l 0) * total S (ix3 h l 0)) * expo S (ix3 h l x)) * expo S (ix3 h l k))
      (Ideal.ofBits .f32 0x41800000#32) := by
  generalize he : expo S = e
  generalize ht : total S = t
  pointwise [scoreGrad, spreadRows, inverse, sixteen, he, ht]
theorem keyGrad_at : keyGrad Q G (ix2 a b) = ∑ x : Fin 4096, G (ix3 ⟨b / 256, by omega⟩ x a) * Q (ix2 x b) := by
  pointwise [keyGrad, headRows]
theorem valGrad_at : valGrad D G (ix2 a b) = ∑ x : Fin 4096, D (ix2 x b) * G (ix3 ⟨b / 256, by omega⟩ x a) := by
  pointwise [valGrad, headRows, outGrad]
theorem refKv_at (a : Fin 256) (b : Fin 2048) : refKv Q D K (ix2 a b)
    = (if h : 1024 ≤ b.val ∧ b.val - 1024 < 1024 then valGrad D (probs (scores Q K)) (ix2 a ⟨b - 1024, by omega⟩) else 0)
      + if h : b.val < 1024 then keyGrad Q (scoreGrad (scores Q K) (probGrad D K)) (ix2 a ⟨b, by omega⟩) else 0 := by
  generalize he : valGrad D (probs (scores Q K)) = e
  generalize hf : keyGrad Q (scoreGrad (scores Q K) (probGrad D K)) = f
  pointwise [refKv, he, hf]
theorem refQ_at : refQ Q D K (ix2 l b)
    = ∑ x : Fin 256, scoreGrad (scores Q K) (probGrad D K) (ix3 ⟨b / 256, by omega⟩ l x) * K (ix2 x ⟨b, by omega⟩) := by
  generalize he : scoreGrad (scores Q K) (probGrad D K) = f
  pointwise [refQ, headKeys, he]
end At

end Cert.Attn

end
-- ==== Proof.AttnEq.lean ====
/-
  The gradient of the memory cross-attention: what the kernel's two arrays hold is what the reference computes, when the
  queries and the keys are real.
-/
module

public import proofs.«01_k».proof.Proof.AttnArrays
public import proofs.«01_k».proof.Proof.AttnRef

@[expose] public section

set_option maxRecDepth 16384

noncomputable section

namespace Cert.Attn

open Cert.AttnRefIdeal Cert.AttnRefIdeal.Gen Idealize.ShloMosaic Idealize.ShloMosaic.TcCoe Idealize.SL.Sem Cert.Reals

variable (Q D : FVec Ideal S4096x1024 .bf16) (K : FVec Ideal S256x2048 .bf16)

abbrev rowOf (X : FVec Ideal S4096x1024 .bf16) (l : Fin 4096) : Fin 1024 → EReal := fun x => X (ix2 l x)

theorem scores_eq (h : Fin 4) (l : Fin 4096) (k : Fin 256) : scores Q K (ix3 h l k) = scoreRow (rowOf Q l) K h k := by
  rw [scores_at, div_sixteen]; rfl
theorem probGrad_eq (h : Fin 4) (l : Fin 4096) (k : Fin 256) : probGrad D K (ix3 h l k) = dprobRow (rowOf D l) K h k := by
  rw [probGrad_at]; rfl
theorem expo_eq (h : Fin 4) (l : Fin 4096) (k : Fin 256) : expo (scores Q K) (ix3 h l k) = expRow (scoreRow (rowOf Q l) K h) k := by
  rw [expo_at, rowMax_at]
  simp only [scores_eq]
  rw [expRow, top, ofBits_mask, max_eq_right bot_le]
theorem total_eq (h : Fin 4) (l : Fin 4096) : total (scores Q K) (ix3 h l 0) = ∑ k : Fin 256, expRow (scoreRow (rowOf Q l) K h) k := by
  rw [total_at]; exact Finset.sum_congr rfl fun k _ => expo_eq Q K h l k
theorem probs_eq (h : Fin 4) (l : Fin 4096) (k : Fin 256) : probs (scores Q K) (ix3 h l k) = probRow (scoreRow (rowOf Q l) K h) k := by
  rw [probs_at, expo_eq, total_eq]; rfl

variable (hQ : ∀ i, IsReal (Q i)) (hK : ∀ (j : Fin 256) (x : Fin 2048), x.val < 1024 → IsReal (K (ix2 j x)))

include hQ hK in
theorem score_real (h : Fin 4) (l : Fin 4096) (k : Fin 256) : IsReal (scoreRow (rowOf Q l) K h k) :=
  (IsReal.sum _ fun x => (hQ _).mul (hK _ _ (by show h.val * 256 + x.val < 1024; omega))).mul ⟨_, ofBits_sixteenth⟩

include hQ hK in
theorem scoreGrad_eq (h : Fin 4) (l : Fin 4096) (k : Fin 256) :
    scoreGrad (scores Q K) (probGrad D K) (ix3 h l k) = gradRow (scoreRow (rowOf Q l) K h) (dprobRow (rowOf D l) K h) k := by
  rw [scoreGrad_at]
  simp only [total_eq, expo_eq, probGrad_eq]
  exact grad_eq _ _ (score_real Q K hQ hK h l) k

include hQ hK in
theorem q_eq : outQ Q D K = refQ Q D K := by
  funext i
  idx_vars i
  rw [refQ_at]
  show rowQ (rowOf Q i0) (rowOf D i0) K i1 = _
  unfold rowQ
  exact Finset.sum_congr rfl fun x _ => by rw [scoreGrad_eq Q D K hQ hK]

include hQ hK in
theorem kv_eq : outKv Q D K = refKv Q D K := by
  funext i
  idx_vars i
  rw [refKv_at, outKv]
  show (∑ l : Fin 4096, rowKv (rowOf Q l) (rowOf D l) K i0 i1) = _
  by_cases h : i1.val < 1024
  · rw [dif_neg (by omega), dif_pos h, zero_add, keyGrad_at]
    refine Finset.sum_congr rfl fun l _ => ?_
    rw [rowKv, dif_pos h, scoreGrad_eq Q D K hQ hK]
  · rw [dif_pos (by omega), dif_neg h, add_zero, valGrad_at]
    refine Finset.sum_congr rfl fun l _ => ?_
    rw [rowKv, dif_neg h, probs_eq, mul_comm]

end Cert.Attn

end
-- ==== Proof.AttnClaim.lean ====
/-
  The gradient of the memory cross-attention: the claim.
-/
module

public import proofs.«01_k».proof.Defs
public import proofs.«01_k».proof.Proof.Finite
public import proofs.«01_k».proof.Proof.AttnEq
public import proofs.«01_k».proof.Proof.Gen.Pre_finite_attn

@[expose] public section

set_option maxRecDepth 16384

noncomputable section

namespace Cert.Attn

open Idealize.ShloMosaic Idealize.ShloMosaic.TcCoe Idealize.SL.Sem Cert.Reals

/-- The precondition's second part speaks of the first 1024 columns: the keys. -/
theorem keys_real (K : FVec Ideal Pre_finite_attn.S256x2048 .bf16) (b : FVec Ideal Pre_finite_attn.S256x1024 .bf16) (hs) (hb : ∀ i, b i = (⊤ : EReal))
    (h : cmpf .olt (Host.absf (extractStridedSlice Pre_finite_attn.S256x1024 ![0, 0] K hs)) b = fun _ => 1#1)
    (j : Fin 256) (x : Fin 2048) (hx : x.val < 1024) : IsReal (K (ix2 j x)) := by
  have e := real_of_finite _ b hb h (ix2 j ⟨x.val, hx⟩)
  have f : extractStridedSlice Pre_finite_attn.S256x1024 ![0, 0] K hs (ix2 j ⟨x.val, hx⟩) = K (ix2 j x) := by pointwise
  exact f ▸ e

/-- The value claim. -/
theorem algebraic : Cert.algebraic_AttnIdeal_AttnRefIdeal_pre_finite_attn := fun m ρ m' ρ' hpre hag =>
  ⟨_, _,
    (θ_run _ _ _).mono (fun _ h c => by
      obtain ⟨p0, p1⟩ := hpre c
      have hQ := real_of_finite _ _ (fun _ => ofBits_inf_bf16) p0
      have hK := keys_real _ _ _ (fun _ => ofBits_inf_bf16) p1
      exact ⟨(h c).1.trans ((final_q m c).trans (q_eq _ _ _ hQ hK)), (h c).2.1.trans ((final_kv m c).trans (kv_eq _ _ _ hQ hK)), (h c).2.2⟩)
      (AttnIdeal.Value.run_blocks m ρ),
    (θ_run _ _ _).mono (fun _ h c => by
      obtain ⟨a0, a1, a2⟩ := hag c
      refine ⟨(h c).1.trans ?_, (h c).2.1.trans ?_, (h c).2.2⟩
      · rw [run_q, a0, a1, a2]
      · rw [run_kv, a0, a1, a2]) (AttnRefIdeal.Value.run m' ρ')⟩

end Cert.Attn

end
-- ==== Proof.SquareNTArrays.lean ====
/-
  The product with a transposed square weight, `g @ w.T`: the gradient at the input of `u @ w`, block by block.
-/
module

public import proofs.«01_k».proof.Proof.Gen.SqXIdeal.Value
public import proofs.«01_k».proof.Proof.Gen.SqXRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.SquareNT

open Idealize.ShloMosaic Idealize.ShloMosaic.TcCoe Idealize.SL.Sem Idealize.ShloMosaic.StableHlo
open Idealize.ShloMosaic.Pipeline (Dat)

section Reference
open Cert.SqXRefIdeal Cert.SqXRefIdeal.Gen

/-- The reference's product. -/
def ref (A : FVec Ideal S4096x1024 .bf16) (W : FVec Ideal S1024x1024 .bf16) : FVec Ideal S4096x1024 .bf16 :=
  truncf .bf16 (Host.dotGeneral dot_S4096x1024_S1024x1024_S4096x1024_1_1_0_0_n_n none
    (extf .f32 A bitsLt_bf16_f32) (extf .f32 W bitsLt_bf16_f32)) bitsLt_bf16_f32

end Reference

section Kernel
open Cert.SqXIdeal Cert.SqXIdeal.Gen

variable (m : (ℓ : Loc nD τ sig) → Buf (Elt Ideal) ℓ)

/-- The blocks that a point reads and writes: its rows, and the whole weight. -/
theorem idx : ∀ t : Fin cfg0.N, win0_0.index t = ![t.val, 0] ∧ win0_1.index t = ![0, 0] ∧ win0_2.index t = ![t.val, 0] :=
  (by decide +kernel : ∀ t : Fin grid0.N, _)

/-- One point's block of the product. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1)) (((View.whole main_v0).slice (win0_2.rect t)).emb y) := by
  pointwise [k0_pay1, ref]
  blk_point [iblk, V, idx t]

/-- The result array ends as the reference's product. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Kernel

end Cert.SquareNT

end
-- ==== Proof.SquareNNArrays.lean ====
/-
  The product with a square weight, `u @ w`, block by block.
-/
module

public import proofs.«01_k».proof.Proof.Gen.QueryIdeal.Value
public import proofs.«01_k».proof.Proof.Gen.QueryRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.SquareNN

open Idealize.ShloMosaic Idealize.ShloMosaic.TcCoe Idealize.SL.Sem Idealize.ShloMosaic.StableHlo
open Idealize.ShloMosaic.Pipeline (Dat)

section Reference
open Cert.QueryRefIdeal Cert.QueryRefIdeal.Gen

/-- The reference's product. -/
def ref (A : FVec Ideal S4096x1024 .bf16) (W : FVec Ideal S1024x1024 .bf16) : FVec Ideal S4096x1024 .bf16 :=
  truncf .bf16 (Host.dotGeneral dot_S4096x1024_S1024x1024_S4096x1024_1_0_0_1_n_n none
    (extf .f32 A bitsLt_bf16_f32) (extf .f32 W bitsLt_bf16_f32)) bitsLt_bf16_f32

end Reference

section Kernel
open Cert.QueryIdeal Cert.QueryIdeal.Gen

variable (m : (ℓ : Loc nD τ sig) → Buf (Elt Ideal) ℓ)

/-- The blocks that a point reads and writes: its rows, and the whole weight. -/
theorem idx : ∀ t : Fin cfg0.N, win0_0.index t = ![t.val, 0] ∧ win0_1.index t = ![0, 0] ∧ win0_2.index t = ![t.val, 0] :=
  (by decide +kernel : ∀ t : Fin grid0.N, _)

/-- One point's block of the product. -/
theorem point (c : Dev nD) (t : Fin cfg0.N) (y : S1024x1024.Idx) :
    k0_pay1 (F := Ideal) (iblk m c 0 t) (iblk m c 1 t) y
      = ref (m ((c : Thread nD τ).loc main_arg0)) (m ((c : Thread nD τ).loc main_arg1)) (((View.whole main_v0).slice (win0_2.rect t)).emb y) := by
  pointwise [k0_pay1, ref]
  blk_point [iblk, V, idx t]

/-- The result array ends as the reference's product. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Kernel

end Cert.SquareNN

end
-- ==== Proof.SquareTNArrays.lean ====
/-
  The gradient of a square weight, `g.T @ u` transposed: four blocks of rows are added up in the scratch.
-/
module

public import proofs.«01_k».proof.Proof.Gen.SqWIdeal.Value
public import proofs.«01_k».proof.Proof.Gen.SqWRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.SquareTN

open Idealize.ShloMosaic Idealize.ShloMosaic.TcCoe Idealize.SL.Sem Idealize.ShloMosaic.StableHlo
open Idealize.ShloMosaic.Pipeline (Dat)

section Reference
open Cert.SqWRefIdeal Cert.SqWRefIdeal.Gen

/-- The reference's gradient of the weight `w` of `u @ w`. -/
def ref (U G : FVec Ideal S4096x1024 .bf16) : FVec Ideal S1024x1024 .bf16 :=
  truncf .bf16 (transpose S1024x1024 [1, 0] (Host.dotGeneral dot_S4096x1024_S4096x1024_S1024x1024_0_0_1_1_n_n none
    (extf .f32 G bitsLt_bf16_f32) (extf .f32 U bitsLt_bf16_f32)) transposes_S1024x1024_S1024x1024_1_0) bitsLt_bf16_f32

theorem ref_at (U G : FVec Ideal S4096x1024 .bf16) (a b : Fin 1024) : ref U G (ix2 a b) = ∑ k : Fin 4096, U (ix2 k a) * G (ix2 k b) := by
  pointwise [ref]
  exact (show (_ : EReal) = _ from Finset.sum_congr rfl fun k _ => mul_comm _ _)

end Reference

section Kernel
open Cert.SqWIdeal Cert.SqWIdeal.Gen

variable (m : (ℓ : Loc nD τ sig) → Buf (Elt Ideal) ℓ)

/-- The blocks that a point reads: its rows. -/
theorem idx : ∀ t : Fin cfg0.N, win0_0.index t = ![t.val, 0] ∧ win0_1.index t = ![t.val, 0] ∧ win0_2.index t = ![0, 0] :=
  (by decide +kernel : ∀ t : Fin grid0.N, _)

/-- A block's product, the rows summed. -/
def rows (U G : Vec Ideal S1024x1024 .bf16) (y : S1024x1024.Idx) : EReal := ∑ k : Fin 1024, U (ix2 k (y 0)) * G (ix2 k (y 1))

/-- What a point adds to the scratch. -/
abbrev part (c : Dev nD) (t : Fin cfg0.N) (y : S1024x1024.Idx) : EReal := rows (iblk m c 0 t) (iblk m c 1 t) y

/-- A step of the sum: the payload over any scratch. -/
theorem step_at (X : Vec Ideal S1024x1024 .f32) (U G : Vec Ideal S1024x1024 .bf16) (y : S1024x1024.Idx) :
    k0_pay2 (F := Ideal) X U G y = X y + rows U G y := by
  pointwise [k0_pay2, rows]

/-- The first point leaves its contribution in the scratch. -/
theorem scA (c : Dev nD) (t : Fin cfg0.N) (h0 : t.val % 4 = 0) (h1 : ¬t.val % 4 = 3) (y : S1024x1024.Idx) :
    (outsAt0 m c t.val t.isLt).2 y = part m c t y := by
  rw [outsAt0_A m c t h0 h1]
  frame_out
  rw [step_at]
  pointwise [k0_pay1]

/-- A point in between adds its contribution. -/
theorem scB (c : Dev nD) (t : Fin cfg0.N) (h0 : ¬t.val % 4 = 0) (h1 : ¬t.val % 4 = 3) (y : S1024x1024.Idx) :
    (outsAt0 m c t.val t.isLt).2 y = (outsAt0 m c (t.val - 1) (Nat.lt_of_le_of_lt (Nat.sub_le _ _) t.isLt)).2 y + part m c t y := by
  rw [outsAt0_B m c t h0 h1]
  frame_out
  generalize (outsAt0 m c (t.val - 1) _).2 = X
  simp only [read_unread_whole]
  exact step_at _ _ _ y

/-- So does the last point, -/
theorem scC (c : Dev nD) (t : Fin cfg0.N) (h0 : ¬t.val % 4 = 0) (h1 : t.val % 4 = 3) (y : S1024x1024.Idx) :
    (outsAt0 m c t.val t.isLt).2 y = (outsAt0 m c (t.val - 1) (Nat.lt_of_le_of_lt (Nat.sub_le _ _) t.isLt)).2 y + part m c t y := by
  rw [outsAt0_C m c t h0 h1]
  frame_out
  generalize (outsAt0 m c (t.val - 1) _).2 = X
  simp only [read_unread_whole]
  exact step_at _ _ _ y

/-- which writes the scratch out. -/
theorem out (c : Dev nD) (t : Fin cfg0.N) (h0 : ¬t.val % 4 = 0) (h1 : t.val % 4 = 3) (y : S1024x1024.Idx) :
    (outsAt0 m c t.val t.isLt).1 y = (outsAt0 m c t.val t.isLt).2 y := by
  rw [outsAt0_C m c t h0 h1]
  frame_out
  pointwise [k0_pay3]

/-- After the last point the scratch holds the four contributions. -/
theorem scratch_sum (c : Dev nD) (t : Fin cfg0.N) (h : t.val % 4 = 4 - 1) (y : S1024x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by rw [scA m c t h (by omega) y, zero_add])
    (fun t h y => by by_cases h1 : t.val % 4 = 3; exacts [scC m c t h h1 y, scB m c t h h1 y]) t h y, zero_add]

/-- The result array ends as the reference's gradient. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t hf y => ?_
  have h3 := (flush0_2 t).mp hf
  have ht : t.val < 4 := lt_of_lt_of_eq t.isLt N_0
  blk_simp
  rw [after0_2]
  idx_vars y
  have e : (((View.whole main_v0).slice (win0_2.rect t)).emb (ix2 y0 y1)) = ix2 y0 y1 := by
    blk_ext [idx t]
  rw [out m c t (by omega) h3, scratch_sum m c t h3, e, ref_at]
  simp only [part, rows]
  refine Fin.sum_mul_add_congr fun s k hl => ?_
  blk_point [iblk, V, idx ⟨_, Pipeline.run_point_lt_of_flush t h3 s⟩]

end Kernel

end Cert.SquareTN

end
-- ==== Proof.MixPieces.lean ====
/-
  The four pieces that make up the projection's 2816 columns: the pool's 512, the scan's 256, and the two halves of
  the gate.
-/
module

public import Mathlib.Data.EReal.Basic
public import Mathlib.Data.EReal.Operations
public import Mathlib.Algebra.BigOperators.Fin

@[expose] public section

noncomputable section

namespace Cert.Mix

/-- The four pieces, one after the other. -/
def cat (p0 : Fin 512 → EReal) (p1 : Fin 256 → EReal) (p2 p3 : Fin 1024 → EReal) (a : Fin 2816) : EReal :=
  if h : a.val < 512 then p0 ⟨a.val, h⟩ else if h : a.val < 768 then p1 ⟨a.val - 512, by omega⟩
  else if h : a.val < 1792 then p2 ⟨a.val - 768, by omega⟩ else p3 ⟨a.val - 1792, by omega⟩

variable {p0 q0 : Fin 512 → EReal} {p1 q1 : Fin 256 → EReal} {p2 p3 q2 q3 : Fin 1024 → EReal} {a : Fin 2816}

theorem cat_0 (x : Fin 512) (h : a.val = x.val) : cat p0 p1 p2 p3 a = p0 x := by
  rw [cat, dif_pos (by omega)]; exact congrArg p0 (Fin.ext h)

theorem cat_1 (x : Fin 256) (h : a.val = 512 + x.val) : cat p0 p1 p2 p3 a = p1 x := by
  rw [cat, dif_neg (by omega), dif_pos (by omega)]; exact congrArg p1 (Fin.ext (by show a.val - 512 = x.val; omega))

theorem cat_2 (x : Fin 1024) (h : a.val = 768 + x.val) : cat p0 p1 p2 p3 a = p2 x := by
  rw [cat, dif_neg (by omega), dif_neg (by omega), dif_pos (by omega)]; exact congrArg p2 (Fin.ext (by show a.val - 768 = x.val; omega))

theorem cat_3 (x : Fin 1024) (h : a.val = 1792 + x.val) : cat p0 p1 p2 p3 a = p3 x := by
  rw [cat, dif_neg (by omega), dif_neg (by omega), dif_neg (by omega)]; exact congrArg p3 (Fin.ext (by show a.val - 1792 = x.val; omega))

/-- The pieces decide the whole. -/
theorem cat_congr (h0 : ∀ x, p0 x = q0 x) (h1 : ∀ x, p1 x = q1 x) (h2 : ∀ x, p2 x = q2 x) (h3 : ∀ x, p3 x = q3 x) :
    cat p0 p1 p2 p3 a = cat q0 q1 q2 q3 a := by
  rw [funext h0, funext h1, funext h2, funext h3]

/-- The pieces found one after the other, each by what is left of the column. -/
theorem cat_nest : cat p0 p1 p2 p3 a = if h : a.val < 512 then p0 ⟨a.val, h⟩ else if h : a.val - 512 < 256 then p1 ⟨a.val - 512, h⟩
    else if h : a.val - 512 - 256 < 1024 then p2 ⟨a.val - 512 - 256, h⟩ else p3 ⟨a.val - 512 - 256 - 1024, by omega⟩ := by
  by_cases h0 : a.val < 512
  · rw [dif_pos h0]; exact cat_0 _ rfl
  · rw [dif_neg h0]
    by_cases h1 : a.val - 512 < 256
    · rw [dif_pos h1]; exact cat_1 _ (by show a.val = 512 + (a.val - 512); omega)
    · rw [dif_neg h1]
      by_cases h2 : a.val - 512 - 256 < 1024
      · rw [dif_pos h2]; exact cat_2 _ (by show a.val = 768 + (a.val - 512 - 256); omega)
      · rw [dif_neg h2]; exact cat_3 _ (by show a.val = 1792 + (a.val - 512 - 256 - 1024); omega)

/-- A sum over all the columns is the sum of the four pieces' sums. -/
theorem sum_cat (w : Fin 2816 → EReal) : ∑ j, cat p0 p1 p2 p3 j * w j
    = (((∑ x : Fin 512, p0 x * w ⟨x.val, by omega⟩) + ∑ x : Fin 256, p1 x * w ⟨512 + x.val, by omega⟩)
      + ∑ x : Fin 1024, p2 x * w ⟨768 + x.val, by omega⟩) + ∑ x : Fin 1024, p3 x * w ⟨1792 + x.val, by omega⟩ := by
  refine (Fin.sum_univ_add (a := 1792) (b := 1024) _).trans (congrArg₂ (· + ·) ?_ ?_)
  · refine (Fin.sum_univ_add (a := 768) (b := 1024) _).trans (congrArg₂ (· + ·) ?_ ?_)
    · refine (Fin.sum_univ_add (a := 512) (b := 256) _).trans (congrArg₂ (· + ·) ?_ ?_)
      · exact Finset.sum_congr rfl fun x _ => congrArg (· * _) (cat_0 x rfl)
      · exact Finset.sum_congr rfl fun x _ => congrArg (· * _) (cat_1 x rfl)
    · exact Finset.sum_congr rfl fun x _ => congrArg (· * _) (cat_2 x rfl)
  · exact Finset.sum_congr rfl fun x _ => congrArg (· * _) (cat_3 x rfl)

end Cert.Mix

end
-- ==== Proof.MixWPoint.lean ====
/-
  The gradient of the input projection's weight: what one grid point adds to the scratch.
-/
module

public import proofs.«01_k».proof.Proof.Gen.MixWIdeal.Value
public import proofs.«01_k».proof.Proof.Gen.MixWRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.Cover
public import proofs.«01_k».proof.Proof.MixPieces

@[expose] public section

set_option maxRecDepth 16384

noncomputable section

namespace Cert.MixGrad

open Idealize.ShloMosaic Idealize.ShloMosaic.TcCoe Idealize.SL.Sem Idealize.ShloMosaic.StableHlo
open Idealize.ShloMosaic.Pipeline (Dat)

open Cert.MixWIdeal Cert.MixWIdeal.Gen

variable (m : (ℓ : Loc nD τ sig) → Buf (Elt Ideal) ℓ)

/-- One point's contribution: a row of the four pieces against a row of the normed input, the rows summed. -/
def part (x0 : Vec Ideal S1024x512 .bf16) (x1 : Vec Ideal S1024x256 .bf16) (x2 x3 x4 : Vec Ideal S1024x1024 .bf16) (y : S2816x1024.Idx) : EReal :=
  ∑ k : Fin 1024, Mix.cat (fun a => x0 (ix2 k a)) (fun a => x1 (ix2 k a)) (fun a => x2 (ix2 k a)) (fun a => x3 (ix2 k a)) (y 0) * x4 (ix2 k (y 1))

abbrev partAt (c : Dev nD) (t : Fin cfg0.N) (y : S2816x1024.Idx) : EReal :=
  part (iblk m c 0 t) (iblk m c 1 t) (iblk m c 2 t) (iblk m c 3 t) (iblk m c 4 t) y

/-! A step of the sum, piece by piece. -/

theorem step0_at (U : Vec Ideal S1024x1024 .bf16) (X : Vec Ideal S512x1024 .f32) (P : Vec Ideal S1024x512 .bf16) (a : Fin 512) (b : Fin 1024) :
    k0_pay4 (F := Ideal) U X P (ix2 a b) = X (ix2 a b) + ∑ k : Fin 1024, P (ix2 k a) * U (ix2 k b) := by
  pointwise [k0_pay4]
theorem step1_at (U : Vec Ideal S1024x1024 .bf16) (X : Vec Ideal S256x1024 .f32) (P : Vec Ideal S1024x256 .bf16) (a : Fin 256) (b : Fin 1024) :
    k0_pay5 (F := Ideal) U X P (ix2 a b) = X (ix2 a b) + ∑ k : Fin 1024, P (ix2 k a) * U (ix2 k b) := by
  pointwise [k0_pay5]
theorem step2_at (U : Vec Ideal S1024x1024 .bf16) (X : Vec Ideal S1024x1024 .f32) (P : Vec Ideal S1024x1024 .bf16) (a b : Fin 1024) :
    k0_pay6 (F := Ideal) U X P (ix2 a b) = X (ix2 a b) + ∑ k : Fin 1024, P (ix2 k a) * U (ix2 k b) := by
  pointwise [k0_pay6]
theorem step3_at (U : Vec Ideal S1024x1024 .bf16) (X : Vec Ideal S1024x1024 .f32) (P : Vec Ideal S1024x1024 .bf16) (a b : Fin 1024) :
    k0_pay1 (F := Ideal) U X P (ix2 a b) = X (ix2 a b) + ∑ k : Fin 1024, P (ix2 k a) * U (ix2 k b) := by
  pointwise [k0_pay1]

theorem zero_at (y : S2816x1024.Idx) : k0_pay3 (F := Ideal) y = 0 := by
  pointwise [k0_pay3]
theorem copy_at (X : Vec Ideal S2816x1024 .f32) (y : S2816x1024.Idx) : k0_pay2 (F := Ideal) X y = X y := by
  pointwise [k0_pay2]

section Tiles
variable (X0 : Vec Ideal S1024x512 .bf16) (X1 : Vec Ideal S1024x256 .bf16) (X2 X3 X4 : Vec Ideal S1024x1024 .bf16)

/-! Each piece's rows of the scratch gain the piece's part of the contribution. -/

theorem tile0 (Z : Vec Ideal S512x1024 .f32) (x : S512x1024.Idx) (y : S2816x1024.Idx) (h0 : (y 0).val = (x 0).val) (h1 : (y 1).val = (x 1).val)
    (z : EReal) (hZ : Z x = z) : k0_pay4 (F := Ideal) X4 Z X0 x = z + part X0 X1 X2 X3 X4 y := by
  idx_vars x; idx_vars y
  obtain rfl : y1 = x1 := Fin.ext h1
  change y0.val = x0.val at h0
  rw [step0_at, hZ]
  exact congrArg (z + ·) (Finset.sum_congr rfl fun k _ => congrArg (· * _) (Mix.cat_0 (p0 := fun a => X0 (ix2 k a)) (p1 := fun a => X1 (ix2 k a)) (p2 := fun a => X2 (ix2 k a)) (p3 := fun a => X3 (ix2 k a)) x0 h0).symm)

theorem tile1 (Z : Vec Ideal S256x1024 .f32) (x : S256x1024.Idx) (y : S2816x1024.Idx) (h0 : (y 0).val = 512 + (x 0).val) (h1 : (y 1).val = (x 1).val)
    (z : EReal) (hZ : Z x = z) : k0_pay5 (F := Ideal) X4 Z X1 x = z + part X0 X1 X2 X3 X4 y := by
  idx_vars x; idx_vars y
  obtain rfl : y1 = x1 := Fin.ext h1
  change y0.val = 512 + x0.val at h0
  rw [step1_at, hZ]
  exact congrArg (z + ·) (Finset.sum_congr rfl fun k _ => congrArg (· * _) (Mix.cat_1 (p0 := fun a => X0 (ix2 k a)) (p1 := fun a => X1 (ix2 k a)) (p2 := fun a => X2 (ix2 k a)) (p3 := fun a => X3 (ix2 k a)) x0 h0).symm)

theorem tile2 (Z : Vec Ideal S1024x1024 .f32) (x : S1024x1024.Idx) (y : S2816x1024.Idx) (h0 : (y 0).val = 768 + (x 0).val) (h1 : (y 1).val = (x 1).val)
    (z : EReal) (hZ : Z x = z) : k0_pay6 (F := Ideal) X4 Z X2 x = z + part X0 X1 X2 X3 X4 y := by
  idx_vars x; idx_vars y
  obtain rfl : y1 = x1 := Fin.ext h1
  change y0.val = 768 + x0.val at h0
  rw [step2_at, hZ]
  exact congrArg (z + ·) (Finset.sum_congr rfl fun k _ => congrArg (· * _) (Mix.cat_2 (p0 := fun a => X0 (ix2 k a)) (p1 := fun a => X1 (ix2 k a)) (p2 := fun a => X2 (ix2 k a)) (p3 := fun a => X3 (ix2 k a)) x0 h0).symm)

theorem tile3 (Z : Vec Ideal S1024x1024 .f32) (x : S1024x1024.Idx) (y : S2816x1024.Idx) (h0 : (y 0).val = 1792 + (x 0).val) (h1 : (y 1).val = (x 1).val)
    (z : EReal) (hZ : Z x = z) : k0_pay1 (F := Ideal) X4 Z X3 x = z + part X0 X1 X2 X3 X4 y := by
  idx_vars x; idx_vars y
  obtain rfl : y1 = x1 := Fin.ext h1
  change y0.val = 1792 + x0.val at h0
  rw [step3_at, hZ]
  exact congrArg (z + ·) (Finset.sum_congr rfl fun k _ => congrArg (· * _) (Mix.cat_3 (p0 := fun a => X0 (ix2 k a)) (p1 := fun a => X1 (ix2 k a)) (p2 := fun a => X2 (ix2 k a)) (p3 := fun a => X3 (ix2 k a)) x0 h0).symm)

end Tiles

/-- A box of the scratch's rows, read at an index. -/
theorem box_eq {n o : ℕ} (X : Vec Ideal S2816x1024 .f32) (x : (⟨2, ![n, 1024]⟩ : Shape).Idx) (y : S2816x1024.Idx)
    (inb : ∀ a, (![o, 0] : Fin 2 → ℕ) a + (![n, 1024] : Fin 2 → ℕ) a ≤ S2816x1024.size a) (h0 : (y 0).val = o + (x 0).val) (h1 : (y 1).val = (x 1).val) :
    View.ld (Val := Elt Ideal) X (Rect.unit (s := S2816x1024) ![o, 0] ![n, 1024] inb) x = X y := by
  rw [eq_ix2 x, eq_ix2 y]
  exact box_at X inb _ _ _ _ h0 (h1.trans (Nat.zero_add _).symm)

/-- The first point leaves its contribution in the scratch. -/
theorem scA (c : Dev nD) (t : Fin cfg0.N) (h0 : t.val % 4 = 0) (h1 : ¬t.val % 4 = 3) (y : S2816x1024.Idx) :
    (outsAt0 m c t.val t.isLt).2 y = partAt m c t y := by
  rw [outsAt0_A m c t h0 h1]
  frame_out
  simp (disch := decide) only [↓ View.readCov_skip, ↓ View.readCov_cons_toLoadRect, ↓ View.readCov_fill]
  refine (canon_append_eq (Val := Elt Ideal) (s := S2816x1024) (e := .f32) [⟨_, _⟩, ⟨_, _⟩, ⟨_, _⟩, ⟨_, _⟩] [_] y (View.cover_of_tiledBy (s := S2816x1024) _ ![256, 1024] (by sl_kernel_rfl) y)).trans ?_
  canon_tiles x h using (View.cover_of_tiledBy (s := S2816x1024) _ ![256, 1024] (by sl_kernel_rfl) y)
  · exact (tile3 _ _ _ _ _ _ x y h0 h1 0 (zero_at _)).trans (zero_add _)
  · exact (tile2 _ _ _ _ _ _ x y h0 h1 0 (zero_at _)).trans (zero_add _)
  · exact (tile1 _ _ _ _ _ _ x y h0 h1 0 (zero_at _)).trans (zero_add _)
  · exact (tile0 _ _ _ _ _ _ x y h0 h1 0 (zero_at _)).trans (zero_add _)

/-- A point in between adds its contribution. -/
theorem scB (c : Dev nD) (t : Fin cfg0.N) (h0 : ¬t.val % 4 = 0) (h1 : ¬t.val % 4 = 3) (y : S2816x1024.Idx) :
    (outsAt0 m c t.val t.isLt).2 y = (outsAt0 m c (t.val - 1) (Nat.lt_of_le_of_lt (Nat.sub_le _ _) t.isLt)).2 y + partAt m c t y := by
  rw [outsAt0_B m c t h0 h1]
  frame_out
  generalize (outsAt0 m c (t.val - 1) _).2 = X
  simp only [read_unread_whole]
  canon_tiles x h using (View.cover_of_tiledBy (s := S2816x1024) _ ![256, 1024] (by sl_kernel_rfl) y)
  · exact tile3 _ _ _ _ _ _ x y h0 h1 _ (box_eq X x y _ h0 h1)
  · exact tile2 _ _ _ _ _ _ x y h0 h1 _ (box_eq X x y _ h0 h1)
  · exact tile1 _ _ _ _ _ _ x y h0 h1 _ (box_eq X x y _ h0 h1)
  · exact tile0 _ _ _ _ _ _ x y h0 h1 _ (box_eq X x y _ (h0.trans (Nat.zero_add _).symm) h1)

/-- So does the last point, -/
theorem scC (c : Dev nD) (t : Fin cfg0.N) (h0 : ¬t.val % 4 = 0) (h1 : t.val % 4 = 3) (y : S2816x1024.Idx) :
    (outsAt0 m c t.val t.isLt).2 y = (outsAt0 m c (t.val - 1) (Nat.lt_of_le_of_lt (Nat.sub_le _ _) t.isLt)).2 y + partAt m c t y := by
  rw [outsAt0_C m c t h0 h1]
  frame_out
  generalize (outsAt0 m c (t.val - 1) _).2 = X
  simp only [read_unread_whole]
  canon_tiles x h using (View.cover_of_tiledBy (s := S2816x1024) _ ![256, 1024] (by sl_kernel_rfl) y)
  · exact tile3 _ _ _ _ _ _ x y h0 h1 _ (box_eq X x y _ h0 h1)
  · exact tile2 _ _ _ _ _ _ x y h0 h1 _ (box_eq X x y _ h0 h1)
  · exact tile1 _ _ _ _ _ _ x y h0 h1 _ (box_eq X x y _ h0 h1)
  · exact tile0 _ _ _ _ _ _ x y h0 h1 _ (box_eq X x y _ (h0.trans (Nat.zero_add _).symm) h1)

/-- which writes the scratch out. -/
theorem out (c : Dev nD) (t : Fin cfg0.N) (h0 : ¬t.val % 4 = 0) (h1 : t.val % 4 = 3) (y : S2816x1024.Idx) :
    (outsAt0 m c t.val t.isLt).1 y = (outsAt0 m c t.val t.isLt).2 y := by
  rw [outsAt0_C m c t h0 h1]
  frame_out
  rw [copy_at]
  rw [View.readCov_eq_canon']
  exact congrArg (View.canon _) (show (Rect.unit (s := S2816x1024) ![0, 0] S2816x1024.size inb_S2816x1024_S2816x1024_0_0).toLoadRect.idx y = y by
    funext a; apply Fin.ext
    match a with
    | 0 => show 0 + 1 * (y 0).val = (y 0).val; omega
    | 1 => show 0 + 1 * (y 1).val = (y 1).val; omega)

end Cert.MixGrad

end
-- ==== Proof.MixWValue.lean ====
/-
  The gradient of the input projection's weight: the scratch adds up four blocks of rows, and is the reference's gradient.
-/
module

public import proofs.«01_k».proof.Proof.Gen.MixWIdeal.Value
public import proofs.«01_k».proof.Proof.Gen.MixWRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.MixWPoint

@[expose] public section

set_option maxRecDepth 16384

noncomputable section

namespace Cert.MixGrad

open Idealize.ShloMosaic Idealize.ShloMosaic.TcCoe Idealize.SL.Sem Idealize.ShloMosaic.StableHlo
open Idealize.ShloMosaic.Pipeline (Dat)

section Reference
open Cert.MixWRefIdeal Cert.MixWRefIdeal.Gen

/-- The reference's gradient of the weight `w` of `u @ w.T`, the four pieces of the output's gradient side by side. -/
def ref (P0 : FVec Ideal S4096x512 .bf16) (P1 : FVec Ideal S4096x256 .bf16) (P2 P3 U : FVec Ideal S4096x1024 .bf16) : FVec Ideal S2816x1024 .bf16 :=
  truncf .bf16 (transpose S2816x1024 [1, 0] (transpose S1024x2816 [1, 0]
    (Host.dotGeneral dot_S4096x2816_S4096x1024_S2816x1024_0_0_1_1_n_n none
      (concatenate S4096x2816 1 [⟨S4096x512, extf .f32 P0 bitsLt_bf16_f32⟩, ⟨S4096x256, extf .f32 P1 bitsLt_bf16_f32⟩,
        ⟨S4096x1024, extf .f32 P2 bitsLt_bf16_f32⟩, ⟨S4096x1024, extf .f32 P3 bitsLt_bf16_f32⟩]
        concatenates_S4096x512_S4096x256_S4096x1024_S4096x1024_S4096x2816_d1)
      (extf .f32 U bitsLt_bf16_f32)) transposes_S2816x1024_S1024x2816_1_0) transposes_S1024x2816_S2816x1024_1_0) bitsLt_bf16_f32

theorem ref_at (P0 : FVec Ideal S4096x512 .bf16) (P1 : FVec Ideal S4096x256 .bf16) (P2 P3 U : FVec Ideal S4096x1024 .bf16) (a : Fin 2816) (b : Fin 1024) :
    ref P0 P1 P2 P3 U (ix2 a b) = ∑ k : Fin 4096,
      Mix.cat (fun a => P0 (ix2 k a)) (fun a => P1 (ix2 k a)) (fun a => P2 (ix2 k a)) (fun a => P3 (ix2 k a)) a * U (ix2 k b) := by
  pointwise [ref]
  exact Finset.sum_congr rfl fun k _ => by rw [Mix.cat_nest]

end Reference

section Kernel
open Cert.MixWIdeal Cert.MixWIdeal.Gen

variable (m : (ℓ : Loc nD τ sig) → Buf (Elt Ideal) ℓ)

/-- The blocks that a point reads: its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0] :=
  (by decide +kernel : ∀ t : Fin grid0.N, _)

/-- After the last point the scratch holds the four contributions. -/
theorem scratch_sum (c : Dev nD) (t : Fin cfg0.N) (h : t.val % 4 = 4 - 1) (y : S2816x1024.Idx) :
    (outsAt0 m c t.val t.isLt).2 y = ∑ s : Fin 4, partAt m c ⟨4 * (t.val / 4) + s.val, Pipeline.run_point_lt_of_flush t h s⟩ y := by
  rw [Pipeline.eq_sum_fin_of_reset_step_apply_of_flush (fun n h => (outsAt0 m c n h).2) 4 (fun _ => (0 : EReal)) (partAt m c)
    (fun t h y => by rw [scA m c t h (by omega) y, zero_add])
    (fun t h y => by by_cases h1 : t.val % 4 = 3; exacts [scC m c t h h1 y, scB m c t h h1 y]) t h y, zero_add]

/-- The result array ends as the reference's gradient. -/
theorem final (c : Dev nD) : (dats m 0 c).arrAt 5 (cfgs 0).N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h3 := (flush0_5 t).mp hf
  have ht : t.val < 4 := lt_of_lt_of_eq t.isLt N_0
  blk_simp
  rw [after0_5]
  idx_vars y
  have e : (((View.whole main_v0).slice (win0_5.rect t)).emb (ix2 y0 y1)) = ix2 y0 y1 := by
    blk_ext [idx t]
  rw [out m c t (by omega) h3, scratch_sum m c t h3, e, ref_at]
  simp only [partAt, part]
  refine Fin.sum_mul_add_congr fun s k hl => ?_
  refine congrArg₂ (· * ·) (Mix.cat_congr (fun x => ?_) (fun x => ?_) (fun x => ?_) (fun x => ?_)) ?_
  all_goals blk_point [iblk, V, idx ⟨_, Pipeline.run_point_lt_of_flush t h3 s⟩]

end Kernel

end Cert.MixGrad

end
-- ==== Proof.FfnOutArrays.lean ====
/-
  The first half-step of the feed-forward unit ends: half the unit's product is added to the residual stream, and the
  sum is normed.
-/
module

public import proofs.«01_k».proof.Proof.Gen.DownIdeal.Value
public import proofs.«01_k».proof.Proof.Gen.DownRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.FfnOut

open Idealize.ShloMosaic Idealize.ShloMosaic.TcCoe Idealize.SL.Sem Idealize.ShloMosaic.StableHlo
open Idealize.ShloMosaic.Pipeline (Dat)

section Reference
open Cert.DownRefIdeal Cert.DownRefIdeal.Gen

/-- The residual stream after the block. -/
def refH (A : FVec Ideal S4096x2816 .bf16) (W : FVec Ideal S2816x1024 .bf16) (H : FVec Ideal S4096x1024 .f32) : FVec Ideal S4096x1024 .f32 :=
  addf H (mulf (broadcastInDim S4096x1024 ![] bcast_S_S4096x1024 (constant S_ .f32 0x3F000000#32))
    (Host.dotGeneral dot_S4096x2816_S2816x1024_S4096x1024_1_0_0_1_n_n none (extf .f32 A bitsLt_bf16_f32) (extf .f32 W bitsLt_bf16_f32)))

/-- A root-mean-square norm with its gain. -/
def norm (H : FVec Ideal S4096x1024 .f32) (g : FVec Ideal S1x1024 .f32) : FVec Ideal S4096x1024 .bf16 :=
  truncf .bf16 (mulf (mulf H (broadcastInDim S4096x1024 ![0, 1] bcast_S4096x1_S4096x1024_0_1 (Host.rsqrt (addf (Host.divf
    (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)) bitsLt_bf16_f32

theorem refH_at (A : FVec Ideal S4096x2816 .bf16) (W : FVec Ideal S2816x1024 .bf16) (H : FVec Ideal S4096x1024 .f32) (a : Fin 4096) (b : Fin 1024) :
    refH A W H (ix2 a b) = H (ix2 a b) + Ideal.ofBits .f32 0x3F000000#32 * ∑ k : Fin 2816, A (ix2 a k) * W (ix2 k b) := by
  pointwise [refH]

theorem norm_at (H : FVec Ideal S4096x1024 .f32) (g : FVec Ideal S1x1024 .f32) (a : Fin 4096) (k : Fin 1024) :
    norm H g (ix2 a k) = H (ix2 a k) * Ideal.rsqrt (Ideal.div (∑ j : Fin 1024, H (ix2 a j) * H (ix2 a j))
      (Ideal.ofBits .f32 0x44800000#32) + Ideal.ofBits .f32 0x358637BD#32) * g (ix2 0 k) := by
  pointwise [norm]

end Reference

section Kernel
open Cert.DownIdeal Cert.DownIdeal.Gen

variable (m : (ℓ : Loc nD τ sig) → Buf (Elt Ideal) ℓ)

/-- The residual stream that the kernel's arguments give. -/
abbrev stream (c : Dev nD) : FVec Ideal S4096x1024 .f32 :=
  refH (m ((c : Thread nD τ).loc main_arg0)) (m ((c : Thread nD τ).loc main_arg1)) (m ((c : Thread nD τ).loc main_arg2))

/-- The blocks that a point reads and writes: its rows, the whole weight, and the gain. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- One point's rows of the residual stream. -/
theorem row (c : Dev nD) (t : Fin cfg0.N) (a : Fin 512) (b : Fin 1024) (r : Fin 4096) (hr : r.val = t.val * 512 + a.val) :
    k0_pay1 (F := Ideal) (iblk m c 2 t) (iblk m c 0 t) (iblk m c 1 t) (ix2 a b) = stream m c (ix2 r b) := by
  rw [stream, refH_at]
  pointwise [k0_pay1]
  blk_point [iblk, V, idx t]

/-- The residual stream's array. -/
theorem final_h (c : Dev nD) : (dats m 0 c).arrAt 4 (cfgs 0).N = stream m c := by
  refine (dats m 0 c).arrAt_eq_of_covers 4 _ (by decide +kernel) fun t hf y => ?_
  have ht : t.val < 8 := lt_of_lt_of_eq t.isLt N_0
  blk_simp
  rw [after0_4]
  frame_out
  idx_vars y
  have e : (((View.whole main_v0_0).slice (win0_4.rect t)).emb (ix2 y0 y1)) = ix2 ⟨t.val * 512 + y0.val, by omega⟩ y1 := by
    blk_ext [idx t]
  rw [e]
  exact row m c t y0 y1 _ rfl

/-- The normed rows' array. -/
theorem final_u (c : Dev nD) : (dats m 0 c).arrAt 5 (cfgs 0).N = norm (stream m c) (m ((c : Thread nD τ).loc main_arg3)) := by
  refine (dats m 0 c).arrAt_eq_of_covers 5 _ (by decide +kernel) fun t hf y => ?_
  have ht : t.val < 8 := lt_of_lt_of_eq t.isLt N_0
  blk_simp
  rw [after0_5]
  frame_out
  idx_vars y
  have e : (((View.whole main_v0_1).slice (win0_5.rect t)).emb (ix2 y0 y1)) = ix2 ⟨t.val * 512 + y0.val, by omega⟩ y1 := by
    blk_ext [idx t]
  have hrow : ∀ b : Fin 1024, k0_pay1 (F := Ideal) (iblk m c 2 t) (iblk m c 0 t) (iblk m c 1 t) (ix2 y0 b) = stream m c (ix2 ⟨t.val * 512 + y0.val, by omega⟩ b) :=
    fun b => row m c t y0 b _ rfl
  rw [e, norm_at]
  simp only [← hrow]
  unfold k0_pay2
  generalize k0_pay1 (F := Ideal) (iblk m c 2 t) (iblk m c 0 t) (iblk m c 1 t) = X
  pointwise
  blk_point [iblk, V, idx t]

end Kernel

end Cert.FfnOut

end
-- ==== Proof.BlockOutArrays.lean ====
/-
  A block's output product is added to the residual stream, and the sum is normed.
-/
module

public import proofs.«01_k».proof.Proof.Gen.ResidIdeal.Value
public import proofs.«01_k».proof.Proof.Gen.ResidRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.BlockOut

open Idealize.ShloMosaic Idealize.ShloMosaic.TcCoe Idealize.SL.Sem Idealize.ShloMosaic.StableHlo
open Idealize.ShloMosaic.Pipeline (Dat)

section Reference
open Cert.ResidRefIdeal Cert.ResidRefIdeal.Gen

/-- The residual stream after the block. -/
def refH (A : FVec Ideal S4096x1024 .bf16) (W : FVec Ideal S1024x1024 .bf16) (H : FVec Ideal S4096x1024 .f32) : FVec Ideal S4096x1024 .f32 :=
  addf H (Host.dotGeneral dot_S4096x1024_S1024x1024_S4096x1024_1_0_0_1_n_n none (extf .f32 A bitsLt_bf16_f32) (extf .f32 W bitsLt_bf16_f32))

/-- A root-mean-square norm with its gain. -/
def norm (H : FVec Ideal S4096x1024 .f32) (g : FVec Ideal S1x1024 .f32) : FVec Ideal S4096x1024 .bf16 :=
  truncf .bf16 (mulf (mulf H (broadcastInDim S4096x1024 ![0, 1] bcast_S4096x1_S4096x1024_0_1 (Host.rsqrt (addf (Host.divf
    (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32)))
    (broadcastInDim S4096x1 ![] bcast_S_S4096x1 (constant S_ .f32 0x358637BD#32))))))
    (broadcastInDim S4096x1024 ![0, 1] bcast_S1x1024_S4096x1024_0_1 g)) bitsLt_bf16_f32

theorem refH_at (A : FVec Ideal S4096x1024 .bf16) (W : FVec Ideal S1024x1024 .bf16) (H : FVec Ideal S4096x1024 .f32) (a : Fin 4096) (b : Fin 1024) :
    refH A W H (ix2 a b) = H (ix2 a b) + ∑ k : Fin 1024, A (ix2 a k) * W (ix2 k b) := by
  pointwise [refH]

theorem norm_at (H : FVec Ideal S4096x1024 .f32) (g : FVec Ideal S1x1024 .f32) (a : Fin 4096) (k : Fin 1024) :
    norm H g (ix2 a k) = H (ix2 a k) * Ideal.rsqrt (Ideal.div (∑ j : Fin 1024, H (ix2 a j) * H (ix2 a j))
      (Ideal.ofBits .f32 0x44800000#32) + Ideal.ofBits .f32 0x358637BD#32) * g (ix2 0 k) := by
  pointwise [norm]

end Reference

section Kernel
open Cert.ResidIdeal Cert.ResidIdeal.Gen

variable (m : (ℓ : Loc nD τ sig) → Buf (Elt Ideal) ℓ)

/-- The residual stream that the kernel's arguments give. -/
abbrev stream (c : Dev nD) : FVec Ideal S4096x1024 .f32 :=
  refH (m ((c : Thread nD τ).loc main_arg0)) (m ((c : Thread nD τ).loc main_arg1)) (m ((c : Thread nD τ).loc main_arg2))

/-- The blocks that a point reads and writes: its rows, the whole weight, and the gain. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- One point's rows of the residual stream. -/
theorem row (c : Dev nD) (t : Fin cfg0.N) (a : Fin 1024) (b : Fin 1024) (r : Fin 4096) (hr : r.val = t.val * 1024 + a.val) :
    k0_pay1 (F := Ideal) (iblk m c 2 t) (iblk m c 0 t) (iblk m c 1 t) (ix2 a b) = stream m c (ix2 r b) := by
  rw [stream, refH_at]
  pointwise [k0_pay1]
  blk_point [iblk, V, idx t]

/-- The residual stream's array. -/
theorem final_h (c : Dev nD) : (dats m 0 c).arrAt 4 (cfgs 0).N = stream m c := by
  refine (dats m 0 c).arrAt_eq_of_covers 4 _ (by decide +kernel) fun t hf y => ?_
  have ht : t.val < 4 := lt_of_lt_of_eq t.isLt N_0
  blk_simp
  rw [after0_4]
  frame_out
  idx_vars y
  have e : (((View.whole main_v0_0).slice (win0_4.rect t)).emb (ix2 y0 y1)) = ix2 ⟨t.val * 1024 + y0.val, by omega⟩ y1 := by
    blk_ext [idx t]
  rw [e]
  exact row m c t y0 y1 _ rfl

/-- The normed rows' array. -/
theorem final_u (c : Dev nD) : (dats m 0 c).arrAt 5 (cfgs 0).N = norm (stream m c) (m ((c : Thread nD τ).loc main_arg3)) := by
  refine (dats m 0 c).arrAt_eq_of_covers 5 _ (by decide +kernel) fun t hf y => ?_
  have ht : t.val < 4 := lt_of_lt_of_eq t.isLt N_0
  blk_simp
  rw [after0_5]
  frame_out
  idx_vars y
  have e : (((View.whole main_v0_1).slice (win0_5.rect t)).emb (ix2 y0 y1)) = ix2 ⟨t.val * 1024 + y0.val, by omega⟩ y1 := by
    blk_ext [idx t]
  have hrow : ∀ b : Fin 1024, k0_pay1 (F := Ideal) (iblk m c 2 t) (iblk m c 0 t) (iblk m c 1 t) (ix2 y0 b) = stream m c (ix2 ⟨t.val * 1024 + y0.val, by omega⟩ b) :=
    fun b => row m c t y0 b _ rfl
  rw [e, norm_at]
  simp only [← hrow]
  unfold k0_pay2
  generalize k0_pay1 (F := Ideal) (iblk m c 2 t) (iblk m c 0 t) (iblk m c 1 t) = X
  pointwise
  blk_point [iblk, V, idx t]

end Kernel

end Cert.BlockOut

end
-- ==== Proof.MixInFwdArrays.lean ====
/-
  The input projection `u @ w.T` and the copy of the mixer's columns of it, block by block.
-/
module

public import proofs.«01_k».proof.Proof.Gen.ProjIdeal.Value
public import proofs.«01_k».proof.Proof.Gen.ProjRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MixInFwd

open Idealize.ShloMosaic Idealize.ShloMosaic.TcCoe Idealize.SL.Sem Idealize.ShloMosaic.StableHlo
open Idealize.ShloMosaic.Pipeline (Dat)

section Reference
open Cert.ProjRefIdeal Cert.ProjRefIdeal.Gen

/-- The reference's projection. -/
def refP (U : FVec Ideal S4096x1024 .bf16) (W : FVec Ideal S2816x1024 .bf16) : FVec Ideal S4096x2816 .f32 :=
  Host.dotGeneral dot_S4096x1024_S1024x2816_S4096x2816_1_0_0_1_n_n none (extf .f32 U bitsLt_bf16_f32)
    (transpose S1024x2816 [1, 0] (extf .f32 W bitsLt_bf16_f32) transposes_S2816x1024_S1024x2816_1_0)

/-- The columns that the scan reads. -/
def refS (P : FVec Ideal S4096x2816 .f32) : FVec Ideal S4096x256 .bf16 :=
  truncf .bf16 (extractStridedSlice S4096x256 ![0, 512] P slices_S4096x2816_S4096x256_0_512) bitsLt_bf16_f32

theorem refP_at (U : FVec Ideal S4096x1024 .bf16) (W : FVec Ideal S2816x1024 .bf16) (a : Fin 4096) (b : Fin 2816) :
    refP U W (ix2 a b) = ∑ k : Fin 1024, U (ix2 a k) * W (ix2 b k) := by
  pointwise [refP]

end Reference

section Kernel
open Cert.ProjIdeal Cert.ProjIdeal.Gen

variable (m : (ℓ : Loc nD τ sig) → Buf (Elt Ideal) ℓ)

/-- The projection of the kernel's arguments. -/
abbrev proj (c : Dev nD) : FVec Ideal S4096x2816 .f32 :=
  refP (m ((c : Thread nD τ).loc main_arg0)) (m ((c : Thread nD τ).loc main_arg1))

/-- The blocks that a point reads and writes: its rows, and the whole weight. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

theorem copy_at (X : Vec Ideal S512x256 .f32) (y : S512x256.Idx) : k0_pay3 (F := Ideal) X y = X y := by
  pointwise [k0_pay3]

/-- Columns 512 to 768 are read back from the staged first tile. -/
theorem copied {κ : Kind} {sp : Space} (v : View sig κ sp S512x2816 .f32) (w : Vec Ideal S512x1408 .f32) (a : Fin 512) (b : Fin 256) :
    v.readCov (Val := Elt Ideal) [⟨Rect.unit (s := S512x2816) ![0, 0] S512x1408.size inb_S512x2816_S512x1408_0_0, w⟩]
      (Rect.unit (s := S512x2816) ![0, 512] S512x256.size inb_S512x2816_S512x256_0_512).toLoadRect (ix2 a b) = w (ix2 a ⟨512 + b.val, by omega⟩) := by
  rw [View.readCov_eq_canon']
  have e : (Rect.unit (s := S512x2816) ![0, 512] S512x256.size inb_S512x2816_S512x256_0_512).toLoadRect.idx (ix2 a b)
      = (Rect.unit (s := S512x2816) ![0, 0] S512x1408.size inb_S512x2816_S512x1408_0_0).emb (ix2 a ⟨512 + b.val, by omega⟩) := by
    funext x; apply Fin.ext
    match x with
    | 0 => show 0 + 1 * a.val = 0 + 1 * a.val; rfl
    | 1 => show 512 + 1 * b.val = 0 + 1 * (512 + b.val); omega
  exact (congrArg _ e).trans (View.canon_cons_emb _ _ _ _)

/-- The projection's array. -/
theorem final_p (c : Dev nD) : (dats m 0 c).arrAt 2 (cfgs 0).N = proj m c := by
  refine (dats m 0 c).arrAt_eq_of_covers 2 _ (by decide +kernel) fun t hf y => ?_
  have ht : t.val < 8 := lt_of_lt_of_eq t.isLt N_0
  blk_simp
  rw [after0_2]
  dsimp only [outsAt0]
  frame_out
  canon_tiles x h
  all_goals (open_payloads; pointwise [refP]; blk_point [iblk, V, idx t])

/-- The copied columns' array. -/
theorem final_s (c : Dev nD) : (dats m 0 c).arrAt 3 (cfgs 0).N = refS (proj m c) := by
  refine (dats m 0 c).arrAt_eq_of_covers 3 _ (by decide +kernel) fun t hf y => ?_
  have ht : t.val < 8 := lt_of_lt_of_eq t.isLt N_0
  blk_simp
  rw [after0_3]
  dsimp only [outsAt0]
  frame_out
  simp (disch := decide) only [↓ View.readCov_skip, ↓ View.readCov_cons_toLoadRect]
  idx_vars y
  refine (copy_at _ _).trans ((copied (ms0_2 t).view _ y0 y1).trans ?_)
  pointwise [k0_pay1, refS, refP]
  blk_point [iblk, V, idx t]

end Kernel

end Cert.MixInFwd

end
-- ==== Proof.ProductClaims.lean ====
/-
  The value claims of the plain products: each kernel and its reference end with the same arrays.
-/
module

public import proofs.«01_k».proof.Defs
public import proofs.«01_k».proof.Proof.SquareNTArrays
public import proofs.«01_k».proof.Proof.SquareNNArrays
public import proofs.«01_k».proof.Proof.SquareTNArrays
public import proofs.«01_k».proof.Proof.MixWValue
public import proofs.«01_k».proof.Proof.FfnOutArrays
public import proofs.«01_k».proof.Proof.BlockOutArrays
public import proofs.«01_k».proof.Proof.MixInFwdArrays

@[expose] public section

set_option maxRecDepth 16384

noncomputable section

open Idealize.ShloMosaic Idealize.ShloMosaic.TcCoe Idealize.SL.Sem

namespace Cert.SquareNT

/-- The gradient of a square product's input. -/
theorem algebraic : Cert.algebraic_SqXIdeal_SqXRefIdeal := fun m ρ m' ρ' _ hag =>
  ⟨_, (θ_run _ _ _).mono (fun _ h c => ⟨(h c).1.trans (final m c), (h c).2⟩) (SqXIdeal.Value.run_blocks m ρ),
    (θ_run _ _ _).mono (fun _ h c => by
      obtain ⟨a0, a1⟩ := hag c
      exact ⟨(h c).1.trans (by rw [a0, a1]; rfl), (h c).2⟩) (SqXRefIdeal.Value.run m' ρ')⟩

end Cert.SquareNT

namespace Cert.SquareNN

/-- The attention's queries. -/
theorem algebraic : Cert.algebraic_QueryIdeal_QueryRefIdeal := fun m ρ m' ρ' _ hag =>
  ⟨_, (θ_run _ _ _).mono (fun _ h c => ⟨(h c).1.trans (final m c), (h c).2⟩) (QueryIdeal.Value.run_blocks m ρ),
    (θ_run _ _ _).mono (fun _ h c => by
      obtain ⟨a0, a1⟩ := hag c
      exact ⟨(h c).1.trans (by rw [a0, a1]; rfl), (h c).2⟩) (QueryRefIdeal.Value.run m' ρ')⟩

end Cert.SquareNN

namespace Cert.SquareTN

/-- The gradient of a square weight. -/
theorem algebraic : Cert.algebraic_SqWIdeal_SqWRefIdeal := fun m ρ m' ρ' _ hag =>
  ⟨_, (θ_run _ _ _).mono (fun _ h c => ⟨(h c).1.trans (final m c), (h c).2⟩) (SqWIdeal.Value.run_blocks m ρ),
    (θ_run _ _ _).mono (fun _ h c => by
      obtain ⟨a0, a1⟩ := hag c
      exact ⟨(h c).1.trans (by rw [a0, a1]; rfl), (h c).2⟩) (SqWRefIdeal.Value.run m' ρ')⟩

end Cert.SquareTN

namespace Cert.MixGrad

/-- The gradient of the input projection's weight. -/
theorem algebraic : Cert.algebraic_MixWIdeal_MixWRefIdeal := fun m ρ m' ρ' _ hag =>
  ⟨_, (θ_run _ _ _).mono (fun _ h c => ⟨(h c).1.trans (final m c), (h c).2⟩) (MixWIdeal.Value.run_blocks m ρ),
    (θ_run _ _ _).mono (fun _ h c => by
      obtain ⟨a0, a1, a2, a3, a4⟩ := hag c
      exact ⟨(h c).1.trans (by rw [a0, a1, a2, a3, a4]; rfl), (h c).2⟩) (MixWRefIdeal.Value.run m' ρ')⟩

end Cert.MixGrad

namespace Cert.FfnOut

/-- The half-step's residual and the next norm. -/
theorem algebraic : Cert.algebraic_DownIdeal_DownRefIdeal := fun m ρ m' ρ' _ hag =>
  ⟨_, _, (θ_run _ _ _).mono (fun _ h c => ⟨(h c).1.trans (final_h m c), (h c).2.1.trans (final_u m c), (h c).2.2⟩) (DownIdeal.Value.run_blocks m ρ),
    (θ_run _ _ _).mono (fun _ h c => by
      obtain ⟨a0, a1, a2, a3⟩ := hag c
      exact ⟨(h c).1.trans (by rw [a0, a1, a2]; rfl), (h c).2.1.trans (by rw [a0, a1, a2, a3]; rfl), (h c).2.2⟩) (DownRefIdeal.Value.run m' ρ')⟩

end Cert.FfnOut

namespace Cert.BlockOut

/-- A block's residual and the next norm. -/
theorem algebraic : Cert.algebraic_ResidIdeal_ResidRefIdeal := fun m ρ m' ρ' _ hag =>
  ⟨_, _, (θ_run _ _ _).mono (fun _ h c => ⟨(h c).1.trans (final_h m c), (h c).2.1.trans (final_u m c), (h c).2.2⟩) (ResidIdeal.Value.run_blocks m ρ),
    (θ_run _ _ _).mono (fun _ h c => by
      obtain ⟨a0, a1, a2, a3⟩ := hag c
      exact ⟨(h c).1.trans (by rw [a0, a1, a2]; rfl), (h c).2.1.trans (by rw [a0, a1, a2, a3]; rfl), (h c).2.2⟩) (ResidRefIdeal.Value.run m' ρ')⟩

end Cert.BlockOut

namespace Cert.MixInFwd

/-- The mixers' common projection. -/
theorem algebraic : Cert.algebraic_ProjIdeal_ProjRefIdeal := fun m ρ m' ρ' _ hag =>
  ⟨_, _, (θ_run _ _ _).mono (fun _ h c => ⟨(h c).1.trans (final_p m c), (h c).2.1.trans (final_s m c), (h c).2.2⟩) (ProjIdeal.Value.run_blocks m ρ),
    (θ_run _ _ _).mono (fun _ h c => by
      obtain ⟨a0, a1⟩ := hag c
      exact ⟨(h c).1.trans (by rw [a0, a1]; rfl), (h c).2.1.trans (by rw [a0, a1]; rfl), (h c).2.2⟩) (ProjRefIdeal.Value.run m' ρ')⟩

end Cert.MixInFwd

end
-- ==== Proof.NormGrad.lean ====
/-
  The gradient of a root-mean-square norm along one row: the kernel's one factor against the derivative of the inverse
  root, over real rows.
-/
module

public import proofs.«01_k».proof.Proof.Reals

@[expose] public section

set_option maxRecDepth 16384

noncomputable section

namespace Cert.NormGrad

open Idealize.ShloMosaic Cert.Reals

/-- A row's mean square with the norm's guard added. -/
def square (h : Fin 1024 → EReal) : EReal := Ideal.div (∑ j, h j * h j) (Ideal.ofBits .f32 0x44800000#32) + Ideal.ofBits .f32 0x358637BD#32

/-- The gradient of a row's mean square, spread over the width: `h` the row, `u` the gradient at the norm's output, `γ` the gain. -/
def slope (u h γ : Fin 1024 → EReal) : EReal := Ideal.div ((∑ j, h j * (u j * γ j))
  * (Ideal.ofBits .f32 0xBF000000#32 * Ideal.div (Ideal.rsqrt (square h)) (square h))) (Ideal.ofBits .f32 0x44800000#32)

/-- The gradient at a row's entry, as the kernel computes it: `d` the gradient that passes the norm by. -/
def direct (u h γ : Fin 1024 → EReal) (d : EReal) (k : Fin 1024) : EReal :=
  d + Ideal.rsqrt (square h) * (u k * γ k - h k * Ideal.rsqrt (square h)
    * Ideal.div (∑ j, u j * γ j * (h j * Ideal.rsqrt (square h))) (Ideal.ofBits .f32 0x44800000#32))

/-- The same gradient by the chain rule, the square's two factors apart. -/
def chain (u h γ : Fin 1024 → EReal) (d : EReal) (k : Fin 1024) : EReal :=
  d + u k * γ k * Ideal.rsqrt (square h) + h k * slope u h γ + slope u h γ * h k

/-- Over real rows the two agree. -/
theorem direct_eq_chain (u h γ : Fin 1024 → EReal) (d : EReal) (k : Fin 1024) (hu : ∀ j, IsReal (u j)) (hh : ∀ j, IsReal (h j)) (hγ : ∀ j, IsReal (γ j)) :
    direct u h γ d k = chain u h γ d k := by
  choose u' hu using hu
  choose h' hh using hh
  choose γ' hγ using hγ
  obtain rfl : u = fun j => (u' j : EReal) := funext hu
  obtain rfl : h = fun j => (h' j : EReal) := funext hh
  obtain rfl : γ = fun j => (γ' j : EReal) := funext hγ
  clear hu hh hγ
  obtain ⟨e, he, hee⟩ := ofBits_eps
  have hn : 0 ≤ ∑ j : Fin 1024, h' j * h' j := Finset.sum_nonneg fun j _ => mul_self_nonneg _
  obtain ⟨q, hq, hs⟩ : ∃ q : ℝ, 0 < q ∧ square (fun j => (h' j : EReal)) = (q : EReal) := by
    refine ⟨(∑ j : Fin 1024, h' j * h' j) / 1024 + e, by positivity, ?_⟩
    rw [square, hee, ofBits_1024, show (∑ j : Fin 1024, (h' j : EReal) * (h' j : EReal)) = ((∑ j : Fin 1024, h' j * h' j : ℝ) : EReal) by
      rw [coe_sum]; exact Finset.sum_congr rfl fun j _ => (EReal.coe_mul _ _).symm, div_real _ _ (by norm_num), ← EReal.coe_add]
  unfold direct chain slope
  dsimp only
  rw [hs, rsqrt_real _ hq]
  have hr : (Real.sqrt q)⁻¹ * (Real.sqrt q)⁻¹ = q⁻¹ := by rw [← mul_inv, Real.mul_self_sqrt hq.le]
  generalize (Real.sqrt q)⁻¹ = r at hr ⊢
  have s1 : (∑ j : Fin 1024, (u' j : EReal) * (γ' j : EReal) * ((h' j : EReal) * (r : EReal))) = ((r * ∑ j : Fin 1024, h' j * (u' j * γ' j) : ℝ) : EReal) := by
    rw [Finset.mul_sum, coe_sum]
    refine Finset.sum_congr rfl fun j _ => ?_
    norm_cast; ring
  have s2 : (∑ j : Fin 1024, (h' j : EReal) * ((u' j : EReal) * (γ' j : EReal))) = ((∑ j : Fin 1024, h' j * (u' j * γ' j) : ℝ) : EReal) := by
    rw [coe_sum]
    refine Finset.sum_congr rfl fun j _ => ?_
    norm_cast
  obtain ⟨w, hw, hww⟩ : ∃ w : ℝ, w = -(1 / 2) ∧ Ideal.ofBits .f32 0xBF000000#32 = (w : EReal) := ⟨-(1 / 2), rfl, ofBits_neg_half⟩
  rw [s1, s2, hww, ofBits_1024]
  generalize (∑ j : Fin 1024, h' j * (u' j * γ' j)) = S
  rw [div_real _ _ hq.ne', div_real _ _ (by norm_num), ← EReal.coe_mul w, ← EReal.coe_mul S, div_real _ _ (by norm_num)]
  rw [add_assoc (d + _), add_assoc d]
  refine congrArg (d + ·) ?_
  norm_cast
  have hrq : r / q = r * (r * r) := by rw [hr, div_eq_mul_inv]
  rw [hrq, hw]
  ring

end Cert.NormGrad

end
-- ==== Proof.NormGradRef.lean ====
/-
  The gradients that pass a norm, row by row: the reference's arrays at one index.
-/
module

public import proofs.«01_k».proof.Proof.DxRef
public import proofs.«01_k».proof.Proof.NormGrad

@[expose] public section

set_option maxRecDepth 16384

noncomputable section

namespace Cert.NormGrad

open Cert.DxRefIdeal Idealize.ShloMosaic

variable (H U D : FVec Ideal S4096x1024 .f32) (g : FVec Ideal S1x1024 .f32) (a : Fin 4096) (b : Fin 1024)

theorem refX_row : Dx.refX H U D g (ix2 a b)
    = chain (fun j => U (ix2 a j)) (fun j => H (ix2 a j)) (fun j => g (ix2 0 j)) (D (ix2 a b)) b := by
  rw [Dx.refX_at, Dx.spreadDs_at, Dx.square_at]; rfl

theorem refGain_row : Dx.refGain H U (ix2 0 b) = ∑ k : Fin 4096, U (ix2 k b) * (H (ix2 k b) * Ideal.rsqrt (square fun j => H (ix2 k j))) := by
  rw [Dx.refGain_at]
  exact Finset.sum_congr rfl fun k _ => by rw [Dx.square_at, mul_comm]; rfl

end Cert.NormGrad

end
-- ==== Proof.QueryNormArrays.lean ====
/-
  The gradient of the attention's input through its query projection and norm, and of the norm's gain.
-/
module

public import proofs.«01_k».proof.Proof.Gen.QueryDxIdeal.Value
public import proofs.«01_k».proof.Proof.Gen.QueryDxRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.NormGradRef
public import proofs.«01_k».proof.Proof.Cover

@[expose] public section

set_option maxRecDepth 16384

noncomputable section

namespace Cert.QueryNorm

open Idealize.ShloMosaic Idealize.ShloMosaic.TcCoe Idealize.SL.Sem Idealize.ShloMosaic.StableHlo
open Idealize.ShloMosaic.Pipeline (Dat)

section Reference
open Cert.QueryDxRefIdeal Cert.QueryDxRefIdeal.Gen

/-- The gradient at the norm's output. -/
def refU (Dq : FVec Ideal S4096x1024 .bf16) (W : FVec Ideal S1024x1024 .bf16) : FVec Ideal S4096x1024 .f32 :=
  Host.dotGeneral dot_S4096x1024_S1024x1024_S4096x1024_1_1_0_0_n_n none (extf .f32 Dq bitsLt_bf16_f32) (extf .f32 W bitsLt_bf16_f32)

theorem refU_at (Dq : FVec Ideal S4096x1024 .bf16) (W : FVec Ideal S1024x1024 .bf16) (a : Fin 4096) (b : Fin 1024) :
    refU Dq W (ix2 a b) = ∑ j : Fin 1024, Dq (ix2 a j) * W (ix2 b j) := by
  pointwise [refU]

/-- The run's terms are the norm's gradient over it. -/
theorem run_x (m : (ℓ : Loc nD τ sig) → Buf (Elt Ideal) ℓ) (c : Dev nD) : Value.res_main_v38 m c
    = Dx.refX (m ((c.tc : Thread nD τ).loc main_arg2)) (refU (m ((c.tc : Thread nD τ).loc main_arg0)) (m ((c.tc : Thread nD τ).loc main_arg1)))
      (m ((c.tc : Thread nD τ).loc main_arg4)) (m ((c.tc : Thread nD τ).loc main_arg3)) := by
  unfold Value.res_main_v38; rfl
theorem run_xh (m : (ℓ : Loc nD τ sig) → Buf (Elt Ideal) ℓ) (c : Dev nD) : Value.res_main_v39 m c
    = truncf .bf16 (Dx.refX (m ((c.tc : Thread nD τ).loc main_arg2)) (refU (m ((c.tc : Thread nD τ).loc main_arg0)) (m ((c.tc : Thread nD τ).loc main_arg1)))
      (m ((c.tc : Thread nD τ).loc main_arg4)) (m ((c.tc : Thread nD τ).loc main_arg3))) bitsLt_bf16_f32 := by
  unfold Value.res_main_v39; rfl

end Reference

section Kernel
open Cert.QueryDxIdeal Cert.QueryDxIdeal.Gen

variable (m : (ℓ : Loc nD τ sig) → Buf (Elt Ideal) ℓ)

/-- The blocks that a point reads and writes. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![t.val, 0] ∧ win0_6.index t = ![t.val, 0] ∧ win0_7.index t = ![0, 0] :=
  (by decide +kernel : ∀ t : Fin grid0.N, _)

/-- The gradient at the norm's output, over the call's arguments. -/
abbrev U (c : Dev nD) : FVec Ideal S4096x1024 .f32 := refU (m ((c : Thread nD τ).loc main_arg0)) (m ((c : Thread nD τ).loc main_arg1))

/-- A point's block of it. -/
abbrev Z (c : Dev nD) (t : Fin cfg0.N) : FVec Ideal S512x1024 .f32 := k0_pay3 (F := Ideal) (iblk m c 0 t) (iblk m c 1 t)

theorem Z_at (c : Dev nD) (t : Fin cfg0.N) (r : Fin 512) (b : Fin 1024) (a : Fin 4096) (h : a.val = 512 * t.val + r.val) :
    Z m c t (ix2 r b) = U m c (ix2 a b) := by
  refine Eq.trans ?_ (refU_at _ _ a b).symm
  unfold Z k0_pay3
  pointwise
  refine Finset.sum_congr rfl fun j _ => ?_
  blk_point [iblk, V, idx t]

/-- The gradient at the input, as the kernel spells it. -/
def outX (c : Dev nD) : S4096x1024.Idx → EReal := fun i =>
  NormGrad.direct (fun j => U m c (ix2 (i 0) j)) (fun j => (m ((c : Thread nD τ).loc main_arg2) : FVec Ideal S4096x1024 .f32) (ix2 (i 0) j))
    (fun j => (m ((c : Thread nD τ).loc main_arg3) : FVec Ideal S1x1024 .f32) (ix2 0 j))
    ((m ((c : Thread nD τ).loc main_arg4) : FVec Ideal S4096x1024 .f32) (ix2 (i 0) (i 1))) (i 1)

/-- A point's block of that gradient, over the gradient at the norm's output. -/
theorem rows (x0 : Vec Ideal S512x1024 .bf16) (x1 : Vec Ideal S1024x1024 .bf16) (h d : Vec Ideal S512x1024 .f32) (g : Vec Ideal S1x1024 .f32) (r : Fin 512) (b : Fin 1024) :
    k0_pay6 (F := Ideal) x0 x1 h g d (ix2 r b)
      = NormGrad.direct (fun j => k0_pay3 (F := Ideal) x0 x1 (ix2 r j)) (fun j => h (ix2 r j)) (fun j => g (ix2 0 j)) (d (ix2 r b)) b := by
  unfold k0_pay6 k0_pay5 k0_pay4
  generalize k0_pay3 (F := Ideal) x0 x1 = Z
  pointwise [NormGrad.direct, NormGrad.square]

theorem point (c : Dev nD) (t : Fin cfg0.N) (y : S512x1024.Idx) : k0_pay6 (F := Ideal) (iblk m c 0 t) (iblk m c 1 t) (iblk m c 2 t) (iblk m c 3 t) (iblk m c 4 t) y
    = outX m c (((View.whole main_v0_0).slice (win0_5.rect t)).emb y) := by
  idx_vars y
  have ht : t.val < 8 := lt_of_lt_of_eq t.isLt N_0
  have e : (((View.whole main_v0_0).slice (win0_5.rect t)).emb (ix2 y0 y1)) = ix2 ⟨512 * t.val + y0.val, by omega⟩ y1 := by blk_ext [idx t]
  rw [e]
  refine (rows (iblk m c 0 t) (iblk m c 1 t) (iblk m c 2 t) (iblk m c 4 t) (iblk m c 3 t) y0 y1).trans ?_
  simp only [outX]
  congr 1
  · exact funext fun j => Z_at m c t y0 j _ rfl
  · funext j; blk_point [iblk, V, idx t]
  · funext j; blk_point [iblk, V, idx t]
  · blk_point [iblk, V, idx t]

theorem atX (c : Dev nD) (t : Fin cfg0.N) : (outsAt0 m c t.val t.isLt).1 = k0_pay6 (F := Ideal) (iblk m c 0 t) (iblk m c 1 t) (iblk m c 2 t) (iblk m c 3 t) (iblk m c 4 t) := by
  by_cases h0 : t.val % 8 = 0
  · rw [outsAt0_A m c t h0]; frame_out
  · rw [outsAt0_B m c t h0]; frame_out
theorem atXh (c : Dev nD) (t : Fin cfg0.N) : (outsAt0 m c t.val t.isLt).2.1 = k0_pay7 (F := Ideal) (iblk m c 0 t) (iblk m c 1 t) (iblk m c 2 t) (iblk m c 3 t) (iblk m c 4 t) := by
  by_cases h0 : t.val % 8 = 0
  · rw [outsAt0_A m c t h0]; frame_out
  · rw [outsAt0_B m c t h0]; frame_out

theorem final_x (c : Dev nD) : (dats m 0 c).arrAt 5 (cfgs 0).N = outX m c := by
  refine (dats m 0 c).arrAt_eq_of_covers 5 _ (by decide +kernel) fun t hf y => ?_
  blk_simp
  rw [after0_5, atX]
  exact point m c t y
theorem final_xh (c : Dev nD) : (dats m 0 c).arrAt 6 (cfgs 0).N = outX m c := by
  refine (dats m 0 c).arrAt_eq_of_covers 6 _ (by decide +kernel) fun t hf y => ?_
  blk_simp
  rw [after0_6, atXh]
  exact point m c t y

/-- Over real arguments that is the reference's gradient. -/
theorem outX_eq (c : Dev nD) (hu : ∀ i, Reals.IsReal (U m c i)) (hh : ∀ i, Reals.IsReal ((m ((c : Thread nD τ).loc main_arg2) : FVec Ideal S4096x1024 .f32) i))
    (hg : ∀ i, Reals.IsReal ((m ((c : Thread nD τ).loc main_arg3) : FVec Ideal S1x1024 .f32) i)) :
    outX m c = Dx.refX (m ((c : Thread nD τ).loc main_arg2)) (U m c) (m ((c : Thread nD τ).loc main_arg4)) (m ((c : Thread nD τ).loc main_arg3)) := by
  funext i
  idx_vars i
  exact (NormGrad.direct_eq_chain _ _ _ _ _ (fun j => hu _) (fun j => hh _) (fun j => hg _)).trans (NormGrad.refX_row _ _ _ _ i0 i1).symm

/-! ## The gain's gradient -/

/-- A block's addition. -/
def gainPart (Z : FVec Ideal S512x1024 .f32) (h : Vec Ideal S512x1024 .f32) (y : S1x1024.Idx) : EReal :=
  ∑ k : Fin 512, Z (ix2 k (y 1)) * (h (ix2 k (y 1)) * Ideal.rsqrt (NormGrad.square fun j => h (ix2 k j)))

/-- One point's addition. -/
abbrev gainAt (c : Dev nD) (t : Fin cfg0.N) (y : S1x1024.Idx) : EReal := gainPart (Z m c t) (iblk m c 2 t) y

theorem step (Z : FVec Ideal S512x1024 .f32) (h : Vec Ideal S512x1024 .f32) (X : Vec Ideal S1x1024 .f32) (y : S1x1024.Idx) :
    k0_pay2 (F := Ideal) Z (k0_pay5 h) X y = X y + gainPart Z h y := by
  open_payloads
  pointwise [gainPart, NormGrad.square]

theorem gainA (c : Dev nD) (t : Fin cfg0.N) (h0 : t.val % 8 = 0) (y : S1x1024.Idx) : (outsAt0 m c t.val t.isLt).2.2 y = gainAt m c t y := by
  rw [outsAt0_A m c t h0]
  frame_out
  refine (step (Z m c t) _ _ y).trans ?_
  open_payloads
  pointwise

theorem gainB (c : Dev nD) (t : Fin cfg0.N) (h0 : ¬t.val % 8 = 0) (y : S1x1024.Idx) :
    (outsAt0 m c t.val t.isLt).2.2 y = (outsAt0 m c (t.val - 1) (Nat.lt_of_le_of_lt (Nat.sub_le _ _) t.isLt)).2.2 y + gainAt m c t y := by
  rw [outsAt0_B m c t h0]
  frame_out
  exact step (Z m c t) _ _ y

/-- At the last point the window holds the sum of the eight points' additions. -/
theorem gain_sum (c : Dev nD) (t : Fin cfg0.N) (h : t.val % 8 = 8 - 1) (y : S1x1024.Idx) :
    (outsAt0 m c t.val t.isLt).2.2 y = ∑ s : Fin 8, gainAt m c ⟨8 * (t.val / 8) + s.val, Pipeline.run_point_lt_of_flush t h s⟩ y := by
  rw [Pipeline.eq_sum_fin_of_reset_step_apply_of_flush (fun n h => (outsAt0 m c n h).2.2) 8 (fun _ => (0 : EReal)) (gainAt m c)
    (fun t h y => by rw [gainA m c t h y, zero_add]) (fun t h y => gainB m c t h y) t h y, zero_add]

theorem final_gain (c : Dev nD) : (dats m 0 c).arrAt 7 (cfgs 0).N = Dx.refGain (m ((c : Thread nD τ).loc main_arg2)) (U m c) := by
  refine (dats m 0 c).arrAt_eq_of_covers 7 _ (by decide +kernel) fun t hf y => ?_
  have h7 := (flush0_7 t).mp hf
  have ht : t.val < 8 := lt_of_lt_of_eq t.isLt N_0
  blk_simp
  rw [after0_7]
  idx_vars y
  have e : (((View.whole main_v0_2).slice (win0_7.rect t)).emb (ix2 y0 y1)) = ix2 0 y1 := by blk_ext [idx t]
  rw [gain_sum m c t h7, e]
  refine Eq.trans ?_ (NormGrad.refGain_row _ _ y1).symm
  simp only [gainAt, gainPart]
  refine Fin.sum_mul_add_congr fun s k hl => ?_
  refine congrArg₂ (· * ·) (Z_at m c ⟨_, Pipeline.run_point_lt_of_flush t h7 s⟩ k y1 _ ?_) (congrArg₂ (· * ·) ?_ (congrArg (fun f => Ideal.rsqrt (NormGrad.square f)) (funext fun j => ?_)))
  · show s.val * 512 + k.val = 512 * (8 * (t.val / 8) + s.val) + k.val; omega
  all_goals blk_point [iblk, V, idx ⟨_, Pipeline.run_point_lt_of_flush t h7 s⟩]

end Kernel

end Cert.QueryNorm

end
-- ==== Proof.MixNormArrays.lean ====
/-
  The gradient of the mixers' common input through the input projection and norm, and of the norm's gain.
-/
module

public import proofs.«01_k».proof.Proof.Gen.MixInIdeal.Value
public import proofs.«01_k».proof.Proof.Gen.MixInRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.NormGradRef
public import proofs.«01_k».proof.Proof.Cover
public import proofs.«01_k».proof.Proof.MixPieces

@[expose] public section

set_option maxRecDepth 16384

noncomputable section

namespace Cert.MixNorm

open Idealize.ShloMosaic Idealize.ShloMosaic.TcCoe Idealize.SL.Sem Idealize.ShloMosaic.StableHlo
open Idealize.ShloMosaic.Pipeline (Dat)

section Reference
open Cert.MixInRefIdeal Cert.MixInRefIdeal.Gen

/-- The gradient at the norm's output, the four pieces of the projection's gradient side by side. -/
def refU (P0 : FVec Ideal S4096x512 .bf16) (P1 : FVec Ideal S4096x256 .bf16) (P2 P3 : FVec Ideal S4096x1024 .bf16) (W : FVec Ideal S2816x1024 .bf16) : FVec Ideal S4096x1024 .f32 :=
  Host.dotGeneral dot_S4096x2816_S1024x2816_S4096x1024_1_1_0_0_n_n none
    (concatenate S4096x2816 1 [⟨S4096x512, extf .f32 P0 bitsLt_bf16_f32⟩, ⟨S4096x256, extf .f32 P1 bitsLt_bf16_f32⟩,
      ⟨S4096x1024, extf .f32 P2 bitsLt_bf16_f32⟩, ⟨S4096x1024, extf .f32 P3 bitsLt_bf16_f32⟩]
      concatenates_S4096x512_S4096x256_S4096x1024_S4096x1024_S4096x2816_d1)
    (transpose S1024x2816 [1, 0] (extf .f32 W bitsLt_bf16_f32) transposes_S2816x1024_S1024x2816_1_0)

theorem refU_at (P0 : FVec Ideal S4096x512 .bf16) (P1 : FVec Ideal S4096x256 .bf16) (P2 P3 : FVec Ideal S4096x1024 .bf16) (W : FVec Ideal S2816x1024 .bf16)
    (a : Fin 4096) (b : Fin 1024) : refU P0 P1 P2 P3 W (ix2 a b) = ∑ j : Fin 2816,
      Mix.cat (fun k => P0 (ix2 a k)) (fun k => P1 (ix2 a k)) (fun k => P2 (ix2 a k)) (fun k => P3 (ix2 a k)) j * W (ix2 j b) := by
  pointwise [refU]
  exact Finset.sum_congr rfl fun j _ => by rw [Mix.cat_nest]

/-- The run's terms are the norm's gradient over it. -/
theorem run_x (m : (ℓ : Loc nD τ sig) → Buf (Elt Ideal) ℓ) (c : Dev nD) : Value.res_main_v43 m c
    = Dx.refX (m ((c.tc : Thread nD τ).loc main_arg5)) (refU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg7)) (m ((c.tc : Thread nD τ).loc main_arg6)) := by
  unfold Value.res_main_v43; rfl
theorem run_xh (m : (ℓ : Loc nD τ sig) → Buf (Elt Ideal) ℓ) (c : Dev nD) : Value.res_main_v44 m c
    = truncf .bf16 (Dx.refX (m ((c.tc : Thread nD τ).loc main_arg5)) (refU (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
      (m ((c.tc : Thread nD τ).loc main_arg7)) (m ((c.tc : Thread nD τ).loc main_arg6))) bitsLt_bf16_f32 := by
  unfold Value.res_main_v44; rfl

end Reference

section Kernel
open Cert.MixInIdeal Cert.MixInIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![t.val, 0] ∧ win0_4.index t = ![0, 0]
    ∧ win0_5.index t = ![t.val, 0] ∧ win0_6.index t = ![0, 0] ∧ win0_7.index t = ![t.val, 0] ∧ win0_8.index t = ![t.val, 0] ∧ win0_9.index t = ![t.val, 0] ∧ win0_10.index t = ![0, 0] :=
  (by decide +kernel : ∀ t : Fin grid0.N, _)

/-- The gradient at the norm's output, over the call's arguments. -/
abbrev U (c : Dev nD) : FVec Ideal S4096x1024 .f32 := refU (m ((c : Thread nD τ).loc main_arg0)) (m ((c : Thread nD τ).loc main_arg1)) (m ((c : Thread nD τ).loc main_arg2)) (m ((c : Thread nD τ).loc main_arg3)) (m ((c : Thread nD τ).loc main_arg4))

/-- A point's block of it. -/
abbrev Z (c : Dev nD) (t : Fin cfg0.N) : FVec Ideal S512x1024 .f32 :=
  k0_pay5 (F := Ideal) (iblk m c 0 t) (View.ld (iblk m c 4 t) (Rect.unit ![0, 0] ![512, 1024] inb_S2816x1024_S512x1024_0_0)) (iblk m c 1 t) (View.ld (iblk m c 4 t) (Rect.unit ![512, 0] ![256, 1024] inb_S2816x1024_S256x1024_512_0)) (iblk m c 2 t) (View.ld (iblk m c 4 t) (Rect.unit ![768, 0] ![1024, 1024] inb_S2816x1024_S1024x1024_768_0)) (iblk m c 3 t) (View.ld (iblk m c 4 t) (Rect.unit ![1792, 0] ![1024, 1024] inb_S2816x1024_S1024x1024_1792_0))

/-- The kernel adds the pieces' four products. -/
theorem pieces (x0 : Vec Ideal S512x512 .bf16) (x1 : Vec Ideal S512x1024 .bf16) (x2 : Vec Ideal S512x256 .bf16) (x3 : Vec Ideal S256x1024 .bf16) (x4 : Vec Ideal S512x1024 .bf16) (x5 : Vec Ideal S1024x1024 .bf16) (x6 : Vec Ideal S512x1024 .bf16) (x7 : Vec Ideal S1024x1024 .bf16) (r : Fin 512) (b : Fin 1024) :
    k0_pay5 (F := Ideal) x0 x1 x2 x3 x4 x5 x6 x7 (ix2 r b) = (((∑ j : Fin 512, x0 (ix2 r j) * x1 (ix2 j b)) + ∑ j : Fin 256, x2 (ix2 r j) * x3 (ix2 j b))
      + ∑ j : Fin 1024, x4 (ix2 r j) * x5 (ix2 j b)) + ∑ j : Fin 1024, x6 (ix2 r j) * x7 (ix2 j b) := by
  unfold k0_pay5
  pointwise

theorem weight (c : Dev nD) (t : Fin cfg0.N) (j : Fin 2816) (b : Fin 1024) : (iblk m c 4 t : Vec Ideal S2816x1024 .bf16) (ix2 j b)
    = (m ((c : Thread nD τ).loc main_arg4) : FVec Ideal S2816x1024 .bf16) (ix2 j b) := by
  blk_point [iblk, V, idx t]

theorem Z_at (c : Dev nD) (t : Fin cfg0.N) (r : Fin 512) (b : Fin 1024) (a : Fin 4096) (h : a.val = 512 * t.val + r.val) :
    Z m c t (ix2 r b) = U m c (ix2 a b) := by
  refine Eq.trans ?_ ((refU_at _ _ _ _ _ a b).trans (Mix.sum_cat _)).symm
  refine (pieces _ _ _ _ _ _ _ _ r b).trans (congrArg₂ (· + ·) (congrArg₂ (· + ·) (congrArg₂ (· + ·) ?_ ?_) ?_) ?_)
  all_goals refine Finset.sum_congr rfl fun j _ => congrArg₂ (· * ·) ?_ ?_
  · blk_point [iblk, V, idx t]
  · exact (box_at (iblk m c 4 t) _ j b ⟨j.val, by omega⟩ b (by simp) (by simp)).trans (weight m c t _ b)
  · blk_point [iblk, V, idx t]
  · exact (box_at (iblk m c 4 t) _ j b ⟨512 + j.val, by omega⟩ b (by simp) (by simp)).trans (weight m c t _ b)
  · blk_point [iblk, V, idx t]
  · exact (box_at (iblk m c 4 t) _ j b ⟨768 + j.val, by omega⟩ b (by simp) (by simp)).trans (weight m c t _ b)
  · blk_point [iblk, V, idx t]
  · exact (box_at (iblk m c 4 t) _ j b ⟨1792 + j.val, by omega⟩ b (by simp) (by simp)).trans (weight m c t _ b)

/-- The gradient at the input, as the kernel spells it. -/
def outX (c : Dev nD) : S4096x1024.Idx → EReal := fun i =>
  NormGrad.direct (fun j => U m c (ix2 (i 0) j)) (fun j => (m ((c : Thread nD τ).loc main_arg5) : FVec Ideal S4096x1024 .f32) (ix2 (i 0) j))
    (fun j => (m ((c : Thread nD τ).loc main_arg6) : FVec Ideal S1x1024 .f32) (ix2 0 j))
    ((m ((c : Thread nD τ).loc main_arg7) : FVec Ideal S4096x1024 .f32) (ix2 (i 0) (i 1))) (i 1)

/-- A point's block of that gradient, over the gradient at the norm's output. -/
theorem rows (x0 : Vec Ideal S512x512 .bf16) (x1 : Vec Ideal S512x1024 .bf16) (x2 : Vec Ideal S512x256 .bf16) (x3 : Vec Ideal S256x1024 .bf16) (x4 : Vec Ideal S512x1024 .bf16) (x5 : Vec Ideal S1024x1024 .bf16) (x6 : Vec Ideal S512x1024 .bf16) (x7 : Vec Ideal S1024x1024 .bf16) (h d : Vec Ideal S512x1024 .f32) (g : Vec Ideal S1x1024 .f32) (r : Fin 512) (b : Fin 1024) :
    k0_pay1 (F := Ideal) (k0_pay6 h) (k0_pay7 h) (k0_pay8 x0 x1 x2 x3 x4 x5 x6 x7 g) d (ix2 r b)
      = NormGrad.direct (fun j => k0_pay5 (F := Ideal) x0 x1 x2 x3 x4 x5 x6 x7 (ix2 r j)) (fun j => h (ix2 r j)) (fun j => g (ix2 0 j)) (d (ix2 r b)) b := by
  unfold k0_pay1 k0_pay8 k0_pay7 k0_pay6
  generalize k0_pay5 (F := Ideal) x0 x1 x2 x3 x4 x5 x6 x7 = Z
  pointwise [NormGrad.direct, NormGrad.square]

theorem point (c : Dev nD) (t : Fin cfg0.N) (y : S512x1024.Idx) : k0_pay1 (F := Ideal) (k0_pay6 (iblk m c 5 t)) (k0_pay7 (iblk m c 5 t)) (k0_pay8 (iblk m c 0 t) (View.ld (iblk m c 4 t) (Rect.unit ![0, 0] ![512, 1024] inb_S2816x1024_S512x1024_0_0)) (iblk m c 1 t) (View.ld (iblk m c 4 t) (Rect.unit ![512, 0] ![256, 1024] inb_S2816x1024_S256x1024_512_0)) (iblk m c 2 t) (View.ld (iblk m c 4 t) (Rect.unit ![768, 0] ![1024, 1024] inb_S2816x1024_S1024x1024_768_0)) (iblk m c 3 t) (View.ld (iblk m c 4 t) (Rect.unit ![1792, 0] ![1024, 1024] inb_S2816x1024_S1024x1024_1792_0)) (iblk m c 6 t)) (iblk m c 7 t) y
    = outX m c (((View.whole main_v0_0).slice (win0_8.rect t)).emb y) := by
  idx_vars y
  have ht : t.val < 8 := lt_of_lt_of_eq t.isLt N_0
  have e : (((View.whole main_v0_0).slice (win0_8.rect t)).emb (ix2 y0 y1)) = ix2 ⟨512 * t.val + y0.val, by omega⟩ y1 := by blk_ext [idx t]
  rw [e]
  refine (rows (iblk m c 0 t) (View.ld (iblk m c 4 t) (Rect.unit ![0, 0] ![512, 1024] inb_S2816x1024_S512x1024_0_0)) (iblk m c 1 t) (View.ld (iblk m c 4 t) (Rect.unit ![512, 0] ![256, 1024] inb_S2816x1024_S256x1024_512_0)) (iblk m c 2 t) (View.ld (iblk m c 4 t) (Rect.unit ![768, 0] ![1024, 1024] inb_S2816x1024_S1024x1024_768_0)) (iblk m c 3 t) (View.ld (iblk m c 4 t) (Rect.unit ![1792, 0] ![1024, 1024] inb_S2816x1024_S1024x1024_1792_0)) (iblk m c 5 t) (iblk m c 7 t) (iblk m c 6 t) y0 y1).trans ?_
  simp only [outX]
  congr 1
  · exact funext fun j => Z_at m c t y0 j _ rfl
  · funext j; blk_point [iblk, V, idx t]
  · funext j; blk_point [iblk, V, idx t]
  · blk_point [iblk, V, idx t]

theorem atX (c : Dev nD) (t : Fin cfg0.N) : (outsAt0 m c t.val t.isLt).1 = k0_pay1 (F := Ideal) (k0_pay6 (iblk m c 5 t)) (k0_pay7 (iblk m c 5 t)) (k0_pay8 (iblk m c 0 t) (View.ld (iblk m c 4 t) (Rect.unit ![0, 0] ![512, 1024] inb_S2816x1024_S512x1024_0_0)) (iblk m c 1 t) (View.ld (iblk m c 4 t) (Rect.unit ![512, 0] ![256, 1024] inb_S2816x1024_S256x1024_512_0)) (iblk m c 2 t) (View.ld (iblk m c 4 t) (Rect.unit ![768, 0] ![1024, 1024] inb_S2816x1024_S1024x1024_768_0)) (iblk m c 3 t) (View.ld (iblk m c 4 t) (Rect.unit ![1792, 0] ![1024, 1024] inb_S2816x1024_S1024x1024_1792_0)) (iblk m c 6 t)) (iblk m c 7 t) := by
  by_cases h0 : t.val % 8 = 0
  · rw [outsAt0_A m c t h0]; frame_out; rfl
  · rw [outsAt0_B m c t h0]; frame_out; rfl
theorem atXh (c : Dev nD) (t : Fin cfg0.N) : (outsAt0 m c t.val t.isLt).2.1 = k0_pay2 (F := Ideal) (k0_pay6 (iblk m c 5 t)) (k0_pay7 (iblk m c 5 t)) (k0_pay8 (iblk m c 0 t) (View.ld (iblk m c 4 t) (Rect.unit ![0, 0] ![512, 1024] inb_S2816x1024_S512x1024_0_0)) (iblk m c 1 t) (View.ld (iblk m c 4 t) (Rect.unit ![512, 0] ![256, 1024] inb_S2816x1024_S256x1024_512_0)) (iblk m c 2 t) (View.ld (iblk m c 4 t) (Rect.unit ![768, 0] ![1024, 1024] inb_S2816x1024_S1024x1024_768_0)) (iblk m c 3 t) (View.ld (iblk m c 4 t) (Rect.unit ![1792, 0] ![1024, 1024] inb_S2816x1024_S1024x1024_1792_0)) (iblk m c 6 t)) (iblk m c 7 t) := by
  by_cases h0 : t.val % 8 = 0
  · rw [outsAt0_A m c t h0]; frame_out; rfl
  · rw [outsAt0_B m c t h0]; frame_out; rfl

theorem final_x (c : Dev nD) : (dats m 0 c).arrAt 8 (cfgs 0).N = outX m c := by
  refine (dats m 0 c).arrAt_eq_of_covers 8 _ (by decide +kernel) fun t hf y => ?_
  blk_simp
  rw [after0_8, atX]
  exact point m c t y
theorem final_xh (c : Dev nD) : (dats m 0 c).arrAt 9 (cfgs 0).N = outX m c := by
  refine (dats m 0 c).arrAt_eq_of_covers 9 _ (by decide +kernel) fun t hf y => ?_
  blk_simp
  rw [after0_9, atXh]
  exact point m c t y

/-- Over real arguments that is the reference's gradient. -/
theorem outX_eq (c : Dev nD) (hu : ∀ i, Reals.IsReal (U m c i)) (hh : ∀ i, Reals.IsReal ((m ((c : Thread nD τ).loc main_arg5) : FVec Ideal S4096x1024 .f32) i))
    (hg : ∀ i, Reals.IsReal ((m ((c : Thread nD τ).loc main_arg6) : FVec Ideal S1x1024 .f32) i)) :
    outX m c = Dx.refX (m ((c : Thread nD τ).loc main_arg5)) (U m c) (m ((c : Thread nD τ).loc main_arg7)) (m ((c : Thread nD τ).loc main_arg6)) := by
  funext i
  idx_vars i
  exact (NormGrad.direct_eq_chain _ _ _ _ _ (fun j => hu _) (fun j => hh _) (fun j => hg _)).trans (NormGrad.refX_row _ _ _ _ i0 i1).symm

/-! ## The gain's gradient -/

/-- A block's addition. -/
def gainPart (Z : FVec Ideal S512x1024 .f32) (h : Vec Ideal S512x1024 .f32) (y : S1x1024.Idx) : EReal :=
  ∑ k : Fin 512, Z (ix2 k (y 1)) * (h (ix2 k (y 1)) * Ideal.rsqrt (NormGrad.square fun j => h (ix2 k j)))

/-- One point's addition. -/
abbrev gainAt (c : Dev nD) (t : Fin cfg0.N) (y : S1x1024.Idx) : EReal := gainPart (Z m c t) (iblk m c 5 t) y

theorem step (Z : FVec Ideal S512x1024 .f32) (h : Vec Ideal S512x1024 .f32) (X : Vec Ideal S1x1024 .f32) (y : S1x1024.Idx) :
    k0_pay4 (F := Ideal) Z (k0_pay7 h) X y = X y + gainPart Z h y := by
  open_payloads
  pointwise [gainPart, NormGrad.square]

theorem gainA (c : Dev nD) (t : Fin cfg0.N) (h0 : t.val % 8 = 0) (y : S1x1024.Idx) : (outsAt0 m c t.val t.isLt).2.2 y = gainAt m c t y := by
  rw [outsAt0_A m c t h0]
  frame_out
  refine (step (Z m c t) _ _ y).trans ?_
  open_payloads
  pointwise

theorem gainB (c : Dev nD) (t : Fin cfg0.N) (h0 : ¬t.val % 8 = 0) (y : S1x1024.Idx) :
    (outsAt0 m c t.val t.isLt).2.2 y = (outsAt0 m c (t.val - 1) (Nat.lt_of_le_of_lt (Nat.sub_le _ _) t.isLt)).2.2 y + gainAt m c t y := by
  rw [outsAt0_B m c t h0]
  frame_out
  exact step (Z m c t) _ _ y

/-- At the last point the window holds the sum of the eight points' additions. -/
theorem gain_sum (c : Dev nD) (t : Fin cfg0.N) (h : t.val % 8 = 8 - 1) (y : S1x1024.Idx) :
    (outsAt0 m c t.val t.isLt).2.2 y = ∑ s : Fin 8, gainAt m c ⟨8 * (t.val / 8) + s.val, Pipeline.run_point_lt_of_flush t h s⟩ y := by
  rw [Pipeline.eq_sum_fin_of_reset_step_apply_of_flush (fun n h => (outsAt0 m c n h).2.2) 8 (fun _ => (0 : EReal)) (gainAt m c)
    (fun t h y => by rw [gainA m c t h y, zero_add]) (fun t h y => gainB m c t h y) t h y, zero_add]

theorem final_gain (c : Dev nD) : (dats m 0 c).arrAt 10 (cfgs 0).N = Dx.refGain (m ((c : Thread nD τ).loc main_arg5)) (U m c) := by
  refine (dats m 0 c).arrAt_eq_of_covers 10 _ (by decide +kernel) fun t hf y => ?_
  have h7 := (flush0_10 t).mp hf
  have ht : t.val < 8 := lt_of_lt_of_eq t.isLt N_0
  blk_simp
  rw [after0_10]
  idx_vars y
  have e : (((View.whole main_v0_2).slice (win0_10.rect t)).emb (ix2 y0 y1)) = ix2 0 y1 := by blk_ext [idx t]
  rw [gain_sum m c t h7, e]
  refine Eq.trans ?_ (NormGrad.refGain_row _ _ y1).symm
  simp only [gainAt, gainPart]
  refine Fin.sum_mul_add_congr fun s k hl => ?_
  refine congrArg₂ (· * ·) (Z_at m c ⟨_, Pipeline.run_point_lt_of_flush t h7 s⟩ k y1 _ ?_) (congrArg₂ (· * ·) ?_ (congrArg (fun f => Ideal.rsqrt (NormGrad.square f)) (funext fun j => ?_)))
  · show s.val * 512 + k.val = 512 * (8 * (t.val / 8) + s.val) + k.val; omega
  all_goals blk_point [iblk, V, idx ⟨_, Pipeline.run_point_lt_of_flush t h7 s⟩]

end Kernel

end Cert.MixNorm

end
-- ==== Proof.NormClaims.lean ====
/-
  The value claims of the two gradients through a projection and a norm, over finite arguments.
-/
module

public import proofs.«01_k».proof.Defs
public import proofs.«01_k».proof.Proof.Finite
public import proofs.«01_k».proof.Proof.Gen.Pre_finite_mix
public import proofs.«01_k».proof.Proof.Gen.Pre_finite_qdx
public import proofs.«01_k».proof.Proof.QueryNormArrays
public import proofs.«01_k».proof.Proof.MixNormArrays

@[expose] public section

set_option maxRecDepth 16384

noncomputable section

open Idealize.ShloMosaic Idealize.ShloMosaic.TcCoe Idealize.SL.Sem

/-- Real pieces side by side are real. -/
theorem Cert.Mix.cat_real {p0 : Fin 512 → EReal} {p1 : Fin 256 → EReal} {p2 p3 : Fin 1024 → EReal} {a : Fin 2816} (h0 : ∀ x, Cert.Reals.IsReal (p0 x))
    (h1 : ∀ x, Cert.Reals.IsReal (p1 x)) (h2 : ∀ x, Cert.Reals.IsReal (p2 x)) (h3 : ∀ x, Cert.Reals.IsReal (p3 x)) :
    Cert.Reals.IsReal (Cert.Mix.cat p0 p1 p2 p3 a) := by
  unfold Cert.Mix.cat
  split_ifs
  exacts [h0 _, h1 _, h2 _, h3 _]

namespace Cert.QueryNorm

/-- The gradient of the attention's input, and of its norm's gain. -/
theorem algebraic : Cert.algebraic_QueryDxIdeal_QueryDxRefIdeal_pre_finite_qdx := fun m ρ m' ρ' hpre hag =>
  ⟨_, _, _, (θ_run _ _ _).mono (fun _ h c => by
      obtain ⟨p0, p1, p2, p3, p4⟩ := hpre c
      have e := outX_eq m c (fun i => by
        idx_vars i
        refine (congrArg Reals.IsReal (refU_at _ _ i0 i1)).mpr (Reals.IsReal.sum _ fun j => ((Reals.real_of_finite _ _ (fun _ => Reals.ofBits_inf_bf16) p0) _).mul ((Reals.real_of_finite _ _ (fun _ => Reals.ofBits_inf_bf16) p1) _)))
        (Reals.real_of_finite _ _ (fun _ => Reals.ofBits_inf_f32) p2) (Reals.real_of_finite _ _ (fun _ => Reals.ofBits_inf_f32) p3)
      exact ⟨(h c).1.trans ((final_x m c).trans e), (h c).2.1.trans ((final_xh m c).trans e),
        (h c).2.2.1.trans (final_gain m c), (h c).2.2.2⟩) (QueryDxIdeal.Value.run_blocks m ρ),
    (θ_run _ _ _).mono (fun _ h c => by
      obtain ⟨a0, a1, a2, a3, a4⟩ := hag c
      exact ⟨(h c).1.trans (by rw [run_x, a0, a1, a2, a3, a4]), (h c).2.1.trans (by rw [run_xh, a0, a1, a2, a3, a4]; rfl),
        (h c).2.2.1.trans (by rw [a0, a1, a2]; rfl), (h c).2.2.2⟩) (QueryDxRefIdeal.Value.run m' ρ')⟩

end Cert.QueryNorm

namespace Cert.MixNorm

/-- The gradient of the mixers' input, and of its norm's gain. -/
theorem algebraic : Cert.algebraic_MixInIdeal_MixInRefIdeal_pre_finite_mix := fun m ρ m' ρ' hpre hag =>
  ⟨_, _, _, (θ_run _ _ _).mono (fun _ h c => by
      obtain ⟨p0, p1, p2, p3, p4, p5, p6, p7⟩ := hpre c
      have e := outX_eq m c (fun i => by
        idx_vars i
        refine (congrArg Reals.IsReal (refU_at _ _ _ _ _ i0 i1)).mpr (Reals.IsReal.sum _ fun j => (Mix.cat_real (fun _ => (Reals.real_of_finite _ _ (fun _ => Reals.ofBits_inf_bf16) p0) _) (fun _ => (Reals.real_of_finite _ _ (fun _ => Reals.ofBits_inf_bf16) p1) _) (fun _ => (Reals.real_of_finite _ _ (fun _ => Reals.ofBits_inf_bf16) p2) _) (fun _ => (Reals.real_of_finite _ _ (fun _ => Reals.ofBits_inf_bf16) p3) _)).mul ((Reals.real_of_finite _ _ (fun _ => Reals.ofBits_inf_bf16) p4) _)))
        (Reals.real_of_finite _ _ (fun _ => Reals.ofBits_inf_f32) p5) (Reals.real_of_finite _ _ (fun _ => Reals.ofBits_inf_f32) p6)
      exact ⟨(h c).1.trans ((final_x m c).trans e), (h c).2.1.trans ((final_xh m c).trans e),
        (h c).2.2.1.trans (final_gain m c), (h c).2.2.2⟩) (MixInIdeal.Value.run_blocks m ρ),
    (θ_run _ _ _).mono (fun _ h c => by
      obtain ⟨a0, a1, a2, a3, a4, a5, a6, a7⟩ := hag c
      exact ⟨(h c).1.trans (by rw [run_x, a0, a1, a2, a3, a4, a5, a6, a7]), (h c).2.1.trans (by rw [run_xh, a0, a1, a2, a3, a4, a5, a6, a7]; rfl),
        (h c).2.2.1.trans (by rw [a0, a1, a2, a3, a4, a5]; rfl), (h c).2.2.2⟩) (MixInRefIdeal.Value.run m' ρ')⟩

end Cert.MixNorm

end
-- ==== Proof.GateMath.lean ====
/-
  The gated merge of the two mixers at one row and column, and its gradients; and the kernel's loads of one quarter of
  the columns, which see the same numbers.
-/
module

public import proofs.«01_k».proof.Proof.Cover
public import Idealize.ShloMosaic.Lib.Pointwise

@[expose] public section

set_option maxRecDepth 16384

noncomputable section

namespace Cert.Gate

open Idealize.ShloMosaic

/-- The logistic function. -/
def sig (v : EReal) : EReal := Ideal.div 1 (1 + Ideal.exp (-v))

section
variable {n p : ℕ} (X0 : Vec Ideal ⟨2, ![n, 512]⟩ .bf16) (X1 : Vec Ideal ⟨2, ![n, 256]⟩ .bf16) (Q : Vec Ideal ⟨2, ![n, 2816]⟩ .f32)
  (D : Vec Ideal ⟨2, ![n, 1024]⟩ .bf16) (Wp : Vec Ideal ⟨2, ![512, 1024]⟩ .bf16) (Wv Wg : Vec Ideal ⟨2, ![256, 1024]⟩ .bf16) (r : Fin n) (b : Fin 1024)

/-- A row times a column. -/
def product (X : Vec Ideal ⟨2, ![n, p]⟩ .bf16) (W : Vec Ideal ⟨2, ![p, 1024]⟩ .bf16) : EReal := ∑ j : Fin p, X (ix2 r j) * W (ix2 j b)

/-- The two gates: the projection's last two widths. -/
def gPool : EReal := sig (Q (ix2 r ⟨768 + b.val, by omega⟩))
def gSsm : EReal := sig (Q (ix2 r ⟨1792 + b.val, by omega⟩))

/-- The merged output. -/
def merged : EReal := gPool Q r b * product r b X0 Wp + gSsm Q r b * product r b X1 Wv * sig (product r b X1 Wg)

/-- The gradients of the two gates and of the three products. -/
def dPool : EReal := D (ix2 r b) * product r b X0 Wp * gPool Q r b * (1 - gPool Q r b)
def dSsm : EReal := D (ix2 r b) * product r b X1 Wv * sig (product r b X1 Wg) * gSsm Q r b * (1 - gSsm Q r b)
def dZp : EReal := D (ix2 r b) * gPool Q r b
def dZv : EReal := D (ix2 r b) * gSsm Q r b * sig (product r b X1 Wg)
def dZg : EReal := D (ix2 r b) * gSsm Q r b * product r b X1 Wv * sig (product r b X1 Wg) * (1 - sig (product r b X1 Wg))

end

/-- Three weights one under the other, at a row of the whole. -/
def stacked (Wp : Vec Ideal ⟨2, ![512, 1024]⟩ .bf16) (Wv Wg : Vec Ideal ⟨2, ![256, 1024]⟩ .bf16) (j b : Fin 1024) : EReal :=
  if h : j.val < 512 then Wp (ix2 ⟨j.val, h⟩ b) else if h : j.val - 512 < 256 then Wv (ix2 ⟨j.val - 512, h⟩ b)
  else Wg (ix2 ⟨j.val - 512 - 256, by omega⟩ b)

section
variable (Wp : Vec Ideal ⟨2, ![512, 1024]⟩ .bf16) (Wv Wg : Vec Ideal ⟨2, ![256, 1024]⟩ .bf16) (j b : Fin 1024)

theorem stacked_pool (i : Fin 512) (h : j.val = i.val) : stacked Wp Wv Wg j b = Wp (ix2 i b) := by
  rw [stacked, dif_pos (by omega)]; exact congrArg (fun i => Wp (ix2 i b)) (Fin.ext h)
theorem stacked_val (i : Fin 256) (h : j.val = 512 + i.val) : stacked Wp Wv Wg j b = Wv (ix2 i b) := by
  rw [stacked, dif_neg (by omega), dif_pos (by omega)]; exact congrArg (fun i => Wv (ix2 i b)) (Fin.ext (by show j.val - 512 = i.val; omega))
theorem stacked_glu (i : Fin 256) (h : j.val = 768 + i.val) : stacked Wp Wv Wg j b = Wg (ix2 i b) := by
  rw [stacked, dif_neg (by omega), dif_neg (by omega)]; exact congrArg (fun i => Wg (ix2 i b)) (Fin.ext (by show j.val - 512 - 256 = i.val; omega))
end

/-- A slab of a stack of matrices, read at an index. -/
theorem slab_at {n0 n1 n2 s1 s2 o0 o1 o2 : ℕ} {e : EltTy} (X : Vec Ideal ⟨3, ![n0, n1, n2]⟩ e)
    (inb : ∀ a, (![o0, o1, o2] : Fin 3 → ℕ) a + (![1, s1, s2] : Fin 3 → ℕ) a ≤ (⟨3, ![n0, n1, n2]⟩ : Shape).size a)
    (j : Fin s1) (k : Fin s2) (i0 : Fin n0) (i1 : Fin n1) (i2 : Fin n2) (h0 : i0.val = o0) (h1 : i1.val = o1 + j.val) (h2 : i2.val = o2 + k.val) :
    View.ld (Val := Elt Ideal) X (Rect.unit (s := ⟨3, ![n0, n1, n2]⟩) ![o0, o1, o2] ![1, s1, s2] inb) (ix3 0 j k) = X (ix3 i0 i1 i2) := by
  refine congrArg X (funext fun a => Fin.ext ?_)
  refine (ValueKit.rect_emb_unit_val _ _ inb (ix3 0 j k) a).trans ?_
  match a with
  | 0 => exact h0.symm
  | 1 => exact h1.symm
  | 2 => exact h2.symm

/-- What one quarter's loads `v0 … gs` see at row `r` and column `k`: the blocks at row `r` and column `b` of the whole width. -/
structure Parts (X0 : Vec Ideal ⟨2, ![512, 512]⟩ .bf16) (X1 : Vec Ideal ⟨2, ![512, 256]⟩ .bf16) (Q : Vec Ideal ⟨2, ![512, 2816]⟩ .f32)
    (Wp : Vec Ideal ⟨2, ![512, 1024]⟩ .bf16) (Wv Wg : Vec Ideal ⟨2, ![256, 1024]⟩ .bf16)
    (v0 : Vec Ideal ⟨2, ![512, 512]⟩ .bf16) (v1 : Vec Ideal ⟨2, ![512, 256]⟩ .bf16) (wp : Vec Ideal ⟨3, ![1, 512, 256]⟩ .bf16)
    (wv wg : Vec Ideal ⟨3, ![1, 256, 256]⟩ .bf16) (gp gs : Vec Ideal ⟨2, ![512, 256]⟩ .f32) (r : Fin 512) (k : Fin 256) (b : Fin 1024) : Prop where
  ms : ∀ j, v0 (ix2 r j) = X0 (ix2 r j)
  ys : ∀ j, v1 (ix2 r j) = X1 (ix2 r j)
  pool : ∀ j, wp (ix3 0 j k) = Wp (ix2 j b)
  val : ∀ j, wv (ix3 0 j k) = Wv (ix2 j b)
  glu : ∀ j, wg (ix3 0 j k) = Wg (ix2 j b)
  gateP : gp (ix2 r k) = Q (ix2 r ⟨768 + b.val, by omega⟩)
  gateS : gs (ix2 r k) = Q (ix2 r ⟨1792 + b.val, by omega⟩)

/-- The quarter that begins at column `o`, from the whole stack `W` of the quarters' weights. -/
theorem parts (X0 : Vec Ideal ⟨2, ![512, 512]⟩ .bf16) (X1 : Vec Ideal ⟨2, ![512, 256]⟩ .bf16) (Q : Vec Ideal ⟨2, ![512, 2816]⟩ .f32)
    (Wp : Vec Ideal ⟨2, ![512, 1024]⟩ .bf16) (Wv Wg : Vec Ideal ⟨2, ![256, 1024]⟩ .bf16) (W : Vec Ideal ⟨3, ![4, 1024, 256]⟩ .bf16)
    (hW : ∀ (s : Fin 4) (j : Fin 1024) (k : Fin 256), W (ix3 s j k) = stacked Wp Wv Wg j ⟨s.val * 256 + k.val, by omega⟩)
    {s op os : ℕ} (hs : s < 4) (hop : op = 768 + 256 * s) (hos : os = 1792 + 256 * s) (i0 i1 ip iv ig ia ib)
    (r : Fin 512) (k : Fin 256) (b : Fin 1024) (hb : b.val = 256 * s + k.val) :
    Parts X0 X1 Q Wp Wv Wg (View.ld (Val := Elt Ideal) X0 (Rect.unit (s := ⟨2, ![512, 512]⟩) ![0, 0] ![512, 512] i0)) (View.ld (Val := Elt Ideal) X1 (Rect.unit (s := ⟨2, ![512, 256]⟩) ![0, 0] ![512, 256] i1))
      (View.ld (Val := Elt Ideal) W (Rect.unit (s := ⟨3, ![4, 1024, 256]⟩) ![s, 0, 0] ![1, 512, 256] ip)) (View.ld (Val := Elt Ideal) W (Rect.unit (s := ⟨3, ![4, 1024, 256]⟩) ![s, 512, 0] ![1, 256, 256] iv))
      (View.ld (Val := Elt Ideal) W (Rect.unit (s := ⟨3, ![4, 1024, 256]⟩) ![s, 768, 0] ![1, 256, 256] ig))
      (View.ld (Val := Elt Ideal) Q (Rect.unit (s := ⟨2, ![512, 2816]⟩) ![0, op] ![512, 256] ia)) (View.ld (Val := Elt Ideal) Q (Rect.unit (s := ⟨2, ![512, 2816]⟩) ![0, os] ![512, 256] ib)) r k b := by
  have hk : b = ⟨s * 256 + k.val, by omega⟩ := Fin.ext (by show b.val = s * 256 + k.val; omega)
  subst hop hos
  exact {
    ms := fun j => box_at X0 i0 r j r j (by omega) (by omega)
    ys := fun j => box_at X1 i1 r j r j (by omega) (by omega)
    pool := fun j => ((slab_at W ip j k ⟨s, hs⟩ ⟨j.val, by omega⟩ k rfl (by show j.val = 0 + j.val; omega) (by omega)).trans (hW _ _ _)).trans
      ((stacked_pool _ _ _ _ _ j rfl).trans (congrArg (fun q => Wp (ix2 j q)) hk.symm))
    val := fun j => ((slab_at W iv j k ⟨s, hs⟩ ⟨512 + j.val, by omega⟩ k rfl rfl (by omega)).trans (hW _ _ _)).trans
      ((stacked_val _ _ _ _ _ j rfl).trans (congrArg (fun q => Wv (ix2 j q)) hk.symm))
    glu := fun j => ((slab_at W ig j k ⟨s, hs⟩ ⟨768 + j.val, by omega⟩ k rfl rfl (by omega)).trans (hW _ _ _)).trans
      ((stacked_glu _ _ _ _ _ j rfl).trans (congrArg (fun q => Wg (ix2 j q)) hk.symm))
    gateP := box_at Q ia r k r ⟨768 + b.val, by omega⟩ (by omega) (by show 768 + b.val = 768 + 256 * s + k.val; omega)
    gateS := box_at Q ib r k r ⟨1792 + b.val, by omega⟩ (by omega) (by show 1792 + b.val = 1792 + 256 * s + k.val; omega) }

end Cert.Gate

end
-- ==== Proof.MergeArrays.lean ====
/-
  The gradient of the gated merge: the reference at a position, each point's four quarters of the columns, and the five arrays.
-/
module

public import proofs.«01_k».proof.Proof.Gen.MergeIdeal.Value
public import proofs.«01_k».proof.Proof.Gen.MergeRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.GateMath

@[expose] public section

set_option maxRecDepth 16384

noncomputable section

namespace Cert.GateGrad

open Idealize.ShloMosaic Idealize.ShloMosaic.TcCoe Idealize.SL.Sem Idealize.ShloMosaic.StableHlo
open Idealize.ShloMosaic.Pipeline (Dat)

section Reference
open Cert.MergeRefIdeal Cert.MergeRefIdeal.Gen

/-- The reference's sigmoid. -/
def sg (X : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf X)))

/-- Its derivative, over its value. -/
def sgPrime (S : FVec Ideal S4096x1024 .f32) : FVec Ideal S4096x1024 .f32 :=
  mulf S (subf (broadcastInDim S4096x1024 ![] bcast_S_S4096x1024 (constant S_ .f32 0x3F800000#32)) S)

abbrev poolGate (Q : FVec Ideal S4096x2816 .f32) := sg (extractStridedSlice S4096x1024 ![0, 768] Q slices_S4096x2816_S4096x1024_0_768)
abbrev scanGate (Q : FVec Ideal S4096x2816 .f32) := sg (extractStridedSlice S4096x1024 ![0, 1792] Q slices_S4096x2816_S4096x1024_0_1792)
abbrev dm (D : FVec Ideal S4096x1024 .bf16) : FVec Ideal S4096x1024 .f32 := extf .f32 D bitsLt_bf16_f32
abbrev poolDot (X : FVec Ideal S4096x512 .bf16) (W : FVec Ideal S512x1024 .bf16) : FVec Ideal S4096x1024 .f32 :=
  Host.dotGeneral dot_S4096x512_S512x1024_S4096x1024_1_0_0_1_n_n none (extf .f32 X bitsLt_bf16_f32) (extf .f32 W bitsLt_bf16_f32)
abbrev scanDot (X : FVec Ideal S4096x256 .bf16) (W : FVec Ideal S256x1024 .bf16) : FVec Ideal S4096x1024 .f32 :=
  Host.dotGeneral dot_S4096x256_S256x1024_S4096x1024_1_0_0_1_n_n none (extf .f32 X bitsLt_bf16_f32) (extf .f32 W bitsLt_bf16_f32)

variable (X0 : FVec Ideal S4096x512 .bf16) (X1 : FVec Ideal S4096x256 .bf16) (Q : FVec Ideal S4096x2816 .f32) (D : FVec Ideal S4096x1024 .bf16)
  (Wp : FVec Ideal S512x1024 .bf16) (Wv Wg : FVec Ideal S256x1024 .bf16)

theorem pool_eq : truncf .bf16 (mulf (mulf (dm D) (poolDot X0 Wp)) (sgPrime (poolGate Q))) bitsLt_bf16_f32 = fun i : S4096x1024.Idx => Gate.dPool X0 Q D Wp (i 0) (i 1) := by
  funext i
  idx_vars i
  pointwise [sgPrime, sg, Gate.dPool, Gate.product, Gate.gPool, Gate.sig]
  ac_rfl

theorem scan_eq : truncf .bf16 (mulf (mulf (dm D) (mulf (scanDot X1 Wv) (sg (scanDot X1 Wg)))) (sgPrime (scanGate Q))) bitsLt_bf16_f32 = fun i : S4096x1024.Idx => Gate.dSsm X1 Q D Wv Wg (i 0) (i 1) := by
  funext i
  idx_vars i
  pointwise [sgPrime, sg, Gate.dSsm, Gate.product, Gate.gSsm, Gate.sig]
  ac_rfl

theorem zPool_eq : truncf .bf16 (mulf (poolGate Q) (dm D)) bitsLt_bf16_f32 = fun i : S4096x1024.Idx => Gate.dZp Q D (i 0) (i 1) := by
  funext i
  idx_vars i
  pointwise [sgPrime, sg, Gate.dZp, Gate.gPool, Gate.sig]
  ac_rfl

theorem zVal_eq : truncf .bf16 (mulf (mulf (scanGate Q) (dm D)) (sg (scanDot X1 Wg))) bitsLt_bf16_f32 = fun i : S4096x1024.Idx => Gate.dZv X1 Q D Wg (i 0) (i 1) := by
  funext i
  idx_vars i
  pointwise [sgPrime, sg, Gate.dZv, Gate.product, Gate.gSsm, Gate.sig]
  ac_rfl

theorem zGlu_eq : truncf .bf16 (mulf (mulf (scanDot X1 Wv) (mulf (scanGate Q) (dm D))) (sgPrime (sg (scanDot X1 Wg)))) bitsLt_bf16_f32 = fun i : S4096x1024.Idx => Gate.dZg X1 Q D Wv Wg (i 0) (i 1) := by
  funext i
  idx_vars i
  pointwise [sgPrime, sg, Gate.dZg, Gate.product, Gate.gSsm, Gate.sig]
  ac_rfl

end Reference

section Kernel
open Cert.MergeIdeal Cert.MergeIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![0, 0, 0] ∧ win0_3.index t = ![t.val, 0]
    ∧ win0_4.index t = ![t.val, 0] ∧ win0_5.index t = ![t.val, 0] ∧ win0_6.index t = ![t.val, 0] ∧ win0_7.index t = ![t.val, 0] ∧ win0_8.index t = ![t.val, 0]
    ∧ win0_9.index t = ![t.val, 0] :=
  (by decide +kernel : ∀ t : Fin grid0.N, _)

/-- The stack of the quarters' weights that the kernel reads, over the call's three weights. -/
theorem stack (c : Dev nD) (t : Fin cfg0.N) (s : Fin 4) (j : Fin 1024) (k : Fin 256) : (iblk m c 2 t : Vec Ideal S4x1024x256 .bf16) (ix3 s j k)
    = Gate.stacked (m ((c : Thread nD τ).loc main_arg2)) (m ((c : Thread nD τ).loc main_arg3)) (m ((c : Thread nD τ).loc main_arg4)) j ⟨s.val * 256 + k.val, by omega⟩ := by
  blk_simp [iblk, V]
  entry_read
  pointwise
  unfold Gate.stacked
  blk_simp [idx t]

/-- What a quarter's loads are of. -/
abbrev Loads (c : Dev nD) (t : Fin cfg0.N) := Gate.Parts (iblk m c 0 t) (iblk m c 1 t) (iblk m c 3 t) (m ((c : Thread nD τ).loc main_arg2)) (m ((c : Thread nD τ).loc main_arg3)) (m ((c : Thread nD τ).loc main_arg4))
theorem loads0 (c : Dev nD) (t : Fin cfg0.N) (x : S512x256.Idx) (y : S512x1024.Idx) (h : (y 1).val = 0 + (x 1).val) :
    Loads m c t (View.ld (iblk m c 0 t) r0_0) (View.ld (iblk m c 1 t) r0_1) (View.ld (iblk m c 2 t) r0_2) (View.ld (iblk m c 2 t) r0_3) (View.ld (iblk m c 2 t) r0_4)
      (View.ld (iblk m c 3 t) r0_5) (View.ld (iblk m c 3 t) r0_6) (y 0) (x 1) (y 1) :=
  Gate.parts _ _ _ _ _ _ _ (stack m c t) (s := 0) (by omega) rfl rfl _ _ _ _ _ _ _ _ _ _ h
theorem loads1 (c : Dev nD) (t : Fin cfg0.N) (x : S512x256.Idx) (y : S512x1024.Idx) (h : (y 1).val = 256 + (x 1).val) :
    Loads m c t (View.ld (iblk m c 0 t) r0_0) (View.ld (iblk m c 1 t) r0_1) (View.ld (iblk m c 2 t) r0_8) (View.ld (iblk m c 2 t) r0_9) (View.ld (iblk m c 2 t) r0_10)
      (View.ld (iblk m c 3 t) r0_11) (View.ld (iblk m c 3 t) r0_12) (y 0) (x 1) (y 1) :=
  Gate.parts _ _ _ _ _ _ _ (stack m c t) (s := 1) (by omega) rfl rfl _ _ _ _ _ _ _ _ _ _ h
theorem loads2 (c : Dev nD) (t : Fin cfg0.N) (x : S512x256.Idx) (y : S512x1024.Idx) (h : (y 1).val = 512 + (x 1).val) :
    Loads m c t (View.ld (iblk m c 0 t) r0_0) (View.ld (iblk m c 1 t) r0_1) (View.ld (iblk m c 2 t) r0_14) (View.ld (iblk m c 2 t) r0_15) (View.ld (iblk m c 2 t) r0_16)
      (View.ld (iblk m c 3 t) r0_17) (View.ld (iblk m c 3 t) r0_18) (y 0) (x 1) (y 1) :=
  Gate.parts _ _ _ _ _ _ _ (stack m c t) (s := 2) (by omega) rfl rfl _ _ _ _ _ _ _ _ _ _ h
theorem loads3 (c : Dev nD) (t : Fin cfg0.N) (x : S512x256.Idx) (y : S512x1024.Idx) (h : (y 1).val = 768 + (x 1).val) :
    Loads m c t (View.ld (iblk m c 0 t) r0_0) (View.ld (iblk m c 1 t) r0_1) (View.ld (iblk m c 2 t) r0_20) (View.ld (iblk m c 2 t) r0_21) (View.ld (iblk m c 2 t) r0_22)
      (View.ld (iblk m c 3 t) r0_23) (View.ld (iblk m c 3 t) r0_24) (y 0) (x 1) (y 1) :=
  Gate.parts _ _ _ _ _ _ _ (stack m c t) (s := 3) (by omega) rfl rfl _ _ _ _ _ _ _ _ _ _ h
theorem grad0 (c : Dev nD) (t : Fin cfg0.N) (x : S512x256.Idx) (y : S512x1024.Idx) (h : (y 1).val = 0 + (x 1).val) :
    View.ld (iblk m c 4 t) r0_7 (ix2 (y 0) (x 1)) = (iblk m c 4 t : Vec Ideal S512x1024 .bf16) (ix2 (y 0) (y 1)) :=
  box_at (iblk m c 4 t) _ (y 0) (x 1) (y 0) (y 1) (Nat.zero_add _).symm h
theorem grad1 (c : Dev nD) (t : Fin cfg0.N) (x : S512x256.Idx) (y : S512x1024.Idx) (h : (y 1).val = 256 + (x 1).val) :
    View.ld (iblk m c 4 t) r0_13 (ix2 (y 0) (x 1)) = (iblk m c 4 t : Vec Ideal S512x1024 .bf16) (ix2 (y 0) (y 1)) :=
  box_at (iblk m c 4 t) _ (y 0) (x 1) (y 0) (y 1) (Nat.zero_add _).symm h
theorem grad2 (c : Dev nD) (t : Fin cfg0.N) (x : S512x256.Idx) (y : S512x1024.Idx) (h : (y 1).val = 512 + (x 1).val) :
    View.ld (iblk m c 4 t) r0_19 (ix2 (y 0) (x 1)) = (iblk m c 4 t : Vec Ideal S512x1024 .bf16) (ix2 (y 0) (y 1)) :=
  box_at (iblk m c 4 t) _ (y 0) (x 1) (y 0) (y 1) (Nat.zero_add _).symm h
theorem grad3 (c : Dev nD) (t : Fin cfg0.N) (x : S512x256.Idx) (y : S512x1024.Idx) (h : (y 1).val = 768 + (x 1).val) :
    View.ld (iblk m c 4 t) r0_25 (ix2 (y 0) (x 1)) = (iblk m c 4 t : Vec Ideal S512x1024 .bf16) (ix2 (y 0) (y 1)) :=
  box_at (iblk m c 4 t) _ (y 0) (x 1) (y 0) (y 1) (Nat.zero_add _).symm h

section Tiles
variable {X0 : Vec Ideal ⟨2, ![512, 512]⟩ .bf16} {X1 : Vec Ideal ⟨2, ![512, 256]⟩ .bf16} {Q : Vec Ideal ⟨2, ![512, 2816]⟩ .f32}
  {Wp : Vec Ideal ⟨2, ![512, 1024]⟩ .bf16} {Wv Wg : Vec Ideal ⟨2, ![256, 1024]⟩ .bf16}
  {v0 : Vec Ideal S512x512 .bf16} {v1 : Vec Ideal S512x256 .bf16} {wp : Vec Ideal S1x512x256 .bf16} {wv wg : Vec Ideal S1x256x256 .bf16}
  {gp gs : Vec Ideal S512x256 .f32} {D : Vec Ideal S512x1024 .bf16} {dm : Vec Ideal S512x256 .bf16} (x : S512x256.Idx) (y : S512x1024.Idx)

/-- The pool gate's gradient over one quarter's loads. -/
def tPool (v0 : Vec Ideal S512x512 .bf16) (wp : Vec Ideal S1x512x256 .bf16) (gp : Vec Ideal S512x256 .f32) (dm : Vec Ideal S512x256 .bf16) : FVec Ideal S512x256 .bf16 := k0_pay9 (F := Ideal) (k0_pay1 v0 wp) (k0_pay3 dm) (k0_pay4 gp)
theorem tPool_at (h0 : (y 0).val = (x 0).val) (P : Gate.Parts X0 X1 Q Wp Wv Wg v0 v1 wp wv wg gp gs (y 0) (x 1) (y 1))
    (hd : dm (ix2 (y 0) (x 1)) = D (ix2 (y 0) (y 1))) : tPool v0 wp gp dm x = Gate.dPool X0 Q D Wp (y 0) (y 1) := by
  idx_vars x
  obtain rfl : x0 = y 0 := Fin.ext h0.symm
  unfold tPool
  open_payloads
  pointwise [Gate.dPool, Gate.product, Gate.gPool, Gate.sig]
  have hy : D (ix2 (y 0) (y 1)) = D y := by idx_vars y
  simp only [P.ms, P.pool, P.gateP, hd, hy, zero_sub]
/-- The scan gate's. -/
def tSsm (v1 : Vec Ideal S512x256 .bf16) (wv wg : Vec Ideal S1x256x256 .bf16) (gs : Vec Ideal S512x256 .f32) (dm : Vec Ideal S512x256 .bf16) : FVec Ideal S512x256 .bf16 := k0_pay10 (F := Ideal) (k0_pay2 v1 wv) (k0_pay3 dm) (k0_pay5 gs) (k0_pay6 v1 wg) k0_pay7
theorem tSsm_at (h0 : (y 0).val = (x 0).val) (P : Gate.Parts X0 X1 Q Wp Wv Wg v0 v1 wp wv wg gp gs (y 0) (x 1) (y 1))
    (hd : dm (ix2 (y 0) (x 1)) = D (ix2 (y 0) (y 1))) : tSsm v1 wv wg gs dm x = Gate.dSsm X1 Q D Wv Wg (y 0) (y 1) := by
  idx_vars x
  obtain rfl : x0 = y 0 := Fin.ext h0.symm
  unfold tSsm
  open_payloads
  pointwise [Gate.dSsm, Gate.product, Gate.gSsm, Gate.sig]
  have hy : D (ix2 (y 0) (y 1)) = D y := by idx_vars y
  simp only [P.ys, P.val, P.glu, P.gateS, hd, hy, zero_sub]
/-- The pool product's. -/
def tZp (gp : Vec Ideal S512x256 .f32) (dm : Vec Ideal S512x256 .bf16) : FVec Ideal S512x256 .bf16 := k0_pay11 (F := Ideal) (k0_pay3 dm) (k0_pay4 gp)
theorem tZp_at (h0 : (y 0).val = (x 0).val) (P : Gate.Parts X0 X1 Q Wp Wv Wg v0 v1 wp wv wg gp gs (y 0) (x 1) (y 1))
    (hd : dm (ix2 (y 0) (x 1)) = D (ix2 (y 0) (y 1))) : tZp gp dm x = Gate.dZp Q D (y 0) (y 1) := by
  idx_vars x
  obtain rfl : x0 = y 0 := Fin.ext h0.symm
  unfold tZp
  open_payloads
  pointwise [Gate.dZp, Gate.gPool, Gate.sig]
  have hy : D (ix2 (y 0) (y 1)) = D y := by idx_vars y
  simp only [P.gateP, hd, hy, zero_sub]
/-- The value product's. -/
def tZv (v1 : Vec Ideal S512x256 .bf16) (wg : Vec Ideal S1x256x256 .bf16) (gs : Vec Ideal S512x256 .f32) (dm : Vec Ideal S512x256 .bf16) : FVec Ideal S512x256 .bf16 := k0_pay13 (F := Ideal) (k0_pay3 dm) (k0_pay5 gs) (k0_pay6 v1 wg) k0_pay7
theorem tZv_at (h0 : (y 0).val = (x 0).val) (P : Gate.Parts X0 X1 Q Wp Wv Wg v0 v1 wp wv wg gp gs (y 0) (x 1) (y 1))
    (hd : dm (ix2 (y 0) (x 1)) = D (ix2 (y 0) (y 1))) : tZv v1 wg gs dm x = Gate.dZv X1 Q D Wg (y 0) (y 1) := by
  idx_vars x
  obtain rfl : x0 = y 0 := Fin.ext h0.symm
  unfold tZv
  open_payloads
  pointwise [Gate.dZv, Gate.product, Gate.gSsm, Gate.sig]
  have hy : D (ix2 (y 0) (y 1)) = D y := by idx_vars y
  simp only [P.ys, P.glu, P.gateS, hd, hy, zero_sub]
/-- The inner gate's. -/
def tZg (v1 : Vec Ideal S512x256 .bf16) (wv wg : Vec Ideal S1x256x256 .bf16) (gs : Vec Ideal S512x256 .f32) (dm : Vec Ideal S512x256 .bf16) : FVec Ideal S512x256 .bf16 := k0_pay14 (F := Ideal) (k0_pay2 v1 wv) (k0_pay3 dm) (k0_pay5 gs) (k0_pay6 v1 wg) k0_pay7
theorem tZg_at (h0 : (y 0).val = (x 0).val) (P : Gate.Parts X0 X1 Q Wp Wv Wg v0 v1 wp wv wg gp gs (y 0) (x 1) (y 1))
    (hd : dm (ix2 (y 0) (x 1)) = D (ix2 (y 0) (y 1))) : tZg v1 wv wg gs dm x = Gate.dZg X1 Q D Wv Wg (y 0) (y 1) := by
  idx_vars x
  obtain rfl : x0 = y 0 := Fin.ext h0.symm
  unfold tZg
  open_payloads
  pointwise [Gate.dZg, Gate.product, Gate.gSsm, Gate.sig]
  have hy : D (ix2 (y 0) (y 1)) = D y := by idx_vars y
  simp only [P.ys, P.val, P.glu, P.gateS, hd, hy, zero_sub]

end Tiles

theorem block5 (c : Dev nD) (t : Fin cfg0.N) (y : S512x1024.Idx) : out0_5 (F := Ideal) (iblk m c 0 t) (iblk m c 1 t) (iblk m c 2 t) (iblk m c 3 t) (iblk m c 4 t) y
    = Gate.dPool (iblk m c 0 t) (iblk m c 3 t) (iblk m c 4 t) (m ((c : Thread nD τ).loc main_arg2)) (y 0) (y 1) := by
  unfold_out out0_5
  canon_tiles x h
  · exact tPool_at x y h0 (loads3 m c t x y h1) (grad3 m c t x y h1)
  · exact tPool_at x y h0 (loads2 m c t x y h1) (grad2 m c t x y h1)
  · exact tPool_at x y h0 (loads1 m c t x y h1) (grad1 m c t x y h1)
  · exact tPool_at x y h0 (loads0 m c t x y (h1.trans (Nat.zero_add _).symm)) (grad0 m c t x y (h1.trans (Nat.zero_add _).symm))

theorem final5 (c : Dev nD) : (dats m 0 c).arrAt 5 (cfgs 0).N = fun i : S4096x1024.Idx => Gate.dPool (m ((c : Thread nD τ).loc main_arg0)) (m ((c : Thread nD τ).loc main_arg5)) (m ((c : Thread nD τ).loc main_arg6)) (m ((c : Thread nD τ).loc main_arg2)) (i 0) (i 1) := by
  refine (dats m 0 c).arrAt_eq_of_covers 5 _ (by decide +kernel) fun t hf y => ?_
  blk_simp
  rw [after0_5]
  refine (block5 m c t y).trans ?_
  simp only [Gate.dPool, Gate.product, Gate.gPool]
  blk_point [iblk, V, idx t]

theorem block6 (c : Dev nD) (t : Fin cfg0.N) (y : S512x1024.Idx) : out0_6 (F := Ideal) (iblk m c 0 t) (iblk m c 1 t) (iblk m c 2 t) (iblk m c 3 t) (iblk m c 4 t) y
    = Gate.dSsm (iblk m c 1 t) (iblk m c 3 t) (iblk m c 4 t) (m ((c : Thread nD τ).loc main_arg3)) (m ((c : Thread nD τ).loc main_arg4)) (y 0) (y 1) := by
  unfold_out out0_6
  canon_tiles x h
  · exact tSsm_at x y h0 (loads3 m c t x y h1) (grad3 m c t x y h1)
  · exact tSsm_at x y h0 (loads2 m c t x y h1) (grad2 m c t x y h1)
  · exact tSsm_at x y h0 (loads1 m c t x y h1) (grad1 m c t x y h1)
  · exact tSsm_at x y h0 (loads0 m c t x y (h1.trans (Nat.zero_add _).symm)) (grad0 m c t x y (h1.trans (Nat.zero_add _).symm))

theorem final6 (c : Dev nD) : (dats m 0 c).arrAt 6 (cfgs 0).N = fun i : S4096x1024.Idx => Gate.dSsm (m ((c : Thread nD τ).loc main_arg1)) (m ((c : Thread nD τ).loc main_arg5)) (m ((c : Thread nD τ).loc main_arg6)) (m ((c : Thread nD τ).loc main_arg3)) (m ((c : Thread nD τ).loc main_arg4)) (i 0) (i 1) := by
  refine (dats m 0 c).arrAt_eq_of_covers 6 _ (by decide +kernel) fun t hf y => ?_
  blk_simp
  rw [after0_6]
  refine (block6 m c t y).trans ?_
  simp only [Gate.dSsm, Gate.product, Gate.gSsm]
  blk_point [iblk, V, idx t]

theorem block7 (c : Dev nD) (t : Fin cfg0.N) (y : S512x1024.Idx) : out0_7 (F := Ideal) (iblk m c 0 t) (iblk m c 1 t) (iblk m c 2 t) (iblk m c 3 t) (iblk m c 4 t) y
    = Gate.dZp (iblk m c 3 t) (iblk m c 4 t) (y 0) (y 1) := by
  unfold_out out0_7
  canon_tiles x h
  · exact tZp_at x y h0 (loads3 m c t x y h1) (grad3 m c t x y h1)
  · exact tZp_at x y h0 (loads2 m c t x y h1) (grad2 m c t x y h1)
  · exact tZp_at x y h0 (loads1 m c t x y h1) (grad1 m c t x y h1)
  · exact tZp_at x y h0 (loads0 m c t x y (h1.trans (Nat.zero_add _).symm)) (grad0 m c t x y (h1.trans (Nat.zero_add _).symm))

theorem final7 (c : Dev nD) : (dats m 0 c).arrAt 7 (cfgs 0).N = fun i : S4096x1024.Idx => Gate.dZp (m ((c : Thread nD τ).loc main_arg5)) (m ((c : Thread nD τ).loc main_arg6)) (i 0) (i 1) := by
  refine (dats m 0 c).arrAt_eq_of_covers 7 _ (by decide +kernel) fun t hf y => ?_
  blk_simp
  rw [after0_7]
  refine (block7 m c t y).trans ?_
  simp only [Gate.dZp, Gate.gPool]
  blk_point [iblk, V, idx t]

theorem block8 (c : Dev nD) (t : Fin cfg0.N) (y : S512x1024.Idx) : out0_8 (F := Ideal) (iblk m c 0 t) (iblk m c 1 t) (iblk m c 2 t) (iblk m c 3 t) (iblk m c 4 t) y
    = Gate.dZv (iblk m c 1 t) (iblk m c 3 t) (iblk m c 4 t) (m ((c : Thread nD τ).loc main_arg4)) (y 0) (y 1) := by
  unfold_out out0_8
  canon_tiles x h
  · exact tZv_at x y h0 (loads3 m c t x y h1) (grad3 m c t x y h1)
  · exact tZv_at x y h0 (loads2 m c t x y h1) (grad2 m c t x y h1)
  · exact tZv_at x y h0 (loads1 m c t x y h1) (grad1 m c t x y h1)
  · exact tZv_at x y h0 (loads0 m c t x y (h1.trans (Nat.zero_add _).symm)) (grad0 m c t x y (h1.trans (Nat.zero_add _).symm))

theorem final8 (c : Dev nD) : (dats m 0 c).arrAt 8 (cfgs 0).N = fun i : S4096x1024.Idx => Gate.dZv (m ((c : Thread nD τ).loc main_arg1)) (m ((c : Thread nD τ).loc main_arg5)) (m ((c : Thread nD τ).loc main_arg6)) (m ((c : Thread nD τ).loc main_arg4)) (i 0) (i 1) := by
  refine (dats m 0 c).arrAt_eq_of_covers 8 _ (by decide +kernel) fun t hf y => ?_
  blk_simp
  rw [after0_8]
  refine (block8 m c t y).trans ?_
  simp only [Gate.dZv, Gate.product, Gate.gSsm]
  blk_point [iblk, V, idx t]

theorem block9 (c : Dev nD) (t : Fin cfg0.N) (y : S512x1024.Idx) : out0_9 (F := Ideal) (iblk m c 0 t) (iblk m c 1 t) (iblk m c 2 t) (iblk m c 3 t) (iblk m c 4 t) y
    = Gate.dZg (iblk m c 1 t) (iblk m c 3 t) (iblk m c 4 t) (m ((c : Thread nD τ).loc main_arg3)) (m ((c : Thread nD τ).loc main_arg4)) (y 0) (y 1) := by
  unfold_out out0_9
  canon_tiles x h
  · exact tZg_at x y h0 (loads3 m c t x y h1) (grad3 m c t x y h1)
  · exact tZg_at x y h0 (loads2 m c t x y h1) (grad2 m c t x y h1)
  · exact tZg_at x y h0 (loads1 m c t x y h1) (grad1 m c t x y h1)
  · exact tZg_at x y h0 (loads0 m c t x y (h1.trans (Nat.zero_add _).symm)) (grad0 m c t x y (h1.trans (Nat.zero_add _).symm))

theorem final9 (c : Dev nD) : (dats m 0 c).arrAt 9 (cfgs 0).N = fun i : S4096x1024.Idx => Gate.dZg (m ((c : Thread nD τ).loc main_arg1)) (m ((c : Thread nD τ).loc main_arg5)) (m ((c : Thread nD τ).loc main_arg6)) (m ((c : Thread nD τ).loc main_arg3)) (m ((c : Thread nD τ).loc main_arg4)) (i 0) (i 1) := by
  refine (dats m 0 c).arrAt_eq_of_covers 9 _ (by decide +kernel) fun t hf y => ?_
  blk_simp
  rw [after0_9]
  refine (block9 m c t y).trans ?_
  simp only [Gate.dZg, Gate.product, Gate.gSsm]
  blk_point [iblk, V, idx t]

end Kernel

end Cert.GateGrad

end
-- ==== Proof.MergeFArrays.lean ====
/-
  The gated merge: the reference at a position, each point's four quarters of the columns, and the array.
-/
module

public import proofs.«01_k».proof.Proof.Gen.MergeFIdeal.Value
public import proofs.«01_k».proof.Proof.Gen.MergeFRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.GateMath

@[expose] public section

set_option maxRecDepth 16384

noncomputable section

namespace Cert.GateFwd

open Idealize.ShloMosaic Idealize.ShloMosaic.TcCoe Idealize.SL.Sem Idealize.ShloMosaic.StableHlo
open Idealize.ShloMosaic.Pipeline (Dat)

section Reference
open Cert.MergeFRefIdeal Cert.MergeFRefIdeal.Gen

/-- The reference's sigmoid. -/
def sg (X : FVec Ideal S4096x1024 .f32) : FVec Ideal S4096x1024 .f32 :=
  Host.divf (broadcastInDim S4096x1024 ![] bcast_S_S4096x1024 (constant S_ .f32 0x3F800000#32))
    (addf (broadcastInDim S4096x1024 ![] bcast_S_S4096x1024 (constant S_ .f32 0x3F800000#32)) (Host.exp (Host.negf X)))

abbrev poolGate (Q : FVec Ideal S4096x2816 .f32) := sg (extractStridedSlice S4096x1024 ![0, 768] Q slices_S4096x2816_S4096x1024_0_768)
abbrev scanGate (Q : FVec Ideal S4096x2816 .f32) := sg (extractStridedSlice S4096x1024 ![0, 1792] Q slices_S4096x2816_S4096x1024_0_1792)
abbrev poolDot (X : FVec Ideal S4096x512 .bf16) (W : FVec Ideal S512x1024 .bf16) : FVec Ideal S4096x1024 .f32 :=
  Host.dotGeneral dot_S4096x512_S512x1024_S4096x1024_1_0_0_1_n_n none (extf .f32 X bitsLt_bf16_f32) (extf .f32 W bitsLt_bf16_f32)
abbrev scanDot (X : FVec Ideal S4096x256 .bf16) (W : FVec Ideal S256x1024 .bf16) : FVec Ideal S4096x1024 .f32 :=
  Host.dotGeneral dot_S4096x256_S256x1024_S4096x1024_1_0_0_1_n_n none (extf .f32 X bitsLt_bf16_f32) (extf .f32 W bitsLt_bf16_f32)

variable (X0 : FVec Ideal S4096x512 .bf16) (X1 : FVec Ideal S4096x256 .bf16) (Q : FVec Ideal S4096x2816 .f32)
  (Wp : FVec Ideal S512x1024 .bf16) (Wv Wg : FVec Ideal S256x1024 .bf16)

theorem merged_eq : truncf .bf16 (addf (mulf (poolGate Q) (poolDot X0 Wp)) (mulf (scanGate Q) (mulf (scanDot X1 Wv) (sg (scanDot X1 Wg))))) bitsLt_bf16_f32
    = fun i : S4096x1024.Idx => Gate.merged X0 X1 Q Wp Wv Wg (i 0) (i 1) := by
  funext i
  idx_vars i
  pointwise [sg, Gate.merged, Gate.product, Gate.gPool, Gate.gSsm, Gate.sig]
  ac_rfl

end Reference

section Kernel
open Cert.MergeFIdeal Cert.MergeFIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![0, 0, 0] ∧ win0_3.index t = ![t.val, 0]
    ∧ win0_4.index t = ![t.val, 0] :=
  (by decide +kernel : ∀ t : Fin grid0.N, _)

/-- The stack of the quarters' weights that the kernel reads, over the call's three weights. -/
theorem stack (c : Dev nD) (t : Fin cfg0.N) (s : Fin 4) (j : Fin 1024) (k : Fin 256) : (iblk m c 2 t : Vec Ideal S4x1024x256 .bf16) (ix3 s j k)
    = Gate.stacked (m ((c : Thread nD τ).loc main_arg2)) (m ((c : Thread nD τ).loc main_arg3)) (m ((c : Thread nD τ).loc main_arg4)) j ⟨s.val * 256 + k.val, by omega⟩ := by
  blk_simp [iblk, V]
  entry_read
  pointwise
  unfold Gate.stacked
  blk_simp [idx t]

/-- What a quarter's loads are of. -/
abbrev Loads (c : Dev nD) (t : Fin cfg0.N) := Gate.Parts (iblk m c 0 t) (iblk m c 1 t) (iblk m c 3 t) (m ((c : Thread nD τ).loc main_arg2)) (m ((c : Thread nD τ).loc main_arg3)) (m ((c : Thread nD τ).loc main_arg4))
theorem loads0 (c : Dev nD) (t : Fin cfg0.N) (x : S512x256.Idx) (y : S512x1024.Idx) (h : (y 1).val = 0 + (x 1).val) :
    Loads m c t (View.ld (iblk m c 0 t) r0_0) (View.ld (iblk m c 1 t) r0_1) (View.ld (iblk m c 2 t) r0_2) (View.ld (iblk m c 2 t) r0_3) (View.ld (iblk m c 2 t) r0_4)
      (View.ld (iblk m c 3 t) r0_5) (View.ld (iblk m c 3 t) r0_6) (y 0) (x 1) (y 1) :=
  Gate.parts _ _ _ _ _ _ _ (stack m c t) (s := 0) (by omega) rfl rfl _ _ _ _ _ _ _ _ _ _ h
theorem loads1 (c : Dev nD) (t : Fin cfg0.N) (x : S512x256.Idx) (y : S512x1024.Idx) (h : (y 1).val = 256 + (x 1).val) :
    Loads m c t (View.ld (iblk m c 0 t) r0_0) (View.ld (iblk m c 1 t) r0_1) (View.ld (iblk m c 2 t) r0_8) (View.ld (iblk m c 2 t) r0_9) (View.ld (iblk m c 2 t) r0_10)
      (View.ld (iblk m c 3 t) r0_11) (View.ld (iblk m c 3 t) r0_12) (y 0) (x 1) (y 1) :=
  Gate.parts _ _ _ _ _ _ _ (stack m c t) (s := 1) (by omega) rfl rfl _ _ _ _ _ _ _ _ _ _ h
theorem loads2 (c : Dev nD) (t : Fin cfg0.N) (x : S512x256.Idx) (y : S512x1024.Idx) (h : (y 1).val = 512 + (x 1).val) :
    Loads m c t (View.ld (iblk m c 0 t) r0_0) (View.ld (iblk m c 1 t) r0_1) (View.ld (iblk m c 2 t) r0_14) (View.ld (iblk m c 2 t) r0_15) (View.ld (iblk m c 2 t) r0_16)
      (View.ld (iblk m c 3 t) r0_17) (View.ld (iblk m c 3 t) r0_18) (y 0) (x 1) (y 1) :=
  Gate.parts _ _ _ _ _ _ _ (stack m c t) (s := 2) (by omega) rfl rfl _ _ _ _ _ _ _ _ _ _ h
theorem loads3 (c : Dev nD) (t : Fin cfg0.N) (x : S512x256.Idx) (y : S512x1024.Idx) (h : (y 1).val = 768 + (x 1).val) :
    Loads m c t (View.ld (iblk m c 0 t) r0_0) (View.ld (iblk m c 1 t) r0_1) (View.ld (iblk m c 2 t) r0_20) (View.ld (iblk m c 2 t) r0_21) (View.ld (iblk m c 2 t) r0_22)
      (View.ld (iblk m c 3 t) r0_23) (View.ld (iblk m c 3 t) r0_24) (y 0) (x 1) (y 1) :=
  Gate.parts _ _ _ _ _ _ _ (stack m c t) (s := 3) (by omega) rfl rfl _ _ _ _ _ _ _ _ _ _ h

/-- The merge over one quarter's loads. -/
def tile (v0 : Vec Ideal S512x512 .bf16) (v1 : Vec Ideal S512x256 .bf16) (wp : Vec Ideal S1x512x256 .bf16) (wv wg : Vec Ideal S1x256x256 .bf16)
    (gp gs : Vec Ideal S512x256 .f32) : FVec Ideal S512x256 .bf16 :=
  k0_pay5 (F := Ideal) (k0_pay2 v0 wp gp) (k0_pay3 v1 wv gs) (k0_pay4 v1 wg)

theorem tile_at {X0 : Vec Ideal ⟨2, ![512, 512]⟩ .bf16} {X1 : Vec Ideal ⟨2, ![512, 256]⟩ .bf16} {Q : Vec Ideal ⟨2, ![512, 2816]⟩ .f32}
    {Wp : Vec Ideal ⟨2, ![512, 1024]⟩ .bf16} {Wv Wg : Vec Ideal ⟨2, ![256, 1024]⟩ .bf16}
    {v0 : Vec Ideal S512x512 .bf16} {v1 : Vec Ideal S512x256 .bf16} {wp : Vec Ideal S1x512x256 .bf16} {wv wg : Vec Ideal S1x256x256 .bf16}
    {gp gs : Vec Ideal S512x256 .f32} (x : S512x256.Idx) (y : S512x1024.Idx) (h0 : (y 0).val = (x 0).val)
    (P : Gate.Parts X0 X1 Q Wp Wv Wg v0 v1 wp wv wg gp gs (y 0) (x 1) (y 1)) : tile v0 v1 wp wv wg gp gs x = Gate.merged X0 X1 Q Wp Wv Wg (y 0) (y 1) := by
  idx_vars x
  obtain rfl : x0 = y 0 := Fin.ext h0.symm
  unfold tile
  open_payloads
  pointwise [Gate.merged, Gate.product, Gate.gPool, Gate.gSsm, Gate.sig]
  simp only [P.ms, P.ys, P.pool, P.val, P.glu, P.gateP, P.gateS, zero_sub]

theorem block (c : Dev nD) (t : Fin cfg0.N) (y : S512x1024.Idx) : out0_4 (F := Ideal) (iblk m c 0 t) (iblk m c 1 t) (iblk m c 2 t) (iblk m c 3 t) y
    = Gate.merged (iblk m c 0 t) (iblk m c 1 t) (iblk m c 3 t) (m ((c : Thread nD τ).loc main_arg2)) (m ((c : Thread nD τ).loc main_arg3)) (m ((c : Thread nD τ).loc main_arg4)) (y 0) (y 1) := by
  unfold out0_4
  canon_tiles x h
  · exact tile_at x y h0 (loads3 m c t x y h1)
  · exact tile_at x y h0 (loads2 m c t x y h1)
  · exact tile_at x y h0 (loads1 m c t x y h1)
  · exact tile_at x y h0 (loads0 m c t x y (h1.trans (Nat.zero_add _).symm))

theorem final4 (c : Dev nD) : (dats m 0 c).arrAt 4 (cfgs 0).N = fun i : S4096x1024.Idx =>
    Gate.merged (m ((c : Thread nD τ).loc main_arg0)) (m ((c : Thread nD τ).loc main_arg1)) (m ((c : Thread nD τ).loc main_arg5)) (m ((c : Thread nD τ).loc main_arg2)) (m ((c : Thread nD τ).loc main_arg3)) (m ((c : Thread nD τ).loc main_arg4)) (i 0) (i 1) := by
  refine (dats m 0 c).arrAt_eq_of_covers 4 _ (by decide +kernel) fun t hf y => ?_
  blk_simp
  rw [after0_4]
  refine (block m c t y).trans ?_
  simp only [Gate.merged, Gate.product, Gate.gPool, Gate.gSsm]
  blk_point [iblk, V, idx t]

end Kernel

end Cert.GateFwd

end
-- ==== Proof.MergeWArrays.lean ====
/-
  The gradient of the gated merge's three weights: the reference at a position, the scratch that gathers the points' contributions, and
  the array.
-/
module

public import proofs.«01_k».proof.Proof.Gen.MergeWIdeal.Value
public import proofs.«01_k».proof.Proof.Gen.MergeWRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.GateMath

@[expose] public section

set_option maxRecDepth 16384

noncomputable section

namespace Cert.GateWeight

open Idealize.ShloMosaic Idealize.ShloMosaic.TcCoe Idealize.SL.Sem Idealize.ShloMosaic.StableHlo
open Idealize.ShloMosaic.Pipeline (Dat)

/-- One row's part of a position of the weights' gradient: the first 512 rows of the stack belong to the pool's weight, the next 256 to the
    scan's value weight, the last 256 to its inner gate's. -/
def cell {n : ℕ} (X0 : Vec Ideal ⟨2, ![n, 512]⟩ .bf16) (X1 : Vec Ideal ⟨2, ![n, 256]⟩ .bf16) (D0 D1 D2 : Vec Ideal ⟨2, ![n, 1024]⟩ .bf16) (j b : Fin 1024) (k : Fin n) : EReal :=
  if h : j.val < 512 then X0 (ix2 k ⟨j.val, h⟩) * D0 (ix2 k b)
  else if h' : j.val - 512 < 256 then X1 (ix2 k ⟨j.val - 512, h'⟩) * D1 (ix2 k b)
  else X1 (ix2 k ⟨j.val - 512 - 256, by omega⟩) * D2 (ix2 k b)

section Cell
variable {n : ℕ} (X0 : Vec Ideal ⟨2, ![n, 512]⟩ .bf16) (X1 : Vec Ideal ⟨2, ![n, 256]⟩ .bf16) (D0 D1 D2 : Vec Ideal ⟨2, ![n, 1024]⟩ .bf16) (j b : Fin 1024) (k : Fin n)

theorem cell_pool (a : Fin 512) (h : j.val = a.val) : cell X0 X1 D0 D1 D2 j b k = X0 (ix2 k a) * D0 (ix2 k b) := by
  unfold cell
  rw [dif_pos (by omega : j.val < 512)]
  exact congrArg (fun q => X0 (ix2 k q) * D0 (ix2 k b)) (Fin.ext h)
theorem cell_val (a : Fin 256) (h : j.val = 512 + a.val) : cell X0 X1 D0 D1 D2 j b k = X1 (ix2 k a) * D1 (ix2 k b) := by
  unfold cell
  rw [dif_neg (by omega : ¬j.val < 512), dif_pos (by omega : j.val - 512 < 256)]
  exact congrArg (fun q => X1 (ix2 k q) * D1 (ix2 k b)) (Fin.ext (by show j.val - 512 = a.val; omega))
theorem cell_glu (a : Fin 256) (h : j.val = 768 + a.val) : cell X0 X1 D0 D1 D2 j b k = X1 (ix2 k a) * D2 (ix2 k b) := by
  unfold cell
  rw [dif_neg (by omega : ¬j.val < 512), dif_neg (by omega : ¬j.val - 512 < 256)]
  exact congrArg (fun q => X1 (ix2 k q) * D2 (ix2 k b)) (Fin.ext (by show j.val - 512 - 256 = a.val; omega))
end Cell

section Reference
open Cert.MergeWRefIdeal Cert.MergeWRefIdeal.Gen

/-- The reference's gradient of the three weights, stacked and cut into four quarters of the columns. -/
def ref (X0 : FVec Ideal S4096x512 .bf16) (X1 : FVec Ideal S4096x256 .bf16) (D0 D1 D2 : FVec Ideal S4096x1024 .bf16) : FVec Ideal S4x1024x256 .bf16 :=
  truncf .bf16 (transpose S4x1024x256 [1, 0, 2] (shapeCast _ ((concatenate S1024x1024 0
    [⟨S512x1024, ((transpose S512x1024 [1, 0] (Host.dotGeneral dot_S4096x1024_S4096x512_S1024x512_0_0_1_1_n_n none (extf .f32 D0 bitsLt_bf16_f32) (extf .f32 X0 bitsLt_bf16_f32)) transposes_S1024x512_S512x1024_1_0) : (⟨S512x1024, .f32⟩ : BufTy).Contents (Elt Ideal))⟩,
     ⟨S256x1024, ((transpose S256x1024 [1, 0] (Host.dotGeneral dot_S4096x1024_S4096x256_S1024x256_0_0_1_1_n_n none (extf .f32 D1 bitsLt_bf16_f32) (extf .f32 X1 bitsLt_bf16_f32)) transposes_S1024x256_S256x1024_1_0) : (⟨S256x1024, .f32⟩ : BufTy).Contents (Elt Ideal))⟩,
     ⟨S256x1024, ((transpose S256x1024 [1, 0] (Host.dotGeneral dot_S4096x1024_S4096x256_S1024x256_0_0_1_1_n_n none (extf .f32 D2 bitsLt_bf16_f32) (extf .f32 X1 bitsLt_bf16_f32)) transposes_S1024x256_S256x1024_1_0) : (⟨S256x1024, .f32⟩ : BufTy).Contents (Elt Ideal))⟩]
    concatenates_S512x1024_S256x1024_S256x1024_S1024x1024_d0 : (⟨S1024x1024, .f32⟩ : BufTy).Contents (Elt Ideal))) shapeCasts_S1024x1024_S1024x4x256) transposes_S1024x4x256_S4x1024x256_1_0_2) bitsLt_bf16_f32

theorem ref_at (X0 : FVec Ideal S4096x512 .bf16) (X1 : FVec Ideal S4096x256 .bf16) (D0 D1 D2 : FVec Ideal S4096x1024 .bf16) (s : Fin 4) (j : Fin 1024) (b : Fin 256) :
    ref X0 X1 D0 D1 D2 (ix3 s j b) = ∑ k : Fin 4096, cell X0 X1 D0 D1 D2 j ⟨s.val * 256 + b.val, by omega⟩ k := by
  pointwise [ref]
  unfold cell
  split_ifs <;> exact Finset.sum_congr rfl fun k _ => mul_comm _ _

end Reference

section Points
open Cert.MergeWIdeal Cert.MergeWIdeal.Gen

variable (m : (ℓ : Loc nD τ sig) → Buf (Elt Ideal) ℓ)

/-- One point's contribution: its rows' parts summed. -/
def part (x0 : Vec Ideal S1024x512 .bf16) (x1 : Vec Ideal S1024x256 .bf16) (x2 x3 x4 : Vec Ideal S1024x1024 .bf16) (y : S4x1024x256.Idx) : EReal :=
  ∑ k : Fin 1024, cell x0 x1 x2 x3 x4 (y 1) ⟨(y 0).val * 256 + (y 2).val, by have := (y 0).isLt; have := (y 2).isLt; change (y 0).val < 4 at *; change (y 2).val < 256 at *; omega⟩ k

abbrev partAt (c : Dev nD) (t : Fin cfg0.N) (y : S4x1024x256.Idx) : EReal :=
  part (iblk m c 0 t) (iblk m c 1 t) (iblk m c 2 t) (iblk m c 3 t) (iblk m c 4 t) y

theorem step_pool (X : Vec Ideal S1024x512 .bf16) (Z : Vec Ideal S1x512x256 .f32) (D : Vec Ideal S1024x256 .bf16) (a : Fin 512) (b : Fin 256) :
    k0_pay6 (F := Ideal) X Z D (ix3 0 a b) = Z (ix3 0 a b) + ∑ k : Fin 1024, X (ix2 k a) * D (ix2 k b) := by
  pointwise [k0_pay6]
theorem step_scan (X : Vec Ideal S1024x256 .bf16) (Z : Vec Ideal S1x256x256 .f32) (D : Vec Ideal S1024x256 .bf16) (a b : Fin 256) :
    k0_pay7 (F := Ideal) X Z D (ix3 0 a b) = Z (ix3 0 a b) + ∑ k : Fin 1024, X (ix2 k a) * D (ix2 k b) := by
  pointwise [k0_pay7]
theorem zero_at (y : S4x1024x256.Idx) : k0_pay5 (F := Ideal) y = 0 := by
  pointwise [k0_pay5]
theorem copy_at (X : Vec Ideal S4x1024x256 .f32) (y : S4x1024x256.Idx) : k0_pay4 (F := Ideal) X y = X y := by
  pointwise [k0_pay4]

section Tiles
variable (X0 : Vec Ideal S1024x512 .bf16) (X1 : Vec Ideal S1024x256 .bf16) (X2 X3 X4 : Vec Ideal S1024x1024 .bf16)

/-! Each tile of the scratch gains its part of the contribution. -/

theorem tile_pool {s q : ℕ} (hq : q = s * 256) (Z : Vec Ideal S1x512x256 .f32) (x : S1x512x256.Idx) (y : S4x1024x256.Idx)
    (inb : ∀ a, (![0, q] : Fin 2 → ℕ) a + (![1024, 256] : Fin 2 → ℕ) a ≤ S1024x1024.size a)
    (h0 : (y 0).val = s + (x 0).val) (h1 : (y 1).val = 0 + (x 1).val) (h2 : (y 2).val = (x 2).val) (z : EReal) (hZ : Z x = z) :
    k0_pay6 (F := Ideal) X0 Z (View.ld (Val := Elt Ideal) X2 (Rect.unit (s := S1024x1024) ![0, q] ![1024, 256] inb)) x = z + part X0 X1 X2 X3 X4 y := by
  idx_vars x; idx_vars y
  obtain rfl : x0 = 0 := Subsingleton.elim _ _
  change y0.val = s + 0 at h0
  change y1.val = 0 + x1.val at h1
  change y2.val = x2.val at h2
  rw [step_pool, hZ]
  refine congrArg (z + ·) (Finset.sum_congr rfl fun k _ => ?_)
  refine Eq.trans ?_ (cell_pool X0 X1 X2 X3 X4 _ _ k x1 (by show y1.val = _; omega)).symm
  exact congrArg (_ * ·) (box_at X2 inb k x2 k _ (Nat.zero_add _).symm (by show y0.val * 256 + y2.val = q + x2.val; omega))

theorem tile_val {s q : ℕ} (hq : q = s * 256) (Z : Vec Ideal S1x256x256 .f32) (x : S1x256x256.Idx) (y : S4x1024x256.Idx)
    (inb : ∀ a, (![0, q] : Fin 2 → ℕ) a + (![1024, 256] : Fin 2 → ℕ) a ≤ S1024x1024.size a)
    (h0 : (y 0).val = s + (x 0).val) (h1 : (y 1).val = 512 + (x 1).val) (h2 : (y 2).val = (x 2).val) (z : EReal) (hZ : Z x = z) :
    k0_pay7 (F := Ideal) X1 Z (View.ld (Val := Elt Ideal) X3 (Rect.unit (s := S1024x1024) ![0, q] ![1024, 256] inb)) x = z + part X0 X1 X2 X3 X4 y := by
  idx_vars x; idx_vars y
  obtain rfl : x0 = 0 := Subsingleton.elim _ _
  change y0.val = s + 0 at h0
  change y1.val = 512 + x1.val at h1
  change y2.val = x2.val at h2
  rw [step_scan, hZ]
  refine congrArg (z + ·) (Finset.sum_congr rfl fun k _ => ?_)
  refine Eq.trans ?_ (cell_val X0 X1 X2 X3 X4 _ _ k x1 (by show y1.val = _; omega)).symm
  exact congrArg (_ * ·) (box_at X3 inb k x2 k _ (Nat.zero_add _).symm (by show y0.val * 256 + y2.val = q + x2.val; omega))

theorem tile_glu {s q : ℕ} (hq : q = s * 256) (Z : Vec Ideal S1x256x256 .f32) (x : S1x256x256.Idx) (y : S4x1024x256.Idx)
    (inb : ∀ a, (![0, q] : Fin 2 → ℕ) a + (![1024, 256] : Fin 2 → ℕ) a ≤ S1024x1024.size a)
    (h0 : (y 0).val = s + (x 0).val) (h1 : (y 1).val = 768 + (x 1).val) (h2 : (y 2).val = (x 2).val) (z : EReal) (hZ : Z x = z) :
    k0_pay7 (F := Ideal) X1 Z (View.ld (Val := Elt Ideal) X4 (Rect.unit (s := S1024x1024) ![0, q] ![1024, 256] inb)) x = z + part X0 X1 X2 X3 X4 y := by
  idx_vars x; idx_vars y
  obtain rfl : x0 = 0 := Subsingleton.elim _ _
  change y0.val = s + 0 at h0
  change y1.val = 768 + x1.val at h1
  change y2.val = x2.val at h2
  rw [step_scan, hZ]
  refine congrArg (z + ·) (Finset.sum_congr rfl fun k _ => ?_)
  refine Eq.trans ?_ (cell_glu X0 X1 X2 X3 X4 _ _ k x1 (by show y1.val = _; omega)).symm
  exact congrArg (_ * ·) (box_at X4 inb k x2 k _ (Nat.zero_add _).symm (by show y0.val * 256 + y2.val = q + x2.val; omega))

end Tiles

/-- A slab of the scratch, read at an index. -/
theorem slab_eq {n s o : ℕ} (X : Vec Ideal S4x1024x256 .f32) (x : (⟨3, ![1, n, 256]⟩ : Shape).Idx) (y : S4x1024x256.Idx)
    (inb : ∀ a, (![s, o, 0] : Fin 3 → ℕ) a + (![1, n, 256] : Fin 3 → ℕ) a ≤ S4x1024x256.size a)
    (h0 : (y 0).val = s + (x 0).val) (h1 : (y 1).val = o + (x 1).val) (h2 : (y 2).val = (x 2).val) :
    View.ld (Val := Elt Ideal) X (Rect.unit (s := S4x1024x256) ![s, o, 0] ![1, n, 256] inb) x = X y := by
  refine congrArg X (funext fun a => Fin.ext ?_)
  refine (ValueKit.rect_emb_unit_val _ _ inb x a).trans ?_
  match a with
  | 0 => exact h0.symm
  | 1 => exact h1.symm
  | 2 => exact (Nat.zero_add _).trans h2.symm

/-- The first point leaves its contribution in the scratch. -/
theorem scA (c : Dev nD) (t : Fin cfg0.N) (h0 : t.val % 4 = 0) (h1 : ¬t.val % 4 = 3) (y : S4x1024x256.Idx) :
    (outsAt0 m c t.val t.isLt).2 y = partAt m c t y := by
  rw [outsAt0_A m c t h0 h1]
  frame_out
  simp (disch := decide) only [↓ View.readCov_skip, ↓ View.readCov_cons_toLoadRect, ↓ View.readCov_fill]
  refine (canon_append_eq (Val := Elt Ideal) (s := S4x1024x256) (e := .f32) [⟨_, _⟩, ⟨_, _⟩, ⟨_, _⟩, ⟨_, _⟩, ⟨_, _⟩, ⟨_, _⟩, ⟨_, _⟩, ⟨_, _⟩, ⟨_, _⟩, ⟨_, _⟩, ⟨_, _⟩, ⟨_, _⟩] [_] y (View.cover_of_tiledBy (s := S4x1024x256) _ ![1, 256, 256] (by sl_kernel_rfl) y)).trans ?_
  canon_tiles x h using (View.cover_of_tiledBy (s := S4x1024x256) _ ![1, 256, 256] (by sl_kernel_rfl) y)
  · exact (tile_glu _ _ _ _ _ (s := 3) (q := 768) rfl _ x y _ (by omega : (y 0).val = 3 + (x 0).val) (by omega : (y 1).val = 768 + (x 1).val) h2 0 (zero_at _)).trans (zero_add _)
  · exact (tile_val _ _ _ _ _ (s := 3) (q := 768) rfl _ x y _ (by omega : (y 0).val = 3 + (x 0).val) (by omega : (y 1).val = 512 + (x 1).val) h2 0 (zero_at _)).trans (zero_add _)
  · exact (tile_pool _ _ _ _ _ (s := 3) (q := 768) rfl _ x y _ (by omega : (y 0).val = 3 + (x 0).val) (by omega : (y 1).val = 0 + (x 1).val) h2 0 (zero_at _)).trans (zero_add _)
  · exact (tile_glu _ _ _ _ _ (s := 2) (q := 512) rfl _ x y _ (by omega : (y 0).val = 2 + (x 0).val) (by omega : (y 1).val = 768 + (x 1).val) h2 0 (zero_at _)).trans (zero_add _)
  · exact (tile_val _ _ _ _ _ (s := 2) (q := 512) rfl _ x y _ (by omega : (y 0).val = 2 + (x 0).val) (by omega : (y 1).val = 512 + (x 1).val) h2 0 (zero_at _)).trans (zero_add _)
  · exact (tile_pool _ _ _ _ _ (s := 2) (q := 512) rfl _ x y _ (by omega : (y 0).val = 2 + (x 0).val) (by omega : (y 1).val = 0 + (x 1).val) h2 0 (zero_at _)).trans (zero_add _)
  · exact (tile_glu _ _ _ _ _ (s := 1) (q := 256) rfl _ x y _ (by omega : (y 0).val = 1 + (x 0).val) (by omega : (y 1).val = 768 + (x 1).val) h2 0 (zero_at _)).trans (zero_add _)
  · exact (tile_val _ _ _ _ _ (s := 1) (q := 256) rfl _ x y _ (by omega : (y 0).val = 1 + (x 0).val) (by omega : (y 1).val = 512 + (x 1).val) h2 0 (zero_at _)).trans (zero_add _)
  · exact (tile_pool _ _ _ _ _ (s := 1) (q := 256) rfl _ x y _ (by omega : (y 0).val = 1 + (x 0).val) (by omega : (y 1).val = 0 + (x 1).val) h2 0 (zero_at _)).trans (zero_add _)
  · exact (tile_glu _ _ _ _ _ (s := 0) (q := 0) rfl _ x y _ (by omega : (y 0).val = 0 + (x 0).val) (by omega : (y 1).val = 768 + (x 1).val) h2 0 (zero_at _)).trans (zero_add _)
  · exact (tile_val _ _ _ _ _ (s := 0) (q := 0) rfl _ x y _ (by omega : (y 0).val = 0 + (x 0).val) (by omega : (y 1).val = 512 + (x 1).val) h2 0 (zero_at _)).trans (zero_add _)
  · exact (tile_pool _ _ _ _ _ (s := 0) (q := 0) rfl _ x y _ (by omega : (y 0).val = 0 + (x 0).val) (by omega : (y 1).val = 0 + (x 1).val) h2 0 (zero_at _)).trans (zero_add _)

/-- A point in between adds its contribution. -/
theorem scB (c : Dev nD) (t : Fin cfg0.N) (h0 : ¬t.val % 4 = 0) (h1 : ¬t.val % 4 = 3) (y : S4x1024x256.Idx) :
    (outsAt0 m c t.val t.isLt).2 y = (outsAt0 m c (t.val - 1) (Nat.lt_of_le_of_lt (Nat.sub_le _ _) t.isLt)).2 y + partAt m c t y := by
  rw [outsAt0_B m c t h0 h1]
  frame_out
  generalize (outsAt0 m c (t.val - 1) _).2 = X
  simp only [read_unread_whole]
  canon_tiles x h using (View.cover_of_tiledBy (s := S4x1024x256) _ ![1, 256, 256] (by sl_kernel_rfl) y)
  · exact tile_glu _ _ _ _ _ (s := 3) (q := 768) rfl _ x y _ (by omega : (y 0).val = 3 + (x 0).val) (by omega : (y 1).val = 768 + (x 1).val) h2 _ (slab_eq X x y _ (by omega : (y 0).val = 3 + (x 0).val) (by omega : (y 1).val = 768 + (x 1).val) h2)
  · exact tile_val _ _ _ _ _ (s := 3) (q := 768) rfl _ x y _ (by omega : (y 0).val = 3 + (x 0).val) (by omega : (y 1).val = 512 + (x 1).val) h2 _ (slab_eq X x y _ (by omega : (y 0).val = 3 + (x 0).val) (by omega : (y 1).val = 512 + (x 1).val) h2)
  · exact tile_pool _ _ _ _ _ (s := 3) (q := 768) rfl _ x y _ (by omega : (y 0).val = 3 + (x 0).val) (by omega : (y 1).val = 0 + (x 1).val) h2 _ (slab_eq X x y _ (by omega : (y 0).val = 3 + (x 0).val) (by omega : (y 1).val = 0 + (x 1).val) h2)
  · exact tile_glu _ _ _ _ _ (s := 2) (q := 512) rfl _ x y _ (by omega : (y 0).val = 2 + (x 0).val) (by omega : (y 1).val = 768 + (x 1).val) h2 _ (slab_eq X x y _ (by omega : (y 0).val = 2 + (x 0).val) (by omega : (y 1).val = 768 + (x 1).val) h2)
  · exact tile_val _ _ _ _ _ (s := 2) (q := 512) rfl _ x y _ (by omega : (y 0).val = 2 + (x 0).val) (by omega : (y 1).val = 512 + (x 1).val) h2 _ (slab_eq X x y _ (by omega : (y 0).val = 2 + (x 0).val) (by omega : (y 1).val = 512 + (x 1).val) h2)
  · exact tile_pool _ _ _ _ _ (s := 2) (q := 512) rfl _ x y _ (by omega : (y 0).val = 2 + (x 0).val) (by omega : (y 1).val = 0 + (x 1).val) h2 _ (slab_eq X x y _ (by omega : (y 0).val = 2 + (x 0).val) (by omega : (y 1).val = 0 + (x 1).val) h2)
  · exact tile_glu _ _ _ _ _ (s := 1) (q := 256) rfl _ x y _ (by omega : (y 0).val = 1 + (x 0).val) (by omega : (y 1).val = 768 + (x 1).val) h2 _ (slab_eq X x y _ (by omega : (y 0).val = 1 + (x 0).val) (by omega : (y 1).val = 768 + (x 1).val) h2)
  · exact tile_val _ _ _ _ _ (s := 1) (q := 256) rfl _ x y _ (by omega : (y 0).val = 1 + (x 0).val) (by omega : (y 1).val = 512 + (x 1).val) h2 _ (slab_eq X x y _ (by omega : (y 0).val = 1 + (x 0).val) (by omega : (y 1).val = 512 + (x 1).val) h2)
  · exact tile_pool _ _ _ _ _ (s := 1) (q := 256) rfl _ x y _ (by omega : (y 0).val = 1 + (x 0).val) (by omega : (y 1).val = 0 + (x 1).val) h2 _ (slab_eq X x y _ (by omega : (y 0).val = 1 + (x 0).val) (by omega : (y 1).val = 0 + (x 1).val) h2)
  · exact tile_glu _ _ _ _ _ (s := 0) (q := 0) rfl _ x y _ (by omega : (y 0).val = 0 + (x 0).val) (by omega : (y 1).val = 768 + (x 1).val) h2 _ (slab_eq X x y _ (by omega : (y 0).val = 0 + (x 0).val) (by omega : (y 1).val = 768 + (x 1).val) h2)
  · exact tile_val _ _ _ _ _ (s := 0) (q := 0) rfl _ x y _ (by omega : (y 0).val = 0 + (x 0).val) (by omega : (y 1).val = 512 + (x 1).val) h2 _ (slab_eq X x y _ (by omega : (y 0).val = 0 + (x 0).val) (by omega : (y 1).val = 512 + (x 1).val) h2)
  · exact tile_pool _ _ _ _ _ (s := 0) (q := 0) rfl _ x y _ (by omega : (y 0).val = 0 + (x 0).val) (by omega : (y 1).val = 0 + (x 1).val) h2 _ (slab_eq X x y _ (by omega : (y 0).val = 0 + (x 0).val) (by omega : (y 1).val = 0 + (x 1).val) h2)

/-- So does the last point, -/
theorem scC (c : Dev nD) (t : Fin cfg0.N) (h0 : ¬t.val % 4 = 0) (h1 : t.val % 4 = 3) (y : S4x1024x256.Idx) :
    (outsAt0 m c t.val t.isLt).2 y = (outsAt0 m c (t.val - 1) (Nat.lt_of_le_of_lt (Nat.sub_le _ _) t.isLt)).2 y + partAt m c t y := by
  rw [outsAt0_C m c t h0 h1]
  frame_out
  generalize (outsAt0 m c (t.val - 1) _).2 = X
  simp only [read_unread_whole]
  canon_tiles x h using (View.cover_of_tiledBy (s := S4x1024x256) _ ![1, 256, 256] (by sl_kernel_rfl) y)
  · exact tile_glu _ _ _ _ _ (s := 3) (q := 768) rfl _ x y _ (by omega : (y 0).val = 3 + (x 0).val) (by omega : (y 1).val = 768 + (x 1).val) h2 _ (slab_eq X x y _ (by omega : (y 0).val = 3 + (x 0).val) (by omega : (y 1).val = 768 + (x 1).val) h2)
  · exact tile_val _ _ _ _ _ (s := 3) (q := 768) rfl _ x y _ (by omega : (y 0).val = 3 + (x 0).val) (by omega : (y 1).val = 512 + (x 1).val) h2 _ (slab_eq X x y _ (by omega : (y 0).val = 3 + (x 0).val) (by omega : (y 1).val = 512 + (x 1).val) h2)
  · exact tile_pool _ _ _ _ _ (s := 3) (q := 768) rfl _ x y _ (by omega : (y 0).val = 3 + (x 0).val) (by omega : (y 1).val = 0 + (x 1).val) h2 _ (slab_eq X x y _ (by omega : (y 0).val = 3 + (x 0).val) (by omega : (y 1).val = 0 + (x 1).val) h2)
  · exact tile_glu _ _ _ _ _ (s := 2) (q := 512) rfl _ x y _ (by omega : (y 0).val = 2 + (x 0).val) (by omega : (y 1).val = 768 + (x 1).val) h2 _ (slab_eq X x y _ (by omega : (y 0).val = 2 + (x 0).val) (by omega : (y 1).val = 768 + (x 1).val) h2)
  · exact tile_val _ _ _ _ _ (s := 2) (q := 512) rfl _ x y _ (by omega : (y 0).val = 2 + (x 0).val) (by omega : (y 1).val = 512 + (x 1).val) h2 _ (slab_eq X x y _ (by omega : (y 0).val = 2 + (x 0).val) (by omega : (y 1).val = 512 + (x 1).val) h2)
  · exact tile_pool _ _ _ _ _ (s := 2) (q := 512) rfl _ x y _ (by omega : (y 0).val = 2 + (x 0).val) (by omega : (y 1).val = 0 + (x 1).val) h2 _ (slab_eq X x y _ (by omega : (y 0).val = 2 + (x 0).val) (by omega : (y 1).val = 0 + (x 1).val) h2)
  · exact tile_glu _ _ _ _ _ (s := 1) (q := 256) rfl _ x y _ (by omega : (y 0).val = 1 + (x 0).val) (by omega : (y 1).val = 768 + (x 1).val) h2 _ (slab_eq X x y _ (by omega : (y 0).val = 1 + (x 0).val) (by omega : (y 1).val = 768 + (x 1).val) h2)
  · exact tile_val _ _ _ _ _ (s := 1) (q := 256) rfl _ x y _ (by omega : (y 0).val = 1 + (x 0).val) (by omega : (y 1).val = 512 + (x 1).val) h2 _ (slab_eq X x y _ (by omega : (y 0).val = 1 + (x 0).val) (by omega : (y 1).val = 512 + (x 1).val) h2)
  · exact tile_pool _ _ _ _ _ (s := 1) (q := 256) rfl _ x y _ (by omega : (y 0).val = 1 + (x 0).val) (by omega : (y 1).val = 0 + (x 1).val) h2 _ (slab_eq X x y _ (by omega : (y 0).val = 1 + (x 0).val) (by omega : (y 1).val = 0 + (x 1).val) h2)
  · exact tile_glu _ _ _ _ _ (s := 0) (q := 0) rfl _ x y _ (by omega : (y 0).val = 0 + (x 0).val) (by omega : (y 1).val = 768 + (x 1).val) h2 _ (slab_eq X x y _ (by omega : (y 0).val = 0 + (x 0).val) (by omega : (y 1).val = 768 + (x 1).val) h2)
  · exact tile_val _ _ _ _ _ (s := 0) (q := 0) rfl _ x y _ (by omega : (y 0).val = 0 + (x 0).val) (by omega : (y 1).val = 512 + (x 1).val) h2 _ (slab_eq X x y _ (by omega : (y 0).val = 0 + (x 0).val) (by omega : (y 1).val = 512 + (x 1).val) h2)
  · exact tile_pool _ _ _ _ _ (s := 0) (q := 0) rfl _ x y _ (by omega : (y 0).val = 0 + (x 0).val) (by omega : (y 1).val = 0 + (x 1).val) h2 _ (slab_eq X x y _ (by omega : (y 0).val = 0 + (x 0).val) (by omega : (y 1).val = 0 + (x 1).val) h2)

/-- which writes the scratch out. -/
theorem out (c : Dev nD) (t : Fin cfg0.N) (h0 : ¬t.val % 4 = 0) (h1 : t.val % 4 = 3) (y : S4x1024x256.Idx) :
    (outsAt0 m c t.val t.isLt).1 y = (outsAt0 m c t.val t.isLt).2 y := by
  rw [outsAt0_C m c t h0 h1]
  frame_out
  rw [copy_at]
  rw [View.readCov_eq_canon']
  exact congrArg (View.canon _) (show (Rect.unit (s := S4x1024x256) ![0, 0, 0] S4x1024x256.size inb_S4x1024x256_S4x1024x256_0_0_0).toLoadRect.idx y = y by
    funext a; apply Fin.ext
    match a with
    | 0 => show 0 + 1 * (y 0).val = (y 0).val; omega
    | 1 => show 0 + 1 * (y 1).val = (y 1).val; omega
    | 2 => show 0 + 1 * (y 2).val = (y 2).val; omega)

end Points

section Kernel
open Cert.MergeWIdeal Cert.MergeWIdeal.Gen

variable (m : (ℓ : Loc nD τ sig) → Buf (Elt Ideal) ℓ)

/-- The blocks that a point reads: its rows. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] :=
  (by decide +kernel : ∀ t : Fin grid0.N, _)

/-- After the last point the scratch holds the four contributions. -/
theorem scratch_sum (c : Dev nD) (t : Fin cfg0.N) (h : t.val % 4 = 4 - 1) (y : S4x1024x256.Idx) :
    (outsAt0 m c t.val t.isLt).2 y = ∑ s : Fin 4, partAt m c ⟨4 * (t.val / 4) + s.val, Pipeline.run_point_lt_of_flush t h s⟩ y := by
  rw [Pipeline.eq_sum_fin_of_reset_step_apply_of_flush (fun n h => (outsAt0 m c n h).2) 4 (fun _ => (0 : EReal)) (partAt m c)
    (fun t h y => by rw [scA m c t h (by omega) y, zero_add])
    (fun t h y => by by_cases h1 : t.val % 4 = 3; exacts [scC m c t h h1 y, scB m c t h h1 y]) t h y, zero_add]

/-- The result array ends as the reference's gradient. -/
theorem final (c : Dev nD) : (dats m 0 c).arrAt 5 (cfgs 0).N
    = ref (m ((c : Thread nD τ).loc main_arg0)) (m ((c : Thread nD τ).loc main_arg1)) (m ((c : Thread nD τ).loc main_arg2))
      (m ((c : Thread nD τ).loc main_arg3)) (m ((c : Thread nD τ).loc main_arg4)) := by
  refine (dats m 0 c).arrAt_eq_of_covers 5 _ (by decide +kernel) fun t hf y => ?_
  have h3 := (flush0_5 t).mp hf
  have ht : t.val < 4 := lt_of_lt_of_eq t.isLt N_0
  blk_simp
  rw [after0_5]
  idx_vars y
  have e : (((View.whole main_v0).slice (win0_5.rect t)).emb (ix3 y0 y1 y2)) = ix3 y0 y1 y2 := by
    blk_ext [idx t]
  rw [out m c t (by omega) h3, scratch_sum m c t h3, e, ref_at]
  simp only [partAt, part]
  refine Fin.sum_mul_add_congr fun s k hl => ?_
  unfold cell
  refine dite_congr rfl (fun _ => ?_) fun _ => dite_congr rfl (fun _ => ?_) fun _ => ?_
  all_goals blk_point [iblk, V, idx ⟨_, Pipeline.run_point_lt_of_flush t h3 s⟩]

end Kernel

end Cert.GateWeight

end
-- ==== Proof.MergeClaims.lean ====
/-
  The value claims of the gated merge, of its gradient and of its weights' gradient.
-/
module

public import proofs.«01_k».proof.Defs
public import proofs.«01_k».proof.Proof.MergeArrays
public import proofs.«01_k».proof.Proof.MergeFArrays
public import proofs.«01_k».proof.Proof.MergeWArrays

@[expose] public section

set_option maxRecDepth 16384

noncomputable section

open Idealize.ShloMosaic Idealize.ShloMosaic.TcCoe Idealize.SL.Sem

namespace Cert.GateGrad

/-- The gradient of the gated merge. -/
theorem algebraic : Cert.algebraic_MergeIdeal_MergeRefIdeal := fun m ρ m' ρ' _ hag =>
  ⟨_, _, _, _, _, (θ_run _ _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2⟩) (MergeIdeal.Value.run_blocks m ρ),
    (θ_run _ _ _).mono (fun _ h c => by
      obtain ⟨a0, a1, a2, a3, a4, a5, a6⟩ := hag c
      exact ⟨(h c).1.trans (by rw [a0, a2, a5, a6]; exact pool_eq _ _ _ _),
        (h c).2.1.trans (by rw [a1, a3, a4, a5, a6]; exact scan_eq _ _ _ _ _),
        (h c).2.2.1.trans (by rw [a5, a6]; exact zPool_eq _ _),
        (h c).2.2.2.1.trans (by rw [a1, a4, a5, a6]; exact zVal_eq _ _ _ _),
        (h c).2.2.2.2.1.trans (by rw [a1, a3, a4, a5, a6]; exact zGlu_eq _ _ _ _ _), (h c).2.2.2.2.2⟩) (MergeRefIdeal.Value.run m' ρ')⟩

end Cert.GateGrad

namespace Cert.GateFwd

/-- The gated merge. -/
theorem algebraic : Cert.algebraic_MergeFIdeal_MergeFRefIdeal := fun m ρ m' ρ' _ hag =>
  ⟨_, (θ_run _ _ _).mono (fun _ h c => ⟨(h c).1.trans (final4 m c), (h c).2⟩) (MergeFIdeal.Value.run_blocks m ρ),
    (θ_run _ _ _).mono (fun _ h c => by
      obtain ⟨a0, a1, a2, a3, a4, a5⟩ := hag c
      exact ⟨(h c).1.trans (by rw [a0, a1, a2, a3, a4, a5]; exact merged_eq _ _ _ _ _ _), (h c).2⟩) (MergeFRefIdeal.Value.run m' ρ')⟩

end Cert.GateFwd

namespace Cert.GateWeight

/-- The gradient of the gated merge's weights. -/
theorem algebraic : Cert.algebraic_MergeWIdeal_MergeWRefIdeal := fun m ρ m' ρ' _ hag =>
  ⟨_, (θ_run _ _ _).mono (fun _ h c => ⟨(h c).1.trans (final m c), (h c).2⟩) (MergeWIdeal.Value.run_blocks m ρ),
    (θ_run _ _ _).mono (fun _ h c => by
      obtain ⟨a0, a1, a2, a3, a4⟩ := hag c
      exact ⟨(h c).1.trans (by rw [a0, a1, a2, a3, a4]; rfl), (h c).2⟩) (MergeWRefIdeal.Value.run m' ρ')⟩

end Cert.GateWeight

end
-- ==== Proof.HeadRef.lean ====
/-
  The loss head in the reference: the half-step's output, its norm, the loss and the gradients, entry by entry.
-/
module

public import proofs.«01_k».proof.Proof.Gen.HeadRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.NormGrad

@[expose] public section

set_option maxRecDepth 16384

noncomputable section

namespace Cert.Head

open Idealize.ShloMosaic Idealize.ShloMosaic.TcCoe Idealize.SL.Sem Idealize.ShloMosaic.StableHlo
open Idealize.ShloMosaic.Pipeline (Dat)

/-- A row's inverse root of its mean square. -/
def inv (H : FVec Ideal ⟨2, ![4096, 1024]⟩ .f32) (a : Fin 4096) : EReal := Ideal.rsqrt (NormGrad.square fun j => H (ix2 a j))

/-- What the loss squares: the normed row with its gain, less the target. -/
def err (H T : FVec Ideal ⟨2, ![4096, 1024]⟩ .f32) (g : FVec Ideal ⟨2, ![1, 1024]⟩ .f32) (a : Fin 4096) (b : Fin 1024) : EReal :=
  H (ix2 a b) * inv H a * g (ix2 0 b) - T (ix2 a b)

/-- The loss's gradient at the norm's output. -/
def grad (H T : FVec Ideal ⟨2, ![4096, 1024]⟩ .f32) (g : FVec Ideal ⟨2, ![1, 1024]⟩ .f32) (a : Fin 4096) (b : Fin 1024) : EReal :=
  err H T g a b * Ideal.ofBits .f32 0x3A800000#32

/-- Half of the mean square, summed over the rows. -/
def total (H T : FVec Ideal ⟨2, ![4096, 1024]⟩ .f32) (g : FVec Ideal ⟨2, ![1, 1024]⟩ .f32) : EReal :=
  Ideal.ofBits .f32 0x3F000000#32 * ∑ a : Fin 4096, Ideal.div (∑ j : Fin 1024, err H T g a j * err H T g a j) (Ideal.ofBits .f32 0x44800000#32)

/-- The gain's gradient. -/
def gain (H T : FVec Ideal ⟨2, ![4096, 1024]⟩ .f32) (g : FVec Ideal ⟨2, ![1, 1024]⟩ .f32) (b : Fin 1024) : EReal :=
  ∑ a : Fin 4096, grad H T g a b * (H (ix2 a b) * inv H a)

section Reference
open Cert.HeadRefIdeal Cert.HeadRefIdeal.Gen

/-- The half-step's output. -/
def refH (A : FVec Ideal S4096x2816 .bf16) (W : FVec Ideal S2816x1024 .bf16) (H : FVec Ideal S4096x1024 .f32) : FVec Ideal S4096x1024 .f32 :=
  addf H (mulf (broadcastInDim S4096x1024 ![] bcast_S_S4096x1024 (constant S_ .f32 0x3F000000#32))
    (Host.dotGeneral dot_S4096x2816_S2816x1024_S4096x1024_1_0_0_1_n_n none (extf .f32 A bitsLt_bf16_f32) (extf .f32 W bitsLt_bf16_f32)))

theorem refH_at (A : FVec Ideal S4096x2816 .bf16) (W : FVec Ideal S2816x1024 .bf16) (H : FVec Ideal S4096x1024 .f32) (a : Fin 4096) (b : Fin 1024) :
    refH A W H (ix2 a b) = H (ix2 a b) + Ideal.ofBits .f32 0x3F000000#32 * ∑ j : Fin 2816, A (ix2 a j) * W (ix2 j b) := by
  pointwise [refH]

variable (H T : FVec Ideal S4096x1024 .f32) (g : FVec Ideal S1x1024 .f32)

/-- The mean square with its guard, and its inverse root. -/
def refSq : FVec Ideal S4096x1 .f32 :=
  addf (Host.divf (broadcastInDim S4096x1 ![0] bcast_S4096_S4096x1_0 (Host.reduceAdd (mulf H H) (constant S_ .f32 0x00000000#32) reducesTo_S4096x1024_S4096_d1 h_S_))
    (broadcastInDim S4096x1 ![] bcast_S_S4096x1 (constant S_ .f32 0x44800000#32))) (broadcastInDim S4096x1 ![] bcast_S_S4096x1 (constant S_ .f32 0x358637BD#32))

theorem refSq_at (a : Fin 4096) : refSq H (ix2 a 0) = NormGrad.square fun j => H (ix2 a j) := by
  pointwise [refSq, NormGrad.square]

def refN : FVec Ideal S4096x1024 .f32 := mulf H (broadcastInDim S4096x1024 ![0, 1] bcast_S4096x1_S4096x1024_0_1 (Host.rsqrt (refSq H)))

theorem refN_at (a : Fin 4096) (b : Fin 1024) : refN H (ix2 a b) = H (ix2 a b) * inv H a := by
  unfold refN inv
  rw [← refSq_at]
  generalize refSq H = S
  pointwise

def refErr : FVec Ideal S4096x1024 .f32 := subf (mulf (refN H) (broadcastInDim S4096x1024 ![0, 1] bcast_S1x1024_S4096x1024_0_1 g)) T

theorem refErr_at (a : Fin 4096) (b : Fin 1024) : refErr H T g (ix2 a b) = err H T g a b := by
  unfold refErr err
  rw [← refN_at]
  generalize refN H = S
  pointwise

def refGrad : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32)))
    (broadcastInDim S4096 ![] bcast_S_S4096 (constant S_ .f32 0x44800000#32))))
    (mulf (broadcastInDim S4096x1024 ![] bcast_S_S4096x1024 (constant S_ .f32 0x40000000#32)) (refErr H T g))

/-- A half over the width, times two: the reciprocal of the width. -/
theorem width : Ideal.div (Ideal.ofBits .f32 0x3F000000#32 * Ideal.ofBits .f32 0x3F800000#32) (Ideal.ofBits .f32 0x44800000#32) * Ideal.ofBits .f32 0x40000000#32
    = Ideal.ofBits .f32 0x3A800000#32 := by
  have one : Ideal.ofBits .f32 0x3F800000#32 = ((1 : ℝ) : EReal) := by simp [Ideal.ofBits, Ideal.ieee, -EReal.coe_mul]; norm_num
  have two : Ideal.ofBits .f32 0x40000000#32 = ((2 : ℝ) : EReal) := by simp [Ideal.ofBits, Ideal.ieee, -EReal.coe_mul]; norm_num
  have small : Ideal.ofBits .f32 0x3A800000#32 = ((1 / 1024 : ℝ) : EReal) := by simp [Ideal.ofBits, Ideal.ieee, -EReal.coe_mul]; norm_num
  rw [Reals.ofBits_half, one, two, small, Reals.ofBits_1024, ← EReal.coe_mul, Reals.div_real _ _ (by norm_num), ← EReal.coe_mul]
  norm_num

theorem refGrad_at (a : Fin 4096) (b : Fin 1024) : refGrad H T g (ix2 a b) = grad H T g a b := by
  unfold refGrad grad
  rw [← width, ← refErr_at, mul_comm, mul_assoc]
  generalize refErr H T g = S
  pointwise

/-- The spread gradient of the mean square. -/
def refSlope (U : FVec Ideal S4096x1024 .f32) : FVec Ideal S4096x1024 .f32 :=
  broadcastInDim S4096x1024 ![0] bcast_S4096_S4096x1024_0 (Host.reduceAdd (Host.divf (mulf (shapeCast _ (Host.reduceAdd
      (mulf H (mulf U (broadcastInDim S4096x1024 ![0, 1] bcast_S1x1024_S4096x1024_0_1 g))) (constant S_ .f32 0x00000000#32) reducesTo_S4096x1024_S4096_d1 h_S_) shapeCasts_S4096_S4096x1)
    (mulf (broadcastInDim S4096x1 ![] bcast_S_S4096x1 (constant S_ .f32 0xBF000000#32)) (Host.divf (Host.rsqrt (refSq H)) (refSq H))))
    (broadcastInDim S4096x1 ![] bcast_S_S4096x1 (constant S_ .f32 0x44800000#32))) (constant S_ .f32 0x00000000#32) reducesTo_S4096x1_S4096_d1 h_S_)

theorem refSlope_at (U : FVec Ideal S4096x1024 .f32) (a : Fin 4096) (b : Fin 1024) :
    refSlope H g U (ix2 a b) = NormGrad.slope (fun j => U (ix2 a j)) (fun j => H (ix2 a j)) (fun j => g (ix2 0 j)) := by
  unfold refSlope NormGrad.slope
  rw [← refSq_at]
  generalize refSq H = S
  pointwise
  exact Fin.sum_univ_one _

/-- The gradient at the half-step's output. -/
def refX (U : FVec Ideal S4096x1024 .f32) : FVec Ideal S4096x1024 .f32 :=
  addf (addf (mulf (mulf U (broadcastInDim S4096x1024 ![0, 1] bcast_S1x1024_S4096x1024_0_1 g)) (broadcastInDim S4096x1024 ![0, 1] bcast_S4096x1_S4096x1024_0_1 (Host.rsqrt (refSq H))))
    (mulf H (refSlope H g U))) (mulf (refSlope H g U) H)

theorem refX_at (U : FVec Ideal S4096x1024 .f32) (a : Fin 4096) (b : Fin 1024) :
    refX H g U (ix2 a b) = NormGrad.chain (fun j => U (ix2 a j)) (fun j => H (ix2 a j)) (fun j => g (ix2 0 j)) 0 b := by
  unfold refX NormGrad.chain
  rw [← refSlope_at _ _ _ a b, ← refSq_at, zero_add]
  generalize refSlope H g U = Q
  generalize refSq H = S
  pointwise

def refTotal : FVec Ideal S1x128 .f32 :=
  broadcastInDim S1x128 ![] bcast_S_S1x128 (mulf (constant S_ .f32 0x3F000000#32) (Host.reduceAdd (Host.divf (Host.reduceAdd (mulf (refErr H T g) (refErr H T g))
    (constant S_ .f32 0x00000000#32) reducesTo_S4096x1024_S4096_d1 h_S_) (broadcastInDim S4096 ![] bcast_S_S4096 (constant S_ .f32 0x44800000#32)))
    (constant S_ .f32 0x00000000#32) reducesTo_S4096_S_d0 h_S_))

theorem refTotal_eq : refTotal H T g = fun _ => total H T g := by
  funext y
  idx_vars y
  have h : ∀ a b, err H T g a b = refErr H T g (ix2 a b) := fun a b => (refErr_at H T g a b).symm
  unfold refTotal total
  simp only [h]
  generalize refErr H T g = S
  pointwise

def refGain (U : FVec Ideal S4096x1024 .f32) : FVec Ideal S1x1024 .f32 :=
  shapeCast _ (Host.reduceAdd (mulf (refN H) U) (constant S_ .f32 0x00000000#32) reducesTo_S4096x1024_S1024_d0 h_S_) shapeCasts_S1024_S1x1024

theorem refGain_eq : refGain H (refGrad H T g) = fun y => gain H T g (y 1) := by
  funext y
  idx_vars y
  have h : ∀ a b, grad H T g a b = refGrad H T g (ix2 a b) := fun a b => (refGrad_at H T g a b).symm
  have n : ∀ a b, H (ix2 a b) * inv H a = refN H (ix2 a b) := fun a b => (refN_at H a b).symm
  unfold refGain gain
  simp only [h, n]
  generalize refN H = S
  generalize refGrad H T g = U
  pointwise
  exact Finset.sum_congr rfl fun a _ => mul_comm _ _

/-- The run's terms are those of the half-step's output. -/
theorem run_x (m : (ℓ : Loc nD τ sig) → Buf (Elt Ideal) ℓ) (c : Dev nD) (H : FVec Ideal S4096x1024 .f32)
    (e : H = refH (m ((c.tc : Thread nD τ).loc main_arg0)) (m ((c.tc : Thread nD τ).loc main_arg1)) (m ((c.tc : Thread nD τ).loc main_arg2))) :
    Value.res_main_v54 m c = refX H (m ((c.tc : Thread nD τ).loc main_arg3)) (refGrad H (m ((c.tc : Thread nD τ).loc main_arg4)) (m ((c.tc : Thread nD τ).loc main_arg3))) := by
  subst e
  unfold Value.res_main_v54; rfl
theorem run_xh (m : (ℓ : Loc nD τ sig) → Buf (Elt Ideal) ℓ) (c : Dev nD) (H : FVec Ideal S4096x1024 .f32)
    (e : H = refH (m ((c.tc : Thread nD τ).loc main_arg0)) (m ((c.tc : Thread nD τ).loc main_arg1)) (m ((c.tc : Thread nD τ).loc main_arg2))) :
    Value.res_main_v56 m c = refX H (m ((c.tc : Thread nD τ).loc main_arg3)) (refGrad H (m ((c.tc : Thread nD τ).loc main_arg4)) (m ((c.tc : Thread nD τ).loc main_arg3))) := by
  subst e
  unfold Value.res_main_v56; rfl

end Reference

end Cert.Head

end
-- ==== Proof.HeadArrays.lean ====
/-
  The half-step's way out with the last norm, the loss, and the gradients of both: what the windows hold.
-/
module

public import proofs.«01_k».proof.Proof.Gen.HeadIdeal.Value
public import proofs.«01_k».proof.Proof.Gen.HeadRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.HeadRef

@[expose] public section

set_option maxRecDepth 16384

noncomputable section

namespace Cert.Head

open Idealize.ShloMosaic Idealize.ShloMosaic.TcCoe Idealize.SL.Sem Idealize.ShloMosaic.StableHlo
open Idealize.ShloMosaic.Pipeline (Dat)

section Kernel
open Cert.HeadIdeal Cert.HeadIdeal.Gen

variable (m : (ℓ : Loc nD τ sig) → Buf (Elt Ideal) ℓ)

/-- The blocks that a point reads and writes. -/
theorem idx : ∀ t : Fin cfg0.N, win0_0.index t = ![t.val, 0] ∧ win0_1.index t = ![0, 0] ∧ win0_2.index t = ![t.val, 0] ∧ win0_3.index t = ![0, 0] ∧ win0_4.index t = ![t.val, 0]
    ∧ win0_5.index t = ![0, 0] ∧ win0_6.index t = ![t.val, 0] ∧ win0_7.index t = ![t.val, 0] ∧ win0_8.index t = ![0, 0] :=
  (by decide +kernel : ∀ t : Fin grid0.N, _)

/-- The half-step's output, over the call's arguments; the gain and the target. -/
abbrev Y (c : Dev nD) : FVec Ideal S4096x1024 .f32 := refH (m ((c : Thread nD τ).loc main_arg0)) (m ((c : Thread nD τ).loc main_arg1)) (m ((c : Thread nD τ).loc main_arg2))
abbrev G (c : Dev nD) : FVec Ideal S1x1024 .f32 := m ((c : Thread nD τ).loc main_arg3)
abbrev T (c : Dev nD) : FVec Ideal S4096x1024 .f32 := m ((c : Thread nD τ).loc main_arg4)

/-- A row of a point's blocks, among all the rows. -/
abbrev row (t : Fin cfg0.N) (k : Fin 512) : Fin 4096 := ⟨512 * t.val + k.val, by have := lt_of_lt_of_eq t.isLt N_0; omega⟩

/-- A point's block of the output. -/
abbrev Z (c : Dev nD) (t : Fin cfg0.N) : FVec Ideal S512x1024 .f32 := k0_pay5 (F := Ideal) (iblk m c 2 t) (iblk m c 0 t) (iblk m c 1 t)

theorem Z_at (c : Dev nD) (t : Fin cfg0.N) (r : Fin 512) (b : Fin 1024) : Z m c t (ix2 r b) = Y m c (ix2 (row t r) b) := by
  refine Eq.trans ?_ (refH_at _ _ _ (row t r) b).symm
  unfold Z k0_pay5
  pointwise
  refine congrArg₂ (· + ·) ?_ (congrArg (_ * ·) (Finset.sum_congr rfl fun j _ => congrArg₂ (· * ·) ?_ ?_))
  all_goals blk_point [iblk, V, idx t]
theorem gain_at (c : Dev nD) (t : Fin cfg0.N) (b : Fin 1024) : (iblk m c 3 t : Vec Ideal S1x1024 .f32) (ix2 0 b) = G m c (ix2 0 b) := by
  blk_point [iblk, V, idx t]
theorem target_at (c : Dev nD) (t : Fin cfg0.N) (r : Fin 512) (b : Fin 1024) : (iblk m c 4 t : Vec Ideal S512x1024 .f32) (ix2 r b) = T m c (ix2 (row t r) b) := by
  blk_point [iblk, V, idx t]

section Block
variable (v0 : Vec Ideal S512x1024 .f32) (v1 : Vec Ideal S512x2816 .bf16) (v2 : Vec Ideal S2816x1024 .bf16) (v7 : Vec Ideal S1x1024 .f32) (v20 : Vec Ideal S512x1024 .f32)

theorem inv_block (r : Fin 512) : k0_pay6 (F := Ideal) v0 v1 v2 (ix2 r 0) = Ideal.rsqrt (NormGrad.square fun j => k0_pay5 (F := Ideal) v0 v1 v2 (ix2 r j)) := by
  unfold k0_pay6
  generalize k0_pay5 (F := Ideal) v0 v1 v2 = Z
  pointwise [NormGrad.square]
theorem norm_block (r : Fin 512) (b : Fin 1024) : k0_pay7 (F := Ideal) v0 v1 v2 (ix2 r b) = k0_pay5 (F := Ideal) v0 v1 v2 (ix2 r b) * k0_pay6 (F := Ideal) v0 v1 v2 (ix2 r 0) := by
  unfold k0_pay7
  generalize k0_pay6 (F := Ideal) v0 v1 v2 = R
  generalize k0_pay5 (F := Ideal) v0 v1 v2 = Z
  pointwise
theorem err_block (r : Fin 512) (b : Fin 1024) : k0_pay8 (F := Ideal) v0 v1 v2 v7 v20 (ix2 r b) = k0_pay7 (F := Ideal) v0 v1 v2 (ix2 r b) * v7 (ix2 0 b) - v20 (ix2 r b) := by
  unfold k0_pay8
  generalize k0_pay7 (F := Ideal) v0 v1 v2 = Z
  pointwise
theorem grad_block (r : Fin 512) (b : Fin 1024) : k0_pay9 (F := Ideal) v0 v1 v2 v7 v20 (ix2 r b) = k0_pay8 (F := Ideal) v0 v1 v2 v7 v20 (ix2 r b) * Ideal.ofBits .f32 0x3A800000#32 := by
  unfold k0_pay9
  generalize k0_pay8 (F := Ideal) v0 v1 v2 v7 v20 = Z
  pointwise
theorem x_block (r : Fin 512) (b : Fin 1024) : k0_pay10 (F := Ideal) v0 v1 v2 v7 v20 (ix2 r b)
    = NormGrad.direct (fun j => k0_pay9 (F := Ideal) v0 v1 v2 v7 v20 (ix2 r j)) (fun j => k0_pay5 (F := Ideal) v0 v1 v2 (ix2 r j)) (fun j => v7 (ix2 0 j)) 0 b := by
  unfold NormGrad.direct k0_pay10
  rw [← inv_block, zero_add]
  simp only [← norm_block]
  generalize k0_pay9 (F := Ideal) v0 v1 v2 v7 v20 = U
  generalize k0_pay7 (F := Ideal) v0 v1 v2 = N
  generalize k0_pay6 (F := Ideal) v0 v1 v2 = R
  pointwise
theorem gain_step (U N : FVec Ideal S512x1024 .f32) (A : Vec Ideal S1x1024 .f32) (y : S1x1024.Idx) :
    k0_pay3 (F := Ideal) N U A y = A y + ∑ k : Fin 512, U (ix2 k (y 1)) * N (ix2 k (y 1)) := by
  unfold k0_pay3
  pointwise
theorem loss_step (E : FVec Ideal S512x1024 .f32) (A : Vec Ideal S1x128 .f32) (y : S1x128.Idx) :
    k0_pay4 (F := Ideal) E A y = A y + Ideal.ofBits .f32 0x3F000000#32 * ∑ k : Fin 512, Ideal.div (∑ j : Fin 1024, E (ix2 k j) * E (ix2 k j)) (Ideal.ofBits .f32 0x44800000#32) := by
  unfold k0_pay4
  pointwise
end Block

/-- The blocks' entries are those of the whole arrays. -/
abbrev E (c : Dev nD) (t : Fin cfg0.N) : FVec Ideal S512x1024 .f32 := k0_pay8 (F := Ideal) (iblk m c 2 t) (iblk m c 0 t) (iblk m c 1 t) (iblk m c 3 t) (iblk m c 4 t)
abbrev U (c : Dev nD) (t : Fin cfg0.N) : FVec Ideal S512x1024 .f32 := k0_pay9 (F := Ideal) (iblk m c 2 t) (iblk m c 0 t) (iblk m c 1 t) (iblk m c 3 t) (iblk m c 4 t)
abbrev N (c : Dev nD) (t : Fin cfg0.N) : FVec Ideal S512x1024 .f32 := k0_pay7 (F := Ideal) (iblk m c 2 t) (iblk m c 0 t) (iblk m c 1 t)

theorem N_at (c : Dev nD) (t : Fin cfg0.N) (r : Fin 512) (b : Fin 1024) : N m c t (ix2 r b) = Y m c (ix2 (row t r) b) * inv (Y m c) (row t r) := by
  refine (norm_block _ _ _ r b).trans (congrArg₂ (· * ·) (Z_at m c t r b) ((inv_block _ _ _ r).trans ?_))
  exact congrArg (fun f => Ideal.rsqrt (NormGrad.square f)) (funext fun j => Z_at m c t r j)
theorem E_at (c : Dev nD) (t : Fin cfg0.N) (r : Fin 512) (b : Fin 1024) : E m c t (ix2 r b) = err (Y m c) (T m c) (G m c) (row t r) b :=
  (err_block _ _ _ _ _ r b).trans (congrArg₂ (· - ·) (congrArg₂ (· * ·) (N_at m c t r b) (gain_at m c t b)) (target_at m c t r b))
theorem U_at (c : Dev nD) (t : Fin cfg0.N) (r : Fin 512) (b : Fin 1024) : U m c t (ix2 r b) = grad (Y m c) (T m c) (G m c) (row t r) b :=
  (grad_block _ _ _ _ _ r b).trans (congrArg (· * _) (E_at m c t r b))

/-! ## The gradient at the half-step's output -/

/-- As the kernel spells it. -/
def outX (c : Dev nD) : S4096x1024.Idx → EReal := fun i =>
  NormGrad.direct (fun j => grad (Y m c) (T m c) (G m c) (i 0) j) (fun j => Y m c (ix2 (i 0) j)) (fun j => G m c (ix2 0 j)) 0 (i 1)

theorem point (c : Dev nD) (t : Fin cfg0.N) (y : S512x1024.Idx) : k0_pay10 (F := Ideal) (iblk m c 2 t) (iblk m c 0 t) (iblk m c 1 t) (iblk m c 3 t) (iblk m c 4 t) y
    = outX m c (((View.whole main_v0_1).slice (win0_6.rect t)).emb y) := by
  idx_vars y
  have ht : t.val < 8 := lt_of_lt_of_eq t.isLt N_0
  have e : (((View.whole main_v0_1).slice (win0_6.rect t)).emb (ix2 y0 y1)) = ix2 (row t y0) y1 := by blk_ext [idx t]
  rw [e]
  refine (x_block _ _ _ _ _ y0 y1).trans ?_
  simp only [outX]
  congr 1
  · exact funext fun j => U_at m c t y0 j
  · exact funext fun j => Z_at m c t y0 j
  · exact funext fun j => gain_at m c t j

theorem atX (c : Dev nD) (t : Fin cfg0.N) : (outsAt0 m c t.val t.isLt).2.1 = k0_pay10 (F := Ideal) (iblk m c 2 t) (iblk m c 0 t) (iblk m c 1 t) (iblk m c 3 t) (iblk m c 4 t) := by
  by_cases h0 : t.val % 8 = 0
  · rw [outsAt0_A m c t h0]; frame_out
  · rw [outsAt0_B m c t h0]; frame_out
theorem atXh (c : Dev nD) (t : Fin cfg0.N) : (outsAt0 m c t.val t.isLt).2.2.1 = k0_pay11 (F := Ideal) (iblk m c 2 t) (iblk m c 0 t) (iblk m c 1 t) (iblk m c 3 t) (iblk m c 4 t) := by
  by_cases h0 : t.val % 8 = 0
  · rw [outsAt0_A m c t h0]; frame_out
  · rw [outsAt0_B m c t h0]; frame_out

theorem final_x (c : Dev nD) : (dats m 0 c).arrAt 6 (cfgs 0).N = outX m c := by
  refine (dats m 0 c).arrAt_eq_of_covers 6 _ (by decide +kernel) fun t hf y => ?_
  blk_simp
  rw [after0_6, atX]
  exact point m c t y
theorem final_xh (c : Dev nD) : (dats m 0 c).arrAt 7 (cfgs 0).N = outX m c := by
  refine (dats m 0 c).arrAt_eq_of_covers 7 _ (by decide +kernel) fun t hf y => ?_
  blk_simp
  rw [after0_7, atXh]
  exact point m c t y

/-- Over real arguments that is the reference's gradient. -/
theorem outX_eq (c : Dev nD) (hy : ∀ i, Reals.IsReal (Y m c i)) (hu : ∀ a b, Reals.IsReal (grad (Y m c) (T m c) (G m c) a b)) (hg : ∀ i, Reals.IsReal (G m c i)) :
    outX m c = refX (Y m c) (G m c) (refGrad (Y m c) (T m c) (G m c)) := by
  funext i
  idx_vars i
  refine (NormGrad.direct_eq_chain _ _ _ _ _ (fun j => hu _ _) (fun j => hy _) (fun j => hg _)).trans (Eq.trans ?_ (refX_at _ _ _ i0 i1).symm)
  exact congrArg (fun f => NormGrad.chain f _ _ 0 i1) (funext fun j => (refGrad_at _ _ _ i0 j).symm)

/-! ## The gain's gradient -/

/-- One point's addition. -/
def gainPart (c : Dev nD) (t : Fin cfg0.N) (y : S1x1024.Idx) : EReal :=
  ∑ k : Fin 512, grad (Y m c) (T m c) (G m c) (row t k) (y 1) * (Y m c (ix2 (row t k) (y 1)) * inv (Y m c) (row t k))

theorem gain_block (c : Dev nD) (t : Fin cfg0.N) (A : Vec Ideal S1x1024 .f32) (y : S1x1024.Idx) : k0_pay3 (F := Ideal) (N m c t) (U m c t) A y = A y + gainPart m c t y :=
  (gain_step _ _ A y).trans (congrArg (A y + ·) (Finset.sum_congr rfl fun k _ => congrArg₂ (· * ·) (U_at m c t k (y 1)) (N_at m c t k (y 1))))

theorem gainA (c : Dev nD) (t : Fin cfg0.N) (h0 : t.val % 8 = 0) (y : S1x1024.Idx) : (outsAt0 m c t.val t.isLt).2.2.2 y = gainPart m c t y := by
  rw [outsAt0_A m c t h0]
  frame_out
  refine (gain_block m c t _ y).trans ?_
  open_payloads
  pointwise
theorem gainB (c : Dev nD) (t : Fin cfg0.N) (h0 : ¬t.val % 8 = 0) (y : S1x1024.Idx) :
    (outsAt0 m c t.val t.isLt).2.2.2 y = (outsAt0 m c (t.val - 1) (Nat.lt_of_le_of_lt (Nat.sub_le _ _) t.isLt)).2.2.2 y + gainPart m c t y := by
  rw [outsAt0_B m c t h0]
  frame_out
  exact gain_block m c t _ y

/-- At the last point the window holds the sum of the eight points' additions. -/
theorem gain_sum (c : Dev nD) (t : Fin cfg0.N) (h : t.val % 8 = 8 - 1) (y : S1x1024.Idx) :
    (outsAt0 m c t.val t.isLt).2.2.2 y = ∑ s : Fin 8, gainPart m c ⟨8 * (t.val / 8) + s.val, Pipeline.run_point_lt_of_flush t h s⟩ y := by
  rw [Pipeline.eq_sum_fin_of_reset_step_apply_of_flush (fun n h => (outsAt0 m c n h).2.2.2) 8 (fun _ => (0 : EReal)) (gainPart m c)
    (fun t h y => by rw [gainA m c t h y, zero_add]) (fun t h y => gainB m c t h y) t h y, zero_add]

theorem row_at (t : Fin cfg0.N) (h : t.val % 8 = 8 - 1) (s : Fin 8) (k : Fin 512) (hl : s.val * 512 + k.val < 4096) :
    row ⟨8 * (t.val / 8) + s.val, Pipeline.run_point_lt_of_flush t h s⟩ k = ⟨s.val * 512 + k.val, hl⟩ := by
  have ht : t.val < 8 := lt_of_lt_of_eq t.isLt N_0
  exact Fin.ext (by show 512 * (8 * (t.val / 8) + s.val) + k.val = s.val * 512 + k.val; omega)

theorem final_gain (c : Dev nD) : (dats m 0 c).arrAt 8 (cfgs 0).N = fun y : S1x1024.Idx => gain (Y m c) (T m c) (G m c) (y 1) := by
  refine (dats m 0 c).arrAt_eq_of_covers 8 _ (by decide +kernel) fun t hf y => ?_
  have h7 := (flush0_8 t).mp hf
  blk_simp
  rw [after0_8, gain_sum m c t h7]
  idx_vars y
  have e : (((View.whole main_v0_3).slice (win0_8.rect t)).emb (ix2 y0 y1)) = ix2 0 y1 := by blk_ext [idx t]
  rw [e]
  unfold gainPart gain
  refine Fin.sum_mul_add_congr fun s k hl => ?_
  rw [row_at t h7 s k hl]
  try rfl

/-! ## The loss -/

/-- One point's addition: half of its rows' mean squares. -/
def lossPart (c : Dev nD) (t : Fin cfg0.N) : EReal :=
  Ideal.ofBits .f32 0x3F000000#32 * ∑ k : Fin 512, Ideal.div (∑ j : Fin 1024, err (Y m c) (T m c) (G m c) (row t k) j * err (Y m c) (T m c) (G m c) (row t k) j) (Ideal.ofBits .f32 0x44800000#32)

theorem loss_block (c : Dev nD) (t : Fin cfg0.N) (A : Vec Ideal S1x128 .f32) (y : S1x128.Idx) : k0_pay4 (F := Ideal) (E m c t) A y = A y + lossPart m c t := by
  refine (loss_step _ A y).trans (congrArg (fun x => A y + Ideal.ofBits .f32 0x3F000000#32 * x) (Finset.sum_congr rfl fun k _ => ?_))
  exact congrArg (fun x => Ideal.div x _) (Finset.sum_congr rfl fun j _ => congrArg₂ (· * ·) (E_at m c t k j) (E_at m c t k j))

theorem lossA (c : Dev nD) (t : Fin cfg0.N) (h0 : t.val % 8 = 0) (y : S1x128.Idx) : (outsAt0 m c t.val t.isLt).1 y = lossPart m c t := by
  rw [outsAt0_A m c t h0]
  frame_out
  refine (loss_block m c t _ y).trans ?_
  open_payloads
  pointwise
theorem lossB (c : Dev nD) (t : Fin cfg0.N) (h0 : ¬t.val % 8 = 0) (y : S1x128.Idx) :
    (outsAt0 m c t.val t.isLt).1 y = (outsAt0 m c (t.val - 1) (Nat.lt_of_le_of_lt (Nat.sub_le _ _) t.isLt)).1 y + lossPart m c t := by
  rw [outsAt0_B m c t h0]
  frame_out
  exact loss_block m c t _ y

theorem loss_sum (c : Dev nD) (t : Fin cfg0.N) (h : t.val % 8 = 8 - 1) (y : S1x128.Idx) :
    (outsAt0 m c t.val t.isLt).1 y = ∑ s : Fin 8, lossPart m c ⟨8 * (t.val / 8) + s.val, Pipeline.run_point_lt_of_flush t h s⟩ := by
  rw [Pipeline.eq_sum_fin_of_reset_step_apply_of_flush (fun n h => (outsAt0 m c n h).1) 8 (fun _ => (0 : EReal)) (fun t _ => lossPart m c t)
    (fun t h y => by rw [lossA m c t h y, zero_add]) (fun t h y => lossB m c t h y) t h y, zero_add]

theorem final_loss (c : Dev nD) : (dats m 0 c).arrAt 5 (cfgs 0).N = fun _ : S1x128.Idx => total (Y m c) (T m c) (G m c) := by
  refine (dats m 0 c).arrAt_eq_of_covers 5 _ (by decide +kernel) fun t hf y => ?_
  have h7 := (flush0_5 t).mp hf
  blk_simp
  rw [after0_5, loss_sum m c t h7]
  unfold lossPart total
  rw [Reals.ofBits_half, ← Reals.mul_sum _ _ (by norm_num)]
  refine congrArg (_ * ·) (Fin.sum_mul_add_congr fun s k hl => ?_)
  rw [row_at t h7 s k hl]

end Kernel

end Cert.Head

end
-- ==== Proof.HeadClaim.lean ====
/-
  The value claim of the loss head, over finite arguments.
-/
module

public import proofs.«01_k».proof.Defs
public import proofs.«01_k».proof.Proof.Finite
public import proofs.«01_k».proof.Proof.Gen.Pre_finite_head
public import proofs.«01_k».proof.Proof.HeadArrays

@[expose] public section

set_option maxRecDepth 16384

noncomputable section

open Idealize.ShloMosaic Idealize.ShloMosaic.TcCoe Idealize.SL.Sem

namespace Cert.Head

theorem real_sub {x y : EReal} : Reals.IsReal x → Reals.IsReal y → Reals.IsReal (x - y) := by
  rintro ⟨a, rfl⟩ ⟨b, rfl⟩; exact ⟨a - b, (EReal.coe_sub a b).symm⟩

theorem real_half : Reals.IsReal (Ideal.ofBits .f32 0x3F000000#32) := ⟨_, Reals.ofBits_half⟩
theorem real_width : Reals.IsReal (Ideal.ofBits .f32 0x3A800000#32) := ⟨1 / 1024, by simp [Ideal.ofBits, Ideal.ieee, -EReal.coe_mul]; norm_num⟩

/-- The inverse root of a real row's guarded mean square is real. -/
theorem inv_real (H : FVec Ideal ⟨2, ![4096, 1024]⟩ .f32) (h : ∀ i, Reals.IsReal (H i)) (a : Fin 4096) : Reals.IsReal (inv H a) := by
  choose r hr using h
  obtain ⟨e, he, hee⟩ := Reals.ofBits_eps
  have hn : 0 ≤ ∑ j : Fin 1024, r (ix2 a j) * r (ix2 a j) := Finset.sum_nonneg fun j _ => mul_self_nonneg _
  unfold inv NormGrad.square
  rw [hee, Reals.ofBits_1024, show (∑ j : Fin 1024, H (ix2 a j) * H (ix2 a j)) = ((∑ j : Fin 1024, r (ix2 a j) * r (ix2 a j) : ℝ) : EReal) by
    rw [Reals.coe_sum]; exact Finset.sum_congr rfl fun j _ => by rw [hr, ← EReal.coe_mul], Reals.div_real _ _ (by norm_num), ← EReal.coe_add]
  exact ⟨_, Reals.rsqrt_real _ (by positivity)⟩

/-- The loss's gradient is real over real arrays. -/
theorem grad_real (H T : FVec Ideal ⟨2, ![4096, 1024]⟩ .f32) (g : FVec Ideal ⟨2, ![1, 1024]⟩ .f32) (hH : ∀ i, Reals.IsReal (H i)) (hT : ∀ i, Reals.IsReal (T i))
    (hg : ∀ i, Reals.IsReal (g i)) (a : Fin 4096) (b : Fin 1024) : Reals.IsReal (grad H T g a b) :=
  (real_sub (((hH _).mul (inv_real H hH a)).mul (hg _)) (hT _)).mul real_width

/-- The half-step's way out, the loss and the gradients of both. -/
theorem algebraic : Cert.algebraic_HeadIdeal_HeadRefIdeal_pre_finite_head := fun m ρ m' ρ' hpre hag =>
  ⟨_, _, _, _, (θ_run _ _ _).mono (fun _ h c => by
      obtain ⟨p0, p1, p2, p3, p4⟩ := hpre c
      have hy : ∀ i, Reals.IsReal (Y m c i) := fun i => by
        idx_vars i
        refine (congrArg Reals.IsReal (refH_at _ _ _ i0 i1)).mpr (((Reals.real_of_finite _ _ (fun _ => Reals.ofBits_inf_f32) p2) _).add (real_half.mul (Reals.IsReal.sum _ fun j =>
          ((Reals.real_of_finite _ _ (fun _ => Reals.ofBits_inf_bf16) p0) _).mul ((Reals.real_of_finite _ _ (fun _ => Reals.ofBits_inf_bf16) p1) _))))
      have e := outX_eq m c hy (grad_real _ _ _ hy (Reals.real_of_finite _ _ (fun _ => Reals.ofBits_inf_f32) p4) (Reals.real_of_finite _ _ (fun _ => Reals.ofBits_inf_f32) p3)) (Reals.real_of_finite _ _ (fun _ => Reals.ofBits_inf_f32) p3)
      exact ⟨(h c).1.trans (final_loss m c), (h c).2.1.trans ((final_x m c).trans e), (h c).2.2.1.trans ((final_xh m c).trans e),
        (h c).2.2.2.1.trans (final_gain m c), (h c).2.2.2.2⟩) (HeadIdeal.Value.run_blocks m ρ),
    (θ_run _ _ _).mono (fun _ h c => by
      obtain ⟨a0, a1, a2, a3, a4⟩ := hag c
      have ey : refH _ _ _ = Y m c := congr (congrArg₂ refH a0 a1) a2
      exact ⟨(h c).1.trans (by rw [a0, a1, a2, a3, a4]; exact refTotal_eq _ _ _),
        (h c).2.1.trans (by rw [run_x m' c _ ey.symm, a3, a4]), (h c).2.2.1.trans (by rw [run_xh m' c _ ey.symm, a3, a4]),
        (h c).2.2.2.1.trans (by rw [a0, a1, a2, a3, a4]; exact refGain_eq _ _ _), (h c).2.2.2.2⟩) (HeadRefIdeal.Value.run m' ρ')⟩

end Cert.Head

end
-- ==== Proof.CoeffForward.lean ====
/-
  The gradients of one recurrence's coefficients (forward in time): what the kernel's windows hold, and the reference's sums.
-/
module

public import proofs.«01_k».proof.Proof.Gen.ParamFIdeal.Value
public import proofs.«01_k».proof.Proof.Gen.ParamFRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.CoeffF

open Idealize.ShloMosaic Idealize.ShloMosaic.TcCoe Idealize.SL.Sem Idealize.ShloMosaic.StableHlo
open Idealize.ShloMosaic.Pipeline (Dat)

section Reference
open Cert.ParamFRefIdeal Cert.ParamFRefIdeal.Gen

/-- The upper half of the channels: the imaginary parts. -/
abbrev hi (j : Fin 1024) : Fin 2048 := ⟨1024 + j.val, by omega⟩
/-- The lower half: the real parts. -/
abbrev lo (j : Fin 1024) : Fin 2048 := ⟨j.val, by omega⟩

/-- The state that the recurrence reads at a row: that of the row above, and zero at the first row. -/
def seen (P : FVec Ideal S4096x2048 .bf16) (a : Fin 4096) (b : Fin 2048) : EReal :=
  if h : a.val = 0 then 0 else P (ix2 ⟨a.val - 1, by omega⟩ b)

/-- The reference's array of those states. -/
theorem prev_at (P : FVec Ideal S4096x2048 .bf16) (a : Fin 4096) (b : Fin 2048) :
    (concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0) (ix2 a b)
      = seen P a b := by
  pointwise [seen]
  exact dite_congr (propext Nat.lt_one_iff) (fun _ => rfl) (fun _ => rfl)

/-- The coefficient's gradient, real and imaginary part, one channel. -/
def gradR (L P : FVec Ideal S4096x2048 .bf16) (y : S1x1024.Idx) : EReal :=
  ∑ a : Fin 4096, (L (ix2 a (lo (y 1))) * seen P a (lo (y 1)) + L (ix2 a (hi (y 1))) * seen P a (hi (y 1)))
def gradI (L P : FVec Ideal S4096x2048 .bf16) (y : S1x1024.Idx) : EReal :=
  ∑ a : Fin 4096, (L (ix2 a (hi (y 1))) * seen P a (lo (y 1)) - L (ix2 a (lo (y 1))) * seen P a (hi (y 1)))
/-- The gradient of a matrix of the recurrence: a sum over the rows. -/
def gradM (X : FVec Ideal S4096x256 .bf16) (L : FVec Ideal S4096x2048 .bf16) (y : S256x2048.Idx) : EReal :=
  ∑ a : Fin 4096, X (ix2 a (y 0)) * L (ix2 a (y 1))

/-- The two sums that the reference adds, over any array of the states read. -/
theorem split (f g : Fin 4096 → EReal) : (∑ a, f a) + (∑ a, g a) = ∑ a, (f a + g a) := Finset.sum_add_distrib.symm

theorem refR (L P : FVec Ideal S4096x2048 .bf16) :
    addf (shapeCast _ (Host.reduceAdd (mulf (extractStridedSlice S4096x1024 ![0, 1024] (extf .f32 L bitsLt_bf16_f32) slices_S4096x2048_S4096x1024_0_1024) (extractStridedSlice S4096x1024 ![0, 1024] (extf .f32 ((concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0)) bitsLt_bf16_f32) slices_S4096x2048_S4096x1024_0_1024)) (constant S_ .f32 0x00000000#32) reducesTo_S4096x1024_S1024_d0 h_S_) shapeCasts_S1024_S1x1024) (shapeCast _ (Host.reduceAdd (mulf (extractStridedSlice S4096x1024 ![0, 0] (extf .f32 L bitsLt_bf16_f32) slices_S4096x2048_S4096x1024_0_0) (extractStridedSlice S4096x1024 ![0, 0] (extf .f32 ((concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0)) bitsLt_bf16_f32) slices_S4096x2048_S4096x1024_0_0)) (constant S_ .f32 0x00000000#32) reducesTo_S4096x1024_S1024_d0 h_S_) shapeCasts_S1024_S1x1024)
      = gradR L P := by
  funext y
  idx_vars y
  have hp := prev_at P
  generalize (concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0) = Q at hp ⊢
  pointwise [gradR]
  rw [split]
  refine Finset.sum_congr rfl fun a _ => ?_
  rw [add_comm, ← hp, ← hp]
  try rfl

theorem refI (L P : FVec Ideal S4096x2048 .bf16) :
    addf (shapeCast _ (Host.reduceAdd (mulf (extractStridedSlice S4096x1024 ![0, 1024] (extf .f32 L bitsLt_bf16_f32) slices_S4096x2048_S4096x1024_0_1024) (extractStridedSlice S4096x1024 ![0, 0] (extf .f32 ((concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0)) bitsLt_bf16_f32) slices_S4096x2048_S4096x1024_0_0)) (constant S_ .f32 0x00000000#32) reducesTo_S4096x1024_S1024_d0 h_S_) shapeCasts_S1024_S1x1024) (shapeCast _ (Host.reduceAdd (mulf (Host.negf (extractStridedSlice S4096x1024 ![0, 0] (extf .f32 L bitsLt_bf16_f32) slices_S4096x2048_S4096x1024_0_0)) (extractStridedSlice S4096x1024 ![0, 1024] (extf .f32 ((concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0)) bitsLt_bf16_f32) slices_S4096x2048_S4096x1024_0_1024)) (constant S_ .f32 0x00000000#32) reducesTo_S4096x1024_S1024_d0 h_S_) shapeCasts_S1024_S1x1024)
      = gradI L P := by
  funext y
  idx_vars y
  have hp := prev_at P
  generalize (concatenate S4096x2048 0 [⟨S1x2048, (broadcastInDim S1x2048 ![] bcast_S_S1x2048 (constant (F := Ideal) S_ .bf16 0x0000#16))⟩, ⟨S4095x2048, (extractStridedSlice S4095x2048 ![0, 0] P slices_S4096x2048_S4095x2048_0_0)⟩] concatenates_S1x2048_S4095x2048_S4096x2048_d0) = Q at hp ⊢
  pointwise [gradI]
  rw [split]
  refine Finset.sum_congr rfl fun a _ => ?_
  rw [← hp, ← hp, sub_eq_add_neg, EReal.neg_mul]
  try rfl

theorem refW (X : FVec Ideal S4096x256 .bf16) (L : FVec Ideal S4096x2048 .bf16) :
    transpose S256x2048 [1, 0] (Host.dotGeneral dot_S4096x2048_S4096x256_S2048x256_0_0_1_1_n_n none (extf .f32 L bitsLt_bf16_f32) (extf .f32 X bitsLt_bf16_f32)) transposes_S2048x256_S256x2048_1_0
      = gradM X L := by
  funext y
  idx_vars y
  pointwise [gradM]
  exact Finset.sum_congr rfl fun a _ => mul_comm _ _

theorem refV (X : FVec Ideal S4096x256 .bf16) (L : FVec Ideal S4096x2048 .bf16) :
    transpose S256x2048 [1, 0] (transpose S2048x256 [1, 0] (Host.dotGeneral dot_S4096x256_S4096x2048_S256x2048_0_0_1_1_n_n none (extf .f32 X bitsLt_bf16_f32) (extf .f32 L bitsLt_bf16_f32)) transposes_S256x2048_S2048x256_1_0) transposes_S2048x256_S256x2048_1_0
      = gradM X L := by
  funext y
  idx_vars y
  pointwise [gradM]

end Reference

section Kernel
open Cert.ParamFIdeal Cert.ParamFIdeal.Gen

variable (m : (ℓ : Loc nD τ sig) → Buf (Elt Ideal) ℓ)

/-- The blocks that a point reads and writes; the third is the sixteen rows of states above the block. -/
theorem idx : ∀ t : Fin cfg0.N, win0_0.index t = ![t.val, 0] ∧ win0_1.index t = ![t.val, 0] ∧ win0_2.index t = ![64 * t.val - 1, 0] ∧ win0_3.index t = ![t.val, 0] ∧ win0_4.index t = ![t.val, 0]
    ∧ win0_5.index t = ![0, 0] ∧ win0_6.index t = ![0, 0] ∧ win0_7.index t = ![0, 0] ∧ win0_8.index t = ![0, 0] :=
  (by decide +kernel : ∀ t : Fin grid0.N, _)

/-- The call's arrays: the adjoint states, the states, the input and the output's gradient. -/
abbrev L (c : Dev nD) : FVec Ideal S4096x2048 .bf16 := m ((c : Thread nD τ).loc main_arg0)
abbrev P (c : Dev nD) : FVec Ideal S4096x2048 .bf16 := m ((c : Thread nD τ).loc main_arg1)
abbrev X (c : Dev nD) : FVec Ideal S4096x256 .bf16 := m ((c : Thread nD τ).loc main_arg2)
abbrev Y (c : Dev nD) : FVec Ideal S4096x256 .bf16 := m ((c : Thread nD τ).loc main_arg3)

/-- A row of a point's blocks, among all the rows. -/
abbrev row (t : Fin cfg0.N) (k : Fin 1024) : Fin 4096 := ⟨1024 * t.val + k.val, by have := lt_of_lt_of_eq t.isLt N_0; omega⟩

/-- The two comparisons: the row that has no neighbour in the block, and the point whose block has no neighbour. -/
theorem edgeRow (k : Fin 1024) : IntOp.cmpi .eq (BitVec.ofNat 32 k.val) 0#32 = if k.val = 0 then 1#1 else 0#1 :=
  (by decide +kernel : ∀ k : Fin 1024, IntOp.cmpi .eq (BitVec.ofNat 32 k.val) 0#32 = if k.val = 0 then 1#1 else 0#1) k
theorem edgePoint (t : Fin cfg0.N) : Scalar.cmpi .sgt (BitVec.ofNat 32 (grid0.coords t 0).val) 0#32 = if t.val = 0 then 0#1 else 1#1 :=
  (by decide +kernel : ∀ t : Fin grid0.N, Scalar.cmpi .sgt (BitVec.ofNat 32 (grid0.coords t 0).val) 0#32 = if t.val = 0 then 0#1 else 1#1) t

theorem take (a b : EReal) : Scalar.select 1#1 a b = a := if_pos rfl
theorem drop (a b : EReal) : Scalar.select 0#1 a b = b := if_neg (by decide)

/-- What the kernel multiplies by at a row of a point's block, real part: the state read there. -/
theorem seenR (c : Dev nD) (t : Fin cfg0.N) (k j : Fin 1024) :
    k0_pay10 (F := Ideal) (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0))) (ix2 k j) = seen (P m c) (row t k) (lo j) := by
  have ht : t.val < 4 := lt_of_lt_of_eq t.isLt N_0
  open_payloads
  pointwise
  rw [edgeRow, edgePoint]
  unfold seen
  by_cases hk : k.val = 0
  · by_cases h0 : t.val = 0
    · rw [dif_pos (by show 1024 * t.val + k.val = 0; omega)]
      simp only [hk, h0, if_true, take, drop]
    · rw [dif_neg (by show ¬1024 * t.val + k.val = 0; omega)]
      simp only [hk, h0, if_true, if_false, take]
      blk_point [iblk, V, idx t]
  · rw [dif_neg (by show ¬1024 * t.val + k.val = 0; omega)]
    simp only [hk, if_false, drop]
    blk_point [iblk, V, idx t]

/-- The imaginary part. -/
theorem seenI (c : Dev nD) (t : Fin cfg0.N) (k j : Fin 1024) :
    k0_pay11 (F := Ideal) (iota Kind.tc S1024x1024 32 [0] iota_S1024x1024_d0_w32) (Scalar.cmpi CmpIPredicate.sgt (BitVec.ofNat 32 ↑(grid0.coords t 0)) 0#32)
      (View.ld (iblk m c 2 t) (Rect.unit ![0, 1024] ![16, 1024] inb_S16x2048_S16x1024_0_1024))
      (View.ld (iblk m c 1 t) (Rect.unit ![0, 1024] ![1024, 1024] inb_S1024x2048_S1024x1024_0_1024)) (ix2 k j) = seen (P m c) (row t k) (hi j) := by
  have ht : t.val < 4 := lt_of_lt_of_eq t.isLt N_0
  open_payloads
  pointwise
  rw [edgeRow, edgePoint]
  unfold seen
  by_cases hk : k.val = 0
  · by_cases h0 : t.val = 0
    · rw [dif_pos (by show 1024 * t.val + k.val = 0; omega)]
      simp only [hk, h0, if_true, take, drop]
    · rw [dif_neg (by show ¬1024 * t.val + k.val = 0; omega)]
      simp only [hk, h0, if_true, if_false, take]
      blk_point [iblk, V, idx t]
  · rw [dif_neg (by show ¬1024 * t.val + k.val = 0; omega)]
    simp only [hk, if_false, drop]
    blk_point [iblk, V, idx t]

/-- One point's additions. -/
def partR (c : Dev nD) (t : Fin cfg0.N) (y : S1x1024.Idx) : EReal :=
  ∑ k : Fin 1024, (L m c (ix2 (row t k) (lo (y 1))) * seen (P m c) (row t k) (lo (y 1)) + L m c (ix2 (row t k) (hi (y 1))) * seen (P m c) (row t k) (hi (y 1)))
def partI (c : Dev nD) (t : Fin cfg0.N) (y : S1x1024.Idx) : EReal :=
  ∑ k : Fin 1024, (L m c (ix2 (row t k) (hi (y 1))) * seen (P m c) (row t k) (lo (y 1)) - L m c (ix2 (row t k) (lo (y 1))) * seen (P m c) (row t k) (hi (y 1)))
def partM (X : FVec Ideal S4096x256 .bf16) (L : FVec Ideal S4096x2048 .bf16) (t : Fin cfg0.N) (y : S256x2048.Idx) : EReal :=
  ∑ k : Fin 1024, X (ix2 (row t k) (y 0)) * L (ix2 (row t k) (y 1))

/-- The adjoint states that a point's block holds. -/
theorem adjLo (c : Dev nD) (t : Fin cfg0.N) (k j : Fin 1024) :
    View.ld (iblk m c 0 t) (Rect.unit ![0, 0] ![1024, 1024] inb_S1024x2048_S1024x1024_0_0) (ix2 k j) = L m c (ix2 (row t k) (lo j)) := by
  blk_point [iblk, V, idx t]
theorem adjHi (c : Dev nD) (t : Fin cfg0.N) (k j : Fin 1024) :
    View.ld (iblk m c 0 t) (Rect.unit ![0, 1024] ![1024, 1024] inb_S1024x2048_S1024x1024_0_1024) (ix2 k j) = L m c (ix2 (row t k) (hi j)) := by
  blk_point [iblk, V, idx t]

theorem stepR (v17 : IVec S1024x1024 32) (v18 : BitVec 1) (v25 : FVec Ideal S1024x1024 .f32) (v27 : IVec S1024x1024 1) (v28 : FVec Ideal S1x1024 .f32)
    (v32 : Vec Ideal S16x1024 .bf16) (v37 v45 v47 : Vec Ideal S1024x1024 .bf16) (A : Vec Ideal S1x1024 .f32) (y : S1x1024.Idx) :
    k0_pay14 (F := Ideal) v17 v18 v25 v27 v28 v32 v37 v45 v47 A y
      = A y + ∑ k : Fin 1024, (v45 (ix2 k (y 1)) * k0_pay10 v25 v27 v28 (ix2 k (y 1)) + v47 (ix2 k (y 1)) * k0_pay11 v17 v18 v32 v37 (ix2 k (y 1))) := by
  unfold k0_pay14 k0_pay12 k0_pay13
  generalize k0_pay10 v25 v27 v28 = A
  generalize k0_pay11 v17 v18 v32 v37 = B
  pointwise
theorem stepI (v17 : IVec S1024x1024 32) (v18 : BitVec 1) (v25 : FVec Ideal S1024x1024 .f32) (v27 : IVec S1024x1024 1) (v28 : FVec Ideal S1x1024 .f32)
    (v32 : Vec Ideal S16x1024 .bf16) (v37 v45 v47 : Vec Ideal S1024x1024 .bf16) (A : Vec Ideal S1x1024 .f32) (y : S1x1024.Idx) :
    k0_pay15 (F := Ideal) v17 v18 v25 v27 v28 v32 v37 v45 v47 A y
      = A y + ∑ k : Fin 1024, (v47 (ix2 k (y 1)) * k0_pay10 v25 v27 v28 (ix2 k (y 1)) - v45 (ix2 k (y 1)) * k0_pay11 v17 v18 v32 v37 (ix2 k (y 1))) := by
  unfold k0_pay15 k0_pay12 k0_pay13
  generalize k0_pay10 v25 v27 v28 = A
  generalize k0_pay11 v17 v18 v32 v37 = B
  pointwise
theorem stepW (x : Vec Ideal S1024x256 .bf16) (l : Vec Ideal S1024x2048 .bf16) (A : Vec Ideal S256x2048 .f32) (y : S256x2048.Idx) :
    k0_pay5 (F := Ideal) A x l y = A y + ∑ k : Fin 1024, x (ix2 k (y 0)) * l (ix2 k (y 1)) := by
  open_payloads
  pointwise
theorem stepV (x : Vec Ideal S1024x256 .bf16) (l : Vec Ideal S1024x2048 .bf16) (A : Vec Ideal S256x2048 .f32) (y : S256x2048.Idx) :
    k0_pay6 (F := Ideal) A x l y = A y + ∑ k : Fin 1024, x (ix2 k (y 0)) * l (ix2 k (y 1)) := by
  open_payloads
  pointwise

theorem blockR (c : Dev nD) (t : Fin cfg0.N) (A : Vec Ideal S1x1024 .f32) (y : S1x1024.Idx) :
    k0_pay14 (F := Ideal) (iota Kind.tc S1024x1024 32 [0] iota_S1024x1024_d0_w32) (Scalar.cmpi CmpIPredicate.sgt (BitVec.ofNat 32 ↑(grid0.coords t 0)) 0#32)
      (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0)))
      (View.ld (iblk m c 2 t) (Rect.unit ![0, 1024] ![16, 1024] inb_S16x2048_S16x1024_0_1024))
      (View.ld (iblk m c 1 t) (Rect.unit ![0, 1024] ![1024, 1024] inb_S1024x2048_S1024x1024_0_1024))
      (View.ld (iblk m c 0 t) (Rect.unit ![0, 0] ![1024, 1024] inb_S1024x2048_S1024x1024_0_0))
      (View.ld (iblk m c 0 t) (Rect.unit ![0, 1024] ![1024, 1024] inb_S1024x2048_S1024x1024_0_1024)) A y = A y + partR m c t y := by
  refine (stepR _ _ _ _ _ _ _ _ _ A y).trans (congrArg (A y + ·) ?_)
  unfold partR
  exact Finset.sum_congr rfl fun k _ => congrArg₂ (· + ·) (congrArg₂ (· * ·) (adjLo m c t k (y 1)) (seenR m c t k (y 1)))
    (congrArg₂ (· * ·) (adjHi m c t k (y 1)) (seenI m c t k (y 1)))
theorem blockI (c : Dev nD) (t : Fin cfg0.N) (A : Vec Ideal S1x1024 .f32) (y : S1x1024.Idx) :
    k0_pay15 (F := Ideal) (iota Kind.tc S1024x1024 32 [0] iota_S1024x1024_d0_w32) (Scalar.cmpi CmpIPredicate.sgt (BitVec.ofNat 32 ↑(grid0.coords t 0)) 0#32)
      (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0)))
      (View.ld (iblk m c 2 t) (Rect.unit ![0, 1024] ![16, 1024] inb_S16x2048_S16x1024_0_1024))
      (View.ld (iblk m c 1 t) (Rect.unit ![0, 1024] ![1024, 1024] inb_S1024x2048_S1024x1024_0_1024))
      (View.ld (iblk m c 0 t) (Rect.unit ![0, 0] ![1024, 1024] inb_S1024x2048_S1024x1024_0_0))
      (View.ld (iblk m c 0 t) (Rect.unit ![0, 1024] ![1024, 1024] inb_S1024x2048_S1024x1024_0_1024)) A y = A y + partI m c t y := by
  refine (stepI _ _ _ _ _ _ _ _ _ A y).trans (congrArg (A y + ·) ?_)
  unfold partI
  exact Finset.sum_congr rfl fun k _ => congrArg₂ (· - ·) (congrArg₂ (· * ·) (adjHi m c t k (y 1)) (seenR m c t k (y 1)))
    (congrArg₂ (· * ·) (adjLo m c t k (y 1)) (seenI m c t k (y 1)))
theorem blockW (c : Dev nD) (t : Fin cfg0.N) (A : Vec Ideal S256x2048 .f32) (y : S256x2048.Idx) :
    k0_pay5 (F := Ideal) A (iblk m c 3 t) (iblk m c 0 t) y = A y + partM (X m c) (L m c) t y := by
  refine (stepW _ _ A y).trans (congrArg (A y + ·) ?_)
  unfold partM
  idx_vars y
  refine Finset.sum_congr rfl fun k _ => congrArg₂ (· * ·) ?_ ?_
  all_goals blk_point [iblk, V, idx t]
theorem blockV (c : Dev nD) (t : Fin cfg0.N) (A : Vec Ideal S256x2048 .f32) (y : S256x2048.Idx) :
    k0_pay6 (F := Ideal) A (iblk m c 4 t) (iblk m c 1 t) y = A y + partM (Y m c) (P m c) t y := by
  refine (stepV _ _ A y).trans (congrArg (A y + ·) ?_)
  unfold partM
  idx_vars y
  refine Finset.sum_congr rfl fun k _ => congrArg₂ (· * ·) ?_ ?_
  all_goals blk_point [iblk, V, idx t]

/-! ## The coefficient: real part -/

theorem AR (c : Dev nD) (t : Fin cfg0.N) (h0 : t.val % 4 = 0) (y : S1x1024.Idx) : (outsAt0 m c t.val t.isLt).1 y = partR m c t y := by
  rw [outsAt0_A m c t h0]
  frame_out
  refine (blockR m c t _ y).trans ?_
  open_payloads
  pointwise
theorem BR (c : Dev nD) (t : Fin cfg0.N) (h0 : ¬t.val % 4 = 0) (y : S1x1024.Idx) :
    (outsAt0 m c t.val t.isLt).1 y = (outsAt0 m c (t.val - 1) (Nat.lt_of_le_of_lt (Nat.sub_le _ _) t.isLt)).1 y + partR m c t y := by
  rw [outsAt0_B m c t h0]
  frame_out
  exact blockR m c t _ y

/-- At the last point the window holds the sum of the points' additions. -/
theorem sumR (c : Dev nD) (t : Fin cfg0.N) (h : t.val % 4 = 4 - 1) (y : S1x1024.Idx) :
    (outsAt0 m c t.val t.isLt).1 y = ∑ s : Fin 4, partR m c ⟨4 * (t.val / 4) + s.val, Pipeline.run_point_lt_of_flush t h s⟩ y := by
  rw [Pipeline.eq_sum_fin_of_reset_step_apply_of_flush (fun n h => (outsAt0 m c n h).1) 4 (fun _ => (0 : EReal)) (partR m c)
    (fun t h y => by rw [AR m c t h y, zero_add]) (fun t h y => BR m c t h y) t h y, zero_add]

theorem finalR (c : Dev nD) : (dats m 0 c).arrAt 5 (cfgs 0).N = gradR (L m c) (P m c) := by
  refine (dats m 0 c).arrAt_eq_of_covers 5 _ (by decide +kernel) fun t hf y => ?_
  have h7 := (flush0_5 t).mp hf
  have ht : t.val < 4 := lt_of_lt_of_eq t.isLt N_0
  blk_simp
  rw [after0_5, sumR m c t h7]
  idx_vars y
  have e : (((View.whole main_v0_0).slice (win0_5.rect t)).emb (ix2 y0 y1)) = ix2 0 y1 := by blk_ext [idx t]
  rw [e]
  unfold partR gradR
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The coefficient: imaginary part -/

theorem AI (c : Dev nD) (t : Fin cfg0.N) (h0 : t.val % 4 = 0) (y : S1x1024.Idx) : (outsAt0 m c t.val t.isLt).2.1 y = partI m c t y := by
  rw [outsAt0_A m c t h0]
  frame_out
  refine (blockI m c t _ y).trans ?_
  open_payloads
  pointwise
theorem BI (c : Dev nD) (t : Fin cfg0.N) (h0 : ¬t.val % 4 = 0) (y : S1x1024.Idx) :
    (outsAt0 m c t.val t.isLt).2.1 y = (outsAt0 m c (t.val - 1) (Nat.lt_of_le_of_lt (Nat.sub_le _ _) t.isLt)).2.1 y + partI m c t y := by
  rw [outsAt0_B m c t h0]
  frame_out
  exact blockI m c t _ y

/-- At the last point the window holds the sum of the points' additions. -/
theorem sumI (c : Dev nD) (t : Fin cfg0.N) (h : t.val % 4 = 4 - 1) (y : S1x1024.Idx) :
    (outsAt0 m c t.val t.isLt).2.1 y = ∑ s : Fin 4, partI m c ⟨4 * (t.val / 4) + s.val, Pipeline.run_point_lt_of_flush t h s⟩ y := by
  rw [Pipeline.eq_sum_fin_of_reset_step_apply_of_flush (fun n h => (outsAt0 m c n h).2.1) 4 (fun _ => (0 : EReal)) (partI m c)
    (fun t h y => by rw [AI m c t h y, zero_add]) (fun t h y => BI m c t h y) t h y, zero_add]

theorem finalI (c : Dev nD) : (dats m 0 c).arrAt 6 (cfgs 0).N = gradI (L m c) (P m c) := by
  refine (dats m 0 c).arrAt_eq_of_covers 6 _ (by decide +kernel) fun t hf y => ?_
  have h7 := (flush0_6 t).mp hf
  have ht : t.val < 4 := lt_of_lt_of_eq t.isLt N_0
  blk_simp
  rw [after0_6, sumI m c t h7]
  idx_vars y
  have e : (((View.whole main_v0_1).slice (win0_6.rect t)).emb (ix2 y0 y1)) = ix2 0 y1 := by blk_ext [idx t]
  rw [e]
  unfold partI gradI
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The input matrix -/

theorem AW (c : Dev nD) (t : Fin cfg0.N) (h0 : t.val % 4 = 0) (y : S256x2048.Idx) : (outsAt0 m c t.val t.isLt).2.2.1 y = partM (X m c) (L m c) t y := by
  rw [outsAt0_A m c t h0]
  frame_out
  refine (blockW m c t _ y).trans ?_
  open_payloads
  pointwise
theorem BW (c : Dev nD) (t : Fin cfg0.N) (h0 : ¬t.val % 4 = 0) (y : S256x2048.Idx) :
    (outsAt0 m c t.val t.isLt).2.2.1 y = (outsAt0 m c (t.val - 1) (Nat.lt_of_le_of_lt (Nat.sub_le _ _) t.isLt)).2.2.1 y + partM (X m c) (L m c) t y := by
  rw [outsAt0_B m c t h0]
  frame_out
  exact blockW m c t _ y

/-- At the last point the window holds the sum of the points' additions. -/
theorem sumW (c : Dev nD) (t : Fin cfg0.N) (h : t.val % 4 = 4 - 1) (y : S256x2048.Idx) :
    (outsAt0 m c t.val t.isLt).2.2.1 y = ∑ s : Fin 4, partM (X m c) (L m c) ⟨4 * (t.val / 4) + s.val, Pipeline.run_point_lt_of_flush t h s⟩ y := by
  rw [Pipeline.eq_sum_fin_of_reset_step_apply_of_flush (fun n h => (outsAt0 m c n h).2.2.1) 4 (fun _ => (0 : EReal)) (partM (X m c) (L m c))
    (fun t h y => by rw [AW m c t h y, zero_add]) (fun t h y => BW m c t h y) t h y, zero_add]

theorem finalW (c : Dev nD) : (dats m 0 c).arrAt 7 (cfgs 0).N = gradM (X m c) (L m c) := by
  refine (dats m 0 c).arrAt_eq_of_covers 7 _ (by decide +kernel) fun t hf y => ?_
  have h7 := (flush0_7 t).mp hf
  have ht : t.val < 4 := lt_of_lt_of_eq t.isLt N_0
  blk_simp
  rw [after0_7, sumW m c t h7]
  idx_vars y
  have e : (((View.whole main_v0_2).slice (win0_7.rect t)).emb (ix2 y0 y1)) = ix2 y0 y1 := by blk_ext [idx t]
  rw [e]
  unfold partM gradM
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The output matrix -/

theorem AV (c : Dev nD) (t : Fin cfg0.N) (h0 : t.val % 4 = 0) (y : S256x2048.Idx) : (outsAt0 m c t.val t.isLt).2.2.2 y = partM (Y m c) (P m c) t y := by
  rw [outsAt0_A m c t h0]
  frame_out
  refine (blockV m c t _ y).trans ?_
  open_payloads
  pointwise
theorem BV (c : Dev nD) (t : Fin cfg0.N) (h0 : ¬t.val % 4 = 0) (y : S256x2048.Idx) :
    (outsAt0 m c t.val t.isLt).2.2.2 y = (outsAt0 m c (t.val - 1) (Nat.lt_of_le_of_lt (Nat.sub_le _ _) t.isLt)).2.2.2 y + partM (Y m c) (P m c) t y := by
  rw [outsAt0_B m c t h0]
  frame_out
  exact blockV m c t _ y

/-- At the last point the window holds the sum of the points' additions. -/
theorem sumV (c : Dev nD) (t : Fin cfg0.N) (h : t.val % 4 = 4 - 1) (y : S256x2048.Idx) :
    (outsAt0 m c t.val t.isLt).2.2.2 y = ∑ s : Fin 4, partM (Y m c) (P m c) ⟨4 * (t.val / 4) + s.val, Pipeline.run_point_lt_of_flush t h s⟩ y := by
  rw [Pipeline.eq_sum_fin_of_reset_step_apply_of_flush (fun n h => (outsAt0 m c n h).2.2.2) 4 (fun _ => (0 : EReal)) (partM (Y m c) (P m c))
    (fun t h y => by rw [AV m c t h y, zero_add]) (fun t h y => BV m c t h y) t h y, zero_add]

theorem finalV (c : Dev nD) : (dats m 0 c).arrAt 8 (cfgs 0).N = gradM (Y m c) (P m c) := by
  refine (dats m 0 c).arrAt_eq_of_covers 8 _ (by decide +kernel) fun t hf y => ?_
  have h7 := (flush0_8 t).mp hf
  have ht : t.val < 4 := lt_of_lt_of_eq t.isLt N_0
  blk_simp
  rw [after0_8, sumV m c t h7]
  idx_vars y
  have e : (((View.whole main_v0_3).slice (win0_8.rect t)).emb (ix2 y0 y1)) = ix2 y0 y1 := by blk_ext [idx t]
  rw [e]
  unfold partM gradM
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

end Kernel

end Cert.CoeffF

end
-- ==== Proof.CoeffBackward.lean ====
/-
  The gradients of one recurrence's coefficients (backward in time): what the kernel's windows hold, and the reference's sums.
-/
module

public import proofs.«01_k».proof.Proof.Gen.ParamBIdeal.Value
public import proofs.«01_k».proof.Proof.Gen.ParamBRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.CoeffB

open Idealize.ShloMosaic Idealize.ShloMosaic.TcCoe Idealize.SL.Sem Idealize.ShloMosaic.StableHlo
open Idealize.ShloMosaic.Pipeline (Dat)

section Reference
open Cert.ParamBRefIdeal Cert.ParamBRefIdeal.Gen

/-- The upper half of the channels: the imaginary parts. -/
abbrev hi (j : Fin 1024) : Fin 2048 := ⟨1024 + j.val, by omega⟩
/-- The lower half: the real parts. -/
abbrev lo (j : Fin 1024) : Fin 2048 := ⟨j.val, by omega⟩

/-- The state that the recurrence reads at a row: that of the row below, and zero at the last row. -/
def seen (P : FVec Ideal S4096x2048 .bf16) (a : Fin 4096) (b : Fin 2048) : EReal :=
  if h : a.val = 4095 then 0 else P (ix2 ⟨a.val + 1, by omega⟩ b)

/-- The reference's array of those states. -/
theorem prev_at (P : FVec Ideal S4096x2048 .bf16) (a : Fin 4096) (b : Fin 2048) :
    (concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0) (ix2 a b)
      = seen P a b := by
  pointwise [seen]
  by_cases h : a.val = 4095
  · rw [dif_neg (by omega), dif_pos h]
  · rw [dif_pos (by omega), dif_neg h]
    exact congrArg P (congrArg (ix2 · b) (Fin.ext (Nat.add_comm 1 a.val)))

/-- The coefficient's gradient, real and imaginary part, one channel. -/
def gradR (L P : FVec Ideal S4096x2048 .bf16) (y : S1x1024.Idx) : EReal :=
  ∑ a : Fin 4096, (L (ix2 a (lo (y 1))) * seen P a (lo (y 1)) + L (ix2 a (hi (y 1))) * seen P a (hi (y 1)))
def gradI (L P : FVec Ideal S4096x2048 .bf16) (y : S1x1024.Idx) : EReal :=
  ∑ a : Fin 4096, (L (ix2 a (hi (y 1))) * seen P a (lo (y 1)) - L (ix2 a (lo (y 1))) * seen P a (hi (y 1)))
/-- The gradient of a matrix of the recurrence: a sum over the rows. -/
def gradM (X : FVec Ideal S4096x256 .bf16) (L : FVec Ideal S4096x2048 .bf16) (y : S256x2048.Idx) : EReal :=
  ∑ a : Fin 4096, X (ix2 a (y 0)) * L (ix2 a (y 1))

/-- The two sums that the reference adds, over any array of the states read. -/
theorem split (f g : Fin 4096 → EReal) : (∑ a, f a) + (∑ a, g a) = ∑ a, (f a + g a) := Finset.sum_add_distrib.symm

theorem refR (L P : FVec Ideal S4096x2048 .bf16) :
    addf (shapeCast _ (Host.reduceAdd (mulf (extractStridedSlice S4096x1024 ![0, 1024] (extf .f32 L bitsLt_bf16_f32) slices_S4096x2048_S4096x1024_0_1024) (extractStridedSlice S4096x1024 ![0, 1024] (extf .f32 ((concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0)) bitsLt_bf16_f32) slices_S4096x2048_S4096x1024_0_1024)) (constant S_ .f32 0x00000000#32) reducesTo_S4096x1024_S1024_d0 h_S_) shapeCasts_S1024_S1x1024) (shapeCast _ (Host.reduceAdd (mulf (extractStridedSlice S4096x1024 ![0, 0] (extf .f32 L bitsLt_bf16_f32) slices_S4096x2048_S4096x1024_0_0) (extractStridedSlice S4096x1024 ![0, 0] (extf .f32 ((concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0)) bitsLt_bf16_f32) slices_S4096x2048_S4096x1024_0_0)) (constant S_ .f32 0x00000000#32) reducesTo_S4096x1024_S1024_d0 h_S_) shapeCasts_S1024_S1x1024)
      = gradR L P := by
  funext y
  idx_vars y
  have hp := prev_at P
  generalize (concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0) = Q at hp ⊢
  pointwise [gradR]
  rw [split]
  refine Finset.sum_congr rfl fun a _ => ?_
  rw [add_comm, ← hp, ← hp]
  try rfl

theorem refI (L P : FVec Ideal S4096x2048 .bf16) :
    addf (shapeCast _ (Host.reduceAdd (mulf (extractStridedSlice S4096x1024 ![0, 1024] (extf .f32 L bitsLt_bf16_f32) slices_S4096x2048_S4096x1024_0_1024) (extractStridedSlice S4096x1024 ![0, 0] (extf .f32 ((concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0)) bitsLt_bf16_f32) slices_S4096x2048_S4096x1024_0_0)) (constant S_ .f32 0x00000000#32) reducesTo_S4096x1024_S1024_d0 h_S_) shapeCasts_S1024_S1x1024) (shapeCast _ (Host.reduceAdd (mulf (Host.negf (extractStridedSlice S4096x1024 ![0, 0] (extf .f32 L bitsLt_bf16_f32) slices_S4096x2048_S4096x1024_0_0)) (extractStridedSlice S4096x1024 ![0, 1024] (extf .f32 ((concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0)) bitsLt_bf16_f32) slices_S4096x2048_S4096x1024_0_1024)) (constant S_ .f32 0x00000000#32) reducesTo_S4096x1024_S1024_d0 h_S_) shapeCasts_S1024_S1x1024)
      = gradI L P := by
  funext y
  idx_vars y
  have hp := prev_at P
  generalize (concatenate S4096x2048 0 [⟨S4095x2048, (extractStridedSlice S4095x2048 ![1, 0] P slices_S4096x2048_S4095x2048_1_0)⟩, ⟨S1x2048, (broadcastInDim S1x2048 ![] bcast_S_S1x2048 (constant (F := Ideal) S_ .bf16 0x0000#16))⟩] concatenates_S4095x2048_S1x2048_S4096x2048_d0) = Q at hp ⊢
  pointwise [gradI]
  rw [split]
  refine Finset.sum_congr rfl fun a _ => ?_
  rw [← hp, ← hp, sub_eq_add_neg, EReal.neg_mul]
  try rfl

theorem refW (X : FVec Ideal S4096x256 .bf16) (L : FVec Ideal S4096x2048 .bf16) :
    transpose S256x2048 [1, 0] (Host.dotGeneral dot_S4096x2048_S4096x256_S2048x256_0_0_1_1_n_n none (extf .f32 L bitsLt_bf16_f32) (extf .f32 X bitsLt_bf16_f32)) transposes_S2048x256_S256x2048_1_0
      = gradM X L := by
  funext y
  idx_vars y
  pointwise [gradM]
  exact Finset.sum_congr rfl fun a _ => mul_comm _ _

theorem refV (X : FVec Ideal S4096x256 .bf16) (L : FVec Ideal S4096x2048 .bf16) :
    transpose S256x2048 [1, 0] (transpose S2048x256 [1, 0] (Host.dotGeneral dot_S4096x256_S4096x2048_S256x2048_0_0_1_1_n_n none (extf .f32 X bitsLt_bf16_f32) (extf .f32 L bitsLt_bf16_f32)) transposes_S256x2048_S2048x256_1_0) transposes_S2048x256_S256x2048_1_0
      = gradM X L := by
  funext y
  idx_vars y
  pointwise [gradM]

end Reference

section Kernel
open Cert.ParamBIdeal Cert.ParamBIdeal.Gen

variable (m : (ℓ : Loc nD τ sig) → Buf (Elt Ideal) ℓ)

/-- The blocks that a point reads and writes; the third is the sixteen rows of states below the block. -/
theorem idx : ∀ t : Fin cfg0.N, win0_0.index t = ![t.val, 0] ∧ win0_1.index t = ![t.val, 0] ∧ win0_2.index t = ![min (64 * (t.val + 1)) 255, 0] ∧ win0_3.index t = ![t.val, 0] ∧ win0_4.index t = ![t.val, 0]
    ∧ win0_5.index t = ![0, 0] ∧ win0_6.index t = ![0, 0] ∧ win0_7.index t = ![0, 0] ∧ win0_8.index t = ![0, 0] :=
  (by decide +kernel : ∀ t : Fin grid0.N, _)

/-- The call's arrays: the adjoint states, the states, the input and the output's gradient. -/
abbrev L (c : Dev nD) : FVec Ideal S4096x2048 .bf16 := m ((c : Thread nD τ).loc main_arg0)
abbrev P (c : Dev nD) : FVec Ideal S4096x2048 .bf16 := m ((c : Thread nD τ).loc main_arg1)
abbrev X (c : Dev nD) : FVec Ideal S4096x256 .bf16 := m ((c : Thread nD τ).loc main_arg2)
abbrev Y (c : Dev nD) : FVec Ideal S4096x256 .bf16 := m ((c : Thread nD τ).loc main_arg3)

/-- A row of a point's blocks, among all the rows. -/
abbrev row (t : Fin cfg0.N) (k : Fin 1024) : Fin 4096 := ⟨1024 * t.val + k.val, by have := lt_of_lt_of_eq t.isLt N_0; omega⟩

/-- The two comparisons: the row that has no neighbour in the block, and the point whose block has no neighbour. -/
theorem edgeRow (k : Fin 1024) : IntOp.cmpi .eq (BitVec.ofNat 32 k.val) 1023#32 = if k.val = 1023 then 1#1 else 0#1 :=
  (by decide +kernel : ∀ k : Fin 1024, IntOp.cmpi .eq (BitVec.ofNat 32 k.val) 1023#32 = if k.val = 1023 then 1#1 else 0#1) k
theorem edgePoint (t : Fin cfg0.N) : Scalar.cmpi .slt (BitVec.ofNat 32 (grid0.coords t 0).val) 3#32 = if t.val = 3 then 0#1 else 1#1 :=
  (by decide +kernel : ∀ t : Fin grid0.N, Scalar.cmpi .slt (BitVec.ofNat 32 (grid0.coords t 0).val) 3#32 = if t.val = 3 then 0#1 else 1#1) t

theorem take (a b : EReal) : Scalar.select 1#1 a b = a := if_pos rfl
theorem drop (a b : EReal) : Scalar.select 0#1 a b = b := if_neg (by decide)

/-- What the kernel multiplies by at a row of a point's block, real part: the state read there. -/
theorem seenR (c : Dev nD) (t : Fin cfg0.N) (k j : Fin 1024) :
    k0_pay10 (F := Ideal) (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0))) (ix2 k j) = seen (P m c) (row t k) (lo j) := by
  have ht : t.val < 4 := lt_of_lt_of_eq t.isLt N_0
  open_payloads
  pointwise
  rw [edgeRow, edgePoint]
  unfold seen
  by_cases hk : k.val = 1023
  · by_cases h0 : t.val = 3
    · rw [dif_pos (by show 1024 * t.val + k.val = 4095; omega)]
      simp only [hk, h0, if_true, take, drop]
    · rw [dif_neg (by show ¬1024 * t.val + k.val = 4095; omega)]
      simp only [hk, h0, if_true, if_false, take]
      blk_point [iblk, V, idx t]
  · rw [dif_neg (by show ¬1024 * t.val + k.val = 4095; omega)]
    simp only [hk, if_false, drop]
    blk_point [iblk, V, idx t]

/-- The imaginary part. -/
theorem seenI (c : Dev nD) (t : Fin cfg0.N) (k j : Fin 1024) :
    k0_pay11 (F := Ideal) (iota Kind.tc S1024x1024 32 [0] iota_S1024x1024_d0_w32) (Scalar.cmpi CmpIPredicate.slt (BitVec.ofNat 32 ↑(grid0.coords t 0)) 3#32)
      (View.ld (iblk m c 2 t) (Rect.unit ![0, 1024] ![16, 1024] inb_S16x2048_S16x1024_0_1024))
      (View.ld (iblk m c 1 t) (Rect.unit ![0, 1024] ![1024, 1024] inb_S1024x2048_S1024x1024_0_1024)) (ix2 k j) = seen (P m c) (row t k) (hi j) := by
  have ht : t.val < 4 := lt_of_lt_of_eq t.isLt N_0
  open_payloads
  pointwise
  rw [edgeRow, edgePoint]
  unfold seen
  by_cases hk : k.val = 1023
  · by_cases h0 : t.val = 3
    · rw [dif_pos (by show 1024 * t.val + k.val = 4095; omega)]
      simp only [hk, h0, if_true, take, drop]
    · rw [dif_neg (by show ¬1024 * t.val + k.val = 4095; omega)]
      simp only [hk, h0, if_true, if_false, take]
      blk_point [iblk, V, idx t]
  · rw [dif_neg (by show ¬1024 * t.val + k.val = 4095; omega)]
    simp only [hk, if_false, drop]
    blk_point [iblk, V, idx t]

/-- One point's additions. -/
def partR (c : Dev nD) (t : Fin cfg0.N) (y : S1x1024.Idx) : EReal :=
  ∑ k : Fin 1024, (L m c (ix2 (row t k) (lo (y 1))) * seen (P m c) (row t k) (lo (y 1)) + L m c (ix2 (row t k) (hi (y 1))) * seen (P m c) (row t k) (hi (y 1)))
def partI (c : Dev nD) (t : Fin cfg0.N) (y : S1x1024.Idx) : EReal :=
  ∑ k : Fin 1024, (L m c (ix2 (row t k) (hi (y 1))) * seen (P m c) (row t k) (lo (y 1)) - L m c (ix2 (row t k) (lo (y 1))) * seen (P m c) (row t k) (hi (y 1)))
def partM (X : FVec Ideal S4096x256 .bf16) (L : FVec Ideal S4096x2048 .bf16) (t : Fin cfg0.N) (y : S256x2048.Idx) : EReal :=
  ∑ k : Fin 1024, X (ix2 (row t k) (y 0)) * L (ix2 (row t k) (y 1))

/-- The adjoint states that a point's block holds. -/
theorem adjLo (c : Dev nD) (t : Fin cfg0.N) (k j : Fin 1024) :
    View.ld (iblk m c 0 t) (Rect.unit ![0, 0] ![1024, 1024] inb_S1024x2048_S1024x1024_0_0) (ix2 k j) = L m c (ix2 (row t k) (lo j)) := by
  blk_point [iblk, V, idx t]
theorem adjHi (c : Dev nD) (t : Fin cfg0.N) (k j : Fin 1024) :
    View.ld (iblk m c 0 t) (Rect.unit ![0, 1024] ![1024, 1024] inb_S1024x2048_S1024x1024_0_1024) (ix2 k j) = L m c (ix2 (row t k) (hi j)) := by
  blk_point [iblk, V, idx t]

theorem stepR (v17 : IVec S1024x1024 32) (v18 : BitVec 1) (v25 : FVec Ideal S1024x1024 .f32) (v27 : IVec S1024x1024 1) (v28 : FVec Ideal S1x1024 .f32)
    (v32 : Vec Ideal S16x1024 .bf16) (v37 v45 v47 : Vec Ideal S1024x1024 .bf16) (A : Vec Ideal S1x1024 .f32) (y : S1x1024.Idx) :
    k0_pay14 (F := Ideal) v17 v18 v25 v27 v28 v32 v37 v45 v47 A y
      = A y + ∑ k : Fin 1024, (v45 (ix2 k (y 1)) * k0_pay10 v25 v27 v28 (ix2 k (y 1)) + v47 (ix2 k (y 1)) * k0_pay11 v17 v18 v32 v37 (ix2 k (y 1))) := by
  unfold k0_pay14 k0_pay12 k0_pay13
  generalize k0_pay10 v25 v27 v28 = A
  generalize k0_pay11 v17 v18 v32 v37 = B
  pointwise
theorem stepI (v17 : IVec S1024x1024 32) (v18 : BitVec 1) (v25 : FVec Ideal S1024x1024 .f32) (v27 : IVec S1024x1024 1) (v28 : FVec Ideal S1x1024 .f32)
    (v32 : Vec Ideal S16x1024 .bf16) (v37 v45 v47 : Vec Ideal S1024x1024 .bf16) (A : Vec Ideal S1x1024 .f32) (y : S1x1024.Idx) :
    k0_pay15 (F := Ideal) v17 v18 v25 v27 v28 v32 v37 v45 v47 A y
      = A y + ∑ k : Fin 1024, (v47 (ix2 k (y 1)) * k0_pay10 v25 v27 v28 (ix2 k (y 1)) - v45 (ix2 k (y 1)) * k0_pay11 v17 v18 v32 v37 (ix2 k (y 1))) := by
  unfold k0_pay15 k0_pay12 k0_pay13
  generalize k0_pay10 v25 v27 v28 = A
  generalize k0_pay11 v17 v18 v32 v37 = B
  pointwise
theorem stepW (x : Vec Ideal S1024x256 .bf16) (l : Vec Ideal S1024x2048 .bf16) (A : Vec Ideal S256x2048 .f32) (y : S256x2048.Idx) :
    k0_pay5 (F := Ideal) A x l y = A y + ∑ k : Fin 1024, x (ix2 k (y 0)) * l (ix2 k (y 1)) := by
  open_payloads
  pointwise
theorem stepV (x : Vec Ideal S1024x256 .bf16) (l : Vec Ideal S1024x2048 .bf16) (A : Vec Ideal S256x2048 .f32) (y : S256x2048.Idx) :
    k0_pay6 (F := Ideal) A x l y = A y + ∑ k : Fin 1024, x (ix2 k (y 0)) * l (ix2 k (y 1)) := by
  open_payloads
  pointwise

theorem blockR (c : Dev nD) (t : Fin cfg0.N) (A : Vec Ideal S1x1024 .f32) (y : S1x1024.Idx) :
    k0_pay14 (F := Ideal) (iota Kind.tc S1024x1024 32 [0] iota_S1024x1024_d0_w32) (Scalar.cmpi CmpIPredicate.slt (BitVec.ofNat 32 ↑(grid0.coords t 0)) 3#32)
      (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0)))
      (View.ld (iblk m c 2 t) (Rect.unit ![0, 1024] ![16, 1024] inb_S16x2048_S16x1024_0_1024))
      (View.ld (iblk m c 1 t) (Rect.unit ![0, 1024] ![1024, 1024] inb_S1024x2048_S1024x1024_0_1024))
      (View.ld (iblk m c 0 t) (Rect.unit ![0, 0] ![1024, 1024] inb_S1024x2048_S1024x1024_0_0))
      (View.ld (iblk m c 0 t) (Rect.unit ![0, 1024] ![1024, 1024] inb_S1024x2048_S1024x1024_0_1024)) A y = A y + partR m c t y := by
  refine (stepR _ _ _ _ _ _ _ _ _ A y).trans (congrArg (A y + ·) ?_)
  unfold partR
  exact Finset.sum_congr rfl fun k _ => congrArg₂ (· + ·) (congrArg₂ (· * ·) (adjLo m c t k (y 1)) (seenR m c t k (y 1)))
    (congrArg₂ (· * ·) (adjHi m c t k (y 1)) (seenI m c t k (y 1)))
theorem blockI (c : Dev nD) (t : Fin cfg0.N) (A : Vec Ideal S1x1024 .f32) (y : S1x1024.Idx) :
    k0_pay15 (F := Ideal) (iota Kind.tc S1024x1024 32 [0] iota_S1024x1024_d0_w32) (Scalar.cmpi CmpIPredicate.slt (BitVec.ofNat 32 ↑(grid0.coords t 0)) 3#32)
      (k0_pay7 (View.ld (iblk m c 1 t) (Rect.unit ![0, 0] ![1024, 1024] inb_S1024x2048_S1024x1024_0_0))) k0_pay8
      (k0_pay9 (grid0.coords t) (View.ld (iblk m c 2 t) (Rect.unit ![0, 0] ![16, 1024] inb_S16x2048_S16x1024_0_0)))
      (View.ld (iblk m c 2 t) (Rect.unit ![0, 1024] ![16, 1024] inb_S16x2048_S16x1024_0_1024))
      (View.ld (iblk m c 1 t) (Rect.unit ![0, 1024] ![1024, 1024] inb_S1024x2048_S1024x1024_0_1024))
      (View.ld (iblk m c 0 t) (Rect.unit ![0, 0] ![1024, 1024] inb_S1024x2048_S1024x1024_0_0))
      (View.ld (iblk m c 0 t) (Rect.unit ![0, 1024] ![1024, 1024] inb_S1024x2048_S1024x1024_0_1024)) A y = A y + partI m c t y := by
  refine (stepI _ _ _ _ _ _ _ _ _ A y).trans (congrArg (A y + ·) ?_)
  unfold partI
  exact Finset.sum_congr rfl fun k _ => congrArg₂ (· - ·) (congrArg₂ (· * ·) (adjHi m c t k (y 1)) (seenR m c t k (y 1)))
    (congrArg₂ (· * ·) (adjLo m c t k (y 1)) (seenI m c t k (y 1)))
theorem blockW (c : Dev nD) (t : Fin cfg0.N) (A : Vec Ideal S256x2048 .f32) (y : S256x2048.Idx) :
    k0_pay5 (F := Ideal) A (iblk m c 3 t) (iblk m c 0 t) y = A y + partM (X m c) (L m c) t y := by
  refine (stepW _ _ A y).trans (congrArg (A y + ·) ?_)
  unfold partM
  idx_vars y
  refine Finset.sum_congr rfl fun k _ => congrArg₂ (· * ·) ?_ ?_
  all_goals blk_point [iblk, V, idx t]
theorem blockV (c : Dev nD) (t : Fin cfg0.N) (A : Vec Ideal S256x2048 .f32) (y : S256x2048.Idx) :
    k0_pay6 (F := Ideal) A (iblk m c 4 t) (iblk m c 1 t) y = A y + partM (Y m c) (P m c) t y := by
  refine (stepV _ _ A y).trans (congrArg (A y + ·) ?_)
  unfold partM
  idx_vars y
  refine Finset.sum_congr rfl fun k _ => congrArg₂ (· * ·) ?_ ?_
  all_goals blk_point [iblk, V, idx t]

/-! ## The coefficient: real part -/

theorem AR (c : Dev nD) (t : Fin cfg0.N) (h0 : t.val % 4 = 0) (y : S1x1024.Idx) : (outsAt0 m c t.val t.isLt).1 y = partR m c t y := by
  rw [outsAt0_A m c t h0]
  frame_out
  refine (blockR m c t _ y).trans ?_
  open_payloads
  pointwise
theorem BR (c : Dev nD) (t : Fin cfg0.N) (h0 : ¬t.val % 4 = 0) (y : S1x1024.Idx) :
    (outsAt0 m c t.val t.isLt).1 y = (outsAt0 m c (t.val - 1) (Nat.lt_of_le_of_lt (Nat.sub_le _ _) t.isLt)).1 y + partR m c t y := by
  rw [outsAt0_B m c t h0]
  frame_out
  exact blockR m c t _ y

/-- At the last point the window holds the sum of the points' additions. -/
theorem sumR (c : Dev nD) (t : Fin cfg0.N) (h : t.val % 4 = 4 - 1) (y : S1x1024.Idx) :
    (outsAt0 m c t.val t.isLt).1 y = ∑ s : Fin 4, partR m c ⟨4 * (t.val / 4) + s.val, Pipeline.run_point_lt_of_flush t h s⟩ y := by
  rw [Pipeline.eq_sum_fin_of_reset_step_apply_of_flush (fun n h => (outsAt0 m c n h).1) 4 (fun _ => (0 : EReal)) (partR m c)
    (fun t h y => by rw [AR m c t h y, zero_add]) (fun t h y => BR m c t h y) t h y, zero_add]

theorem finalR (c : Dev nD) : (dats m 0 c).arrAt 5 (cfgs 0).N = gradR (L m c) (P m c) := by
  refine (dats m 0 c).arrAt_eq_of_covers 5 _ (by decide +kernel) fun t hf y => ?_
  have h7 := (flush0_5 t).mp hf
  have ht : t.val < 4 := lt_of_lt_of_eq t.isLt N_0
  blk_simp
  rw [after0_5, sumR m c t h7]
  idx_vars y
  have e : (((View.whole main_v0_0).slice (win0_5.rect t)).emb (ix2 y0 y1)) = ix2 0 y1 := by blk_ext [idx t]
  rw [e]
  unfold partR gradR
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The coefficient: imaginary part -/

theorem AI (c : Dev nD) (t : Fin cfg0.N) (h0 : t.val % 4 = 0) (y : S1x1024.Idx) : (outsAt0 m c t.val t.isLt).2.1 y = partI m c t y := by
  rw [outsAt0_A m c t h0]
  frame_out
  refine (blockI m c t _ y).trans ?_
  open_payloads
  pointwise
theorem BI (c : Dev nD) (t : Fin cfg0.N) (h0 : ¬t.val % 4 = 0) (y : S1x1024.Idx) :
    (outsAt0 m c t.val t.isLt).2.1 y = (outsAt0 m c (t.val - 1) (Nat.lt_of_le_of_lt (Nat.sub_le _ _) t.isLt)).2.1 y + partI m c t y := by
  rw [outsAt0_B m c t h0]
  frame_out
  exact blockI m c t _ y

/-- At the last point the window holds the sum of the points' additions. -/
theorem sumI (c : Dev nD) (t : Fin cfg0.N) (h : t.val % 4 = 4 - 1) (y : S1x1024.Idx) :
    (outsAt0 m c t.val t.isLt).2.1 y = ∑ s : Fin 4, partI m c ⟨4 * (t.val / 4) + s.val, Pipeline.run_point_lt_of_flush t h s⟩ y := by
  rw [Pipeline.eq_sum_fin_of_reset_step_apply_of_flush (fun n h => (outsAt0 m c n h).2.1) 4 (fun _ => (0 : EReal)) (partI m c)
    (fun t h y => by rw [AI m c t h y, zero_add]) (fun t h y => BI m c t h y) t h y, zero_add]

theorem finalI (c : Dev nD) : (dats m 0 c).arrAt 6 (cfgs 0).N = gradI (L m c) (P m c) := by
  refine (dats m 0 c).arrAt_eq_of_covers 6 _ (by decide +kernel) fun t hf y => ?_
  have h7 := (flush0_6 t).mp hf
  have ht : t.val < 4 := lt_of_lt_of_eq t.isLt N_0
  blk_simp
  rw [after0_6, sumI m c t h7]
  idx_vars y
  have e : (((View.whole main_v0_1).slice (win0_6.rect t)).emb (ix2 y0 y1)) = ix2 0 y1 := by blk_ext [idx t]
  rw [e]
  unfold partI gradI
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The input matrix -/

theorem AW (c : Dev nD) (t : Fin cfg0.N) (h0 : t.val % 4 = 0) (y : S256x2048.Idx) : (outsAt0 m c t.val t.isLt).2.2.1 y = partM (X m c) (L m c) t y := by
  rw [outsAt0_A m c t h0]
  frame_out
  refine (blockW m c t _ y).trans ?_
  open_payloads
  pointwise
theorem BW (c : Dev nD) (t : Fin cfg0.N) (h0 : ¬t.val % 4 = 0) (y : S256x2048.Idx) :
    (outsAt0 m c t.val t.isLt).2.2.1 y = (outsAt0 m c (t.val - 1) (Nat.lt_of_le_of_lt (Nat.sub_le _ _) t.isLt)).2.2.1 y + partM (X m c) (L m c) t y := by
  rw [outsAt0_B m c t h0]
  frame_out
  exact blockW m c t _ y

/-- At the last point the window holds the sum of the points' additions. -/
theorem sumW (c : Dev nD) (t : Fin cfg0.N) (h : t.val % 4 = 4 - 1) (y : S256x2048.Idx) :
    (outsAt0 m c t.val t.isLt).2.2.1 y = ∑ s : Fin 4, partM (X m c) (L m c) ⟨4 * (t.val / 4) + s.val, Pipeline.run_point_lt_of_flush t h s⟩ y := by
  rw [Pipeline.eq_sum_fin_of_reset_step_apply_of_flush (fun n h => (outsAt0 m c n h).2.2.1) 4 (fun _ => (0 : EReal)) (partM (X m c) (L m c))
    (fun t h y => by rw [AW m c t h y, zero_add]) (fun t h y => BW m c t h y) t h y, zero_add]

theorem finalW (c : Dev nD) : (dats m 0 c).arrAt 7 (cfgs 0).N = gradM (X m c) (L m c) := by
  refine (dats m 0 c).arrAt_eq_of_covers 7 _ (by decide +kernel) fun t hf y => ?_
  have h7 := (flush0_7 t).mp hf
  have ht : t.val < 4 := lt_of_lt_of_eq t.isLt N_0
  blk_simp
  rw [after0_7, sumW m c t h7]
  idx_vars y
  have e : (((View.whole main_v0_2).slice (win0_7.rect t)).emb (ix2 y0 y1)) = ix2 y0 y1 := by blk_ext [idx t]
  rw [e]
  unfold partM gradM
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

/-! ## The output matrix -/

theorem AV (c : Dev nD) (t : Fin cfg0.N) (h0 : t.val % 4 = 0) (y : S256x2048.Idx) : (outsAt0 m c t.val t.isLt).2.2.2 y = partM (Y m c) (P m c) t y := by
  rw [outsAt0_A m c t h0]
  frame_out
  refine (blockV m c t _ y).trans ?_
  open_payloads
  pointwise
theorem BV (c : Dev nD) (t : Fin cfg0.N) (h0 : ¬t.val % 4 = 0) (y : S256x2048.Idx) :
    (outsAt0 m c t.val t.isLt).2.2.2 y = (outsAt0 m c (t.val - 1) (Nat.lt_of_le_of_lt (Nat.sub_le _ _) t.isLt)).2.2.2 y + partM (Y m c) (P m c) t y := by
  rw [outsAt0_B m c t h0]
  frame_out
  exact blockV m c t _ y

/-- At the last point the window holds the sum of the points' additions. -/
theorem sumV (c : Dev nD) (t : Fin cfg0.N) (h : t.val % 4 = 4 - 1) (y : S256x2048.Idx) :
    (outsAt0 m c t.val t.isLt).2.2.2 y = ∑ s : Fin 4, partM (Y m c) (P m c) ⟨4 * (t.val / 4) + s.val, Pipeline.run_point_lt_of_flush t h s⟩ y := by
  rw [Pipeline.eq_sum_fin_of_reset_step_apply_of_flush (fun n h => (outsAt0 m c n h).2.2.2) 4 (fun _ => (0 : EReal)) (partM (Y m c) (P m c))
    (fun t h y => by rw [AV m c t h y, zero_add]) (fun t h y => BV m c t h y) t h y, zero_add]

theorem finalV (c : Dev nD) : (dats m 0 c).arrAt 8 (cfgs 0).N = gradM (Y m c) (P m c) := by
  refine (dats m 0 c).arrAt_eq_of_covers 8 _ (by decide +kernel) fun t hf y => ?_
  have h7 := (flush0_8 t).mp hf
  have ht : t.val < 4 := lt_of_lt_of_eq t.isLt N_0
  blk_simp
  rw [after0_8, sumV m c t h7]
  idx_vars y
  have e : (((View.whole main_v0_3).slice (win0_8.rect t)).emb (ix2 y0 y1)) = ix2 y0 y1 := by blk_ext [idx t]
  rw [e]
  unfold partM gradM
  refine Fin.sum_mul_add_congr fun s k hl => ?_
  have er : row ⟨4 * (t.val / 4) + s.val, Pipeline.run_point_lt_of_flush t h7 s⟩ k = ⟨s.val * 1024 + k.val, hl⟩ := Fin.ext (by show 1024 * (4 * (t.val / 4) + s.val) + k.val = s.val * 1024 + k.val; omega)
  rw [er]
  try rfl

end Kernel

end Cert.CoeffB

end
-- ==== Proof.CoeffClaims.lean ====
/-
  The value claims of the recurrences' coefficients.
-/
module

public import proofs.«01_k».proof.Defs
public import proofs.«01_k».proof.Proof.CoeffForward
public import proofs.«01_k».proof.Proof.CoeffBackward

@[expose] public section

set_option maxRecDepth 16384

noncomputable section

open Idealize.ShloMosaic Idealize.ShloMosaic.TcCoe Idealize.SL.Sem

namespace Cert.CoeffF

/-- The coefficients' gradients of the recurrence forward in time. -/
theorem algebraic : Cert.algebraic_ParamFIdeal_ParamFRefIdeal := fun m ρ m' ρ' _ hag =>
  ⟨_, _, _, _, (θ_run _ _ _).mono (fun _ h c => ⟨(h c).1.trans (finalR m c), (h c).2.1.trans (finalI m c), (h c).2.2.1.trans (finalW m c),
      (h c).2.2.2.1.trans (finalV m c), (h c).2.2.2.2⟩) (ParamFIdeal.Value.run_blocks m ρ),
    (θ_run _ _ _).mono (fun _ h c => by
      obtain ⟨a0, a1, a2, a3⟩ := hag c
      exact ⟨(h c).1.trans (by rw [a0, a1]; exact refR _ _), (h c).2.1.trans (by rw [a0, a1]; exact refI _ _),
        (h c).2.2.1.trans (by rw [a0, a2]; exact refW _ _), (h c).2.2.2.1.trans (by rw [a1, a3]; exact refV _ _), (h c).2.2.2.2⟩) (ParamFRefIdeal.Value.run m' ρ')⟩

end Cert.CoeffF

namespace Cert.CoeffB

/-- The coefficients' gradients of the recurrence backward in time. -/
theorem algebraic : Cert.algebraic_ParamBIdeal_ParamBRefIdeal := fun m ρ m' ρ' _ hag =>
  ⟨_, _, _, _, (θ_run _ _ _).mono (fun _ h c => ⟨(h c).1.trans (finalR m c), (h c).2.1.trans (finalI m c), (h c).2.2.1.trans (finalW m c),
      (h c).2.2.2.1.trans (finalV m c), (h c).2.2.2.2⟩) (ParamBIdeal.Value.run_blocks m ρ),
    (θ_run _ _ _).mono (fun _ h c => by
      obtain ⟨a0, a1, a2, a3⟩ := hag c
      exact ⟨(h c).1.trans (by rw [a0, a1]; exact refR _ _), (h c).2.1.trans (by rw [a0, a1]; exact refI _ _),
        (h c).2.2.1.trans (by rw [a0, a2]; exact refW _ _), (h c).2.2.2.1.trans (by rw [a1, a3]; exact refV _ _), (h c).2.2.2.2⟩) (ParamBRefIdeal.Value.run m' ρ')⟩

end Cert.CoeffB

end
-- ==== Proof.SkipArrays.lean ====
/-
  The gradient of the scan's input, and of the skip weight.
-/
module

public import proofs.«01_k».proof.Proof.Gen.SkipIdeal.Value
public import proofs.«01_k».proof.Proof.Gen.SkipRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.SkipGrad

open Idealize.ShloMosaic Idealize.ShloMosaic.TcCoe Idealize.SL.Sem Idealize.ShloMosaic.StableHlo
open Idealize.ShloMosaic.Pipeline (Dat)

section Reference
open Cert.SkipRefIdeal Cert.SkipRefIdeal.Gen

/-- The gradient of the scan's input: the skip's share and the two recurrences'. -/
def gradS (Y P Q : FVec Ideal S4096x256 .f32) (d : FVec Ideal S1x256 .f32) (y : S4096x256.Idx) : EReal := Y y * d (ix2 0 (y 1)) + P y + Q y
/-- The skip weight's gradient: a sum over the rows; the scan's input lies in the projection from column 512 on. -/
def gradD (X : FVec Ideal S4096x2816 .f32) (Y : FVec Ideal S4096x256 .f32) (y : S1x256.Idx) : EReal :=
  ∑ a : Fin 4096, X (ix2 a ⟨512 + (y 1).val, by have : (y 1).val < 256 := (y 1).isLt; omega⟩) * Y (ix2 a (y 1))

theorem refS (Y P Q : FVec Ideal S4096x256 .f32) (d : FVec Ideal S1x256 .f32) :
    truncf .bf16 (addf (addf P Q) (mulf Y (broadcastInDim S4096x256 ![0, 1] bcast_S1x256_S4096x256_0_1 d))) bitsLt_bf16_f32 = gradS Y P Q d := by
  funext y
  idx_vars y
  pointwise [gradS]
  ac_rfl
theorem refD (X : FVec Ideal S4096x2816 .f32) (Y : FVec Ideal S4096x256 .f32) :
    shapeCast _ (Host.reduceAdd (mulf (extractStridedSlice S4096x256 ![0, 512] X slices_S4096x2816_S4096x256_0_512) Y) (constant S_ .f32 0x00000000#32) reducesTo_S4096x256_S256_d0 h_S_) shapeCasts_S256_S1x256
      = gradD X Y := by
  funext y
  idx_vars y
  pointwise [gradD]

end Reference

section Kernel
open Cert.SkipIdeal Cert.SkipIdeal.Gen

variable (m : (ℓ : Loc nD τ sig) → Buf (Elt Ideal) ℓ)

/-- The blocks that a point reads and writes. -/
theorem idx : ∀ t : Fin cfg0.N, win0_0.index t = ![t.val, 2] ∧ win0_1.index t = ![t.val, 0] ∧ win0_2.index t = ![t.val, 0] ∧ win0_3.index t = ![t.val, 0] ∧ win0_4.index t = ![0, 0]
    ∧ win0_5.index t = ![t.val, 0] ∧ win0_6.index t = ![0, 0] :=
  (by decide +kernel : ∀ t : Fin grid0.N, _)

theorem point (c : Dev nD) (t : Fin cfg0.N) (y : S512x256.Idx) : k0_pay1 (F := Ideal) (iblk m c 1 t) (iblk m c 4 t) (iblk m c 2 t) (iblk m c 3 t) y
    = gradS (m ((c : Thread nD τ).loc main_arg1)) (m ((c : Thread nD τ).loc main_arg2)) (m ((c : Thread nD τ).loc main_arg3)) (m ((c : Thread nD τ).loc main_arg4))
      (((View.whole main_v0_0).slice (win0_5.rect t)).emb y) := by
  open_payloads
  pointwise [gradS]
  blk_point [iblk, V, idx t]

theorem atS (c : Dev nD) (t : Fin cfg0.N) : (outsAt0 m c t.val t.isLt).1 = k0_pay1 (F := Ideal) (iblk m c 1 t) (iblk m c 4 t) (iblk m c 2 t) (iblk m c 3 t) := by
  by_cases h0 : t.val % 8 = 0
  · rw [outsAt0_A m c t h0]; frame_out
  · rw [outsAt0_B m c t h0]; frame_out

theorem finalS (c : Dev nD) : (dats m 0 c).arrAt 5 (cfgs 0).N
    = gradS (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, atS]
  exact point m c t y

/-- One point's addition to the skip weight's gradient. -/
def partOf (x z : Vec Ideal S512x256 .f32) (y : S1x256.Idx) : EReal := ∑ k : Fin 512, x (ix2 k (y 1)) * z (ix2 k (y 1))
abbrev part (c : Dev nD) (t : Fin cfg0.N) (y : S1x256.Idx) : EReal := partOf (iblk m c 0 t) (iblk m c 1 t) y

theorem step (x z : Vec Ideal S512x256 .f32) (A : Vec Ideal S1x256 .f32) (y : S1x256.Idx) : k0_pay3 (F := Ideal) z A x y = A y + partOf x z y := by
  open_payloads
  pointwise [partOf]
  exact congrArg (A y + ·) (Finset.sum_congr rfl fun k _ => mul_comm _ _)

theorem partA (c : Dev nD) (t : Fin cfg0.N) (h0 : t.val % 8 = 0) (y : S1x256.Idx) : (outsAt0 m c t.val t.isLt).2 y = part m c t y := by
  rw [outsAt0_A m c t h0]
  frame_out
  refine (step _ _ _ y).trans ?_
  open_payloads
  pointwise
theorem partB (c : Dev nD) (t : Fin cfg0.N) (h0 : ¬t.val % 8 = 0) (y : S1x256.Idx) :
    (outsAt0 m c t.val t.isLt).2 y = (outsAt0 m c (t.val - 1) (Nat.lt_of_le_of_lt (Nat.sub_le _ _) t.isLt)).2 y + part m c t y := by
  rw [outsAt0_B m c t h0]
  frame_out
  exact step _ _ _ y

/-- At the last point the window holds the sum of the eight points' additions. -/
theorem part_sum (c : Dev nD) (t : Fin cfg0.N) (h : t.val % 8 = 8 - 1) (y : S1x256.Idx) :
    (outsAt0 m c t.val t.isLt).2 y = ∑ s : Fin 8, part m c ⟨8 * (t.val / 8) + s.val, Pipeline.run_point_lt_of_flush t h s⟩ y := by
  rw [Pipeline.eq_sum_fin_of_reset_step_apply_of_flush (fun n h => (outsAt0 m c n h).2) 8 (fun _ => (0 : EReal)) (part m c)
    (fun t h y => by rw [partA m c t h y, zero_add]) (fun t h y => partB m c t h y) t h y, zero_add]

theorem finalD (c : Dev nD) : (dats m 0 c).arrAt 6 (cfgs 0).N = gradD (m ((c : Thread nD τ).loc main_arg0)) (m ((c : Thread nD τ).loc main_arg1)) := by
  refine (dats m 0 c).arrAt_eq_of_covers 6 _ (by decide +kernel) fun t hf y => ?_
  have h7 := (flush0_6 t).mp hf
  have ht : t.val < 8 := lt_of_lt_of_eq t.isLt N_0
  blk_simp
  rw [after0_6, part_sum m c t h7]
  idx_vars y
  have e : (((View.whole main_v0_1).slice (win0_6.rect t)).emb (ix2 y0 y1)) = ix2 0 y1 := by blk_ext [idx t]
  rw [e]
  simp only [part, partOf, gradD]
  refine Fin.sum_mul_add_congr fun s k hl => congrArg₂ (· * ·) ?_ ?_
  all_goals blk_point [iblk, V, idx ⟨_, Pipeline.run_point_lt_of_flush t h7 s⟩]

end Kernel

end Cert.SkipGrad

end
-- ==== Proof.SkipClaim.lean ====
/-
  The value claim of the scan's input gradient.
-/
module

public import proofs.«01_k».proof.Defs
public import proofs.«01_k».proof.Proof.SkipArrays

@[expose] public section

set_option maxRecDepth 16384

noncomputable section

open Idealize.ShloMosaic Idealize.ShloMosaic.TcCoe Idealize.SL.Sem

namespace Cert.SkipGrad

/-- The gradient of the scan's input, and of the skip weight. -/
theorem algebraic : Cert.algebraic_SkipIdeal_SkipRefIdeal := fun m ρ m' ρ' _ hag =>
  ⟨_, _, (θ_run _ _ _).mono (fun _ h c => ⟨(h c).1.trans (finalS m c), (h c).2.1.trans (finalD m c), (h c).2.2⟩) (SkipIdeal.Value.run_blocks m ρ),
    (θ_run _ _ _).mono (fun _ h c => by
      obtain ⟨a0, a1, a2, a3, a4⟩ := hag c
      exact ⟨(h c).1.trans (by rw [a1, a2, a3, a4]; exact refS _ _ _ _), (h c).2.1.trans (by rw [a0, a1]; exact refD _ _), (h c).2.2⟩) (SkipRefIdeal.Value.run m' ρ')⟩

end Cert.SkipGrad

end
-- ==== Proof.AttnFwdClaim.lean ====
/-
  The memory attention's forward core: each block of rows against the keys and values of the memory, head by head.
-/
module

public import proofs.«01_k».proof.Proof.Gen.AttnFIdeal.Value
public import proofs.«01_k».proof.Proof.Gen.AttnFRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AttnEq
public import proofs.«01_k».proof.Defs

@[expose] public section

set_option maxRecDepth 16384

noncomputable section

namespace Cert.AttnFwd

open Idealize.ShloMosaic Idealize.ShloMosaic.TcCoe Idealize.SL.Sem Idealize.ShloMosaic.StableHlo
open Idealize.ShloMosaic.Pipeline (Dat)

open Cert.Attn (scoreRow probRow expRow scoreB top ld_at)

section Reference
open Cert.AttnFRefIdeal Cert.AttnFRefIdeal.Gen

/-- The attention's result from its probabilities: each head's values weighted, the heads side by side. -/
def weighted (P : FVec Ideal S4x4096x256 .f32) (K : FVec Ideal S256x2048 .bf16) : FVec Ideal S4096x1024 .bf16 :=
  truncf .bf16 (shapeCast _ (transpose S4096x4x256 [2, 0, 1] (Host.dotGeneral dot_S256x4x256_S4x4096x256_S4x256x4096_0_2_2_1_1_0 none (Attn.headVals K) P)
    transposes_S4x256x4096_S4096x4x256_2_0_1) shapeCasts_S4096x4x256_S4096x1024) bitsLt_bf16_f32

theorem weighted_at (P : FVec Ideal S4x4096x256 .f32) (K : FVec Ideal S256x2048 .bf16) (l : Fin 4096) (b : Fin 1024) :
    weighted P K (ix2 l b) = ∑ j : Fin 256, K (ix2 j ⟨1024 + b, by omega⟩) * P (ix3 ⟨b / 256, by omega⟩ l j) := by
  pointwise [weighted, Attn.headVals]

/-- A row's entry: the head's values, weighted by the softmax of the row's scores. -/
def rowO (q : Fin 1024 → EReal) (K : S256x2048.Idx → EReal) (b : Fin 1024) : EReal :=
  ∑ j : Fin 256, probRow (scoreRow q K ⟨b / 256, by omega⟩) j * K (ix2 j ⟨1024 + b, by omega⟩)
def out (Q : FVec Ideal S4096x1024 .bf16) (K : FVec Ideal S256x2048 .bf16) : S4096x1024.Idx → EReal := fun i =>
  rowO (fun x => Q (ix2 (i 0) x)) K (i 1)

theorem ref_eq (Q : FVec Ideal S4096x1024 .bf16) (K : FVec Ideal S256x2048 .bf16) : weighted (Attn.probs (Attn.scores Q K)) K = out Q K := by
  funext i
  idx_vars i
  rw [weighted_at]
  show _ = rowO (Attn.rowOf Q i0) K i1
  unfold rowO
  exact Finset.sum_congr rfl fun j _ => by rw [Attn.probs_eq, mul_comm]

end Reference

section Kernel
open Cert.AttnFIdeal Cert.AttnFIdeal.Gen

variable (q : Vec Ideal S1024x256 .bf16) (k v : Vec Ideal S256x256 .bf16) (r : Fin 1024) (a b : Fin 256)

/-- The scaled scores of a block of rows, by entry and as a block. -/
def scoreE (r : Fin 1024) (j : Fin 256) : EReal := (∑ x : Fin 256, q (ix2 r x) * k (ix2 j x)) * Ideal.ofBits .f32 0x3D800000#32
def scoreV : FVec Ideal S1024x256 .f32 :=
  mulf (matmul (φ₁ := .bf16) (φ₂ := .bf16) dot_S1024x256_S256x256_S1024x256_1_1_0_0_n_n none q k (constant S1024x256 .f32 0x00000000#32)) (broadcast S1024x256 (Scalar.ofBits .f32 0x3D800000#32))
theorem scoreV_at : scoreV q k (ix2 r a) = scoreE q k r a := by
  pointwise [scoreV, scoreE]

/-- A column of 1024 entries spread over 256 columns. -/
def spread (x : FVec Ideal S1024 .f32) : FVec Ideal S1024x256 .f32 :=
  broadcastTo S1024x256 (shapeCast S1024x1 x shapeCasts_S1024_S1024x1) broadcasts_S1024x1_S1024x256
theorem spread_at (x : FVec Ideal S1024 .f32) : spread x (ix2 r a) = x (ix1 r) := by
  pointwise [spread]

/-- The exponentials of a block of scores, and its softmax. -/
def expV (S : FVec Ideal S1024x256 .f32) : FVec Ideal S1024x256 .f32 :=
  exp (subf S (spread (multiReduction .maximumf [1] S1024 S 0xFF800000#32 reduces_S1024x256_S1024 (.inl rfl) rfl)))
theorem expV_at (S : FVec Ideal S1024x256 .f32) : expV S (ix2 r a) = expRow (fun j => S (ix2 r j)) a := by
  have e := (spread_at r a _).trans (Attn.multiMax S 0xFF800000#32 reduces_S1024x256_S1024 (.inl rfl) rfl r)
  exact congrArg (fun w : EReal => Ideal.exp (S (ix2 r a) - w)) e
def probV (S : FVec Ideal S1024x256 .f32) : FVec Ideal S1024x256 .f32 :=
  divf (expV S) (spread (multiReduction .add [1] S1024 (expV S) 0x00000000#32 reduces_S1024x256_S1024 (.inl rfl) rfl))
theorem probV_at (S : FVec Ideal S1024x256 .f32) : probV S (ix2 r a) = probRow (fun j => S (ix2 r j)) a := by
  unfold Attn.probRow
  simp only [← expV_at]
  generalize he : expV S = e
  pointwise [probV, spread, he]

/-- A head's values, weighted: the four heads' stores are all of this form. -/
def weigh (P : FVec Ideal S1024x256 .f32) : FVec Ideal S1024x256 .bf16 :=
  truncf .bf16 (matmul (φ₁ := .bf16) (φ₂ := .bf16) dot_S1024x256_S256x256_S1024x256_1_0_0_1_n_n none (truncf .bf16 P bitsLt_bf16_f32) v (constant S1024x256 .f32 0x00000000#32)) bitsLt_bf16_f32
abbrev headV : FVec Ideal S1024x256 .bf16 := weigh v (probV (scoreV q k))
theorem headV_at : headV q k v (ix2 r b) = ∑ j : Fin 256, probRow (scoreE q k r) j * v (ix2 j b) := by
  have e : ∀ j, probV (scoreV q k) (ix2 r j) = probRow (scoreE q k r) j := fun j =>
    (probV_at r j _).trans (congrArg (fun f => probRow f j) (funext fun j => scoreV_at q k r j))
  simp only [headV, ← e]
  generalize probV (scoreV q k) = P
  pointwise [weigh]

theorem head0 : k0_pay2 (F := Ideal) q k v = headV q k v := rfl
theorem head1 : k0_pay4 (F := Ideal) v (k0_pay3 q k) = headV q k v := rfl
theorem head2 : k0_pay5 (F := Ideal) q k v = headV q k v := rfl
theorem head3 : k0_pay1 (F := Ideal) (k0_pay6 q k) (k0_pay7 q k) v = headV q k v := rfl

section Reads
variable (Qb : Vec Ideal S1024x1024 .bf16) (K : Vec Ideal S256x2048 .bf16) (h : Fin 4) (o o' : ℕ)

abbrev cols (o : ℕ) (i : ∀ a : Fin S1024x1024.rank, ![0, o] a + ![1024, 256] a ≤ S1024x1024.size a) : Vec Ideal S1024x256 .bf16 :=
  View.ld (Val := Elt Ideal) Qb (Rect.unit (s := S1024x1024) ![0, o] ![1024, 256] i)

/-- Head `h` with its tiles read from the point's blocks: column `o` of the rows and keys, `o'` of the values. -/
theorem read (e : o = h * 256) (e' : o' = 1024 + h * 256) (i j j') (x : S1024x256.Idx) (y : S1024x1024.Idx) (h0 : (y 0).val = (x 0).val) (h1 : (y 1).val = o + (x 1).val) :
    headV (cols Qb o i) (Attn.keyCols K o j) (Attn.keyCols K o' j') x = rowO (fun x => Qb (ix2 (y 0) x)) K (y 1) := by
  idx_vars x
  idx_vars y
  have h0 : y0 = x0 := Fin.ext h0
  have h1 : y1.val = o + x1.val := h1
  subst h0
  have b0 : x1.val < 256 := x1.isLt
  have b1 : y1.val < 1024 := y1.isLt
  rw [headV_at]
  show _ = rowO (fun x => Qb (ix2 y0 x)) K y1
  unfold rowO
  have eh : (⟨y1 / 256, by omega⟩ : Fin 4) = h := Fin.ext (by show y1.val / 256 = h.val; omega)
  have es : scoreE (cols Qb o i) (Attn.keyCols K o j) y0 = scoreRow (fun x => Qb (ix2 y0 x)) K h := by
    funext l
    unfold scoreE Attn.scoreRow
    refine congrArg (· * _) (Finset.sum_congr rfl fun x _ => congr (congrArg _ ?_) (Attn.keys_at K h o e j l x))
    exact ld_at _ _ y0 x _ _ (Nat.zero_add _).symm (by show h.val * 256 + x.val = o + x.val; omega)
  rw [eh, es]
  refine Finset.sum_congr rfl fun l _ => congrArg (_ * ·) ((Attn.vals_at K h o' e' j' l x1).trans ?_)
  exact congrArg K (congrArg (ix2 l) (Fin.ext (by show 1024 + (h.val * 256 + x1.val) = 1024 + y1.val; omega)))
end Reads

variable (m : (ℓ : Loc nD τ sig) → Buf (Elt Ideal) ℓ)

/-- The blocks that a point reads and writes: 1024 rows, and all keys and values. -/
theorem idx : ∀ t : Fin cfg0.N, win0_0.index t = ![t.val, 0] ∧ win0_1.index t = ![0, 0] ∧ win0_2.index t = ![t.val, 0] :=
  (by decide +kernel : ∀ t : Fin grid0.N, _)

/-- A block of the result: four heads side by side. -/
theorem tiles (Qb : Vec Ideal S1024x1024 .bf16) (K : Vec Ideal S256x2048 .bf16) (y : S1024x1024.Idx) :
    out0_2 (F := Ideal) Qb K y = rowO (fun x => Qb (ix2 (y 0) x)) K (y 1) := by
  unfold out0_2
  canon_tiles x h
  · exact (congrFun (head3 _ _ _) x).trans (read Qb K 3 768 1792 rfl rfl _ _ _ x y h0 h1)
  · exact (congrFun (head2 _ _ _) x).trans (read Qb K 2 512 1536 rfl rfl _ _ _ x y h0 h1)
  · exact (congrFun (head1 _ _ _) x).trans (read Qb K 1 256 1280 rfl rfl _ _ _ x y h0 h1)
  · exact (congrFun (head0 _ _ _) x).trans (read Qb K 0 0 1024 rfl rfl _ _ _ x y h0 (h1.trans (Nat.zero_add _).symm))

theorem blk_q (c : Dev nD) (t : Fin cfg0.N) (r : Fin 1024) (x : Fin 1024) (l : Fin 4096) (hl : l.val = t.val * 1024 + r.val) :
    iblk m c 0 t (ix2 r x) = m ((c : Thread nD τ).loc main_arg0) (ix2 l x) := by
  blk_point [iblk, V, idx t]
theorem blk_kv (c : Dev nD) (t : Fin cfg0.N) : iblk m c 1 t = m ((c : Thread nD τ).loc main_arg1) := by
  funext y
  idx_vars y
  blk_point [iblk, V, idx t]

/-- The result's array. -/
theorem final (c : Dev nD) : (dats m 0 c).arrAt 2 (cfgs 0).N
    = out (m ((c : Thread nD τ).loc main_arg0)) (m ((c : Thread nD τ).loc main_arg1)) := by
  refine (dats m 0 c).arrAt_eq_of_covers 2 _ (by decide +kernel) fun t hf y => ?_
  have ht : t.val < 4 := lt_of_lt_of_eq t.isLt N_0
  blk_simp
  rw [after0_2, tiles]
  idx_vars y
  have e : (((View.whole main_v0).slice (win0_2.rect t)).emb (ix2 y0 y1)) = ix2 ⟨t.val * 1024 + y0.val, by omega⟩ y1 := by
    blk_ext [idx t]
  rw [e, blk_kv]
  show rowO (fun x => iblk m c 0 t (ix2 y0 x)) _ y1 = rowO _ _ y1
  simp only [blk_q m c t y0 _ ⟨t.val * 1024 + y0.val, by omega⟩ rfl]
  rfl

end Kernel

/-- The attention's forward core. -/
theorem algebraic : Cert.algebraic_AttnFIdeal_AttnFRefIdeal := fun m ρ m' ρ' _ hag =>
  ⟨_, (θ_run _ _ _).mono (fun _ h c => ⟨(h c).1.trans (final m c), (h c).2⟩) (AttnFIdeal.Value.run_blocks m ρ),
    (θ_run _ _ _).mono (fun _ h c => by
      obtain ⟨a0, a1⟩ := hag c
      exact ⟨(h c).1.trans (by rw [a0, a1]; exact ref_eq _ _), (h c).2⟩) (AttnFRefIdeal.Value.run m' ρ')⟩

end Cert.AttnFwd

end
-- ==== Proof.AdamRule.lean ====
/-
  The optimiser's rule for one entry of a weight: AdamW with bias correction, at the step's fixed constants.
-/
module

public import Idealize.ShloMosaic.PureOps.Ideal

@[expose] public section

noncomputable section

namespace Cert.AdamRule

open Idealize.ShloMosaic

/-- The first moment after the step: `0.9 m + 0.1 g`. -/
def newM (g m : EReal) : EReal := Ideal.ofBits .f32 0x3F666666#32 * m + Ideal.ofBits .f32 0x3DCCCCCD#32 * g
/-- The second moment after the step: `0.999 v + 0.001 g²`. -/
def newV (g v : EReal) : EReal := Ideal.ofBits .f32 0x3F7FBE77#32 * v + Ideal.ofBits .f32 0x3A83126F#32 * (g * g)
/-- The weight's change: minus the learning rate times the corrected ratio plus the decay. -/
def delta (w g m v : EReal) : EReal :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32) + Ideal.ofBits .f32 0x3C23D70A#32 * w)

end Cert.AdamRule

end
-- ==== Proof.AdamFfnClaim.lean ====
/-
  The optimiser on a shard of a feed-forward weight or of the mixer's input projection.
-/
module

public import proofs.«01_k».proof.Proof.Gen.AdamIdeal.Value
public import proofs.«01_k».proof.Proof.Gen.AdamRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamFfn

open Idealize.ShloMosaic Idealize.ShloMosaic.TcCoe Idealize.SL.Sem Idealize.ShloMosaic.StableHlo
open Idealize.ShloMosaic.Pipeline (Dat)

open Cert.AdamRule

section Reference
open Cert.AdamRefIdeal Cert.AdamRefIdeal.Gen

variable (w : FVec Ideal S704x1024 .f32) (g : FVec Ideal S704x1024 .f32) (m v : FVec Ideal S704x1024 .f32)

/-- The gradient's entry for an entry of the weight. -/
abbrev gradAt (y : S704x1024.Idx) : EReal := g y
/-- The four results, entry by entry. -/
def grads (y : S704x1024.Idx) : EReal := gradAt g y
def deltas (y : S704x1024.Idx) : EReal := delta (w y) (gradAt g y) (m y) (v y)
def firsts (y : S704x1024.Idx) : EReal := newM (gradAt g y) (m y)
def seconds (y : S704x1024.Idx) : EReal := newV (gradAt g y) (v y)

theorem refG : g = grads g := rfl
theorem refM : (addf (mulf (broadcastInDim S704x1024 ![] bcast_S_S704x1024 (constant S_ .f32 0x3F666666#32)) m) (mulf (broadcastInDim S704x1024 ![] bcast_S_S704x1024 (constant S_ .f32 0x3DCCCCCD#32)) g)) = firsts g m := by
  funext y
  idx_vars y
  pointwise [firsts, newM]
theorem refV : (addf (mulf (broadcastInDim S704x1024 ![] bcast_S_S704x1024 (constant S_ .f32 0x3F7FBE77#32)) v) (mulf (broadcastInDim S704x1024 ![] bcast_S_S704x1024 (constant S_ .f32 0x3A83126F#32)) (mulf g g))) = seconds g v := by
  funext y
  idx_vars y
  pointwise [seconds, newV]
theorem refD : mulf (broadcastInDim S704x1024 ![] bcast_S_S704x1024 (constant S_ .f32 0xBA83126F#32)) (addf (Host.divf (Host.divf (addf (mulf (broadcastInDim S704x1024 ![] bcast_S_S704x1024 (constant S_ .f32 0x3F666666#32)) m) (mulf (broadcastInDim S704x1024 ![] bcast_S_S704x1024 (constant S_ .f32 0x3DCCCCCD#32)) g)) (broadcastInDim S704x1024 ![] bcast_S_S704x1024 (constant S_ .f32 0x3F26BD02#32)))
    (addf (Host.sqrt (Host.divf (addf (mulf (broadcastInDim S704x1024 ![] bcast_S_S704x1024 (constant S_ .f32 0x3F7FBE77#32)) v) (mulf (broadcastInDim S704x1024 ![] bcast_S_S704x1024 (constant S_ .f32 0x3A83126F#32)) (mulf g g))) (broadcastInDim S704x1024 ![] bcast_S_S704x1024 (constant S_ .f32 0x3C231ACC#32)))) (broadcastInDim S704x1024 ![] bcast_S_S704x1024 (constant S_ .f32 0x322BCC77#32)))) (mulf (broadcastInDim S704x1024 ![] bcast_S_S704x1024 (constant S_ .f32 0x3C23D70A#32)) w)) = deltas w g m v := by
  rw [refM, refV]
  funext y
  idx_vars y
  pointwise [deltas, firsts, seconds, delta]

end Reference

section Kernel
open Cert.AdamIdeal Cert.AdamIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S352x1024 .f32) (y : S352x1024.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S352x1024.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S352x1024.Idx) : iblk m c 0 t y = m ((c : Thread nD τ).loc main_arg0) (((View.whole main_v0_0).slice (win0_4.rect t)).emb y) := by
  blk_point [iblk, V, idx t]
theorem readM (c : Dev nD) (t : Fin cfg0.N) (y : S352x1024.Idx) : iblk m c 2 t y = m ((c : Thread nD τ).loc main_arg2) (((View.whole main_v0_0).slice (win0_4.rect t)).emb y) := by
  blk_point [iblk, V, idx t]
theorem readV (c : Dev nD) (t : Fin cfg0.N) (y : S352x1024.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamIdeal_AdamRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamRefIdeal.Value.run m' ρ')⟩

end Cert.AdamFfn

end
-- ==== Proof.AdamSquareClaim.lean ====
/-
  The optimiser on a shard of a square weight.
-/
module

public import proofs.«01_k».proof.Proof.Gen.AdamSqIdeal.Value
public import proofs.«01_k».proof.Proof.Gen.AdamSqRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamSquare

open Idealize.ShloMosaic Idealize.ShloMosaic.TcCoe Idealize.SL.Sem Idealize.ShloMosaic.StableHlo
open Idealize.ShloMosaic.Pipeline (Dat)

open Cert.AdamRule

section Reference
open Cert.AdamSqRefIdeal Cert.AdamSqRefIdeal.Gen

variable (w : FVec Ideal S256x1024 .f32) (g : FVec Ideal S256x1024 .f32) (m v : FVec Ideal S256x1024 .f32)

/-- The gradient's entry for an entry of the weight. -/
abbrev gradAt (y : S256x1024.Idx) : EReal := g y
/-- The four results, entry by entry. -/
def grads (y : S256x1024.Idx) : EReal := gradAt g y
def deltas (y : S256x1024.Idx) : EReal := delta (w y) (gradAt g y) (m y) (v y)
def firsts (y : S256x1024.Idx) : EReal := newM (gradAt g y) (m y)
def seconds (y : S256x1024.Idx) : EReal := newV (gradAt g y) (v y)

theorem refG : g = grads g := rfl
theorem refM : (addf (mulf (broadcastInDim S256x1024 ![] bcast_S_S256x1024 (constant S_ .f32 0x3F666666#32)) m) (mulf (broadcastInDim S256x1024 ![] bcast_S_S256x1024 (constant S_ .f32 0x3DCCCCCD#32)) g)) = firsts g m := by
  funext y
  idx_vars y
  pointwise [firsts, newM]
theorem refV : (addf (mulf (broadcastInDim S256x1024 ![] bcast_S_S256x1024 (constant S_ .f32 0x3F7FBE77#32)) v) (mulf (broadcastInDim S256x1024 ![] bcast_S_S256x1024 (constant S_ .f32 0x3A83126F#32)) (mulf g g))) = seconds g v := by
  funext y
  idx_vars y
  pointwise [seconds, newV]
theorem refD : mulf (broadcastInDim S256x1024 ![] bcast_S_S256x1024 (constant S_ .f32 0xBA83126F#32)) (addf (Host.divf (Host.divf (addf (mulf (broadcastInDim S256x1024 ![] bcast_S_S256x1024 (constant S_ .f32 0x3F666666#32)) m) (mulf (broadcastInDim S256x1024 ![] bcast_S_S256x1024 (constant S_ .f32 0x3DCCCCCD#32)) g)) (broadcastInDim S256x1024 ![] bcast_S_S256x1024 (constant S_ .f32 0x3F26BD02#32)))
    (addf (Host.sqrt (Host.divf (addf (mulf (broadcastInDim S256x1024 ![] bcast_S_S256x1024 (constant S_ .f32 0x3F7FBE77#32)) v) (mulf (broadcastInDim S256x1024 ![] bcast_S_S256x1024 (constant S_ .f32 0x3A83126F#32)) (mulf g g))) (broadcastInDim S256x1024 ![] bcast_S_S256x1024 (constant S_ .f32 0x3C231ACC#32)))) (broadcastInDim S256x1024 ![] bcast_S_S256x1024 (constant S_ .f32 0x322BCC77#32)))) (mulf (broadcastInDim S256x1024 ![] bcast_S_S256x1024 (constant S_ .f32 0x3C23D70A#32)) w)) = deltas w g m v := by
  rw [refM, refV]
  funext y
  idx_vars y
  pointwise [deltas, firsts, seconds, delta]

end Reference

section Kernel
open Cert.AdamSqIdeal Cert.AdamSqIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S256x1024 .f32) (y : S256x1024.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S256x1024.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S256x1024.Idx) : iblk m c 0 t y = m ((c : Thread nD τ).loc main_arg0) (((View.whole main_v0_0).slice (win0_4.rect t)).emb y) := by
  blk_point [iblk, V, idx t]
theorem readM (c : Dev nD) (t : Fin cfg0.N) (y : S256x1024.Idx) : iblk m c 2 t y = m ((c : Thread nD τ).loc main_arg2) (((View.whole main_v0_0).slice (win0_4.rect t)).emb y) := by
  blk_point [iblk, V, idx t]
theorem readV (c : Dev nD) (t : Fin cfg0.N) (y : S256x1024.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamSqIdeal_AdamSqRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamSqIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamSqRefIdeal.Value.run m' ρ')⟩

end Cert.AdamSquare

end
-- ==== Proof.AdamMemClaim.lean ====
/-
  The optimiser on the shard of the memory's key and value weight.
-/
module

public import proofs.«01_k».proof.Proof.Gen.AdamKvIdeal.Value
public import proofs.«01_k».proof.Proof.Gen.AdamKvRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamMem

open Idealize.ShloMosaic Idealize.ShloMosaic.TcCoe Idealize.SL.Sem Idealize.ShloMosaic.StableHlo
open Idealize.ShloMosaic.Pipeline (Dat)

open Cert.AdamRule

section Reference
open Cert.AdamKvRefIdeal Cert.AdamKvRefIdeal.Gen

variable (w : FVec Ideal S1024x512 .f32) (g : FVec Ideal S1024x512 .f32) (m v : FVec Ideal S1024x512 .f32)

/-- The gradient's entry for an entry of the weight. -/
abbrev gradAt (y : S1024x512.Idx) : EReal := g y
/-- The four results, entry by entry. -/
def grads (y : S1024x512.Idx) : EReal := gradAt g y
def deltas (y : S1024x512.Idx) : EReal := delta (w y) (gradAt g y) (m y) (v y)
def firsts (y : S1024x512.Idx) : EReal := newM (gradAt g y) (m y)
def seconds (y : S1024x512.Idx) : EReal := newV (gradAt g y) (v y)

theorem refG : g = grads g := rfl
theorem refM : (addf (mulf (broadcastInDim S1024x512 ![] bcast_S_S1024x512 (constant S_ .f32 0x3F666666#32)) m) (mulf (broadcastInDim S1024x512 ![] bcast_S_S1024x512 (constant S_ .f32 0x3DCCCCCD#32)) g)) = firsts g m := by
  funext y
  idx_vars y
  pointwise [firsts, newM]
theorem refV : (addf (mulf (broadcastInDim S1024x512 ![] bcast_S_S1024x512 (constant S_ .f32 0x3F7FBE77#32)) v) (mulf (broadcastInDim S1024x512 ![] bcast_S_S1024x512 (constant S_ .f32 0x3A83126F#32)) (mulf g g))) = seconds g v := by
  funext y
  idx_vars y
  pointwise [seconds, newV]
theorem refD : mulf (broadcastInDim S1024x512 ![] bcast_S_S1024x512 (constant S_ .f32 0xBA83126F#32)) (addf (Host.divf (Host.divf (addf (mulf (broadcastInDim S1024x512 ![] bcast_S_S1024x512 (constant S_ .f32 0x3F666666#32)) m) (mulf (broadcastInDim S1024x512 ![] bcast_S_S1024x512 (constant S_ .f32 0x3DCCCCCD#32)) g)) (broadcastInDim S1024x512 ![] bcast_S_S1024x512 (constant S_ .f32 0x3F26BD02#32)))
    (addf (Host.sqrt (Host.divf (addf (mulf (broadcastInDim S1024x512 ![] bcast_S_S1024x512 (constant S_ .f32 0x3F7FBE77#32)) v) (mulf (broadcastInDim S1024x512 ![] bcast_S_S1024x512 (constant S_ .f32 0x3A83126F#32)) (mulf g g))) (broadcastInDim S1024x512 ![] bcast_S_S1024x512 (constant S_ .f32 0x3C231ACC#32)))) (broadcastInDim S1024x512 ![] bcast_S_S1024x512 (constant S_ .f32 0x322BCC77#32)))) (mulf (broadcastInDim S1024x512 ![] bcast_S_S1024x512 (constant S_ .f32 0x3C23D70A#32)) w)) = deltas w g m v := by
  rw [refM, refV]
  funext y
  idx_vars y
  pointwise [deltas, firsts, seconds, delta]

end Reference

section Kernel
open Cert.AdamKvIdeal Cert.AdamKvIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S256x512 .f32) (y : S256x512.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S256x512.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S256x512.Idx) : iblk m c 0 t y = m ((c : Thread nD τ).loc main_arg0) (((View.whole main_v0_0).slice (win0_4.rect t)).emb y) := by
  blk_point [iblk, V, idx t]
theorem readM (c : Dev nD) (t : Fin cfg0.N) (y : S256x512.Idx) : iblk m c 2 t y = m ((c : Thread nD τ).loc main_arg2) (((View.whole main_v0_0).slice (win0_4.rect t)).emb y) := by
  blk_point [iblk, V, idx t]
theorem readV (c : Dev nD) (t : Fin cfg0.N) (y : S256x512.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamKvIdeal_AdamKvRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamKvIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamKvRefIdeal.Value.run m' ρ')⟩

end Cert.AdamMem

end
-- ==== Proof.AdamPoolClaim.lean ====
/-
  The optimiser on the shard of the pooled branch's projection; its gradient is the first rows of a shared array.
-/
module

public import proofs.«01_k».proof.Proof.Gen.AdamPIdeal.Value
public import proofs.«01_k».proof.Proof.Gen.AdamPRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamPool

open Idealize.ShloMosaic Idealize.ShloMosaic.TcCoe Idealize.SL.Sem Idealize.ShloMosaic.StableHlo
open Idealize.ShloMosaic.Pipeline (Dat)

open Cert.AdamRule

section Reference
open Cert.AdamPRefIdeal Cert.AdamPRefIdeal.Gen

variable (w : FVec Ideal S512x256 .f32) (g : FVec Ideal S1024x256 .f32) (m v : FVec Ideal S512x256 .f32)

/-- The gradient's entry for an entry of the weight. -/
abbrev gradAt (y : S512x256.Idx) : EReal := g (ix2 ⟨(y 0).val, by have : (y 0).val < 512 := (y 0).isLt; omega⟩ (y 1))
/-- The four results, entry by entry. -/
def grads (y : S512x256.Idx) : EReal := gradAt g y
def deltas (y : S512x256.Idx) : EReal := delta (w y) (gradAt g y) (m y) (v y)
def firsts (y : S512x256.Idx) : EReal := newM (gradAt g y) (m y)
def seconds (y : S512x256.Idx) : EReal := newV (gradAt g y) (v y)

theorem refG : (extractStridedSlice S512x256 ![0, 0] g slices_S1024x256_S512x256_0_0) = grads g := by
  funext y
  idx_vars y
  pointwise [grads, gradAt]
theorem refM : (addf (mulf (broadcastInDim S512x256 ![] bcast_S_S512x256 (constant S_ .f32 0x3F666666#32)) m) (mulf (broadcastInDim S512x256 ![] bcast_S_S512x256 (constant S_ .f32 0x3DCCCCCD#32)) (extractStridedSlice S512x256 ![0, 0] g slices_S1024x256_S512x256_0_0))) = firsts g m := by
  rw [refG]
  funext y
  idx_vars y
  pointwise [firsts, newM, grads]
theorem refV : (addf (mulf (broadcastInDim S512x256 ![] bcast_S_S512x256 (constant S_ .f32 0x3F7FBE77#32)) v) (mulf (broadcastInDim S512x256 ![] bcast_S_S512x256 (constant S_ .f32 0x3A83126F#32)) (mulf (extractStridedSlice S512x256 ![0, 0] g slices_S1024x256_S512x256_0_0) (extractStridedSlice S512x256 ![0, 0] g slices_S1024x256_S512x256_0_0)))) = seconds g v := by
  rw [refG]
  funext y
  idx_vars y
  pointwise [seconds, newV, grads]
theorem refD : mulf (broadcastInDim S512x256 ![] bcast_S_S512x256 (constant S_ .f32 0xBA83126F#32)) (addf (Host.divf (Host.divf (addf (mulf (broadcastInDim S512x256 ![] bcast_S_S512x256 (constant S_ .f32 0x3F666666#32)) m) (mulf (broadcastInDim S512x256 ![] bcast_S_S512x256 (constant S_ .f32 0x3DCCCCCD#32)) (extractStridedSlice S512x256 ![0, 0] g slices_S1024x256_S512x256_0_0))) (broadcastInDim S512x256 ![] bcast_S_S512x256 (constant S_ .f32 0x3F26BD02#32)))
    (addf (Host.sqrt (Host.divf (addf (mulf (broadcastInDim S512x256 ![] bcast_S_S512x256 (constant S_ .f32 0x3F7FBE77#32)) v) (mulf (broadcastInDim S512x256 ![] bcast_S_S512x256 (constant S_ .f32 0x3A83126F#32)) (mulf (extractStridedSlice S512x256 ![0, 0] g slices_S1024x256_S512x256_0_0) (extractStridedSlice S512x256 ![0, 0] g slices_S1024x256_S512x256_0_0)))) (broadcastInDim S512x256 ![] bcast_S_S512x256 (constant S_ .f32 0x3C231ACC#32)))) (broadcastInDim S512x256 ![] bcast_S_S512x256 (constant S_ .f32 0x322BCC77#32)))) (mulf (broadcastInDim S512x256 ![] bcast_S_S512x256 (constant S_ .f32 0x3C23D70A#32)) w)) = deltas w g m v := by
  rw [refM, refV]
  funext y
  idx_vars y
  pointwise [deltas, firsts, seconds, delta]

end Reference

section Kernel
open Cert.AdamPIdeal Cert.AdamPIdeal.Gen

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S256x256 .f32) (y : S256x256.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S256x256.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S256x256.Idx) : iblk m c 0 t y = m ((c : Thread nD τ).loc main_arg0) (((View.whole main_v0_0).slice (win0_4.rect t)).emb y) := by
  blk_point [iblk, V, idx t]
theorem readM (c : Dev nD) (t : Fin cfg0.N) (y : S256x256.Idx) : iblk m c 2 t y = m ((c : Thread nD τ).loc main_arg2) (((View.whole main_v0_0).slice (win0_4.rect t)).emb y) := by
  blk_point [iblk, V, idx t]
theorem readV (c : Dev nD) (t : Fin cfg0.N) (y : S256x256.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamPIdeal_AdamPRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamPIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamPRefIdeal.Value.run m' ρ')⟩

end Cert.AdamPool

end
-- ==== Proof.AdamValClaim.lean ====
/-
  The optimiser on the shard of the gated branch's value weight; its gradient lies in a shared array from row 512 on.
-/
module

public import proofs.«01_k».proof.Proof.Gen.AdamVIdeal.Value
public import proofs.«01_k».proof.Proof.Gen.AdamVRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamVal

open Idealize.ShloMosaic Idealize.ShloMosaic.TcCoe Idealize.SL.Sem Idealize.ShloMosaic.StableHlo
open Idealize.ShloMosaic.Pipeline (Dat)

open Cert.AdamRule

section Reference
open Cert.AdamVRefIdeal Cert.AdamVRefIdeal.Gen

variable (w : FVec Ideal S256x256 .f32) (g : FVec Ideal S1024x256 .f32) (m v : FVec Ideal S256x256 .f32)

/-- The gradient's entry for an entry of the weight. -/
abbrev gradAt (y : S256x256.Idx) : EReal := g (ix2 ⟨512 + (y 0).val, by have : (y 0).val < 256 := (y 0).isLt; omega⟩ (y 1))
/-- The four results, entry by entry. -/
def grads (y : S256x256.Idx) : EReal := gradAt g y
def deltas (y : S256x256.Idx) : EReal := delta (w y) (gradAt g y) (m y) (v y)
def firsts (y : S256x256.Idx) : EReal := newM (gradAt g y) (m y)
def seconds (y : S256x256.Idx) : EReal := newV (gradAt g y) (v y)

theorem refG : (extractStridedSlice S256x256 ![512, 0] g slices_S1024x256_S256x256_512_0) = grads g := by
  funext y
  idx_vars y
  pointwise [grads, gradAt]
theorem refM : (addf (mulf (broadcastInDim S256x256 ![] bcast_S_S256x256 (constant S_ .f32 0x3F666666#32)) m) (mulf (broadcastInDim S256x256 ![] bcast_S_S256x256 (constant S_ .f32 0x3DCCCCCD#32)) (extractStridedSlice S256x256 ![512, 0] g slices_S1024x256_S256x256_512_0))) = firsts g m := by
  rw [refG]
  funext y
  idx_vars y
  pointwise [firsts, newM, grads]
theorem refV : (addf (mulf (broadcastInDim S256x256 ![] bcast_S_S256x256 (constant S_ .f32 0x3F7FBE77#32)) v) (mulf (broadcastInDim S256x256 ![] bcast_S_S256x256 (constant S_ .f32 0x3A83126F#32)) (mulf (extractStridedSlice S256x256 ![512, 0] g slices_S1024x256_S256x256_512_0) (extractStridedSlice S256x256 ![512, 0] g slices_S1024x256_S256x256_512_0)))) = seconds g v := by
  rw [refG]
  funext y
  idx_vars y
  pointwise [seconds, newV, grads]
theorem refD : mulf (broadcastInDim S256x256 ![] bcast_S_S256x256 (constant S_ .f32 0xBA83126F#32)) (addf (Host.divf (Host.divf (addf (mulf (broadcastInDim S256x256 ![] bcast_S_S256x256 (constant S_ .f32 0x3F666666#32)) m) (mulf (broadcastInDim S256x256 ![] bcast_S_S256x256 (constant S_ .f32 0x3DCCCCCD#32)) (extractStridedSlice S256x256 ![512, 0] g slices_S1024x256_S256x256_512_0))) (broadcastInDim S256x256 ![] bcast_S_S256x256 (constant S_ .f32 0x3F26BD02#32)))
    (addf (Host.sqrt (Host.divf (addf (mulf (broadcastInDim S256x256 ![] bcast_S_S256x256 (constant S_ .f32 0x3F7FBE77#32)) v) (mulf (broadcastInDim S256x256 ![] bcast_S_S256x256 (constant S_ .f32 0x3A83126F#32)) (mulf (extractStridedSlice S256x256 ![512, 0] g slices_S1024x256_S256x256_512_0) (extractStridedSlice S256x256 ![512, 0] g slices_S1024x256_S256x256_512_0)))) (broadcastInDim S256x256 ![] bcast_S_S256x256 (constant S_ .f32 0x3C231ACC#32)))) (broadcastInDim S256x256 ![] bcast_S_S256x256 (constant S_ .f32 0x322BCC77#32)))) (mulf (broadcastInDim S256x256 ![] bcast_S_S256x256 (constant S_ .f32 0x3C23D70A#32)) w)) = deltas w g m v := by
  rw [refM, refV]
  funext y
  idx_vars y
  pointwise [deltas, firsts, seconds, delta]

end Reference

section Kernel
open Cert.AdamVIdeal Cert.AdamVIdeal.Gen

variable (m : (ℓ : Loc nD τ sig) → Buf (Elt Ideal) ℓ)

/-- The blocks that a point reads and writes. -/
theorem idx : ∀ t : Fin cfg0.N, win0_0.index t = ![t.val, 0] ∧ win0_1.index t = ![t.val + 2, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S256x256 .f32) (y : S256x256.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S256x256.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S256x256.Idx) : iblk m c 0 t y = m ((c : Thread nD τ).loc main_arg0) (((View.whole main_v0_0).slice (win0_4.rect t)).emb y) := by
  blk_point [iblk, V, idx t]
theorem readM (c : Dev nD) (t : Fin cfg0.N) (y : S256x256.Idx) : iblk m c 2 t y = m ((c : Thread nD τ).loc main_arg2) (((View.whole main_v0_0).slice (win0_4.rect t)).emb y) := by
  blk_point [iblk, V, idx t]
theorem readV (c : Dev nD) (t : Fin cfg0.N) (y : S256x256.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamVIdeal_AdamVRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamVIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamVRefIdeal.Value.run m' ρ')⟩

end Cert.AdamVal

end
-- ==== Proof.AdamGateClaim.lean ====
/-
  The optimiser on the shard of the gated branch's gate weight; its gradient lies in a shared array from row 768 on.
-/
module

public import proofs.«01_k».proof.Proof.Gen.AdamGIdeal.Value
public import proofs.«01_k».proof.Proof.Gen.AdamGRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.AdamRule
public import proofs.«01_k».proof.Defs

@[expose] public section

set_option maxRecDepth 16384

noncomputable section

namespace Cert.AdamGate

open Idealize.ShloMosaic Idealize.ShloMosaic.TcCoe Idealize.SL.Sem Idealize.ShloMosaic.StableHlo
open Idealize.ShloMosaic.Pipeline (Dat)

open Cert.AdamRule

section Reference
open Cert.AdamGRefIdeal Cert.AdamGRefIdeal.Gen

variable (w : FVec Ideal S256x256 .f32) (g : FVec Ideal S1024x256 .f32) (m v : FVec Ideal S256x256 .f32)

/-- The gradient's entry for an entry of the weight. -/
abbrev gradAt (y : S256x256.Idx) : EReal := g (ix2 ⟨768 + (y 0).val, by have : (y 0).val < 256 := (y 0).isLt; omega⟩ (y 1))
/-- The four results, entry by entry. -/
def grads (y : S256x256.Idx) : EReal := gradAt g y
def deltas (y : S256x256.Idx) : EReal := delta (w y) (gradAt g y) (m y) (v y)
def firsts (y : S256x256.Idx) : EReal := newM (gradAt g y) (m y)
def seconds (y : S256x256.Idx) : EReal := newV (gradAt g y) (v y)

theorem refG : (extractStridedSlice S256x256 ![768, 0] g slices_S1024x256_S256x256_768_0) = grads g := by
  funext y
  idx_vars y
  pointwise [grads, gradAt]
theorem refM : (addf (mulf (broadcastInDim S256x256 ![] bcast_S_S256x256 (constant S_ .f32 0x3F666666#32)) m) (mulf (broadcastInDim S256x256 ![] bcast_S_S256x256 (constant S_ .f32 0x3DCCCCCD#32)) (extractStridedSlice S256x256 ![768, 0] g slices_S1024x256_S256x256_768_0))) = firsts g m := by
  rw [refG]
  funext y
  idx_vars y
  pointwise [firsts, newM, grads]
theorem refV : (addf (mulf (broadcastInDim S256x256 ![] bcast_S_S256x256 (constant S_ .f32 0x3F7FBE77#32)) v) (mulf (broadcastInDim S256x256 ![] bcast_S_S256x256 (constant S_ .f32 0x3A83126F#32)) (mulf (extractStridedSlice S256x256 ![768, 0] g slices_S1024x256_S256x256_768_0) (extractStridedSlice S256x256 ![768, 0] g slices_S1024x256_S256x256_768_0)))) = seconds g v := by
  rw [refG]
  funext y
  idx_vars y
  pointwise [seconds, newV, grads]
theorem refD : mulf (broadcastInDim S256x256 ![] bcast_S_S256x256 (constant S_ .f32 0xBA83126F#32)) (addf (Host.divf (Host.divf (addf (mulf (broadcastInDim S256x256 ![] bcast_S_S256x256 (constant S_ .f32 0x3F666666#32)) m) (mulf (broadcastInDim S256x256 ![] bcast_S_S256x256 (constant S_ .f32 0x3DCCCCCD#32)) (extractStridedSlice S256x256 ![768, 0] g slices_S1024x256_S256x256_768_0))) (broadcastInDim S256x256 ![] bcast_S_S256x256 (constant S_ .f32 0x3F26BD02#32)))
    (addf (Host.sqrt (Host.divf (addf (mulf (broadcastInDim S256x256 ![] bcast_S_S256x256 (constant S_ .f32 0x3F7FBE77#32)) v) (mulf (broadcastInDim S256x256 ![] bcast_S_S256x256 (constant S_ .f32 0x3A83126F#32)) (mulf (extractStridedSlice S256x256 ![768, 0] g slices_S1024x256_S256x256_768_0) (extractStridedSlice S256x256 ![768, 0] g slices_S1024x256_S256x256_768_0)))) (broadcastInDim S256x256 ![] bcast_S_S256x256 (constant S_ .f32 0x3C231ACC#32)))) (broadcastInDim S256x256 ![] bcast_S_S256x256 (constant S_ .f32 0x322BCC77#32)))) (mulf (broadcastInDim S256x256 ![] bcast_S_S256x256 (constant S_ .f32 0x3C23D70A#32)) w)) = deltas w g m v := by
  rw [refM, refV]
  funext y
  idx_vars y
  pointwise [deltas, firsts, seconds, delta]

end Reference

section Kernel
open Cert.AdamGIdeal Cert.AdamGIdeal.Gen

variable (m : (ℓ : Loc nD τ sig) → Buf (Elt Ideal) ℓ)

/-- The blocks that a point reads and writes. -/
theorem idx : ∀ t : Fin cfg0.N, win0_0.index t = ![t.val, 0] ∧ win0_1.index t = ![t.val + 3, 0] ∧ win0_2.index t = ![t.val, 0] ∧ win0_3.index t = ![t.val, 0]
    ∧ win0_4.index t = ![t.val, 0] ∧ win0_5.index t = ![t.val, 0] ∧ win0_6.index t = ![t.val, 0] ∧ win0_7.index t = ![t.val, 0] :=
  (by decide +kernel : ∀ t : Fin grid0.N, _)

section Block
variable (w g m v : Vec Ideal S256x256 .f32) (y : S256x256.Idx)
theorem blockM : k0_pay1 (F := Ideal) g m y = newM (g y) (m y) := by
  idx_vars y
  open_payloads
  pointwise [newM]
theorem blockV : k0_pay2 (F := Ideal) g v y = newV (g y) (v y) := by
  idx_vars y
  open_payloads
  pointwise [newV]
theorem blockD : k0_pay3 (F := Ideal) g m v w y = delta (w y) (g y) (m y) (v y) := by
  rw [delta, ← blockM, ← blockV]
  idx_vars y
  unfold k0_pay3
  pointwise
end Block

/-- The blocks' entries are the arrays' entries. -/
theorem readG (c : Dev nD) (t : Fin cfg0.N) (y : S256x256.Idx) : iblk m c 1 t y = gradAt (m ((c : Thread nD τ).loc main_arg1)) (((View.whole main_v0_0).slice (win0_4.rect t)).emb y) := by
  blk_point [iblk, V, idx t]
theorem readW (c : Dev nD) (t : Fin cfg0.N) (y : S256x256.Idx) : iblk m c 0 t y = m ((c : Thread nD τ).loc main_arg0) (((View.whole main_v0_0).slice (win0_4.rect t)).emb y) := by
  blk_point [iblk, V, idx t]
theorem readM (c : Dev nD) (t : Fin cfg0.N) (y : S256x256.Idx) : iblk m c 2 t y = m ((c : Thread nD τ).loc main_arg2) (((View.whole main_v0_0).slice (win0_4.rect t)).emb y) := by
  blk_point [iblk, V, idx t]
theorem readV (c : Dev nD) (t : Fin cfg0.N) (y : S256x256.Idx) : iblk m c 3 t y = m ((c : Thread nD τ).loc main_arg3) (((View.whole main_v0_0).slice (win0_4.rect t)).emb y) := by
  blk_point [iblk, V, idx t]

/-- The four arrays after the run. -/
theorem finalG (c : Dev nD) : (dats m 0 c).arrAt 4 (cfgs 0).N = grads (m ((c : Thread nD τ).loc main_arg1)) := by
  refine (dats m 0 c).arrAt_eq_of_covers 4 _ (by decide +kernel) fun t hf y => ?_
  blk_simp
  rw [after0_4]
  frame_out
  exact readG m c t y
theorem finalD (c : Dev nD) : (dats m 0 c).arrAt 5 (cfgs 0).N = deltas (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  rw [blockD, readW, readG, readM, readV]
  rfl
theorem finalM (c : Dev nD) : (dats m 0 c).arrAt 6 (cfgs 0).N = firsts (m ((c : Thread nD τ).loc main_arg1)) (m ((c : Thread nD τ).loc main_arg2)) := by
  refine (dats m 0 c).arrAt_eq_of_covers 6 _ (by decide +kernel) fun t hf y => ?_
  blk_simp
  rw [after0_6]
  frame_out
  rw [blockM, readG, readM]
  rfl
theorem finalV (c : Dev nD) : (dats m 0 c).arrAt 7 (cfgs 0).N = seconds (m ((c : Thread nD τ).loc main_arg1)) (m ((c : Thread nD τ).loc main_arg3)) := by
  refine (dats m 0 c).arrAt_eq_of_covers 7 _ (by decide +kernel) fun t hf y => ?_
  blk_simp
  rw [after0_7]
  frame_out
  rw [blockV, readG, readV]
  rfl

end Kernel

/-- One step of the optimiser on this shard. -/
theorem algebraic : Cert.algebraic_AdamGIdeal_AdamGRefIdeal := fun m ρ m' ρ' _ hag =>
  ⟨_, _, _, _, (θ_run _ _ _).mono (fun _ h c => ⟨(h c).1.trans (finalG m c), (h c).2.1.trans (finalD m c), (h c).2.2.1.trans (finalM m c), (h c).2.2.2.1.trans (finalV m c), (h c).2.2.2.2⟩) (AdamGIdeal.Value.run_blocks m ρ),
    (θ_run _ _ _).mono (fun _ h c => by
      obtain ⟨a0, a1, a2, a3⟩ := hag c
      exact ⟨(h c).1.trans (by rw [a1]; exact refG _), (h c).2.1.trans (by rw [a0, a1, a2, a3]; exact refD _ _ _ _), (h c).2.2.1.trans (by rw [a1, a2]; exact refM _ _),
        (h c).2.2.2.1.trans (by rw [a1, a3]; exact refV _ _), (h c).2.2.2.2⟩) (AdamGRefIdeal.Value.run m' ρ')⟩

end Cert.AdamGate

end
-- ==== Proof.MergeInArrays.lean ====
/-
  The gradients of the merge's two inputs: the three products with the transposed weights, summed over the four
  quarters of the columns, and the gelu's slope.
-/
module

public import proofs.«01_k».proof.Proof.Gen.MixDxIdeal.Value
public import proofs.«01_k».proof.Proof.Gen.MixDxRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.GateMath

@[expose] public section

set_option maxRecDepth 16384

noncomputable section

namespace Cert.MergeIn

open Idealize.ShloMosaic Idealize.ShloMosaic.TcCoe Idealize.SL.Sem Idealize.ShloMosaic.StableHlo
open Idealize.ShloMosaic.Pipeline (Dat)

/-- A sum over 1024 columns, quarter by quarter. -/
theorem quarters (f : Fin 1024 → EReal) : ∑ j : Fin 1024, f j
    = ∑ k : Fin 256, f ⟨256 * 0 + k.val, by omega⟩ + ∑ k : Fin 256, f ⟨256 * 1 + k.val, by omega⟩ + ∑ k : Fin 256, f ⟨256 * 2 + k.val, by omega⟩
      + ∑ k : Fin 256, f ⟨256 * 3 + k.val, by omega⟩ := by
  have e1 := Fin.sum_univ_add (a := 768) (b := 256) (f : Fin (768 + 256) → EReal)
  have e2 := Fin.sum_univ_add (a := 512) (b := 256) (fun i : Fin (512 + 256) => f ⟨i.val, by omega⟩)
  have e3 := Fin.sum_univ_add (a := 256) (b := 256) (fun i : Fin (256 + 256) => f ⟨i.val, by omega⟩)
  have e0 : ∑ k : Fin 256, f ⟨256 * 0 + k.val, by omega⟩ = ∑ k : Fin 256, f ⟨k.val, by omega⟩ :=
    Finset.sum_congr rfl fun k _ => congrArg f (Fin.ext (by show 256 * 0 + k.val = k.val; omega))
  rw [e0]
  exact e1.trans (congrArg (· + _) (e2.trans (congrArg (· + _) e3)))

/-- A row times a row. -/
def rows {n p : ℕ} (D : Vec Ideal ⟨2, ![n, 1024]⟩ .bf16) (W : Vec Ideal ⟨2, ![p, 1024]⟩ .bf16) (r : Fin n) (a : Fin p) : EReal :=
  ∑ j : Fin 1024, D (ix2 r j) * W (ix2 a j)

/-- The derivative of `gelu` at `y` times the gradient `g`, as the version writes it. -/
def slope (k k3 g y : EReal) : EReal :=
  g * (Ideal.ofBits .f32 0x3F000000#32 * (1 + Ideal.tanh (Ideal.ofBits .f32 0x3F4C422A#32 * (y + k * y * y * y)))
    + Ideal.ofBits .f32 0x3F000000#32 * y * (1 - Ideal.tanh (Ideal.ofBits .f32 0x3F4C422A#32 * (y + k * y * y * y)) * Ideal.tanh (Ideal.ofBits .f32 0x3F4C422A#32 * (y + k * y * y * y)))
      * Ideal.ofBits .f32 0x3F4C422A#32 * (1 + k3 * y * y))

section Reference
open Cert.MixDxRefIdeal Cert.MixDxRefIdeal.Gen

theorem refMs_at (D : FVec Ideal S4096x1024 .bf16) (W : FVec Ideal S512x1024 .bf16) (r : Fin 4096) (a : Fin 512) :
    (truncf .bf16 (Host.dotGeneral dot_S4096x1024_S512x1024_S4096x512_1_1_0_0_n_n none (extf .f32 D bitsLt_bf16_f32) (extf .f32 W bitsLt_bf16_f32)) bitsLt_bf16_f32) (ix2 r a)
      = rows D W r a := by
  pointwise [rows]

theorem prod_at (D : FVec Ideal S4096x1024 .bf16) (W : FVec Ideal S256x1024 .bf16) (r : Fin 4096) (a : Fin 256) :
    (Host.dotGeneral dot_S4096x1024_S256x1024_S4096x256_1_1_0_0_n_n none (extf .f32 D bitsLt_bf16_f32) (extf .f32 W bitsLt_bf16_f32)) (ix2 r a) = rows D W r a := by
  pointwise [rows]

end Reference

section Kernel
open Cert.MixDxIdeal Cert.MixDxIdeal.Gen

theorem k_eq : (Named.named κ "gelu_k" 0x3D372713#32 : Ideal .f32) = ((8943 / 200000 : ℝ) : EReal) := IdealRules.named_const.ideal_named_scalar _ _ _ _ rfl
theorem k3_eq : (Named.named κ "gelu_3k" 0x3E095D4F#32 : Ideal .f32) = ((26829 / 200000 : ℝ) : EReal) := IdealRules.named_const.ideal_named_scalar _ _ _ _ rfl

/-- The pool's gradient over the four quarters' loads. -/
theorem tileMs (v0 v1 v2 v3 : Vec Ideal S512x256 .bf16) (w0 w1 w2 w3 : Vec Ideal S1x512x256 .bf16) (r : Fin 512) (a : Fin 512) :
    k0_pay11 (F := Ideal) (k0_pay7 (k0_pay2 v0 w0) (k0_pay4 v1 w1) v2 w2) (k0_pay9 v3 w3) (ix2 r a)
      = ∑ k : Fin 256, v0 (ix2 r k) * w0 (ix3 0 a k) + ∑ k : Fin 256, v1 (ix2 r k) * w1 (ix3 0 a k) + ∑ k : Fin 256, v2 (ix2 r k) * w2 (ix3 0 a k)
        + ∑ k : Fin 256, v3 (ix2 r k) * w3 (ix3 0 a k) := by
  open_payloads
  pointwise

/-- The scan's gradient over the four quarters' loads. -/
theorem tileY (v0 v1 v2 v3 u0 u1 u2 u3 : Vec Ideal S512x256 .bf16) (w0 w1 w2 w3 z0 z1 z2 z3 : Vec Ideal S1x256x256 .bf16) (Y : Vec Ideal S512x256 .f32) (r : Fin 512) (a : Fin 256) :
    k0_pay12 (F := Ideal) (k0_pay8 (k0_pay3 v0 w0 u0 z0) (k0_pay5 v1 w1) u1 (k0_pay6 z1) v2 w2 u2 z2) (k0_pay10 v3 w3) u3 z3 Y (ix2 r a)
      = slope ((8943 / 200000 : ℝ) : EReal) ((26829 / 200000 : ℝ) : EReal)
        ((∑ k : Fin 256, v0 (ix2 r k) * w0 (ix3 0 a k) + ∑ k : Fin 256, v1 (ix2 r k) * w1 (ix3 0 a k) + ∑ k : Fin 256, v2 (ix2 r k) * w2 (ix3 0 a k)
          + ∑ k : Fin 256, v3 (ix2 r k) * w3 (ix3 0 a k))
        + (∑ k : Fin 256, u0 (ix2 r k) * z0 (ix3 0 a k) + ∑ k : Fin 256, u1 (ix2 r k) * z1 (ix3 0 a k) + ∑ k : Fin 256, u2 (ix2 r k) * z2 (ix3 0 a k)
          + ∑ k : Fin 256, u3 (ix2 r k) * z3 (ix3 0 a k))) (Y (ix2 r a)) := by
  rw [← k_eq, ← k3_eq]
  open_payloads
  pointwise [slope]
  refine congrArg (· * _) ?_
  ac_rfl

variable (m : (ℓ : Loc nD τ sig) → Buf (Elt Ideal) ℓ)

/-- The blocks that a point reads and writes. -/
theorem idx : ∀ t : Fin cfg0.N, win0_0.index t = ![t.val, 0] ∧ win0_1.index t = ![t.val, 0] ∧ win0_2.index t = ![t.val, 0] ∧ win0_3.index t = ![0, 0, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The stack of the quarters' weights that the kernel reads, over the call's three weights. -/
theorem stack (c : Dev nD) (t : Fin cfg0.N) (s : Fin 4) (j : Fin 1024) (k : Fin 256) : (iblk m c 3 t : Vec Ideal S4x1024x256 .bf16) (ix3 s j k)
    = Gate.stacked (m ((c : Thread nD τ).loc main_arg3)) (m ((c : Thread nD τ).loc main_arg4)) (m ((c : Thread nD τ).loc main_arg5)) j ⟨s.val * 256 + k.val, by omega⟩ := by
  blk_simp [iblk, V]
  entry_read
  pointwise
  unfold Gate.stacked
  blk_simp [idx t]

section Quarter
variable (c : Dev nD) (t : Fin cfg0.N) {s o q : ℕ} (D : Vec Ideal S512x1024 .bf16)
  (i0 : ∀ a, (![0, o] : Fin 2 → ℕ) a + (![512, 256] : Fin 2 → ℕ) a ≤ S512x1024.size a)

/-- One quarter's part of the three products, over the whole weights' columns. -/
theorem partMs (hs : s < 4) (ho : o = 256 * s) (i1) (r a : Fin 512) :
    ∑ k : Fin 256, View.ld (Val := Elt Ideal) D (Rect.unit (s := S512x1024) ![0, o] ![512, 256] i0) (ix2 r k)
        * View.ld (Val := Elt Ideal) (iblk m c 3 t : Vec Ideal S4x1024x256 .bf16) (Rect.unit (s := S4x1024x256) ![s, 0, 0] ![1, 512, 256] i1) (ix3 0 a k)
      = ∑ k : Fin 256, D (ix2 r ⟨o + k.val, by omega⟩) * (m ((c : Thread nD τ).loc main_arg3) : Vec Ideal S512x1024 .bf16) (ix2 a ⟨o + k.val, by omega⟩) := by
  subst ho
  refine Finset.sum_congr rfl fun k _ => ?_
  rw [box_at D i0 r k r ⟨256 * s + k.val, by omega⟩ (by omega) rfl,
    Gate.slab_at (iblk m c 3 t : Vec Ideal S4x1024x256 .bf16) i1 a k ⟨s, hs⟩ ⟨a.val, by omega⟩ k rfl (by show a.val = 0 + a.val; omega) (by omega), stack,
    Gate.stacked_pool _ _ _ _ _ a rfl]
  simp only [Nat.mul_comm s 256]

theorem partVal (hs : s < 4) (ho : o = 256 * s) (i1) (r : Fin 512) (a : Fin 256) :
    ∑ k : Fin 256, View.ld (Val := Elt Ideal) D (Rect.unit (s := S512x1024) ![0, o] ![512, 256] i0) (ix2 r k)
        * View.ld (Val := Elt Ideal) (iblk m c 3 t : Vec Ideal S4x1024x256 .bf16) (Rect.unit (s := S4x1024x256) ![s, 512, 0] ![1, 256, 256] i1) (ix3 0 a k)
      = ∑ k : Fin 256, D (ix2 r ⟨o + k.val, by omega⟩) * (m ((c : Thread nD τ).loc main_arg4) : Vec Ideal S256x1024 .bf16) (ix2 a ⟨o + k.val, by omega⟩) := by
  subst ho
  refine Finset.sum_congr rfl fun k _ => ?_
  rw [box_at D i0 r k r ⟨256 * s + k.val, by omega⟩ (by omega) rfl,
    Gate.slab_at (iblk m c 3 t : Vec Ideal S4x1024x256 .bf16) i1 a k ⟨s, hs⟩ ⟨512 + a.val, by omega⟩ k rfl rfl (by omega), stack,
    Gate.stacked_val _ _ _ _ _ a rfl]
  simp only [Nat.mul_comm s 256]

theorem partGlu (hs : s < 4) (ho : o = 256 * s) (i1) (r : Fin 512) (a : Fin 256) :
    ∑ k : Fin 256, View.ld (Val := Elt Ideal) D (Rect.unit (s := S512x1024) ![0, o] ![512, 256] i0) (ix2 r k)
        * View.ld (Val := Elt Ideal) (iblk m c 3 t : Vec Ideal S4x1024x256 .bf16) (Rect.unit (s := S4x1024x256) ![s, 768, 0] ![1, 256, 256] i1) (ix3 0 a k)
      = ∑ k : Fin 256, D (ix2 r ⟨o + k.val, by omega⟩) * (m ((c : Thread nD τ).loc main_arg5) : Vec Ideal S256x1024 .bf16) (ix2 a ⟨o + k.val, by omega⟩) := by
  subst ho
  refine Finset.sum_congr rfl fun k _ => ?_
  rw [box_at D i0 r k r ⟨256 * s + k.val, by omega⟩ (by omega) rfl,
    Gate.slab_at (iblk m c 3 t : Vec Ideal S4x1024x256 .bf16) i1 a k ⟨s, hs⟩ ⟨768 + a.val, by omega⟩ k rfl rfl (by omega), stack,
    Gate.stacked_glu _ _ _ _ _ a rfl]
  simp only [Nat.mul_comm s 256]

end Quarter

/-- One point's gradients at a row and column. -/
theorem blockMs (c : Dev nD) (t : Fin cfg0.N) (r a : Fin 512) :
    out0_5 (F := Ideal) (iblk m c 0 t) (iblk m c 1 t) (iblk m c 2 t) (iblk m c 3 t) (iblk m c 4 t) (ix2 r a)
      = rows (iblk m c 0 t) (m ((c : Thread nD τ).loc main_arg3)) r a := by
  frame_out
  rw [tileMs, rows, quarters, partMs m c t _ _ (s := 0) (by omega) rfl, partMs m c t _ _ (s := 1) (by omega) rfl, partMs m c t _ _ (s := 2) (by omega) rfl,
    partMs m c t _ _ (s := 3) (by omega) rfl]

theorem payY (c : Dev nD) (t : Fin cfg0.N) (r : Fin 512) (a : Fin 256) :
    k0_pay12 (F := Ideal) (k0_pay13 (iblk m c 0 t) (iblk m c 1 t) (iblk m c 2 t) (iblk m c 3 t) (iblk m c 4 t)) (k0_pay14 (iblk m c 0 t) (iblk m c 1 t) (iblk m c 2 t) (iblk m c 3 t) (iblk m c 4 t))
        (View.ld (iblk m c 2 t) r0_12) (View.ld (iblk m c 3 t) r0_15) (iblk m c 4 t) (ix2 r a)
      = slope ((8943 / 200000 : ℝ) : EReal) ((26829 / 200000 : ℝ) : EReal)
        (rows (iblk m c 1 t) (m ((c : Thread nD τ).loc main_arg4)) r a + rows (iblk m c 2 t) (m ((c : Thread nD τ).loc main_arg5)) r a) ((iblk m c 4 t : Vec Ideal S512x256 .f32) (ix2 r a)) := by
  unfold k0_pay13 k0_pay14
  rw [tileY, rows, rows, quarters, quarters, partVal m c t _ _ (s := 0) (by omega) rfl, partVal m c t _ _ (s := 1) (by omega) rfl, partVal m c t _ _ (s := 2) (by omega) rfl,
    partVal m c t _ _ (s := 3) (by omega) rfl, partGlu m c t _ _ (s := 0) (by omega) rfl, partGlu m c t _ _ (s := 1) (by omega) rfl, partGlu m c t _ _ (s := 2) (by omega) rfl,
    partGlu m c t _ _ (s := 3) (by omega) rfl]

theorem blockY (c : Dev nD) (t : Fin cfg0.N) (r : Fin 512) (a : Fin 256) :
    out0_6 (F := Ideal) (iblk m c 0 t) (iblk m c 1 t) (iblk m c 2 t) (iblk m c 3 t) (iblk m c 4 t) (ix2 r a)
      = slope ((8943 / 200000 : ℝ) : EReal) ((26829 / 200000 : ℝ) : EReal)
        (rows (iblk m c 1 t) (m ((c : Thread nD τ).loc main_arg4)) r a + rows (iblk m c 2 t) (m ((c : Thread nD τ).loc main_arg5)) r a) ((iblk m c 4 t : Vec Ideal S512x256 .f32) (ix2 r a)) := by
  refine Eq.trans ?_ (payY m c t r a)
  unfold out0_6
  frame_out
  rfl

theorem blockYh (c : Dev nD) (t : Fin cfg0.N) (r : Fin 512) (a : Fin 256) :
    out0_7 (F := Ideal) (iblk m c 0 t) (iblk m c 1 t) (iblk m c 2 t) (iblk m c 3 t) (iblk m c 4 t) (ix2 r a)
      = slope ((8943 / 200000 : ℝ) : EReal) ((26829 / 200000 : ℝ) : EReal)
        (rows (iblk m c 1 t) (m ((c : Thread nD τ).loc main_arg4)) r a + rows (iblk m c 2 t) (m ((c : Thread nD τ).loc main_arg5)) r a) ((iblk m c 4 t : Vec Ideal S512x256 .f32) (ix2 r a)) := by
  refine Eq.trans ?_ (payY m c t r a)
  unfold out0_7
  frame_out
  rfl

/-- The pool's gradient. -/
def outMs (c : Dev nD) : S4096x512.Idx → EReal := fun i => rows (m ((c : Thread nD τ).loc main_arg0) : Vec Ideal S4096x1024 .bf16) (m ((c : Thread nD τ).loc main_arg3)) (i 0) (i 1)

/-- The scan's gradient. -/
def outY (c : Dev nD) : S4096x256.Idx → EReal := fun i => slope ((8943 / 200000 : ℝ) : EReal) ((26829 / 200000 : ℝ) : EReal)
  (rows (m ((c : Thread nD τ).loc main_arg1) : Vec Ideal S4096x1024 .bf16) (m ((c : Thread nD τ).loc main_arg4)) (i 0) (i 1)
    + rows (m ((c : Thread nD τ).loc main_arg2) : Vec Ideal S4096x1024 .bf16) (m ((c : Thread nD τ).loc main_arg5)) (i 0) (i 1))
  ((m ((c : Thread nD τ).loc main_arg6) : Vec Ideal S4096x256 .f32) i)

theorem final5 (c : Dev nD) : (dats m 0 c).arrAt 5 (cfgs 0).N = outMs m c := by
  refine (dats m 0 c).arrAt_eq_of_covers 5 _ (by decide +kernel) fun t hf y => ?_
  blk_simp
  rw [after0_5]
  idx_vars y
  refine (blockMs m c t y0 y1).trans ?_
  simp only [outMs, rows]
  blk_point [iblk, V, idx t]

theorem final6 (c : Dev nD) : (dats m 0 c).arrAt 6 (cfgs 0).N = outY m c := by
  refine (dats m 0 c).arrAt_eq_of_covers 6 _ (by decide +kernel) fun t hf y => ?_
  blk_simp
  rw [after0_6]
  idx_vars y
  refine (blockY m c t y0 y1).trans ?_
  simp only [outY, rows]
  blk_point [iblk, V, idx t]

theorem final7 (c : Dev nD) : (dats m 0 c).arrAt 7 (cfgs 0).N = outY m c := by
  refine (dats m 0 c).arrAt_eq_of_covers 7 _ (by decide +kernel) fun t hf y => ?_
  blk_simp
  rw [after0_7]
  idx_vars y
  refine (blockYh m c t y0 y1).trans ?_
  simp only [outY, rows]
  blk_point [iblk, V, idx t]

end Kernel

end Cert.MergeIn

end
-- ==== Proof.MergeInClaim.lean ====
/-
  The gradients of the merge's two inputs: the reference's derivative of the gelu at a position, equal over the reals to
  the slope that the version writes, and the claim.
-/
module

public import proofs.«01_k».proof.Defs
public import proofs.«01_k».proof.Proof.Finite
public import proofs.«01_k».proof.Proof.MergeInArrays
public import proofs.«01_k».proof.Proof.Gen.Pre_finite_mixdx

@[expose] public section

set_option maxRecDepth 16384

noncomputable section

namespace Cert.MergeIn

open Idealize.ShloMosaic Idealize.ShloMosaic.TcCoe Idealize.SL.Sem Idealize.ShloMosaic.StableHlo Cert.Reals

section Slope

theorem ofBits_3 : Ideal.ofBits .f32 0x40400000#32 = ((3 : ℝ) : EReal) := by
  simp [Ideal.ofBits, Ideal.ieee, -EReal.coe_mul]; norm_num
theorem ofBits_44715 : Ideal.ofBits .f32 0x472EAB00#32 = ((44715 : ℝ) : EReal) := by
  simp [Ideal.ofBits, Ideal.ieee, -EReal.coe_mul]; norm_num
theorem ofBits_million : Ideal.ofBits .f32 0x49742400#32 = ((1000000 : ℝ) : EReal) := by
  simp [Ideal.ofBits, Ideal.ieee, -EReal.coe_mul]; norm_num
/-- The root of two over pi, as both programs round it, is a real number. -/
theorem ofBits_root : ∃ e : ℝ, Ideal.ofBits .f32 0x3F4C422A#32 = (e : EReal) :=
  ⟨_, by simp [Ideal.ofBits, Ideal.ieee, -EReal.coe_mul]; rfl⟩

/-- The gelu's inner hyperbolic tangent at `y`, as the reference has it. -/
def inner (y : EReal) : EReal :=
  Ideal.tanh (Ideal.ofBits .f32 0x3F4C422A#32 * (y + Ideal.div (Ideal.ofBits .f32 0x472EAB00#32 * (y * y * y)) (Ideal.ofBits .f32 0x49742400#32)))

/-- What reaches the gelu's inner argument of the gradient `g`. -/
def chain (g y : EReal) : EReal :=
  Ideal.ofBits .f32 0x3F4C422A#32 * (Ideal.ofBits .f32 0x3F000000#32 * y * g * ((1 + inner y) * (1 - inner y)))

/-- The gradient at `y` that the reference's derivative sends back. -/
def refSlope (g y : EReal) : EReal :=
  chain g y + Ideal.ofBits .f32 0x472EAB00#32 * Ideal.div (chain g y) (Ideal.ofBits .f32 0x49742400#32) * (Ideal.ofBits .f32 0x40400000#32 * (y * y))
    + Ideal.ofBits .f32 0x3F000000#32 * (g * (1 + inner y))

theorem slope_eq {g y : EReal} (hg : IsReal g) (hy : IsReal y) :
    slope ((8943 / 200000 : ℝ) : EReal) ((26829 / 200000 : ℝ) : EReal) g y = refSlope g y := by
  obtain ⟨g, rfl⟩ := hg
  obtain ⟨y, rfl⟩ := hy
  obtain ⟨e, he⟩ := ofBits_root
  unfold refSlope chain inner slope
  rw [he, ofBits_half, ofBits_3, ofBits_44715, ofBits_million]
  have h1 : (1 : EReal) = ((1 : ℝ) : EReal) := rfl
  rw [h1]
  simp only [← EReal.coe_mul, ← EReal.coe_add, ← EReal.coe_sub, div_real _ _ (by norm_num : (1000000 : ℝ) ≠ 0), Ideal.tanh_coe]
  rw [show y + 8943 / 200000 * y * y * y = y + 44715 * (y * y * y) / 1000000 by ring]
  generalize Real.tanh _ = u
  congr 1
  ring

end Slope

section Reference
open Cert.MixDxRefIdeal Cert.MixDxRefIdeal.Gen

abbrev lit (b : BitVec 32) : FVec Ideal S4096x256 .f32 := broadcastInDim S4096x256 ![] bcast_S_S4096x256 (constant S_ .f32 b)

/-- The reference's gradient at the gelu's input, of the gradient `G` at its result. -/
def refTanh (Y : FVec Ideal S4096x256 .f32) : FVec Ideal S4096x256 .f32 :=
  Host.tanh (mulf (lit 0x3F4C422A#32) (addf Y (Host.divf (mulf (lit 0x472EAB00#32) (mulf (mulf Y Y) Y)) (lit 0x49742400#32))))
def refChain (G Y : FVec Ideal S4096x256 .f32) : FVec Ideal S4096x256 .f32 :=
  mulf (lit 0x3F4C422A#32) (mulf (mulf (mulf (lit 0x3F000000#32) Y) G) (mulf (addf (lit 0x3F800000#32) (refTanh Y)) (subf (lit 0x3F800000#32) (refTanh Y))))
def refY (G Y : FVec Ideal S4096x256 .f32) : FVec Ideal S4096x256 .f32 :=
  addf (addf (refChain G Y) (mulf (mulf (lit 0x472EAB00#32) (Host.divf (refChain G Y) (lit 0x49742400#32))) (mulf (lit 0x40400000#32) (mulf Y Y))))
    (mulf (lit 0x3F000000#32) (mulf G (addf (lit 0x3F800000#32) (refTanh Y))))

theorem refY_at (G Y : FVec Ideal S4096x256 .f32) (i : S4096x256.Idx) : refY G Y i = refSlope (G i) (Y i) := by
  idx_vars i
  pointwise [refY, refChain, refTanh, refSlope, chain, inner]

/-- The gradient at the gelu's result. -/
def refG (Dv Dg : FVec Ideal S4096x1024 .bf16) (Wv Wg : FVec Ideal S256x1024 .bf16) : FVec Ideal S4096x256 .f32 :=
  addf (Host.dotGeneral dot_S4096x1024_S256x1024_S4096x256_1_1_0_0_n_n none (extf .f32 Dg bitsLt_bf16_f32) (extf .f32 Wg bitsLt_bf16_f32))
    (Host.dotGeneral dot_S4096x1024_S256x1024_S4096x256_1_1_0_0_n_n none (extf .f32 Dv bitsLt_bf16_f32) (extf .f32 Wv bitsLt_bf16_f32))

variable (m : (ℓ : Loc nD τ sig) → Buf (Elt Ideal) ℓ) (c : Dev nD)

theorem run_y : Value.res_main_v50 (F := Ideal) m c = refY (refG (m ((c : Thread nD τ).loc main_arg1)) (m ((c : Thread nD τ).loc main_arg2)) (m ((c : Thread nD τ).loc main_arg4)) (m ((c : Thread nD τ).loc main_arg5)))
    (m ((c : Thread nD τ).loc main_arg6)) := rfl
theorem run_yh : Value.res_main_v52 (F := Ideal) m c = refY (refG (m ((c : Thread nD τ).loc main_arg1)) (m ((c : Thread nD τ).loc main_arg2)) (m ((c : Thread nD τ).loc main_arg4)) (m ((c : Thread nD τ).loc main_arg5)))
    (m ((c : Thread nD τ).loc main_arg6)) := rfl

theorem refG_at (Dv Dg : FVec Ideal S4096x1024 .bf16) (Wv Wg : FVec Ideal S256x1024 .bf16) (r : Fin 4096) (a : Fin 256) :
    refG Dv Dg Wv Wg (ix2 r a) = rows Dv Wv r a + rows Dg Wg r a := by
  rw [add_comm]
  exact congrArg₂ (· + ·) (prod_at Dg Wg r a) (prod_at Dv Wv r a)

end Reference

open Cert.MixDxIdeal Cert.MixDxIdeal.Gen

theorem rows_real {n p : ℕ} {D : Vec Ideal ⟨2, ![n, 1024]⟩ .bf16} {W : Vec Ideal ⟨2, ![p, 1024]⟩ .bf16} (hD : ∀ i, IsReal (D i)) (hW : ∀ i, IsReal (W i)) (r : Fin n) (a : Fin p) :
    IsReal (rows D W r a) := IsReal.sum _ fun _ => (hD _).mul (hW _)

theorem outMs_eq (m : (ℓ : Loc nD τ sig) → Buf (Elt Ideal) ℓ) (c : Dev nD) :
    (truncf .bf16 (Host.dotGeneral (F := Ideal) Cert.MixDxRefIdeal.dot_S4096x1024_S512x1024_S4096x512_1_1_0_0_n_n none
      (extf .f32 (m ((c : Thread nD τ).loc main_arg0) : FVec Ideal S4096x1024 .bf16) Cert.MixDxRefIdeal.Gen.bitsLt_bf16_f32)
      (extf .f32 (m ((c : Thread nD τ).loc main_arg3) : FVec Ideal S512x1024 .bf16) Cert.MixDxRefIdeal.Gen.bitsLt_bf16_f32)) Cert.MixDxRefIdeal.Gen.bitsLt_bf16_f32 : FVec Ideal S4096x512 .bf16) = outMs m c := by
  funext i
  idx_vars i
  exact refMs_at _ _ i0 i1

theorem outY_eq (m : (ℓ : Loc nD τ sig) → Buf (Elt Ideal) ℓ) (c : Dev nD)
    (h1 : ∀ i, IsReal ((m ((c : Thread nD τ).loc main_arg1) : FVec Ideal S4096x1024 .bf16) i)) (h2 : ∀ i, IsReal ((m ((c : Thread nD τ).loc main_arg2) : FVec Ideal S4096x1024 .bf16) i))
    (h4 : ∀ i, IsReal ((m ((c : Thread nD τ).loc main_arg4) : FVec Ideal S256x1024 .bf16) i)) (h5 : ∀ i, IsReal ((m ((c : Thread nD τ).loc main_arg5) : FVec Ideal S256x1024 .bf16) i))
    (h6 : ∀ i, IsReal ((m ((c : Thread nD τ).loc main_arg6) : FVec Ideal S4096x256 .f32) i)) :
    outY m c = refY (refG (m ((c : Thread nD τ).loc main_arg1)) (m ((c : Thread nD τ).loc main_arg2)) (m ((c : Thread nD τ).loc main_arg4)) (m ((c : Thread nD τ).loc main_arg5)))
      (m ((c : Thread nD τ).loc main_arg6)) := by
  funext i
  idx_vars i
  rw [refY_at, refG_at]
  exact slope_eq ((rows_real h1 h4 _ _).add (rows_real h2 h5 _ _)) (h6 _)

/-- The gradients of the merge's two inputs. -/
theorem algebraic : Cert.algebraic_MixDxIdeal_MixDxRefIdeal_pre_finite_mixdx := fun m ρ m' ρ' hpre hag =>
  ⟨_, _, _, (θ_run _ _ _).mono (fun _ h c => by
      obtain ⟨p1, p2, p4, p5, p6⟩ := hpre c
      have e := outY_eq m c (real_of_finite _ _ (fun _ => ofBits_inf_bf16) p1) (real_of_finite _ _ (fun _ => ofBits_inf_bf16) p2)
        (real_of_finite _ _ (fun _ => ofBits_inf_bf16) p4) (real_of_finite _ _ (fun _ => ofBits_inf_bf16) p5) (real_of_finite _ _ (fun _ => ofBits_inf_f32) p6)
      exact ⟨(h c).1.trans (final5 m c), (h c).2.1.trans ((final6 m c).trans e), (h c).2.2.1.trans ((final7 m c).trans e), (h c).2.2.2⟩)
      (MixDxIdeal.Value.run_blocks m ρ),
    (θ_run _ _ _).mono (fun _ h c => by
      obtain ⟨a0, a1, a2, a3, a4, a5, a6⟩ := hag c
      exact ⟨(h c).1.trans (by rw [a0, a3]; exact outMs_eq m c), (h c).2.1.trans (by rw [run_y, a1, a2, a4, a5, a6]),
        (h c).2.2.1.trans (by rw [run_yh, a1, a2, a4, a5, a6]), (h c).2.2.2⟩) (MixDxRefIdeal.Value.run m' ρ')⟩

end Cert.MergeIn

end
-- ==== Proof.ScanOutArrays.lean ====
/-
  The two scans' outputs with the skip, and the gelu that follows.
-/
module

public import proofs.«01_k».proof.Proof.Gen.CombineIdeal.Value
public import proofs.«01_k».proof.Proof.Gen.CombineRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.ScanOut

open Idealize.ShloMosaic Idealize.ShloMosaic.TcCoe Idealize.SL.Sem Idealize.ShloMosaic.StableHlo
open Idealize.ShloMosaic.Pipeline (Dat)

section Reference
open Cert.CombineRefIdeal Cert.CombineRefIdeal.Gen

variable (p : FVec Ideal S4096x2816 .f32) (yf yb : FVec Ideal S4096x256 .f32) (d : FVec Ideal S1x256 .f32)

/-- The sum of the skip and the two scans. -/
def refY : FVec Ideal S4096x256 .f32 :=
  addf (addf (mulf (extractStridedSlice S4096x256 ![0, 512] p slices_S4096x2816_S4096x256_0_512) (broadcastInDim S4096x256 ![0, 1] bcast_S1x256_S4096x256_0_1 d)) yf) yb
/-- Its gelu, in the narrow format. -/
def refG : FVec Ideal S4096x256 .bf16 :=
  truncf .bf16 (mulf (refY p yf yb d) (mulf (broadcastInDim S4096x256 ![] bcast_S_S4096x256 (constant S_ .f32 0x3F000000#32)) (addf (broadcastInDim S4096x256 ![] bcast_S_S4096x256 (constant S_ .f32 0x3F800000#32)) (Host.tanh (mulf (broadcastInDim S4096x256 ![] bcast_S_S4096x256 (constant S_ .f32 0x3F4C422A#32)) (addf (refY p yf yb d)
    (mulf (broadcastInDim S4096x256 ![] bcast_S_S4096x256 (constant S_ .f32 0x3D372713#32)) (mulf (mulf (refY p yf yb d) (refY p yf yb d)) (refY p yf yb d))))))))) bitsLt_bf16_f32

end Reference

section Kernel
open Cert.CombineIdeal Cert.CombineIdeal.Gen

variable (m : (ℓ : Loc nD τ sig) → Buf (Elt Ideal) ℓ)

/-- The blocks that a point reads and writes: its rows, and of the projection the scan's columns. -/
theorem idx : ∀ t : Fin cfg0.N, win0_0.index t = ![t.val, 2] ∧ win0_1.index t = ![t.val, 0] ∧ win0_2.index t = ![t.val, 0] ∧ win0_3.index t = ![0, 0]
    ∧ win0_4.index t = ![t.val, 0] ∧ win0_5.index t = ![t.val, 0] :=
  (by decide +kernel : ∀ t : Fin grid0.N, _)

/-- The gelu as the kernel multiplies it out, from the sum of the skip and the scans. -/
theorem gelu_eq (a b c y : EReal) (k : EReal) (e : EReal) : a * y * (b + Ideal.tanh (c * (y + k * y * y * y))) = y * (a * (b + Ideal.tanh (c * (y + k * (y * y * y))))) := by
  rw [show k * y * y * y = k * (y * y * y) by rw [mul_assoc, mul_assoc, ← mul_assoc y y y], mul_comm a y, mul_assoc]

section
variable (c : Dev nD) (t : Fin cfg0.N) (y : S512x256.Idx)

theorem pointY : k0_pay1 (F := Ideal) (iblk m c 0 t) (iblk m c 3 t) (iblk m c 1 t) (iblk m c 2 t) y
    = refY (m ((c : Thread nD τ).loc main_arg0)) (m ((c : Thread nD τ).loc main_arg1)) (m ((c : Thread nD τ).loc main_arg2)) (m ((c : Thread nD τ).loc main_arg3))
      (((View.whole main_v0_0).slice (win0_4.rect t)).emb y) := by
  idx_vars y
  pointwise [k0_pay1, refY]
  blk_point [iblk, V, idx t]

theorem pointY' : k0_pay1 (F := Ideal) (iblk m c 0 t) (iblk m c 3 t) (iblk m c 1 t) (iblk m c 2 t) y
    = refY (m ((c : Thread nD τ).loc main_arg0)) (m ((c : Thread nD τ).loc main_arg1)) (m ((c : Thread nD τ).loc main_arg2)) (m ((c : Thread nD τ).loc main_arg3))
      (((View.whole main_v0_1).slice (win0_5.rect t)).emb y) := by
  idx_vars y
  pointwise [k0_pay1, refY]
  blk_point [iblk, V, idx t]

theorem pointG : k0_pay2 (F := Ideal) (iblk m c 0 t) (iblk m c 3 t) (iblk m c 1 t) (iblk m c 2 t) y
    = refG (m ((c : Thread nD τ).loc main_arg0)) (m ((c : Thread nD τ).loc main_arg1)) (m ((c : Thread nD τ).loc main_arg2)) (m ((c : Thread nD τ).loc main_arg3))
      (((View.whole main_v0_1).slice (win0_5.rect t)).emb y) := by
  have h := pointY' m c t y
  unfold k0_pay2
  pointwise [refG]
  rw [← h]
  exact gelu_eq _ _ _ _ _ 0
end

theorem finalY (c : Dev nD) : (dats m 0 c).arrAt 4 (cfgs 0).N = refY (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  exact pointY m c t y
theorem finalG (c : Dev nD) : (dats m 0 c).arrAt 5 (cfgs 0).N = refG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5]
  frame_out
  exact pointG m c t y

end Kernel

end Cert.ScanOut

end
-- ==== Proof.MemoryArrays.lean ====
/-
  The memory's keys and values: the four column blocks of the product.
-/
module

public import proofs.«01_k».proof.Proof.Gen.KvIdeal.Value
public import proofs.«01_k».proof.Proof.Gen.KvRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Memory

open Idealize.ShloMosaic Idealize.ShloMosaic.TcCoe Idealize.SL.Sem Idealize.ShloMosaic.StableHlo
open Idealize.ShloMosaic.Pipeline (Dat)

section Reference
open Cert.KvRefIdeal Cert.KvRefIdeal.Gen

/-- The reference's product with the whole weight. -/
def ref (A : FVec Ideal S256x1024 .bf16) (W : FVec Ideal S4x1024x512 .bf16) : FVec Ideal S256x2048 .bf16 :=
  truncf .bf16 (Host.dotGeneral dot_S256x1024_S1024x2048_S256x2048_1_0_0_1_n_n none (extf .f32 A bitsLt_bf16_f32)
    (shapeCast _ (transpose S1024x4x512 [1, 0, 2] (extf .f32 W bitsLt_bf16_f32) transposes_S4x1024x512_S1024x4x512_1_0_2) shapeCasts_S1024x4x512_S1024x2048)) bitsLt_bf16_f32

/-- An entry of the product: the column's block and its place in the block. -/
theorem ref_at (A : FVec Ideal S256x1024 .bf16) (W : FVec Ideal S4x1024x512 .bf16) (r : Fin 256) (b : Fin 2048) : ref A W (ix2 r b)
    = ∑ k : Fin 1024, A (ix2 r k) * W (ix3 ⟨b.val / 512, by have := b.isLt; omega⟩ k ⟨b.val % 512, by omega⟩) := by
  pointwise [ref]

/-- An entry of one block of the product. -/
theorem ref_block (A : FVec Ideal S256x1024 .bf16) (W : FVec Ideal S4x1024x512 .bf16) (s : Fin 4) (r : Fin 256) (b : Fin 512) :
    ref A W (ix2 r ⟨s.val * 512 + b.val, by have := s.isLt; have := b.isLt; omega⟩) = ∑ k : Fin 1024, A (ix2 r k) * W (ix3 s k b) := by
  rw [ref_at]
  refine Finset.sum_congr rfl fun k _ => ?_
  have h : (⟨(s.val * 512 + b.val) / 512, by have := s.isLt; have := b.isLt; omega⟩ : Fin 4) = s := Fin.ext (by have := b.isLt; show (s.val * 512 + b.val) / 512 = s.val; omega)
  have h' : (⟨(s.val * 512 + b.val) % 512, by omega⟩ : Fin 512) = b := Fin.ext (by have := b.isLt; show (s.val * 512 + b.val) % 512 = b.val; omega)
  exact congrArg (A (ix2 r k) * ·) (congrArg W (congrArg₂ (fun x z => ix3 x k z) h h'))

end Reference

section Kernel
open Cert.KvIdeal Cert.KvIdeal.Gen

variable (m : (ℓ : Loc nD τ sig) → Buf (Elt Ideal) ℓ)

/-- The blocks that a point reads and writes: the whole memory, its block of the weight, its columns. -/
theorem idx : ∀ t : Fin cfg0.N, win0_0.index t = ![0, 0] ∧ win0_1.index t = ![t.val, 0, 0, 0] ∧ win0_2.index t = ![0, t.val] :=
  (by decide +kernel : ∀ t : Fin grid0.N, _)

/-- One point's block of the product. -/
theorem point (c : Dev nD) (t : Fin cfg0.N) (y : S256x512.Idx) :
    k0_pay1 (F := Ideal) (iblk m c 0 t) (iblk m c 1 t) y
      = ref (m ((c : Thread nD τ).loc main_arg0)) (m ((c : Thread nD τ).loc main_arg1)) (((View.whole main_v1).slice (win0_2.rect t)).emb y) := by
  have e : ((View.whole main_v1).slice (win0_2.rect t)).emb y = ix2 (y 0) ⟨t.val * 512 + (y 1).val, by have h0 : t.val < 4 := t.isLt; have h1 : (y 1).val < 512 := (y 1).isLt; omega⟩ := by
    idx_vars y
    blk_point [idx t]
  rw [e]
  refine Eq.trans ?_ (ref_block _ _ ⟨t.val, t.isLt⟩ (y 0) (y 1)).symm
  idx_vars y
  pointwise [k0_pay1]
  blk_point [iblk, V, idx t]

/-- The result array ends as the reference's product. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Kernel

end Cert.Memory

end
-- ==== Proof.MemoryGradArrays.lean ====
/-
  The gradient of the keys' and values' weight: its four blocks.
-/
module

public import proofs.«01_k».proof.Proof.Gen.KvDwIdeal.Value
public import proofs.«01_k».proof.Proof.Gen.KvDwRefIdeal.Run
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.MemoryGrad

open Idealize.ShloMosaic Idealize.ShloMosaic.TcCoe Idealize.SL.Sem Idealize.ShloMosaic.StableHlo
open Idealize.ShloMosaic.Pipeline (Dat)

section Reference
open Cert.KvDwRefIdeal Cert.KvDwRefIdeal.Gen

/-- The reference's gradient, laid out as the four blocks. -/
def ref (A : FVec Ideal S256x1024 .bf16) (B : FVec Ideal S256x2048 .bf16) : FVec Ideal S4x1024x512 .bf16 :=
  truncf .bf16 (transpose S4x1024x512 [1, 0, 2] (shapeCast _ (transpose S1024x2048 [1, 0] (Host.dotGeneral dot_S256x2048_S256x1024_S2048x1024_0_0_1_1_n_n none
    (extf .f32 B bitsLt_bf16_f32) (extf .f32 A bitsLt_bf16_f32)) transposes_S2048x1024_S1024x2048_1_0) shapeCasts_S1024x2048_S1024x4x512) transposes_S1024x4x512_S4x1024x512_1_0_2) bitsLt_bf16_f32

/-- An entry of a block of the gradient. -/
theorem ref_at (A : FVec Ideal S256x1024 .bf16) (B : FVec Ideal S256x2048 .bf16) (y : S4x1024x512.Idx) : ref A B y
    = ∑ k : Fin 256, A (ix2 k (y 1)) * B (ix2 k ⟨(y 0).val * 512 + (y 2).val, by have h0 : (y 0).val < 4 := (y 0).isLt; have h2 : (y 2).val < 512 := (y 2).isLt; omega⟩) := by
  idx_vars y
  pointwise [ref]
  exact (show (_ : EReal) = _ from Finset.sum_congr rfl fun k _ => mul_comm _ _)

end Reference

section Kernel
open Cert.KvDwIdeal Cert.KvDwIdeal.Gen

variable (m : (ℓ : Loc nD τ sig) → Buf (Elt Ideal) ℓ)

/-- The blocks that a point reads and writes: the whole memory, its columns of the cotangent, its block of the result. -/
theorem idx : ∀ t : Fin cfg0.N, win0_0.index t = ![0, 0] ∧ win0_1.index t = ![0, t.val] ∧ win0_2.index t = ![t.val, 0, 0] :=
  (by decide +kernel : ∀ t : Fin grid0.N, _)

/-- One point's block of the gradient. -/
theorem point (c : Dev nD) (t : Fin cfg0.N) (y : S1x1024x512.Idx) :
    k0_pay1 (F := Ideal) (iblk m c 0 t) (iblk m c 1 t) y
      = ref (m ((c : Thread nD τ).loc main_arg0)) (m ((c : Thread nD τ).loc main_arg1)) (((View.whole main_v0).slice (win0_2.rect t)).emb y) := by
  rw [ref_at]
  idx_vars y
  pointwise [k0_pay1]
  blk_point [iblk, V, idx t]

/-- The result array ends as the reference's gradient. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Kernel

end Cert.MemoryGrad

end
-- ==== Proof.ScanMemoryClaims.lean ====
/-
  The value claims of the scan's output and of the memory's keys and values with their weight's gradient.
-/
module

public import proofs.«01_k».proof.Defs
public import proofs.«01_k».proof.Proof.ScanOutArrays
public import proofs.«01_k».proof.Proof.MemoryArrays
public import proofs.«01_k».proof.Proof.MemoryGradArrays

@[expose] public section

set_option maxRecDepth 16384

noncomputable section

open Idealize.ShloMosaic Idealize.ShloMosaic.TcCoe Idealize.SL.Sem

namespace Cert.ScanOut

/-- The scan's output and its gelu. -/
theorem algebraic : Cert.algebraic_CombineIdeal_CombineRefIdeal := fun m ρ m' ρ' _ hag =>
  ⟨_, _, (θ_run _ _ _).mono (fun _ h c => ⟨(h c).1.trans (finalY m c), (h c).2.1.trans (finalG m c), (h c).2.2⟩) (CombineIdeal.Value.run_blocks m ρ),
    (θ_run _ _ _).mono (fun _ h c => by
      obtain ⟨a0, a1, a2, a3⟩ := hag c
      exact ⟨(h c).1.trans (by rw [a0, a1, a2, a3]; rfl), (h c).2.1.trans (by rw [a0, a1, a2, a3]; rfl), (h c).2.2⟩) (CombineRefIdeal.Value.run m' ρ')⟩

end Cert.ScanOut

namespace Cert.Memory

/-- The memory's keys and values. -/
theorem algebraic : Cert.algebraic_KvIdeal_KvRefIdeal := fun m ρ m' ρ' _ hag =>
  ⟨_, (θ_run _ _ _).mono (fun _ h c => ⟨(h c).1.trans (final m c), (h c).2⟩) (KvIdeal.Value.run_blocks m ρ),
    (θ_run _ _ _).mono (fun _ h c => by
      obtain ⟨a0, a1⟩ := hag c
      exact ⟨(h c).1.trans (by rw [a0, a1]; rfl), (h c).2⟩) (KvRefIdeal.Value.run m' ρ')⟩

end Cert.Memory

namespace Cert.MemoryGrad

/-- The gradient of the keys' and values' weight. -/
theorem algebraic : Cert.algebraic_KvDwIdeal_KvDwRefIdeal := fun m ρ m' ρ' _ hag =>
  ⟨_, (θ_run _ _ _).mono (fun _ h c => ⟨(h c).1.trans (final m c), (h c).2⟩) (KvDwIdeal.Value.run_blocks m ρ),
    (θ_run _ _ _).mono (fun _ h c => by
      obtain ⟨a0, a1⟩ := hag c
      exact ⟨(h c).1.trans (by rw [a0, a1]; rfl), (h c).2⟩) (KvDwRefIdeal.Value.run m' ρ')⟩

end Cert.MemoryGrad
-- ==== Proof.MemoryInClaim.lean ====
/-
  The gradient of the normed memory through its keys and values: the scratch adds up the four column blocks.
-/
module

public import proofs.«01_k».proof.Proof.Gen.KvDxIdeal.Value
public import proofs.«01_k».proof.Proof.Gen.KvDxRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Defs

@[expose] public section

set_option maxRecDepth 16384

noncomputable section

namespace Cert.MemoryIn

open Idealize.ShloMosaic Idealize.ShloMosaic.TcCoe Idealize.SL.Sem Idealize.ShloMosaic.StableHlo
open Idealize.ShloMosaic.Pipeline (Dat)

section Reference
open Cert.KvDxRefIdeal Cert.KvDxRefIdeal.Gen

/-- The reference's gradient: the cotangent against the whole weight. -/
def ref (A : FVec Ideal S256x2048 .bf16) (W : FVec Ideal S4x1024x512 .bf16) : FVec Ideal S256x1024 .f32 :=
  Host.dotGeneral dot_S256x2048_S1024x2048_S256x1024_1_1_0_0_n_n none (extf .f32 A bitsLt_bf16_f32)
    (shapeCast _ (transpose S1024x4x512 [1, 0, 2] (extf .f32 W bitsLt_bf16_f32) transposes_S4x1024x512_S1024x4x512_1_0_2) shapeCasts_S1024x4x512_S1024x2048)

/-- An entry of it: a column's block and its place in the block. -/
theorem ref_at (A : FVec Ideal S256x2048 .bf16) (W : FVec Ideal S4x1024x512 .bf16) (r : Fin 256) (b : Fin 1024) : ref A W (ix2 r b)
    = ∑ j : Fin 2048, A (ix2 r j) * W (ix3 ⟨j.val / 512, by have := j.isLt; omega⟩ b ⟨j.val % 512, by omega⟩) := by
  pointwise [ref]

end Reference

section Kernel
open Cert.KvDxIdeal Cert.KvDxIdeal.Gen

variable (m : (ℓ : Loc nD τ sig) → Buf (Elt Ideal) ℓ)

/-- The blocks that a point reads: its columns of the cotangent, its block of the weight. -/
theorem idx : ∀ t : Fin cfg0.N, win0_0.index t = ![0, t.val] ∧ win0_1.index t = ![t.val, 0, 0, 0] ∧ win0_2.index t = ![0, 0] :=
  (by decide +kernel : ∀ t : Fin grid0.N, _)

/-- A block's product, its columns summed. -/
def rows (U : Vec Ideal S256x512 .bf16) (G : Vec Ideal S1x1x1024x512 .bf16) (y : S256x1024.Idx) : EReal := ∑ k : Fin 512, U (ix2 (y 0) k) * G (ix4 0 0 (y 1) k)

/-- What a point adds to the scratch. -/
abbrev part (c : Dev nD) (t : Fin cfg0.N) (y : S256x1024.Idx) : EReal := rows (iblk m c 0 t) (iblk m c 1 t) y

/-- A step of the sum: the payload over any scratch. -/
theorem step_at (X : Vec Ideal S256x1024 .f32) (U : Vec Ideal S256x512 .bf16) (G : Vec Ideal S1x1x1024x512 .bf16) (y : S256x1024.Idx) :
    k0_pay2 (F := Ideal) X U G y = X y + rows U G y := by
  idx_vars y
  pointwise [k0_pay2, rows]

/-- The first point leaves its contribution in the scratch. -/
theorem scA (c : Dev nD) (t : Fin cfg0.N) (h0 : t.val % 4 = 0) (h1 : ¬t.val % 4 = 3) (y : S256x1024.Idx) :
    (outsAt0 m c t.val t.isLt).2 y = part m c t y := by
  rw [outsAt0_A m c t h0 h1]
  frame_out
  rw [step_at]
  pointwise [k0_pay1]

/-- A point in between adds its contribution. -/
theorem scB (c : Dev nD) (t : Fin cfg0.N) (h0 : ¬t.val % 4 = 0) (h1 : ¬t.val % 4 = 3) (y : S256x1024.Idx) :
    (outsAt0 m c t.val t.isLt).2 y = (outsAt0 m c (t.val - 1) (Nat.lt_of_le_of_lt (Nat.sub_le _ _) t.isLt)).2 y + part m c t y := by
  rw [outsAt0_B m c t h0 h1]
  frame_out
  generalize (outsAt0 m c (t.val - 1) _).2 = X
  simp only [read_unread_whole]
  exact step_at _ _ _ y

/-- So does the last point, -/
theorem scC (c : Dev nD) (t : Fin cfg0.N) (h0 : ¬t.val % 4 = 0) (h1 : t.val % 4 = 3) (y : S256x1024.Idx) :
    (outsAt0 m c t.val t.isLt).2 y = (outsAt0 m c (t.val - 1) (Nat.lt_of_le_of_lt (Nat.sub_le _ _) t.isLt)).2 y + part m c t y := by
  rw [outsAt0_C m c t h0 h1]
  frame_out
  generalize (outsAt0 m c (t.val - 1) _).2 = X
  simp only [read_unread_whole]
  exact step_at _ _ _ y

/-- which writes the scratch out. -/
theorem out (c : Dev nD) (t : Fin cfg0.N) (h0 : ¬t.val % 4 = 0) (h1 : t.val % 4 = 3) (y : S256x1024.Idx) :
    (outsAt0 m c t.val t.isLt).1 y = (outsAt0 m c t.val t.isLt).2 y := by
  rw [outsAt0_C m c t h0 h1]
  frame_out

/-- After the last point the scratch holds the four contributions. -/
theorem scratch_sum (c : Dev nD) (t : Fin cfg0.N) (h : t.val % 4 = 4 - 1) (y : S256x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => (0 : EReal)) (part m c)
    (fun t h y => by rw [scA m c t h (by omega) y, zero_add])
    (fun t h y => by by_cases h1 : t.val % 4 = 3; exacts [scC m c t h h1 y, scB m c t h h1 y]) t h y, zero_add]

/-- A column of the whole weight, its block and its place in the block. -/
theorem place (W : FVec Ideal S4x1024x512 .bf16) (s : Fin 4) (k : Fin 512) (b : Fin 1024) (j : Fin 2048) (h : j.val = s.val * 512 + k.val) :
    W (ix3 ⟨j.val / 512, by have := j.isLt; omega⟩ b ⟨j.val % 512, by omega⟩) = W (ix3 s b k) :=
  congrArg W (congrArg₂ (fun x z => ix3 x b z) (Fin.ext (by have := k.isLt; show j.val / 512 = s.val; omega)) (Fin.ext (by have := k.isLt; show j.val % 512 = k.val; omega)))

/-- The result array ends as the reference's gradient. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  have h3 := (flush0_2 t).mp hf
  have ht : t.val < 4 := lt_of_lt_of_eq t.isLt N_0
  blk_simp
  rw [after0_2]
  idx_vars y
  have e : (((View.whole main_v1).slice (win0_2.rect t)).emb (ix2 y0 y1)) = ix2 y0 y1 := by blk_ext [idx t]
  rw [out m c t (by omega) h3, scratch_sum m c t h3, e, ref_at]
  simp only [part, rows]
  refine Fin.sum_mul_add_congr fun s k hl => ?_
  refine congrArg₂ (· * ·) ?_ (Eq.trans ?_ (place _ s k y1 _ rfl).symm)
  all_goals blk_point [iblk, V, idx ⟨_, Pipeline.run_point_lt_of_flush t h3 s⟩]

end Kernel

/-- The gradient of the normed memory. -/
theorem algebraic : Cert.algebraic_KvDxIdeal_KvDxRefIdeal := fun m ρ m' ρ' _ hag =>
  ⟨_, (θ_run _ _ _).mono (fun _ h c => ⟨(h c).1.trans (final m c), (h c).2⟩) (KvDxIdeal.Value.run_blocks m ρ),
    (θ_run _ _ _).mono (fun _ h c => by
      obtain ⟨a0, a1⟩ := hag c
      exact ⟨(h c).1.trans (by rw [a0, a1]; rfl), (h c).2⟩) (KvDxRefIdeal.Value.run m' ρ')⟩

end Cert.MemoryIn

end
-- ==== Proof.MemoryNormClaim.lean ====
/-
  The memory's norm: each row over its root mean square, times the gain.
-/
module

public import proofs.«01_k».proof.Proof.Gen.MemNIdeal.Value
public import proofs.«01_k».proof.Proof.Gen.MemNRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.NormGrad
public import proofs.«01_k».proof.Defs

@[expose] public section

set_option maxRecDepth 16384

noncomputable section

namespace Cert.MemoryNorm

open Idealize.ShloMosaic Idealize.ShloMosaic.TcCoe Idealize.SL.Sem Idealize.ShloMosaic.StableHlo
open Idealize.ShloMosaic.Pipeline (Dat)

/-- A row's normed entry. -/
def unit (h γ : Fin 1024 → EReal) (k : Fin 1024) : EReal := h k * Ideal.rsqrt (NormGrad.square h) * γ k

section Reference
open Cert.MemNRefIdeal Cert.MemNRefIdeal.Gen

/-- The reference's norm. -/
def ref (H : FVec Ideal S256x1024 .f32) (g : FVec Ideal S1x1024 .f32) : FVec Ideal S256x1024 .bf16 :=
  truncf .bf16 (mulf (mulf H (broadcastInDim S256x1024 ![0, 1] bcast_S256x1_S256x1024_0_1 (Host.rsqrt (addf (Host.divf (broadcastInDim S256x1 ![0] bcast_S256_S256x1_0 (Host.reduceAdd (mulf H H) (constant S_ .f32 0x00000000#32) reducesTo_S256x1024_S256_d1 h_S_))
    (broadcastInDim S256x1 ![] bcast_S_S256x1 (constant S_ .f32 0x44800000#32))) (broadcastInDim S256x1 ![] bcast_S_S256x1 (constant S_ .f32 0x358637BD#32))))))
    (broadcastInDim S256x1024 ![0, 1] bcast_S1x1024_S256x1024_0_1 g)) bitsLt_bf16_f32

theorem ref_at (H : FVec Ideal S256x1024 .f32) (g : FVec Ideal S1x1024 .f32) (r : Fin 256) (b : Fin 1024) :
    ref H g (ix2 r b) = unit (fun j => H (ix2 r j)) (fun j => g (ix2 0 j)) b := by
  pointwise [ref, unit, NormGrad.square]

end Reference

section Kernel
open Cert.MemNIdeal Cert.MemNIdeal.Gen

variable (m : (ℓ : Loc nD τ sig) → Buf (Elt Ideal) ℓ)

/-- The one point reads and writes whole arrays. -/
theorem idx : ∀ t : Fin cfg0.N, win0_0.index t = ![0, 0] ∧ win0_1.index t = ![0, 0] ∧ win0_2.index t = ![0, 0] :=
  (by decide +kernel : ∀ t : Fin grid0.N, _)

theorem rows (h : Vec Ideal S256x1024 .f32) (g : Vec Ideal S1x1024 .f32) (r : Fin 256) (b : Fin 1024) :
    k0_pay1 (F := Ideal) h g (ix2 r b) = unit (fun j => h (ix2 r j)) (fun j => g (ix2 0 j)) b := by
  pointwise [k0_pay1, unit, NormGrad.square]

theorem point (c : Dev nD) (t : Fin cfg0.N) (y : S256x1024.Idx) :
    k0_pay1 (F := Ideal) (iblk m c 0 t) (iblk m c 1 t) y = ref (m ((c : Thread nD τ).loc main_arg0)) (m ((c : Thread nD τ).loc main_arg1)) (((View.whole main_v0).slice (win0_2.rect t)).emb y) := by
  idx_vars y
  have e : (((View.whole main_v0).slice (win0_2.rect t)).emb (ix2 y0 y1)) = ix2 y0 y1 := by blk_ext [idx t]
  rw [e, ref_at]
  refine (rows (iblk m c 0 t) (iblk m c 1 t) y0 y1).trans ?_
  congr 1
  · funext j; blk_point [iblk, V, idx t]
  · funext j; blk_point [iblk, V, idx t]

/-- The result array ends as the reference's norm. -/
theorem final (c : Dev nD) : (dats m 0 c).arrAt 2 (cfgs 0).N = ref (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

end Kernel

/-- The normed memory. -/
theorem algebraic : Cert.algebraic_MemNIdeal_MemNRefIdeal := fun m ρ m' ρ' _ hag =>
  ⟨_, (θ_run _ _ _).mono (fun _ h c => ⟨(h c).1.trans (final m c), (h c).2⟩) (MemNIdeal.Value.run_blocks m ρ),
    (θ_run _ _ _).mono (fun _ h c => by
      obtain ⟨a0, a1⟩ := hag c
      exact ⟨(h c).1.trans (by rw [a0, a1]; rfl), (h c).2⟩) (MemNRefIdeal.Value.run m' ρ')⟩

end Cert.MemoryNorm

end
-- ==== Proof.MemoryNormGradClaim.lean ====
/-
  The gradient of the memory through its norm, and of the norm's gain.
-/
module

public import proofs.«01_k».proof.Proof.Gen.MemNBIdeal.Value
public import proofs.«01_k».proof.Proof.Gen.MemNBRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Proof.NormGrad
public import proofs.«01_k».proof.Proof.Finite
public import proofs.«01_k».proof.Proof.Gen.Pre_finite_memn
public import proofs.«01_k».proof.Defs

@[expose] public section

set_option maxRecDepth 16384

noncomputable section

namespace Cert.MemoryNormGrad

open Idealize.ShloMosaic Idealize.ShloMosaic.TcCoe Idealize.SL.Sem Idealize.ShloMosaic.StableHlo
open Idealize.ShloMosaic.Pipeline (Dat)

section Reference
open Cert.MemNBRefIdeal Cert.MemNBRefIdeal.Gen

/-- The mean square of each row with the norm's guard added. -/
def square (H : FVec Ideal S256x1024 .f32) : FVec Ideal S256x1 .f32 :=
  (addf (Host.divf (broadcastInDim S256x1 ![0] bcast_S256_S256x1_0 (Host.reduceAdd (mulf H H) (constant S_ .f32 0x00000000#32) reducesTo_S256x1024_S256_d1 h_S_))
    (broadcastInDim S256x1 ![] bcast_S_S256x1 (constant S_ .f32 0x44800000#32))) (broadcastInDim S256x1 ![] bcast_S_S256x1 (constant S_ .f32 0x358637BD#32)))
def spread (x : FVec Ideal S256x1 .f32) : FVec Ideal S256x1024 .f32 := broadcastInDim S256x1024 ![0, 1] bcast_S256x1_S256x1024_0_1 x

/-- The gradient at the normed rows. -/
def refDn (U : FVec Ideal S256x1024 .f32) (g : FVec Ideal S1x1024 .f32) : FVec Ideal S256x1024 .f32 :=
  mulf U (broadcastInDim S256x1024 ![0, 1] bcast_S1x1024_S256x1024_0_1 g)

/-- The gradient of each row's mean square, over the width. -/
def spreadDs (H U : FVec Ideal S256x1024 .f32) (g : FVec Ideal S1x1024 .f32) : FVec Ideal S256x1024 .f32 :=
  broadcastInDim S256x1024 ![0] bcast_S256_S256x1024_0 (Host.reduceAdd
    (Host.divf (mulf (shapeCast _ (Host.reduceAdd (mulf H (refDn U g)) (constant S_ .f32 0x00000000#32) reducesTo_S256x1024_S256_d1 h_S_) shapeCasts_S256_S256x1)
      (mulf (broadcastInDim S256x1 ![] bcast_S_S256x1 (constant S_ .f32 0xBF000000#32)) (Host.divf (Host.rsqrt (square H)) (square H)))) (broadcastInDim S256x1 ![] bcast_S_S256x1 (constant S_ .f32 0x44800000#32)))
    (constant S_ .f32 0x00000000#32) reducesTo_S256x1_S256_d1 h_S_)

/-- The gradient of the memory. -/
def refX (H : FVec Ideal S256x1024 .f32) (g : FVec Ideal S1x1024 .f32) (U : FVec Ideal S256x1024 .f32) : FVec Ideal S256x1024 .f32 :=
  addf (addf (mulf (refDn U g) (spread (Host.rsqrt (square H)))) (mulf H (spreadDs H U g))) (mulf (spreadDs H U g) H)

/-- The gain's gradient. -/
def refGain (H U : FVec Ideal S256x1024 .f32) : FVec Ideal S1x1024 .f32 :=
  shapeCast _ (Host.reduceAdd (mulf (mulf H (spread (Host.rsqrt (square H)))) U) (constant S_ .f32 0x00000000#32) reducesTo_S256x1024_S1024_d0 h_S_) shapeCasts_S1024_S1x1024

section At
variable (H : FVec Ideal S256x1024 .f32) (g : FVec Ideal S1x1024 .f32) (U : FVec Ideal S256x1024 .f32) (a : Fin 256) (b : Fin 1024)

theorem square_at : square H (ix2 a 0) = NormGrad.square fun j => H (ix2 a j) := by
  pointwise [square, NormGrad.square]

theorem spreadDs_at : spreadDs H U g (ix2 a b) = NormGrad.slope (fun j => U (ix2 a j)) (fun j => H (ix2 a j)) fun j => g (ix2 0 j) := by
  pointwise [spreadDs, refDn, square, NormGrad.slope, NormGrad.square]
  exact (show (_ : EReal) = _ from Fin.sum_univ_one _)

theorem refX_at : refX H g U (ix2 a b) = NormGrad.chain (fun j => U (ix2 a j)) (fun j => H (ix2 a j)) (fun j => g (ix2 0 j)) 0 b := by
  rw [NormGrad.chain, zero_add, ← spreadDs_at H g U a b]
  generalize hs : spreadDs H U g = s
  pointwise [refX, refDn, spread, square, NormGrad.square, hs]

theorem refGain_at : refGain H U (ix2 0 b) = ∑ k : Fin 256, U (ix2 k b) * (H (ix2 k b) * Ideal.rsqrt (NormGrad.square fun j => H (ix2 k j))) := by
  pointwise [refGain, spread, square, NormGrad.square]
  exact (show (_ : EReal) = _ from Finset.sum_congr rfl fun k _ => mul_comm _ _)
end At

end Reference

section Kernel
open Cert.MemNBIdeal Cert.MemNBIdeal.Gen

variable (m : (ℓ : Loc nD τ sig) → Buf (Elt Ideal) ℓ)

/-- The one point reads and writes whole arrays. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- The gradient of the memory, as the kernel spells it. -/
def outX (H : FVec Ideal S256x1024 .f32) (g : FVec Ideal S1x1024 .f32) (U : FVec Ideal S256x1024 .f32) : S256x1024.Idx → EReal := fun i =>
  NormGrad.direct (fun j => U (ix2 (i 0) j)) (fun j => H (ix2 (i 0) j)) (fun j => g (ix2 0 j)) 0 (i 1)

theorem rows (h u : Vec Ideal S256x1024 .f32) (g : Vec Ideal S1x1024 .f32) (r : Fin 256) (b : Fin 1024) :
    k0_pay4 (F := Ideal) h u g (ix2 r b) = NormGrad.direct (fun j => u (ix2 r j)) (fun j => h (ix2 r j)) (fun j => g (ix2 0 j)) 0 b := by
  rw [NormGrad.direct, zero_add]
  open_payloads
  pointwise [NormGrad.square]

theorem point (c : Dev nD) (t : Fin cfg0.N) (y : S256x1024.Idx) : k0_pay4 (F := Ideal) (iblk m c 0 t) (iblk m c 2 t) (iblk m c 1 t) y
    = outX (m ((c : Thread nD τ).loc main_arg0)) (m ((c : Thread nD τ).loc main_arg1)) (m ((c : Thread nD τ).loc main_arg2)) (((View.whole main_v0_0).slice (win0_3.rect t)).emb y) := by
  idx_vars y
  have e : (((View.whole main_v0_0).slice (win0_3.rect t)).emb (ix2 y0 y1)) = ix2 y0 y1 := by blk_ext [idx t]
  rw [e]
  refine (rows (iblk m c 0 t) (iblk m c 2 t) (iblk m c 1 t) y0 y1).trans ?_
  simp only [outX]
  congr 1
  all_goals (funext j; blk_point [iblk, V, idx t])

theorem final_x (c : Dev nD) : (dats m 0 c).arrAt 3 (cfgs 0).N = outX (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  unfold outsAt0
  frame_out
  exact point m c t y
theorem final_xh (c : Dev nD) : (dats m 0 c).arrAt 4 (cfgs 0).N = outX (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]
  unfold outsAt0
  frame_out
  exact point m c t y

/-- Over real arguments that is the reference's gradient. -/
theorem outX_eq (H : FVec Ideal S256x1024 .f32) (g : FVec Ideal S1x1024 .f32) (U : FVec Ideal S256x1024 .f32)
    (hh : ∀ i, Reals.IsReal (H i)) (hg : ∀ i, Reals.IsReal (g i)) (hu : ∀ i, Reals.IsReal (U i)) : outX H g U = refX H g U := by
  funext i
  idx_vars i
  exact (NormGrad.direct_eq_chain _ _ _ _ _ (fun j => hu _) (fun j => hh _) (fun j => hg _)).trans (refX_at H g U i0 i1).symm

theorem gain (h u : Vec Ideal S256x1024 .f32) (b : Fin 1024) :
    k0_pay8 (F := Ideal) h u (ix2 0 b) = ∑ k : Fin 256, u (ix2 k b) * (h (ix2 k b) * Ideal.rsqrt (NormGrad.square fun j => h (ix2 k j))) := by
  open_payloads
  pointwise [NormGrad.square]

theorem final_gain (c : Dev nD) : (dats m 0 c).arrAt 5 (cfgs 0).N = refGain (m ((c : Thread nD τ).loc main_arg0)) (m ((c : Thread nD τ).loc main_arg2)) := by
  refine (dats m 0 c).arrAt_eq_of_covers 5 _ (by decide +kernel) fun t hf y => ?_
  blk_simp
  rw [after0_5]
  idx_vars y
  have e : (((View.whole main_v0_2).slice (win0_5.rect t)).emb (ix2 y0 y1)) = ix2 0 y1 := by blk_ext [idx t]
  obtain rfl : y0 = 0 := Subsingleton.elim _ _
  rw [e, refGain_at]
  unfold outsAt0
  frame_out
  refine Eq.trans ?_ ((gain (iblk m c 0 t) (iblk m c 2 t) y1).trans ?_)
  · generalize k0_pay8 (F := Ideal) _ _ = z
    open_payloads
    pointwise
  · refine Finset.sum_congr rfl fun k _ => congrArg₂ (· * ·) ?_ (congrArg₂ (· * ·) ?_ (congrArg (fun f => Ideal.rsqrt (NormGrad.square f)) (funext fun j => ?_)))
    all_goals blk_point [iblk, V, idx t]

end Kernel

/-- The gradient of the memory through its norm, in both widths, and of the gain. -/
theorem algebraic : Cert.algebraic_MemNBIdeal_MemNBRefIdeal_pre_finite_memn := fun m ρ m' ρ' hpre hag =>
  ⟨_, _, _, (θ_run _ _ _).mono (fun _ h c => by
      obtain ⟨p0, p1, p2⟩ := hpre c
      have e := outX_eq _ _ _ (Reals.real_of_finite _ _ (fun _ => Reals.ofBits_inf_f32) p0) (Reals.real_of_finite _ _ (fun _ => Reals.ofBits_inf_f32) p1)
        (Reals.real_of_finite _ _ (fun _ => Reals.ofBits_inf_f32) p2)
      exact ⟨(h c).1.trans ((final_x m c).trans e), (h c).2.1.trans ((final_xh m c).trans e), (h c).2.2.1.trans (final_gain m c), (h c).2.2.2⟩) (MemNBIdeal.Value.run_blocks m ρ),
    (θ_run _ _ _).mono (fun _ h c => by
      obtain ⟨a0, a1, a2⟩ := hag c
      exact ⟨(h c).1.trans (by rw [a0, a1, a2]; rfl), (h c).2.1.trans (by rw [a0, a1, a2]; rfl), (h c).2.2.1.trans (by rw [a0, a2]; rfl), (h c).2.2.2⟩) (MemNBRefIdeal.Value.run m' ρ')⟩

end Cert.MemoryNormGrad

end
-- ==== Proof.DeviceSumClaim.lean ====
/-
  The sum over the eight devices of the packed gradients of the small weights and of the loss.
-/
module

public import proofs.«01_k».proof.Proof.Gen.SmallSumIdeal.Value
public import proofs.«01_k».proof.Proof.Gen.SmallSumRefIdeal.Run
public import proofs.«01_k».proof.Proof.Reals
public import Idealize.ShloMosaic.Lib.Pipeline.ValueKit
public import Idealize.ShloMosaic.Lib.Pointwise
public import Idealize.ShloMosaic.Lib.Pipeline.ReadBack
public import proofs.«01_k».proof.Defs

@[expose] public section

set_option maxRecDepth 16384

noncomputable section

namespace Cert.DeviceSum

open Idealize.ShloMosaic Idealize.ShloMosaic.TcCoe Idealize.SL.Sem Idealize.ShloMosaic.StableHlo
open Idealize.ShloMosaic.Pipeline (Dat)

section Reference
open Cert.SmallSumRefIdeal Cert.SmallSumRefIdeal.Gen

/-- The reference's sum. -/
def ref (P : FVec Ideal S8x1664x128 .f32) : FVec Ideal S1664x128 .f32 :=
  Host.reduceAdd P (constant S_ .f32 0x00000000#32) reducesTo_S8x1664x128_S1664x128_d0 h_S_

theorem ref_at (P : FVec Ideal S8x1664x128 .f32) (r : Fin 1664) (b : Fin 128) :
    ref P (ix2 r b) = ∑ d : Fin 8, P (ix3 d r b) := by
  pointwise [ref]

end Reference

section Kernel
open Cert.SmallSumIdeal Cert.SmallSumIdeal.Gen

variable (m : (ℓ : Loc nD τ sig) → Buf (Elt Ideal) ℓ)

/-- The one point reads and writes whole arrays. -/
theorem idx : ∀ t : Fin cfg0.N, win0_0.index t = ![0, 0, 0] ∧ win0_1.index t = ![0, 0] :=
  (by decide +kernel : ∀ t : Fin grid0.N, _)

/-- The kernel's sum, device by device. -/
theorem rows (p0 p1 p2 p3 p4 p5 p6 p7 : Vec Ideal S1x1664x128 .f32) (r : Fin 1664) (b : Fin 128) :
    k0_pay1 (F := Ideal) p0 p1 p2 p3 p4 p5 p6 p7 (ix2 r b)
      = p0 (ix3 0 r b) + p1 (ix3 0 r b) + p2 (ix3 0 r b) + p3 (ix3 0 r b) + p4 (ix3 0 r b) + p5 (ix3 0 r b) + p6 (ix3 0 r b) + p7 (ix3 0 r b) := by
  pointwise [k0_pay1]

/-! The eight packs as the kernel reads them. -/
theorem read0 (c : Dev nD) (t : Fin cfg0.N) (r : Fin 1664) (b : Fin 128) : View.ld (iblk m c 0 t) (Rect.unit ![0, 0, 0] ![1, 1664, 128] inb_S8x1664x128_S1x1664x128_0_0_0) (ix3 0 r b) = m ((c : Thread nD τ).loc main_arg0) (ix3 0 r b) := by blk_point [iblk, V, idx t]
theorem read1 (c : Dev nD) (t : Fin cfg0.N) (r : Fin 1664) (b : Fin 128) : View.ld (iblk m c 0 t) (Rect.unit ![1, 0, 0] ![1, 1664, 128] inb_S8x1664x128_S1x1664x128_1_0_0) (ix3 0 r b) = m ((c : Thread nD τ).loc main_arg0) (ix3 1 r b) := by blk_point [iblk, V, idx t]
theorem read2 (c : Dev nD) (t : Fin cfg0.N) (r : Fin 1664) (b : Fin 128) : View.ld (iblk m c 0 t) (Rect.unit ![2, 0, 0] ![1, 1664, 128] inb_S8x1664x128_S1x1664x128_2_0_0) (ix3 0 r b) = m ((c : Thread nD τ).loc main_arg0) (ix3 2 r b) := by blk_point [iblk, V, idx t]
theorem read3 (c : Dev nD) (t : Fin cfg0.N) (r : Fin 1664) (b : Fin 128) : View.ld (iblk m c 0 t) (Rect.unit ![3, 0, 0] ![1, 1664, 128] inb_S8x1664x128_S1x1664x128_3_0_0) (ix3 0 r b) = m ((c : Thread nD τ).loc main_arg0) (ix3 3 r b) := by blk_point [iblk, V, idx t]
theorem read4 (c : Dev nD) (t : Fin cfg0.N) (r : Fin 1664) (b : Fin 128) : View.ld (iblk m c 0 t) (Rect.unit ![4, 0, 0] ![1, 1664, 128] inb_S8x1664x128_S1x1664x128_4_0_0) (ix3 0 r b) = m ((c : Thread nD τ).loc main_arg0) (ix3 4 r b) := by blk_point [iblk, V, idx t]
theorem read5 (c : Dev nD) (t : Fin cfg0.N) (r : Fin 1664) (b : Fin 128) : View.ld (iblk m c 0 t) (Rect.unit ![5, 0, 0] ![1, 1664, 128] inb_S8x1664x128_S1x1664x128_5_0_0) (ix3 0 r b) = m ((c : Thread nD τ).loc main_arg0) (ix3 5 r b) := by blk_point [iblk, V, idx t]
theorem read6 (c : Dev nD) (t : Fin cfg0.N) (r : Fin 1664) (b : Fin 128) : View.ld (iblk m c 0 t) (Rect.unit ![6, 0, 0] ![1, 1664, 128] inb_S8x1664x128_S1x1664x128_6_0_0) (ix3 0 r b) = m ((c : Thread nD τ).loc main_arg0) (ix3 6 r b) := by blk_point [iblk, V, idx t]
theorem read7 (c : Dev nD) (t : Fin cfg0.N) (r : Fin 1664) (b : Fin 128) : View.ld (iblk m c 0 t) (Rect.unit ![7, 0, 0] ![1, 1664, 128] inb_S8x1664x128_S1x1664x128_7_0_0) (ix3 0 r b) = m ((c : Thread nD τ).loc main_arg0) (ix3 7 r b) := by blk_point [iblk, V, idx t]

/-- The result array ends as the reference's sum. -/
theorem final (c : Dev nD) : (dats m 0 c).arrAt 1 (cfgs 0).N = ref (m ((c : Thread nD τ).loc main_arg0)) := by
  refine (dats m 0 c).arrAt_eq_of_covers 1 _ (by decide +kernel) fun t hf y => ?_
  blk_simp
  rw [after0_1]
  frame_out
  idx_vars y
  have e : (((View.whole main_v0).slice (win0_1.rect t)).emb (ix2 y0 y1)) = ix2 y0 y1 := by blk_ext [idx t]
  rw [e, ref_at, Fin.sum_univ_eight]
  refine (rows _ _ _ _ _ _ _ _ y0 y1).trans ?_
  exact congr (congrArg _ (congr (congrArg _ (congr (congrArg _ (congr (congrArg _ (congr (congrArg _ (congr (congrArg _ (congr (congrArg _ (read0 m c t y0 y1)) (read1 m c t y0 y1))) (read2 m c t y0 y1))) (read3 m c t y0 y1))) (read4 m c t y0 y1))) (read5 m c t y0 y1))) (read6 m c t y0 y1))) (read7 m c t y0 y1)

end Kernel

/-- The summed packs. -/
theorem algebraic : Cert.algebraic_SmallSumIdeal_SmallSumRefIdeal := fun m ρ m' ρ' _ hag =>
  ⟨_, (θ_run _ _ _).mono (fun _ h c => ⟨(h c).1.trans (final m c), (h c).2⟩) (SmallSumIdeal.Value.run_blocks m ρ),
    (θ_run _ _ _).mono (fun _ h c => by
      have a0 := hag c
      exact ⟨(h c).1.trans (by rw [a0]; rfl), (h c).2⟩) (SmallSumRefIdeal.Value.run m' ρ')⟩

end Cert.DeviceSum

end
-- ==== Proof.DiscreteSpread.lean ====
/-
  The scan's products' matrices: a row's 64 entries laid at its own group's 64 columns, zero elsewhere.
-/
module

public import proofs.«01_k».proof.Proof.Gen.PrepIdeal.Value
public import proofs.«01_k».proof.Proof.Reals
public import Idealize.ShloMosaic.Lib.Pipeline.ValueKit
public import Idealize.ShloMosaic.Lib.Pointwise
public import Idealize.ShloMosaic.Lib.Pipeline.ReadBack

@[expose] public section

set_option maxRecDepth 16384

noncomputable section

namespace Cert.Discrete

open Idealize.ShloMosaic Idealize.ShloMosaic.TcCoe Idealize.SL.Sem Idealize.ShloMosaic.StableHlo
open Idealize.ShloMosaic.Pipeline (Dat)
open Cert.PrepIdeal Cert.PrepIdeal.Gen

/-- A row's entry at a column of the matrix: its own where the column is of the row's group. -/
def put (x : FVec Ideal ⟨2, ![256, 64]⟩ .f32) (r : Fin 256) (c : Fin 1024) : EReal :=
  if r.val / 16 = c.val / 64 then x (ix2 r ⟨c.val % 64, Nat.mod_lt _ (by decide)⟩) else 0

/-- The rows of one direction. -/
def half (x : FVec Ideal ⟨2, ![512, 64]⟩ .f32) (d : Fin 2) : FVec Ideal ⟨2, ![256, 64]⟩ .f32 :=
  fun y => x (ix2 ⟨256 * d.val + (y 0).val, by have h : (y 0).val < 256 := (y 0).isLt; omega⟩ (y 1))

/-- Both directions' matrices, the real part's columns before the imaginary part's. -/
def wide (p q : FVec Ideal ⟨2, ![512, 64]⟩ .f32) (d : Fin 2) (r : Fin 256) (c : Fin 2048) : EReal :=
  if h : c.val < 1024 then put (half p d) r ⟨c.val, h⟩ else put (half q d) r ⟨c.val - 1024, by omega⟩

abbrev mask : IVec S256x1024 1 := k0_pay21 (iota .tc S256x1024 32 [0] iota_S256x1024_d0_w32) (iota .tc S256x1024 32 [1] iota_S256x1024_d1_w32) 16#32 k0_pay19 k0_pay20
abbrev every : FVec Ideal S64x1024 .bf16 := k0_pay22 (iota .tc S64x1024 32 [0] iota_S64x1024_d0_w32) (iota .tc S64x1024 32 [1] iota_S64x1024_d1_w32) 64#32 0#32

/-- A row's group, as the kernel counts it. -/
theorem rowGroup : ∀ r : Fin 256, Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 16#32 0#32))
              (Scalar.extui (Scalar.cmpi CmpIPredicate.slt 16#32 0#32))))
          (IntOp.cmpi CmpIPredicate.ne (IntOp.remsi ArithUnit.vector (BitVec.ofNat 32 r.val) 16#32) 0#32))
        (IntOp.subi (IntOp.divsi ArithUnit.vector (BitVec.ofNat 32 r.val) 16#32) 1#32)
        (IntOp.divsi ArithUnit.vector (BitVec.ofNat 32 r.val) 16#32) = BitVec.ofNat 32 (r.val / 16) := by decide +kernel

/-- A column's group. -/
theorem colGroup : ∀ c : Fin 1024, (Scalar.select
        (IntOp.andi
          (IntOp.cmpi CmpIPredicate.ne
            (IntOp.subi (BitVec.setWidth 32 (IntOp.cmpi CmpIPredicate.sgt (BitVec.ofNat 32 c.val) 0#32))
              (BitVec.setWidth 32 (IntOp.cmpi CmpIPredicate.slt (BitVec.ofNat 32 c.val) 0#32)))
            (Scalar.subi (Scalar.extui (Scalar.cmpi CmpIPredicate.sgt 64#32 0#32))
              (Scalar.extui (Scalar.cmpi CmpIPredicate.slt 64#32 0#32))))
          (IntOp.cmpi CmpIPredicate.ne (IntOp.remsi ArithUnit.vector (BitVec.ofNat 32 c.val) 64#32) 0#32))
        (IntOp.subi (IntOp.divsi ArithUnit.vector (BitVec.ofNat 32 c.val) 64#32) 1#32)
        (IntOp.divsi ArithUnit.vector (BitVec.ofNat 32 c.val) 64#32)) = BitVec.ofNat 32 (c.val / 64) := by decide +kernel

/-- A column's state. -/
theorem colState : ∀ c : Fin 1024, (Scalar.select
            (IntOp.andi
              (IntOp.xori
                (IntOp.cmpi CmpIPredicate.slt
                  (IntOp.remsi ArithUnit.vector (BitVec.ofNat 32 c.val)
                    (Scalar.select (Scalar.cmpi CmpIPredicate.eq 64#32 0#32) 1#32 64#32))
                  0#32)
                (Scalar.cmpi CmpIPredicate.slt (Scalar.select (Scalar.cmpi CmpIPredicate.eq 64#32 0#32) 1#32 64#32)
                  0#32))
              (IntOp.cmpi CmpIPredicate.ne
                (IntOp.remsi ArithUnit.vector (BitVec.ofNat 32 c.val)
                  (Scalar.select (Scalar.cmpi CmpIPredicate.eq 64#32 0#32) 1#32 64#32))
                0#32))
            (IntOp.addi
              (IntOp.remsi ArithUnit.vector (BitVec.ofNat 32 c.val)
                (Scalar.select (Scalar.cmpi CmpIPredicate.eq 64#32 0#32) 1#32 64#32))
              (Scalar.select (Scalar.cmpi CmpIPredicate.eq 64#32 0#32) 1#32 64#32))
            (IntOp.remsi ArithUnit.vector (BitVec.ofNat 32 c.val)
              (Scalar.select (Scalar.cmpi CmpIPredicate.eq 64#32 0#32) 1#32 64#32))) = BitVec.ofNat 32 (c.val % 64) := by decide +kernel

theorem sameGroup : ∀ a b : Fin 16, IntOp.cmpi CmpIPredicate.eq (BitVec.ofNat 32 a.val) (BitVec.ofNat 32 b.val) = if a.val = b.val then 1#1 else 0#1 := by decide +kernel
theorem sameState : ∀ a b : Fin 64, BitVec.setWidth 32 (IntOp.cmpi CmpIPredicate.eq (BitVec.ofNat 32 a.val) (BitVec.ofNat 32 b.val)) = if a.val = b.val then 1#32 else 0#32 := by decide +kernel

theorem mask_at (r : Fin 256) (c : Fin 1024) : mask (ix2 r c) = if r.val / 16 = c.val / 64 then 1#1 else 0#1 := by
  pointwise [mask, k0_pay21, k0_pay19, k0_pay20]
  rw [rowGroup, colGroup]
  exact sameGroup ⟨r.val / 16, by omega⟩ ⟨c.val / 64, by omega⟩

theorem every_at (s : Fin 64) (c : Fin 1024) : every (ix2 s c) = if c.val % 64 = s.val then 1 else 0 := by
  pointwise [every, k0_pay22]
  rw [colState]
  refine (congrArg (FloatOps.sitofp (F := Ideal) FTy.f32) (sameState ⟨c.val % 64, Nat.mod_lt _ (by decide)⟩ s)).trans ?_
  show FloatOps.sitofp (F := Ideal) FTy.f32 (if c.val % 64 = s.val then 1#32 else 0#32) = _
  split_ifs
  · show (((1#32 : BitVec 32).toInt : ℝ) : EReal) = 1
    norm_num
  · show (((0#32 : BitVec 32).toInt : ℝ) : EReal) = 0
    norm_num

/-- The product with the repeated identity lays the rows out. -/
theorem spread (x : FVec Ideal S256x64 .f32) (r : Fin 256) (c : Fin 1024) : k0_pay2 mask every x (ix2 r c) = put x r c := by
  have h : k0_pay2 mask every x (ix2 r c) = Scalar.select (mask (ix2 r c)) (∑ s : Fin 64, x (ix2 r s) * every (ix2 s c)) 0 := by
    generalize mask = M
    generalize every = E
    pointwise [k0_pay2]
  rw [h, mask_at]
  unfold put
  split_ifs
  · show (∑ s : Fin 64, x (ix2 r s) * every (ix2 s c)) = _
    rw [Finset.sum_eq_single (⟨c.val % 64, Nat.mod_lt _ (by decide)⟩ : Fin 64)]
    · rw [every_at, if_pos rfl, mul_one]
    · intro s _ hs
      rw [every_at, if_neg (fun e => hs (Fin.ext e.symm)), mul_zero]
    · intro h; exact absurd (Finset.mem_univ _) h
  · rfl

end Cert.Discrete

end
-- ==== Proof.DiscreteRef.lean ====
/-
  The reference's matrices of the scan's products, entry by entry.
-/
module

public import proofs.«01_k».proof.Proof.Gen.PrepRefIdeal.Run
public import proofs.«01_k».proof.Proof.DiscreteSpread

@[expose] public section

set_option maxRecDepth 16384

noncomputable section

namespace Cert.Discrete

open Idealize.ShloMosaic Idealize.ShloMosaic.TcCoe Idealize.SL.Sem Idealize.ShloMosaic.StableHlo
open Cert.PrepRefIdeal Cert.PrepRefIdeal.Gen

/-- Rows and columns of the same group. -/
abbrev refMask : IVec S256x1024 1 := shapeCast _ (broadcastInDim S256x16x64 ![0, 1] bcast_S256x16_S256x16x64_0_1 (shapeCast _ (broadcastInDim S16x16x16 ![0, 2] bcast_S16x16_S16x16x16_0_2 (cmpi .eq (addi (iotaInDim S16x16 32 0) (broadcastInDim S16x16 ![] bcast_S_S16x16 (constantI S_ 32 0#32))) (iotaInDim S16x16 32 1))) shapeCasts_S16x16x16_S256x16)) shapeCasts_S256x16x64_S256x1024

/-- The rows repeated along the columns. -/
abbrev refTile (p : FVec Ideal S512x64 .f32) : FVec Ideal S2x256x1024 .f32 :=
  shapeCast _ (broadcastInDim S1x2x1x256x16x64 ![0, 1, 2, 3, 4, 5] bcast_S1x2x1x256x1x64_S1x2x1x256x16x64_0_1_2_3_4_5 (shapeCast _ (shapeCast _ p shapeCasts_S512x64_S2x256x64) shapeCasts_S2x256x64_S1x2x1x256x1x64)) shapeCasts_S1x2x1x256x16x64_S2x256x1024

abbrev refPart (p : FVec Ideal S512x64 .f32) : FVec Ideal S2x256x1024 .f32 :=
  select (broadcastInDim S2x256x1024 ![1, 2] bcast_S256x1024_S2x256x1024_1_2 refMask) (refTile p) (broadcastInDim S2x256x1024 ![] bcast_S_S2x256x1024 (id (constant S_ .f32 0x00000000#32)))

/-- The reference's matrix of a real and an imaginary part. -/
abbrev refWide (p q : FVec Ideal S512x64 .f32) : FVec Ideal S2x256x2048 .bf16 :=
  truncf .bf16 (concatenate S2x256x2048 2 [⟨S2x256x1024, refPart p⟩, ⟨S2x256x1024, refPart q⟩] concatenates_S2x256x1024_S2x256x1024_S2x256x2048_d2) bitsLt_bf16_f32

theorem group_eq (a b : ℕ) (ha : a < 16) (hb : b < 16) :
    IntOp.cmpi CmpIPredicate.eq (IntOp.addi (BitVec.ofNat 32 a) 0#32) (BitVec.ofNat 32 b) = if a = b then 1#1 else 0#1 := by
  have e : IntOp.addi (BitVec.ofNat 32 a) 0#32 = BitVec.ofNat 32 a := BitVec.add_zero _
  rw [e]
  exact sameGroup ⟨a, ha⟩ ⟨b, hb⟩

/-- The reference's selection is the layout of `put`. -/
theorem pick (x : FVec Ideal S512x64 .f32) (d : Fin 2) (r : Fin 256) (c : Fin 1024) (k : Fin 512) (hk : k.val = 256 * d.val + r.val) (z : EReal) (hz : z = 0) :
    Scalar.select (IntOp.cmpi CmpIPredicate.eq (IntOp.addi (BitVec.ofNat 32 (r.val / 16)) 0#32) (BitVec.ofNat 32 (c.val / 64)))
      (x (ix2 k ⟨c.val % 64, Nat.mod_lt _ (by decide)⟩)) z = put (half x d) r c := by
  rw [group_eq _ _ (by omega) (by omega), hz]
  unfold put
  have e : half x d (ix2 r ⟨c.val % 64, Nat.mod_lt _ (by decide)⟩) = x (ix2 k ⟨c.val % 64, Nat.mod_lt _ (by decide)⟩) :=
    congrArg x (congrArg (fun k => ix2 k _) (Fin.ext hk.symm))
  rw [e]
  split_ifs <;> rfl

theorem refWide_at (p q : FVec Ideal S512x64 .f32) (d : Fin 2) (r : Fin 256) (c : Fin 2048) : refWide p q (ix3 d r c) = wide p q d r c := by
  have z : id (constant (F := Ideal) S_ FTy.f32 0#32) ix0 = (0 : EReal) := by pointwise [id]
  unfold wide
  pointwise [refWide]
  refine dite_congr rfl (fun h => ?_) (fun h => ?_)
  · exact pick p d r ⟨c.val, h⟩ _ (by show d.val * 256 + r.val = _; omega) _ z
  · exact pick q d r ⟨c.val - 1024, by omega⟩ _ (by show d.val * 256 + r.val = _; omega) _ z

/-- The discretised transition's weight of the input, times the input matrix: real and imaginary part. -/
def refQr (A B T : FVec Ideal S512x64 .f32) : FVec Ideal S512x64 .f32 :=
  Host.divf (addf (mulf (subf (mulf (Host.exp (mulf (Host.exp T) A)) (Host.cos (mulf (Host.exp T) B))) (broadcastInDim S512x64 ![] bcast_S_S512x64 (constant S_ .f32 0x3F800000#32))) A) (mulf (mulf (Host.exp (mulf (Host.exp T) A)) (Host.sin (mulf (Host.exp T) B))) B)) (addf (mulf A A) (mulf B B))
def refQi (A B T : FVec Ideal S512x64 .f32) : FVec Ideal S512x64 .f32 :=
  Host.divf (subf (mulf (mulf (Host.exp (mulf (Host.exp T) A)) (Host.sin (mulf (Host.exp T) B))) A) (mulf (subf (mulf (Host.exp (mulf (Host.exp T) A)) (Host.cos (mulf (Host.exp T) B))) (broadcastInDim S512x64 ![] bcast_S_S512x64 (constant S_ .f32 0x3F800000#32))) B)) (addf (mulf A A) (mulf B B))
def refBr (A B T P Q : FVec Ideal S512x64 .f32) : FVec Ideal S512x64 .f32 := subf (mulf (refQr A B T) P) (mulf (refQi A B T) Q)
def refBi (A B T P Q : FVec Ideal S512x64 .f32) : FVec Ideal S512x64 .f32 := addf (mulf (refQr A B T) Q) (mulf (refQi A B T) P)
def refAr (A B T : FVec Ideal S512x64 .f32) : FVec Ideal S512x64 .f32 := mulf (Host.exp (mulf (Host.exp T) A)) (Host.cos (mulf (Host.exp T) B))
def refAi (A B T : FVec Ideal S512x64 .f32) : FVec Ideal S512x64 .f32 := mulf (Host.exp (mulf (Host.exp T) A)) (Host.sin (mulf (Host.exp T) B))

/-- The matrices as arrays, and turned. -/
def wideArr (p q : FVec Ideal S512x64 .f32) : FVec Ideal S2x256x2048 .bf16 := fun y => wide p q (y 0) (y 1) (y 2)
def tallArr (p q : FVec Ideal S512x64 .f32) : FVec Ideal S2x2048x256 .bf16 := fun y => wide p q (y 0) (y 2) (y 1)

theorem refWide_eq (p q : FVec Ideal S512x64 .f32) : refWide p q = wideArr p q := by
  funext y
  idx_vars y
  exact refWide_at p q y0 y1 y2

theorem refTall_eq (p q : FVec Ideal S512x64 .f32) : transpose S2x2048x256 [0, 2, 1] (refWide p q) transposes_S2x256x2048_S2x2048x256_0_2_1 = tallArr p q := by
  rw [refWide_eq]
  funext y
  idx_vars y
  generalize hw : wideArr p q = w
  have e : tallArr p q (ix3 y0 y1 y2) = w (ix3 y0 y2 y1) := by rw [← hw]; rfl
  rw [e]
  pointwise

variable (m : (ℓ : Loc nD τ sig) → Buf (Elt Ideal) ℓ) (c : Dev nD)

theorem ref47 : Cert.PrepRefIdeal.Value.res_main_v47 m c = refWide (refBr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (refBi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl
theorem ref61 : Cert.PrepRefIdeal.Value.res_main_v61 m c = transpose S2x2048x256 [0, 2, 1] (refWide (refBr (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (refBi (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))) transposes_S2x256x2048_S2x2048x256_0_2_1 := rfl

end Cert.Discrete

end
-- ==== Proof.DiscreteArrays.lean ====
/-
  The kernel's discretisation and the matrices of the scan's products.
-/
module

public import proofs.«01_k».proof.Proof.DiscreteRef
public import proofs.«01_k».proof.Proof.AttnArrays

@[expose] public section

set_option maxRecDepth 16384

noncomputable section

namespace Cert.Discrete

open Idealize.ShloMosaic Idealize.ShloMosaic.TcCoe Idealize.SL.Sem Idealize.ShloMosaic.StableHlo
open Idealize.ShloMosaic.Pipeline (Dat)
open Cert.PrepIdeal Cert.PrepIdeal.Gen

section Payloads
variable (A B T P Q C D : Vec Ideal S512x64 .f32)

theorem payAr : k0_pay11 (F := Ideal) A B T = refAr A B T := by
  funext y; idx_vars y
  open_payloads; pointwise [refAr]
theorem payAi : k0_pay12 (F := Ideal) A B T = refAi A B T := by
  funext y; idx_vars y
  open_payloads; pointwise [refAi]
theorem payBr : k0_pay17 (F := Ideal) A B T P Q = refBr A B T P Q := by
  funext y; idx_vars y
  open_payloads; pointwise [refBr, refQr, refQi]
theorem payBi : k0_pay18 (F := Ideal) A B T P Q = refBi A B T P Q := by
  funext y; idx_vars y
  open_payloads; pointwise [refBi, refQr, refQi]

/-- One stored piece: the spread rows, and turned. -/
theorem piece (x : FVec Ideal S256x64 .f32) (r : Fin 256) (c : Fin 1024) : k0_pay4 (F := Ideal) mask every x (ix3 0 r c) = put x r c := by
  refine Eq.trans ?_ (spread x r c)
  unfold k0_pay4
  generalize k0_pay2 mask every x = w
  pointwise
theorem turned (x : FVec Ideal S256x64 .f32) (r : Fin 256) (c : Fin 1024) : k0_pay5 (F := Ideal) mask every x (ix3 0 c r) = put x r c := by
  refine Eq.trans ?_ (spread x r c)
  unfold k0_pay5
  generalize k0_pay2 mask every x = w
  pointwise
end Payloads

/-- The lower rows of an array are one direction, the upper ones the other. -/
theorem lowHalf (x : FVec Ideal S512x64 .f32) : extractStridedSlice S256x64 ![0, 0] x slices_S512x64_o0_0_S256x64 = half x 0 := by
  funext y; idx_vars y
  pointwise [half]
theorem highHalf (x : FVec Ideal S512x64 .f32) : extractStridedSlice S256x64 ![256, 0] x slices_S512x64_o256_0_S256x64 = half x 1 := by
  funext y; idx_vars y
  pointwise [half]

end Cert.Discrete

end
-- ==== Proof.DiscreteTiles.lean ====
/-
  The four matrices as the kernel stores them: two directions, real and imaginary columns.
-/
module

public import proofs.«01_k».proof.Proof.DiscreteArrays

@[expose] public section

set_option maxRecDepth 16384

noncomputable section

namespace Cert.Discrete

open Idealize.ShloMosaic Idealize.ShloMosaic.TcCoe Idealize.SL.Sem Idealize.ShloMosaic.StableHlo
open Idealize.ShloMosaic.Pipeline (Dat)
open Cert.PrepIdeal Cert.PrepIdeal.Gen

/-! Reads of a whole array, and of one direction's rows. -/
theorem readAll (x : Vec Ideal S512x64 .f32) : View.ld (Val := Elt Ideal) x r0_0 = x := by
  funext y; idx_vars y
  exact Attn.ld_at x _ y0 y1 y0 y1 (Nat.zero_add _).symm (Nat.zero_add _).symm
theorem readLow (x : Vec Ideal S512x64 .f32) : View.ld (Val := Elt Ideal) x r0_1 = half x 0 := by
  funext y; idx_vars y
  exact Attn.ld_at x _ y0 y1 _ y1 rfl (Nat.zero_add _).symm
theorem readHigh (x : Vec Ideal S512x64 .f32) : View.ld (Val := Elt Ideal) x r0_6 = half x 1 := by
  funext y; idx_vars y
  exact Attn.ld_at x _ y0 y1 _ y1 rfl (Nat.zero_add _).symm

/-- The imaginary part of the output matrix enters with its sign turned. -/
def turn (x : FVec Ideal ⟨2, ![512, 64]⟩ .f32) : FVec Ideal ⟨2, ![512, 64]⟩ .f32 := fun y => - x y
theorem turnLow (x : Vec Ideal S512x64 .f32) : k0_pay24 (F := Ideal) (half x 0) = half (turn x) 0 := by
  funext y; idx_vars y
  open_payloads; pointwise [half, turn]
  exact zero_sub _
theorem turnHigh (x : Vec Ideal S512x64 .f32) : k0_pay40 (F := Ideal) (half x 1) = half (turn x) 1 := by
  funext y; idx_vars y
  open_payloads; pointwise [half, turn]
  exact zero_sub _

section Places
variable (p q : FVec Ideal ⟨2, ![512, 64]⟩ .f32) (X : FVec Ideal S256x64 .f32) (d : Fin 2)

theorem wideLow (r : Fin 256) (k : Fin 1024) (d' : Fin 2) (r' : Fin 256) (k' : Fin 2048) (hX : X = half p d) (h0 : d'.val = d.val) (h1 : r'.val = r.val) (h2 : k'.val = k.val) :
    put X r k = wide p q d' r' k' := by
  obtain rfl : d' = d := Fin.ext h0
  obtain rfl : r' = r := Fin.ext h1
  have hk : k'.val < 1024 := by omega
  unfold wide
  rw [dif_pos hk, hX]
  exact congrArg _ (Fin.ext h2.symm)
theorem wideHigh (r : Fin 256) (k : Fin 1024) (d' : Fin 2) (r' : Fin 256) (k' : Fin 2048) (hX : X = half q d) (h0 : d'.val = d.val) (h1 : r'.val = r.val) (h2 : k'.val = 1024 + k.val) :
    put X r k = wide p q d' r' k' := by
  obtain rfl : d' = d := Fin.ext h0
  obtain rfl : r' = r := Fin.ext h1
  have hk : ¬ k'.val < 1024 := by omega
  unfold wide
  rw [dif_neg hk, hX]
  exact congrArg _ (Fin.ext (by show k.val = k'.val - 1024; omega))

theorem wl (x : S1x256x1024.Idx) (y : S2x256x2048.Idx) (hX : X = half p d) (h0 : (y 0).val = d.val + (x 0).val) (h1 : (y 1).val = (x 1).val) (h2 : (y 2).val = (x 2).val) :
    k0_pay4 (F := Ideal) mask every X x = wide p q (y 0) (y 1) (y 2) := by
  idx_vars x
  idx_vars y
  obtain rfl : x0 = 0 := Subsingleton.elim _ _
  exact (piece X x1 x2).trans (wideLow p q X d x1 x2 y0 y1 y2 hX h0 h1 h2)
theorem wh (x : S1x256x1024.Idx) (y : S2x256x2048.Idx) (hX : X = half q d) (h0 : (y 0).val = d.val + (x 0).val) (h1 : (y 1).val = (x 1).val) (h2 : (y 2).val = 1024 + (x 2).val) :
    k0_pay4 (F := Ideal) mask every X x = wide p q (y 0) (y 1) (y 2) := by
  idx_vars x
  idx_vars y
  obtain rfl : x0 = 0 := Subsingleton.elim _ _
  exact (piece X x1 x2).trans (wideHigh p q X d x1 x2 y0 y1 y2 hX h0 h1 h2)
theorem tl (x : S1x1024x256.Idx) (y : S2x2048x256.Idx) (hX : X = half p d) (h0 : (y 0).val = d.val + (x 0).val) (h1 : (y 1).val = (x 1).val) (h2 : (y 2).val = (x 2).val) :
    k0_pay5 (F := Ideal) mask every X x = wide p q (y 0) (y 2) (y 1) := by
  idx_vars x
  idx_vars y
  obtain rfl : x0 = 0 := Subsingleton.elim _ _
  exact (turned X x2 x1).trans (wideLow p q X d x2 x1 y0 y2 y1 hX h0 h2 h1)
theorem th (x : S1x1024x256.Idx) (y : S2x2048x256.Idx) (hX : X = half q d) (h0 : (y 0).val = d.val + (x 0).val) (h1 : (y 1).val = 1024 + (x 1).val) (h2 : (y 2).val = (x 2).val) :
    k0_pay5 (F := Ideal) mask every X x = wide p q (y 0) (y 2) (y 1) := by
  idx_vars x
  idx_vars y
  obtain rfl : x0 = 0 := Subsingleton.elim _ _
  exact (turned X x2 x1).trans (wideHigh p q X d x2 x1 y0 y2 y1 hX h0 h2 h1)
end Places

variable (A B T P Q C D : Vec Ideal S512x64 .f32)

theorem inLow : extractStridedSlice S256x64 ![0, 0] (k0_pay47 A B T P Q C D) slices_S512x64_o0_0_S256x64 = half (refBr A B T P Q) 0 := by
  unfold k0_pay47
  rw [readAll, readAll, readAll, readAll, readAll, payBr, lowHalf]
theorem inHigh : extractStridedSlice S256x64 ![256, 0] (k0_pay47 A B T P Q C D) slices_S512x64_o256_0_S256x64 = half (refBr A B T P Q) 1 := by
  unfold k0_pay47
  rw [readAll, readAll, readAll, readAll, readAll, payBr, highHalf]
theorem inLowI : k0_pay53 A B T P Q C D = half (refBi A B T P Q) 0 := by
  unfold k0_pay53 k0_pay48 k0_pay23
  rw [readAll, readAll, readAll, readAll, readAll, payBi, lowHalf]
theorem inHighI : k0_pay56 A B T P Q C D = half (refBi A B T P Q) 1 := by
  unfold k0_pay56 k0_pay48 k0_pay39
  rw [readAll, readAll, readAll, readAll, readAll, payBi, highHalf]
theorem outLowI : k0_pay54 A B T P Q C D = half (turn D) 0 := by
  unfold k0_pay54
  rw [readLow, turnLow]
theorem outHighI : k0_pay57 A B T P Q C D = half (turn D) 1 := by
  unfold k0_pay57
  rw [readHigh, turnHigh]

theorem as43 (V : FVec Ideal S512x64 .f32) : k0_pay43 V mask every = k0_pay4 (F := Ideal) mask every (extractStridedSlice S256x64 ![256, 0] V slices_S512x64_o256_0_S256x64) := rfl
theorem as44 (V : FVec Ideal S512x64 .f32) : k0_pay44 V mask every = k0_pay5 (F := Ideal) mask every (extractStridedSlice S256x64 ![256, 0] V slices_S512x64_o256_0_S256x64) := rfl

theorem as27 (V : FVec Ideal S512x64 .f32) : k0_pay27 V mask (k0_pay49 A B T P Q C D) (k0_pay50 A B T P Q C D) 64#32 0#32 = k0_pay4 (F := Ideal) mask every (extractStridedSlice S256x64 ![0, 0] V slices_S512x64_o0_0_S256x64) := rfl
theorem as29 (V : FVec Ideal S512x64 .f32) : k0_pay29 (k0_pay28 V mask (k0_pay49 A B T P Q C D) (k0_pay50 A B T P Q C D) 64#32 0#32) = k0_pay5 (F := Ideal) mask every (extractStridedSlice S256x64 ![0, 0] V slices_S512x64_o0_0_S256x64) := rfl

theorem tile9 (y : S2x256x2048.Idx) : out0_9 (F := Ideal) A B T P Q C D y = wideArr (refBr A B T P Q) (refBi A B T P Q) y := by
  unfold out0_9
  canon_tiles x h
  · exact wh _ _ (k0_pay56 A B T P Q C D) 1 x y (inHighI A B T P Q C D) h0 h1 h2
  · have g := inHigh A B T P Q C D
    generalize k0_pay47 A B T P Q C D = V at g ⊢
    have key := wl (refBr A B T P Q) (refBi A B T P Q) (extractStridedSlice S256x64 ![256, 0] V slices_S512x64_o256_0_S256x64) 1 x y g h0 h1 h2
    have e := (congrFun (as43 V) x).trans key
    exact e
  · exact wh _ _ (k0_pay53 A B T P Q C D) 0 x y (inLowI A B T P Q C D) (h0.trans (Nat.zero_add _).symm) h1 h2
  · have g := inLow A B T P Q C D
    generalize k0_pay47 A B T P Q C D = V at g ⊢
    have key := wl (refBr A B T P Q) (refBi A B T P Q) (extractStridedSlice S256x64 ![0, 0] V slices_S512x64_o0_0_S256x64) 0 x y g (h0.trans (Nat.zero_add _).symm) h1 h2
    have e := (congrFun (as27 A B T P Q C D V) x).trans key
    exact e

theorem tile10 (y : S2x2048x256.Idx) : out0_10 (F := Ideal) A B T P Q C D y = tallArr (refBr A B T P Q) (refBi A B T P Q) y := by
  unfold out0_10
  canon_tiles x h
  · exact th _ _ (k0_pay56 A B T P Q C D) 1 x y (inHighI A B T P Q C D) h0 h1 h2
  · have g := inHigh A B T P Q C D
    generalize k0_pay47 A B T P Q C D = V at g ⊢
    have key := tl (refBr A B T P Q) (refBi A B T P Q) (extractStridedSlice S256x64 ![256, 0] V slices_S512x64_o256_0_S256x64) 1 x y g h0 h1 h2
    have e := (congrFun (as44 V) x).trans key
    exact e
  · exact th _ _ (k0_pay53 A B T P Q C D) 0 x y (inLowI A B T P Q C D) (h0.trans (Nat.zero_add _).symm) h1 h2
  · have g := inLow A B T P Q C D
    generalize k0_pay47 A B T P Q C D = V at g ⊢
    have key := tl (refBr A B T P Q) (refBi A B T P Q) (extractStridedSlice S256x64 ![0, 0] V slices_S512x64_o0_0_S256x64) 0 x y g (h0.trans (Nat.zero_add _).symm) h1 h2
    have e := (congrFun (as29 A B T P Q C D V) x).trans key
    exact e

theorem tile11 (y : S2x256x2048.Idx) : out0_11 (F := Ideal) A B T P Q C D y = wideArr C (turn D) y := by
  unfold out0_11
  canon_tiles x h
  · exact wh _ _ (k0_pay57 A B T P Q C D) 1 x y (outHighI A B T P Q C D) h0 h1 h2
  · exact wl _ _ (View.ld C r0_6) 1 x y (readHigh C) h0 h1 h2
  · exact wh _ _ (k0_pay54 A B T P Q C D) 0 x y (outLowI A B T P Q C D) (h0.trans (Nat.zero_add _).symm) h1 h2
  · exact wl _ _ (View.ld C r0_1) 0 x y (readLow C) (h0.trans (Nat.zero_add _).symm) h1 h2

theorem tile12 (y : S2x2048x256.Idx) : out0_12 (F := Ideal) A B T P Q C D y = tallArr C (turn D) y := by
  unfold out0_12
  canon_tiles x h
  · exact th _ _ (k0_pay57 A B T P Q C D) 1 x y (outHighI A B T P Q C D) h0 h1 h2
  · exact tl _ _ (View.ld C r0_6) 1 x y (readHigh C) h0 h1 h2
  · exact th _ _ (k0_pay54 A B T P Q C D) 0 x y (outLowI A B T P Q C D) (h0.trans (Nat.zero_add _).symm) h1 h2
  · exact tl _ _ (View.ld C r0_1) 0 x y (readLow C) (h0.trans (Nat.zero_add _).symm) h1 h2

end Cert.Discrete

end
-- ==== Proof.DiscreteClaim.lean ====
/-
  The discretisation of the state space and the matrices of the scan's products.
-/
module

public import proofs.«01_k».proof.Proof.DiscreteTiles
public import proofs.«01_k».proof.Proof.Gen.PrepIdeal.Value
public import proofs.«01_k».proof.Proof.Cover
public import Idealize.ShloMosaic.Lib.Pipeline.ValueKit
public import Idealize.ShloMosaic.Lib.Pipeline.ReadBack
public import proofs.«01_k».proof.Defs

@[expose] public section

set_option maxRecDepth 16384

noncomputable section

namespace Cert.Discrete

open Idealize.ShloMosaic Idealize.ShloMosaic.TcCoe Idealize.SL.Sem Idealize.ShloMosaic.StableHlo
open Idealize.ShloMosaic.Pipeline (Dat)

/-- The sign turned is the reference's negation. -/
theorem turn_eq (D : FVec Ideal ⟨2, ![512, 64]⟩ .f32) : turn D = Host.negf D := by
  funext y; idx_vars y
  pointwise [turn]

section Kernel
open Cert.PrepIdeal Cert.PrepIdeal.Gen

variable (m : (ℓ : Loc nD τ sig) → Buf (Elt Ideal) ℓ)

/-- The one point reads and writes whole arrays. -/
theorem idx : ∀ t : Fin cfg0.N, (win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0])
    ∧ win0_7.index t = ![0, 0] ∧ win0_8.index t = ![0, 0] ∧ win0_9.index t = ![0, 0, 0] ∧ win0_10.index t = ![0, 0, 0] ∧ win0_11.index t = ![0, 0, 0] ∧ win0_12.index t = ![0, 0, 0] :=
  (by decide +kernel : ∀ t : Fin grid0.N, _)

/-! The arrays the point reads. -/
theorem blk0 (c : Dev nD) (t : Fin cfg0.N) : (iblk m c 0 t : Vec Ideal S512x64 .f32) = m ((c : Thread nD τ).loc main_arg0) := by funext y; idx_vars y; blk_point [iblk, V, idx t]
theorem blk1 (c : Dev nD) (t : Fin cfg0.N) : (iblk m c 1 t : Vec Ideal S512x64 .f32) = m ((c : Thread nD τ).loc main_arg1) := by funext y; idx_vars y; blk_point [iblk, V, idx t]
theorem blk2 (c : Dev nD) (t : Fin cfg0.N) : (iblk m c 2 t : Vec Ideal S512x64 .f32) = m ((c : Thread nD τ).loc main_arg2) := by funext y; idx_vars y; blk_point [iblk, V, idx t]
theorem blk3 (c : Dev nD) (t : Fin cfg0.N) : (iblk m c 3 t : Vec Ideal S512x64 .f32) = m ((c : Thread nD τ).loc main_arg3) := by funext y; idx_vars y; blk_point [iblk, V, idx t]
theorem blk4 (c : Dev nD) (t : Fin cfg0.N) : (iblk m c 4 t : Vec Ideal S512x64 .f32) = m ((c : Thread nD τ).loc main_arg4) := by funext y; idx_vars y; blk_point [iblk, V, idx t]
theorem blk5 (c : Dev nD) (t : Fin cfg0.N) : (iblk m c 5 t : Vec Ideal S512x64 .f32) = m ((c : Thread nD τ).loc main_arg5) := by funext y; idx_vars y; blk_point [iblk, V, idx t]
theorem blk6 (c : Dev nD) (t : Fin cfg0.N) : (iblk m c 6 t : Vec Ideal S512x64 .f32) = m ((c : Thread nD τ).loc main_arg6) := by funext y; idx_vars y; blk_point [iblk, V, idx t]

theorem final7 (c : Dev nD) : (dats m 0 c).arrAt 7 (cfgs 0).N = refAr (m ((c : Thread nD τ).loc main_arg0)) (m ((c : Thread nD τ).loc main_arg1)) (m ((c : Thread nD τ).loc main_arg2)) := by
  refine (dats m 0 c).arrAt_eq_of_covers 7 _ (by decide +kernel) fun t hf y => ?_
  blk_simp
  rw [after0_7]
  frame_out
  rw [blk0, blk1, blk2, payAr]
  idx_vars y
  have e : (((View.whole main_v0_0).slice (win0_7.rect t)).emb (ix2 y0 y1)) = ix2 y0 y1 := by blk_ext [idx t]
  rw [e]
theorem final8 (c : Dev nD) : (dats m 0 c).arrAt 8 (cfgs 0).N = refAi (m ((c : Thread nD τ).loc main_arg0)) (m ((c : Thread nD τ).loc main_arg1)) (m ((c : Thread nD τ).loc main_arg2)) := by
  refine (dats m 0 c).arrAt_eq_of_covers 8 _ (by decide +kernel) fun t hf y => ?_
  blk_simp
  rw [after0_8]
  frame_out
  rw [blk0, blk1, blk2, payAi]
  idx_vars y
  have e : (((View.whole main_v0_1).slice (win0_8.rect t)).emb (ix2 y0 y1)) = ix2 y0 y1 := by blk_ext [idx t]
  rw [e]
theorem final9 (c : Dev nD) : (dats m 0 c).arrAt 9 (cfgs 0).N = wideArr (refBr (m ((c : Thread nD τ).loc main_arg0)) (m ((c : Thread nD τ).loc main_arg1)) (m ((c : Thread nD τ).loc main_arg2)) (m ((c : Thread nD τ).loc main_arg3)) (m ((c : Thread nD τ).loc main_arg4))) (refBi (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 9 _ (by decide +kernel) fun t hf y => ?_
  blk_simp
  rw [after0_9, tile9, blk0, blk1, blk2, blk3, blk4]
  idx_vars y
  have e : (((View.whole main_v0_2).slice (win0_9.rect t)).emb (ix3 y0 y1 y2)) = ix3 y0 y1 y2 := by blk_ext [idx t]
  rw [e]
theorem final10 (c : Dev nD) : (dats m 0 c).arrAt 10 (cfgs 0).N = tallArr (refBr (m ((c : Thread nD τ).loc main_arg0)) (m ((c : Thread nD τ).loc main_arg1)) (m ((c : Thread nD τ).loc main_arg2)) (m ((c : Thread nD τ).loc main_arg3)) (m ((c : Thread nD τ).loc main_arg4))) (refBi (m ((c : Thread nD τ).loc main_arg0)) (m ((c : Thread nD τ).loc main_arg1)) (m ((c : Thread nD τ).loc main_arg2)) (m ((c : Thread nD τ).loc main_arg3)) (m ((c : Thread nD τ).loc main_arg4))) := by
  refine (dats m 0 c).arrAt_eq_of_covers 10 _ (by decide +kernel) fun t hf y => ?_
  blk_simp
  rw [after0_10, tile10, blk0, blk1, blk2, blk3, blk4]
  idx_vars y
  have e : (((View.whole main_v0_3).slice (win0_10.rect t)).emb (ix3 y0 y1 y2)) = ix3 y0 y1 y2 := by blk_ext [idx t]
  rw [e]
theorem final11 (c : Dev nD) : (dats m 0 c).arrAt 11 (cfgs 0).N = wideArr (m ((c : Thread nD τ).loc main_arg5)) (Host.negf (F := Ideal) (s := S512x64) (φ := .f32) (m ((c : Thread nD τ).loc main_arg6))) := by
  refine (dats m 0 c).arrAt_eq_of_covers 11 _ (by decide +kernel) fun t hf y => ?_
  blk_simp
  rw [after0_11, tile11, blk5, blk6, turn_eq]
  idx_vars y
  have e : (((View.whole main_v0_4).slice (win0_11.rect t)).emb (ix3 y0 y1 y2)) = ix3 y0 y1 y2 := by blk_ext [idx t]
  rw [e]
theorem final12 (c : Dev nD) : (dats m 0 c).arrAt 12 (cfgs 0).N = tallArr (m ((c : Thread nD τ).loc main_arg5)) (Host.negf (F := Ideal) (s := S512x64) (φ := .f32) (m ((c : Thread nD τ).loc main_arg6))) := by
  refine (dats m 0 c).arrAt_eq_of_covers 12 _ (by decide +kernel) fun t hf y => ?_
  blk_simp
  rw [after0_12, tile12, blk5, blk6, turn_eq]
  idx_vars y
  have e : (((View.whole main_v0_5).slice (win0_12.rect t)).emb (ix3 y0 y1 y2)) = ix3 y0 y1 y2 := by blk_ext [idx t]
  rw [e]

end Kernel

/-- The six arrays. -/
theorem algebraic : Cert.algebraic_PrepIdeal_PrepRefIdeal := fun m ρ m' ρ' _ hag =>
  ⟨_, _, _, _, _, _, (θ_run _ _ _).mono (fun _ h c => by
      obtain ⟨h7, h8, h9, h10, h11, h12, hr⟩ := h c
      exact ⟨h7.trans (final7 m c), h8.trans (final8 m c), h9.trans (final9 m c), h10.trans (final10 m c), h11.trans (final11 m c), h12.trans (final12 m c), hr⟩) (PrepIdeal.Value.run_blocks m ρ),
    (θ_run _ _ _).mono (fun _ h c => by
      obtain ⟨h7, h8, h9, h10, h11, h12, hr⟩ := h c
      obtain ⟨a0, a1, a2, a3, a4, a5, a6⟩ := hag c
      refine ⟨h7.trans ?_, h8.trans ?_, h9.trans ?_, h10.trans ?_, h11.trans ?_, h12.trans ?_, hr⟩
      · rw [a0, a1, a2]; rfl
      · rw [a0, a1, a2]; rfl
      · rw [ref47, a0, a1, a2, a3, a4]; exact refWide_eq _ _
      · rw [ref61, a0, a1, a2, a3, a4]; exact refTall_eq _ _
      · rw [a5, a6]; exact refWide_eq _ _
      · rw [a5, a6]; exact refTall_eq _ _) (PrepRefIdeal.Value.run m' ρ')⟩

end Cert.Discrete

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Dw
public import proofs.«01_k».proof.Proof.Gen.Dw.Skeleton
public import proofs.«01_k».proof.Proof.Gen.Dw.Launch
public import proofs.«01_k».proof.Proof.Gen.Dw.Points
public import proofs.«01_k».proof.Proof.Gen.Dw.Frame
public import proofs.«01_k».proof.Proof.Gen.DwIdeal
public import proofs.«01_k».proof.Proof.Gen.DwIdeal.Skeleton
public import proofs.«01_k».proof.Proof.Gen.DwIdeal.Launch
public import proofs.«01_k».proof.Proof.Gen.DwIdeal.Points
public import proofs.«01_k».proof.Proof.Gen.DwIdeal.Frame
public import proofs.«01_k».proof.Proof.Gen.DwRefIdeal
public import proofs.«01_k».proof.Proof.Gen.Dx
public import proofs.«01_k».proof.Proof.Gen.Dx.Skeleton
public import proofs.«01_k».proof.Proof.Gen.Dx.Launch
public import proofs.«01_k».proof.Proof.Gen.Dx.Points
public import proofs.«01_k».proof.Proof.Gen.Dx.Frame
public import proofs.«01_k».proof.Proof.Gen.DxIdeal
public import proofs.«01_k».proof.Proof.Gen.DxIdeal.Skeleton
public import proofs.«01_k».proof.Proof.Gen.DxIdeal.Launch
public import proofs.«01_k».proof.Proof.Gen.DxIdeal.Points
public import proofs.«01_k».proof.Proof.Gen.DxIdeal.Frame
public import proofs.«01_k».proof.Proof.Gen.DxRefIdeal
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Pre_finite
public import proofs.«01_k».proof.Proof.Gen.Pre_finite_dx
public import proofs.«01_k».proof.Proof.Gen.Pre_finite_attn
public import proofs.«01_k».proof.Proof.Gen.DwIdeal.Value
public import proofs.«01_k».proof.Proof.Gen.DxIdeal.Value
public import proofs.«01_k».proof.Proof.Gen.AttnIdeal.Value
public import proofs.«01_k».proof.Proof.Gen.ReferenceIdeal.Run
public import proofs.«01_k».proof.Proof.Gen.DwRefIdeal.Run
public import proofs.«01_k».proof.Proof.Gen.DxRefIdeal.Run
public import proofs.«01_k».proof.Proof.Gen.AttnRefIdeal.Run
public import proofs.«01_k».proof.Proof.ActClaim
public import proofs.«01_k».proof.Proof.DwClaim
public import proofs.«01_k».proof.Proof.DxClaim
public import proofs.«01_k».proof.Proof.AttnClaim
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MixIn
public import proofs.«01_k».proof.Proof.Gen.MixIn.Skeleton
public import proofs.«01_k».proof.Proof.Gen.MixIn.Launch
public import proofs.«01_k».proof.Proof.Gen.MixIn.Points
public import proofs.«01_k».proof.Proof.Gen.MixIn.Frame
public import proofs.«01_k».proof.Proof.Gen.MixInIdeal
public import proofs.«01_k».proof.Proof.Gen.MixInIdeal.Skeleton
public import proofs.«01_k».proof.Proof.Gen.MixInIdeal.Launch
public import proofs.«01_k».proof.Proof.Gen.MixInIdeal.Points
public import proofs.«01_k».proof.Proof.Gen.MixInIdeal.Frame
public import proofs.«01_k».proof.Proof.Gen.MixInIdeal.Value
public import proofs.«01_k».proof.Proof.Gen.MixInRefIdeal
public import proofs.«01_k».proof.Proof.Gen.MixInRefIdeal.Run
public import proofs.«01_k».proof.Proof.Gen.Pre_finite_mix
public import proofs.«01_k».proof.Proof.Gen.MixW
public import proofs.«01_k».proof.Proof.Gen.MixW.Skeleton
public import proofs.«01_k».proof.Proof.Gen.MixW.Launch
public import proofs.«01_k».proof.Proof.Gen.MixW.Points
public import proofs.«01_k».proof.Proof.Gen.MixW.Frame
public import proofs.«01_k».proof.Proof.Gen.MixWIdeal
public import proofs.«01_k».proof.Proof.Gen.MixWIdeal.Skeleton
public import proofs.«01_k».proof.Proof.Gen.MixWIdeal.Launch
public import proofs.«01_k».proof.Proof.Gen.MixWIdeal.Points
public import proofs.«01_k».proof.Proof.Gen.MixWIdeal.Frame
public import proofs.«01_k».proof.Proof.Gen.MixWIdeal.Value
public import proofs.«01_k».proof.Proof.Gen.MixWRefIdeal
public import proofs.«01_k».proof.Proof.Gen.MixWRefIdeal.Run
public import proofs.«01_k».proof.Proof.Gen.SqW
public import proofs.«01_k».proof.Proof.Gen.SqW.Skeleton
public import proofs.«01_k».proof.Proof.Gen.SqW.Launch
public import proofs.«01_k».proof.Proof.Gen.SqW.Points
public import proofs.«01_k».proof.Proof.Gen.SqW.Frame
public import proofs.«01_k».proof.Proof.Gen.SqWIdeal
public import proofs.«01_k».proof.Proof.Gen.SqWIdeal.Skeleton
public import proofs.«01_k».proof.Proof.Gen.SqWIdeal.Launch
public import proofs.«01_k».proof.Proof.Gen.SqWIdeal.Points
public import proofs.«01_k».proof.Proof.Gen.SqWIdeal.Frame
public import proofs.«01_k».proof.Proof.Gen.SqWIdeal.Value
public import proofs.«01_k».proof.Proof.Gen.SqWRefIdeal
public import proofs.«01_k».proof.Proof.Gen.SqWRefIdeal.Run
public import proofs.«01_k».proof.Proof.Gen.SqX
public import proofs.«01_k».proof.Proof.Gen.SqX.Skeleton
public import proofs.«01_k».proof.Proof.Gen.SqX.Launch
public import proofs.«01_k».proof.Proof.Gen.SqX.Points
public import proofs.«01_k».proof.Proof.Gen.SqX.Frame
public import proofs.«01_k».proof.Proof.Gen.SqXIdeal
public import proofs.«01_k».proof.Proof.Gen.SqXIdeal.Skeleton
public import proofs.«01_k».proof.Proof.Gen.SqXIdeal.Launch
public import proofs.«01_k».proof.Proof.Gen.SqXIdeal.Points
public import proofs.«01_k».proof.Proof.Gen.SqXIdeal.Frame
public import proofs.«01_k».proof.Proof.Gen.SqXIdeal.Value
public import proofs.«01_k».proof.Proof.Gen.SqXRefIdeal
public import proofs.«01_k».proof.Proof.Gen.SqXRefIdeal.Run
public import proofs.«01_k».proof.Proof.Gen.Query
public import proofs.«01_k».proof.Proof.Gen.Query.Skeleton
public import proofs.«01_k».proof.Proof.Gen.Query.Launch
public import proofs.«01_k».proof.Proof.Gen.Query.Points
public import proofs.«01_k».proof.Proof.Gen.Query.Frame
public import proofs.«01_k».proof.Proof.Gen.QueryIdeal
public import proofs.«01_k».proof.Proof.Gen.QueryIdeal.Skeleton
public import proofs.«01_k».proof.Proof.Gen.QueryIdeal.Launch
public import proofs.«01_k».proof.Proof.Gen.QueryIdeal.Points
public import proofs.«01_k».proof.Proof.Gen.QueryIdeal.Frame
public import proofs.«01_k».proof.Proof.Gen.QueryIdeal.Value
public import proofs.«01_k».proof.Proof.Gen.QueryRefIdeal
public import proofs.«01_k».proof.Proof.Gen.QueryRefIdeal.Run
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.QueryDx
public import proofs.«01_k».proof.Proof.Gen.QueryDx.Skeleton
public import proofs.«01_k».proof.Proof.Gen.QueryDx.Launch
public import proofs.«01_k».proof.Proof.Gen.QueryDx.Points
public import proofs.«01_k».proof.Proof.Gen.QueryDx.Frame
public import proofs.«01_k».proof.Proof.Gen.QueryDxIdeal
public import proofs.«01_k».proof.Proof.Gen.QueryDxIdeal.Skeleton
public import proofs.«01_k».proof.Proof.Gen.QueryDxIdeal.Launch
public import proofs.«01_k».proof.Proof.Gen.QueryDxIdeal.Points
public import proofs.«01_k».proof.Proof.Gen.QueryDxIdeal.Frame
public import proofs.«01_k».proof.Proof.Gen.QueryDxIdeal.Value
public import proofs.«01_k».proof.Proof.Gen.QueryDxRefIdeal
public import proofs.«01_k».proof.Proof.Gen.QueryDxRefIdeal.Run
public import proofs.«01_k».proof.Proof.Gen.Pre_finite_qdx
public import proofs.«01_k».proof.Proof.Gen.MergeW
public import proofs.«01_k».proof.Proof.Gen.MergeW.Skeleton
public import proofs.«01_k».proof.Proof.Gen.MergeW.Launch
public import proofs.«01_k».proof.Proof.Gen.MergeW.Points
public import proofs.«01_k».proof.Proof.Gen.MergeW.Frame
public import proofs.«01_k».proof.Proof.Gen.MergeWIdeal
public import proofs.«01_k».proof.Proof.Gen.MergeWIdeal.Skeleton
public import proofs.«01_k».proof.Proof.Gen.MergeWIdeal.Launch
public import proofs.«01_k».proof.Proof.Gen.MergeWIdeal.Points
public import proofs.«01_k».proof.Proof.Gen.MergeWIdeal.Frame
public import proofs.«01_k».proof.Proof.Gen.MergeWIdeal.Value
public import proofs.«01_k».proof.Proof.Gen.MergeWRefIdeal
public import proofs.«01_k».proof.Proof.Gen.MergeWRefIdeal.Run
public import proofs.«01_k».proof.Proof.Gen.MergeF
public import proofs.«01_k».proof.Proof.Gen.MergeF.Skeleton
public import proofs.«01_k».proof.Proof.Gen.MergeF.Launch
public import proofs.«01_k».proof.Proof.Gen.MergeF.Points
public import proofs.«01_k».proof.Proof.Gen.MergeF.Frame
public import proofs.«01_k».proof.Proof.Gen.MergeFIdeal
public import proofs.«01_k».proof.Proof.Gen.MergeFIdeal.Skeleton
public import proofs.«01_k».proof.Proof.Gen.MergeFIdeal.Launch
public import proofs.«01_k».proof.Proof.Gen.MergeFIdeal.Points
public import proofs.«01_k».proof.Proof.Gen.MergeFIdeal.Frame
public import proofs.«01_k».proof.Proof.Gen.MergeFIdeal.Value
public import proofs.«01_k».proof.Proof.Gen.MergeFRefIdeal
public import proofs.«01_k».proof.Proof.Gen.MergeFRefIdeal.Run
public import proofs.«01_k».proof.Proof.ProductClaims
public import proofs.«01_k».proof.Proof.NormClaims
public import proofs.«01_k».proof.Proof.MergeClaims
public import proofs.«01_k».proof.Proof.Gen.Head
public import proofs.«01_k».proof.Proof.Gen.Head.Skeleton
public import proofs.«01_k».proof.Proof.Gen.Head.Launch
public import proofs.«01_k».proof.Proof.Gen.Head.Points
public import proofs.«01_k».proof.Proof.Gen.Head.Frame
public import proofs.«01_k».proof.Proof.Gen.HeadIdeal
public import proofs.«01_k».proof.Proof.Gen.HeadIdeal.Skeleton
public import proofs.«01_k».proof.Proof.Gen.HeadIdeal.Launch
public import proofs.«01_k».proof.Proof.Gen.HeadIdeal.Points
public import proofs.«01_k».proof.Proof.Gen.HeadIdeal.Frame
public import proofs.«01_k».proof.Proof.Gen.HeadIdeal.Value
public import proofs.«01_k».proof.Proof.Gen.HeadRefIdeal
public import proofs.«01_k».proof.Proof.Gen.HeadRefIdeal.Run
public import proofs.«01_k».proof.Proof.Gen.Pre_finite_head
public import proofs.«01_k».proof.Proof.Gen.AttnF
public import proofs.«01_k».proof.Proof.Gen.AttnF.Skeleton
public import proofs.«01_k».proof.Proof.Gen.AttnF.Launch
public import proofs.«01_k».proof.Proof.Gen.AttnF.Points
public import proofs.«01_k».proof.Proof.Gen.AttnF.Frame
public import proofs.«01_k».proof.Proof.Gen.AttnFIdeal
public import proofs.«01_k».proof.Proof.Gen.AttnFIdeal.Skeleton
public import proofs.«01_k».proof.Proof.Gen.AttnFIdeal.Launch
public import proofs.«01_k».proof.Proof.Gen.AttnFIdeal.Points
public import proofs.«01_k».proof.Proof.Gen.AttnFIdeal.Frame
public import proofs.«01_k».proof.Proof.Gen.AttnFIdeal.Value
public import proofs.«01_k».proof.Proof.Gen.AttnFRefIdeal
public import proofs.«01_k».proof.Proof.Gen.AttnFRefIdeal.Run
public import proofs.«01_k».proof.Proof.Gen.ParamF
public import proofs.«01_k».proof.Proof.Gen.ParamF.Skeleton
public import proofs.«01_k».proof.Proof.Gen.ParamF.Launch
public import proofs.«01_k».proof.Proof.Gen.ParamF.Points
public import proofs.«01_k».proof.Proof.Gen.ParamF.Frame
public import proofs.«01_k».proof.Proof.Gen.ParamFIdeal
public import proofs.«01_k».proof.Proof.Gen.ParamFIdeal.Skeleton
public import proofs.«01_k».proof.Proof.Gen.ParamFIdeal.Launch
public import proofs.«01_k».proof.Proof.Gen.ParamFIdeal.Points
public import proofs.«01_k».proof.Proof.Gen.ParamFIdeal.Frame
public import proofs.«01_k».proof.Proof.Gen.ParamFIdeal.Value
public import proofs.«01_k».proof.Proof.Gen.ParamFRefIdeal
public import proofs.«01_k».proof.Proof.Gen.ParamFRefIdeal.Run
public import proofs.«01_k».proof.Proof.Gen.ParamB
public import proofs.«01_k».proof.Proof.Gen.ParamB.Skeleton
public import proofs.«01_k».proof.Proof.Gen.ParamB.Launch
public import proofs.«01_k».proof.Proof.Gen.ParamB.Points
public import proofs.«01_k».proof.Proof.Gen.ParamB.Frame
public import proofs.«01_k».proof.Proof.Gen.ParamBIdeal
public import proofs.«01_k».proof.Proof.Gen.ParamBIdeal.Skeleton
public import proofs.«01_k».proof.Proof.Gen.ParamBIdeal.Launch
public import proofs.«01_k».proof.Proof.Gen.ParamBIdeal.Points
public import proofs.«01_k».proof.Proof.Gen.ParamBIdeal.Frame
public import proofs.«01_k».proof.Proof.Gen.ParamBIdeal.Value
public import proofs.«01_k».proof.Proof.Gen.ParamBRefIdeal
public import proofs.«01_k».proof.Proof.Gen.ParamBRefIdeal.Run
public import proofs.«01_k».proof.Proof.Gen.Skip
public import proofs.«01_k».proof.Proof.Gen.Skip.Skeleton
public import proofs.«01_k».proof.Proof.Gen.Skip.Launch
public import proofs.«01_k».proof.Proof.Gen.Skip.Points
public import proofs.«01_k».proof.Proof.Gen.Skip.Frame
public import proofs.«01_k».proof.Proof.Gen.SkipIdeal
public import proofs.«01_k».proof.Proof.Gen.SkipIdeal.Skeleton
public import proofs.«01_k».proof.Proof.Gen.SkipIdeal.Launch
public import proofs.«01_k».proof.Proof.Gen.SkipIdeal.Points
public import proofs.«01_k».proof.Proof.Gen.SkipIdeal.Frame
public import proofs.«01_k».proof.Proof.Gen.SkipIdeal.Value
public import proofs.«01_k».proof.Proof.Gen.SkipRefIdeal
public import proofs.«01_k».proof.Proof.Gen.SkipRefIdeal.Run
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamIdeal.Value
public import proofs.«01_k».proof.Proof.Gen.AdamRefIdeal
public import proofs.«01_k».proof.Proof.Gen.AdamRefIdeal.Run
public import proofs.«01_k».proof.Proof.Gen.AdamSq
public import proofs.«01_k».proof.Proof.Gen.AdamSq.Skeleton
public import proofs.«01_k».proof.Proof.Gen.AdamSq.Launch
public import proofs.«01_k».proof.Proof.Gen.AdamSq.Points
public import proofs.«01_k».proof.Proof.Gen.AdamSq.Frame
public import proofs.«01_k».proof.Proof.Gen.AdamSqIdeal
public import proofs.«01_k».proof.Proof.Gen.AdamSqIdeal.Skeleton
public import proofs.«01_k».proof.Proof.Gen.AdamSqIdeal.Launch
public import proofs.«01_k».proof.Proof.Gen.AdamSqIdeal.Points
public import proofs.«01_k».proof.Proof.Gen.AdamSqIdeal.Frame
public import proofs.«01_k».proof.Proof.Gen.AdamSqIdeal.Value
public import proofs.«01_k».proof.Proof.Gen.AdamSqRefIdeal
public import proofs.«01_k».proof.Proof.Gen.AdamSqRefIdeal.Run
public import proofs.«01_k».proof.Proof.Gen.AdamKv
public import proofs.«01_k».proof.Proof.Gen.AdamKv.Skeleton
public import proofs.«01_k».proof.Proof.Gen.AdamKv.Launch
public import proofs.«01_k».proof.Proof.Gen.AdamKv.Points
public import proofs.«01_k».proof.Proof.Gen.AdamKv.Frame
public import proofs.«01_k».proof.Proof.Gen.AdamKvIdeal
public import proofs.«01_k».proof.Proof.Gen.AdamKvIdeal.Skeleton
public import proofs.«01_k».proof.Proof.Gen.AdamKvIdeal.Launch
public import proofs.«01_k».proof.Proof.Gen.AdamKvIdeal.Points
public import proofs.«01_k».proof.Proof.Gen.AdamKvIdeal.Frame
public import proofs.«01_k».proof.Proof.Gen.AdamKvIdeal.Value
public import proofs.«01_k».proof.Proof.Gen.AdamKvRefIdeal
public import proofs.«01_k».proof.Proof.Gen.AdamKvRefIdeal.Run
public import proofs.«01_k».proof.Proof.Gen.AdamP
public import proofs.«01_k».proof.Proof.Gen.AdamP.Skeleton
public import proofs.«01_k».proof.Proof.Gen.AdamP.Launch
public import proofs.«01_k».proof.Proof.Gen.AdamP.Points
public import proofs.«01_k».proof.Proof.Gen.AdamP.Frame
public import proofs.«01_k».proof.Proof.Gen.AdamPIdeal
public import proofs.«01_k».proof.Proof.Gen.AdamPIdeal.Skeleton
public import proofs.«01_k».proof.Proof.Gen.AdamPIdeal.Launch
public import proofs.«01_k».proof.Proof.Gen.AdamPIdeal.Points
public import proofs.«01_k».proof.Proof.Gen.AdamPIdeal.Frame
public import proofs.«01_k».proof.Proof.Gen.AdamPIdeal.Value
public import proofs.«01_k».proof.Proof.Gen.AdamPRefIdeal
public import proofs.«01_k».proof.Proof.Gen.AdamPRefIdeal.Run
public import proofs.«01_k».proof.Proof.Gen.AdamV
public import proofs.«01_k».proof.Proof.Gen.AdamV.Skeleton
public import proofs.«01_k».proof.Proof.Gen.AdamV.Launch
public import proofs.«01_k».proof.Proof.Gen.AdamV.Points
public import proofs.«01_k».proof.Proof.Gen.AdamV.Frame
public import proofs.«01_k».proof.Proof.Gen.AdamVIdeal
public import proofs.«01_k».proof.Proof.Gen.AdamVIdeal.Skeleton
public import proofs.«01_k».proof.Proof.Gen.AdamVIdeal.Launch
public import proofs.«01_k».proof.Proof.Gen.AdamVIdeal.Points
public import proofs.«01_k».proof.Proof.Gen.AdamVIdeal.Frame
public import proofs.«01_k».proof.Proof.Gen.AdamVIdeal.Value
public import proofs.«01_k».proof.Proof.Gen.AdamVRefIdeal
public import proofs.«01_k».proof.Proof.Gen.AdamVRefIdeal.Run
public import proofs.«01_k».proof.Proof.Gen.AdamG
public import proofs.«01_k».proof.Proof.Gen.AdamG.Skeleton
public import proofs.«01_k».proof.Proof.Gen.AdamG.Launch
public import proofs.«01_k».proof.Proof.Gen.AdamG.Points
public import proofs.«01_k».proof.Proof.Gen.AdamG.Frame
public import proofs.«01_k».proof.Proof.Gen.AdamGIdeal
public import proofs.«01_k».proof.Proof.Gen.AdamGIdeal.Skeleton
public import proofs.«01_k».proof.Proof.Gen.AdamGIdeal.Launch
public import proofs.«01_k».proof.Proof.Gen.AdamGIdeal.Points
public import proofs.«01_k».proof.Proof.Gen.AdamGIdeal.Frame
public import proofs.«01_k».proof.Proof.Gen.AdamGIdeal.Value
public import proofs.«01_k».proof.Proof.Gen.AdamGRefIdeal
public import proofs.«01_k».proof.Proof.Gen.AdamGRefIdeal.Run
public import proofs.«01_k».proof.Proof.Gen.MixDx
public import proofs.«01_k».proof.Proof.Gen.MixDx.Skeleton
public import proofs.«01_k».proof.Proof.Gen.MixDx.Launch
public import proofs.«01_k».proof.Proof.Gen.MixDx.Points
public import proofs.«01_k».proof.Proof.Gen.MixDx.Frame
public import proofs.«01_k».proof.Proof.Gen.MixDxIdeal
public import proofs.«01_k».proof.Proof.Gen.MixDxIdeal.Skeleton
public import proofs.«01_k».proof.Proof.Gen.MixDxIdeal.Launch
public import proofs.«01_k».proof.Proof.Gen.MixDxIdeal.Points
public import proofs.«01_k».proof.Proof.Gen.MixDxIdeal.Frame
public import proofs.«01_k».proof.Proof.Gen.MixDxIdeal.Value
public import proofs.«01_k».proof.Proof.Gen.MixDxRefIdeal
public import proofs.«01_k».proof.Proof.Gen.MixDxRefIdeal.Run
public import proofs.«01_k».proof.Proof.Gen.Pre_finite_mixdx
public import proofs.«01_k».proof.Proof.Gen.Combine
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.CombineRefIdeal
public import proofs.«01_k».proof.Proof.Gen.CombineRefIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvIdeal.Value
public import proofs.«01_k».proof.Proof.Gen.KvRefIdeal
public import proofs.«01_k».proof.Proof.Gen.KvRefIdeal.Run
public import proofs.«01_k».proof.Proof.Gen.KvDw
public import proofs.«01_k».proof.Proof.Gen.KvDw.Skeleton
public import proofs.«01_k».proof.Proof.Gen.KvDw.Launch
public import proofs.«01_k».proof.Proof.Gen.KvDw.Points
public import proofs.«01_k».proof.Proof.Gen.KvDw.Frame
public import proofs.«01_k».proof.Proof.Gen.KvDwIdeal
public import proofs.«01_k».proof.Proof.Gen.KvDwIdeal.Skeleton
public import proofs.«01_k».proof.Proof.Gen.KvDwIdeal.Launch
public import proofs.«01_k».proof.Proof.Gen.KvDwIdeal.Points
public import proofs.«01_k».proof.Proof.Gen.KvDwIdeal.Frame
public import proofs.«01_k».proof.Proof.Gen.KvDwIdeal.Value
public import proofs.«01_k».proof.Proof.Gen.KvDwRefIdeal
public import proofs.«01_k».proof.Proof.Gen.KvDwRefIdeal.Run
public import proofs.«01_k».proof.Proof.Gen.KvDx
public import proofs.«01_k».proof.Proof.Gen.KvDx.Skeleton
public import proofs.«01_k».proof.Proof.Gen.KvDx.Launch
public import proofs.«01_k».proof.Proof.Gen.KvDx.Points
public import proofs.«01_k».proof.Proof.Gen.KvDx.Frame
public import proofs.«01_k».proof.Proof.Gen.KvDxIdeal
public import proofs.«01_k».proof.Proof.Gen.KvDxIdeal.Skeleton
public import proofs.«01_k».proof.Proof.Gen.KvDxIdeal.Launch
public import proofs.«01_k».proof.Proof.Gen.KvDxIdeal.Points
public import proofs.«01_k».proof.Proof.Gen.KvDxIdeal.Frame
public import proofs.«01_k».proof.Proof.Gen.KvDxIdeal.Value
public import proofs.«01_k».proof.Proof.Gen.KvDxRefIdeal
public import proofs.«01_k».proof.Proof.Gen.KvDxRefIdeal.Run
public import proofs.«01_k».proof.Proof.Gen.MemN
public import proofs.«01_k».proof.Proof.Gen.MemN.Skeleton
public import proofs.«01_k».proof.Proof.Gen.MemN.Launch
public import proofs.«01_k».proof.Proof.Gen.MemN.Points
public import proofs.«01_k».proof.Proof.Gen.MemN.Frame
public import proofs.«01_k».proof.Proof.Gen.MemNIdeal
public import proofs.«01_k».proof.Proof.Gen.MemNIdeal.Skeleton
public import proofs.«01_k».proof.Proof.Gen.MemNIdeal.Launch
public import proofs.«01_k».proof.Proof.Gen.MemNIdeal.Points
public import proofs.«01_k».proof.Proof.Gen.MemNIdeal.Frame
public import proofs.«01_k».proof.Proof.Gen.MemNIdeal.Value
public import proofs.«01_k».proof.Proof.Gen.MemNRefIdeal
public import proofs.«01_k».proof.Proof.Gen.MemNRefIdeal.Run
public import proofs.«01_k».proof.Proof.Gen.MemNB
public import proofs.«01_k».proof.Proof.Gen.MemNB.Skeleton
public import proofs.«01_k».proof.Proof.Gen.MemNB.Launch
public import proofs.«01_k».proof.Proof.Gen.MemNB.Points
public import proofs.«01_k».proof.Proof.Gen.MemNB.Frame
public import proofs.«01_k».proof.Proof.Gen.MemNBIdeal
public import proofs.«01_k».proof.Proof.Gen.MemNBIdeal.Skeleton
public import proofs.«01_k».proof.Proof.Gen.MemNBIdeal.Launch
public import proofs.«01_k».proof.Proof.Gen.MemNBIdeal.Points
public import proofs.«01_k».proof.Proof.Gen.MemNBIdeal.Frame
public import proofs.«01_k».proof.Proof.Gen.MemNBIdeal.Value
public import proofs.«01_k».proof.Proof.Gen.MemNBRefIdeal
public import proofs.«01_k».proof.Proof.Gen.MemNBRefIdeal.Run
public import proofs.«01_k».proof.Proof.Gen.Pre_finite_memn
public import proofs.«01_k».proof.Proof.Gen.SmallSum
public import proofs.«01_k».proof.Proof.Gen.SmallSum.Skeleton
public import proofs.«01_k».proof.Proof.Gen.SmallSum.Launch
public import proofs.«01_k».proof.Proof.Gen.SmallSum.Points
public import proofs.«01_k».proof.Proof.Gen.SmallSum.Frame
public import proofs.«01_k».proof.Proof.Gen.SmallSumIdeal
public import proofs.«01_k».proof.Proof.Gen.SmallSumIdeal.Skeleton
public import proofs.«01_k».proof.Proof.Gen.SmallSumIdeal.Launch
public import proofs.«01_k».proof.Proof.Gen.SmallSumIdeal.Points
public import proofs.«01_k».proof.Proof.Gen.SmallSumIdeal.Frame
public import proofs.«01_k».proof.Proof.Gen.SmallSumIdeal.Value
public import proofs.«01_k».proof.Proof.Gen.SmallSumRefIdeal
public import proofs.«01_k».proof.Proof.Gen.SmallSumRefIdeal.Run
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepIdeal.Value
public import proofs.«01_k».proof.Proof.Gen.PrepRefIdeal
public import proofs.«01_k».proof.Proof.Gen.PrepRefIdeal.Run
public import proofs.«01_k».proof.Proof.HeadClaim
public import proofs.«01_k».proof.Proof.CoeffClaims
public import proofs.«01_k».proof.Proof.SkipClaim
public import proofs.«01_k».proof.Proof.AttnFwdClaim
public import proofs.«01_k».proof.Proof.AdamFfnClaim
public import proofs.«01_k».proof.Proof.AdamSquareClaim
public import proofs.«01_k».proof.Proof.AdamMemClaim
public import proofs.«01_k».proof.Proof.AdamPoolClaim
public import proofs.«01_k».proof.Proof.AdamValClaim
public import proofs.«01_k».proof.Proof.AdamGateClaim
public import proofs.«01_k».proof.Proof.MergeInClaim
public import proofs.«01_k».proof.Proof.ScanMemoryClaims
public import proofs.«01_k».proof.Proof.MemoryInClaim
public import proofs.«01_k».proof.Proof.MemoryNormClaim
public import proofs.«01_k».proof.Proof.MemoryNormGradClaim
public import proofs.«01_k».proof.Proof.DeviceSumClaim
public import proofs.«01_k».proof.Proof.DiscreteClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Dw.Gen.facts, Cert.DwIdeal.Gen.facts, Cert.DwRefIdeal.Gen.facts, Cert.Dx.Gen.facts, Cert.DxIdeal.Gen.facts, Cert.DxRefIdeal.Gen.facts, Cert.Attn.Gen.facts, Cert.AttnIdeal.Gen.facts, Cert.AttnRefIdeal.Gen.facts, Cert.Merge.Gen.facts, Cert.MergeIdeal.Gen.facts, Cert.MergeRefIdeal.Gen.facts, Cert.MixIn.Gen.facts, Cert.MixInIdeal.Gen.facts, Cert.MixInRefIdeal.Gen.facts, Cert.MixW.Gen.facts, Cert.MixWIdeal.Gen.facts, Cert.MixWRefIdeal.Gen.facts, Cert.SqW.Gen.facts, Cert.SqWIdeal.Gen.facts, Cert.SqWRefIdeal.Gen.facts, Cert.SqX.Gen.facts, Cert.SqXIdeal.Gen.facts, Cert.SqXRefIdeal.Gen.facts, Cert.Query.Gen.facts, Cert.QueryIdeal.Gen.facts, Cert.QueryRefIdeal.Gen.facts, Cert.Down.Gen.facts, Cert.DownIdeal.Gen.facts, Cert.DownRefIdeal.Gen.facts, Cert.Proj.Gen.facts, Cert.ProjIdeal.Gen.facts, Cert.ProjRefIdeal.Gen.facts, Cert.Resid.Gen.facts, Cert.ResidIdeal.Gen.facts, Cert.ResidRefIdeal.Gen.facts, Cert.QueryDx.Gen.facts, Cert.QueryDxIdeal.Gen.facts, Cert.QueryDxRefIdeal.Gen.facts, Cert.MergeW.Gen.facts, Cert.MergeWIdeal.Gen.facts, Cert.MergeWRefIdeal.Gen.facts, Cert.MergeF.Gen.facts, Cert.MergeFIdeal.Gen.facts, Cert.MergeFRefIdeal.Gen.facts, Cert.Head.Gen.facts, Cert.HeadIdeal.Gen.facts, Cert.HeadRefIdeal.Gen.facts, Cert.AttnF.Gen.facts, Cert.AttnFIdeal.Gen.facts, Cert.AttnFRefIdeal.Gen.facts, Cert.ParamF.Gen.facts, Cert.ParamFIdeal.Gen.facts, Cert.ParamFRefIdeal.Gen.facts, Cert.ParamB.Gen.facts, Cert.ParamBIdeal.Gen.facts, Cert.ParamBRefIdeal.Gen.facts, Cert.Skip.Gen.facts, Cert.SkipIdeal.Gen.facts, Cert.SkipRefIdeal.Gen.facts, Cert.Adam.Gen.facts, Cert.AdamIdeal.Gen.facts, Cert.AdamRefIdeal.Gen.facts, Cert.AdamSq.Gen.facts, Cert.AdamSqIdeal.Gen.facts, Cert.AdamSqRefIdeal.Gen.facts, Cert.AdamKv.Gen.facts, Cert.AdamKvIdeal.Gen.facts, Cert.AdamKvRefIdeal.Gen.facts, Cert.AdamP.Gen.facts, Cert.AdamPIdeal.Gen.facts, Cert.AdamPRefIdeal.Gen.facts, Cert.AdamV.Gen.facts, Cert.AdamVIdeal.Gen.facts, Cert.AdamVRefIdeal.Gen.facts, Cert.AdamG.Gen.facts, Cert.AdamGIdeal.Gen.facts, Cert.AdamGRefIdeal.Gen.facts, Cert.MixDx.Gen.facts, Cert.MixDxIdeal.Gen.facts, Cert.MixDxRefIdeal.Gen.facts, Cert.Combine.Gen.facts, Cert.CombineIdeal.Gen.facts, Cert.CombineRefIdeal.Gen.facts, Cert.Kv.Gen.facts, Cert.KvIdeal.Gen.facts, Cert.KvRefIdeal.Gen.facts, Cert.KvDw.Gen.facts, Cert.KvDwIdeal.Gen.facts, Cert.KvDwRefIdeal.Gen.facts, Cert.KvDx.Gen.facts, Cert.KvDxIdeal.Gen.facts, Cert.KvDxRefIdeal.Gen.facts, Cert.MemN.Gen.facts, Cert.MemNIdeal.Gen.facts, Cert.MemNRefIdeal.Gen.facts, Cert.MemNB.Gen.facts, Cert.MemNBIdeal.Gen.facts, Cert.MemNBRefIdeal.Gen.facts, Cert.SmallSum.Gen.facts, Cert.SmallSumIdeal.Gen.facts, Cert.SmallSumRefIdeal.Gen.facts, Cert.Prep.Gen.facts, Cert.PrepIdeal.Gen.facts, Cert.PrepRefIdeal.Gen.facts, Cert.Pre_finite.Gen.facts, Cert.Pre_finite_dx.Gen.facts, Cert.Pre_finite_attn.Gen.facts, Cert.Pre_finite_mix.Gen.facts, Cert.Pre_finite_qdx.Gen.facts, Cert.Pre_finite_head.Gen.facts, Cert.Pre_finite_mixdx.Gen.facts, Cert.Pre_finite_memn.Gen.facts,
  fun m ρ _ => Cert.Kernel.Gen.frame m ρ,
  fun m ρ _ => Cert.KernelIdeal.Gen.frame m ρ,
  fun m ρ _ => Cert.KernelIdeal.Gen.frame m ρ,
  fun m ρ _ => (θ_run _ _ _).mono (fun r h => ⟨fun c => (h c).2.2.2.2, sem_eq_zero_of_no_sems rfl r.2⟩) (Cert.ReferenceIdeal.Value.run m ρ),
  fun m ρ _ => (θ_run _ _ _).mono (fun r h => ⟨fun c => (h c).2.2.2.2, sem_eq_zero_of_no_sems rfl r.2⟩) (Cert.ReferenceIdeal.Value.run m ρ),
  fun m ρ _ => Cert.Dw.Gen.frame m ρ,
  fun m ρ _ => Cert.DwIdeal.Gen.frame m ρ,
  fun m ρ _ => (θ_run _ _ _).mono (fun r h => ⟨fun c => (h c).2.2.2, sem_eq_zero_of_no_sems rfl r.2⟩) (Cert.DwRefIdeal.Value.run m ρ),
  fun m ρ _ => Cert.Dx.Gen.frame m ρ,
  fun m ρ _ => Cert.DxIdeal.Gen.frame m ρ,
  fun m ρ _ => Cert.DxIdeal.Gen.frame m ρ,
  fun m ρ _ => (θ_run _ _ _).mono (fun r h => ⟨fun c => (h c).2.2.2, sem_eq_zero_of_no_sems rfl r.2⟩) (Cert.DxRefIdeal.Value.run m ρ),
  fun m ρ _ => (θ_run _ _ _).mono (fun r h => ⟨fun c => (h c).2.2.2, sem_eq_zero_of_no_sems rfl r.2⟩) (Cert.DxRefIdeal.Value.run m ρ),
  fun m ρ _ => Cert.Attn.Gen.frame m ρ,
  fun m ρ _ => Cert.AttnIdeal.Gen.frame m ρ,
  fun m ρ _ => Cert.AttnIdeal.Gen.frame m ρ,
  fun m ρ _ => (θ_run _ _ _).mono (fun r h => ⟨fun c => (h c).2.2, sem_eq_zero_of_no_sems rfl r.2⟩) (Cert.AttnRefIdeal.Value.run m ρ),
  fun m ρ _ => (θ_run _ _ _).mono (fun r h => ⟨fun c => (h c).2.2, sem_eq_zero_of_no_sems rfl r.2⟩) (Cert.AttnRefIdeal.Value.run m ρ),
  fun m ρ _ => Cert.Merge.Gen.frame m ρ,
  fun m ρ _ => Cert.MergeIdeal.Gen.frame m ρ,
  fun m ρ _ => (θ_run _ _ _).mono (fun r h => ⟨fun c => (h c).2.2.2.2.2, sem_eq_zero_of_no_sems rfl r.2⟩) (Cert.MergeRefIdeal.Value.run m ρ),
  fun m ρ _ => Cert.MixIn.Gen.frame m ρ,
  fun m ρ _ => Cert.MixInIdeal.Gen.frame m ρ,
  fun m ρ _ => Cert.MixInIdeal.Gen.frame m ρ,
  fun m ρ _ => (θ_run _ _ _).mono (fun r h => ⟨fun c => (h c).2.2.2, sem_eq_zero_of_no_sems rfl r.2⟩) (Cert.MixInRefIdeal.Value.run m ρ),
  fun m ρ _ => (θ_run _ _ _).mono (fun r h => ⟨fun c => (h c).2.2.2, sem_eq_zero_of_no_sems rfl r.2⟩) (Cert.MixInRefIdeal.Value.run m ρ),
  fun m ρ _ => Cert.MixW.Gen.frame m ρ,
  fun m ρ _ => Cert.MixWIdeal.Gen.frame m ρ,
  fun m ρ _ => (θ_run _ _ _).mono (fun r h => ⟨fun c => (h c).2, sem_eq_zero_of_no_sems rfl r.2⟩) (Cert.MixWRefIdeal.Value.run m ρ),
  fun m ρ _ => Cert.SqW.Gen.frame m ρ,
  fun m ρ _ => Cert.SqWIdeal.Gen.frame m ρ,
  fun m ρ _ => (θ_run _ _ _).mono (fun r h => ⟨fun c => (h c).2, sem_eq_zero_of_no_sems rfl r.2⟩) (Cert.SqWRefIdeal.Value.run m ρ),
  fun m ρ _ => Cert.SqX.Gen.frame m ρ,
  fun m ρ _ => Cert.SqXIdeal.Gen.frame m ρ,
  fun m ρ _ => (θ_run _ _ _).mono (fun r h => ⟨fun c => (h c).2, sem_eq_zero_of_no_sems rfl r.2⟩) (Cert.SqXRefIdeal.Value.run m ρ),
  fun m ρ _ => Cert.Query.Gen.frame m ρ,
  fun m ρ _ => Cert.QueryIdeal.Gen.frame m ρ,
  fun m ρ _ => (θ_run _ _ _).mono (fun r h => ⟨fun c => (h c).2, sem_eq_zero_of_no_sems rfl r.2⟩) (Cert.QueryRefIdeal.Value.run m ρ),
  fun m ρ _ => Cert.Down.Gen.frame m ρ,
  fun m ρ _ => Cert.DownIdeal.Gen.frame m ρ,
  fun m ρ _ => (θ_run _ _ _).mono (fun r h => ⟨fun c => (h c).2.2, sem_eq_zero_of_no_sems rfl r.2⟩) (Cert.DownRefIdeal.Value.run m ρ),
  fun m ρ _ => Cert.Proj.Gen.frame m ρ,
  fun m ρ _ => Cert.ProjIdeal.Gen.frame m ρ,
  fun m ρ _ => (θ_run _ _ _).mono (fun r h => ⟨fun c => (h c).2.2, sem_eq_zero_of_no_sems rfl r.2⟩) (Cert.ProjRefIdeal.Value.run m ρ),
  fun m ρ _ => Cert.Resid.Gen.frame m ρ,
  fun m ρ _ => Cert.ResidIdeal.Gen.frame m ρ,
  fun m ρ _ => (θ_run _ _ _).mono (fun r h => ⟨fun c => (h c).2.2, sem_eq_zero_of_no_sems rfl r.2⟩) (Cert.ResidRefIdeal.Value.run m ρ),
  fun m ρ _ => Cert.QueryDx.Gen.frame m ρ,
  fun m ρ _ => Cert.QueryDxIdeal.Gen.frame m ρ,
  fun m ρ _ => Cert.QueryDxIdeal.Gen.frame m ρ,
  fun m ρ _ => (θ_run _ _ _).mono (fun r h => ⟨fun c => (h c).2.2.2, sem_eq_zero_of_no_sems rfl r.2⟩) (Cert.QueryDxRefIdeal.Value.run m ρ),
  fun m ρ _ => (θ_run _ _ _).mono (fun r h => ⟨fun c => (h c).2.2.2, sem_eq_zero_of_no_sems rfl r.2⟩) (Cert.QueryDxRefIdeal.Value.run m ρ),
  fun m ρ _ => Cert.MergeW.Gen.frame m ρ,
  fun m ρ _ => Cert.MergeWIdeal.Gen.frame m ρ,
  fun m ρ _ => (θ_run _ _ _).mono (fun r h => ⟨fun c => (h c).2, sem_eq_zero_of_no_sems rfl r.2⟩) (Cert.MergeWRefIdeal.Value.run m ρ),
  fun m ρ _ => Cert.MergeF.Gen.frame m ρ,
  fun m ρ _ => Cert.MergeFIdeal.Gen.frame m ρ,
  fun m ρ _ => (θ_run _ _ _).mono (fun r h => ⟨fun c => (h c).2, sem_eq_zero_of_no_sems rfl r.2⟩) (Cert.MergeFRefIdeal.Value.run m ρ),
  fun m ρ _ => Cert.Head.Gen.frame m ρ,
  fun m ρ _ => Cert.HeadIdeal.Gen.frame m ρ,
  fun m ρ _ => Cert.HeadIdeal.Gen.frame m ρ,
  fun m ρ _ => (θ_run _ _ _).mono (fun r h => ⟨fun c => (h c).2.2.2.2, sem_eq_zero_of_no_sems rfl r.2⟩) (Cert.HeadRefIdeal.Value.run m ρ),
  fun m ρ _ => (θ_run _ _ _).mono (fun r h => ⟨fun c => (h c).2.2.2.2, sem_eq_zero_of_no_sems rfl r.2⟩) (Cert.HeadRefIdeal.Value.run m ρ),
  fun m ρ _ => Cert.AttnF.Gen.frame m ρ,
  fun m ρ _ => Cert.AttnFIdeal.Gen.frame m ρ,
  fun m ρ _ => (θ_run _ _ _).mono (fun r h => ⟨fun c => (h c).2, sem_eq_zero_of_no_sems rfl r.2⟩) (Cert.AttnFRefIdeal.Value.run m ρ),
  fun m ρ _ => Cert.ParamF.Gen.frame m ρ,
  fun m ρ _ => Cert.ParamFIdeal.Gen.frame m ρ,
  fun m ρ _ => (θ_run _ _ _).mono (fun r h => ⟨fun c => (h c).2.2.2.2, sem_eq_zero_of_no_sems rfl r.2⟩) (Cert.ParamFRefIdeal.Value.run m ρ),
  fun m ρ _ => Cert.ParamB.Gen.frame m ρ,
  fun m ρ _ => Cert.ParamBIdeal.Gen.frame m ρ,
  fun m ρ _ => (θ_run _ _ _).mono (fun r h => ⟨fun c => (h c).2.2.2.2, sem_eq_zero_of_no_sems rfl r.2⟩) (Cert.ParamBRefIdeal.Value.run m ρ),
  fun m ρ _ => Cert.Skip.Gen.frame m ρ,
  fun m ρ _ => Cert.SkipIdeal.Gen.frame m ρ,
  fun m ρ _ => (θ_run _ _ _).mono (fun r h => ⟨fun c => (h c).2.2, sem_eq_zero_of_no_sems rfl r.2⟩) (Cert.SkipRefIdeal.Value.run m ρ),
  fun m ρ _ => Cert.Adam.Gen.frame m ρ,
  fun m ρ _ => Cert.AdamIdeal.Gen.frame m ρ,
  fun m ρ _ => (θ_run _ _ _).mono (fun r h => ⟨fun c => (h c).2.2.2.2, sem_eq_zero_of_no_sems rfl r.2⟩) (Cert.AdamRefIdeal.Value.run m ρ),
  fun m ρ _ => Cert.AdamSq.Gen.frame m ρ,
  fun m ρ _ => Cert.AdamSqIdeal.Gen.frame m ρ,
  fun m ρ _ => (θ_run _ _ _).mono (fun r h => ⟨fun c => (h c).2.2.2.2, sem_eq_zero_of_no_sems rfl r.2⟩) (Cert.AdamSqRefIdeal.Value.run m ρ),
  fun m ρ _ => Cert.AdamKv.Gen.frame m ρ,
  fun m ρ _ => Cert.AdamKvIdeal.Gen.frame m ρ,
  fun m ρ _ => (θ_run _ _ _).mono (fun r h => ⟨fun c => (h c).2.2.2.2, sem_eq_zero_of_no_sems rfl r.2⟩) (Cert.AdamKvRefIdeal.Value.run m ρ),
  fun m ρ _ => Cert.AdamP.Gen.frame m ρ,
  fun m ρ _ => Cert.AdamPIdeal.Gen.frame m ρ,
  fun m ρ _ => (θ_run _ _ _).mono (fun r h => ⟨fun c => (h c).2.2.2.2, sem_eq_zero_of_no_sems rfl r.2⟩) (Cert.AdamPRefIdeal.Value.run m ρ),
  fun m ρ _ => Cert.AdamV.Gen.frame m ρ,
  fun m ρ _ => Cert.AdamVIdeal.Gen.frame m ρ,
  fun m ρ _ => (θ_run _ _ _).mono (fun r h => ⟨fun c => (h c).2.2.2.2, sem_eq_zero_of_no_sems rfl r.2⟩) (Cert.AdamVRefIdeal.Value.run m ρ),
  fun m ρ _ => Cert.AdamG.Gen.frame m ρ,
  fun m ρ _ => Cert.AdamGIdeal.Gen.frame m ρ,
  fun m ρ _ => (θ_run _ _ _).mono (fun r h => ⟨fun c => (h c).2.2.2.2, sem_eq_zero_of_no_sems rfl r.2⟩) (Cert.AdamGRefIdeal.Value.run m ρ),
  fun m ρ _ => Cert.MixDx.Gen.frame m ρ,
  fun m ρ _ => Cert.MixDxIdeal.Gen.frame m ρ,
  fun m ρ _ => Cert.MixDxIdeal.Gen.frame m ρ,
  fun m ρ _ => (θ_run _ _ _).mono (fun r h => ⟨fun c => (h c).2.2.2, sem_eq_zero_of_no_sems rfl r.2⟩) (Cert.MixDxRefIdeal.Value.run m ρ),
  fun m ρ _ => (θ_run _ _ _).mono (fun r h => ⟨fun c => (h c).2.2.2, sem_eq_zero_of_no_sems rfl r.2⟩) (Cert.MixDxRefIdeal.Value.run m ρ),
  fun m ρ _ => Cert.Combine.Gen.frame m ρ,
  fun m ρ _ => Cert.CombineIdeal.Gen.frame m ρ,
  fun m ρ _ => (θ_run _ _ _).mono (fun r h => ⟨fun c => (h c).2.2, sem_eq_zero_of_no_sems rfl r.2⟩) (Cert.CombineRefIdeal.Value.run m ρ),
  fun m ρ _ => Cert.Kv.Gen.frame m ρ,
  fun m ρ _ => Cert.KvIdeal.Gen.frame m ρ,
  fun m ρ _ => (θ_run _ _ _).mono (fun r h => ⟨fun c => (h c).2, sem_eq_zero_of_no_sems rfl r.2⟩) (Cert.KvRefIdeal.Value.run m ρ),
  fun m ρ _ => Cert.KvDw.Gen.frame m ρ,
  fun m ρ _ => Cert.KvDwIdeal.Gen.frame m ρ,
  fun m ρ _ => (θ_run _ _ _).mono (fun r h => ⟨fun c => (h c).2, sem_eq_zero_of_no_sems rfl r.2⟩) (Cert.KvDwRefIdeal.Value.run m ρ),
  fun m ρ _ => Cert.KvDx.Gen.frame m ρ,
  fun m ρ _ => Cert.KvDxIdeal.Gen.frame m ρ,
  fun m ρ _ => (θ_run _ _ _).mono (fun r h => ⟨fun c => (h c).2, sem_eq_zero_of_no_sems rfl r.2⟩) (Cert.KvDxRefIdeal.Value.run m ρ),
  fun m ρ _ => Cert.MemN.Gen.frame m ρ,
  fun m ρ _ => Cert.MemNIdeal.Gen.frame m ρ,
  fun m ρ _ => (θ_run _ _ _).mono (fun r h => ⟨fun c => (h c).2, sem_eq_zero_of_no_sems rfl r.2⟩) (Cert.MemNRefIdeal.Value.run m ρ),
  fun m ρ _ => Cert.MemNB.Gen.frame m ρ,
  fun m ρ _ => Cert.MemNBIdeal.Gen.frame m ρ,
  fun m ρ _ => Cert.MemNBIdeal.Gen.frame m ρ,
  fun m ρ _ => (θ_run _ _ _).mono (fun r h => ⟨fun c => (h c).2.2.2, sem_eq_zero_of_no_sems rfl r.2⟩) (Cert.MemNBRefIdeal.Value.run m ρ),
  fun m ρ _ => (θ_run _ _ _).mono (fun r h => ⟨fun c => (h c).2.2.2, sem_eq_zero_of_no_sems rfl r.2⟩) (Cert.MemNBRefIdeal.Value.run m ρ),
  fun m ρ _ => Cert.SmallSum.Gen.frame m ρ,
  fun m ρ _ => Cert.SmallSumIdeal.Gen.frame m ρ,
  fun m ρ _ => (θ_run _ _ _).mono (fun r h => ⟨fun c => (h c).2, sem_eq_zero_of_no_sems rfl r.2⟩) (Cert.SmallSumRefIdeal.Value.run m ρ),
  fun m ρ _ => Cert.Prep.Gen.frame m ρ,
  fun m ρ _ => Cert.PrepIdeal.Gen.frame m ρ,
  fun m ρ _ => (θ_run _ _ _).mono (fun r h => ⟨fun c => (h c).2.2.2.2.2.2, sem_eq_zero_of_no_sems rfl r.2⟩) (Cert.PrepRefIdeal.Value.run m ρ),
  trivial,
  Cert.Act.algebraic,
  trivial,
  Cert.DwGrad.algebraic,
  trivial,
  Cert.Dx.algebraic,
  trivial,
  Cert.Attn.algebraic,
  trivial,
  Cert.GateGrad.algebraic,
  trivial,
  Cert.MixNorm.algebraic,
  trivial,
  Cert.MixGrad.algebraic,
  trivial,
  Cert.SquareTN.algebraic,
  trivial,
  Cert.SquareNT.algebraic,
  trivial,
  Cert.SquareNN.algebraic,
  trivial,
  Cert.FfnOut.algebraic,
  trivial,
  Cert.MixInFwd.algebraic,
  trivial,
  Cert.BlockOut.algebraic,
  trivial,
  Cert.QueryNorm.algebraic,
  trivial,
  Cert.GateWeight.algebraic,
  trivial,
  Cert.GateFwd.algebraic,
  trivial,
  Cert.Head.algebraic,
  trivial,
  Cert.AttnFwd.algebraic,
  trivial,
  Cert.CoeffF.algebraic,
  trivial,
  Cert.CoeffB.algebraic,
  trivial,
  Cert.SkipGrad.algebraic,
  trivial,
  Cert.AdamFfn.algebraic,
  trivial,
  Cert.AdamSquare.algebraic,
  trivial,
  Cert.AdamMem.algebraic,
  trivial,
  Cert.AdamPool.algebraic,
  trivial,
  Cert.AdamVal.algebraic,
  trivial,
  Cert.AdamGate.algebraic,
  ⟨IdealRules.named_const.statement _ _ _ _ _ rfl, IdealRules.named_const.statement _ _ _ _ _ rfl⟩,
  Cert.MergeIn.algebraic,
  trivial,
  Cert.ScanOut.algebraic,
  trivial,
  Cert.Memory.algebraic,
  trivial,
  Cert.MemoryGrad.algebraic,
  trivial,
  Cert.MemoryIn.algebraic,
  trivial,
  Cert.MemoryNorm.algebraic,
  trivial,
  Cert.MemoryNormGrad.algebraic,
  trivial,
  Cert.DeviceSum.algebraic,
  trivial,
  Cert.Discrete.algebraic⟩

end Cert.Proof

end
